-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxPlainIdeal (m : (ℓ : Loc Cert.DownDxPlainIdeal.nD Cert.DownDxPlainIdeal.τ Cert.DownDxPlainIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwPlainIdeal (m : (ℓ : Loc Cert.DownDwPlainIdeal.nD Cert.DownDwPlainIdeal.τ Cert.DownDwPlainIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxPlainIdeal (m : (ℓ : Loc Cert.UpDxPlainIdeal.nD Cert.UpDxPlainIdeal.τ Cert.UpDxPlainIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwPlainIdeal (m : (ℓ : Loc Cert.UpDwPlainIdeal.nD Cert.UpDwPlainIdeal.τ Cert.UpDwPlainIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxPlainIdeal (m : (ℓ : Loc Cert.OutDxPlainIdeal.nD Cert.OutDxPlainIdeal.τ Cert.OutDxPlainIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwPlainIdeal (m : (ℓ : Loc Cert.OutDwPlainIdeal.nD Cert.OutDwPlainIdeal.τ Cert.OutDwPlainIdeal.sig) → Buf (Elt Ideal) ℓ) : Prop :=
  True

def Pre_ScDx (m : (ℓ : Loc Cert.ScDx.nD Cert.ScDx.τ Cert.ScDx.sig) → Buf (Elt Bits) ℓ) : Prop :=
  True

def Pre_ScDxIdeal (m : (ℓ : Loc Cert.ScDxIdeal.nD Cert.ScDxIdeal.τ Cert.ScDxIdeal.sig) → Buf (Elt Ideal) ℓ) : Prop :=
  True

def Pre_ScDxPlainIdeal (m : (ℓ : Loc Cert.ScDxPlainIdeal.nD Cert.ScDxPlainIdeal.τ Cert.ScDxPlainIdeal.sig) → Buf (Elt Ideal) ℓ) : Prop :=
  True

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvPlainIdeal (m : (ℓ : Loc Cert.ProjConvPlainIdeal.nD Cert.ProjConvPlainIdeal.τ Cert.ProjConvPlainIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjKPlainIdeal (m : (ℓ : Loc Cert.ProjKPlainIdeal.nD Cert.ProjKPlainIdeal.τ Cert.ProjKPlainIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVPlainIdeal (m : (ℓ : Loc Cert.ProjVPlainIdeal.nD Cert.ProjVPlainIdeal.τ Cert.ProjVPlainIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormPlainIdeal (m : (ℓ : Loc Cert.OutNormPlainIdeal.nD Cert.OutNormPlainIdeal.τ Cert.OutNormPlainIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpPlainIdeal (m : (ℓ : Loc Cert.UpPlainIdeal.nD Cert.UpPlainIdeal.τ Cert.UpPlainIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormPlainIdeal (m : (ℓ : Loc Cert.DownNormPlainIdeal.nD Cert.DownNormPlainIdeal.τ Cert.DownNormPlainIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownPlainIdeal (m : (ℓ : Loc Cert.DownPlainIdeal.nD Cert.DownPlainIdeal.τ Cert.DownPlainIdeal.sig) → Buf (Elt Ideal) ℓ) : Prop :=
  True

def Pre_ProjSc (m : (ℓ : Loc Cert.ProjSc.nD Cert.ProjSc.τ Cert.ProjSc.sig) → Buf (Elt Bits) ℓ) : Prop :=
  True

def Pre_ProjScIdeal (m : (ℓ : Loc Cert.ProjScIdeal.nD Cert.ProjScIdeal.τ Cert.ProjScIdeal.sig) → Buf (Elt Ideal) ℓ) : Prop :=
  True

def Pre_ProjScPlainIdeal (m : (ℓ : Loc Cert.ProjScPlainIdeal.nD Cert.ProjScPlainIdeal.τ Cert.ProjScPlainIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdPlainIdeal (m : (ℓ : Loc Cert.RmsBwdPlainIdeal.nD Cert.RmsBwdPlainIdeal.τ Cert.RmsBwdPlainIdeal.sig) → Buf (Elt Ideal) ℓ) : Prop :=
  True

def Pre_Step0 (m : (ℓ : Loc Cert.Step0.nD Cert.Step0.τ Cert.Step0.sig) → Buf (Elt Bits) ℓ) : Prop :=
  True

def Pre_Step0Ideal (m : (ℓ : Loc Cert.Step0Ideal.nD Cert.Step0Ideal.τ Cert.Step0Ideal.sig) → Buf (Elt Ideal) ℓ) : Prop :=
  True

def Pre_Step0PlainIdeal (m : (ℓ : Loc Cert.Step0PlainIdeal.nD Cert.Step0PlainIdeal.τ Cert.Step0PlainIdeal.sig) → Buf (Elt Ideal) ℓ) : Prop :=
  True

def Pre_Step1 (m : (ℓ : Loc Cert.Step1.nD Cert.Step1.τ Cert.Step1.sig) → Buf (Elt Bits) ℓ) : Prop :=
  True

def Pre_Step1Ideal (m : (ℓ : Loc Cert.Step1Ideal.nD Cert.Step1Ideal.τ Cert.Step1Ideal.sig) → Buf (Elt Ideal) ℓ) : Prop :=
  True

def Pre_Step1PlainIdeal (m : (ℓ : Loc Cert.Step1PlainIdeal.nD Cert.Step1PlainIdeal.τ Cert.Step1PlainIdeal.sig) → Buf (Elt Ideal) ℓ) : Prop :=
  True

def Pre_Step2 (m : (ℓ : Loc Cert.Step2.nD Cert.Step2.τ Cert.Step2.sig) → Buf (Elt Bits) ℓ) : Prop :=
  True

def Pre_Step2Ideal (m : (ℓ : Loc Cert.Step2Ideal.nD Cert.Step2Ideal.τ Cert.Step2Ideal.sig) → Buf (Elt Ideal) ℓ) : Prop :=
  True

def Pre_Step2PlainIdeal (m : (ℓ : Loc Cert.Step2PlainIdeal.nD Cert.Step2PlainIdeal.τ Cert.Step2PlainIdeal.sig) → Buf (Elt Ideal) ℓ) : Prop :=
  True

def Pre_Step3 (m : (ℓ : Loc Cert.Step3.nD Cert.Step3.τ Cert.Step3.sig) → Buf (Elt Bits) ℓ) : Prop :=
  True

def Pre_Step3Ideal (m : (ℓ : Loc Cert.Step3Ideal.nD Cert.Step3Ideal.τ Cert.Step3Ideal.sig) → Buf (Elt Ideal) ℓ) : Prop :=
  True

def Pre_Step3PlainIdeal (m : (ℓ : Loc Cert.Step3PlainIdeal.nD Cert.Step3PlainIdeal.τ Cert.Step3PlainIdeal.sig) → Buf (Elt Ideal) ℓ) : Prop :=
  True

def Pre_StepUp (m : (ℓ : Loc Cert.StepUp.nD Cert.StepUp.τ Cert.StepUp.sig) → Buf (Elt Bits) ℓ) : Prop :=
  True

def Pre_StepUpIdeal (m : (ℓ : Loc Cert.StepUpIdeal.nD Cert.StepUpIdeal.τ Cert.StepUpIdeal.sig) → Buf (Elt Ideal) ℓ) : Prop :=
  True

def Pre_StepUpPlainIdeal (m : (ℓ : Loc Cert.StepUpPlainIdeal.nD Cert.StepUpPlainIdeal.τ Cert.StepUpPlainIdeal.sig) → Buf (Elt Ideal) ℓ) : Prop :=
  True

def Pre_StepDown (m : (ℓ : Loc Cert.StepDown.nD Cert.StepDown.τ Cert.StepDown.sig) → Buf (Elt Bits) ℓ) : Prop :=
  True

def Pre_StepDownIdeal (m : (ℓ : Loc Cert.StepDownIdeal.nD Cert.StepDownIdeal.τ Cert.StepDownIdeal.sig) → Buf (Elt Ideal) ℓ) : Prop :=
  True

def Pre_StepDownPlainIdeal (m : (ℓ : Loc Cert.StepDownPlainIdeal.nD Cert.StepDownPlainIdeal.τ Cert.StepDownPlainIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallPlainIdeal (m : (ℓ : Loc Cert.StepSmallPlainIdeal.nD Cert.StepSmallPlainIdeal.τ Cert.StepSmallPlainIdeal.sig) → Buf (Elt Ideal) ℓ) : Prop :=
  True

def Pre_ShortFwd (m : (ℓ : Loc Cert.ShortFwd.nD Cert.ShortFwd.τ Cert.ShortFwd.sig) → Buf (Elt Bits) ℓ) : Prop :=
  True

def Pre_ShortFwdIdeal (m : (ℓ : Loc Cert.ShortFwdIdeal.nD Cert.ShortFwdIdeal.τ Cert.ShortFwdIdeal.sig) → Buf (Elt Ideal) ℓ) : Prop :=
  True

def Pre_ShortFwdPlainIdeal (m : (ℓ : Loc Cert.ShortFwdPlainIdeal.nD Cert.ShortFwdPlainIdeal.τ Cert.ShortFwdPlainIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadPlainIdeal (m : (ℓ : Loc Cert.LossHeadPlainIdeal.nD Cert.LossHeadPlainIdeal.τ Cert.LossHeadPlainIdeal.sig) → Buf (Elt Ideal) ℓ) : Prop :=
  True

def Pre_SumTop (m : (ℓ : Loc Cert.SumTop.nD Cert.SumTop.τ Cert.SumTop.sig) → Buf (Elt Bits) ℓ) : Prop :=
  True

def Pre_SumTopIdeal (m : (ℓ : Loc Cert.SumTopIdeal.nD Cert.SumTopIdeal.τ Cert.SumTopIdeal.sig) → Buf (Elt Ideal) ℓ) : Prop :=
  True

def Pre_SumTopPlainIdeal (m : (ℓ : Loc Cert.SumTopPlainIdeal.nD Cert.SumTopPlainIdeal.τ Cert.SumTopPlainIdeal.sig) → Buf (Elt Ideal) ℓ) : Prop :=
  True

def Pre_SumBottom (m : (ℓ : Loc Cert.SumBottom.nD Cert.SumBottom.τ Cert.SumBottom.sig) → Buf (Elt Bits) ℓ) : Prop :=
  True

def Pre_SumBottomIdeal (m : (ℓ : Loc Cert.SumBottomIdeal.nD Cert.SumBottomIdeal.τ Cert.SumBottomIdeal.sig) → Buf (Elt Ideal) ℓ) : Prop :=
  True

def Pre_SumBottomPlainIdeal (m : (ℓ : Loc Cert.SumBottomPlainIdeal.nD Cert.SumBottomPlainIdeal.τ Cert.SumBottomPlainIdeal.sig) → Buf (Elt Ideal) ℓ) : Prop :=
  True

def Pre_SumRows (m : (ℓ : Loc Cert.SumRows.nD Cert.SumRows.τ Cert.SumRows.sig) → Buf (Elt Bits) ℓ) : Prop :=
  True

def Pre_SumRowsIdeal (m : (ℓ : Loc Cert.SumRowsIdeal.nD Cert.SumRowsIdeal.τ Cert.SumRowsIdeal.sig) → Buf (Elt Ideal) ℓ) : Prop :=
  True

def Pre_SumRowsPlainIdeal (m : (ℓ : Loc Cert.SumRowsPlainIdeal.nD Cert.SumRowsPlainIdeal.τ Cert.SumRowsPlainIdeal.sig) → Buf (Elt Ideal) ℓ) : Prop :=
  True

def Pre_SumCols (m : (ℓ : Loc Cert.SumCols.nD Cert.SumCols.τ Cert.SumCols.sig) → Buf (Elt Bits) ℓ) : Prop :=
  True

def Pre_SumColsIdeal (m : (ℓ : Loc Cert.SumColsIdeal.nD Cert.SumColsIdeal.τ Cert.SumColsIdeal.sig) → Buf (Elt Ideal) ℓ) : Prop :=
  True

def Pre_SumColsPlainIdeal (m : (ℓ : Loc Cert.SumColsPlainIdeal.nD Cert.SumColsPlainIdeal.τ Cert.SumColsPlainIdeal.sig) → Buf (Elt Ideal) ℓ) : Prop :=
  True

def Pre_SumSquare (m : (ℓ : Loc Cert.SumSquare.nD Cert.SumSquare.τ Cert.SumSquare.sig) → Buf (Elt Bits) ℓ) : Prop :=
  True

def Pre_SumSquareIdeal (m : (ℓ : Loc Cert.SumSquareIdeal.nD Cert.SumSquareIdeal.τ Cert.SumSquareIdeal.sig) → Buf (Elt Ideal) ℓ) : Prop :=
  True

def Pre_SumSquarePlainIdeal (m : (ℓ : Loc Cert.SumSquarePlainIdeal.nD Cert.SumSquarePlainIdeal.τ Cert.SumSquarePlainIdeal.sig) → Buf (Elt Ideal) ℓ) : Prop :=
  True

def Pre_BiasReduce (m : (ℓ : Loc Cert.BiasReduce.nD Cert.BiasReduce.τ Cert.BiasReduce.sig) → Buf (Elt Bits) ℓ) : Prop :=
  True

def Pre_BiasReduceIdeal (m : (ℓ : Loc Cert.BiasReduceIdeal.nD Cert.BiasReduceIdeal.τ Cert.BiasReduceIdeal.sig) → Buf (Elt Ideal) ℓ) : Prop :=
  True

def Pre_BiasReducePlainIdeal (m : (ℓ : Loc Cert.BiasReducePlainIdeal.nD Cert.BiasReducePlainIdeal.τ Cert.BiasReducePlainIdeal.sig) → Buf (Elt Ideal) ℓ) : Prop :=
  True

def Pre_BiasExpand (m : (ℓ : Loc Cert.BiasExpand.nD Cert.BiasExpand.τ Cert.BiasExpand.sig) → Buf (Elt Bits) ℓ) : Prop :=
  True

def Pre_BiasExpandIdeal (m : (ℓ : Loc Cert.BiasExpandIdeal.nD Cert.BiasExpandIdeal.τ Cert.BiasExpandIdeal.sig) → Buf (Elt Ideal) ℓ) : Prop :=
  True

def Pre_BiasExpandPlainIdeal (m : (ℓ : Loc Cert.BiasExpandPlainIdeal.nD Cert.BiasExpandPlainIdeal.τ Cert.BiasExpandPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxPlainIdeal [hDownDxPlainIdeal : Cert.DownDxPlainIdeal.Facts] : Prop :=
  ∀ (m : (ℓ : Loc Cert.DownDxPlainIdeal.nD Cert.DownDxPlainIdeal.τ Cert.DownDxPlainIdeal.sig) → Buf (Elt Ideal) ℓ) (g : Dev Cert.DownDxPlainIdeal.nD → PrngReg), Pre_DownDxPlainIdeal m →
    θ_run (Cert.DownDxPlainIdeal.defs (F := Ideal)) (onTc (τ := Cert.DownDxPlainIdeal.τ) (Cert.DownDxPlainIdeal.main (F := Ideal))) ⟨m, fun _ => 0, g⟩ (fun r => (∀ c : Dev Cert.DownDxPlainIdeal.nD,
      r.2.mem ((c.tc : Thread Cert.DownDxPlainIdeal.nD Cert.DownDxPlainIdeal.τ).loc Cert.DownDxPlainIdeal.main_arg0) = m ((c.tc : Thread Cert.DownDxPlainIdeal.nD Cert.DownDxPlainIdeal.τ).loc Cert.DownDxPlainIdeal.main_arg0)
      ∧ r.2.mem ((c.tc : Thread Cert.DownDxPlainIdeal.nD Cert.DownDxPlainIdeal.τ).loc Cert.DownDxPlainIdeal.main_arg1) = m ((c.tc : Thread Cert.DownDxPlainIdeal.nD Cert.DownDxPlainIdeal.τ).loc Cert.DownDxPlainIdeal.main_arg1)
      ∧ r.2.mem ((c.tc : Thread Cert.DownDxPlainIdeal.nD Cert.DownDxPlainIdeal.τ).loc Cert.DownDxPlainIdeal.main_arg2) = m ((c.tc : Thread Cert.DownDxPlainIdeal.nD Cert.DownDxPlainIdeal.τ).loc Cert.DownDxPlainIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwPlainIdeal [hDownDwPlainIdeal : Cert.DownDwPlainIdeal.Facts] : Prop :=
  ∀ (m : (ℓ : Loc Cert.DownDwPlainIdeal.nD Cert.DownDwPlainIdeal.τ Cert.DownDwPlainIdeal.sig) → Buf (Elt Ideal) ℓ) (g : Dev Cert.DownDwPlainIdeal.nD → PrngReg), Pre_DownDwPlainIdeal m →
    θ_run (Cert.DownDwPlainIdeal.defs (F := Ideal)) (onTc (τ := Cert.DownDwPlainIdeal.τ) (Cert.DownDwPlainIdeal.main (F := Ideal))) ⟨m, fun _ => 0, g⟩ (fun r => (∀ c : Dev Cert.DownDwPlainIdeal.nD,
      r.2.mem ((c.tc : Thread Cert.DownDwPlainIdeal.nD Cert.DownDwPlainIdeal.τ).loc Cert.DownDwPlainIdeal.main_arg0) = m ((c.tc : Thread Cert.DownDwPlainIdeal.nD Cert.DownDwPlainIdeal.τ).loc Cert.DownDwPlainIdeal.main_arg0)
      ∧ r.2.mem ((c.tc : Thread Cert.DownDwPlainIdeal.nD Cert.DownDwPlainIdeal.τ).loc Cert.DownDwPlainIdeal.main_arg1) = m ((c.tc : Thread Cert.DownDwPlainIdeal.nD Cert.DownDwPlainIdeal.τ).loc Cert.DownDwPlainIdeal.main_arg1)
      ∧ r.2.mem ((c.tc : Thread Cert.DownDwPlainIdeal.nD Cert.DownDwPlainIdeal.τ).loc Cert.DownDwPlainIdeal.main_arg2) = m ((c.tc : Thread Cert.DownDwPlainIdeal.nD Cert.DownDwPlainIdeal.τ).loc Cert.DownDwPlainIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxPlainIdeal [hUpDxPlainIdeal : Cert.UpDxPlainIdeal.Facts] : Prop :=
  ∀ (m : (ℓ : Loc Cert.UpDxPlainIdeal.nD Cert.UpDxPlainIdeal.τ Cert.UpDxPlainIdeal.sig) → Buf (Elt Ideal) ℓ) (g : Dev Cert.UpDxPlainIdeal.nD → PrngReg), Pre_UpDxPlainIdeal m →
    θ_run (Cert.UpDxPlainIdeal.defs (F := Ideal)) (onTc (τ := Cert.UpDxPlainIdeal.τ) (Cert.UpDxPlainIdeal.main (F := Ideal))) ⟨m, fun _ => 0, g⟩ (fun r => (∀ c : Dev Cert.UpDxPlainIdeal.nD,
      r.2.mem ((c.tc : Thread Cert.UpDxPlainIdeal.nD Cert.UpDxPlainIdeal.τ).loc Cert.UpDxPlainIdeal.main_arg0) = m ((c.tc : Thread Cert.UpDxPlainIdeal.nD Cert.UpDxPlainIdeal.τ).loc Cert.UpDxPlainIdeal.main_arg0)
      ∧ r.2.mem ((c.tc : Thread Cert.UpDxPlainIdeal.nD Cert.UpDxPlainIdeal.τ).loc Cert.UpDxPlainIdeal.main_arg1) = m ((c.tc : Thread Cert.UpDxPlainIdeal.nD Cert.UpDxPlainIdeal.τ).loc Cert.UpDxPlainIdeal.main_arg1)
      ∧ r.2.mem ((c.tc : Thread Cert.UpDxPlainIdeal.nD Cert.UpDxPlainIdeal.τ).loc Cert.UpDxPlainIdeal.main_arg2) = m ((c.tc : Thread Cert.UpDxPlainIdeal.nD Cert.UpDxPlainIdeal.τ).loc Cert.UpDxPlainIdeal.main_arg2)
      ∧ r.2.mem ((c.tc : Thread Cert.UpDxPlainIdeal.nD Cert.UpDxPlainIdeal.τ).loc Cert.UpDxPlainIdeal.main_arg3) = m ((c.tc : Thread Cert.UpDxPlainIdeal.nD Cert.UpDxPlainIdeal.τ).loc Cert.UpDxPlainIdeal.main_arg3)
      ∧ r.2.mem ((c.tc : Thread Cert.UpDxPlainIdeal.nD Cert.UpDxPlainIdeal.τ).loc Cert.UpDxPlainIdeal.main_arg4) = m ((c.tc : Thread Cert.UpDxPlainIdeal.nD Cert.UpDxPlainIdeal.τ).loc Cert.UpDxPlainIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwPlainIdeal [hUpDwPlainIdeal : Cert.UpDwPlainIdeal.Facts] : Prop :=
  ∀ (m : (ℓ : Loc Cert.UpDwPlainIdeal.nD Cert.UpDwPlainIdeal.τ Cert.UpDwPlainIdeal.sig) → Buf (Elt Ideal) ℓ) (g : Dev Cert.UpDwPlainIdeal.nD → PrngReg), Pre_UpDwPlainIdeal m →
    θ_run (Cert.UpDwPlainIdeal.defs (F := Ideal)) (onTc (τ := Cert.UpDwPlainIdeal.τ) (Cert.UpDwPlainIdeal.main (F := Ideal))) ⟨m, fun _ => 0, g⟩ (fun r => (∀ c : Dev Cert.UpDwPlainIdeal.nD,
      r.2.mem ((c.tc : Thread Cert.UpDwPlainIdeal.nD Cert.UpDwPlainIdeal.τ).loc Cert.UpDwPlainIdeal.main_arg0) = m ((c.tc : Thread Cert.UpDwPlainIdeal.nD Cert.UpDwPlainIdeal.τ).loc Cert.UpDwPlainIdeal.main_arg0)
      ∧ r.2.mem ((c.tc : Thread Cert.UpDwPlainIdeal.nD Cert.UpDwPlainIdeal.τ).loc Cert.UpDwPlainIdeal.main_arg1) = m ((c.tc : Thread Cert.UpDwPlainIdeal.nD Cert.UpDwPlainIdeal.τ).loc Cert.UpDwPlainIdeal.main_arg1)
      ∧ r.2.mem ((c.tc : Thread Cert.UpDwPlainIdeal.nD Cert.UpDwPlainIdeal.τ).loc Cert.UpDwPlainIdeal.main_arg2) = m ((c.tc : Thread Cert.UpDwPlainIdeal.nD Cert.UpDwPlainIdeal.τ).loc Cert.UpDwPlainIdeal.main_arg2)
      ∧ r.2.mem ((c.tc : Thread Cert.UpDwPlainIdeal.nD Cert.UpDwPlainIdeal.τ).loc Cert.UpDwPlainIdeal.main_arg3) = m ((c.tc : Thread Cert.UpDwPlainIdeal.nD Cert.UpDwPlainIdeal.τ).loc Cert.UpDwPlainIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxPlainIdeal [hOutDxPlainIdeal : Cert.OutDxPlainIdeal.Facts] : Prop :=
  ∀ (m : (ℓ : Loc Cert.OutDxPlainIdeal.nD Cert.OutDxPlainIdeal.τ Cert.OutDxPlainIdeal.sig) → Buf (Elt Ideal) ℓ) (g : Dev Cert.OutDxPlainIdeal.nD → PrngReg), Pre_OutDxPlainIdeal m →
    θ_run (Cert.OutDxPlainIdeal.defs (F := Ideal)) (onTc (τ := Cert.OutDxPlainIdeal.τ) (Cert.OutDxPlainIdeal.main (F := Ideal))) ⟨m, fun _ => 0, g⟩ (fun r => (∀ c : Dev Cert.OutDxPlainIdeal.nD,
      r.2.mem ((c.tc : Thread Cert.OutDxPlainIdeal.nD Cert.OutDxPlainIdeal.τ).loc Cert.OutDxPlainIdeal.main_arg0) = m ((c.tc : Thread Cert.OutDxPlainIdeal.nD Cert.OutDxPlainIdeal.τ).loc Cert.OutDxPlainIdeal.main_arg0)
      ∧ r.2.mem ((c.tc : Thread Cert.OutDxPlainIdeal.nD Cert.OutDxPlainIdeal.τ).loc Cert.OutDxPlainIdeal.main_arg1) = m ((c.tc : Thread Cert.OutDxPlainIdeal.nD Cert.OutDxPlainIdeal.τ).loc Cert.OutDxPlainIdeal.main_arg1)
      ∧ r.2.mem ((c.tc : Thread Cert.OutDxPlainIdeal.nD Cert.OutDxPlainIdeal.τ).loc Cert.OutDxPlainIdeal.main_arg2) = m ((c.tc : Thread Cert.OutDxPlainIdeal.nD Cert.OutDxPlainIdeal.τ).loc Cert.OutDxPlainIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwPlainIdeal [hOutDwPlainIdeal : Cert.OutDwPlainIdeal.Facts] : Prop :=
  ∀ (m : (ℓ : Loc Cert.OutDwPlainIdeal.nD Cert.OutDwPlainIdeal.τ Cert.OutDwPlainIdeal.sig) → Buf (Elt Ideal) ℓ) (g : Dev Cert.OutDwPlainIdeal.nD → PrngReg), Pre_OutDwPlainIdeal m →
    θ_run (Cert.OutDwPlainIdeal.defs (F := Ideal)) (onTc (τ := Cert.OutDwPlainIdeal.τ) (Cert.OutDwPlainIdeal.main (F := Ideal))) ⟨m, fun _ => 0, g⟩ (fun r => (∀ c : Dev Cert.OutDwPlainIdeal.nD,
      r.2.mem ((c.tc : Thread Cert.OutDwPlainIdeal.nD Cert.OutDwPlainIdeal.τ).loc Cert.OutDwPlainIdeal.main_arg0) = m ((c.tc : Thread Cert.OutDwPlainIdeal.nD Cert.OutDwPlainIdeal.τ).loc Cert.OutDwPlainIdeal.main_arg0)
      ∧ r.2.mem ((c.tc : Thread Cert.OutDwPlainIdeal.nD Cert.OutDwPlainIdeal.τ).loc Cert.OutDwPlainIdeal.main_arg1) = m ((c.tc : Thread Cert.OutDwPlainIdeal.nD Cert.OutDwPlainIdeal.τ).loc Cert.OutDwPlainIdeal.main_arg1)
      ∧ r.2.mem ((c.tc : Thread Cert.OutDwPlainIdeal.nD Cert.OutDwPlainIdeal.τ).loc Cert.OutDwPlainIdeal.main_arg2) = m ((c.tc : Thread Cert.OutDwPlainIdeal.nD Cert.OutDwPlainIdeal.τ).loc Cert.OutDwPlainIdeal.main_arg2))
      ∧ r.2.sem = fun _ => 0)

def quiescent_ScDx [hScDx : Cert.ScDx.Facts] : Prop :=
  ∀ (m : (ℓ : Loc Cert.ScDx.nD Cert.ScDx.τ Cert.ScDx.sig) → Buf (Elt Bits) ℓ) (g : Dev Cert.ScDx.nD → PrngReg), Pre_ScDx m →
    θ_run (Cert.ScDx.defs (F := Bits)) (onTc (τ := Cert.ScDx.τ) (Cert.ScDx.main (F := Bits))) ⟨m, fun _ => 0, g⟩ (fun r => (∀ c : Dev Cert.ScDx.nD,
      r.2.mem ((c.tc : Thread Cert.ScDx.nD Cert.ScDx.τ).loc Cert.ScDx.main_arg0) = m ((c.tc : Thread Cert.ScDx.nD Cert.ScDx.τ).loc Cert.ScDx.main_arg0)
      ∧ r.2.mem ((c.tc : Thread Cert.ScDx.nD Cert.ScDx.τ).loc Cert.ScDx.main_arg1) = m ((c.tc : Thread Cert.ScDx.nD Cert.ScDx.τ).loc Cert.ScDx.main_arg1)
      ∧ r.2.mem ((c.tc : Thread Cert.ScDx.nD Cert.ScDx.τ).loc Cert.ScDx.main_arg2) = m ((c.tc : Thread Cert.ScDx.nD Cert.ScDx.τ).loc Cert.ScDx.main_arg2)
      ∧ r.2.mem ((c.tc : Thread Cert.ScDx.nD Cert.ScDx.τ).loc Cert.ScDx.main_arg3) = m ((c.tc : Thread Cert.ScDx.nD Cert.ScDx.τ).loc Cert.ScDx.main_arg3)
      ∧ r.2.mem ((c.tc : Thread Cert.ScDx.nD Cert.ScDx.τ).loc Cert.ScDx.main_arg4) = m ((c.tc : Thread Cert.ScDx.nD Cert.ScDx.τ).loc Cert.ScDx.main_arg4))
      ∧ r.2.sem = fun _ => 0)

def quiescent_ScDxIdeal [hScDxIdeal : Cert.ScDxIdeal.Facts] : Prop :=
  ∀ (m : (ℓ : Loc Cert.ScDxIdeal.nD Cert.ScDxIdeal.τ Cert.ScDxIdeal.sig) → Buf (Elt Ideal) ℓ) (g : Dev Cert.ScDxIdeal.nD → PrngReg), Pre_ScDxIdeal m →
    θ_run (Cert.ScDxIdeal.defs (F := Ideal)) (onTc (τ := Cert.ScDxIdeal.τ) (Cert.ScDxIdeal.main (F := Ideal))) ⟨m, fun _ => 0, g⟩ (fun r => (∀ c : Dev Cert.ScDxIdeal.nD,
      r.2.mem ((c.tc : Thread Cert.ScDxIdeal.nD Cert.ScDxIdeal.τ).loc Cert.ScDxIdeal.main_arg0) = m ((c.tc : Thread Cert.ScDxIdeal.nD Cert.ScDxIdeal.τ).loc Cert.ScDxIdeal.main_arg0)
      ∧ r.2.mem ((c.tc : Thread Cert.ScDxIdeal.nD Cert.ScDxIdeal.τ).loc Cert.ScDxIdeal.main_arg1) = m ((c.tc : Thread Cert.ScDxIdeal.nD Cert.ScDxIdeal.τ).loc Cert.ScDxIdeal.main_arg1)
      ∧ r.2.mem ((c.tc : Thread Cert.ScDxIdeal.nD Cert.ScDxIdeal.τ).loc Cert.ScDxIdeal.main_arg2) = m ((c.tc : Thread Cert.ScDxIdeal.nD Cert.ScDxIdeal.τ).loc Cert.ScDxIdeal.main_arg2)
      ∧ r.2.mem ((c.tc : Thread Cert.ScDxIdeal.nD Cert.ScDxIdeal.τ).loc Cert.ScDxIdeal.main_arg3) = m ((c.tc : Thread Cert.ScDxIdeal.nD Cert.ScDxIdeal.τ).loc Cert.ScDxIdeal.main_arg3)
      ∧ r.2.mem ((c.tc : Thread Cert.ScDxIdeal.nD Cert.ScDxIdeal.τ).loc Cert.ScDxIdeal.main_arg4) = m ((c.tc : Thread Cert.ScDxIdeal.nD Cert.ScDxIdeal.τ).loc Cert.ScDxIdeal.main_arg4))
      ∧ r.2.sem = fun _ => 0)

def quiescent_ScDxPlainIdeal [hScDxPlainIdeal : Cert.ScDxPlainIdeal.Facts] : Prop :=
  ∀ (m : (ℓ : Loc Cert.ScDxPlainIdeal.nD Cert.ScDxPlainIdeal.τ Cert.ScDxPlainIdeal.sig) → Buf (Elt Ideal) ℓ) (g : Dev Cert.ScDxPlainIdeal.nD → PrngReg), Pre_ScDxPlainIdeal m →
    θ_run (Cert.ScDxPlainIdeal.defs (F := Ideal)) (onTc (τ := Cert.ScDxPlainIdeal.τ) (Cert.ScDxPlainIdeal.main (F := Ideal))) ⟨m, fun _ => 0, g⟩ (fun r => (∀ c : Dev Cert.ScDxPlainIdeal.nD,
      r.2.mem ((c.tc : Thread Cert.ScDxPlainIdeal.nD Cert.ScDxPlainIdeal.τ).loc Cert.ScDxPlainIdeal.main_arg0) = m ((c.tc : Thread Cert.ScDxPlainIdeal.nD Cert.ScDxPlainIdeal.τ).loc Cert.ScDxPlainIdeal.main_arg0)
      ∧ r.2.mem ((c.tc : Thread Cert.ScDxPlainIdeal.nD Cert.ScDxPlainIdeal.τ).loc Cert.ScDxPlainIdeal.main_arg1) = m ((c.tc : Thread Cert.ScDxPlainIdeal.nD Cert.ScDxPlainIdeal.τ).loc Cert.ScDxPlainIdeal.main_arg1)
      ∧ r.2.mem ((c.tc : Thread Cert.ScDxPlainIdeal.nD Cert.ScDxPlainIdeal.τ).loc Cert.ScDxPlainIdeal.main_arg2) = m ((c.tc : Thread Cert.ScDxPlainIdeal.nD Cert.ScDxPlainIdeal.τ).loc Cert.ScDxPlainIdeal.main_arg2)
      ∧ r.2.mem ((c.tc : Thread Cert.ScDxPlainIdeal.nD Cert.ScDxPlainIdeal.τ).loc Cert.ScDxPlainIdeal.main_arg3) = m ((c.tc : Thread Cert.ScDxPlainIdeal.nD Cert.ScDxPlainIdeal.τ).loc Cert.ScDxPlainIdeal.main_arg3)
      ∧ r.2.mem ((c.tc : Thread Cert.ScDxPlainIdeal.nD Cert.ScDxPlainIdeal.τ).loc Cert.ScDxPlainIdeal.main_arg4) = m ((c.tc : Thread Cert.ScDxPlainIdeal.nD Cert.ScDxPlainIdeal.τ).loc Cert.ScDxPlainIdeal.main_arg4))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1)
      ∧ r.2.mem ((c.tc : Thread Cert.ProjConv.nD Cert.ProjConv.τ).loc Cert.ProjConv.main_arg2) = m ((c.tc : Thread Cert.ProjConv.nD Cert.ProjConv.τ).loc Cert.ProjConv.main_arg2))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
      ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ r.2.sem = fun _ => 0)

def quiescent_ProjConvPlainIdeal [hProjConvPlainIdeal : Cert.ProjConvPlainIdeal.Facts] : Prop :=
  ∀ (m : (ℓ : Loc Cert.ProjConvPlainIdeal.nD Cert.ProjConvPlainIdeal.τ Cert.ProjConvPlainIdeal.sig) → Buf (Elt Ideal) ℓ) (g : Dev Cert.ProjConvPlainIdeal.nD → PrngReg), Pre_ProjConvPlainIdeal m →
    θ_run (Cert.ProjConvPlainIdeal.defs (F := Ideal)) (onTc (τ := Cert.ProjConvPlainIdeal.τ) (Cert.ProjConvPlainIdeal.main (F := Ideal))) ⟨m, fun _ => 0, g⟩ (fun r => (∀ c : Dev Cert.ProjConvPlainIdeal.nD,
      r.2.mem ((c.tc : Thread Cert.ProjConvPlainIdeal.nD Cert.ProjConvPlainIdeal.τ).loc Cert.ProjConvPlainIdeal.main_arg0) = m ((c.tc : Thread Cert.ProjConvPlainIdeal.nD Cert.ProjConvPlainIdeal.τ).loc Cert.ProjConvPlainIdeal.main_arg0)
      ∧ r.2.mem ((c.tc : Thread Cert.ProjConvPlainIdeal.nD Cert.ProjConvPlainIdeal.τ).loc Cert.ProjConvPlainIdeal.main_arg1) = m ((c.tc : Thread Cert.ProjConvPlainIdeal.nD Cert.ProjConvPlainIdeal.τ).loc Cert.ProjConvPlainIdeal.main_arg1)
      ∧ r.2.mem ((c.tc : Thread Cert.ProjConvPlainIdeal.nD Cert.ProjConvPlainIdeal.τ).loc Cert.ProjConvPlainIdeal.main_arg2) = m ((c.tc : Thread Cert.ProjConvPlainIdeal.nD Cert.ProjConvPlainIdeal.τ).loc Cert.ProjConvPlainIdeal.main_arg2))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ r.2.sem = fun _ => 0)

def quiescent_ProjKPlainIdeal [hProjKPlainIdeal : Cert.ProjKPlainIdeal.Facts] : Prop :=
  ∀ (m : (ℓ : Loc Cert.ProjKPlainIdeal.nD Cert.ProjKPlainIdeal.τ Cert.ProjKPlainIdeal.sig) → Buf (Elt Ideal) ℓ) (g : Dev Cert.ProjKPlainIdeal.nD → PrngReg), Pre_ProjKPlainIdeal m →
    θ_run (Cert.ProjKPlainIdeal.defs (F := Ideal)) (onTc (τ := Cert.ProjKPlainIdeal.τ) (Cert.ProjKPlainIdeal.main (F := Ideal))) ⟨m, fun _ => 0, g⟩ (fun r => (∀ c : Dev Cert.ProjKPlainIdeal.nD,
      r.2.mem ((c.tc : Thread Cert.ProjKPlainIdeal.nD Cert.ProjKPlainIdeal.τ).loc Cert.ProjKPlainIdeal.main_arg0) = m ((c.tc : Thread Cert.ProjKPlainIdeal.nD Cert.ProjKPlainIdeal.τ).loc Cert.ProjKPlainIdeal.main_arg0)
      ∧ r.2.mem ((c.tc : Thread Cert.ProjKPlainIdeal.nD Cert.ProjKPlainIdeal.τ).loc Cert.ProjKPlainIdeal.main_arg1) = m ((c.tc : Thread Cert.ProjKPlainIdeal.nD Cert.ProjKPlainIdeal.τ).loc Cert.ProjKPlainIdeal.main_arg1)
      ∧ r.2.mem ((c.tc : Thread Cert.ProjKPlainIdeal.nD Cert.ProjKPlainIdeal.τ).loc Cert.ProjKPlainIdeal.main_arg2) = m ((c.tc : Thread Cert.ProjKPlainIdeal.nD Cert.ProjKPlainIdeal.τ).loc Cert.ProjKPlainIdeal.main_arg2))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1)
      ∧ r.2.mem ((c.tc : Thread Cert.ProjV.nD Cert.ProjV.τ).loc Cert.ProjV.main_arg2) = m ((c.tc : Thread Cert.ProjV.nD Cert.ProjV.τ).loc Cert.ProjV.main_arg2))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
      ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2))
      ∧ r.2.sem = fun _ => 0)

def quiescent_ProjVPlainIdeal [hProjVPlainIdeal : Cert.ProjVPlainIdeal.Facts] : Prop :=
  ∀ (m : (ℓ : Loc Cert.ProjVPlainIdeal.nD Cert.ProjVPlainIdeal.τ Cert.ProjVPlainIdeal.sig) → Buf (Elt Ideal) ℓ) (g : Dev Cert.ProjVPlainIdeal.nD → PrngReg), Pre_ProjVPlainIdeal m →
    θ_run (Cert.ProjVPlainIdeal.defs (F := Ideal)) (onTc (τ := Cert.ProjVPlainIdeal.τ) (Cert.ProjVPlainIdeal.main (F := Ideal))) ⟨m, fun _ => 0, g⟩ (fun r => (∀ c : Dev Cert.ProjVPlainIdeal.nD,
      r.2.mem ((c.tc : Thread Cert.ProjVPlainIdeal.nD Cert.ProjVPlainIdeal.τ).loc Cert.ProjVPlainIdeal.main_arg0) = m ((c.tc : Thread Cert.ProjVPlainIdeal.nD Cert.ProjVPlainIdeal.τ).loc Cert.ProjVPlainIdeal.main_arg0)
      ∧ r.2.mem ((c.tc : Thread Cert.ProjVPlainIdeal.nD Cert.ProjVPlainIdeal.τ).loc Cert.ProjVPlainIdeal.main_arg1) = m ((c.tc : Thread Cert.ProjVPlainIdeal.nD Cert.ProjVPlainIdeal.τ).loc Cert.ProjVPlainIdeal.main_arg1)
      ∧ r.2.mem ((c.tc : Thread Cert.ProjVPlainIdeal.nD Cert.ProjVPlainIdeal.τ).loc Cert.ProjVPlainIdeal.main_arg2) = m ((c.tc : Thread Cert.ProjVPlainIdeal.nD Cert.ProjVPlainIdeal.τ).loc Cert.ProjVPlainIdeal.main_arg2))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormPlainIdeal [hOutNormPlainIdeal : Cert.OutNormPlainIdeal.Facts] : Prop :=
  ∀ (m : (ℓ : Loc Cert.OutNormPlainIdeal.nD Cert.OutNormPlainIdeal.τ Cert.OutNormPlainIdeal.sig) → Buf (Elt Ideal) ℓ) (g : Dev Cert.OutNormPlainIdeal.nD → PrngReg), Pre_OutNormPlainIdeal m →
    θ_run (Cert.OutNormPlainIdeal.defs (F := Ideal)) (onTc (τ := Cert.OutNormPlainIdeal.τ) (Cert.OutNormPlainIdeal.main (F := Ideal))) ⟨m, fun _ => 0, g⟩ (fun r => (∀ c : Dev Cert.OutNormPlainIdeal.nD,
      r.2.mem ((c.tc : Thread Cert.OutNormPlainIdeal.nD Cert.OutNormPlainIdeal.τ).loc Cert.OutNormPlainIdeal.main_arg0) = m ((c.tc : Thread Cert.OutNormPlainIdeal.nD Cert.OutNormPlainIdeal.τ).loc Cert.OutNormPlainIdeal.main_arg0)
      ∧ r.2.mem ((c.tc : Thread Cert.OutNormPlainIdeal.nD Cert.OutNormPlainIdeal.τ).loc Cert.OutNormPlainIdeal.main_arg1) = m ((c.tc : Thread Cert.OutNormPlainIdeal.nD Cert.OutNormPlainIdeal.τ).loc Cert.OutNormPlainIdeal.main_arg1)
      ∧ r.2.mem ((c.tc : Thread Cert.OutNormPlainIdeal.nD Cert.OutNormPlainIdeal.τ).loc Cert.OutNormPlainIdeal.main_arg2) = m ((c.tc : Thread Cert.OutNormPlainIdeal.nD Cert.OutNormPlainIdeal.τ).loc Cert.OutNormPlainIdeal.main_arg2)
      ∧ r.2.mem ((c.tc : Thread Cert.OutNormPlainIdeal.nD Cert.OutNormPlainIdeal.τ).loc Cert.OutNormPlainIdeal.main_arg3) = m ((c.tc : Thread Cert.OutNormPlainIdeal.nD Cert.OutNormPlainIdeal.τ).loc Cert.OutNormPlainIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpPlainIdeal [hUpPlainIdeal : Cert.UpPlainIdeal.Facts] : Prop :=
  ∀ (m : (ℓ : Loc Cert.UpPlainIdeal.nD Cert.UpPlainIdeal.τ Cert.UpPlainIdeal.sig) → Buf (Elt Ideal) ℓ) (g : Dev Cert.UpPlainIdeal.nD → PrngReg), Pre_UpPlainIdeal m →
    θ_run (Cert.UpPlainIdeal.defs (F := Ideal)) (onTc (τ := Cert.UpPlainIdeal.τ) (Cert.UpPlainIdeal.main (F := Ideal))) ⟨m, fun _ => 0, g⟩ (fun r => (∀ c : Dev Cert.UpPlainIdeal.nD,
      r.2.mem ((c.tc : Thread Cert.UpPlainIdeal.nD Cert.UpPlainIdeal.τ).loc Cert.UpPlainIdeal.main_arg0) = m ((c.tc : Thread Cert.UpPlainIdeal.nD Cert.UpPlainIdeal.τ).loc Cert.UpPlainIdeal.main_arg0)
      ∧ r.2.mem ((c.tc : Thread Cert.UpPlainIdeal.nD Cert.UpPlainIdeal.τ).loc Cert.UpPlainIdeal.main_arg1) = m ((c.tc : Thread Cert.UpPlainIdeal.nD Cert.UpPlainIdeal.τ).loc Cert.UpPlainIdeal.main_arg1)
      ∧ r.2.mem ((c.tc : Thread Cert.UpPlainIdeal.nD Cert.UpPlainIdeal.τ).loc Cert.UpPlainIdeal.main_arg2) = m ((c.tc : Thread Cert.UpPlainIdeal.nD Cert.UpPlainIdeal.τ).loc Cert.UpPlainIdeal.main_arg2))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

def quiescent_DownNormPlainIdeal [hDownNormPlainIdeal : Cert.DownNormPlainIdeal.Facts] : Prop :=
  ∀ (m : (ℓ : Loc Cert.DownNormPlainIdeal.nD Cert.DownNormPlainIdeal.τ Cert.DownNormPlainIdeal.sig) → Buf (Elt Ideal) ℓ) (g : Dev Cert.DownNormPlainIdeal.nD → PrngReg), Pre_DownNormPlainIdeal m →
    θ_run (Cert.DownNormPlainIdeal.defs (F := Ideal)) (onTc (τ := Cert.DownNormPlainIdeal.τ) (Cert.DownNormPlainIdeal.main (F := Ideal))) ⟨m, fun _ => 0, g⟩ (fun r => (∀ c : Dev Cert.DownNormPlainIdeal.nD,
      r.2.mem ((c.tc : Thread Cert.DownNormPlainIdeal.nD Cert.DownNormPlainIdeal.τ).loc Cert.DownNormPlainIdeal.main_arg0) = m ((c.tc : Thread Cert.DownNormPlainIdeal.nD Cert.DownNormPlainIdeal.τ).loc Cert.DownNormPlainIdeal.main_arg0)
      ∧ r.2.mem ((c.tc : Thread Cert.DownNormPlainIdeal.nD Cert.DownNormPlainIdeal.τ).loc Cert.DownNormPlainIdeal.main_arg1) = m ((c.tc : Thread Cert.DownNormPlainIdeal.nD Cert.DownNormPlainIdeal.τ).loc Cert.DownNormPlainIdeal.main_arg1)
      ∧ r.2.mem ((c.tc : Thread Cert.DownNormPlainIdeal.nD Cert.DownNormPlainIdeal.τ).loc Cert.DownNormPlainIdeal.main_arg2) = m ((c.tc : Thread Cert.DownNormPlainIdeal.nD Cert.DownNormPlainIdeal.τ).loc Cert.DownNormPlainIdeal.main_arg2)
      ∧ r.2.mem ((c.tc : Thread Cert.DownNormPlainIdeal.nD Cert.DownNormPlainIdeal.τ).loc Cert.DownNormPlainIdeal.main_arg3) = m ((c.tc : Thread Cert.DownNormPlainIdeal.nD Cert.DownNormPlainIdeal.τ).loc Cert.DownNormPlainIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownPlainIdeal [hDownPlainIdeal : Cert.DownPlainIdeal.Facts] : Prop :=
  ∀ (m : (ℓ : Loc Cert.DownPlainIdeal.nD Cert.DownPlainIdeal.τ Cert.DownPlainIdeal.sig) → Buf (Elt Ideal) ℓ) (g : Dev Cert.DownPlainIdeal.nD → PrngReg), Pre_DownPlainIdeal m →
    θ_run (Cert.DownPlainIdeal.defs (F := Ideal)) (onTc (τ := Cert.DownPlainIdeal.τ) (Cert.DownPlainIdeal.main (F := Ideal))) ⟨m, fun _ => 0, g⟩ (fun r => (∀ c : Dev Cert.DownPlainIdeal.nD,
      r.2.mem ((c.tc : Thread Cert.DownPlainIdeal.nD Cert.DownPlainIdeal.τ).loc Cert.DownPlainIdeal.main_arg0) = m ((c.tc : Thread Cert.DownPlainIdeal.nD Cert.DownPlainIdeal.τ).loc Cert.DownPlainIdeal.main_arg0)
      ∧ r.2.mem ((c.tc : Thread Cert.DownPlainIdeal.nD Cert.DownPlainIdeal.τ).loc Cert.DownPlainIdeal.main_arg1) = m ((c.tc : Thread Cert.DownPlainIdeal.nD Cert.DownPlainIdeal.τ).loc Cert.DownPlainIdeal.main_arg1)
      ∧ r.2.mem ((c.tc : Thread Cert.DownPlainIdeal.nD Cert.DownPlainIdeal.τ).loc Cert.DownPlainIdeal.main_arg2) = m ((c.tc : Thread Cert.DownPlainIdeal.nD Cert.DownPlainIdeal.τ).loc Cert.DownPlainIdeal.main_arg2))
      ∧ r.2.sem = fun _ => 0)

def quiescent_ProjSc [hProjSc : Cert.ProjSc.Facts] : Prop :=
  ∀ (m : (ℓ : Loc Cert.ProjSc.nD Cert.ProjSc.τ Cert.ProjSc.sig) → Buf (Elt Bits) ℓ) (g : Dev Cert.ProjSc.nD → PrngReg), Pre_ProjSc m →
    θ_run (Cert.ProjSc.defs (F := Bits)) (onTc (τ := Cert.ProjSc.τ) (Cert.ProjSc.main (F := Bits))) ⟨m, fun _ => 0, g⟩ (fun r => (∀ c : Dev Cert.ProjSc.nD,
      r.2.mem ((c.tc : Thread Cert.ProjSc.nD Cert.ProjSc.τ).loc Cert.ProjSc.main_arg0) = m ((c.tc : Thread Cert.ProjSc.nD Cert.ProjSc.τ).loc Cert.ProjSc.main_arg0)
      ∧ r.2.mem ((c.tc : Thread Cert.ProjSc.nD Cert.ProjSc.τ).loc Cert.ProjSc.main_arg1) = m ((c.tc : Thread Cert.ProjSc.nD Cert.ProjSc.τ).loc Cert.ProjSc.main_arg1)
      ∧ r.2.mem ((c.tc : Thread Cert.ProjSc.nD Cert.ProjSc.τ).loc Cert.ProjSc.main_arg2) = m ((c.tc : Thread Cert.ProjSc.nD Cert.ProjSc.τ).loc Cert.ProjSc.main_arg2))
      ∧ r.2.sem = fun _ => 0)

def quiescent_ProjScIdeal [hProjScIdeal : Cert.ProjScIdeal.Facts] : Prop :=
  ∀ (m : (ℓ : Loc Cert.ProjScIdeal.nD Cert.ProjScIdeal.τ Cert.ProjScIdeal.sig) → Buf (Elt Ideal) ℓ) (g : Dev Cert.ProjScIdeal.nD → PrngReg), Pre_ProjScIdeal m →
    θ_run (Cert.ProjScIdeal.defs (F := Ideal)) (onTc (τ := Cert.ProjScIdeal.τ) (Cert.ProjScIdeal.main (F := Ideal))) ⟨m, fun _ => 0, g⟩ (fun r => (∀ c : Dev Cert.ProjScIdeal.nD,
      r.2.mem ((c.tc : Thread Cert.ProjScIdeal.nD Cert.ProjScIdeal.τ).loc Cert.ProjScIdeal.main_arg0) = m ((c.tc : Thread Cert.ProjScIdeal.nD Cert.ProjScIdeal.τ).loc Cert.ProjScIdeal.main_arg0)
      ∧ r.2.mem ((c.tc : Thread Cert.ProjScIdeal.nD Cert.ProjScIdeal.τ).loc Cert.ProjScIdeal.main_arg1) = m ((c.tc : Thread Cert.ProjScIdeal.nD Cert.ProjScIdeal.τ).loc Cert.ProjScIdeal.main_arg1)
      ∧ r.2.mem ((c.tc : Thread Cert.ProjScIdeal.nD Cert.ProjScIdeal.τ).loc Cert.ProjScIdeal.main_arg2) = m ((c.tc : Thread Cert.ProjScIdeal.nD Cert.ProjScIdeal.τ).loc Cert.ProjScIdeal.main_arg2))
      ∧ r.2.sem = fun _ => 0)

def quiescent_ProjScPlainIdeal [hProjScPlainIdeal : Cert.ProjScPlainIdeal.Facts] : Prop :=
  ∀ (m : (ℓ : Loc Cert.ProjScPlainIdeal.nD Cert.ProjScPlainIdeal.τ Cert.ProjScPlainIdeal.sig) → Buf (Elt Ideal) ℓ) (g : Dev Cert.ProjScPlainIdeal.nD → PrngReg), Pre_ProjScPlainIdeal m →
    θ_run (Cert.ProjScPlainIdeal.defs (F := Ideal)) (onTc (τ := Cert.ProjScPlainIdeal.τ) (Cert.ProjScPlainIdeal.main (F := Ideal))) ⟨m, fun _ => 0, g⟩ (fun r => (∀ c : Dev Cert.ProjScPlainIdeal.nD,
      r.2.mem ((c.tc : Thread Cert.ProjScPlainIdeal.nD Cert.ProjScPlainIdeal.τ).loc Cert.ProjScPlainIdeal.main_arg0) = m ((c.tc : Thread Cert.ProjScPlainIdeal.nD Cert.ProjScPlainIdeal.τ).loc Cert.ProjScPlainIdeal.main_arg0)
      ∧ r.2.mem ((c.tc : Thread Cert.ProjScPlainIdeal.nD Cert.ProjScPlainIdeal.τ).loc Cert.ProjScPlainIdeal.main_arg1) = m ((c.tc : Thread Cert.ProjScPlainIdeal.nD Cert.ProjScPlainIdeal.τ).loc Cert.ProjScPlainIdeal.main_arg1)
      ∧ r.2.mem ((c.tc : Thread Cert.ProjScPlainIdeal.nD Cert.ProjScPlainIdeal.τ).loc Cert.ProjScPlainIdeal.main_arg2) = m ((c.tc : Thread Cert.ProjScPlainIdeal.nD Cert.ProjScPlainIdeal.τ).loc Cert.ProjScPlainIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdPlainIdeal [hRmsBwdPlainIdeal : Cert.RmsBwdPlainIdeal.Facts] : Prop :=
  ∀ (m : (ℓ : Loc Cert.RmsBwdPlainIdeal.nD Cert.RmsBwdPlainIdeal.τ Cert.RmsBwdPlainIdeal.sig) → Buf (Elt Ideal) ℓ) (g : Dev Cert.RmsBwdPlainIdeal.nD → PrngReg), Pre_RmsBwdPlainIdeal m →
    θ_run (Cert.RmsBwdPlainIdeal.defs (F := Ideal)) (onTc (τ := Cert.RmsBwdPlainIdeal.τ) (Cert.RmsBwdPlainIdeal.main (F := Ideal))) ⟨m, fun _ => 0, g⟩ (fun r => (∀ c : Dev Cert.RmsBwdPlainIdeal.nD,
      r.2.mem ((c.tc : Thread Cert.RmsBwdPlainIdeal.nD Cert.RmsBwdPlainIdeal.τ).loc Cert.RmsBwdPlainIdeal.main_arg0) = m ((c.tc : Thread Cert.RmsBwdPlainIdeal.nD Cert.RmsBwdPlainIdeal.τ).loc Cert.RmsBwdPlainIdeal.main_arg0)
      ∧ r.2.mem ((c.tc : Thread Cert.RmsBwdPlainIdeal.nD Cert.RmsBwdPlainIdeal.τ).loc Cert.RmsBwdPlainIdeal.main_arg1) = m ((c.tc : Thread Cert.RmsBwdPlainIdeal.nD Cert.RmsBwdPlainIdeal.τ).loc Cert.RmsBwdPlainIdeal.main_arg1)
      ∧ r.2.mem ((c.tc : Thread Cert.RmsBwdPlainIdeal.nD Cert.RmsBwdPlainIdeal.τ).loc Cert.RmsBwdPlainIdeal.main_arg2) = m ((c.tc : Thread Cert.RmsBwdPlainIdeal.nD Cert.RmsBwdPlainIdeal.τ).loc Cert.RmsBwdPlainIdeal.main_arg2)
      ∧ r.2.mem ((c.tc : Thread Cert.RmsBwdPlainIdeal.nD Cert.RmsBwdPlainIdeal.τ).loc Cert.RmsBwdPlainIdeal.main_arg3) = m ((c.tc : Thread Cert.RmsBwdPlainIdeal.nD Cert.RmsBwdPlainIdeal.τ).loc Cert.RmsBwdPlainIdeal.main_arg3))
      ∧ r.2.sem = fun _ => 0)

def quiescent_Step0 [hStep0 : Cert.Step0.Facts] : Prop :=
  ∀ (m : (ℓ : Loc Cert.Step0.nD Cert.Step0.τ Cert.Step0.sig) → Buf (Elt Bits) ℓ) (g : Dev Cert.Step0.nD → PrngReg), Pre_Step0 m →
    θ_run (Cert.Step0.defs (F := Bits)) (onTc (τ := Cert.Step0.τ) (Cert.Step0.main (F := Bits))) ⟨m, fun _ => 0, g⟩ (fun r => (∀ c : Dev Cert.Step0.nD,
      r.2.mem ((c.tc : Thread Cert.Step0.nD Cert.Step0.τ).loc Cert.Step0.main_arg0) = m ((c.tc : Thread Cert.Step0.nD Cert.Step0.τ).loc Cert.Step0.main_arg0)
      ∧ r.2.mem ((c.tc : Thread Cert.Step0.nD Cert.Step0.τ).loc Cert.Step0.main_arg1) = m ((c.tc : Thread Cert.Step0.nD Cert.Step0.τ).loc Cert.Step0.main_arg1)
      ∧ r.2.mem ((c.tc : Thread Cert.Step0.nD Cert.Step0.τ).loc Cert.Step0.main_arg2) = m ((c.tc : Thread Cert.Step0.nD Cert.Step0.τ).loc Cert.Step0.main_arg2)
      ∧ r.2.mem ((c.tc : Thread Cert.Step0.nD Cert.Step0.τ).loc Cert.Step0.main_arg3) = m ((c.tc : Thread Cert.Step0.nD Cert.Step0.τ).loc Cert.Step0.main_arg3)
      ∧ r.2.mem ((c.tc : Thread Cert.Step0.nD Cert.Step0.τ).loc Cert.Step0.main_arg4) = m ((c.tc : Thread Cert.Step0.nD Cert.Step0.τ).loc Cert.Step0.main_arg4))
      ∧ r.2.sem = fun _ => 0)

def quiescent_Step0Ideal [hStep0Ideal : Cert.Step0Ideal.Facts] : Prop :=
  ∀ (m : (ℓ : Loc Cert.Step0Ideal.nD Cert.Step0Ideal.τ Cert.Step0Ideal.sig) → Buf (Elt Ideal) ℓ) (g : Dev Cert.Step0Ideal.nD → PrngReg), Pre_Step0Ideal m →
    θ_run (Cert.Step0Ideal.defs (F := Ideal)) (onTc (τ := Cert.Step0Ideal.τ) (Cert.Step0Ideal.main (F := Ideal))) ⟨m, fun _ => 0, g⟩ (fun r => (∀ c : Dev Cert.Step0Ideal.nD,
      r.2.mem ((c.tc : Thread Cert.Step0Ideal.nD Cert.Step0Ideal.τ).loc Cert.Step0Ideal.main_arg0) = m ((c.tc : Thread Cert.Step0Ideal.nD Cert.Step0Ideal.τ).loc Cert.Step0Ideal.main_arg0)
      ∧ r.2.mem ((c.tc : Thread Cert.Step0Ideal.nD Cert.Step0Ideal.τ).loc Cert.Step0Ideal.main_arg1) = m ((c.tc : Thread Cert.Step0Ideal.nD Cert.Step0Ideal.τ).loc Cert.Step0Ideal.main_arg1)
      ∧ r.2.mem ((c.tc : Thread Cert.Step0Ideal.nD Cert.Step0Ideal.τ).loc Cert.Step0Ideal.main_arg2) = m ((c.tc : Thread Cert.Step0Ideal.nD Cert.Step0Ideal.τ).loc Cert.Step0Ideal.main_arg2)
      ∧ r.2.mem ((c.tc : Thread Cert.Step0Ideal.nD Cert.Step0Ideal.τ).loc Cert.Step0Ideal.main_arg3) = m ((c.tc : Thread Cert.Step0Ideal.nD Cert.Step0Ideal.τ).loc Cert.Step0Ideal.main_arg3)
      ∧ r.2.mem ((c.tc : Thread Cert.Step0Ideal.nD Cert.Step0Ideal.τ).loc Cert.Step0Ideal.main_arg4) = m ((c.tc : Thread Cert.Step0Ideal.nD Cert.Step0Ideal.τ).loc Cert.Step0Ideal.main_arg4))
      ∧ r.2.sem = fun _ => 0)

def quiescent_Step0PlainIdeal [hStep0PlainIdeal : Cert.Step0PlainIdeal.Facts] : Prop :=
  ∀ (m : (ℓ : Loc Cert.Step0PlainIdeal.nD Cert.Step0PlainIdeal.τ Cert.Step0PlainIdeal.sig) → Buf (Elt Ideal) ℓ) (g : Dev Cert.Step0PlainIdeal.nD → PrngReg), Pre_Step0PlainIdeal m →
    θ_run (Cert.Step0PlainIdeal.defs (F := Ideal)) (onTc (τ := Cert.Step0PlainIdeal.τ) (Cert.Step0PlainIdeal.main (F := Ideal))) ⟨m, fun _ => 0, g⟩ (fun r => (∀ c : Dev Cert.Step0PlainIdeal.nD,
      r.2.mem ((c.tc : Thread Cert.Step0PlainIdeal.nD Cert.Step0PlainIdeal.τ).loc Cert.Step0PlainIdeal.main_arg0) = m ((c.tc : Thread Cert.Step0PlainIdeal.nD Cert.Step0PlainIdeal.τ).loc Cert.Step0PlainIdeal.main_arg0)
      ∧ r.2.mem ((c.tc : Thread Cert.Step0PlainIdeal.nD Cert.Step0PlainIdeal.τ).loc Cert.Step0PlainIdeal.main_arg1) = m ((c.tc : Thread Cert.Step0PlainIdeal.nD Cert.Step0PlainIdeal.τ).loc Cert.Step0PlainIdeal.main_arg1)
      ∧ r.2.mem ((c.tc : Thread Cert.Step0PlainIdeal.nD Cert.Step0PlainIdeal.τ).loc Cert.Step0PlainIdeal.main_arg2) = m ((c.tc : Thread Cert.Step0PlainIdeal.nD Cert.Step0PlainIdeal.τ).loc Cert.Step0PlainIdeal.main_arg2)
      ∧ r.2.mem ((c.tc : Thread Cert.Step0PlainIdeal.nD Cert.Step0PlainIdeal.τ).loc Cert.Step0PlainIdeal.main_arg3) = m ((c.tc : Thread Cert.Step0PlainIdeal.nD Cert.Step0PlainIdeal.τ).loc Cert.Step0PlainIdeal.main_arg3)
      ∧ r.2.mem ((c.tc : Thread Cert.Step0PlainIdeal.nD Cert.Step0PlainIdeal.τ).loc Cert.Step0PlainIdeal.main_arg4) = m ((c.tc : Thread Cert.Step0PlainIdeal.nD Cert.Step0PlainIdeal.τ).loc Cert.Step0PlainIdeal.main_arg4))
      ∧ r.2.sem = fun _ => 0)

def quiescent_Step1 [hStep1 : Cert.Step1.Facts] : Prop :=
  ∀ (m : (ℓ : Loc Cert.Step1.nD Cert.Step1.τ Cert.Step1.sig) → Buf (Elt Bits) ℓ) (g : Dev Cert.Step1.nD → PrngReg), Pre_Step1 m →
    θ_run (Cert.Step1.defs (F := Bits)) (onTc (τ := Cert.Step1.τ) (Cert.Step1.main (F := Bits))) ⟨m, fun _ => 0, g⟩ (fun r => (∀ c : Dev Cert.Step1.nD,
      r.2.mem ((c.tc : Thread Cert.Step1.nD Cert.Step1.τ).loc Cert.Step1.main_arg0) = m ((c.tc : Thread Cert.Step1.nD Cert.Step1.τ).loc Cert.Step1.main_arg0)
      ∧ r.2.mem ((c.tc : Thread Cert.Step1.nD Cert.Step1.τ).loc Cert.Step1.main_arg1) = m ((c.tc : Thread Cert.Step1.nD Cert.Step1.τ).loc Cert.Step1.main_arg1)
      ∧ r.2.mem ((c.tc : Thread Cert.Step1.nD Cert.Step1.τ).loc Cert.Step1.main_arg2) = m ((c.tc : Thread Cert.Step1.nD Cert.Step1.τ).loc Cert.Step1.main_arg2)
      ∧ r.2.mem ((c.tc : Thread Cert.Step1.nD Cert.Step1.τ).loc Cert.Step1.main_arg3) = m ((c.tc : Thread Cert.Step1.nD Cert.Step1.τ).loc Cert.Step1.main_arg3)
      ∧ r.2.mem ((c.tc : Thread Cert.Step1.nD Cert.Step1.τ).loc Cert.Step1.main_arg4) = m ((c.tc : Thread Cert.Step1.nD Cert.Step1.τ).loc Cert.Step1.main_arg4))
      ∧ r.2.sem = fun _ => 0)

def quiescent_Step1Ideal [hStep1Ideal : Cert.Step1Ideal.Facts] : Prop :=
  ∀ (m : (ℓ : Loc Cert.Step1Ideal.nD Cert.Step1Ideal.τ Cert.Step1Ideal.sig) → Buf (Elt Ideal) ℓ) (g : Dev Cert.Step1Ideal.nD → PrngReg), Pre_Step1Ideal m →
    θ_run (Cert.Step1Ideal.defs (F := Ideal)) (onTc (τ := Cert.Step1Ideal.τ) (Cert.Step1Ideal.main (F := Ideal))) ⟨m, fun _ => 0, g⟩ (fun r => (∀ c : Dev Cert.Step1Ideal.nD,
      r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
      ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
      ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
      ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3)
      ∧ r.2.mem ((c.tc : Thread Cert.Step1Ideal.nD Cert.Step1Ideal.τ).loc Cert.Step1Ideal.main_arg4) = m ((c.tc : Thread Cert.Step1Ideal.nD Cert.Step1Ideal.τ).loc Cert.Step1Ideal.main_arg4))
      ∧ r.2.sem = fun _ => 0)

def quiescent_Step1PlainIdeal [hStep1PlainIdeal : Cert.Step1PlainIdeal.Facts] : Prop :=
  ∀ (m : (ℓ : Loc Cert.Step1PlainIdeal.nD Cert.Step1PlainIdeal.τ Cert.Step1PlainIdeal.sig) → Buf (Elt Ideal) ℓ) (g : Dev Cert.Step1PlainIdeal.nD → PrngReg), Pre_Step1PlainIdeal m →
    θ_run (Cert.Step1PlainIdeal.defs (F := Ideal)) (onTc (τ := Cert.Step1PlainIdeal.τ) (Cert.Step1PlainIdeal.main (F := Ideal))) ⟨m, fun _ => 0, g⟩ (fun r => (∀ c : Dev Cert.Step1PlainIdeal.nD,
      r.2.mem ((c.tc : Thread Cert.Step1PlainIdeal.nD Cert.Step1PlainIdeal.τ).loc Cert.Step1PlainIdeal.main_arg0) = m ((c.tc : Thread Cert.Step1PlainIdeal.nD Cert.Step1PlainIdeal.τ).loc Cert.Step1PlainIdeal.main_arg0)
      ∧ r.2.mem ((c.tc : Thread Cert.Step1PlainIdeal.nD Cert.Step1PlainIdeal.τ).loc Cert.Step1PlainIdeal.main_arg1) = m ((c.tc : Thread Cert.Step1PlainIdeal.nD Cert.Step1PlainIdeal.τ).loc Cert.Step1PlainIdeal.main_arg1)
      ∧ r.2.mem ((c.tc : Thread Cert.Step1PlainIdeal.nD Cert.Step1PlainIdeal.τ).loc Cert.Step1PlainIdeal.main_arg2) = m ((c.tc : Thread Cert.Step1PlainIdeal.nD Cert.Step1PlainIdeal.τ).loc Cert.Step1PlainIdeal.main_arg2)
      ∧ r.2.mem ((c.tc : Thread Cert.Step1PlainIdeal.nD Cert.Step1PlainIdeal.τ).loc Cert.Step1PlainIdeal.main_arg3) = m ((c.tc : Thread Cert.Step1PlainIdeal.nD Cert.Step1PlainIdeal.τ).loc Cert.Step1PlainIdeal.main_arg3)
      ∧ r.2.mem ((c.tc : Thread Cert.Step1PlainIdeal.nD Cert.Step1PlainIdeal.τ).loc Cert.Step1PlainIdeal.main_arg4) = m ((c.tc : Thread Cert.Step1PlainIdeal.nD Cert.Step1PlainIdeal.τ).loc Cert.Step1PlainIdeal.main_arg4))
      ∧ r.2.sem = fun _ => 0)

def quiescent_Step2 [hStep2 : Cert.Step2.Facts] : Prop :=
  ∀ (m : (ℓ : Loc Cert.Step2.nD Cert.Step2.τ Cert.Step2.sig) → Buf (Elt Bits) ℓ) (g : Dev Cert.Step2.nD → PrngReg), Pre_Step2 m →
    θ_run (Cert.Step2.defs (F := Bits)) (onTc (τ := Cert.Step2.τ) (Cert.Step2.main (F := Bits))) ⟨m, fun _ => 0, g⟩ (fun r => (∀ c : Dev Cert.Step2.nD,
      r.2.mem ((c.tc : Thread Cert.Step2.nD Cert.Step2.τ).loc Cert.Step2.main_arg0) = m ((c.tc : Thread Cert.Step2.nD Cert.Step2.τ).loc Cert.Step2.main_arg0)
      ∧ r.2.mem ((c.tc : Thread Cert.Step2.nD Cert.Step2.τ).loc Cert.Step2.main_arg1) = m ((c.tc : Thread Cert.Step2.nD Cert.Step2.τ).loc Cert.Step2.main_arg1)
      ∧ r.2.mem ((c.tc : Thread Cert.Step2.nD Cert.Step2.τ).loc Cert.Step2.main_arg2) = m ((c.tc : Thread Cert.Step2.nD Cert.Step2.τ).loc Cert.Step2.main_arg2)
      ∧ r.2.mem ((c.tc : Thread Cert.Step2.nD Cert.Step2.τ).loc Cert.Step2.main_arg3) = m ((c.tc : Thread Cert.Step2.nD Cert.Step2.τ).loc Cert.Step2.main_arg3)
      ∧ r.2.mem ((c.tc : Thread Cert.Step2.nD Cert.Step2.τ).loc Cert.Step2.main_arg4) = m ((c.tc : Thread Cert.Step2.nD Cert.Step2.τ).loc Cert.Step2.main_arg4))
      ∧ r.2.sem = fun _ => 0)

def quiescent_Step2Ideal [hStep2Ideal : Cert.Step2Ideal.Facts] : Prop :=
  ∀ (m : (ℓ : Loc Cert.Step2Ideal.nD Cert.Step2Ideal.τ Cert.Step2Ideal.sig) → Buf (Elt Ideal) ℓ) (g : Dev Cert.Step2Ideal.nD → PrngReg), Pre_Step2Ideal m →
    θ_run (Cert.Step2Ideal.defs (F := Ideal)) (onTc (τ := Cert.Step2Ideal.τ) (Cert.Step2Ideal.main (F := Ideal))) ⟨m, fun _ => 0, g⟩ (fun r => (∀ c : Dev Cert.Step2Ideal.nD,
      r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
      ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
      ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
      ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3)
      ∧ r.2.mem ((c.tc : Thread Cert.Step2Ideal.nD Cert.Step2Ideal.τ).loc Cert.Step2Ideal.main_arg4) = m ((c.tc : Thread Cert.Step2Ideal.nD Cert.Step2Ideal.τ).loc Cert.Step2Ideal.main_arg4))
      ∧ r.2.sem = fun _ => 0)

def quiescent_Step2PlainIdeal [hStep2PlainIdeal : Cert.Step2PlainIdeal.Facts] : Prop :=
  ∀ (m : (ℓ : Loc Cert.Step2PlainIdeal.nD Cert.Step2PlainIdeal.τ Cert.Step2PlainIdeal.sig) → Buf (Elt Ideal) ℓ) (g : Dev Cert.Step2PlainIdeal.nD → PrngReg), Pre_Step2PlainIdeal m →
    θ_run (Cert.Step2PlainIdeal.defs (F := Ideal)) (onTc (τ := Cert.Step2PlainIdeal.τ) (Cert.Step2PlainIdeal.main (F := Ideal))) ⟨m, fun _ => 0, g⟩ (fun r => (∀ c : Dev Cert.Step2PlainIdeal.nD,
      r.2.mem ((c.tc : Thread Cert.Step2PlainIdeal.nD Cert.Step2PlainIdeal.τ).loc Cert.Step2PlainIdeal.main_arg0) = m ((c.tc : Thread Cert.Step2PlainIdeal.nD Cert.Step2PlainIdeal.τ).loc Cert.Step2PlainIdeal.main_arg0)
      ∧ r.2.mem ((c.tc : Thread Cert.Step2PlainIdeal.nD Cert.Step2PlainIdeal.τ).loc Cert.Step2PlainIdeal.main_arg1) = m ((c.tc : Thread Cert.Step2PlainIdeal.nD Cert.Step2PlainIdeal.τ).loc Cert.Step2PlainIdeal.main_arg1)
      ∧ r.2.mem ((c.tc : Thread Cert.Step2PlainIdeal.nD Cert.Step2PlainIdeal.τ).loc Cert.Step2PlainIdeal.main_arg2) = m ((c.tc : Thread Cert.Step2PlainIdeal.nD Cert.Step2PlainIdeal.τ).loc Cert.Step2PlainIdeal.main_arg2)
      ∧ r.2.mem ((c.tc : Thread Cert.Step2PlainIdeal.nD Cert.Step2PlainIdeal.τ).loc Cert.Step2PlainIdeal.main_arg3) = m ((c.tc : Thread Cert.Step2PlainIdeal.nD Cert.Step2PlainIdeal.τ).loc Cert.Step2PlainIdeal.main_arg3)
      ∧ r.2.mem ((c.tc : Thread Cert.Step2PlainIdeal.nD Cert.Step2PlainIdeal.τ).loc Cert.Step2PlainIdeal.main_arg4) = m ((c.tc : Thread Cert.Step2PlainIdeal.nD Cert.Step2PlainIdeal.τ).loc Cert.Step2PlainIdeal.main_arg4))
      ∧ r.2.sem = fun _ => 0)

def quiescent_Step3 [hStep3 : Cert.Step3.Facts] : Prop :=
  ∀ (m : (ℓ : Loc Cert.Step3.nD Cert.Step3.τ Cert.Step3.sig) → Buf (Elt Bits) ℓ) (g : Dev Cert.Step3.nD → PrngReg), Pre_Step3 m →
    θ_run (Cert.Step3.defs (F := Bits)) (onTc (τ := Cert.Step3.τ) (Cert.Step3.main (F := Bits))) ⟨m, fun _ => 0, g⟩ (fun r => (∀ c : Dev Cert.Step3.nD,
      r.2.mem ((c.tc : Thread Cert.Step3.nD Cert.Step3.τ).loc Cert.Step3.main_arg0) = m ((c.tc : Thread Cert.Step3.nD Cert.Step3.τ).loc Cert.Step3.main_arg0)
      ∧ r.2.mem ((c.tc : Thread Cert.Step3.nD Cert.Step3.τ).loc Cert.Step3.main_arg1) = m ((c.tc : Thread Cert.Step3.nD Cert.Step3.τ).loc Cert.Step3.main_arg1)
      ∧ r.2.mem ((c.tc : Thread Cert.Step3.nD Cert.Step3.τ).loc Cert.Step3.main_arg2) = m ((c.tc : Thread Cert.Step3.nD Cert.Step3.τ).loc Cert.Step3.main_arg2)
      ∧ r.2.mem ((c.tc : Thread Cert.Step3.nD Cert.Step3.τ).loc Cert.Step3.main_arg3) = m ((c.tc : Thread Cert.Step3.nD Cert.Step3.τ).loc Cert.Step3.main_arg3)
      ∧ r.2.mem ((c.tc : Thread Cert.Step3.nD Cert.Step3.τ).loc Cert.Step3.main_arg4) = m ((c.tc : Thread Cert.Step3.nD Cert.Step3.τ).loc Cert.Step3.main_arg4))
      ∧ r.2.sem = fun _ => 0)

def quiescent_Step3Ideal [hStep3Ideal : Cert.Step3Ideal.Facts] : Prop :=
  ∀ (m : (ℓ : Loc Cert.Step3Ideal.nD Cert.Step3Ideal.τ Cert.Step3Ideal.sig) → Buf (Elt Ideal) ℓ) (g : Dev Cert.Step3Ideal.nD → PrngReg), Pre_Step3Ideal m →
    θ_run (Cert.Step3Ideal.defs (F := Ideal)) (onTc (τ := Cert.Step3Ideal.τ) (Cert.Step3Ideal.main (F := Ideal))) ⟨m, fun _ => 0, g⟩ (fun r => (∀ c : Dev Cert.Step3Ideal.nD,
      r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
      ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
      ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
      ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3)
      ∧ r.2.mem ((c.tc : Thread Cert.Step3Ideal.nD Cert.Step3Ideal.τ).loc Cert.Step3Ideal.main_arg4) = m ((c.tc : Thread Cert.Step3Ideal.nD Cert.Step3Ideal.τ).loc Cert.Step3Ideal.main_arg4))
      ∧ r.2.sem = fun _ => 0)

def quiescent_Step3PlainIdeal [hStep3PlainIdeal : Cert.Step3PlainIdeal.Facts] : Prop :=
  ∀ (m : (ℓ : Loc Cert.Step3PlainIdeal.nD Cert.Step3PlainIdeal.τ Cert.Step3PlainIdeal.sig) → Buf (Elt Ideal) ℓ) (g : Dev Cert.Step3PlainIdeal.nD → PrngReg), Pre_Step3PlainIdeal m →
    θ_run (Cert.Step3PlainIdeal.defs (F := Ideal)) (onTc (τ := Cert.Step3PlainIdeal.τ) (Cert.Step3PlainIdeal.main (F := Ideal))) ⟨m, fun _ => 0, g⟩ (fun r => (∀ c : Dev Cert.Step3PlainIdeal.nD,
      r.2.mem ((c.tc : Thread Cert.Step3PlainIdeal.nD Cert.Step3PlainIdeal.τ).loc Cert.Step3PlainIdeal.main_arg0) = m ((c.tc : Thread Cert.Step3PlainIdeal.nD Cert.Step3PlainIdeal.τ).loc Cert.Step3PlainIdeal.main_arg0)
      ∧ r.2.mem ((c.tc : Thread Cert.Step3PlainIdeal.nD Cert.Step3PlainIdeal.τ).loc Cert.Step3PlainIdeal.main_arg1) = m ((c.tc : Thread Cert.Step3PlainIdeal.nD Cert.Step3PlainIdeal.τ).loc Cert.Step3PlainIdeal.main_arg1)
      ∧ r.2.mem ((c.tc : Thread Cert.Step3PlainIdeal.nD Cert.Step3PlainIdeal.τ).loc Cert.Step3PlainIdeal.main_arg2) = m ((c.tc : Thread Cert.Step3PlainIdeal.nD Cert.Step3PlainIdeal.τ).loc Cert.Step3PlainIdeal.main_arg2)
      ∧ r.2.mem ((c.tc : Thread Cert.Step3PlainIdeal.nD Cert.Step3PlainIdeal.τ).loc Cert.Step3PlainIdeal.main_arg3) = m ((c.tc : Thread Cert.Step3PlainIdeal.nD Cert.Step3PlainIdeal.τ).loc Cert.Step3PlainIdeal.main_arg3)
      ∧ r.2.mem ((c.tc : Thread Cert.Step3PlainIdeal.nD Cert.Step3PlainIdeal.τ).loc Cert.Step3PlainIdeal.main_arg4) = m ((c.tc : Thread Cert.Step3PlainIdeal.nD Cert.Step3PlainIdeal.τ).loc Cert.Step3PlainIdeal.main_arg4))
      ∧ r.2.sem = fun _ => 0)

def quiescent_StepUp [hStepUp : Cert.StepUp.Facts] : Prop :=
  ∀ (m : (ℓ : Loc Cert.StepUp.nD Cert.StepUp.τ Cert.StepUp.sig) → Buf (Elt Bits) ℓ) (g : Dev Cert.StepUp.nD → PrngReg), Pre_StepUp m →
    θ_run (Cert.StepUp.defs (F := Bits)) (onTc (τ := Cert.StepUp.τ) (Cert.StepUp.main (F := Bits))) ⟨m, fun _ => 0, g⟩ (fun r => (∀ c : Dev Cert.StepUp.nD,
      r.2.mem ((c.tc : Thread Cert.StepUp.nD Cert.StepUp.τ).loc Cert.StepUp.main_arg0) = m ((c.tc : Thread Cert.StepUp.nD Cert.StepUp.τ).loc Cert.StepUp.main_arg0)
      ∧ r.2.mem ((c.tc : Thread Cert.StepUp.nD Cert.StepUp.τ).loc Cert.StepUp.main_arg1) = m ((c.tc : Thread Cert.StepUp.nD Cert.StepUp.τ).loc Cert.StepUp.main_arg1)
      ∧ r.2.mem ((c.tc : Thread Cert.StepUp.nD Cert.StepUp.τ).loc Cert.StepUp.main_arg2) = m ((c.tc : Thread Cert.StepUp.nD Cert.StepUp.τ).loc Cert.StepUp.main_arg2)
      ∧ r.2.mem ((c.tc : Thread Cert.StepUp.nD Cert.StepUp.τ).loc Cert.StepUp.main_arg3) = m ((c.tc : Thread Cert.StepUp.nD Cert.StepUp.τ).loc Cert.StepUp.main_arg3)
      ∧ r.2.mem ((c.tc : Thread Cert.StepUp.nD Cert.StepUp.τ).loc Cert.StepUp.main_arg4) = m ((c.tc : Thread Cert.StepUp.nD Cert.StepUp.τ).loc Cert.StepUp.main_arg4)
      ∧ r.2.mem ((c.tc : Thread Cert.StepUp.nD Cert.StepUp.τ).loc Cert.StepUp.main_arg5) = m ((c.tc : Thread Cert.StepUp.nD Cert.StepUp.τ).loc Cert.StepUp.main_arg5)
      ∧ r.2.mem ((c.tc : Thread Cert.StepUp.nD Cert.StepUp.τ).loc Cert.StepUp.main_arg6) = m ((c.tc : Thread Cert.StepUp.nD Cert.StepUp.τ).loc Cert.StepUp.main_arg6))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
      ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
      ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5)
      ∧ r.2.mem ((c.tc : Thread Cert.StepUpIdeal.nD Cert.StepUpIdeal.τ).loc Cert.StepUpIdeal.main_arg6) = m ((c.tc : Thread Cert.StepUpIdeal.nD Cert.StepUpIdeal.τ).loc Cert.StepUpIdeal.main_arg6))
      ∧ r.2.sem = fun _ => 0)

def quiescent_StepUpPlainIdeal [hStepUpPlainIdeal : Cert.StepUpPlainIdeal.Facts] : Prop :=
  ∀ (m : (ℓ : Loc Cert.StepUpPlainIdeal.nD Cert.StepUpPlainIdeal.τ Cert.StepUpPlainIdeal.sig) → Buf (Elt Ideal) ℓ) (g : Dev Cert.StepUpPlainIdeal.nD → PrngReg), Pre_StepUpPlainIdeal m →
    θ_run (Cert.StepUpPlainIdeal.defs (F := Ideal)) (onTc (τ := Cert.StepUpPlainIdeal.τ) (Cert.StepUpPlainIdeal.main (F := Ideal))) ⟨m, fun _ => 0, g⟩ (fun r => (∀ c : Dev Cert.StepUpPlainIdeal.nD,
      r.2.mem ((c.tc : Thread Cert.StepUpPlainIdeal.nD Cert.StepUpPlainIdeal.τ).loc Cert.StepUpPlainIdeal.main_arg0) = m ((c.tc : Thread Cert.StepUpPlainIdeal.nD Cert.StepUpPlainIdeal.τ).loc Cert.StepUpPlainIdeal.main_arg0)
      ∧ r.2.mem ((c.tc : Thread Cert.StepUpPlainIdeal.nD Cert.StepUpPlainIdeal.τ).loc Cert.StepUpPlainIdeal.main_arg1) = m ((c.tc : Thread Cert.StepUpPlainIdeal.nD Cert.StepUpPlainIdeal.τ).loc Cert.StepUpPlainIdeal.main_arg1)
      ∧ r.2.mem ((c.tc : Thread Cert.StepUpPlainIdeal.nD Cert.StepUpPlainIdeal.τ).loc Cert.StepUpPlainIdeal.main_arg2) = m ((c.tc : Thread Cert.StepUpPlainIdeal.nD Cert.StepUpPlainIdeal.τ).loc Cert.StepUpPlainIdeal.main_arg2)
      ∧ r.2.mem ((c.tc : Thread Cert.StepUpPlainIdeal.nD Cert.StepUpPlainIdeal.τ).loc Cert.StepUpPlainIdeal.main_arg3) = m ((c.tc : Thread Cert.StepUpPlainIdeal.nD Cert.StepUpPlainIdeal.τ).loc Cert.StepUpPlainIdeal.main_arg3)
      ∧ r.2.mem ((c.tc : Thread Cert.StepUpPlainIdeal.nD Cert.StepUpPlainIdeal.τ).loc Cert.StepUpPlainIdeal.main_arg4) = m ((c.tc : Thread Cert.StepUpPlainIdeal.nD Cert.StepUpPlainIdeal.τ).loc Cert.StepUpPlainIdeal.main_arg4)
      ∧ r.2.mem ((c.tc : Thread Cert.StepUpPlainIdeal.nD Cert.StepUpPlainIdeal.τ).loc Cert.StepUpPlainIdeal.main_arg5) = m ((c.tc : Thread Cert.StepUpPlainIdeal.nD Cert.StepUpPlainIdeal.τ).loc Cert.StepUpPlainIdeal.main_arg5)
      ∧ r.2.mem ((c.tc : Thread Cert.StepUpPlainIdeal.nD Cert.StepUpPlainIdeal.τ).loc Cert.StepUpPlainIdeal.main_arg6) = m ((c.tc : Thread Cert.StepUpPlainIdeal.nD Cert.StepUpPlainIdeal.τ).loc Cert.StepUpPlainIdeal.main_arg6))
      ∧ r.2.sem = fun _ => 0)

def quiescent_StepDown [hStepDown : Cert.StepDown.Facts] : Prop :=
  ∀ (m : (ℓ : Loc Cert.StepDown.nD Cert.StepDown.τ Cert.StepDown.sig) → Buf (Elt Bits) ℓ) (g : Dev Cert.StepDown.nD → PrngReg), Pre_StepDown m →
    θ_run (Cert.StepDown.defs (F := Bits)) (onTc (τ := Cert.StepDown.τ) (Cert.StepDown.main (F := Bits))) ⟨m, fun _ => 0, g⟩ (fun r => (∀ c : Dev Cert.StepDown.nD,
      r.2.mem ((c.tc : Thread Cert.StepDown.nD Cert.StepDown.τ).loc Cert.StepDown.main_arg0) = m ((c.tc : Thread Cert.StepDown.nD Cert.StepDown.τ).loc Cert.StepDown.main_arg0)
      ∧ r.2.mem ((c.tc : Thread Cert.StepDown.nD Cert.StepDown.τ).loc Cert.StepDown.main_arg1) = m ((c.tc : Thread Cert.StepDown.nD Cert.StepDown.τ).loc Cert.StepDown.main_arg1)
      ∧ r.2.mem ((c.tc : Thread Cert.StepDown.nD Cert.StepDown.τ).loc Cert.StepDown.main_arg2) = m ((c.tc : Thread Cert.StepDown.nD Cert.StepDown.τ).loc Cert.StepDown.main_arg2)
      ∧ r.2.mem ((c.tc : Thread Cert.StepDown.nD Cert.StepDown.τ).loc Cert.StepDown.main_arg3) = m ((c.tc : Thread Cert.StepDown.nD Cert.StepDown.τ).loc Cert.StepDown.main_arg3)
      ∧ r.2.mem ((c.tc : Thread Cert.StepDown.nD Cert.StepDown.τ).loc Cert.StepDown.main_arg4) = m ((c.tc : Thread Cert.StepDown.nD Cert.StepDown.τ).loc Cert.StepDown.main_arg4)
      ∧ r.2.mem ((c.tc : Thread Cert.StepDown.nD Cert.StepDown.τ).loc Cert.StepDown.main_arg5) = m ((c.tc : Thread Cert.StepDown.nD Cert.StepDown.τ).loc Cert.StepDown.main_arg5)
      ∧ r.2.mem ((c.tc : Thread Cert.StepDown.nD Cert.StepDown.τ).loc Cert.StepDown.main_arg6) = m ((c.tc : Thread Cert.StepDown.nD Cert.StepDown.τ).loc Cert.StepDown.main_arg6))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
      ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
      ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5)
      ∧ r.2.mem ((c.tc : Thread Cert.StepDownIdeal.nD Cert.StepDownIdeal.τ).loc Cert.StepDownIdeal.main_arg6) = m ((c.tc : Thread Cert.StepDownIdeal.nD Cert.StepDownIdeal.τ).loc Cert.StepDownIdeal.main_arg6))
      ∧ r.2.sem = fun _ => 0)

def quiescent_StepDownPlainIdeal [hStepDownPlainIdeal : Cert.StepDownPlainIdeal.Facts] : Prop :=
  ∀ (m : (ℓ : Loc Cert.StepDownPlainIdeal.nD Cert.StepDownPlainIdeal.τ Cert.StepDownPlainIdeal.sig) → Buf (Elt Ideal) ℓ) (g : Dev Cert.StepDownPlainIdeal.nD → PrngReg), Pre_StepDownPlainIdeal m →
    θ_run (Cert.StepDownPlainIdeal.defs (F := Ideal)) (onTc (τ := Cert.StepDownPlainIdeal.τ) (Cert.StepDownPlainIdeal.main (F := Ideal))) ⟨m, fun _ => 0, g⟩ (fun r => (∀ c : Dev Cert.StepDownPlainIdeal.nD,
      r.2.mem ((c.tc : Thread Cert.StepDownPlainIdeal.nD Cert.StepDownPlainIdeal.τ).loc Cert.StepDownPlainIdeal.main_arg0) = m ((c.tc : Thread Cert.StepDownPlainIdeal.nD Cert.StepDownPlainIdeal.τ).loc Cert.StepDownPlainIdeal.main_arg0)
      ∧ r.2.mem ((c.tc : Thread Cert.StepDownPlainIdeal.nD Cert.StepDownPlainIdeal.τ).loc Cert.StepDownPlainIdeal.main_arg1) = m ((c.tc : Thread Cert.StepDownPlainIdeal.nD Cert.StepDownPlainIdeal.τ).loc Cert.StepDownPlainIdeal.main_arg1)
      ∧ r.2.mem ((c.tc : Thread Cert.StepDownPlainIdeal.nD Cert.StepDownPlainIdeal.τ).loc Cert.StepDownPlainIdeal.main_arg2) = m ((c.tc : Thread Cert.StepDownPlainIdeal.nD Cert.StepDownPlainIdeal.τ).loc Cert.StepDownPlainIdeal.main_arg2)
      ∧ r.2.mem ((c.tc : Thread Cert.StepDownPlainIdeal.nD Cert.StepDownPlainIdeal.τ).loc Cert.StepDownPlainIdeal.main_arg3) = m ((c.tc : Thread Cert.StepDownPlainIdeal.nD Cert.StepDownPlainIdeal.τ).loc Cert.StepDownPlainIdeal.main_arg3)
      ∧ r.2.mem ((c.tc : Thread Cert.StepDownPlainIdeal.nD Cert.StepDownPlainIdeal.τ).loc Cert.StepDownPlainIdeal.main_arg4) = m ((c.tc : Thread Cert.StepDownPlainIdeal.nD Cert.StepDownPlainIdeal.τ).loc Cert.StepDownPlainIdeal.main_arg4)
      ∧ r.2.mem ((c.tc : Thread Cert.StepDownPlainIdeal.nD Cert.StepDownPlainIdeal.τ).loc Cert.StepDownPlainIdeal.main_arg5) = m ((c.tc : Thread Cert.StepDownPlainIdeal.nD Cert.StepDownPlainIdeal.τ).loc Cert.StepDownPlainIdeal.main_arg5)
      ∧ r.2.mem ((c.tc : Thread Cert.StepDownPlainIdeal.nD Cert.StepDownPlainIdeal.τ).loc Cert.StepDownPlainIdeal.main_arg6) = m ((c.tc : Thread Cert.StepDownPlainIdeal.nD Cert.StepDownPlainIdeal.τ).loc Cert.StepDownPlainIdeal.main_arg6))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11)
      ∧ r.2.mem ((c.tc : Thread Cert.StepSmall.nD Cert.StepSmall.τ).loc Cert.StepSmall.main_arg12) = m ((c.tc : Thread Cert.StepSmall.nD Cert.StepSmall.τ).loc Cert.StepSmall.main_arg12)
      ∧ r.2.mem ((c.tc : Thread Cert.StepSmall.nD Cert.StepSmall.τ).loc Cert.StepSmall.main_arg13) = m ((c.tc : Thread Cert.StepSmall.nD Cert.StepSmall.τ).loc Cert.StepSmall.main_arg13)
      ∧ r.2.mem ((c.tc : Thread Cert.StepSmall.nD Cert.StepSmall.τ).loc Cert.StepSmall.main_arg14) = m ((c.tc : Thread Cert.StepSmall.nD Cert.StepSmall.τ).loc Cert.StepSmall.main_arg14)
      ∧ r.2.mem ((c.tc : Thread Cert.StepSmall.nD Cert.StepSmall.τ).loc Cert.StepSmall.main_arg15) = m ((c.tc : Thread Cert.StepSmall.nD Cert.StepSmall.τ).loc Cert.StepSmall.main_arg15)
      ∧ r.2.mem ((c.tc : Thread Cert.StepSmall.nD Cert.StepSmall.τ).loc Cert.StepSmall.main_arg16) = m ((c.tc : Thread Cert.StepSmall.nD Cert.StepSmall.τ).loc Cert.StepSmall.main_arg16)
      ∧ r.2.mem ((c.tc : Thread Cert.StepSmall.nD Cert.StepSmall.τ).loc Cert.StepSmall.main_arg17) = m ((c.tc : Thread Cert.StepSmall.nD Cert.StepSmall.τ).loc Cert.StepSmall.main_arg17)
      ∧ r.2.mem ((c.tc : Thread Cert.StepSmall.nD Cert.StepSmall.τ).loc Cert.StepSmall.main_arg18) = m ((c.tc : Thread Cert.StepSmall.nD Cert.StepSmall.τ).loc Cert.StepSmall.main_arg18)
      ∧ r.2.mem ((c.tc : Thread Cert.StepSmall.nD Cert.StepSmall.τ).loc Cert.StepSmall.main_arg19) = m ((c.tc : Thread Cert.StepSmall.nD Cert.StepSmall.τ).loc Cert.StepSmall.main_arg19)
      ∧ r.2.mem ((c.tc : Thread Cert.StepSmall.nD Cert.StepSmall.τ).loc Cert.StepSmall.main_arg20) = m ((c.tc : Thread Cert.StepSmall.nD Cert.StepSmall.τ).loc Cert.StepSmall.main_arg20)
      ∧ r.2.mem ((c.tc : Thread Cert.StepSmall.nD Cert.StepSmall.τ).loc Cert.StepSmall.main_arg21) = m ((c.tc : Thread Cert.StepSmall.nD Cert.StepSmall.τ).loc Cert.StepSmall.main_arg21)
      ∧ r.2.mem ((c.tc : Thread Cert.StepSmall.nD Cert.StepSmall.τ).loc Cert.StepSmall.main_arg22) = m ((c.tc : Thread Cert.StepSmall.nD Cert.StepSmall.τ).loc Cert.StepSmall.main_arg22)
      ∧ r.2.mem ((c.tc : Thread Cert.StepSmall.nD Cert.StepSmall.τ).loc Cert.StepSmall.main_arg23) = m ((c.tc : Thread Cert.StepSmall.nD Cert.StepSmall.τ).loc Cert.StepSmall.main_arg23)
      ∧ r.2.mem ((c.tc : Thread Cert.StepSmall.nD Cert.StepSmall.τ).loc Cert.StepSmall.main_arg24) = m ((c.tc : Thread Cert.StepSmall.nD Cert.StepSmall.τ).loc Cert.StepSmall.main_arg24)
      ∧ r.2.mem ((c.tc : Thread Cert.StepSmall.nD Cert.StepSmall.τ).loc Cert.StepSmall.main_arg25) = m ((c.tc : Thread Cert.StepSmall.nD Cert.StepSmall.τ).loc Cert.StepSmall.main_arg25)
      ∧ r.2.mem ((c.tc : Thread Cert.StepSmall.nD Cert.StepSmall.τ).loc Cert.StepSmall.main_arg26) = m ((c.tc : Thread Cert.StepSmall.nD Cert.StepSmall.τ).loc Cert.StepSmall.main_arg26)
      ∧ r.2.mem ((c.tc : Thread Cert.StepSmall.nD Cert.StepSmall.τ).loc Cert.StepSmall.main_arg27) = m ((c.tc : Thread Cert.StepSmall.nD Cert.StepSmall.τ).loc Cert.StepSmall.main_arg27)
      ∧ r.2.mem ((c.tc : Thread Cert.StepSmall.nD Cert.StepSmall.τ).loc Cert.StepSmall.main_arg28) = m ((c.tc : Thread Cert.StepSmall.nD Cert.StepSmall.τ).loc Cert.StepSmall.main_arg28)
      ∧ r.2.mem ((c.tc : Thread Cert.StepSmall.nD Cert.StepSmall.τ).loc Cert.StepSmall.main_arg29) = m ((c.tc : Thread Cert.StepSmall.nD Cert.StepSmall.τ).loc Cert.StepSmall.main_arg29)
      ∧ r.2.mem ((c.tc : Thread Cert.StepSmall.nD Cert.StepSmall.τ).loc Cert.StepSmall.main_arg30) = m ((c.tc : Thread Cert.StepSmall.nD Cert.StepSmall.τ).loc Cert.StepSmall.main_arg30)
      ∧ r.2.mem ((c.tc : Thread Cert.StepSmall.nD Cert.StepSmall.τ).loc Cert.StepSmall.main_arg31) = m ((c.tc : Thread Cert.StepSmall.nD Cert.StepSmall.τ).loc Cert.StepSmall.main_arg31)
      ∧ r.2.mem ((c.tc : Thread Cert.StepSmall.nD Cert.StepSmall.τ).loc Cert.StepSmall.main_arg32) = m ((c.tc : Thread Cert.StepSmall.nD Cert.StepSmall.τ).loc Cert.StepSmall.main_arg32)
      ∧ r.2.mem ((c.tc : Thread Cert.StepSmall.nD Cert.StepSmall.τ).loc Cert.StepSmall.main_arg33) = m ((c.tc : Thread Cert.StepSmall.nD Cert.StepSmall.τ).loc Cert.StepSmall.main_arg33)
      ∧ r.2.mem ((c.tc : Thread Cert.StepSmall.nD Cert.StepSmall.τ).loc Cert.StepSmall.main_arg34) = m ((c.tc : Thread Cert.StepSmall.nD Cert.StepSmall.τ).loc Cert.StepSmall.main_arg34)
      ∧ r.2.mem ((c.tc : Thread Cert.StepSmall.nD Cert.StepSmall.τ).loc Cert.StepSmall.main_arg35) = m ((c.tc : Thread Cert.StepSmall.nD Cert.StepSmall.τ).loc Cert.StepSmall.main_arg35)
      ∧ r.2.mem ((c.tc : Thread Cert.StepSmall.nD Cert.StepSmall.τ).loc Cert.StepSmall.main_arg36) = m ((c.tc : Thread Cert.StepSmall.nD Cert.StepSmall.τ).loc Cert.StepSmall.main_arg36)
      ∧ r.2.mem ((c.tc : Thread Cert.StepSmall.nD Cert.StepSmall.τ).loc Cert.StepSmall.main_arg37) = m ((c.tc : Thread Cert.StepSmall.nD Cert.StepSmall.τ).loc Cert.StepSmall.main_arg37)
      ∧ r.2.mem ((c.tc : Thread Cert.StepSmall.nD Cert.StepSmall.τ).loc Cert.StepSmall.main_arg38) = m ((c.tc : Thread Cert.StepSmall.nD Cert.StepSmall.τ).loc Cert.StepSmall.main_arg38)
      ∧ r.2.mem ((c.tc : Thread Cert.StepSmall.nD Cert.StepSmall.τ).loc Cert.StepSmall.main_arg39) = m ((c.tc : Thread Cert.StepSmall.nD Cert.StepSmall.τ).loc Cert.StepSmall.main_arg39))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
      ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
      ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
      ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
      ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
      ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
      ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
      ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
      ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
      ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
      ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
      ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
      ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
      ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
      ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
      ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
      ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
      ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
      ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
      ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
      ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
      ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
      ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
      ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
      ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
      ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
      ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
      ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
      ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39))
      ∧ r.2.sem = fun _ => 0)

def quiescent_StepSmallPlainIdeal [hStepSmallPlainIdeal : Cert.StepSmallPlainIdeal.Facts] : Prop :=
  ∀ (m : (ℓ : Loc Cert.StepSmallPlainIdeal.nD Cert.StepSmallPlainIdeal.τ Cert.StepSmallPlainIdeal.sig) → Buf (Elt Ideal) ℓ) (g : Dev Cert.StepSmallPlainIdeal.nD → PrngReg), Pre_StepSmallPlainIdeal m →
    θ_run (Cert.StepSmallPlainIdeal.defs (F := Ideal)) (onTc (τ := Cert.StepSmallPlainIdeal.τ) (Cert.StepSmallPlainIdeal.main (F := Ideal))) ⟨m, fun _ => 0, g⟩ (fun r => (∀ c : Dev Cert.StepSmallPlainIdeal.nD,
      r.2.mem ((c.tc : Thread Cert.StepSmallPlainIdeal.nD Cert.StepSmallPlainIdeal.τ).loc Cert.StepSmallPlainIdeal.main_arg0) = m ((c.tc : Thread Cert.StepSmallPlainIdeal.nD Cert.StepSmallPlainIdeal.τ).loc Cert.StepSmallPlainIdeal.main_arg0)
      ∧ r.2.mem ((c.tc : Thread Cert.StepSmallPlainIdeal.nD Cert.StepSmallPlainIdeal.τ).loc Cert.StepSmallPlainIdeal.main_arg1) = m ((c.tc : Thread Cert.StepSmallPlainIdeal.nD Cert.StepSmallPlainIdeal.τ).loc Cert.StepSmallPlainIdeal.main_arg1)
      ∧ r.2.mem ((c.tc : Thread Cert.StepSmallPlainIdeal.nD Cert.StepSmallPlainIdeal.τ).loc Cert.StepSmallPlainIdeal.main_arg2) = m ((c.tc : Thread Cert.StepSmallPlainIdeal.nD Cert.StepSmallPlainIdeal.τ).loc Cert.StepSmallPlainIdeal.main_arg2)
      ∧ r.2.mem ((c.tc : Thread Cert.StepSmallPlainIdeal.nD Cert.StepSmallPlainIdeal.τ).loc Cert.StepSmallPlainIdeal.main_arg3) = m ((c.tc : Thread Cert.StepSmallPlainIdeal.nD Cert.StepSmallPlainIdeal.τ).loc Cert.StepSmallPlainIdeal.main_arg3)
      ∧ r.2.mem ((c.tc : Thread Cert.StepSmallPlainIdeal.nD Cert.StepSmallPlainIdeal.τ).loc Cert.StepSmallPlainIdeal.main_arg4) = m ((c.tc : Thread Cert.StepSmallPlainIdeal.nD Cert.StepSmallPlainIdeal.τ).loc Cert.StepSmallPlainIdeal.main_arg4)
      ∧ r.2.mem ((c.tc : Thread Cert.StepSmallPlainIdeal.nD Cert.StepSmallPlainIdeal.τ).loc Cert.StepSmallPlainIdeal.main_arg5) = m ((c.tc : Thread Cert.StepSmallPlainIdeal.nD Cert.StepSmallPlainIdeal.τ).loc Cert.StepSmallPlainIdeal.main_arg5)
      ∧ r.2.mem ((c.tc : Thread Cert.StepSmallPlainIdeal.nD Cert.StepSmallPlainIdeal.τ).loc Cert.StepSmallPlainIdeal.main_arg6) = m ((c.tc : Thread Cert.StepSmallPlainIdeal.nD Cert.StepSmallPlainIdeal.τ).loc Cert.StepSmallPlainIdeal.main_arg6)
      ∧ r.2.mem ((c.tc : Thread Cert.StepSmallPlainIdeal.nD Cert.StepSmallPlainIdeal.τ).loc Cert.StepSmallPlainIdeal.main_arg7) = m ((c.tc : Thread Cert.StepSmallPlainIdeal.nD Cert.StepSmallPlainIdeal.τ).loc Cert.StepSmallPlainIdeal.main_arg7)
      ∧ r.2.mem ((c.tc : Thread Cert.StepSmallPlainIdeal.nD Cert.StepSmallPlainIdeal.τ).loc Cert.StepSmallPlainIdeal.main_arg8) = m ((c.tc : Thread Cert.StepSmallPlainIdeal.nD Cert.StepSmallPlainIdeal.τ).loc Cert.StepSmallPlainIdeal.main_arg8)
      ∧ r.2.mem ((c.tc : Thread Cert.StepSmallPlainIdeal.nD Cert.StepSmallPlainIdeal.τ).loc Cert.StepSmallPlainIdeal.main_arg9) = m ((c.tc : Thread Cert.StepSmallPlainIdeal.nD Cert.StepSmallPlainIdeal.τ).loc Cert.StepSmallPlainIdeal.main_arg9)
      ∧ r.2.mem ((c.tc : Thread Cert.StepSmallPlainIdeal.nD Cert.StepSmallPlainIdeal.τ).loc Cert.StepSmallPlainIdeal.main_arg10) = m ((c.tc : Thread Cert.StepSmallPlainIdeal.nD Cert.StepSmallPlainIdeal.τ).loc Cert.StepSmallPlainIdeal.main_arg10)
      ∧ r.2.mem ((c.tc : Thread Cert.StepSmallPlainIdeal.nD Cert.StepSmallPlainIdeal.τ).loc Cert.StepSmallPlainIdeal.main_arg11) = m ((c.tc : Thread Cert.StepSmallPlainIdeal.nD Cert.StepSmallPlainIdeal.τ).loc Cert.StepSmallPlainIdeal.main_arg11)
      ∧ r.2.mem ((c.tc : Thread Cert.StepSmallPlainIdeal.nD Cert.StepSmallPlainIdeal.τ).loc Cert.StepSmallPlainIdeal.main_arg12) = m ((c.tc : Thread Cert.StepSmallPlainIdeal.nD Cert.StepSmallPlainIdeal.τ).loc Cert.StepSmallPlainIdeal.main_arg12)
      ∧ r.2.mem ((c.tc : Thread Cert.StepSmallPlainIdeal.nD Cert.StepSmallPlainIdeal.τ).loc Cert.StepSmallPlainIdeal.main_arg13) = m ((c.tc : Thread Cert.StepSmallPlainIdeal.nD Cert.StepSmallPlainIdeal.τ).loc Cert.StepSmallPlainIdeal.main_arg13)
      ∧ r.2.mem ((c.tc : Thread Cert.StepSmallPlainIdeal.nD Cert.StepSmallPlainIdeal.τ).loc Cert.StepSmallPlainIdeal.main_arg14) = m ((c.tc : Thread Cert.StepSmallPlainIdeal.nD Cert.StepSmallPlainIdeal.τ).loc Cert.StepSmallPlainIdeal.main_arg14)
      ∧ r.2.mem ((c.tc : Thread Cert.StepSmallPlainIdeal.nD Cert.StepSmallPlainIdeal.τ).loc Cert.StepSmallPlainIdeal.main_arg15) = m ((c.tc : Thread Cert.StepSmallPlainIdeal.nD Cert.StepSmallPlainIdeal.τ).loc Cert.StepSmallPlainIdeal.main_arg15)
      ∧ r.2.mem ((c.tc : Thread Cert.StepSmallPlainIdeal.nD Cert.StepSmallPlainIdeal.τ).loc Cert.StepSmallPlainIdeal.main_arg16) = m ((c.tc : Thread Cert.StepSmallPlainIdeal.nD Cert.StepSmallPlainIdeal.τ).loc Cert.StepSmallPlainIdeal.main_arg16)
      ∧ r.2.mem ((c.tc : Thread Cert.StepSmallPlainIdeal.nD Cert.StepSmallPlainIdeal.τ).loc Cert.StepSmallPlainIdeal.main_arg17) = m ((c.tc : Thread Cert.StepSmallPlainIdeal.nD Cert.StepSmallPlainIdeal.τ).loc Cert.StepSmallPlainIdeal.main_arg17)
      ∧ r.2.mem ((c.tc : Thread Cert.StepSmallPlainIdeal.nD Cert.StepSmallPlainIdeal.τ).loc Cert.StepSmallPlainIdeal.main_arg18) = m ((c.tc : Thread Cert.StepSmallPlainIdeal.nD Cert.StepSmallPlainIdeal.τ).loc Cert.StepSmallPlainIdeal.main_arg18)
      ∧ r.2.mem ((c.tc : Thread Cert.StepSmallPlainIdeal.nD Cert.StepSmallPlainIdeal.τ).loc Cert.StepSmallPlainIdeal.main_arg19) = m ((c.tc : Thread Cert.StepSmallPlainIdeal.nD Cert.StepSmallPlainIdeal.τ).loc Cert.StepSmallPlainIdeal.main_arg19)
      ∧ r.2.mem ((c.tc : Thread Cert.StepSmallPlainIdeal.nD Cert.StepSmallPlainIdeal.τ).loc Cert.StepSmallPlainIdeal.main_arg20) = m ((c.tc : Thread Cert.StepSmallPlainIdeal.nD Cert.StepSmallPlainIdeal.τ).loc Cert.StepSmallPlainIdeal.main_arg20)
      ∧ r.2.mem ((c.tc : Thread Cert.StepSmallPlainIdeal.nD Cert.StepSmallPlainIdeal.τ).loc Cert.StepSmallPlainIdeal.main_arg21) = m ((c.tc : Thread Cert.StepSmallPlainIdeal.nD Cert.StepSmallPlainIdeal.τ).loc Cert.StepSmallPlainIdeal.main_arg21)
      ∧ r.2.mem ((c.tc : Thread Cert.StepSmallPlainIdeal.nD Cert.StepSmallPlainIdeal.τ).loc Cert.StepSmallPlainIdeal.main_arg22) = m ((c.tc : Thread Cert.StepSmallPlainIdeal.nD Cert.StepSmallPlainIdeal.τ).loc Cert.StepSmallPlainIdeal.main_arg22)
      ∧ r.2.mem ((c.tc : Thread Cert.StepSmallPlainIdeal.nD Cert.StepSmallPlainIdeal.τ).loc Cert.StepSmallPlainIdeal.main_arg23) = m ((c.tc : Thread Cert.StepSmallPlainIdeal.nD Cert.StepSmallPlainIdeal.τ).loc Cert.StepSmallPlainIdeal.main_arg23)
      ∧ r.2.mem ((c.tc : Thread Cert.StepSmallPlainIdeal.nD Cert.StepSmallPlainIdeal.τ).loc Cert.StepSmallPlainIdeal.main_arg24) = m ((c.tc : Thread Cert.StepSmallPlainIdeal.nD Cert.StepSmallPlainIdeal.τ).loc Cert.StepSmallPlainIdeal.main_arg24)
      ∧ r.2.mem ((c.tc : Thread Cert.StepSmallPlainIdeal.nD Cert.StepSmallPlainIdeal.τ).loc Cert.StepSmallPlainIdeal.main_arg25) = m ((c.tc : Thread Cert.StepSmallPlainIdeal.nD Cert.StepSmallPlainIdeal.τ).loc Cert.StepSmallPlainIdeal.main_arg25)
      ∧ r.2.mem ((c.tc : Thread Cert.StepSmallPlainIdeal.nD Cert.StepSmallPlainIdeal.τ).loc Cert.StepSmallPlainIdeal.main_arg26) = m ((c.tc : Thread Cert.StepSmallPlainIdeal.nD Cert.StepSmallPlainIdeal.τ).loc Cert.StepSmallPlainIdeal.main_arg26)
      ∧ r.2.mem ((c.tc : Thread Cert.StepSmallPlainIdeal.nD Cert.StepSmallPlainIdeal.τ).loc Cert.StepSmallPlainIdeal.main_arg27) = m ((c.tc : Thread Cert.StepSmallPlainIdeal.nD Cert.StepSmallPlainIdeal.τ).loc Cert.StepSmallPlainIdeal.main_arg27)
      ∧ r.2.mem ((c.tc : Thread Cert.StepSmallPlainIdeal.nD Cert.StepSmallPlainIdeal.τ).loc Cert.StepSmallPlainIdeal.main_arg28) = m ((c.tc : Thread Cert.StepSmallPlainIdeal.nD Cert.StepSmallPlainIdeal.τ).loc Cert.StepSmallPlainIdeal.main_arg28)
      ∧ r.2.mem ((c.tc : Thread Cert.StepSmallPlainIdeal.nD Cert.StepSmallPlainIdeal.τ).loc Cert.StepSmallPlainIdeal.main_arg29) = m ((c.tc : Thread Cert.StepSmallPlainIdeal.nD Cert.StepSmallPlainIdeal.τ).loc Cert.StepSmallPlainIdeal.main_arg29)
      ∧ r.2.mem ((c.tc : Thread Cert.StepSmallPlainIdeal.nD Cert.StepSmallPlainIdeal.τ).loc Cert.StepSmallPlainIdeal.main_arg30) = m ((c.tc : Thread Cert.StepSmallPlainIdeal.nD Cert.StepSmallPlainIdeal.τ).loc Cert.StepSmallPlainIdeal.main_arg30)
      ∧ r.2.mem ((c.tc : Thread Cert.StepSmallPlainIdeal.nD Cert.StepSmallPlainIdeal.τ).loc Cert.StepSmallPlainIdeal.main_arg31) = m ((c.tc : Thread Cert.StepSmallPlainIdeal.nD Cert.StepSmallPlainIdeal.τ).loc Cert.StepSmallPlainIdeal.main_arg31)
      ∧ r.2.mem ((c.tc : Thread Cert.StepSmallPlainIdeal.nD Cert.StepSmallPlainIdeal.τ).loc Cert.StepSmallPlainIdeal.main_arg32) = m ((c.tc : Thread Cert.StepSmallPlainIdeal.nD Cert.StepSmallPlainIdeal.τ).loc Cert.StepSmallPlainIdeal.main_arg32)
      ∧ r.2.mem ((c.tc : Thread Cert.StepSmallPlainIdeal.nD Cert.StepSmallPlainIdeal.τ).loc Cert.StepSmallPlainIdeal.main_arg33) = m ((c.tc : Thread Cert.StepSmallPlainIdeal.nD Cert.StepSmallPlainIdeal.τ).loc Cert.StepSmallPlainIdeal.main_arg33)
      ∧ r.2.mem ((c.tc : Thread Cert.StepSmallPlainIdeal.nD Cert.StepSmallPlainIdeal.τ).loc Cert.StepSmallPlainIdeal.main_arg34) = m ((c.tc : Thread Cert.StepSmallPlainIdeal.nD Cert.StepSmallPlainIdeal.τ).loc Cert.StepSmallPlainIdeal.main_arg34)
      ∧ r.2.mem ((c.tc : Thread Cert.StepSmallPlainIdeal.nD Cert.StepSmallPlainIdeal.τ).loc Cert.StepSmallPlainIdeal.main_arg35) = m ((c.tc : Thread Cert.StepSmallPlainIdeal.nD Cert.StepSmallPlainIdeal.τ).loc Cert.StepSmallPlainIdeal.main_arg35)
      ∧ r.2.mem ((c.tc : Thread Cert.StepSmallPlainIdeal.nD Cert.StepSmallPlainIdeal.τ).loc Cert.StepSmallPlainIdeal.main_arg36) = m ((c.tc : Thread Cert.StepSmallPlainIdeal.nD Cert.StepSmallPlainIdeal.τ).loc Cert.StepSmallPlainIdeal.main_arg36)
      ∧ r.2.mem ((c.tc : Thread Cert.StepSmallPlainIdeal.nD Cert.StepSmallPlainIdeal.τ).loc Cert.StepSmallPlainIdeal.main_arg37) = m ((c.tc : Thread Cert.StepSmallPlainIdeal.nD Cert.StepSmallPlainIdeal.τ).loc Cert.StepSmallPlainIdeal.main_arg37)
      ∧ r.2.mem ((c.tc : Thread Cert.StepSmallPlainIdeal.nD Cert.StepSmallPlainIdeal.τ).loc Cert.StepSmallPlainIdeal.main_arg38) = m ((c.tc : Thread Cert.StepSmallPlainIdeal.nD Cert.StepSmallPlainIdeal.τ).loc Cert.StepSmallPlainIdeal.main_arg38)
      ∧ r.2.mem ((c.tc : Thread Cert.StepSmallPlainIdeal.nD Cert.StepSmallPlainIdeal.τ).loc Cert.StepSmallPlainIdeal.main_arg39) = m ((c.tc : Thread Cert.StepSmallPlainIdeal.nD Cert.StepSmallPlainIdeal.τ).loc Cert.StepSmallPlainIdeal.main_arg39))
      ∧ r.2.sem = fun _ => 0)

def quiescent_ShortFwd [hShortFwd : Cert.ShortFwd.Facts] : Prop :=
  ∀ (m : (ℓ : Loc Cert.ShortFwd.nD Cert.ShortFwd.τ Cert.ShortFwd.sig) → Buf (Elt Bits) ℓ) (g : Dev Cert.ShortFwd.nD → PrngReg), Pre_ShortFwd m →
    θ_run (Cert.ShortFwd.defs (F := Bits)) (onTc (τ := Cert.ShortFwd.τ) (Cert.ShortFwd.main (F := Bits))) ⟨m, fun _ => 0, g⟩ (fun r => (∀ c : Dev Cert.ShortFwd.nD,
      r.2.mem ((c.tc : Thread Cert.ShortFwd.nD Cert.ShortFwd.τ).loc Cert.ShortFwd.main_arg0) = m ((c.tc : Thread Cert.ShortFwd.nD Cert.ShortFwd.τ).loc Cert.ShortFwd.main_arg0)
      ∧ r.2.mem ((c.tc : Thread Cert.ShortFwd.nD Cert.ShortFwd.τ).loc Cert.ShortFwd.main_arg1) = m ((c.tc : Thread Cert.ShortFwd.nD Cert.ShortFwd.τ).loc Cert.ShortFwd.main_arg1))
      ∧ r.2.sem = fun _ => 0)

def quiescent_ShortFwdIdeal [hShortFwdIdeal : Cert.ShortFwdIdeal.Facts] : Prop :=
  ∀ (m : (ℓ : Loc Cert.ShortFwdIdeal.nD Cert.ShortFwdIdeal.τ Cert.ShortFwdIdeal.sig) → Buf (Elt Ideal) ℓ) (g : Dev Cert.ShortFwdIdeal.nD → PrngReg), Pre_ShortFwdIdeal m →
    θ_run (Cert.ShortFwdIdeal.defs (F := Ideal)) (onTc (τ := Cert.ShortFwdIdeal.τ) (Cert.ShortFwdIdeal.main (F := Ideal))) ⟨m, fun _ => 0, g⟩ (fun r => (∀ c : Dev Cert.ShortFwdIdeal.nD,
      r.2.mem ((c.tc : Thread Cert.ShortFwdIdeal.nD Cert.ShortFwdIdeal.τ).loc Cert.ShortFwdIdeal.main_arg0) = m ((c.tc : Thread Cert.ShortFwdIdeal.nD Cert.ShortFwdIdeal.τ).loc Cert.ShortFwdIdeal.main_arg0)
      ∧ r.2.mem ((c.tc : Thread Cert.ShortFwdIdeal.nD Cert.ShortFwdIdeal.τ).loc Cert.ShortFwdIdeal.main_arg1) = m ((c.tc : Thread Cert.ShortFwdIdeal.nD Cert.ShortFwdIdeal.τ).loc Cert.ShortFwdIdeal.main_arg1))
      ∧ r.2.sem = fun _ => 0)

def quiescent_ShortFwdPlainIdeal [hShortFwdPlainIdeal : Cert.ShortFwdPlainIdeal.Facts] : Prop :=
  ∀ (m : (ℓ : Loc Cert.ShortFwdPlainIdeal.nD Cert.ShortFwdPlainIdeal.τ Cert.ShortFwdPlainIdeal.sig) → Buf (Elt Ideal) ℓ) (g : Dev Cert.ShortFwdPlainIdeal.nD → PrngReg), Pre_ShortFwdPlainIdeal m →
    θ_run (Cert.ShortFwdPlainIdeal.defs (F := Ideal)) (onTc (τ := Cert.ShortFwdPlainIdeal.τ) (Cert.ShortFwdPlainIdeal.main (F := Ideal))) ⟨m, fun _ => 0, g⟩ (fun r => (∀ c : Dev Cert.ShortFwdPlainIdeal.nD,
      r.2.mem ((c.tc : Thread Cert.ShortFwdPlainIdeal.nD Cert.ShortFwdPlainIdeal.τ).loc Cert.ShortFwdPlainIdeal.main_arg0) = m ((c.tc : Thread Cert.ShortFwdPlainIdeal.nD Cert.ShortFwdPlainIdeal.τ).loc Cert.ShortFwdPlainIdeal.main_arg0)
      ∧ r.2.mem ((c.tc : Thread Cert.ShortFwdPlainIdeal.nD Cert.ShortFwdPlainIdeal.τ).loc Cert.ShortFwdPlainIdeal.main_arg1) = m ((c.tc : Thread Cert.ShortFwdPlainIdeal.nD Cert.ShortFwdPlainIdeal.τ).loc Cert.ShortFwdPlainIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadPlainIdeal [hLossHeadPlainIdeal : Cert.LossHeadPlainIdeal.Facts] : Prop :=
  ∀ (m : (ℓ : Loc Cert.LossHeadPlainIdeal.nD Cert.LossHeadPlainIdeal.τ Cert.LossHeadPlainIdeal.sig) → Buf (Elt Ideal) ℓ) (g : Dev Cert.LossHeadPlainIdeal.nD → PrngReg), Pre_LossHeadPlainIdeal m →
    θ_run (Cert.LossHeadPlainIdeal.defs (F := Ideal)) (onTc (τ := Cert.LossHeadPlainIdeal.τ) (Cert.LossHeadPlainIdeal.main (F := Ideal))) ⟨m, fun _ => 0, g⟩ (fun r => (∀ c : Dev Cert.LossHeadPlainIdeal.nD,
      r.2.mem ((c.tc : Thread Cert.LossHeadPlainIdeal.nD Cert.LossHeadPlainIdeal.τ).loc Cert.LossHeadPlainIdeal.main_arg0) = m ((c.tc : Thread Cert.LossHeadPlainIdeal.nD Cert.LossHeadPlainIdeal.τ).loc Cert.LossHeadPlainIdeal.main_arg0)
      ∧ r.2.mem ((c.tc : Thread Cert.LossHeadPlainIdeal.nD Cert.LossHeadPlainIdeal.τ).loc Cert.LossHeadPlainIdeal.main_arg1) = m ((c.tc : Thread Cert.LossHeadPlainIdeal.nD Cert.LossHeadPlainIdeal.τ).loc Cert.LossHeadPlainIdeal.main_arg1)
      ∧ r.2.mem ((c.tc : Thread Cert.LossHeadPlainIdeal.nD Cert.LossHeadPlainIdeal.τ).loc Cert.LossHeadPlainIdeal.main_arg2) = m ((c.tc : Thread Cert.LossHeadPlainIdeal.nD Cert.LossHeadPlainIdeal.τ).loc Cert.LossHeadPlainIdeal.main_arg2))
      ∧ r.2.sem = fun _ => 0)

def quiescent_SumTop [hSumTop : Cert.SumTop.Facts] : Prop :=
  ∀ (m : (ℓ : Loc Cert.SumTop.nD Cert.SumTop.τ Cert.SumTop.sig) → Buf (Elt Bits) ℓ) (g : Dev Cert.SumTop.nD → PrngReg), Pre_SumTop m →
    θ_run (Cert.SumTop.defs (F := Bits)) (onTc (τ := Cert.SumTop.τ) (Cert.SumTop.main (F := Bits))) ⟨m, fun _ => 0, g⟩ (fun r => (∀ c : Dev Cert.SumTop.nD,
      r.2.mem ((c.tc : Thread Cert.SumTop.nD Cert.SumTop.τ).loc Cert.SumTop.main_arg0) = m ((c.tc : Thread Cert.SumTop.nD Cert.SumTop.τ).loc Cert.SumTop.main_arg0))
      ∧ r.2.sem = fun _ => 0)

def quiescent_SumTopIdeal [hSumTopIdeal : Cert.SumTopIdeal.Facts] : Prop :=
  ∀ (m : (ℓ : Loc Cert.SumTopIdeal.nD Cert.SumTopIdeal.τ Cert.SumTopIdeal.sig) → Buf (Elt Ideal) ℓ) (g : Dev Cert.SumTopIdeal.nD → PrngReg), Pre_SumTopIdeal m →
    θ_run (Cert.SumTopIdeal.defs (F := Ideal)) (onTc (τ := Cert.SumTopIdeal.τ) (Cert.SumTopIdeal.main (F := Ideal))) ⟨m, fun _ => 0, g⟩ (fun r => (∀ c : Dev Cert.SumTopIdeal.nD,
      r.2.mem ((c.tc : Thread Cert.SumTopIdeal.nD Cert.SumTopIdeal.τ).loc Cert.SumTopIdeal.main_arg0) = m ((c.tc : Thread Cert.SumTopIdeal.nD Cert.SumTopIdeal.τ).loc Cert.SumTopIdeal.main_arg0))
      ∧ r.2.sem = fun _ => 0)

def quiescent_SumTopPlainIdeal [hSumTopPlainIdeal : Cert.SumTopPlainIdeal.Facts] : Prop :=
  ∀ (m : (ℓ : Loc Cert.SumTopPlainIdeal.nD Cert.SumTopPlainIdeal.τ Cert.SumTopPlainIdeal.sig) → Buf (Elt Ideal) ℓ) (g : Dev Cert.SumTopPlainIdeal.nD → PrngReg), Pre_SumTopPlainIdeal m →
    θ_run (Cert.SumTopPlainIdeal.defs (F := Ideal)) (onTc (τ := Cert.SumTopPlainIdeal.τ) (Cert.SumTopPlainIdeal.main (F := Ideal))) ⟨m, fun _ => 0, g⟩ (fun r => (∀ c : Dev Cert.SumTopPlainIdeal.nD,
      r.2.mem ((c.tc : Thread Cert.SumTopPlainIdeal.nD Cert.SumTopPlainIdeal.τ).loc Cert.SumTopPlainIdeal.main_arg0) = m ((c.tc : Thread Cert.SumTopPlainIdeal.nD Cert.SumTopPlainIdeal.τ).loc Cert.SumTopPlainIdeal.main_arg0))
      ∧ r.2.sem = fun _ => 0)

def quiescent_SumBottom [hSumBottom : Cert.SumBottom.Facts] : Prop :=
  ∀ (m : (ℓ : Loc Cert.SumBottom.nD Cert.SumBottom.τ Cert.SumBottom.sig) → Buf (Elt Bits) ℓ) (g : Dev Cert.SumBottom.nD → PrngReg), Pre_SumBottom m →
    θ_run (Cert.SumBottom.defs (F := Bits)) (onTc (τ := Cert.SumBottom.τ) (Cert.SumBottom.main (F := Bits))) ⟨m, fun _ => 0, g⟩ (fun r => (∀ c : Dev Cert.SumBottom.nD,
      r.2.mem ((c.tc : Thread Cert.SumBottom.nD Cert.SumBottom.τ).loc Cert.SumBottom.main_arg0) = m ((c.tc : Thread Cert.SumBottom.nD Cert.SumBottom.τ).loc Cert.SumBottom.main_arg0))
      ∧ r.2.sem = fun _ => 0)

def quiescent_SumBottomIdeal [hSumBottomIdeal : Cert.SumBottomIdeal.Facts] : Prop :=
  ∀ (m : (ℓ : Loc Cert.SumBottomIdeal.nD Cert.SumBottomIdeal.τ Cert.SumBottomIdeal.sig) → Buf (Elt Ideal) ℓ) (g : Dev Cert.SumBottomIdeal.nD → PrngReg), Pre_SumBottomIdeal m →
    θ_run (Cert.SumBottomIdeal.defs (F := Ideal)) (onTc (τ := Cert.SumBottomIdeal.τ) (Cert.SumBottomIdeal.main (F := Ideal))) ⟨m, fun _ => 0, g⟩ (fun r => (∀ c : Dev Cert.SumBottomIdeal.nD,
      r.2.mem ((c.tc : Thread Cert.SumBottomIdeal.nD Cert.SumBottomIdeal.τ).loc Cert.SumBottomIdeal.main_arg0) = m ((c.tc : Thread Cert.SumBottomIdeal.nD Cert.SumBottomIdeal.τ).loc Cert.SumBottomIdeal.main_arg0))
      ∧ r.2.sem = fun _ => 0)

def quiescent_SumBottomPlainIdeal [hSumBottomPlainIdeal : Cert.SumBottomPlainIdeal.Facts] : Prop :=
  ∀ (m : (ℓ : Loc Cert.SumBottomPlainIdeal.nD Cert.SumBottomPlainIdeal.τ Cert.SumBottomPlainIdeal.sig) → Buf (Elt Ideal) ℓ) (g : Dev Cert.SumBottomPlainIdeal.nD → PrngReg), Pre_SumBottomPlainIdeal m →
    θ_run (Cert.SumBottomPlainIdeal.defs (F := Ideal)) (onTc (τ := Cert.SumBottomPlainIdeal.τ) (Cert.SumBottomPlainIdeal.main (F := Ideal))) ⟨m, fun _ => 0, g⟩ (fun r => (∀ c : Dev Cert.SumBottomPlainIdeal.nD,
      r.2.mem ((c.tc : Thread Cert.SumBottomPlainIdeal.nD Cert.SumBottomPlainIdeal.τ).loc Cert.SumBottomPlainIdeal.main_arg0) = m ((c.tc : Thread Cert.SumBottomPlainIdeal.nD Cert.SumBottomPlainIdeal.τ).loc Cert.SumBottomPlainIdeal.main_arg0))
      ∧ r.2.sem = fun _ => 0)

def quiescent_SumRows [hSumRows : Cert.SumRows.Facts] : Prop :=
  ∀ (m : (ℓ : Loc Cert.SumRows.nD Cert.SumRows.τ Cert.SumRows.sig) → Buf (Elt Bits) ℓ) (g : Dev Cert.SumRows.nD → PrngReg), Pre_SumRows m →
    θ_run (Cert.SumRows.defs (F := Bits)) (onTc (τ := Cert.SumRows.τ) (Cert.SumRows.main (F := Bits))) ⟨m, fun _ => 0, g⟩ (fun r => (∀ c : Dev Cert.SumRows.nD,
      r.2.mem ((c.tc : Thread Cert.SumRows.nD Cert.SumRows.τ).loc Cert.SumRows.main_arg0) = m ((c.tc : Thread Cert.SumRows.nD Cert.SumRows.τ).loc Cert.SumRows.main_arg0))
      ∧ r.2.sem = fun _ => 0)

def quiescent_SumRowsIdeal [hSumRowsIdeal : Cert.SumRowsIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg), Pre_SumRowsIdeal m →
    θ_run (Cert.SumRowsIdeal.defs (F := Ideal)) (onTc (τ := Cert.SumRowsIdeal.τ) (Cert.SumRowsIdeal.main (F := Ideal))) ⟨m, fun _ => 0, g⟩ (fun r => (∀ c : Dev Cert.SumRowsIdeal.nD,
      r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0))
      ∧ r.2.sem = fun _ => 0)

def quiescent_SumRowsPlainIdeal [hSumRowsPlainIdeal : Cert.SumRowsPlainIdeal.Facts] : Prop :=
  ∀ (m : (ℓ : Loc Cert.SumRowsPlainIdeal.nD Cert.SumRowsPlainIdeal.τ Cert.SumRowsPlainIdeal.sig) → Buf (Elt Ideal) ℓ) (g : Dev Cert.SumRowsPlainIdeal.nD → PrngReg), Pre_SumRowsPlainIdeal m →
    θ_run (Cert.SumRowsPlainIdeal.defs (F := Ideal)) (onTc (τ := Cert.SumRowsPlainIdeal.τ) (Cert.SumRowsPlainIdeal.main (F := Ideal))) ⟨m, fun _ => 0, g⟩ (fun r => (∀ c : Dev Cert.SumRowsPlainIdeal.nD,
      r.2.mem ((c.tc : Thread Cert.SumRowsPlainIdeal.nD Cert.SumRowsPlainIdeal.τ).loc Cert.SumRowsPlainIdeal.main_arg0) = m ((c.tc : Thread Cert.SumRowsPlainIdeal.nD Cert.SumRowsPlainIdeal.τ).loc Cert.SumRowsPlainIdeal.main_arg0))
      ∧ r.2.sem = fun _ => 0)

def quiescent_SumCols [hSumCols : Cert.SumCols.Facts] : Prop :=
  ∀ (m : (ℓ : Loc Cert.SumCols.nD Cert.SumCols.τ Cert.SumCols.sig) → Buf (Elt Bits) ℓ) (g : Dev Cert.SumCols.nD → PrngReg), Pre_SumCols m →
    θ_run (Cert.SumCols.defs (F := Bits)) (onTc (τ := Cert.SumCols.τ) (Cert.SumCols.main (F := Bits))) ⟨m, fun _ => 0, g⟩ (fun r => (∀ c : Dev Cert.SumCols.nD,
      r.2.mem ((c.tc : Thread Cert.SumCols.nD Cert.SumCols.τ).loc Cert.SumCols.main_arg0) = m ((c.tc : Thread Cert.SumCols.nD Cert.SumCols.τ).loc Cert.SumCols.main_arg0))
      ∧ r.2.sem = fun _ => 0)

def quiescent_SumColsIdeal [hSumColsIdeal : Cert.SumColsIdeal.Facts] : Prop :=
  ∀ (m : (ℓ : Loc Cert.SumColsIdeal.nD Cert.SumColsIdeal.τ Cert.SumColsIdeal.sig) → Buf (Elt Ideal) ℓ) (g : Dev Cert.SumColsIdeal.nD → PrngReg), Pre_SumColsIdeal m →
    θ_run (Cert.SumColsIdeal.defs (F := Ideal)) (onTc (τ := Cert.SumColsIdeal.τ) (Cert.SumColsIdeal.main (F := Ideal))) ⟨m, fun _ => 0, g⟩ (fun r => (∀ c : Dev Cert.SumColsIdeal.nD,
      r.2.mem ((c.tc : Thread Cert.SumColsIdeal.nD Cert.SumColsIdeal.τ).loc Cert.SumColsIdeal.main_arg0) = m ((c.tc : Thread Cert.SumColsIdeal.nD Cert.SumColsIdeal.τ).loc Cert.SumColsIdeal.main_arg0))
      ∧ r.2.sem = fun _ => 0)

def quiescent_SumColsPlainIdeal [hSumColsPlainIdeal : Cert.SumColsPlainIdeal.Facts] : Prop :=
  ∀ (m : (ℓ : Loc Cert.SumColsPlainIdeal.nD Cert.SumColsPlainIdeal.τ Cert.SumColsPlainIdeal.sig) → Buf (Elt Ideal) ℓ) (g : Dev Cert.SumColsPlainIdeal.nD → PrngReg), Pre_SumColsPlainIdeal m →
    θ_run (Cert.SumColsPlainIdeal.defs (F := Ideal)) (onTc (τ := Cert.SumColsPlainIdeal.τ) (Cert.SumColsPlainIdeal.main (F := Ideal))) ⟨m, fun _ => 0, g⟩ (fun r => (∀ c : Dev Cert.SumColsPlainIdeal.nD,
      r.2.mem ((c.tc : Thread Cert.SumColsPlainIdeal.nD Cert.SumColsPlainIdeal.τ).loc Cert.SumColsPlainIdeal.main_arg0) = m ((c.tc : Thread Cert.SumColsPlainIdeal.nD Cert.SumColsPlainIdeal.τ).loc Cert.SumColsPlainIdeal.main_arg0))
      ∧ r.2.sem = fun _ => 0)

def quiescent_SumSquare [hSumSquare : Cert.SumSquare.Facts] : Prop :=
  ∀ (m : (ℓ : Loc Cert.SumSquare.nD Cert.SumSquare.τ Cert.SumSquare.sig) → Buf (Elt Bits) ℓ) (g : Dev Cert.SumSquare.nD → PrngReg), Pre_SumSquare m →
    θ_run (Cert.SumSquare.defs (F := Bits)) (onTc (τ := Cert.SumSquare.τ) (Cert.SumSquare.main (F := Bits))) ⟨m, fun _ => 0, g⟩ (fun r => (∀ c : Dev Cert.SumSquare.nD,
      r.2.mem ((c.tc : Thread Cert.SumSquare.nD Cert.SumSquare.τ).loc Cert.SumSquare.main_arg0) = m ((c.tc : Thread Cert.SumSquare.nD Cert.SumSquare.τ).loc Cert.SumSquare.main_arg0))
      ∧ r.2.sem = fun _ => 0)

def quiescent_SumSquareIdeal [hSumSquareIdeal : Cert.SumSquareIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg), Pre_SumSquareIdeal m →
    θ_run (Cert.SumSquareIdeal.defs (F := Ideal)) (onTc (τ := Cert.SumSquareIdeal.τ) (Cert.SumSquareIdeal.main (F := Ideal))) ⟨m, fun _ => 0, g⟩ (fun r => (∀ c : Dev Cert.SumSquareIdeal.nD,
      r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0))
      ∧ r.2.sem = fun _ => 0)

def quiescent_SumSquarePlainIdeal [hSumSquarePlainIdeal : Cert.SumSquarePlainIdeal.Facts] : Prop :=
  ∀ (m : (ℓ : Loc Cert.SumSquarePlainIdeal.nD Cert.SumSquarePlainIdeal.τ Cert.SumSquarePlainIdeal.sig) → Buf (Elt Ideal) ℓ) (g : Dev Cert.SumSquarePlainIdeal.nD → PrngReg), Pre_SumSquarePlainIdeal m →
    θ_run (Cert.SumSquarePlainIdeal.defs (F := Ideal)) (onTc (τ := Cert.SumSquarePlainIdeal.τ) (Cert.SumSquarePlainIdeal.main (F := Ideal))) ⟨m, fun _ => 0, g⟩ (fun r => (∀ c : Dev Cert.SumSquarePlainIdeal.nD,
      r.2.mem ((c.tc : Thread Cert.SumSquarePlainIdeal.nD Cert.SumSquarePlainIdeal.τ).loc Cert.SumSquarePlainIdeal.main_arg0) = m ((c.tc : Thread Cert.SumSquarePlainIdeal.nD Cert.SumSquarePlainIdeal.τ).loc Cert.SumSquarePlainIdeal.main_arg0))
      ∧ r.2.sem = fun _ => 0)

def quiescent_BiasReduce [hBiasReduce : Cert.BiasReduce.Facts] : Prop :=
  ∀ (m : (ℓ : Loc Cert.BiasReduce.nD Cert.BiasReduce.τ Cert.BiasReduce.sig) → Buf (Elt Bits) ℓ) (g : Dev Cert.BiasReduce.nD → PrngReg), Pre_BiasReduce m →
    θ_run (Cert.BiasReduce.defs (F := Bits)) (onTc (τ := Cert.BiasReduce.τ) (Cert.BiasReduce.main (F := Bits))) ⟨m, fun _ => 0, g⟩ (fun r => (∀ c : Dev Cert.BiasReduce.nD,
      r.2.mem ((c.tc : Thread Cert.BiasReduce.nD Cert.BiasReduce.τ).loc Cert.BiasReduce.main_arg0) = m ((c.tc : Thread Cert.BiasReduce.nD Cert.BiasReduce.τ).loc Cert.BiasReduce.main_arg0)
      ∧ r.2.mem ((c.tc : Thread Cert.BiasReduce.nD Cert.BiasReduce.τ).loc Cert.BiasReduce.main_arg1) = m ((c.tc : Thread Cert.BiasReduce.nD Cert.BiasReduce.τ).loc Cert.BiasReduce.main_arg1))
      ∧ r.2.sem = fun _ => 0)

def quiescent_BiasReduceIdeal [hBiasReduceIdeal : Cert.BiasReduceIdeal.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg), Pre_BiasReduceIdeal m →
    θ_run (Cert.BiasReduceIdeal.defs (F := Ideal)) (onTc (τ := Cert.BiasReduceIdeal.τ) (Cert.BiasReduceIdeal.main (F := Ideal))) ⟨m, fun _ => 0, g⟩ (fun r => (∀ c : Dev Cert.BiasReduceIdeal.nD,
      r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
      ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ r.2.sem = fun _ => 0)

def quiescent_BiasReducePlainIdeal [hBiasReducePlainIdeal : Cert.BiasReducePlainIdeal.Facts] : Prop :=
  ∀ (m : (ℓ : Loc Cert.BiasReducePlainIdeal.nD Cert.BiasReducePlainIdeal.τ Cert.BiasReducePlainIdeal.sig) → Buf (Elt Ideal) ℓ) (g : Dev Cert.BiasReducePlainIdeal.nD → PrngReg), Pre_BiasReducePlainIdeal m →
    θ_run (Cert.BiasReducePlainIdeal.defs (F := Ideal)) (onTc (τ := Cert.BiasReducePlainIdeal.τ) (Cert.BiasReducePlainIdeal.main (F := Ideal))) ⟨m, fun _ => 0, g⟩ (fun r => (∀ c : Dev Cert.BiasReducePlainIdeal.nD,
      r.2.mem ((c.tc : Thread Cert.BiasReducePlainIdeal.nD Cert.BiasReducePlainIdeal.τ).loc Cert.BiasReducePlainIdeal.main_arg0) = m ((c.tc : Thread Cert.BiasReducePlainIdeal.nD Cert.BiasReducePlainIdeal.τ).loc Cert.BiasReducePlainIdeal.main_arg0)
      ∧ r.2.mem ((c.tc : Thread Cert.BiasReducePlainIdeal.nD Cert.BiasReducePlainIdeal.τ).loc Cert.BiasReducePlainIdeal.main_arg1) = m ((c.tc : Thread Cert.BiasReducePlainIdeal.nD Cert.BiasReducePlainIdeal.τ).loc Cert.BiasReducePlainIdeal.main_arg1))
      ∧ r.2.sem = fun _ => 0)

def quiescent_BiasExpand [hBiasExpand : Cert.BiasExpand.Facts] : Prop :=
  ∀ (m : (ℓ : Loc Cert.BiasExpand.nD Cert.BiasExpand.τ Cert.BiasExpand.sig) → Buf (Elt Bits) ℓ) (g : Dev Cert.BiasExpand.nD → PrngReg), Pre_BiasExpand m →
    θ_run (Cert.BiasExpand.defs (F := Bits)) (onTc (τ := Cert.BiasExpand.τ) (Cert.BiasExpand.main (F := Bits))) ⟨m, fun _ => 0, g⟩ (fun r => (∀ c : Dev Cert.BiasExpand.nD,
      r.2.mem ((c.tc : Thread Cert.BiasExpand.nD Cert.BiasExpand.τ).loc Cert.BiasExpand.main_arg0) = m ((c.tc : Thread Cert.BiasExpand.nD Cert.BiasExpand.τ).loc Cert.BiasExpand.main_arg0)
      ∧ r.2.mem ((c.tc : Thread Cert.BiasExpand.nD Cert.BiasExpand.τ).loc Cert.BiasExpand.main_arg1) = m ((c.tc : Thread Cert.BiasExpand.nD Cert.BiasExpand.τ).loc Cert.BiasExpand.main_arg1))
      ∧ r.2.sem = fun _ => 0)

def quiescent_BiasExpandIdeal [hBiasExpandIdeal : Cert.BiasExpandIdeal.Facts] : Prop :=
  ∀ (m : (ℓ : Loc Cert.BiasExpandIdeal.nD Cert.BiasExpandIdeal.τ Cert.BiasExpandIdeal.sig) → Buf (Elt Ideal) ℓ) (g : Dev Cert.BiasExpandIdeal.nD → PrngReg), Pre_BiasExpandIdeal m →
    θ_run (Cert.BiasExpandIdeal.defs (F := Ideal)) (onTc (τ := Cert.BiasExpandIdeal.τ) (Cert.BiasExpandIdeal.main (F := Ideal))) ⟨m, fun _ => 0, g⟩ (fun r => (∀ c : Dev Cert.BiasExpandIdeal.nD,
      r.2.mem ((c.tc : Thread Cert.BiasExpandIdeal.nD Cert.BiasExpandIdeal.τ).loc Cert.BiasExpandIdeal.main_arg0) = m ((c.tc : Thread Cert.BiasExpandIdeal.nD Cert.BiasExpandIdeal.τ).loc Cert.BiasExpandIdeal.main_arg0)
      ∧ r.2.mem ((c.tc : Thread Cert.BiasExpandIdeal.nD Cert.BiasExpandIdeal.τ).loc Cert.BiasExpandIdeal.main_arg1) = m ((c.tc : Thread Cert.BiasExpandIdeal.nD Cert.BiasExpandIdeal.τ).loc Cert.BiasExpandIdeal.main_arg1))
      ∧ r.2.sem = fun _ => 0)

def quiescent_BiasExpandPlainIdeal [hBiasExpandPlainIdeal : Cert.BiasExpandPlainIdeal.Facts] : Prop :=
  ∀ (m : (ℓ : Loc Cert.BiasExpandPlainIdeal.nD Cert.BiasExpandPlainIdeal.τ Cert.BiasExpandPlainIdeal.sig) → Buf (Elt Ideal) ℓ) (g : Dev Cert.BiasExpandPlainIdeal.nD → PrngReg), Pre_BiasExpandPlainIdeal m →
    θ_run (Cert.BiasExpandPlainIdeal.defs (F := Ideal)) (onTc (τ := Cert.BiasExpandPlainIdeal.τ) (Cert.BiasExpandPlainIdeal.main (F := Ideal))) ⟨m, fun _ => 0, g⟩ (fun r => (∀ c : Dev Cert.BiasExpandPlainIdeal.nD,
      r.2.mem ((c.tc : Thread Cert.BiasExpandPlainIdeal.nD Cert.BiasExpandPlainIdeal.τ).loc Cert.BiasExpandPlainIdeal.main_arg0) = m ((c.tc : Thread Cert.BiasExpandPlainIdeal.nD Cert.BiasExpandPlainIdeal.τ).loc Cert.BiasExpandPlainIdeal.main_arg0)
      ∧ r.2.mem ((c.tc : Thread Cert.BiasExpandPlainIdeal.nD Cert.BiasExpandPlainIdeal.τ).loc Cert.BiasExpandPlainIdeal.main_arg1) = m ((c.tc : Thread Cert.BiasExpandPlainIdeal.nD Cert.BiasExpandPlainIdeal.τ).loc Cert.BiasExpandPlainIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxPlainIdeal [hDownDxIdeal : Cert.DownDxIdeal.Facts] [hDownDxPlainIdeal : Cert.DownDxPlainIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxPlainIdeal.nD Cert.DownDxPlainIdeal.τ Cert.DownDxPlainIdeal.sig) → Buf (Elt Ideal) ℓ) (g' : Dev Cert.DownDxPlainIdeal.nD → PrngReg), Pre_DownDxIdeal m →
    (∀ c : Dev Cert.DownDxIdeal.nD,
      m' ((c.tc : Thread Cert.DownDxPlainIdeal.nD Cert.DownDxPlainIdeal.τ).loc Cert.DownDxPlainIdeal.main_arg0) = m ((c.tc : Thread Cert.DownDxIdeal.nD Cert.DownDxIdeal.τ).loc Cert.DownDxIdeal.main_arg0)
      ∧ m' ((c.tc : Thread Cert.DownDxPlainIdeal.nD Cert.DownDxPlainIdeal.τ).loc Cert.DownDxPlainIdeal.main_arg1) = m ((c.tc : Thread Cert.DownDxIdeal.nD Cert.DownDxIdeal.τ).loc Cert.DownDxIdeal.main_arg1)
      ∧ m' ((c.tc : Thread Cert.DownDxPlainIdeal.nD Cert.DownDxPlainIdeal.τ).loc Cert.DownDxPlainIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v4)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v4) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxPlainIdeal.defs (F := Ideal)) (onTc (τ := Cert.DownDxPlainIdeal.τ) (Cert.DownDxPlainIdeal.main (F := Ideal))) ⟨m', fun _ => 0, g'⟩ (fun r => ∀ c : Dev Cert.DownDxPlainIdeal.nD,
          r.2.mem ((c.tc : Thread Cert.DownDxPlainIdeal.nD Cert.DownDxPlainIdeal.τ).loc Cert.DownDxPlainIdeal.main_v12) = v0 c
          ∧ r.2.mem ((c.tc : Thread Cert.DownDxPlainIdeal.nD Cert.DownDxPlainIdeal.τ).loc Cert.DownDxPlainIdeal.main_arg0) = m' ((c.tc : Thread Cert.DownDxPlainIdeal.nD Cert.DownDxPlainIdeal.τ).loc Cert.DownDxPlainIdeal.main_arg0)
          ∧ r.2.mem ((c.tc : Thread Cert.DownDxPlainIdeal.nD Cert.DownDxPlainIdeal.τ).loc Cert.DownDxPlainIdeal.main_arg1) = m' ((c.tc : Thread Cert.DownDxPlainIdeal.nD Cert.DownDxPlainIdeal.τ).loc Cert.DownDxPlainIdeal.main_arg1)
          ∧ r.2.mem ((c.tc : Thread Cert.DownDxPlainIdeal.nD Cert.DownDxPlainIdeal.τ).loc Cert.DownDxPlainIdeal.main_arg2) = m' ((c.tc : Thread Cert.DownDxPlainIdeal.nD Cert.DownDxPlainIdeal.τ).loc Cert.DownDxPlainIdeal.main_arg2))

def preserves_DownDw_DownDwIdeal : Prop :=
  True

def algebraic_DownDwIdeal_DownDwPlainIdeal [hDownDwIdeal : Cert.DownDwIdeal.Facts] [hDownDwPlainIdeal : Cert.DownDwPlainIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwPlainIdeal.nD Cert.DownDwPlainIdeal.τ Cert.DownDwPlainIdeal.sig) → Buf (Elt Ideal) ℓ) (g' : Dev Cert.DownDwPlainIdeal.nD → PrngReg), Pre_DownDwIdeal m →
    (∀ c : Dev Cert.DownDwIdeal.nD,
      m' ((c.tc : Thread Cert.DownDwPlainIdeal.nD Cert.DownDwPlainIdeal.τ).loc Cert.DownDwPlainIdeal.main_arg0) = m ((c.tc : Thread Cert.DownDwIdeal.nD Cert.DownDwIdeal.τ).loc Cert.DownDwIdeal.main_arg0)
      ∧ m' ((c.tc : Thread Cert.DownDwPlainIdeal.nD Cert.DownDwPlainIdeal.τ).loc Cert.DownDwPlainIdeal.main_arg1) = m ((c.tc : Thread Cert.DownDwIdeal.nD Cert.DownDwIdeal.τ).loc Cert.DownDwIdeal.main_arg1)
      ∧ m' ((c.tc : Thread Cert.DownDwPlainIdeal.nD Cert.DownDwPlainIdeal.τ).loc Cert.DownDwPlainIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v3)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v3) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwPlainIdeal.defs (F := Ideal)) (onTc (τ := Cert.DownDwPlainIdeal.τ) (Cert.DownDwPlainIdeal.main (F := Ideal))) ⟨m', fun _ => 0, g'⟩ (fun r => ∀ c : Dev Cert.DownDwPlainIdeal.nD,
          r.2.mem ((c.tc : Thread Cert.DownDwPlainIdeal.nD Cert.DownDwPlainIdeal.τ).loc Cert.DownDwPlainIdeal.main_v5) = v0 c
          ∧ r.2.mem ((c.tc : Thread Cert.DownDwPlainIdeal.nD Cert.DownDwPlainIdeal.τ).loc Cert.DownDwPlainIdeal.main_arg0) = m' ((c.tc : Thread Cert.DownDwPlainIdeal.nD Cert.DownDwPlainIdeal.τ).loc Cert.DownDwPlainIdeal.main_arg0)
          ∧ r.2.mem ((c.tc : Thread Cert.DownDwPlainIdeal.nD Cert.DownDwPlainIdeal.τ).loc Cert.DownDwPlainIdeal.main_arg1) = m' ((c.tc : Thread Cert.DownDwPlainIdeal.nD Cert.DownDwPlainIdeal.τ).loc Cert.DownDwPlainIdeal.main_arg1)
          ∧ r.2.mem ((c.tc : Thread Cert.DownDwPlainIdeal.nD Cert.DownDwPlainIdeal.τ).loc Cert.DownDwPlainIdeal.main_arg2) = m' ((c.tc : Thread Cert.DownDwPlainIdeal.nD Cert.DownDwPlainIdeal.τ).loc Cert.DownDwPlainIdeal.main_arg2))

def preserves_UpDx_UpDxIdeal : Prop :=
  True

def algebraic_UpDxIdeal_UpDxPlainIdeal [hUpDxIdeal : Cert.UpDxIdeal.Facts] [hUpDxPlainIdeal : Cert.UpDxPlainIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxPlainIdeal.nD Cert.UpDxPlainIdeal.τ Cert.UpDxPlainIdeal.sig) → Buf (Elt Ideal) ℓ) (g' : Dev Cert.UpDxPlainIdeal.nD → PrngReg), Pre_UpDxIdeal m →
    (∀ c : Dev Cert.UpDxIdeal.nD,
      m' ((c.tc : Thread Cert.UpDxPlainIdeal.nD Cert.UpDxPlainIdeal.τ).loc Cert.UpDxPlainIdeal.main_arg0) = m ((c.tc : Thread Cert.UpDxIdeal.nD Cert.UpDxIdeal.τ).loc Cert.UpDxIdeal.main_arg0)
      ∧ m' ((c.tc : Thread Cert.UpDxPlainIdeal.nD Cert.UpDxPlainIdeal.τ).loc Cert.UpDxPlainIdeal.main_arg1) = m ((c.tc : Thread Cert.UpDxIdeal.nD Cert.UpDxIdeal.τ).loc Cert.UpDxIdeal.main_arg1)
      ∧ m' ((c.tc : Thread Cert.UpDxPlainIdeal.nD Cert.UpDxPlainIdeal.τ).loc Cert.UpDxPlainIdeal.main_arg2) = m ((c.tc : Thread Cert.UpDxIdeal.nD Cert.UpDxIdeal.τ).loc Cert.UpDxIdeal.main_arg2)
      ∧ m' ((c.tc : Thread Cert.UpDxPlainIdeal.nD Cert.UpDxPlainIdeal.τ).loc Cert.UpDxPlainIdeal.main_arg3) = m ((c.tc : Thread Cert.UpDxIdeal.nD Cert.UpDxIdeal.τ).loc Cert.UpDxIdeal.main_arg3)
      ∧ m' ((c.tc : Thread Cert.UpDxPlainIdeal.nD Cert.UpDxPlainIdeal.τ).loc Cert.UpDxPlainIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v2_0)) (v1 : (c : Dev Cert.UpDxIdeal.nD) → Buf (Elt Ideal) ((c.tc : Thread Cert.UpDxIdeal.nD Cert.UpDxIdeal.τ).loc Cert.UpDxIdeal.main_v2_1)) (v2 : (c : Dev Cert.UpDxIdeal.nD) → Buf (Elt Ideal) ((c.tc : Thread Cert.UpDxIdeal.nD Cert.UpDxIdeal.τ).loc Cert.UpDxIdeal.main_v2_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2_0) = v0 c
          ∧ r.2.mem ((c.tc : Thread Cert.UpDxIdeal.nD Cert.UpDxIdeal.τ).loc Cert.UpDxIdeal.main_v2_1) = v1 c
          ∧ r.2.mem ((c.tc : Thread Cert.UpDxIdeal.nD Cert.UpDxIdeal.τ).loc Cert.UpDxIdeal.main_v2_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxPlainIdeal.defs (F := Ideal)) (onTc (τ := Cert.UpDxPlainIdeal.τ) (Cert.UpDxPlainIdeal.main (F := Ideal))) ⟨m', fun _ => 0, g'⟩ (fun r => ∀ c : Dev Cert.UpDxPlainIdeal.nD,
          r.2.mem ((c.tc : Thread Cert.UpDxPlainIdeal.nD Cert.UpDxPlainIdeal.τ).loc Cert.UpDxPlainIdeal.main_v36) = v0 c
          ∧ r.2.mem ((c.tc : Thread Cert.UpDxPlainIdeal.nD Cert.UpDxPlainIdeal.τ).loc Cert.UpDxPlainIdeal.main_v37) = v1 c
          ∧ r.2.mem ((c.tc : Thread Cert.UpDxPlainIdeal.nD Cert.UpDxPlainIdeal.τ).loc Cert.UpDxPlainIdeal.main_v19) = v2 c
          ∧ r.2.mem ((c.tc : Thread Cert.UpDxPlainIdeal.nD Cert.UpDxPlainIdeal.τ).loc Cert.UpDxPlainIdeal.main_arg0) = m' ((c.tc : Thread Cert.UpDxPlainIdeal.nD Cert.UpDxPlainIdeal.τ).loc Cert.UpDxPlainIdeal.main_arg0)
          ∧ r.2.mem ((c.tc : Thread Cert.UpDxPlainIdeal.nD Cert.UpDxPlainIdeal.τ).loc Cert.UpDxPlainIdeal.main_arg1) = m' ((c.tc : Thread Cert.UpDxPlainIdeal.nD Cert.UpDxPlainIdeal.τ).loc Cert.UpDxPlainIdeal.main_arg1)
          ∧ r.2.mem ((c.tc : Thread Cert.UpDxPlainIdeal.nD Cert.UpDxPlainIdeal.τ).loc Cert.UpDxPlainIdeal.main_arg2) = m' ((c.tc : Thread Cert.UpDxPlainIdeal.nD Cert.UpDxPlainIdeal.τ).loc Cert.UpDxPlainIdeal.main_arg2)
          ∧ r.2.mem ((c.tc : Thread Cert.UpDxPlainIdeal.nD Cert.UpDxPlainIdeal.τ).loc Cert.UpDxPlainIdeal.main_arg3) = m' ((c.tc : Thread Cert.UpDxPlainIdeal.nD Cert.UpDxPlainIdeal.τ).loc Cert.UpDxPlainIdeal.main_arg3)
          ∧ r.2.mem ((c.tc : Thread Cert.UpDxPlainIdeal.nD Cert.UpDxPlainIdeal.τ).loc Cert.UpDxPlainIdeal.main_arg4) = m' ((c.tc : Thread Cert.UpDxPlainIdeal.nD Cert.UpDxPlainIdeal.τ).loc Cert.UpDxPlainIdeal.main_arg4))

def preserves_UpDw_UpDwIdeal : Prop :=
  True

def algebraic_UpDwIdeal_UpDwPlainIdeal [hUpDwIdeal : Cert.UpDwIdeal.Facts] [hUpDwPlainIdeal : Cert.UpDwPlainIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwPlainIdeal.nD Cert.UpDwPlainIdeal.τ Cert.UpDwPlainIdeal.sig) → Buf (Elt Ideal) ℓ) (g' : Dev Cert.UpDwPlainIdeal.nD → PrngReg), Pre_UpDwIdeal m →
    (∀ c : Dev Cert.UpDwIdeal.nD,
      m' ((c.tc : Thread Cert.UpDwPlainIdeal.nD Cert.UpDwPlainIdeal.τ).loc Cert.UpDwPlainIdeal.main_arg0) = m ((c.tc : Thread Cert.UpDwIdeal.nD Cert.UpDwIdeal.τ).loc Cert.UpDwIdeal.main_arg0)
      ∧ m' ((c.tc : Thread Cert.UpDwPlainIdeal.nD Cert.UpDwPlainIdeal.τ).loc Cert.UpDwPlainIdeal.main_arg1) = m ((c.tc : Thread Cert.UpDwIdeal.nD Cert.UpDwIdeal.τ).loc Cert.UpDwIdeal.main_arg1)
      ∧ m' ((c.tc : Thread Cert.UpDwPlainIdeal.nD Cert.UpDwPlainIdeal.τ).loc Cert.UpDwPlainIdeal.main_arg2) = m ((c.tc : Thread Cert.UpDwIdeal.nD Cert.UpDwIdeal.τ).loc Cert.UpDwIdeal.main_arg2)
      ∧ m' ((c.tc : Thread Cert.UpDwPlainIdeal.nD Cert.UpDwPlainIdeal.τ).loc Cert.UpDwPlainIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v14)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v14) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwPlainIdeal.defs (F := Ideal)) (onTc (τ := Cert.UpDwPlainIdeal.τ) (Cert.UpDwPlainIdeal.main (F := Ideal))) ⟨m', fun _ => 0, g'⟩ (fun r => ∀ c : Dev Cert.UpDwPlainIdeal.nD,
          r.2.mem ((c.tc : Thread Cert.UpDwPlainIdeal.nD Cert.UpDwPlainIdeal.τ).loc Cert.UpDwPlainIdeal.main_v15) = v0 c
          ∧ r.2.mem ((c.tc : Thread Cert.UpDwPlainIdeal.nD Cert.UpDwPlainIdeal.τ).loc Cert.UpDwPlainIdeal.main_arg0) = m' ((c.tc : Thread Cert.UpDwPlainIdeal.nD Cert.UpDwPlainIdeal.τ).loc Cert.UpDwPlainIdeal.main_arg0)
          ∧ r.2.mem ((c.tc : Thread Cert.UpDwPlainIdeal.nD Cert.UpDwPlainIdeal.τ).loc Cert.UpDwPlainIdeal.main_arg1) = m' ((c.tc : Thread Cert.UpDwPlainIdeal.nD Cert.UpDwPlainIdeal.τ).loc Cert.UpDwPlainIdeal.main_arg1)
          ∧ r.2.mem ((c.tc : Thread Cert.UpDwPlainIdeal.nD Cert.UpDwPlainIdeal.τ).loc Cert.UpDwPlainIdeal.main_arg2) = m' ((c.tc : Thread Cert.UpDwPlainIdeal.nD Cert.UpDwPlainIdeal.τ).loc Cert.UpDwPlainIdeal.main_arg2)
          ∧ r.2.mem ((c.tc : Thread Cert.UpDwPlainIdeal.nD Cert.UpDwPlainIdeal.τ).loc Cert.UpDwPlainIdeal.main_arg3) = m' ((c.tc : Thread Cert.UpDwPlainIdeal.nD Cert.UpDwPlainIdeal.τ).loc Cert.UpDwPlainIdeal.main_arg3))

def preserves_OutDx_OutDxIdeal : Prop :=
  True

def algebraic_OutDxIdeal_OutDxPlainIdeal [hOutDxIdeal : Cert.OutDxIdeal.Facts] [hOutDxPlainIdeal : Cert.OutDxPlainIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxPlainIdeal.nD Cert.OutDxPlainIdeal.τ Cert.OutDxPlainIdeal.sig) → Buf (Elt Ideal) ℓ) (g' : Dev Cert.OutDxPlainIdeal.nD → PrngReg), Pre_OutDxIdeal m →
    (∀ c : Dev Cert.OutDxIdeal.nD,
      m' ((c.tc : Thread Cert.OutDxPlainIdeal.nD Cert.OutDxPlainIdeal.τ).loc Cert.OutDxPlainIdeal.main_arg0) = m ((c.tc : Thread Cert.OutDxIdeal.nD Cert.OutDxIdeal.τ).loc Cert.OutDxIdeal.main_arg0)
      ∧ m' ((c.tc : Thread Cert.OutDxPlainIdeal.nD Cert.OutDxPlainIdeal.τ).loc Cert.OutDxPlainIdeal.main_arg1) = m ((c.tc : Thread Cert.OutDxIdeal.nD Cert.OutDxIdeal.τ).loc Cert.OutDxIdeal.main_arg1)
      ∧ m' ((c.tc : Thread Cert.OutDxPlainIdeal.nD Cert.OutDxPlainIdeal.τ).loc Cert.OutDxPlainIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxPlainIdeal.defs (F := Ideal)) (onTc (τ := Cert.OutDxPlainIdeal.τ) (Cert.OutDxPlainIdeal.main (F := Ideal))) ⟨m', fun _ => 0, g'⟩ (fun r => ∀ c : Dev Cert.OutDxPlainIdeal.nD,
          r.2.mem ((c.tc : Thread Cert.OutDxPlainIdeal.nD Cert.OutDxPlainIdeal.τ).loc Cert.OutDxPlainIdeal.main_v1) = v0 c
          ∧ r.2.mem ((c.tc : Thread Cert.OutDxPlainIdeal.nD Cert.OutDxPlainIdeal.τ).loc Cert.OutDxPlainIdeal.main_arg0) = m' ((c.tc : Thread Cert.OutDxPlainIdeal.nD Cert.OutDxPlainIdeal.τ).loc Cert.OutDxPlainIdeal.main_arg0)
          ∧ r.2.mem ((c.tc : Thread Cert.OutDxPlainIdeal.nD Cert.OutDxPlainIdeal.τ).loc Cert.OutDxPlainIdeal.main_arg1) = m' ((c.tc : Thread Cert.OutDxPlainIdeal.nD Cert.OutDxPlainIdeal.τ).loc Cert.OutDxPlainIdeal.main_arg1)
          ∧ r.2.mem ((c.tc : Thread Cert.OutDxPlainIdeal.nD Cert.OutDxPlainIdeal.τ).loc Cert.OutDxPlainIdeal.main_arg2) = m' ((c.tc : Thread Cert.OutDxPlainIdeal.nD Cert.OutDxPlainIdeal.τ).loc Cert.OutDxPlainIdeal.main_arg2))

def preserves_OutDw_OutDwIdeal : Prop :=
  True

def algebraic_OutDwIdeal_OutDwPlainIdeal [hOutDwIdeal : Cert.OutDwIdeal.Facts] [hOutDwPlainIdeal : Cert.OutDwPlainIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwPlainIdeal.nD Cert.OutDwPlainIdeal.τ Cert.OutDwPlainIdeal.sig) → Buf (Elt Ideal) ℓ) (g' : Dev Cert.OutDwPlainIdeal.nD → PrngReg), Pre_OutDwIdeal m →
    (∀ c : Dev Cert.OutDwIdeal.nD,
      m' ((c.tc : Thread Cert.OutDwPlainIdeal.nD Cert.OutDwPlainIdeal.τ).loc Cert.OutDwPlainIdeal.main_arg0) = m ((c.tc : Thread Cert.OutDwIdeal.nD Cert.OutDwIdeal.τ).loc Cert.OutDwIdeal.main_arg0)
      ∧ m' ((c.tc : Thread Cert.OutDwPlainIdeal.nD Cert.OutDwPlainIdeal.τ).loc Cert.OutDwPlainIdeal.main_arg1) = m ((c.tc : Thread Cert.OutDwIdeal.nD Cert.OutDwIdeal.τ).loc Cert.OutDwIdeal.main_arg1)
      ∧ m' ((c.tc : Thread Cert.OutDwPlainIdeal.nD Cert.OutDwPlainIdeal.τ).loc Cert.OutDwPlainIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwPlainIdeal.defs (F := Ideal)) (onTc (τ := Cert.OutDwPlainIdeal.τ) (Cert.OutDwPlainIdeal.main (F := Ideal))) ⟨m', fun _ => 0, g'⟩ (fun r => ∀ c : Dev Cert.OutDwPlainIdeal.nD,
          r.2.mem ((c.tc : Thread Cert.OutDwPlainIdeal.nD Cert.OutDwPlainIdeal.τ).loc Cert.OutDwPlainIdeal.main_v3) = v0 c
          ∧ r.2.mem ((c.tc : Thread Cert.OutDwPlainIdeal.nD Cert.OutDwPlainIdeal.τ).loc Cert.OutDwPlainIdeal.main_arg0) = m' ((c.tc : Thread Cert.OutDwPlainIdeal.nD Cert.OutDwPlainIdeal.τ).loc Cert.OutDwPlainIdeal.main_arg0)
          ∧ r.2.mem ((c.tc : Thread Cert.OutDwPlainIdeal.nD Cert.OutDwPlainIdeal.τ).loc Cert.OutDwPlainIdeal.main_arg1) = m' ((c.tc : Thread Cert.OutDwPlainIdeal.nD Cert.OutDwPlainIdeal.τ).loc Cert.OutDwPlainIdeal.main_arg1)
          ∧ r.2.mem ((c.tc : Thread Cert.OutDwPlainIdeal.nD Cert.OutDwPlainIdeal.τ).loc Cert.OutDwPlainIdeal.main_arg2) = m' ((c.tc : Thread Cert.OutDwPlainIdeal.nD Cert.OutDwPlainIdeal.τ).loc Cert.OutDwPlainIdeal.main_arg2))

def preserves_ScDx_ScDxIdeal : Prop :=
  True

def algebraic_ScDxIdeal_ScDxPlainIdeal [hScDxIdeal : Cert.ScDxIdeal.Facts] [hScDxPlainIdeal : Cert.ScDxPlainIdeal.Facts] : Prop :=
  ∀ (m : (ℓ : Loc Cert.ScDxIdeal.nD Cert.ScDxIdeal.τ Cert.ScDxIdeal.sig) → Buf (Elt Ideal) ℓ) (g : Dev Cert.ScDxIdeal.nD → PrngReg)
    (m' : (ℓ : Loc Cert.ScDxPlainIdeal.nD Cert.ScDxPlainIdeal.τ Cert.ScDxPlainIdeal.sig) → Buf (Elt Ideal) ℓ) (g' : Dev Cert.ScDxPlainIdeal.nD → PrngReg), Pre_ScDxIdeal m →
    (∀ c : Dev Cert.ScDxIdeal.nD,
      m' ((c.tc : Thread Cert.ScDxPlainIdeal.nD Cert.ScDxPlainIdeal.τ).loc Cert.ScDxPlainIdeal.main_arg0) = m ((c.tc : Thread Cert.ScDxIdeal.nD Cert.ScDxIdeal.τ).loc Cert.ScDxIdeal.main_arg0)
      ∧ m' ((c.tc : Thread Cert.ScDxPlainIdeal.nD Cert.ScDxPlainIdeal.τ).loc Cert.ScDxPlainIdeal.main_arg1) = m ((c.tc : Thread Cert.ScDxIdeal.nD Cert.ScDxIdeal.τ).loc Cert.ScDxIdeal.main_arg1)
      ∧ m' ((c.tc : Thread Cert.ScDxPlainIdeal.nD Cert.ScDxPlainIdeal.τ).loc Cert.ScDxPlainIdeal.main_arg2) = m ((c.tc : Thread Cert.ScDxIdeal.nD Cert.ScDxIdeal.τ).loc Cert.ScDxIdeal.main_arg2)
      ∧ m' ((c.tc : Thread Cert.ScDxPlainIdeal.nD Cert.ScDxPlainIdeal.τ).loc Cert.ScDxPlainIdeal.main_arg3) = m ((c.tc : Thread Cert.ScDxIdeal.nD Cert.ScDxIdeal.τ).loc Cert.ScDxIdeal.main_arg3)
      ∧ m' ((c.tc : Thread Cert.ScDxPlainIdeal.nD Cert.ScDxPlainIdeal.τ).loc Cert.ScDxPlainIdeal.main_arg4) = m ((c.tc : Thread Cert.ScDxIdeal.nD Cert.ScDxIdeal.τ).loc Cert.ScDxIdeal.main_arg4)) →
    ∃ (v0 : (c : Dev Cert.ScDxIdeal.nD) → Buf (Elt Ideal) ((c.tc : Thread Cert.ScDxIdeal.nD Cert.ScDxIdeal.τ).loc Cert.ScDxIdeal.main_v2_0)) (v1 : (c : Dev Cert.ScDxIdeal.nD) → Buf (Elt Ideal) ((c.tc : Thread Cert.ScDxIdeal.nD Cert.ScDxIdeal.τ).loc Cert.ScDxIdeal.main_v2_1)) (v2 : (c : Dev Cert.ScDxIdeal.nD) → Buf (Elt Ideal) ((c.tc : Thread Cert.ScDxIdeal.nD Cert.ScDxIdeal.τ).loc Cert.ScDxIdeal.main_v2_2)),
      θ_run (Cert.ScDxIdeal.defs (F := Ideal)) (onTc (τ := Cert.ScDxIdeal.τ) (Cert.ScDxIdeal.main (F := Ideal))) ⟨m, fun _ => 0, g⟩ (fun r => ∀ c : Dev Cert.ScDxIdeal.nD,
          r.2.mem ((c.tc : Thread Cert.ScDxIdeal.nD Cert.ScDxIdeal.τ).loc Cert.ScDxIdeal.main_v2_0) = v0 c
          ∧ r.2.mem ((c.tc : Thread Cert.ScDxIdeal.nD Cert.ScDxIdeal.τ).loc Cert.ScDxIdeal.main_v2_1) = v1 c
          ∧ r.2.mem ((c.tc : Thread Cert.ScDxIdeal.nD Cert.ScDxIdeal.τ).loc Cert.ScDxIdeal.main_v2_2) = v2 c
          ∧ r.2.mem ((c.tc : Thread Cert.ScDxIdeal.nD Cert.ScDxIdeal.τ).loc Cert.ScDxIdeal.main_arg0) = m ((c.tc : Thread Cert.ScDxIdeal.nD Cert.ScDxIdeal.τ).loc Cert.ScDxIdeal.main_arg0)
          ∧ r.2.mem ((c.tc : Thread Cert.ScDxIdeal.nD Cert.ScDxIdeal.τ).loc Cert.ScDxIdeal.main_arg1) = m ((c.tc : Thread Cert.ScDxIdeal.nD Cert.ScDxIdeal.τ).loc Cert.ScDxIdeal.main_arg1)
          ∧ r.2.mem ((c.tc : Thread Cert.ScDxIdeal.nD Cert.ScDxIdeal.τ).loc Cert.ScDxIdeal.main_arg2) = m ((c.tc : Thread Cert.ScDxIdeal.nD Cert.ScDxIdeal.τ).loc Cert.ScDxIdeal.main_arg2)
          ∧ r.2.mem ((c.tc : Thread Cert.ScDxIdeal.nD Cert.ScDxIdeal.τ).loc Cert.ScDxIdeal.main_arg3) = m ((c.tc : Thread Cert.ScDxIdeal.nD Cert.ScDxIdeal.τ).loc Cert.ScDxIdeal.main_arg3)
          ∧ r.2.mem ((c.tc : Thread Cert.ScDxIdeal.nD Cert.ScDxIdeal.τ).loc Cert.ScDxIdeal.main_arg4) = m ((c.tc : Thread Cert.ScDxIdeal.nD Cert.ScDxIdeal.τ).loc Cert.ScDxIdeal.main_arg4))
      ∧ θ_run (Cert.ScDxPlainIdeal.defs (F := Ideal)) (onTc (τ := Cert.ScDxPlainIdeal.τ) (Cert.ScDxPlainIdeal.main (F := Ideal))) ⟨m', fun _ => 0, g'⟩ (fun r => ∀ c : Dev Cert.ScDxPlainIdeal.nD,
          r.2.mem ((c.tc : Thread Cert.ScDxPlainIdeal.nD Cert.ScDxPlainIdeal.τ).loc Cert.ScDxPlainIdeal.main_v36) = v0 c
          ∧ r.2.mem ((c.tc : Thread Cert.ScDxPlainIdeal.nD Cert.ScDxPlainIdeal.τ).loc Cert.ScDxPlainIdeal.main_v37) = v1 c
          ∧ r.2.mem ((c.tc : Thread Cert.ScDxPlainIdeal.nD Cert.ScDxPlainIdeal.τ).loc Cert.ScDxPlainIdeal.main_v19) = v2 c
          ∧ r.2.mem ((c.tc : Thread Cert.ScDxPlainIdeal.nD Cert.ScDxPlainIdeal.τ).loc Cert.ScDxPlainIdeal.main_arg0) = m' ((c.tc : Thread Cert.ScDxPlainIdeal.nD Cert.ScDxPlainIdeal.τ).loc Cert.ScDxPlainIdeal.main_arg0)
          ∧ r.2.mem ((c.tc : Thread Cert.ScDxPlainIdeal.nD Cert.ScDxPlainIdeal.τ).loc Cert.ScDxPlainIdeal.main_arg1) = m' ((c.tc : Thread Cert.ScDxPlainIdeal.nD Cert.ScDxPlainIdeal.τ).loc Cert.ScDxPlainIdeal.main_arg1)
          ∧ r.2.mem ((c.tc : Thread Cert.ScDxPlainIdeal.nD Cert.ScDxPlainIdeal.τ).loc Cert.ScDxPlainIdeal.main_arg2) = m' ((c.tc : Thread Cert.ScDxPlainIdeal.nD Cert.ScDxPlainIdeal.τ).loc Cert.ScDxPlainIdeal.main_arg2)
          ∧ r.2.mem ((c.tc : Thread Cert.ScDxPlainIdeal.nD Cert.ScDxPlainIdeal.τ).loc Cert.ScDxPlainIdeal.main_arg3) = m' ((c.tc : Thread Cert.ScDxPlainIdeal.nD Cert.ScDxPlainIdeal.τ).loc Cert.ScDxPlainIdeal.main_arg3)
          ∧ r.2.mem ((c.tc : Thread Cert.ScDxPlainIdeal.nD Cert.ScDxPlainIdeal.τ).loc Cert.ScDxPlainIdeal.main_arg4) = m' ((c.tc : Thread Cert.ScDxPlainIdeal.nD Cert.ScDxPlainIdeal.τ).loc Cert.ScDxPlainIdeal.main_arg4))

def preserves_ProjConv_ProjConvIdeal : Prop :=
  True

def algebraic_ProjConvIdeal_ProjConvPlainIdeal [hProjConvIdeal : Cert.ProjConvIdeal.Facts] [hProjConvPlainIdeal : Cert.ProjConvPlainIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvPlainIdeal.nD Cert.ProjConvPlainIdeal.τ Cert.ProjConvPlainIdeal.sig) → Buf (Elt Ideal) ℓ) (g' : Dev Cert.ProjConvPlainIdeal.nD → PrngReg), Pre_ProjConvIdeal m →
    (∀ c : Dev Cert.ProjConvIdeal.nD,
      m' ((c.tc : Thread Cert.ProjConvPlainIdeal.nD Cert.ProjConvPlainIdeal.τ).loc Cert.ProjConvPlainIdeal.main_arg0) = m ((c.tc : Thread Cert.ProjConvIdeal.nD Cert.ProjConvIdeal.τ).loc Cert.ProjConvIdeal.main_arg0)
      ∧ m' ((c.tc : Thread Cert.ProjConvPlainIdeal.nD Cert.ProjConvPlainIdeal.τ).loc Cert.ProjConvPlainIdeal.main_arg1) = m ((c.tc : Thread Cert.ProjConvIdeal.nD Cert.ProjConvIdeal.τ).loc Cert.ProjConvIdeal.main_arg1)
      ∧ m' ((c.tc : Thread Cert.ProjConvPlainIdeal.nD Cert.ProjConvPlainIdeal.τ).loc Cert.ProjConvPlainIdeal.main_arg2) = m ((c.tc : Thread Cert.ProjConvIdeal.nD Cert.ProjConvIdeal.τ).loc Cert.ProjConvIdeal.main_arg2)) →
    ∃ (v0 : (c : Dev Cert.ProjConvIdeal.nD) → Buf (Elt Ideal) ((c.tc : Thread Cert.ProjConvIdeal.nD Cert.ProjConvIdeal.τ).loc Cert.ProjConvIdeal.main_v14)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v14) = v0 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
          ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ θ_run (Cert.ProjConvPlainIdeal.defs (F := Ideal)) (onTc (τ := Cert.ProjConvPlainIdeal.τ) (Cert.ProjConvPlainIdeal.main (F := Ideal))) ⟨m', fun _ => 0, g'⟩ (fun r => ∀ c : Dev Cert.ProjConvPlainIdeal.nD,
          r.2.mem ((c.tc : Thread Cert.ProjConvPlainIdeal.nD Cert.ProjConvPlainIdeal.τ).loc Cert.ProjConvPlainIdeal.main_v14) = v0 c
          ∧ r.2.mem ((c.tc : Thread Cert.ProjConvPlainIdeal.nD Cert.ProjConvPlainIdeal.τ).loc Cert.ProjConvPlainIdeal.main_arg0) = m' ((c.tc : Thread Cert.ProjConvPlainIdeal.nD Cert.ProjConvPlainIdeal.τ).loc Cert.ProjConvPlainIdeal.main_arg0)
          ∧ r.2.mem ((c.tc : Thread Cert.ProjConvPlainIdeal.nD Cert.ProjConvPlainIdeal.τ).loc Cert.ProjConvPlainIdeal.main_arg1) = m' ((c.tc : Thread Cert.ProjConvPlainIdeal.nD Cert.ProjConvPlainIdeal.τ).loc Cert.ProjConvPlainIdeal.main_arg1)
          ∧ r.2.mem ((c.tc : Thread Cert.ProjConvPlainIdeal.nD Cert.ProjConvPlainIdeal.τ).loc Cert.ProjConvPlainIdeal.main_arg2) = m' ((c.tc : Thread Cert.ProjConvPlainIdeal.nD Cert.ProjConvPlainIdeal.τ).loc Cert.ProjConvPlainIdeal.main_arg2))

def preserves_ProjK_ProjKIdeal : Prop :=
  True

def algebraic_ProjKIdeal_ProjKPlainIdeal [hProjKIdeal : Cert.ProjKIdeal.Facts] [hProjKPlainIdeal : Cert.ProjKPlainIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKPlainIdeal.nD Cert.ProjKPlainIdeal.τ Cert.ProjKPlainIdeal.sig) → Buf (Elt Ideal) ℓ) (g' : Dev Cert.ProjKPlainIdeal.nD → PrngReg), Pre_ProjKIdeal m →
    (∀ c : Dev Cert.ProjKIdeal.nD,
      m' ((c.tc : Thread Cert.ProjKPlainIdeal.nD Cert.ProjKPlainIdeal.τ).loc Cert.ProjKPlainIdeal.main_arg0) = m ((c.tc : Thread Cert.ProjKIdeal.nD Cert.ProjKIdeal.τ).loc Cert.ProjKIdeal.main_arg0)
      ∧ m' ((c.tc : Thread Cert.ProjKPlainIdeal.nD Cert.ProjKPlainIdeal.τ).loc Cert.ProjKPlainIdeal.main_arg1) = m ((c.tc : Thread Cert.ProjKIdeal.nD Cert.ProjKIdeal.τ).loc Cert.ProjKIdeal.main_arg1)
      ∧ m' ((c.tc : Thread Cert.ProjKPlainIdeal.nD Cert.ProjKPlainIdeal.τ).loc Cert.ProjKPlainIdeal.main_arg2) = m ((c.tc : Thread Cert.ProjKIdeal.nD Cert.ProjKIdeal.τ).loc Cert.ProjKIdeal.main_arg2)) →
    ∃ (v0 : (c : Dev Cert.ProjKIdeal.nD) → Buf (Elt Ideal) ((c.tc : Thread Cert.ProjKIdeal.nD Cert.ProjKIdeal.τ).loc Cert.ProjKIdeal.main_v14)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v14) = v0 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ θ_run (Cert.ProjKPlainIdeal.defs (F := Ideal)) (onTc (τ := Cert.ProjKPlainIdeal.τ) (Cert.ProjKPlainIdeal.main (F := Ideal))) ⟨m', fun _ => 0, g'⟩ (fun r => ∀ c : Dev Cert.ProjKPlainIdeal.nD,
          r.2.mem ((c.tc : Thread Cert.ProjKPlainIdeal.nD Cert.ProjKPlainIdeal.τ).loc Cert.ProjKPlainIdeal.main_v17) = v0 c
          ∧ r.2.mem ((c.tc : Thread Cert.ProjKPlainIdeal.nD Cert.ProjKPlainIdeal.τ).loc Cert.ProjKPlainIdeal.main_arg0) = m' ((c.tc : Thread Cert.ProjKPlainIdeal.nD Cert.ProjKPlainIdeal.τ).loc Cert.ProjKPlainIdeal.main_arg0)
          ∧ r.2.mem ((c.tc : Thread Cert.ProjKPlainIdeal.nD Cert.ProjKPlainIdeal.τ).loc Cert.ProjKPlainIdeal.main_arg1) = m' ((c.tc : Thread Cert.ProjKPlainIdeal.nD Cert.ProjKPlainIdeal.τ).loc Cert.ProjKPlainIdeal.main_arg1)
          ∧ r.2.mem ((c.tc : Thread Cert.ProjKPlainIdeal.nD Cert.ProjKPlainIdeal.τ).loc Cert.ProjKPlainIdeal.main_arg2) = m' ((c.tc : Thread Cert.ProjKPlainIdeal.nD Cert.ProjKPlainIdeal.τ).loc Cert.ProjKPlainIdeal.main_arg2))

def preserves_ProjV_ProjVIdeal : Prop :=
  True

def algebraic_ProjVIdeal_ProjVPlainIdeal [hProjVIdeal : Cert.ProjVIdeal.Facts] [hProjVPlainIdeal : Cert.ProjVPlainIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVPlainIdeal.nD Cert.ProjVPlainIdeal.τ Cert.ProjVPlainIdeal.sig) → Buf (Elt Ideal) ℓ) (g' : Dev Cert.ProjVPlainIdeal.nD → PrngReg), Pre_ProjVIdeal m →
    (∀ c : Dev Cert.ProjVIdeal.nD,
      m' ((c.tc : Thread Cert.ProjVPlainIdeal.nD Cert.ProjVPlainIdeal.τ).loc Cert.ProjVPlainIdeal.main_arg0) = m ((c.tc : Thread Cert.ProjVIdeal.nD Cert.ProjVIdeal.τ).loc Cert.ProjVIdeal.main_arg0)
      ∧ m' ((c.tc : Thread Cert.ProjVPlainIdeal.nD Cert.ProjVPlainIdeal.τ).loc Cert.ProjVPlainIdeal.main_arg1) = m ((c.tc : Thread Cert.ProjVIdeal.nD Cert.ProjVIdeal.τ).loc Cert.ProjVIdeal.main_arg1)
      ∧ m' ((c.tc : Thread Cert.ProjVPlainIdeal.nD Cert.ProjVPlainIdeal.τ).loc Cert.ProjVPlainIdeal.main_arg2) = m ((c.tc : Thread Cert.ProjVIdeal.nD Cert.ProjVIdeal.τ).loc Cert.ProjVIdeal.main_arg2)) →
    ∃ (v0 : (c : Dev Cert.ProjVIdeal.nD) → Buf (Elt Ideal) ((c.tc : Thread Cert.ProjVIdeal.nD Cert.ProjVIdeal.τ).loc Cert.ProjVIdeal.main_v14)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v14) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
          ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2))
      ∧ θ_run (Cert.ProjVPlainIdeal.defs (F := Ideal)) (onTc (τ := Cert.ProjVPlainIdeal.τ) (Cert.ProjVPlainIdeal.main (F := Ideal))) ⟨m', fun _ => 0, g'⟩ (fun r => ∀ c : Dev Cert.ProjVPlainIdeal.nD,
          r.2.mem ((c.tc : Thread Cert.ProjVPlainIdeal.nD Cert.ProjVPlainIdeal.τ).loc Cert.ProjVPlainIdeal.main_v17) = v0 c
          ∧ r.2.mem ((c.tc : Thread Cert.ProjVPlainIdeal.nD Cert.ProjVPlainIdeal.τ).loc Cert.ProjVPlainIdeal.main_arg0) = m' ((c.tc : Thread Cert.ProjVPlainIdeal.nD Cert.ProjVPlainIdeal.τ).loc Cert.ProjVPlainIdeal.main_arg0)
          ∧ r.2.mem ((c.tc : Thread Cert.ProjVPlainIdeal.nD Cert.ProjVPlainIdeal.τ).loc Cert.ProjVPlainIdeal.main_arg1) = m' ((c.tc : Thread Cert.ProjVPlainIdeal.nD Cert.ProjVPlainIdeal.τ).loc Cert.ProjVPlainIdeal.main_arg1)
          ∧ r.2.mem ((c.tc : Thread Cert.ProjVPlainIdeal.nD Cert.ProjVPlainIdeal.τ).loc Cert.ProjVPlainIdeal.main_arg2) = m' ((c.tc : Thread Cert.ProjVPlainIdeal.nD Cert.ProjVPlainIdeal.τ).loc Cert.ProjVPlainIdeal.main_arg2))

def preserves_OutNorm_OutNormIdeal : Prop :=
  True

def algebraic_OutNormIdeal_OutNormPlainIdeal [hOutNormIdeal : Cert.OutNormIdeal.Facts] [hOutNormPlainIdeal : Cert.OutNormPlainIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormPlainIdeal.nD Cert.OutNormPlainIdeal.τ Cert.OutNormPlainIdeal.sig) → Buf (Elt Ideal) ℓ) (g' : Dev Cert.OutNormPlainIdeal.nD → PrngReg), Pre_OutNormIdeal m →
    (∀ c : Dev Cert.OutNormIdeal.nD,
      m' ((c.tc : Thread Cert.OutNormPlainIdeal.nD Cert.OutNormPlainIdeal.τ).loc Cert.OutNormPlainIdeal.main_arg0) = m ((c.tc : Thread Cert.OutNormIdeal.nD Cert.OutNormIdeal.τ).loc Cert.OutNormIdeal.main_arg0)
      ∧ m' ((c.tc : Thread Cert.OutNormPlainIdeal.nD Cert.OutNormPlainIdeal.τ).loc Cert.OutNormPlainIdeal.main_arg1) = m ((c.tc : Thread Cert.OutNormIdeal.nD Cert.OutNormIdeal.τ).loc Cert.OutNormIdeal.main_arg1)
      ∧ m' ((c.tc : Thread Cert.OutNormPlainIdeal.nD Cert.OutNormPlainIdeal.τ).loc Cert.OutNormPlainIdeal.main_arg2) = m ((c.tc : Thread Cert.OutNormIdeal.nD Cert.OutNormIdeal.τ).loc Cert.OutNormIdeal.main_arg2)
      ∧ m' ((c.tc : Thread Cert.OutNormPlainIdeal.nD Cert.OutNormPlainIdeal.τ).loc Cert.OutNormPlainIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v2_0)) (v1 : (c : Dev Cert.OutNormIdeal.nD) → Buf (Elt Ideal) ((c.tc : Thread Cert.OutNormIdeal.nD Cert.OutNormIdeal.τ).loc Cert.OutNormIdeal.main_v2_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v2_0) = v0 c
          ∧ r.2.mem ((c.tc : Thread Cert.OutNormIdeal.nD Cert.OutNormIdeal.τ).loc Cert.OutNormIdeal.main_v2_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormPlainIdeal.defs (F := Ideal)) (onTc (τ := Cert.OutNormPlainIdeal.τ) (Cert.OutNormPlainIdeal.main (F := Ideal))) ⟨m', fun _ => 0, g'⟩ (fun r => ∀ c : Dev Cert.OutNormPlainIdeal.nD,
          r.2.mem ((c.tc : Thread Cert.OutNormPlainIdeal.nD Cert.OutNormPlainIdeal.τ).loc Cert.OutNormPlainIdeal.main_v1) = v0 c
          ∧ r.2.mem ((c.tc : Thread Cert.OutNormPlainIdeal.nD Cert.OutNormPlainIdeal.τ).loc Cert.OutNormPlainIdeal.main_v14) = v1 c
          ∧ r.2.mem ((c.tc : Thread Cert.OutNormPlainIdeal.nD Cert.OutNormPlainIdeal.τ).loc Cert.OutNormPlainIdeal.main_arg0) = m' ((c.tc : Thread Cert.OutNormPlainIdeal.nD Cert.OutNormPlainIdeal.τ).loc Cert.OutNormPlainIdeal.main_arg0)
          ∧ r.2.mem ((c.tc : Thread Cert.OutNormPlainIdeal.nD Cert.OutNormPlainIdeal.τ).loc Cert.OutNormPlainIdeal.main_arg1) = m' ((c.tc : Thread Cert.OutNormPlainIdeal.nD Cert.OutNormPlainIdeal.τ).loc Cert.OutNormPlainIdeal.main_arg1)
          ∧ r.2.mem ((c.tc : Thread Cert.OutNormPlainIdeal.nD Cert.OutNormPlainIdeal.τ).loc Cert.OutNormPlainIdeal.main_arg2) = m' ((c.tc : Thread Cert.OutNormPlainIdeal.nD Cert.OutNormPlainIdeal.τ).loc Cert.OutNormPlainIdeal.main_arg2)
          ∧ r.2.mem ((c.tc : Thread Cert.OutNormPlainIdeal.nD Cert.OutNormPlainIdeal.τ).loc Cert.OutNormPlainIdeal.main_arg3) = m' ((c.tc : Thread Cert.OutNormPlainIdeal.nD Cert.OutNormPlainIdeal.τ).loc Cert.OutNormPlainIdeal.main_arg3))

def preserves_Up_UpIdeal : Prop :=
  True

def algebraic_UpIdeal_UpPlainIdeal [hUpIdeal : Cert.UpIdeal.Facts] [hUpPlainIdeal : Cert.UpPlainIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpPlainIdeal.nD Cert.UpPlainIdeal.τ Cert.UpPlainIdeal.sig) → Buf (Elt Ideal) ℓ) (g' : Dev Cert.UpPlainIdeal.nD → PrngReg), Pre_UpIdeal m →
    (∀ c : Dev Cert.UpIdeal.nD,
      m' ((c.tc : Thread Cert.UpPlainIdeal.nD Cert.UpPlainIdeal.τ).loc Cert.UpPlainIdeal.main_arg0) = m ((c.tc : Thread Cert.UpIdeal.nD Cert.UpIdeal.τ).loc Cert.UpIdeal.main_arg0)
      ∧ m' ((c.tc : Thread Cert.UpPlainIdeal.nD Cert.UpPlainIdeal.τ).loc Cert.UpPlainIdeal.main_arg1) = m ((c.tc : Thread Cert.UpIdeal.nD Cert.UpIdeal.τ).loc Cert.UpIdeal.main_arg1)
      ∧ m' ((c.tc : Thread Cert.UpPlainIdeal.nD Cert.UpPlainIdeal.τ).loc Cert.UpPlainIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v14)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v14) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpPlainIdeal.defs (F := Ideal)) (onTc (τ := Cert.UpPlainIdeal.τ) (Cert.UpPlainIdeal.main (F := Ideal))) ⟨m', fun _ => 0, g'⟩ (fun r => ∀ c : Dev Cert.UpPlainIdeal.nD,
          r.2.mem ((c.tc : Thread Cert.UpPlainIdeal.nD Cert.UpPlainIdeal.τ).loc Cert.UpPlainIdeal.main_v14) = v0 c
          ∧ r.2.mem ((c.tc : Thread Cert.UpPlainIdeal.nD Cert.UpPlainIdeal.τ).loc Cert.UpPlainIdeal.main_arg0) = m' ((c.tc : Thread Cert.UpPlainIdeal.nD Cert.UpPlainIdeal.τ).loc Cert.UpPlainIdeal.main_arg0)
          ∧ r.2.mem ((c.tc : Thread Cert.UpPlainIdeal.nD Cert.UpPlainIdeal.τ).loc Cert.UpPlainIdeal.main_arg1) = m' ((c.tc : Thread Cert.UpPlainIdeal.nD Cert.UpPlainIdeal.τ).loc Cert.UpPlainIdeal.main_arg1)
          ∧ r.2.mem ((c.tc : Thread Cert.UpPlainIdeal.nD Cert.UpPlainIdeal.τ).loc Cert.UpPlainIdeal.main_arg2) = m' ((c.tc : Thread Cert.UpPlainIdeal.nD Cert.UpPlainIdeal.τ).loc Cert.UpPlainIdeal.main_arg2))

def preserves_DownNorm_DownNormIdeal : Prop :=
  True

def algebraic_DownNormIdeal_DownNormPlainIdeal [hDownNormIdeal : Cert.DownNormIdeal.Facts] [hDownNormPlainIdeal : Cert.DownNormPlainIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormPlainIdeal.nD Cert.DownNormPlainIdeal.τ Cert.DownNormPlainIdeal.sig) → Buf (Elt Ideal) ℓ) (g' : Dev Cert.DownNormPlainIdeal.nD → PrngReg), Pre_DownNormIdeal m →
    (∀ c : Dev Cert.DownNormIdeal.nD,
      m' ((c.tc : Thread Cert.DownNormPlainIdeal.nD Cert.DownNormPlainIdeal.τ).loc Cert.DownNormPlainIdeal.main_arg0) = m ((c.tc : Thread Cert.DownNormIdeal.nD Cert.DownNormIdeal.τ).loc Cert.DownNormIdeal.main_arg0)
      ∧ m' ((c.tc : Thread Cert.DownNormPlainIdeal.nD Cert.DownNormPlainIdeal.τ).loc Cert.DownNormPlainIdeal.main_arg1) = m ((c.tc : Thread Cert.DownNormIdeal.nD Cert.DownNormIdeal.τ).loc Cert.DownNormIdeal.main_arg1)
      ∧ m' ((c.tc : Thread Cert.DownNormPlainIdeal.nD Cert.DownNormPlainIdeal.τ).loc Cert.DownNormPlainIdeal.main_arg2) = m ((c.tc : Thread Cert.DownNormIdeal.nD Cert.DownNormIdeal.τ).loc Cert.DownNormIdeal.main_arg2)
      ∧ m' ((c.tc : Thread Cert.DownNormPlainIdeal.nD Cert.DownNormPlainIdeal.τ).loc Cert.DownNormPlainIdeal.main_arg3) = m ((c.tc : Thread Cert.DownNormIdeal.nD Cert.DownNormIdeal.τ).loc Cert.DownNormIdeal.main_arg3)) →
    ∃ (v0 : (c : Dev Cert.DownNormIdeal.nD) → Buf (Elt Ideal) ((c.tc : Thread Cert.DownNormIdeal.nD Cert.DownNormIdeal.τ).loc Cert.DownNormIdeal.main_v3_0)) (v1 : (c : Dev Cert.DownNormIdeal.nD) → Buf (Elt Ideal) ((c.tc : Thread Cert.DownNormIdeal.nD Cert.DownNormIdeal.τ).loc Cert.DownNormIdeal.main_v3_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v3_0) = v0 c
          ∧ r.2.mem ((c.tc : Thread Cert.DownNormIdeal.nD Cert.DownNormIdeal.τ).loc Cert.DownNormIdeal.main_v3_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ θ_run (Cert.DownNormPlainIdeal.defs (F := Ideal)) (onTc (τ := Cert.DownNormPlainIdeal.τ) (Cert.DownNormPlainIdeal.main (F := Ideal))) ⟨m', fun _ => 0, g'⟩ (fun r => ∀ c : Dev Cert.DownNormPlainIdeal.nD,
          r.2.mem ((c.tc : Thread Cert.DownNormPlainIdeal.nD Cert.DownNormPlainIdeal.τ).loc Cert.DownNormPlainIdeal.main_v3) = v0 c
          ∧ r.2.mem ((c.tc : Thread Cert.DownNormPlainIdeal.nD Cert.DownNormPlainIdeal.τ).loc Cert.DownNormPlainIdeal.main_v16) = v1 c
          ∧ r.2.mem ((c.tc : Thread Cert.DownNormPlainIdeal.nD Cert.DownNormPlainIdeal.τ).loc Cert.DownNormPlainIdeal.main_arg0) = m' ((c.tc : Thread Cert.DownNormPlainIdeal.nD Cert.DownNormPlainIdeal.τ).loc Cert.DownNormPlainIdeal.main_arg0)
          ∧ r.2.mem ((c.tc : Thread Cert.DownNormPlainIdeal.nD Cert.DownNormPlainIdeal.τ).loc Cert.DownNormPlainIdeal.main_arg1) = m' ((c.tc : Thread Cert.DownNormPlainIdeal.nD Cert.DownNormPlainIdeal.τ).loc Cert.DownNormPlainIdeal.main_arg1)
          ∧ r.2.mem ((c.tc : Thread Cert.DownNormPlainIdeal.nD Cert.DownNormPlainIdeal.τ).loc Cert.DownNormPlainIdeal.main_arg2) = m' ((c.tc : Thread Cert.DownNormPlainIdeal.nD Cert.DownNormPlainIdeal.τ).loc Cert.DownNormPlainIdeal.main_arg2)
          ∧ r.2.mem ((c.tc : Thread Cert.DownNormPlainIdeal.nD Cert.DownNormPlainIdeal.τ).loc Cert.DownNormPlainIdeal.main_arg3) = m' ((c.tc : Thread Cert.DownNormPlainIdeal.nD Cert.DownNormPlainIdeal.τ).loc Cert.DownNormPlainIdeal.main_arg3))

def preserves_Down_DownIdeal : Prop :=
  True

def algebraic_DownIdeal_DownPlainIdeal [hDownIdeal : Cert.DownIdeal.Facts] [hDownPlainIdeal : Cert.DownPlainIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownPlainIdeal.nD Cert.DownPlainIdeal.τ Cert.DownPlainIdeal.sig) → Buf (Elt Ideal) ℓ) (g' : Dev Cert.DownPlainIdeal.nD → PrngReg), Pre_DownIdeal m →
    (∀ c : Dev Cert.DownIdeal.nD,
      m' ((c.tc : Thread Cert.DownPlainIdeal.nD Cert.DownPlainIdeal.τ).loc Cert.DownPlainIdeal.main_arg0) = m ((c.tc : Thread Cert.DownIdeal.nD Cert.DownIdeal.τ).loc Cert.DownIdeal.main_arg0)
      ∧ m' ((c.tc : Thread Cert.DownPlainIdeal.nD Cert.DownPlainIdeal.τ).loc Cert.DownPlainIdeal.main_arg1) = m ((c.tc : Thread Cert.DownIdeal.nD Cert.DownIdeal.τ).loc Cert.DownIdeal.main_arg1)
      ∧ m' ((c.tc : Thread Cert.DownPlainIdeal.nD Cert.DownPlainIdeal.τ).loc Cert.DownPlainIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownPlainIdeal.defs (F := Ideal)) (onTc (τ := Cert.DownPlainIdeal.τ) (Cert.DownPlainIdeal.main (F := Ideal))) ⟨m', fun _ => 0, g'⟩ (fun r => ∀ c : Dev Cert.DownPlainIdeal.nD,
          r.2.mem ((c.tc : Thread Cert.DownPlainIdeal.nD Cert.DownPlainIdeal.τ).loc Cert.DownPlainIdeal.main_v3) = v0 c
          ∧ r.2.mem ((c.tc : Thread Cert.DownPlainIdeal.nD Cert.DownPlainIdeal.τ).loc Cert.DownPlainIdeal.main_arg0) = m' ((c.tc : Thread Cert.DownPlainIdeal.nD Cert.DownPlainIdeal.τ).loc Cert.DownPlainIdeal.main_arg0)
          ∧ r.2.mem ((c.tc : Thread Cert.DownPlainIdeal.nD Cert.DownPlainIdeal.τ).loc Cert.DownPlainIdeal.main_arg1) = m' ((c.tc : Thread Cert.DownPlainIdeal.nD Cert.DownPlainIdeal.τ).loc Cert.DownPlainIdeal.main_arg1)
          ∧ r.2.mem ((c.tc : Thread Cert.DownPlainIdeal.nD Cert.DownPlainIdeal.τ).loc Cert.DownPlainIdeal.main_arg2) = m' ((c.tc : Thread Cert.DownPlainIdeal.nD Cert.DownPlainIdeal.τ).loc Cert.DownPlainIdeal.main_arg2))

def preserves_ProjSc_ProjScIdeal : Prop :=
  True

def algebraic_ProjScIdeal_ProjScPlainIdeal [hProjScIdeal : Cert.ProjScIdeal.Facts] [hProjScPlainIdeal : Cert.ProjScPlainIdeal.Facts] : Prop :=
  ∀ (m : (ℓ : Loc Cert.ProjScIdeal.nD Cert.ProjScIdeal.τ Cert.ProjScIdeal.sig) → Buf (Elt Ideal) ℓ) (g : Dev Cert.ProjScIdeal.nD → PrngReg)
    (m' : (ℓ : Loc Cert.ProjScPlainIdeal.nD Cert.ProjScPlainIdeal.τ Cert.ProjScPlainIdeal.sig) → Buf (Elt Ideal) ℓ) (g' : Dev Cert.ProjScPlainIdeal.nD → PrngReg), Pre_ProjScIdeal m →
    (∀ c : Dev Cert.ProjScIdeal.nD,
      m' ((c.tc : Thread Cert.ProjScPlainIdeal.nD Cert.ProjScPlainIdeal.τ).loc Cert.ProjScPlainIdeal.main_arg0) = m ((c.tc : Thread Cert.ProjScIdeal.nD Cert.ProjScIdeal.τ).loc Cert.ProjScIdeal.main_arg0)
      ∧ m' ((c.tc : Thread Cert.ProjScPlainIdeal.nD Cert.ProjScPlainIdeal.τ).loc Cert.ProjScPlainIdeal.main_arg1) = m ((c.tc : Thread Cert.ProjScIdeal.nD Cert.ProjScIdeal.τ).loc Cert.ProjScIdeal.main_arg1)
      ∧ m' ((c.tc : Thread Cert.ProjScPlainIdeal.nD Cert.ProjScPlainIdeal.τ).loc Cert.ProjScPlainIdeal.main_arg2) = m ((c.tc : Thread Cert.ProjScIdeal.nD Cert.ProjScIdeal.τ).loc Cert.ProjScIdeal.main_arg2)) →
    ∃ (v0 : (c : Dev Cert.ProjScIdeal.nD) → Buf (Elt Ideal) ((c.tc : Thread Cert.ProjScIdeal.nD Cert.ProjScIdeal.τ).loc Cert.ProjScIdeal.main_v14)),
      θ_run (Cert.ProjScIdeal.defs (F := Ideal)) (onTc (τ := Cert.ProjScIdeal.τ) (Cert.ProjScIdeal.main (F := Ideal))) ⟨m, fun _ => 0, g⟩ (fun r => ∀ c : Dev Cert.ProjScIdeal.nD,
          r.2.mem ((c.tc : Thread Cert.ProjScIdeal.nD Cert.ProjScIdeal.τ).loc Cert.ProjScIdeal.main_v14) = v0 c
          ∧ r.2.mem ((c.tc : Thread Cert.ProjScIdeal.nD Cert.ProjScIdeal.τ).loc Cert.ProjScIdeal.main_arg0) = m ((c.tc : Thread Cert.ProjScIdeal.nD Cert.ProjScIdeal.τ).loc Cert.ProjScIdeal.main_arg0)
          ∧ r.2.mem ((c.tc : Thread Cert.ProjScIdeal.nD Cert.ProjScIdeal.τ).loc Cert.ProjScIdeal.main_arg1) = m ((c.tc : Thread Cert.ProjScIdeal.nD Cert.ProjScIdeal.τ).loc Cert.ProjScIdeal.main_arg1)
          ∧ r.2.mem ((c.tc : Thread Cert.ProjScIdeal.nD Cert.ProjScIdeal.τ).loc Cert.ProjScIdeal.main_arg2) = m ((c.tc : Thread Cert.ProjScIdeal.nD Cert.ProjScIdeal.τ).loc Cert.ProjScIdeal.main_arg2))
      ∧ θ_run (Cert.ProjScPlainIdeal.defs (F := Ideal)) (onTc (τ := Cert.ProjScPlainIdeal.τ) (Cert.ProjScPlainIdeal.main (F := Ideal))) ⟨m', fun _ => 0, g'⟩ (fun r => ∀ c : Dev Cert.ProjScPlainIdeal.nD,
          r.2.mem ((c.tc : Thread Cert.ProjScPlainIdeal.nD Cert.ProjScPlainIdeal.τ).loc Cert.ProjScPlainIdeal.main_v13) = v0 c
          ∧ r.2.mem ((c.tc : Thread Cert.ProjScPlainIdeal.nD Cert.ProjScPlainIdeal.τ).loc Cert.ProjScPlainIdeal.main_arg0) = m' ((c.tc : Thread Cert.ProjScPlainIdeal.nD Cert.ProjScPlainIdeal.τ).loc Cert.ProjScPlainIdeal.main_arg0)
          ∧ r.2.mem ((c.tc : Thread Cert.ProjScPlainIdeal.nD Cert.ProjScPlainIdeal.τ).loc Cert.ProjScPlainIdeal.main_arg1) = m' ((c.tc : Thread Cert.ProjScPlainIdeal.nD Cert.ProjScPlainIdeal.τ).loc Cert.ProjScPlainIdeal.main_arg1)
          ∧ r.2.mem ((c.tc : Thread Cert.ProjScPlainIdeal.nD Cert.ProjScPlainIdeal.τ).loc Cert.ProjScPlainIdeal.main_arg2) = m' ((c.tc : Thread Cert.ProjScPlainIdeal.nD Cert.ProjScPlainIdeal.τ).loc Cert.ProjScPlainIdeal.main_arg2))

def preserves_RmsBwd_RmsBwdIdeal : Prop :=
  True

def algebraic_RmsBwdIdeal_RmsBwdPlainIdeal [hRmsBwdIdeal : Cert.RmsBwdIdeal.Facts] [hRmsBwdPlainIdeal : Cert.RmsBwdPlainIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdPlainIdeal.nD Cert.RmsBwdPlainIdeal.τ Cert.RmsBwdPlainIdeal.sig) → Buf (Elt Ideal) ℓ) (g' : Dev Cert.RmsBwdPlainIdeal.nD → PrngReg), Pre_RmsBwdIdeal m →
    (∀ c : Dev Cert.RmsBwdIdeal.nD,
      m' ((c.tc : Thread Cert.RmsBwdPlainIdeal.nD Cert.RmsBwdPlainIdeal.τ).loc Cert.RmsBwdPlainIdeal.main_arg0) = m ((c.tc : Thread Cert.RmsBwdIdeal.nD Cert.RmsBwdIdeal.τ).loc Cert.RmsBwdIdeal.main_arg0)
      ∧ m' ((c.tc : Thread Cert.RmsBwdPlainIdeal.nD Cert.RmsBwdPlainIdeal.τ).loc Cert.RmsBwdPlainIdeal.main_arg1) = m ((c.tc : Thread Cert.RmsBwdIdeal.nD Cert.RmsBwdIdeal.τ).loc Cert.RmsBwdIdeal.main_arg1)
      ∧ m' ((c.tc : Thread Cert.RmsBwdPlainIdeal.nD Cert.RmsBwdPlainIdeal.τ).loc Cert.RmsBwdPlainIdeal.main_arg2) = m ((c.tc : Thread Cert.RmsBwdIdeal.nD Cert.RmsBwdIdeal.τ).loc Cert.RmsBwdIdeal.main_arg2)
      ∧ m' ((c.tc : Thread Cert.RmsBwdPlainIdeal.nD Cert.RmsBwdPlainIdeal.τ).loc Cert.RmsBwdPlainIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdPlainIdeal.defs (F := Ideal)) (onTc (τ := Cert.RmsBwdPlainIdeal.τ) (Cert.RmsBwdPlainIdeal.main (F := Ideal))) ⟨m', fun _ => 0, g'⟩ (fun r => ∀ c : Dev Cert.RmsBwdPlainIdeal.nD,
          r.2.mem ((c.tc : Thread Cert.RmsBwdPlainIdeal.nD Cert.RmsBwdPlainIdeal.τ).loc Cert.RmsBwdPlainIdeal.main_v34) = v0 c
          ∧ r.2.mem ((c.tc : Thread Cert.RmsBwdPlainIdeal.nD Cert.RmsBwdPlainIdeal.τ).loc Cert.RmsBwdPlainIdeal.main_v17) = v1 c
          ∧ r.2.mem ((c.tc : Thread Cert.RmsBwdPlainIdeal.nD Cert.RmsBwdPlainIdeal.τ).loc Cert.RmsBwdPlainIdeal.main_arg0) = m' ((c.tc : Thread Cert.RmsBwdPlainIdeal.nD Cert.RmsBwdPlainIdeal.τ).loc Cert.RmsBwdPlainIdeal.main_arg0)
          ∧ r.2.mem ((c.tc : Thread Cert.RmsBwdPlainIdeal.nD Cert.RmsBwdPlainIdeal.τ).loc Cert.RmsBwdPlainIdeal.main_arg1) = m' ((c.tc : Thread Cert.RmsBwdPlainIdeal.nD Cert.RmsBwdPlainIdeal.τ).loc Cert.RmsBwdPlainIdeal.main_arg1)
          ∧ r.2.mem ((c.tc : Thread Cert.RmsBwdPlainIdeal.nD Cert.RmsBwdPlainIdeal.τ).loc Cert.RmsBwdPlainIdeal.main_arg2) = m' ((c.tc : Thread Cert.RmsBwdPlainIdeal.nD Cert.RmsBwdPlainIdeal.τ).loc Cert.RmsBwdPlainIdeal.main_arg2)
          ∧ r.2.mem ((c.tc : Thread Cert.RmsBwdPlainIdeal.nD Cert.RmsBwdPlainIdeal.τ).loc Cert.RmsBwdPlainIdeal.main_arg3) = m' ((c.tc : Thread Cert.RmsBwdPlainIdeal.nD Cert.RmsBwdPlainIdeal.τ).loc Cert.RmsBwdPlainIdeal.main_arg3))

def preserves_Step0_Step0Ideal : Prop :=
  True

def algebraic_Step0Ideal_Step0PlainIdeal [hStep0Ideal : Cert.Step0Ideal.Facts] [hStep0PlainIdeal : Cert.Step0PlainIdeal.Facts] : Prop :=
  ∀ (m : (ℓ : Loc Cert.Step0Ideal.nD Cert.Step0Ideal.τ Cert.Step0Ideal.sig) → Buf (Elt Ideal) ℓ) (g : Dev Cert.Step0Ideal.nD → PrngReg)
    (m' : (ℓ : Loc Cert.Step0PlainIdeal.nD Cert.Step0PlainIdeal.τ Cert.Step0PlainIdeal.sig) → Buf (Elt Ideal) ℓ) (g' : Dev Cert.Step0PlainIdeal.nD → PrngReg), Pre_Step0Ideal m →
    (∀ c : Dev Cert.Step0Ideal.nD,
      m' ((c.tc : Thread Cert.Step0PlainIdeal.nD Cert.Step0PlainIdeal.τ).loc Cert.Step0PlainIdeal.main_arg0) = m ((c.tc : Thread Cert.Step0Ideal.nD Cert.Step0Ideal.τ).loc Cert.Step0Ideal.main_arg0)
      ∧ m' ((c.tc : Thread Cert.Step0PlainIdeal.nD Cert.Step0PlainIdeal.τ).loc Cert.Step0PlainIdeal.main_arg1) = m ((c.tc : Thread Cert.Step0Ideal.nD Cert.Step0Ideal.τ).loc Cert.Step0Ideal.main_arg1)
      ∧ m' ((c.tc : Thread Cert.Step0PlainIdeal.nD Cert.Step0PlainIdeal.τ).loc Cert.Step0PlainIdeal.main_arg2) = m ((c.tc : Thread Cert.Step0Ideal.nD Cert.Step0Ideal.τ).loc Cert.Step0Ideal.main_arg2)
      ∧ m' ((c.tc : Thread Cert.Step0PlainIdeal.nD Cert.Step0PlainIdeal.τ).loc Cert.Step0PlainIdeal.main_arg3) = m ((c.tc : Thread Cert.Step0Ideal.nD Cert.Step0Ideal.τ).loc Cert.Step0Ideal.main_arg3)
      ∧ m' ((c.tc : Thread Cert.Step0PlainIdeal.nD Cert.Step0PlainIdeal.τ).loc Cert.Step0PlainIdeal.main_arg4) = m ((c.tc : Thread Cert.Step0Ideal.nD Cert.Step0Ideal.τ).loc Cert.Step0Ideal.main_arg4)) →
    ∃ (v0 : (c : Dev Cert.Step0Ideal.nD) → Buf (Elt Ideal) ((c.tc : Thread Cert.Step0Ideal.nD Cert.Step0Ideal.τ).loc Cert.Step0Ideal.main_v3_0)) (v1 : (c : Dev Cert.Step0Ideal.nD) → Buf (Elt Ideal) ((c.tc : Thread Cert.Step0Ideal.nD Cert.Step0Ideal.τ).loc Cert.Step0Ideal.main_v3_1)) (v2 : (c : Dev Cert.Step0Ideal.nD) → Buf (Elt Ideal) ((c.tc : Thread Cert.Step0Ideal.nD Cert.Step0Ideal.τ).loc Cert.Step0Ideal.main_v3_2)) (v3 : (c : Dev Cert.Step0Ideal.nD) → Buf (Elt Ideal) ((c.tc : Thread Cert.Step0Ideal.nD Cert.Step0Ideal.τ).loc Cert.Step0Ideal.main_v3_3)),
      θ_run (Cert.Step0Ideal.defs (F := Ideal)) (onTc (τ := Cert.Step0Ideal.τ) (Cert.Step0Ideal.main (F := Ideal))) ⟨m, fun _ => 0, g⟩ (fun r => ∀ c : Dev Cert.Step0Ideal.nD,
          r.2.mem ((c.tc : Thread Cert.Step0Ideal.nD Cert.Step0Ideal.τ).loc Cert.Step0Ideal.main_v3_0) = v0 c
          ∧ r.2.mem ((c.tc : Thread Cert.Step0Ideal.nD Cert.Step0Ideal.τ).loc Cert.Step0Ideal.main_v3_1) = v1 c
          ∧ r.2.mem ((c.tc : Thread Cert.Step0Ideal.nD Cert.Step0Ideal.τ).loc Cert.Step0Ideal.main_v3_2) = v2 c
          ∧ r.2.mem ((c.tc : Thread Cert.Step0Ideal.nD Cert.Step0Ideal.τ).loc Cert.Step0Ideal.main_v3_3) = v3 c
          ∧ r.2.mem ((c.tc : Thread Cert.Step0Ideal.nD Cert.Step0Ideal.τ).loc Cert.Step0Ideal.main_arg0) = m ((c.tc : Thread Cert.Step0Ideal.nD Cert.Step0Ideal.τ).loc Cert.Step0Ideal.main_arg0)
          ∧ r.2.mem ((c.tc : Thread Cert.Step0Ideal.nD Cert.Step0Ideal.τ).loc Cert.Step0Ideal.main_arg1) = m ((c.tc : Thread Cert.Step0Ideal.nD Cert.Step0Ideal.τ).loc Cert.Step0Ideal.main_arg1)
          ∧ r.2.mem ((c.tc : Thread Cert.Step0Ideal.nD Cert.Step0Ideal.τ).loc Cert.Step0Ideal.main_arg2) = m ((c.tc : Thread Cert.Step0Ideal.nD Cert.Step0Ideal.τ).loc Cert.Step0Ideal.main_arg2)
          ∧ r.2.mem ((c.tc : Thread Cert.Step0Ideal.nD Cert.Step0Ideal.τ).loc Cert.Step0Ideal.main_arg3) = m ((c.tc : Thread Cert.Step0Ideal.nD Cert.Step0Ideal.τ).loc Cert.Step0Ideal.main_arg3)
          ∧ r.2.mem ((c.tc : Thread Cert.Step0Ideal.nD Cert.Step0Ideal.τ).loc Cert.Step0Ideal.main_arg4) = m ((c.tc : Thread Cert.Step0Ideal.nD Cert.Step0Ideal.τ).loc Cert.Step0Ideal.main_arg4))
      ∧ θ_run (Cert.Step0PlainIdeal.defs (F := Ideal)) (onTc (τ := Cert.Step0PlainIdeal.τ) (Cert.Step0PlainIdeal.main (F := Ideal))) ⟨m', fun _ => 0, g'⟩ (fun r => ∀ c : Dev Cert.Step0PlainIdeal.nD,
          r.2.mem ((c.tc : Thread Cert.Step0PlainIdeal.nD Cert.Step0PlainIdeal.τ).loc Cert.Step0PlainIdeal.main_v0) = v0 c
          ∧ r.2.mem ((c.tc : Thread Cert.Step0PlainIdeal.nD Cert.Step0PlainIdeal.τ).loc Cert.Step0PlainIdeal.main_v27) = v1 c
          ∧ r.2.mem ((c.tc : Thread Cert.Step0PlainIdeal.nD Cert.Step0PlainIdeal.τ).loc Cert.Step0PlainIdeal.main_v8) = v2 c
          ∧ r.2.mem ((c.tc : Thread Cert.Step0PlainIdeal.nD Cert.Step0PlainIdeal.τ).loc Cert.Step0PlainIdeal.main_v14) = v3 c
          ∧ r.2.mem ((c.tc : Thread Cert.Step0PlainIdeal.nD Cert.Step0PlainIdeal.τ).loc Cert.Step0PlainIdeal.main_arg0) = m' ((c.tc : Thread Cert.Step0PlainIdeal.nD Cert.Step0PlainIdeal.τ).loc Cert.Step0PlainIdeal.main_arg0)
          ∧ r.2.mem ((c.tc : Thread Cert.Step0PlainIdeal.nD Cert.Step0PlainIdeal.τ).loc Cert.Step0PlainIdeal.main_arg1) = m' ((c.tc : Thread Cert.Step0PlainIdeal.nD Cert.Step0PlainIdeal.τ).loc Cert.Step0PlainIdeal.main_arg1)
          ∧ r.2.mem ((c.tc : Thread Cert.Step0PlainIdeal.nD Cert.Step0PlainIdeal.τ).loc Cert.Step0PlainIdeal.main_arg2) = m' ((c.tc : Thread Cert.Step0PlainIdeal.nD Cert.Step0PlainIdeal.τ).loc Cert.Step0PlainIdeal.main_arg2)
          ∧ r.2.mem ((c.tc : Thread Cert.Step0PlainIdeal.nD Cert.Step0PlainIdeal.τ).loc Cert.Step0PlainIdeal.main_arg3) = m' ((c.tc : Thread Cert.Step0PlainIdeal.nD Cert.Step0PlainIdeal.τ).loc Cert.Step0PlainIdeal.main_arg3)
          ∧ r.2.mem ((c.tc : Thread Cert.Step0PlainIdeal.nD Cert.Step0PlainIdeal.τ).loc Cert.Step0PlainIdeal.main_arg4) = m' ((c.tc : Thread Cert.Step0PlainIdeal.nD Cert.Step0PlainIdeal.τ).loc Cert.Step0PlainIdeal.main_arg4))

def preserves_Step1_Step1Ideal : Prop :=
  True

def algebraic_Step1Ideal_Step1PlainIdeal [hStep1Ideal : Cert.Step1Ideal.Facts] [hStep1PlainIdeal : Cert.Step1PlainIdeal.Facts] : Prop :=
  ∀ (m : (ℓ : Loc Cert.Step1Ideal.nD Cert.Step1Ideal.τ Cert.Step1Ideal.sig) → Buf (Elt Ideal) ℓ) (g : Dev Cert.Step1Ideal.nD → PrngReg)
    (m' : (ℓ : Loc Cert.Step1PlainIdeal.nD Cert.Step1PlainIdeal.τ Cert.Step1PlainIdeal.sig) → Buf (Elt Ideal) ℓ) (g' : Dev Cert.Step1PlainIdeal.nD → PrngReg), Pre_Step1Ideal m →
    (∀ c : Dev Cert.Step1Ideal.nD,
      m' ((c.tc : Thread Cert.Step1PlainIdeal.nD Cert.Step1PlainIdeal.τ).loc Cert.Step1PlainIdeal.main_arg0) = m ((c.tc : Thread Cert.Step1Ideal.nD Cert.Step1Ideal.τ).loc Cert.Step1Ideal.main_arg0)
      ∧ m' ((c.tc : Thread Cert.Step1PlainIdeal.nD Cert.Step1PlainIdeal.τ).loc Cert.Step1PlainIdeal.main_arg1) = m ((c.tc : Thread Cert.Step1Ideal.nD Cert.Step1Ideal.τ).loc Cert.Step1Ideal.main_arg1)
      ∧ m' ((c.tc : Thread Cert.Step1PlainIdeal.nD Cert.Step1PlainIdeal.τ).loc Cert.Step1PlainIdeal.main_arg2) = m ((c.tc : Thread Cert.Step1Ideal.nD Cert.Step1Ideal.τ).loc Cert.Step1Ideal.main_arg2)
      ∧ m' ((c.tc : Thread Cert.Step1PlainIdeal.nD Cert.Step1PlainIdeal.τ).loc Cert.Step1PlainIdeal.main_arg3) = m ((c.tc : Thread Cert.Step1Ideal.nD Cert.Step1Ideal.τ).loc Cert.Step1Ideal.main_arg3)
      ∧ m' ((c.tc : Thread Cert.Step1PlainIdeal.nD Cert.Step1PlainIdeal.τ).loc Cert.Step1PlainIdeal.main_arg4) = m ((c.tc : Thread Cert.Step1Ideal.nD Cert.Step1Ideal.τ).loc Cert.Step1Ideal.main_arg4)) →
    ∃ (v0 : (c : Dev Cert.Step1Ideal.nD) → Buf (Elt Ideal) ((c.tc : Thread Cert.Step1Ideal.nD Cert.Step1Ideal.τ).loc Cert.Step1Ideal.main_v3_0)) (v1 : (c : Dev Cert.Step1Ideal.nD) → Buf (Elt Ideal) ((c.tc : Thread Cert.Step1Ideal.nD Cert.Step1Ideal.τ).loc Cert.Step1Ideal.main_v3_1)) (v2 : (c : Dev Cert.Step1Ideal.nD) → Buf (Elt Ideal) ((c.tc : Thread Cert.Step1Ideal.nD Cert.Step1Ideal.τ).loc Cert.Step1Ideal.main_v3_2)) (v3 : (c : Dev Cert.Step1Ideal.nD) → Buf (Elt Ideal) ((c.tc : Thread Cert.Step1Ideal.nD Cert.Step1Ideal.τ).loc Cert.Step1Ideal.main_v3_3)),
      θ_run (Cert.Step1Ideal.defs (F := Ideal)) (onTc (τ := Cert.Step1Ideal.τ) (Cert.Step1Ideal.main (F := Ideal))) ⟨m, fun _ => 0, g⟩ (fun r => ∀ c : Dev Cert.Step1Ideal.nD,
          r.2.mem ((c.tc : Thread Cert.Step1Ideal.nD Cert.Step1Ideal.τ).loc Cert.Step1Ideal.main_v3_0) = v0 c
          ∧ r.2.mem ((c.tc : Thread Cert.Step1Ideal.nD Cert.Step1Ideal.τ).loc Cert.Step1Ideal.main_v3_1) = v1 c
          ∧ r.2.mem ((c.tc : Thread Cert.Step1Ideal.nD Cert.Step1Ideal.τ).loc Cert.Step1Ideal.main_v3_2) = v2 c
          ∧ r.2.mem ((c.tc : Thread Cert.Step1Ideal.nD Cert.Step1Ideal.τ).loc Cert.Step1Ideal.main_v3_3) = v3 c
          ∧ r.2.mem ((c.tc : Thread Cert.Step1Ideal.nD Cert.Step1Ideal.τ).loc Cert.Step1Ideal.main_arg0) = m ((c.tc : Thread Cert.Step1Ideal.nD Cert.Step1Ideal.τ).loc Cert.Step1Ideal.main_arg0)
          ∧ r.2.mem ((c.tc : Thread Cert.Step1Ideal.nD Cert.Step1Ideal.τ).loc Cert.Step1Ideal.main_arg1) = m ((c.tc : Thread Cert.Step1Ideal.nD Cert.Step1Ideal.τ).loc Cert.Step1Ideal.main_arg1)
          ∧ r.2.mem ((c.tc : Thread Cert.Step1Ideal.nD Cert.Step1Ideal.τ).loc Cert.Step1Ideal.main_arg2) = m ((c.tc : Thread Cert.Step1Ideal.nD Cert.Step1Ideal.τ).loc Cert.Step1Ideal.main_arg2)
          ∧ r.2.mem ((c.tc : Thread Cert.Step1Ideal.nD Cert.Step1Ideal.τ).loc Cert.Step1Ideal.main_arg3) = m ((c.tc : Thread Cert.Step1Ideal.nD Cert.Step1Ideal.τ).loc Cert.Step1Ideal.main_arg3)
          ∧ r.2.mem ((c.tc : Thread Cert.Step1Ideal.nD Cert.Step1Ideal.τ).loc Cert.Step1Ideal.main_arg4) = m ((c.tc : Thread Cert.Step1Ideal.nD Cert.Step1Ideal.τ).loc Cert.Step1Ideal.main_arg4))
      ∧ θ_run (Cert.Step1PlainIdeal.defs (F := Ideal)) (onTc (τ := Cert.Step1PlainIdeal.τ) (Cert.Step1PlainIdeal.main (F := Ideal))) ⟨m', fun _ => 0, g'⟩ (fun r => ∀ c : Dev Cert.Step1PlainIdeal.nD,
          r.2.mem ((c.tc : Thread Cert.Step1PlainIdeal.nD Cert.Step1PlainIdeal.τ).loc Cert.Step1PlainIdeal.main_v0) = v0 c
          ∧ r.2.mem ((c.tc : Thread Cert.Step1PlainIdeal.nD Cert.Step1PlainIdeal.τ).loc Cert.Step1PlainIdeal.main_v27) = v1 c
          ∧ r.2.mem ((c.tc : Thread Cert.Step1PlainIdeal.nD Cert.Step1PlainIdeal.τ).loc Cert.Step1PlainIdeal.main_v8) = v2 c
          ∧ r.2.mem ((c.tc : Thread Cert.Step1PlainIdeal.nD Cert.Step1PlainIdeal.τ).loc Cert.Step1PlainIdeal.main_v14) = v3 c
          ∧ r.2.mem ((c.tc : Thread Cert.Step1PlainIdeal.nD Cert.Step1PlainIdeal.τ).loc Cert.Step1PlainIdeal.main_arg0) = m' ((c.tc : Thread Cert.Step1PlainIdeal.nD Cert.Step1PlainIdeal.τ).loc Cert.Step1PlainIdeal.main_arg0)
          ∧ r.2.mem ((c.tc : Thread Cert.Step1PlainIdeal.nD Cert.Step1PlainIdeal.τ).loc Cert.Step1PlainIdeal.main_arg1) = m' ((c.tc : Thread Cert.Step1PlainIdeal.nD Cert.Step1PlainIdeal.τ).loc Cert.Step1PlainIdeal.main_arg1)
          ∧ r.2.mem ((c.tc : Thread Cert.Step1PlainIdeal.nD Cert.Step1PlainIdeal.τ).loc Cert.Step1PlainIdeal.main_arg2) = m' ((c.tc : Thread Cert.Step1PlainIdeal.nD Cert.Step1PlainIdeal.τ).loc Cert.Step1PlainIdeal.main_arg2)
          ∧ r.2.mem ((c.tc : Thread Cert.Step1PlainIdeal.nD Cert.Step1PlainIdeal.τ).loc Cert.Step1PlainIdeal.main_arg3) = m' ((c.tc : Thread Cert.Step1PlainIdeal.nD Cert.Step1PlainIdeal.τ).loc Cert.Step1PlainIdeal.main_arg3)
          ∧ r.2.mem ((c.tc : Thread Cert.Step1PlainIdeal.nD Cert.Step1PlainIdeal.τ).loc Cert.Step1PlainIdeal.main_arg4) = m' ((c.tc : Thread Cert.Step1PlainIdeal.nD Cert.Step1PlainIdeal.τ).loc Cert.Step1PlainIdeal.main_arg4))

def preserves_Step2_Step2Ideal : Prop :=
  True

def algebraic_Step2Ideal_Step2PlainIdeal [hStep2Ideal : Cert.Step2Ideal.Facts] [hStep2PlainIdeal : Cert.Step2PlainIdeal.Facts] : Prop :=
  ∀ (m : (ℓ : Loc Cert.Step2Ideal.nD Cert.Step2Ideal.τ Cert.Step2Ideal.sig) → Buf (Elt Ideal) ℓ) (g : Dev Cert.Step2Ideal.nD → PrngReg)
    (m' : (ℓ : Loc Cert.Step2PlainIdeal.nD Cert.Step2PlainIdeal.τ Cert.Step2PlainIdeal.sig) → Buf (Elt Ideal) ℓ) (g' : Dev Cert.Step2PlainIdeal.nD → PrngReg), Pre_Step2Ideal m →
    (∀ c : Dev Cert.Step2Ideal.nD,
      m' ((c.tc : Thread Cert.Step2PlainIdeal.nD Cert.Step2PlainIdeal.τ).loc Cert.Step2PlainIdeal.main_arg0) = m ((c.tc : Thread Cert.Step2Ideal.nD Cert.Step2Ideal.τ).loc Cert.Step2Ideal.main_arg0)
      ∧ m' ((c.tc : Thread Cert.Step2PlainIdeal.nD Cert.Step2PlainIdeal.τ).loc Cert.Step2PlainIdeal.main_arg1) = m ((c.tc : Thread Cert.Step2Ideal.nD Cert.Step2Ideal.τ).loc Cert.Step2Ideal.main_arg1)
      ∧ m' ((c.tc : Thread Cert.Step2PlainIdeal.nD Cert.Step2PlainIdeal.τ).loc Cert.Step2PlainIdeal.main_arg2) = m ((c.tc : Thread Cert.Step2Ideal.nD Cert.Step2Ideal.τ).loc Cert.Step2Ideal.main_arg2)
      ∧ m' ((c.tc : Thread Cert.Step2PlainIdeal.nD Cert.Step2PlainIdeal.τ).loc Cert.Step2PlainIdeal.main_arg3) = m ((c.tc : Thread Cert.Step2Ideal.nD Cert.Step2Ideal.τ).loc Cert.Step2Ideal.main_arg3)
      ∧ m' ((c.tc : Thread Cert.Step2PlainIdeal.nD Cert.Step2PlainIdeal.τ).loc Cert.Step2PlainIdeal.main_arg4) = m ((c.tc : Thread Cert.Step2Ideal.nD Cert.Step2Ideal.τ).loc Cert.Step2Ideal.main_arg4)) →
    ∃ (v0 : (c : Dev Cert.Step2Ideal.nD) → Buf (Elt Ideal) ((c.tc : Thread Cert.Step2Ideal.nD Cert.Step2Ideal.τ).loc Cert.Step2Ideal.main_v3_0)) (v1 : (c : Dev Cert.Step2Ideal.nD) → Buf (Elt Ideal) ((c.tc : Thread Cert.Step2Ideal.nD Cert.Step2Ideal.τ).loc Cert.Step2Ideal.main_v3_1)) (v2 : (c : Dev Cert.Step2Ideal.nD) → Buf (Elt Ideal) ((c.tc : Thread Cert.Step2Ideal.nD Cert.Step2Ideal.τ).loc Cert.Step2Ideal.main_v3_2)) (v3 : (c : Dev Cert.Step2Ideal.nD) → Buf (Elt Ideal) ((c.tc : Thread Cert.Step2Ideal.nD Cert.Step2Ideal.τ).loc Cert.Step2Ideal.main_v3_3)),
      θ_run (Cert.Step2Ideal.defs (F := Ideal)) (onTc (τ := Cert.Step2Ideal.τ) (Cert.Step2Ideal.main (F := Ideal))) ⟨m, fun _ => 0, g⟩ (fun r => ∀ c : Dev Cert.Step2Ideal.nD,
          r.2.mem ((c.tc : Thread Cert.Step2Ideal.nD Cert.Step2Ideal.τ).loc Cert.Step2Ideal.main_v3_0) = v0 c
          ∧ r.2.mem ((c.tc : Thread Cert.Step2Ideal.nD Cert.Step2Ideal.τ).loc Cert.Step2Ideal.main_v3_1) = v1 c
          ∧ r.2.mem ((c.tc : Thread Cert.Step2Ideal.nD Cert.Step2Ideal.τ).loc Cert.Step2Ideal.main_v3_2) = v2 c
          ∧ r.2.mem ((c.tc : Thread Cert.Step2Ideal.nD Cert.Step2Ideal.τ).loc Cert.Step2Ideal.main_v3_3) = v3 c
          ∧ r.2.mem ((c.tc : Thread Cert.Step2Ideal.nD Cert.Step2Ideal.τ).loc Cert.Step2Ideal.main_arg0) = m ((c.tc : Thread Cert.Step2Ideal.nD Cert.Step2Ideal.τ).loc Cert.Step2Ideal.main_arg0)
          ∧ r.2.mem ((c.tc : Thread Cert.Step2Ideal.nD Cert.Step2Ideal.τ).loc Cert.Step2Ideal.main_arg1) = m ((c.tc : Thread Cert.Step2Ideal.nD Cert.Step2Ideal.τ).loc Cert.Step2Ideal.main_arg1)
          ∧ r.2.mem ((c.tc : Thread Cert.Step2Ideal.nD Cert.Step2Ideal.τ).loc Cert.Step2Ideal.main_arg2) = m ((c.tc : Thread Cert.Step2Ideal.nD Cert.Step2Ideal.τ).loc Cert.Step2Ideal.main_arg2)
          ∧ r.2.mem ((c.tc : Thread Cert.Step2Ideal.nD Cert.Step2Ideal.τ).loc Cert.Step2Ideal.main_arg3) = m ((c.tc : Thread Cert.Step2Ideal.nD Cert.Step2Ideal.τ).loc Cert.Step2Ideal.main_arg3)
          ∧ r.2.mem ((c.tc : Thread Cert.Step2Ideal.nD Cert.Step2Ideal.τ).loc Cert.Step2Ideal.main_arg4) = m ((c.tc : Thread Cert.Step2Ideal.nD Cert.Step2Ideal.τ).loc Cert.Step2Ideal.main_arg4))
      ∧ θ_run (Cert.Step2PlainIdeal.defs (F := Ideal)) (onTc (τ := Cert.Step2PlainIdeal.τ) (Cert.Step2PlainIdeal.main (F := Ideal))) ⟨m', fun _ => 0, g'⟩ (fun r => ∀ c : Dev Cert.Step2PlainIdeal.nD,
          r.2.mem ((c.tc : Thread Cert.Step2PlainIdeal.nD Cert.Step2PlainIdeal.τ).loc Cert.Step2PlainIdeal.main_v0) = v0 c
          ∧ r.2.mem ((c.tc : Thread Cert.Step2PlainIdeal.nD Cert.Step2PlainIdeal.τ).loc Cert.Step2PlainIdeal.main_v27) = v1 c
          ∧ r.2.mem ((c.tc : Thread Cert.Step2PlainIdeal.nD Cert.Step2PlainIdeal.τ).loc Cert.Step2PlainIdeal.main_v8) = v2 c
          ∧ r.2.mem ((c.tc : Thread Cert.Step2PlainIdeal.nD Cert.Step2PlainIdeal.τ).loc Cert.Step2PlainIdeal.main_v14) = v3 c
          ∧ r.2.mem ((c.tc : Thread Cert.Step2PlainIdeal.nD Cert.Step2PlainIdeal.τ).loc Cert.Step2PlainIdeal.main_arg0) = m' ((c.tc : Thread Cert.Step2PlainIdeal.nD Cert.Step2PlainIdeal.τ).loc Cert.Step2PlainIdeal.main_arg0)
          ∧ r.2.mem ((c.tc : Thread Cert.Step2PlainIdeal.nD Cert.Step2PlainIdeal.τ).loc Cert.Step2PlainIdeal.main_arg1) = m' ((c.tc : Thread Cert.Step2PlainIdeal.nD Cert.Step2PlainIdeal.τ).loc Cert.Step2PlainIdeal.main_arg1)
          ∧ r.2.mem ((c.tc : Thread Cert.Step2PlainIdeal.nD Cert.Step2PlainIdeal.τ).loc Cert.Step2PlainIdeal.main_arg2) = m' ((c.tc : Thread Cert.Step2PlainIdeal.nD Cert.Step2PlainIdeal.τ).loc Cert.Step2PlainIdeal.main_arg2)
          ∧ r.2.mem ((c.tc : Thread Cert.Step2PlainIdeal.nD Cert.Step2PlainIdeal.τ).loc Cert.Step2PlainIdeal.main_arg3) = m' ((c.tc : Thread Cert.Step2PlainIdeal.nD Cert.Step2PlainIdeal.τ).loc Cert.Step2PlainIdeal.main_arg3)
          ∧ r.2.mem ((c.tc : Thread Cert.Step2PlainIdeal.nD Cert.Step2PlainIdeal.τ).loc Cert.Step2PlainIdeal.main_arg4) = m' ((c.tc : Thread Cert.Step2PlainIdeal.nD Cert.Step2PlainIdeal.τ).loc Cert.Step2PlainIdeal.main_arg4))

def preserves_Step3_Step3Ideal : Prop :=
  True

def algebraic_Step3Ideal_Step3PlainIdeal [hStep3Ideal : Cert.Step3Ideal.Facts] [hStep3PlainIdeal : Cert.Step3PlainIdeal.Facts] : Prop :=
  ∀ (m : (ℓ : Loc Cert.Step3Ideal.nD Cert.Step3Ideal.τ Cert.Step3Ideal.sig) → Buf (Elt Ideal) ℓ) (g : Dev Cert.Step3Ideal.nD → PrngReg)
    (m' : (ℓ : Loc Cert.Step3PlainIdeal.nD Cert.Step3PlainIdeal.τ Cert.Step3PlainIdeal.sig) → Buf (Elt Ideal) ℓ) (g' : Dev Cert.Step3PlainIdeal.nD → PrngReg), Pre_Step3Ideal m →
    (∀ c : Dev Cert.Step3Ideal.nD,
      m' ((c.tc : Thread Cert.Step3PlainIdeal.nD Cert.Step3PlainIdeal.τ).loc Cert.Step3PlainIdeal.main_arg0) = m ((c.tc : Thread Cert.Step3Ideal.nD Cert.Step3Ideal.τ).loc Cert.Step3Ideal.main_arg0)
      ∧ m' ((c.tc : Thread Cert.Step3PlainIdeal.nD Cert.Step3PlainIdeal.τ).loc Cert.Step3PlainIdeal.main_arg1) = m ((c.tc : Thread Cert.Step3Ideal.nD Cert.Step3Ideal.τ).loc Cert.Step3Ideal.main_arg1)
      ∧ m' ((c.tc : Thread Cert.Step3PlainIdeal.nD Cert.Step3PlainIdeal.τ).loc Cert.Step3PlainIdeal.main_arg2) = m ((c.tc : Thread Cert.Step3Ideal.nD Cert.Step3Ideal.τ).loc Cert.Step3Ideal.main_arg2)
      ∧ m' ((c.tc : Thread Cert.Step3PlainIdeal.nD Cert.Step3PlainIdeal.τ).loc Cert.Step3PlainIdeal.main_arg3) = m ((c.tc : Thread Cert.Step3Ideal.nD Cert.Step3Ideal.τ).loc Cert.Step3Ideal.main_arg3)
      ∧ m' ((c.tc : Thread Cert.Step3PlainIdeal.nD Cert.Step3PlainIdeal.τ).loc Cert.Step3PlainIdeal.main_arg4) = m ((c.tc : Thread Cert.Step3Ideal.nD Cert.Step3Ideal.τ).loc Cert.Step3Ideal.main_arg4)) →
    ∃ (v0 : (c : Dev Cert.Step3Ideal.nD) → Buf (Elt Ideal) ((c.tc : Thread Cert.Step3Ideal.nD Cert.Step3Ideal.τ).loc Cert.Step3Ideal.main_v3_0)) (v1 : (c : Dev Cert.Step3Ideal.nD) → Buf (Elt Ideal) ((c.tc : Thread Cert.Step3Ideal.nD Cert.Step3Ideal.τ).loc Cert.Step3Ideal.main_v3_1)) (v2 : (c : Dev Cert.Step3Ideal.nD) → Buf (Elt Ideal) ((c.tc : Thread Cert.Step3Ideal.nD Cert.Step3Ideal.τ).loc Cert.Step3Ideal.main_v3_2)) (v3 : (c : Dev Cert.Step3Ideal.nD) → Buf (Elt Ideal) ((c.tc : Thread Cert.Step3Ideal.nD Cert.Step3Ideal.τ).loc Cert.Step3Ideal.main_v3_3)),
      θ_run (Cert.Step3Ideal.defs (F := Ideal)) (onTc (τ := Cert.Step3Ideal.τ) (Cert.Step3Ideal.main (F := Ideal))) ⟨m, fun _ => 0, g⟩ (fun r => ∀ c : Dev Cert.Step3Ideal.nD,
          r.2.mem ((c.tc : Thread Cert.Step3Ideal.nD Cert.Step3Ideal.τ).loc Cert.Step3Ideal.main_v3_0) = v0 c
          ∧ r.2.mem ((c.tc : Thread Cert.Step3Ideal.nD Cert.Step3Ideal.τ).loc Cert.Step3Ideal.main_v3_1) = v1 c
          ∧ r.2.mem ((c.tc : Thread Cert.Step3Ideal.nD Cert.Step3Ideal.τ).loc Cert.Step3Ideal.main_v3_2) = v2 c
          ∧ r.2.mem ((c.tc : Thread Cert.Step3Ideal.nD Cert.Step3Ideal.τ).loc Cert.Step3Ideal.main_v3_3) = v3 c
          ∧ r.2.mem ((c.tc : Thread Cert.Step3Ideal.nD Cert.Step3Ideal.τ).loc Cert.Step3Ideal.main_arg0) = m ((c.tc : Thread Cert.Step3Ideal.nD Cert.Step3Ideal.τ).loc Cert.Step3Ideal.main_arg0)
          ∧ r.2.mem ((c.tc : Thread Cert.Step3Ideal.nD Cert.Step3Ideal.τ).loc Cert.Step3Ideal.main_arg1) = m ((c.tc : Thread Cert.Step3Ideal.nD Cert.Step3Ideal.τ).loc Cert.Step3Ideal.main_arg1)
          ∧ r.2.mem ((c.tc : Thread Cert.Step3Ideal.nD Cert.Step3Ideal.τ).loc Cert.Step3Ideal.main_arg2) = m ((c.tc : Thread Cert.Step3Ideal.nD Cert.Step3Ideal.τ).loc Cert.Step3Ideal.main_arg2)
          ∧ r.2.mem ((c.tc : Thread Cert.Step3Ideal.nD Cert.Step3Ideal.τ).loc Cert.Step3Ideal.main_arg3) = m ((c.tc : Thread Cert.Step3Ideal.nD Cert.Step3Ideal.τ).loc Cert.Step3Ideal.main_arg3)
          ∧ r.2.mem ((c.tc : Thread Cert.Step3Ideal.nD Cert.Step3Ideal.τ).loc Cert.Step3Ideal.main_arg4) = m ((c.tc : Thread Cert.Step3Ideal.nD Cert.Step3Ideal.τ).loc Cert.Step3Ideal.main_arg4))
      ∧ θ_run (Cert.Step3PlainIdeal.defs (F := Ideal)) (onTc (τ := Cert.Step3PlainIdeal.τ) (Cert.Step3PlainIdeal.main (F := Ideal))) ⟨m', fun _ => 0, g'⟩ (fun r => ∀ c : Dev Cert.Step3PlainIdeal.nD,
          r.2.mem ((c.tc : Thread Cert.Step3PlainIdeal.nD Cert.Step3PlainIdeal.τ).loc Cert.Step3PlainIdeal.main_v0) = v0 c
          ∧ r.2.mem ((c.tc : Thread Cert.Step3PlainIdeal.nD Cert.Step3PlainIdeal.τ).loc Cert.Step3PlainIdeal.main_v27) = v1 c
          ∧ r.2.mem ((c.tc : Thread Cert.Step3PlainIdeal.nD Cert.Step3PlainIdeal.τ).loc Cert.Step3PlainIdeal.main_v8) = v2 c
          ∧ r.2.mem ((c.tc : Thread Cert.Step3PlainIdeal.nD Cert.Step3PlainIdeal.τ).loc Cert.Step3PlainIdeal.main_v14) = v3 c
          ∧ r.2.mem ((c.tc : Thread Cert.Step3PlainIdeal.nD Cert.Step3PlainIdeal.τ).loc Cert.Step3PlainIdeal.main_arg0) = m' ((c.tc : Thread Cert.Step3PlainIdeal.nD Cert.Step3PlainIdeal.τ).loc Cert.Step3PlainIdeal.main_arg0)
          ∧ r.2.mem ((c.tc : Thread Cert.Step3PlainIdeal.nD Cert.Step3PlainIdeal.τ).loc Cert.Step3PlainIdeal.main_arg1) = m' ((c.tc : Thread Cert.Step3PlainIdeal.nD Cert.Step3PlainIdeal.τ).loc Cert.Step3PlainIdeal.main_arg1)
          ∧ r.2.mem ((c.tc : Thread Cert.Step3PlainIdeal.nD Cert.Step3PlainIdeal.τ).loc Cert.Step3PlainIdeal.main_arg2) = m' ((c.tc : Thread Cert.Step3PlainIdeal.nD Cert.Step3PlainIdeal.τ).loc Cert.Step3PlainIdeal.main_arg2)
          ∧ r.2.mem ((c.tc : Thread Cert.Step3PlainIdeal.nD Cert.Step3PlainIdeal.τ).loc Cert.Step3PlainIdeal.main_arg3) = m' ((c.tc : Thread Cert.Step3PlainIdeal.nD Cert.Step3PlainIdeal.τ).loc Cert.Step3PlainIdeal.main_arg3)
          ∧ r.2.mem ((c.tc : Thread Cert.Step3PlainIdeal.nD Cert.Step3PlainIdeal.τ).loc Cert.Step3PlainIdeal.main_arg4) = m' ((c.tc : Thread Cert.Step3PlainIdeal.nD Cert.Step3PlainIdeal.τ).loc Cert.Step3PlainIdeal.main_arg4))

def preserves_StepUp_StepUpIdeal : Prop :=
  True

def algebraic_StepUpIdeal_StepUpPlainIdeal [hStepUpIdeal : Cert.StepUpIdeal.Facts] [hStepUpPlainIdeal : Cert.StepUpPlainIdeal.Facts] : Prop :=
  ∀ (m : (ℓ : Loc Cert.StepUpIdeal.nD Cert.StepUpIdeal.τ Cert.StepUpIdeal.sig) → Buf (Elt Ideal) ℓ) (g : Dev Cert.StepUpIdeal.nD → PrngReg)
    (m' : (ℓ : Loc Cert.StepUpPlainIdeal.nD Cert.StepUpPlainIdeal.τ Cert.StepUpPlainIdeal.sig) → Buf (Elt Ideal) ℓ) (g' : Dev Cert.StepUpPlainIdeal.nD → PrngReg), Pre_StepUpIdeal m →
    (∀ c : Dev Cert.StepUpIdeal.nD,
      m' ((c.tc : Thread Cert.StepUpPlainIdeal.nD Cert.StepUpPlainIdeal.τ).loc Cert.StepUpPlainIdeal.main_arg0) = m ((c.tc : Thread Cert.StepUpIdeal.nD Cert.StepUpIdeal.τ).loc Cert.StepUpIdeal.main_arg0)
      ∧ m' ((c.tc : Thread Cert.StepUpPlainIdeal.nD Cert.StepUpPlainIdeal.τ).loc Cert.StepUpPlainIdeal.main_arg1) = m ((c.tc : Thread Cert.StepUpIdeal.nD Cert.StepUpIdeal.τ).loc Cert.StepUpIdeal.main_arg1)
      ∧ m' ((c.tc : Thread Cert.StepUpPlainIdeal.nD Cert.StepUpPlainIdeal.τ).loc Cert.StepUpPlainIdeal.main_arg2) = m ((c.tc : Thread Cert.StepUpIdeal.nD Cert.StepUpIdeal.τ).loc Cert.StepUpIdeal.main_arg2)
      ∧ m' ((c.tc : Thread Cert.StepUpPlainIdeal.nD Cert.StepUpPlainIdeal.τ).loc Cert.StepUpPlainIdeal.main_arg3) = m ((c.tc : Thread Cert.StepUpIdeal.nD Cert.StepUpIdeal.τ).loc Cert.StepUpIdeal.main_arg3)
      ∧ m' ((c.tc : Thread Cert.StepUpPlainIdeal.nD Cert.StepUpPlainIdeal.τ).loc Cert.StepUpPlainIdeal.main_arg4) = m ((c.tc : Thread Cert.StepUpIdeal.nD Cert.StepUpIdeal.τ).loc Cert.StepUpIdeal.main_arg4)
      ∧ m' ((c.tc : Thread Cert.StepUpPlainIdeal.nD Cert.StepUpPlainIdeal.τ).loc Cert.StepUpPlainIdeal.main_arg5) = m ((c.tc : Thread Cert.StepUpIdeal.nD Cert.StepUpIdeal.τ).loc Cert.StepUpIdeal.main_arg5)
      ∧ m' ((c.tc : Thread Cert.StepUpPlainIdeal.nD Cert.StepUpPlainIdeal.τ).loc Cert.StepUpPlainIdeal.main_arg6) = m ((c.tc : Thread Cert.StepUpIdeal.nD Cert.StepUpIdeal.τ).loc Cert.StepUpIdeal.main_arg6)) →
    ∃ (v0 : (c : Dev Cert.StepUpIdeal.nD) → Buf (Elt Ideal) ((c.tc : Thread Cert.StepUpIdeal.nD Cert.StepUpIdeal.τ).loc Cert.StepUpIdeal.main_v0_0)) (v1 : (c : Dev Cert.StepUpIdeal.nD) → Buf (Elt Ideal) ((c.tc : Thread Cert.StepUpIdeal.nD Cert.StepUpIdeal.τ).loc Cert.StepUpIdeal.main_v0_1)) (v2 : (c : Dev Cert.StepUpIdeal.nD) → Buf (Elt Ideal) ((c.tc : Thread Cert.StepUpIdeal.nD Cert.StepUpIdeal.τ).loc Cert.StepUpIdeal.main_v0_2)) (v3 : (c : Dev Cert.StepUpIdeal.nD) → Buf (Elt Ideal) ((c.tc : Thread Cert.StepUpIdeal.nD Cert.StepUpIdeal.τ).loc Cert.StepUpIdeal.main_v0_3)),
      θ_run (Cert.StepUpIdeal.defs (F := Ideal)) (onTc (τ := Cert.StepUpIdeal.τ) (Cert.StepUpIdeal.main (F := Ideal))) ⟨m, fun _ => 0, g⟩ (fun r => ∀ c : Dev Cert.StepUpIdeal.nD,
          r.2.mem ((c.tc : Thread Cert.StepUpIdeal.nD Cert.StepUpIdeal.τ).loc Cert.StepUpIdeal.main_v0_0) = v0 c
          ∧ r.2.mem ((c.tc : Thread Cert.StepUpIdeal.nD Cert.StepUpIdeal.τ).loc Cert.StepUpIdeal.main_v0_1) = v1 c
          ∧ r.2.mem ((c.tc : Thread Cert.StepUpIdeal.nD Cert.StepUpIdeal.τ).loc Cert.StepUpIdeal.main_v0_2) = v2 c
          ∧ r.2.mem ((c.tc : Thread Cert.StepUpIdeal.nD Cert.StepUpIdeal.τ).loc Cert.StepUpIdeal.main_v0_3) = v3 c
          ∧ r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3)
          ∧ r.2.mem ((c.tc : Thread Cert.StepUpIdeal.nD Cert.StepUpIdeal.τ).loc Cert.StepUpIdeal.main_arg4) = m ((c.tc : Thread Cert.StepUpIdeal.nD Cert.StepUpIdeal.τ).loc Cert.StepUpIdeal.main_arg4)
          ∧ r.2.mem ((c.tc : Thread Cert.StepUpIdeal.nD Cert.StepUpIdeal.τ).loc Cert.StepUpIdeal.main_arg5) = m ((c.tc : Thread Cert.StepUpIdeal.nD Cert.StepUpIdeal.τ).loc Cert.StepUpIdeal.main_arg5)
          ∧ r.2.mem ((c.tc : Thread Cert.StepUpIdeal.nD Cert.StepUpIdeal.τ).loc Cert.StepUpIdeal.main_arg6) = m ((c.tc : Thread Cert.StepUpIdeal.nD Cert.StepUpIdeal.τ).loc Cert.StepUpIdeal.main_arg6))
      ∧ θ_run (Cert.StepUpPlainIdeal.defs (F := Ideal)) (onTc (τ := Cert.StepUpPlainIdeal.τ) (Cert.StepUpPlainIdeal.main (F := Ideal))) ⟨m', fun _ => 0, g'⟩ (fun r => ∀ c : Dev Cert.StepUpPlainIdeal.nD,
          r.2.mem ((c.tc : Thread Cert.StepUpPlainIdeal.nD Cert.StepUpPlainIdeal.τ).loc Cert.StepUpPlainIdeal.main_v4) = v0 c
          ∧ r.2.mem ((c.tc : Thread Cert.StepUpPlainIdeal.nD Cert.StepUpPlainIdeal.τ).loc Cert.StepUpPlainIdeal.main_v28) = v1 c
          ∧ r.2.mem ((c.tc : Thread Cert.StepUpPlainIdeal.nD Cert.StepUpPlainIdeal.τ).loc Cert.StepUpPlainIdeal.main_v9) = v2 c
          ∧ r.2.mem ((c.tc : Thread Cert.StepUpPlainIdeal.nD Cert.StepUpPlainIdeal.τ).loc Cert.StepUpPlainIdeal.main_v15) = v3 c
          ∧ r.2.mem ((c.tc : Thread Cert.StepUpPlainIdeal.nD Cert.StepUpPlainIdeal.τ).loc Cert.StepUpPlainIdeal.main_arg0) = m' ((c.tc : Thread Cert.StepUpPlainIdeal.nD Cert.StepUpPlainIdeal.τ).loc Cert.StepUpPlainIdeal.main_arg0)
          ∧ r.2.mem ((c.tc : Thread Cert.StepUpPlainIdeal.nD Cert.StepUpPlainIdeal.τ).loc Cert.StepUpPlainIdeal.main_arg1) = m' ((c.tc : Thread Cert.StepUpPlainIdeal.nD Cert.StepUpPlainIdeal.τ).loc Cert.StepUpPlainIdeal.main_arg1)
          ∧ r.2.mem ((c.tc : Thread Cert.StepUpPlainIdeal.nD Cert.StepUpPlainIdeal.τ).loc Cert.StepUpPlainIdeal.main_arg2) = m' ((c.tc : Thread Cert.StepUpPlainIdeal.nD Cert.StepUpPlainIdeal.τ).loc Cert.StepUpPlainIdeal.main_arg2)
          ∧ r.2.mem ((c.tc : Thread Cert.StepUpPlainIdeal.nD Cert.StepUpPlainIdeal.τ).loc Cert.StepUpPlainIdeal.main_arg3) = m' ((c.tc : Thread Cert.StepUpPlainIdeal.nD Cert.StepUpPlainIdeal.τ).loc Cert.StepUpPlainIdeal.main_arg3)
          ∧ r.2.mem ((c.tc : Thread Cert.StepUpPlainIdeal.nD Cert.StepUpPlainIdeal.τ).loc Cert.StepUpPlainIdeal.main_arg4) = m' ((c.tc : Thread Cert.StepUpPlainIdeal.nD Cert.StepUpPlainIdeal.τ).loc Cert.StepUpPlainIdeal.main_arg4)
          ∧ r.2.mem ((c.tc : Thread Cert.StepUpPlainIdeal.nD Cert.StepUpPlainIdeal.τ).loc Cert.StepUpPlainIdeal.main_arg5) = m' ((c.tc : Thread Cert.StepUpPlainIdeal.nD Cert.StepUpPlainIdeal.τ).loc Cert.StepUpPlainIdeal.main_arg5)
          ∧ r.2.mem ((c.tc : Thread Cert.StepUpPlainIdeal.nD Cert.StepUpPlainIdeal.τ).loc Cert.StepUpPlainIdeal.main_arg6) = m' ((c.tc : Thread Cert.StepUpPlainIdeal.nD Cert.StepUpPlainIdeal.τ).loc Cert.StepUpPlainIdeal.main_arg6))

def preserves_StepDown_StepDownIdeal : Prop :=
  True

def algebraic_StepDownIdeal_StepDownPlainIdeal [hStepDownIdeal : Cert.StepDownIdeal.Facts] [hStepDownPlainIdeal : Cert.StepDownPlainIdeal.Facts] : Prop :=
  ∀ (m : (ℓ : Loc Cert.StepDownIdeal.nD Cert.StepDownIdeal.τ Cert.StepDownIdeal.sig) → Buf (Elt Ideal) ℓ) (g : Dev Cert.StepDownIdeal.nD → PrngReg)
    (m' : (ℓ : Loc Cert.StepDownPlainIdeal.nD Cert.StepDownPlainIdeal.τ Cert.StepDownPlainIdeal.sig) → Buf (Elt Ideal) ℓ) (g' : Dev Cert.StepDownPlainIdeal.nD → PrngReg), Pre_StepDownIdeal m →
    (∀ c : Dev Cert.StepDownIdeal.nD,
      m' ((c.tc : Thread Cert.StepDownPlainIdeal.nD Cert.StepDownPlainIdeal.τ).loc Cert.StepDownPlainIdeal.main_arg0) = m ((c.tc : Thread Cert.StepDownIdeal.nD Cert.StepDownIdeal.τ).loc Cert.StepDownIdeal.main_arg0)
      ∧ m' ((c.tc : Thread Cert.StepDownPlainIdeal.nD Cert.StepDownPlainIdeal.τ).loc Cert.StepDownPlainIdeal.main_arg1) = m ((c.tc : Thread Cert.StepDownIdeal.nD Cert.StepDownIdeal.τ).loc Cert.StepDownIdeal.main_arg1)
      ∧ m' ((c.tc : Thread Cert.StepDownPlainIdeal.nD Cert.StepDownPlainIdeal.τ).loc Cert.StepDownPlainIdeal.main_arg2) = m ((c.tc : Thread Cert.StepDownIdeal.nD Cert.StepDownIdeal.τ).loc Cert.StepDownIdeal.main_arg2)
      ∧ m' ((c.tc : Thread Cert.StepDownPlainIdeal.nD Cert.StepDownPlainIdeal.τ).loc Cert.StepDownPlainIdeal.main_arg3) = m ((c.tc : Thread Cert.StepDownIdeal.nD Cert.StepDownIdeal.τ).loc Cert.StepDownIdeal.main_arg3)
      ∧ m' ((c.tc : Thread Cert.StepDownPlainIdeal.nD Cert.StepDownPlainIdeal.τ).loc Cert.StepDownPlainIdeal.main_arg4) = m ((c.tc : Thread Cert.StepDownIdeal.nD Cert.StepDownIdeal.τ).loc Cert.StepDownIdeal.main_arg4)
      ∧ m' ((c.tc : Thread Cert.StepDownPlainIdeal.nD Cert.StepDownPlainIdeal.τ).loc Cert.StepDownPlainIdeal.main_arg5) = m ((c.tc : Thread Cert.StepDownIdeal.nD Cert.StepDownIdeal.τ).loc Cert.StepDownIdeal.main_arg5)
      ∧ m' ((c.tc : Thread Cert.StepDownPlainIdeal.nD Cert.StepDownPlainIdeal.τ).loc Cert.StepDownPlainIdeal.main_arg6) = m ((c.tc : Thread Cert.StepDownIdeal.nD Cert.StepDownIdeal.τ).loc Cert.StepDownIdeal.main_arg6)) →
    ∃ (v0 : (c : Dev Cert.StepDownIdeal.nD) → Buf (Elt Ideal) ((c.tc : Thread Cert.StepDownIdeal.nD Cert.StepDownIdeal.τ).loc Cert.StepDownIdeal.main_v0_0)) (v1 : (c : Dev Cert.StepDownIdeal.nD) → Buf (Elt Ideal) ((c.tc : Thread Cert.StepDownIdeal.nD Cert.StepDownIdeal.τ).loc Cert.StepDownIdeal.main_v0_1)) (v2 : (c : Dev Cert.StepDownIdeal.nD) → Buf (Elt Ideal) ((c.tc : Thread Cert.StepDownIdeal.nD Cert.StepDownIdeal.τ).loc Cert.StepDownIdeal.main_v0_2)) (v3 : (c : Dev Cert.StepDownIdeal.nD) → Buf (Elt Ideal) ((c.tc : Thread Cert.StepDownIdeal.nD Cert.StepDownIdeal.τ).loc Cert.StepDownIdeal.main_v0_3)),
      θ_run (Cert.StepDownIdeal.defs (F := Ideal)) (onTc (τ := Cert.StepDownIdeal.τ) (Cert.StepDownIdeal.main (F := Ideal))) ⟨m, fun _ => 0, g⟩ (fun r => ∀ c : Dev Cert.StepDownIdeal.nD,
          r.2.mem ((c.tc : Thread Cert.StepDownIdeal.nD Cert.StepDownIdeal.τ).loc Cert.StepDownIdeal.main_v0_0) = v0 c
          ∧ r.2.mem ((c.tc : Thread Cert.StepDownIdeal.nD Cert.StepDownIdeal.τ).loc Cert.StepDownIdeal.main_v0_1) = v1 c
          ∧ r.2.mem ((c.tc : Thread Cert.StepDownIdeal.nD Cert.StepDownIdeal.τ).loc Cert.StepDownIdeal.main_v0_2) = v2 c
          ∧ r.2.mem ((c.tc : Thread Cert.StepDownIdeal.nD Cert.StepDownIdeal.τ).loc Cert.StepDownIdeal.main_v0_3) = v3 c
          ∧ r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3)
          ∧ r.2.mem ((c.tc : Thread Cert.StepDownIdeal.nD Cert.StepDownIdeal.τ).loc Cert.StepDownIdeal.main_arg4) = m ((c.tc : Thread Cert.StepDownIdeal.nD Cert.StepDownIdeal.τ).loc Cert.StepDownIdeal.main_arg4)
          ∧ r.2.mem ((c.tc : Thread Cert.StepDownIdeal.nD Cert.StepDownIdeal.τ).loc Cert.StepDownIdeal.main_arg5) = m ((c.tc : Thread Cert.StepDownIdeal.nD Cert.StepDownIdeal.τ).loc Cert.StepDownIdeal.main_arg5)
          ∧ r.2.mem ((c.tc : Thread Cert.StepDownIdeal.nD Cert.StepDownIdeal.τ).loc Cert.StepDownIdeal.main_arg6) = m ((c.tc : Thread Cert.StepDownIdeal.nD Cert.StepDownIdeal.τ).loc Cert.StepDownIdeal.main_arg6))
      ∧ θ_run (Cert.StepDownPlainIdeal.defs (F := Ideal)) (onTc (τ := Cert.StepDownPlainIdeal.τ) (Cert.StepDownPlainIdeal.main (F := Ideal))) ⟨m', fun _ => 0, g'⟩ (fun r => ∀ c : Dev Cert.StepDownPlainIdeal.nD,
          r.2.mem ((c.tc : Thread Cert.StepDownPlainIdeal.nD Cert.StepDownPlainIdeal.τ).loc Cert.StepDownPlainIdeal.main_v4) = v0 c
          ∧ r.2.mem ((c.tc : Thread Cert.StepDownPlainIdeal.nD Cert.StepDownPlainIdeal.τ).loc Cert.StepDownPlainIdeal.main_v28) = v1 c
          ∧ r.2.mem ((c.tc : Thread Cert.StepDownPlainIdeal.nD Cert.StepDownPlainIdeal.τ).loc Cert.StepDownPlainIdeal.main_v9) = v2 c
          ∧ r.2.mem ((c.tc : Thread Cert.StepDownPlainIdeal.nD Cert.StepDownPlainIdeal.τ).loc Cert.StepDownPlainIdeal.main_v15) = v3 c
          ∧ r.2.mem ((c.tc : Thread Cert.StepDownPlainIdeal.nD Cert.StepDownPlainIdeal.τ).loc Cert.StepDownPlainIdeal.main_arg0) = m' ((c.tc : Thread Cert.StepDownPlainIdeal.nD Cert.StepDownPlainIdeal.τ).loc Cert.StepDownPlainIdeal.main_arg0)
          ∧ r.2.mem ((c.tc : Thread Cert.StepDownPlainIdeal.nD Cert.StepDownPlainIdeal.τ).loc Cert.StepDownPlainIdeal.main_arg1) = m' ((c.tc : Thread Cert.StepDownPlainIdeal.nD Cert.StepDownPlainIdeal.τ).loc Cert.StepDownPlainIdeal.main_arg1)
          ∧ r.2.mem ((c.tc : Thread Cert.StepDownPlainIdeal.nD Cert.StepDownPlainIdeal.τ).loc Cert.StepDownPlainIdeal.main_arg2) = m' ((c.tc : Thread Cert.StepDownPlainIdeal.nD Cert.StepDownPlainIdeal.τ).loc Cert.StepDownPlainIdeal.main_arg2)
          ∧ r.2.mem ((c.tc : Thread Cert.StepDownPlainIdeal.nD Cert.StepDownPlainIdeal.τ).loc Cert.StepDownPlainIdeal.main_arg3) = m' ((c.tc : Thread Cert.StepDownPlainIdeal.nD Cert.StepDownPlainIdeal.τ).loc Cert.StepDownPlainIdeal.main_arg3)
          ∧ r.2.mem ((c.tc : Thread Cert.StepDownPlainIdeal.nD Cert.StepDownPlainIdeal.τ).loc Cert.StepDownPlainIdeal.main_arg4) = m' ((c.tc : Thread Cert.StepDownPlainIdeal.nD Cert.StepDownPlainIdeal.τ).loc Cert.StepDownPlainIdeal.main_arg4)
          ∧ r.2.mem ((c.tc : Thread Cert.StepDownPlainIdeal.nD Cert.StepDownPlainIdeal.τ).loc Cert.StepDownPlainIdeal.main_arg5) = m' ((c.tc : Thread Cert.StepDownPlainIdeal.nD Cert.StepDownPlainIdeal.τ).loc Cert.StepDownPlainIdeal.main_arg5)
          ∧ r.2.mem ((c.tc : Thread Cert.StepDownPlainIdeal.nD Cert.StepDownPlainIdeal.τ).loc Cert.StepDownPlainIdeal.main_arg6) = m' ((c.tc : Thread Cert.StepDownPlainIdeal.nD Cert.StepDownPlainIdeal.τ).loc Cert.StepDownPlainIdeal.main_arg6))

def preserves_StepSmall_StepSmallIdeal : Prop :=
  True

def algebraic_StepSmallIdeal_StepSmallPlainIdeal [hStepSmallIdeal : Cert.StepSmallIdeal.Facts] [hStepSmallPlainIdeal : Cert.StepSmallPlainIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallPlainIdeal.nD Cert.StepSmallPlainIdeal.τ Cert.StepSmallPlainIdeal.sig) → Buf (Elt Ideal) ℓ) (g' : Dev Cert.StepSmallPlainIdeal.nD → PrngReg), Pre_StepSmallIdeal m →
    (∀ c : Dev Cert.StepSmallIdeal.nD,
      m' ((c.tc : Thread Cert.StepSmallPlainIdeal.nD Cert.StepSmallPlainIdeal.τ).loc Cert.StepSmallPlainIdeal.main_arg0) = m ((c.tc : Thread Cert.StepSmallIdeal.nD Cert.StepSmallIdeal.τ).loc Cert.StepSmallIdeal.main_arg0)
      ∧ m' ((c.tc : Thread Cert.StepSmallPlainIdeal.nD Cert.StepSmallPlainIdeal.τ).loc Cert.StepSmallPlainIdeal.main_arg1) = m ((c.tc : Thread Cert.StepSmallIdeal.nD Cert.StepSmallIdeal.τ).loc Cert.StepSmallIdeal.main_arg1)
      ∧ m' ((c.tc : Thread Cert.StepSmallPlainIdeal.nD Cert.StepSmallPlainIdeal.τ).loc Cert.StepSmallPlainIdeal.main_arg2) = m ((c.tc : Thread Cert.StepSmallIdeal.nD Cert.StepSmallIdeal.τ).loc Cert.StepSmallIdeal.main_arg2)
      ∧ m' ((c.tc : Thread Cert.StepSmallPlainIdeal.nD Cert.StepSmallPlainIdeal.τ).loc Cert.StepSmallPlainIdeal.main_arg3) = m ((c.tc : Thread Cert.StepSmallIdeal.nD Cert.StepSmallIdeal.τ).loc Cert.StepSmallIdeal.main_arg3)
      ∧ m' ((c.tc : Thread Cert.StepSmallPlainIdeal.nD Cert.StepSmallPlainIdeal.τ).loc Cert.StepSmallPlainIdeal.main_arg4) = m ((c.tc : Thread Cert.StepSmallIdeal.nD Cert.StepSmallIdeal.τ).loc Cert.StepSmallIdeal.main_arg4)
      ∧ m' ((c.tc : Thread Cert.StepSmallPlainIdeal.nD Cert.StepSmallPlainIdeal.τ).loc Cert.StepSmallPlainIdeal.main_arg5) = m ((c.tc : Thread Cert.StepSmallIdeal.nD Cert.StepSmallIdeal.τ).loc Cert.StepSmallIdeal.main_arg5)
      ∧ m' ((c.tc : Thread Cert.StepSmallPlainIdeal.nD Cert.StepSmallPlainIdeal.τ).loc Cert.StepSmallPlainIdeal.main_arg6) = m ((c.tc : Thread Cert.StepSmallIdeal.nD Cert.StepSmallIdeal.τ).loc Cert.StepSmallIdeal.main_arg6)
      ∧ m' ((c.tc : Thread Cert.StepSmallPlainIdeal.nD Cert.StepSmallPlainIdeal.τ).loc Cert.StepSmallPlainIdeal.main_arg7) = m ((c.tc : Thread Cert.StepSmallIdeal.nD Cert.StepSmallIdeal.τ).loc Cert.StepSmallIdeal.main_arg7)
      ∧ m' ((c.tc : Thread Cert.StepSmallPlainIdeal.nD Cert.StepSmallPlainIdeal.τ).loc Cert.StepSmallPlainIdeal.main_arg8) = m ((c.tc : Thread Cert.StepSmallIdeal.nD Cert.StepSmallIdeal.τ).loc Cert.StepSmallIdeal.main_arg8)
      ∧ m' ((c.tc : Thread Cert.StepSmallPlainIdeal.nD Cert.StepSmallPlainIdeal.τ).loc Cert.StepSmallPlainIdeal.main_arg9) = m ((c.tc : Thread Cert.StepSmallIdeal.nD Cert.StepSmallIdeal.τ).loc Cert.StepSmallIdeal.main_arg9)
      ∧ m' ((c.tc : Thread Cert.StepSmallPlainIdeal.nD Cert.StepSmallPlainIdeal.τ).loc Cert.StepSmallPlainIdeal.main_arg10) = m ((c.tc : Thread Cert.StepSmallIdeal.nD Cert.StepSmallIdeal.τ).loc Cert.StepSmallIdeal.main_arg10)
      ∧ m' ((c.tc : Thread Cert.StepSmallPlainIdeal.nD Cert.StepSmallPlainIdeal.τ).loc Cert.StepSmallPlainIdeal.main_arg11) = m ((c.tc : Thread Cert.StepSmallIdeal.nD Cert.StepSmallIdeal.τ).loc Cert.StepSmallIdeal.main_arg11)
      ∧ m' ((c.tc : Thread Cert.StepSmallPlainIdeal.nD Cert.StepSmallPlainIdeal.τ).loc Cert.StepSmallPlainIdeal.main_arg12) = m ((c.tc : Thread Cert.StepSmallIdeal.nD Cert.StepSmallIdeal.τ).loc Cert.StepSmallIdeal.main_arg12)
      ∧ m' ((c.tc : Thread Cert.StepSmallPlainIdeal.nD Cert.StepSmallPlainIdeal.τ).loc Cert.StepSmallPlainIdeal.main_arg13) = m ((c.tc : Thread Cert.StepSmallIdeal.nD Cert.StepSmallIdeal.τ).loc Cert.StepSmallIdeal.main_arg13)
      ∧ m' ((c.tc : Thread Cert.StepSmallPlainIdeal.nD Cert.StepSmallPlainIdeal.τ).loc Cert.StepSmallPlainIdeal.main_arg14) = m ((c.tc : Thread Cert.StepSmallIdeal.nD Cert.StepSmallIdeal.τ).loc Cert.StepSmallIdeal.main_arg14)
      ∧ m' ((c.tc : Thread Cert.StepSmallPlainIdeal.nD Cert.StepSmallPlainIdeal.τ).loc Cert.StepSmallPlainIdeal.main_arg15) = m ((c.tc : Thread Cert.StepSmallIdeal.nD Cert.StepSmallIdeal.τ).loc Cert.StepSmallIdeal.main_arg15)
      ∧ m' ((c.tc : Thread Cert.StepSmallPlainIdeal.nD Cert.StepSmallPlainIdeal.τ).loc Cert.StepSmallPlainIdeal.main_arg16) = m ((c.tc : Thread Cert.StepSmallIdeal.nD Cert.StepSmallIdeal.τ).loc Cert.StepSmallIdeal.main_arg16)
      ∧ m' ((c.tc : Thread Cert.StepSmallPlainIdeal.nD Cert.StepSmallPlainIdeal.τ).loc Cert.StepSmallPlainIdeal.main_arg17) = m ((c.tc : Thread Cert.StepSmallIdeal.nD Cert.StepSmallIdeal.τ).loc Cert.StepSmallIdeal.main_arg17)
      ∧ m' ((c.tc : Thread Cert.StepSmallPlainIdeal.nD Cert.StepSmallPlainIdeal.τ).loc Cert.StepSmallPlainIdeal.main_arg18) = m ((c.tc : Thread Cert.StepSmallIdeal.nD Cert.StepSmallIdeal.τ).loc Cert.StepSmallIdeal.main_arg18)
      ∧ m' ((c.tc : Thread Cert.StepSmallPlainIdeal.nD Cert.StepSmallPlainIdeal.τ).loc Cert.StepSmallPlainIdeal.main_arg19) = m ((c.tc : Thread Cert.StepSmallIdeal.nD Cert.StepSmallIdeal.τ).loc Cert.StepSmallIdeal.main_arg19)
      ∧ m' ((c.tc : Thread Cert.StepSmallPlainIdeal.nD Cert.StepSmallPlainIdeal.τ).loc Cert.StepSmallPlainIdeal.main_arg20) = m ((c.tc : Thread Cert.StepSmallIdeal.nD Cert.StepSmallIdeal.τ).loc Cert.StepSmallIdeal.main_arg20)
      ∧ m' ((c.tc : Thread Cert.StepSmallPlainIdeal.nD Cert.StepSmallPlainIdeal.τ).loc Cert.StepSmallPlainIdeal.main_arg21) = m ((c.tc : Thread Cert.StepSmallIdeal.nD Cert.StepSmallIdeal.τ).loc Cert.StepSmallIdeal.main_arg21)
      ∧ m' ((c.tc : Thread Cert.StepSmallPlainIdeal.nD Cert.StepSmallPlainIdeal.τ).loc Cert.StepSmallPlainIdeal.main_arg22) = m ((c.tc : Thread Cert.StepSmallIdeal.nD Cert.StepSmallIdeal.τ).loc Cert.StepSmallIdeal.main_arg22)
      ∧ m' ((c.tc : Thread Cert.StepSmallPlainIdeal.nD Cert.StepSmallPlainIdeal.τ).loc Cert.StepSmallPlainIdeal.main_arg23) = m ((c.tc : Thread Cert.StepSmallIdeal.nD Cert.StepSmallIdeal.τ).loc Cert.StepSmallIdeal.main_arg23)
      ∧ m' ((c.tc : Thread Cert.StepSmallPlainIdeal.nD Cert.StepSmallPlainIdeal.τ).loc Cert.StepSmallPlainIdeal.main_arg24) = m ((c.tc : Thread Cert.StepSmallIdeal.nD Cert.StepSmallIdeal.τ).loc Cert.StepSmallIdeal.main_arg24)
      ∧ m' ((c.tc : Thread Cert.StepSmallPlainIdeal.nD Cert.StepSmallPlainIdeal.τ).loc Cert.StepSmallPlainIdeal.main_arg25) = m ((c.tc : Thread Cert.StepSmallIdeal.nD Cert.StepSmallIdeal.τ).loc Cert.StepSmallIdeal.main_arg25)
      ∧ m' ((c.tc : Thread Cert.StepSmallPlainIdeal.nD Cert.StepSmallPlainIdeal.τ).loc Cert.StepSmallPlainIdeal.main_arg26) = m ((c.tc : Thread Cert.StepSmallIdeal.nD Cert.StepSmallIdeal.τ).loc Cert.StepSmallIdeal.main_arg26)
      ∧ m' ((c.tc : Thread Cert.StepSmallPlainIdeal.nD Cert.StepSmallPlainIdeal.τ).loc Cert.StepSmallPlainIdeal.main_arg27) = m ((c.tc : Thread Cert.StepSmallIdeal.nD Cert.StepSmallIdeal.τ).loc Cert.StepSmallIdeal.main_arg27)
      ∧ m' ((c.tc : Thread Cert.StepSmallPlainIdeal.nD Cert.StepSmallPlainIdeal.τ).loc Cert.StepSmallPlainIdeal.main_arg28) = m ((c.tc : Thread Cert.StepSmallIdeal.nD Cert.StepSmallIdeal.τ).loc Cert.StepSmallIdeal.main_arg28)
      ∧ m' ((c.tc : Thread Cert.StepSmallPlainIdeal.nD Cert.StepSmallPlainIdeal.τ).loc Cert.StepSmallPlainIdeal.main_arg29) = m ((c.tc : Thread Cert.StepSmallIdeal.nD Cert.StepSmallIdeal.τ).loc Cert.StepSmallIdeal.main_arg29)
      ∧ m' ((c.tc : Thread Cert.StepSmallPlainIdeal.nD Cert.StepSmallPlainIdeal.τ).loc Cert.StepSmallPlainIdeal.main_arg30) = m ((c.tc : Thread Cert.StepSmallIdeal.nD Cert.StepSmallIdeal.τ).loc Cert.StepSmallIdeal.main_arg30)
      ∧ m' ((c.tc : Thread Cert.StepSmallPlainIdeal.nD Cert.StepSmallPlainIdeal.τ).loc Cert.StepSmallPlainIdeal.main_arg31) = m ((c.tc : Thread Cert.StepSmallIdeal.nD Cert.StepSmallIdeal.τ).loc Cert.StepSmallIdeal.main_arg31)
      ∧ m' ((c.tc : Thread Cert.StepSmallPlainIdeal.nD Cert.StepSmallPlainIdeal.τ).loc Cert.StepSmallPlainIdeal.main_arg32) = m ((c.tc : Thread Cert.StepSmallIdeal.nD Cert.StepSmallIdeal.τ).loc Cert.StepSmallIdeal.main_arg32)
      ∧ m' ((c.tc : Thread Cert.StepSmallPlainIdeal.nD Cert.StepSmallPlainIdeal.τ).loc Cert.StepSmallPlainIdeal.main_arg33) = m ((c.tc : Thread Cert.StepSmallIdeal.nD Cert.StepSmallIdeal.τ).loc Cert.StepSmallIdeal.main_arg33)
      ∧ m' ((c.tc : Thread Cert.StepSmallPlainIdeal.nD Cert.StepSmallPlainIdeal.τ).loc Cert.StepSmallPlainIdeal.main_arg34) = m ((c.tc : Thread Cert.StepSmallIdeal.nD Cert.StepSmallIdeal.τ).loc Cert.StepSmallIdeal.main_arg34)
      ∧ m' ((c.tc : Thread Cert.StepSmallPlainIdeal.nD Cert.StepSmallPlainIdeal.τ).loc Cert.StepSmallPlainIdeal.main_arg35) = m ((c.tc : Thread Cert.StepSmallIdeal.nD Cert.StepSmallIdeal.τ).loc Cert.StepSmallIdeal.main_arg35)
      ∧ m' ((c.tc : Thread Cert.StepSmallPlainIdeal.nD Cert.StepSmallPlainIdeal.τ).loc Cert.StepSmallPlainIdeal.main_arg36) = m ((c.tc : Thread Cert.StepSmallIdeal.nD Cert.StepSmallIdeal.τ).loc Cert.StepSmallIdeal.main_arg36)
      ∧ m' ((c.tc : Thread Cert.StepSmallPlainIdeal.nD Cert.StepSmallPlainIdeal.τ).loc Cert.StepSmallPlainIdeal.main_arg37) = m ((c.tc : Thread Cert.StepSmallIdeal.nD Cert.StepSmallIdeal.τ).loc Cert.StepSmallIdeal.main_arg37)
      ∧ m' ((c.tc : Thread Cert.StepSmallPlainIdeal.nD Cert.StepSmallPlainIdeal.τ).loc Cert.StepSmallPlainIdeal.main_arg38) = m ((c.tc : Thread Cert.StepSmallIdeal.nD Cert.StepSmallIdeal.τ).loc Cert.StepSmallIdeal.main_arg38)
      ∧ m' ((c.tc : Thread Cert.StepSmallPlainIdeal.nD Cert.StepSmallPlainIdeal.τ).loc Cert.StepSmallPlainIdeal.main_arg39) = m ((c.tc : Thread Cert.StepSmallIdeal.nD Cert.StepSmallIdeal.τ).loc Cert.StepSmallIdeal.main_arg39)) →
    ∃ (v0 : (c : Dev Cert.StepSmallIdeal.nD) → Buf (Elt Ideal) ((c.tc : Thread Cert.StepSmallIdeal.nD Cert.StepSmallIdeal.τ).loc Cert.StepSmallIdeal.main_v91)) (v1 : (c : Dev Cert.StepSmallIdeal.nD) → Buf (Elt Ideal) ((c.tc : Thread Cert.StepSmallIdeal.nD Cert.StepSmallIdeal.τ).loc Cert.StepSmallIdeal.main_v93)) (v2 : (c : Dev Cert.StepSmallIdeal.nD) → Buf (Elt Ideal) ((c.tc : Thread Cert.StepSmallIdeal.nD Cert.StepSmallIdeal.τ).loc Cert.StepSmallIdeal.main_v95)) (v3 : (c : Dev Cert.StepSmallIdeal.nD) → Buf (Elt Ideal) ((c.tc : Thread Cert.StepSmallIdeal.nD Cert.StepSmallIdeal.τ).loc Cert.StepSmallIdeal.main_v97)) (v4 : (c : Dev Cert.StepSmallIdeal.nD) → Buf (Elt Ideal) ((c.tc : Thread Cert.StepSmallIdeal.nD Cert.StepSmallIdeal.τ).loc Cert.StepSmallIdeal.main_v99)) (v5 : (c : Dev Cert.StepSmallIdeal.nD) → Buf (Elt Ideal) ((c.tc : Thread Cert.StepSmallIdeal.nD Cert.StepSmallIdeal.τ).loc Cert.StepSmallIdeal.main_v101)) (v6 : (c : Dev Cert.StepSmallIdeal.nD) → Buf (Elt Ideal) ((c.tc : Thread Cert.StepSmallIdeal.nD Cert.StepSmallIdeal.τ).loc Cert.StepSmallIdeal.main_v103)) (v7 : (c : Dev Cert.StepSmallIdeal.nD) → Buf (Elt Ideal) ((c.tc : Thread Cert.StepSmallIdeal.nD Cert.StepSmallIdeal.τ).loc Cert.StepSmallIdeal.main_v105)) (v8 : (c : Dev Cert.StepSmallIdeal.nD) → Buf (Elt Ideal) ((c.tc : Thread Cert.StepSmallIdeal.nD Cert.StepSmallIdeal.τ).loc Cert.StepSmallIdeal.main_v107)) (v9 : (c : Dev Cert.StepSmallIdeal.nD) → Buf (Elt Ideal) ((c.tc : Thread Cert.StepSmallIdeal.nD Cert.StepSmallIdeal.τ).loc Cert.StepSmallIdeal.main_v108)) (v10 : (c : Dev Cert.StepSmallIdeal.nD) → Buf (Elt Ideal) ((c.tc : Thread Cert.StepSmallIdeal.nD Cert.StepSmallIdeal.τ).loc Cert.StepSmallIdeal.main_v111)) (v11 : (c : Dev Cert.StepSmallIdeal.nD) → Buf (Elt Ideal) ((c.tc : Thread Cert.StepSmallIdeal.nD Cert.StepSmallIdeal.τ).loc Cert.StepSmallIdeal.main_v113)) (v12 : (c : Dev Cert.StepSmallIdeal.nD) → Buf (Elt Ideal) ((c.tc : Thread Cert.StepSmallIdeal.nD Cert.StepSmallIdeal.τ).loc Cert.StepSmallIdeal.main_v115)) (v13 : (c : Dev Cert.StepSmallIdeal.nD) → Buf (Elt Ideal) ((c.tc : Thread Cert.StepSmallIdeal.nD Cert.StepSmallIdeal.τ).loc Cert.StepSmallIdeal.main_v117)) (v14 : (c : Dev Cert.StepSmallIdeal.nD) → Buf (Elt Ideal) ((c.tc : Thread Cert.StepSmallIdeal.nD Cert.StepSmallIdeal.τ).loc Cert.StepSmallIdeal.main_v119)) (v15 : (c : Dev Cert.StepSmallIdeal.nD) → Buf (Elt Ideal) ((c.tc : Thread Cert.StepSmallIdeal.nD Cert.StepSmallIdeal.τ).loc Cert.StepSmallIdeal.main_v121)) (v16 : (c : Dev Cert.StepSmallIdeal.nD) → Buf (Elt Ideal) ((c.tc : Thread Cert.StepSmallIdeal.nD Cert.StepSmallIdeal.τ).loc Cert.StepSmallIdeal.main_v123)) (v17 : (c : Dev Cert.StepSmallIdeal.nD) → Buf (Elt Ideal) ((c.tc : Thread Cert.StepSmallIdeal.nD Cert.StepSmallIdeal.τ).loc Cert.StepSmallIdeal.main_v125)) (v18 : (c : Dev Cert.StepSmallIdeal.nD) → Buf (Elt Ideal) ((c.tc : Thread Cert.StepSmallIdeal.nD Cert.StepSmallIdeal.τ).loc Cert.StepSmallIdeal.main_v127)) (v19 : (c : Dev Cert.StepSmallIdeal.nD) → Buf (Elt Ideal) ((c.tc : Thread Cert.StepSmallIdeal.nD Cert.StepSmallIdeal.τ).loc Cert.StepSmallIdeal.main_v128)) (v20 : (c : Dev Cert.StepSmallIdeal.nD) → Buf (Elt Ideal) ((c.tc : Thread Cert.StepSmallIdeal.nD Cert.StepSmallIdeal.τ).loc Cert.StepSmallIdeal.main_v131)) (v21 : (c : Dev Cert.StepSmallIdeal.nD) → Buf (Elt Ideal) ((c.tc : Thread Cert.StepSmallIdeal.nD Cert.StepSmallIdeal.τ).loc Cert.StepSmallIdeal.main_v133)) (v22 : (c : Dev Cert.StepSmallIdeal.nD) → Buf (Elt Ideal) ((c.tc : Thread Cert.StepSmallIdeal.nD Cert.StepSmallIdeal.τ).loc Cert.StepSmallIdeal.main_v135)) (v23 : (c : Dev Cert.StepSmallIdeal.nD) → Buf (Elt Ideal) ((c.tc : Thread Cert.StepSmallIdeal.nD Cert.StepSmallIdeal.τ).loc Cert.StepSmallIdeal.main_v137)) (v24 : (c : Dev Cert.StepSmallIdeal.nD) → Buf (Elt Ideal) ((c.tc : Thread Cert.StepSmallIdeal.nD Cert.StepSmallIdeal.τ).loc Cert.StepSmallIdeal.main_v139)) (v25 : (c : Dev Cert.StepSmallIdeal.nD) → Buf (Elt Ideal) ((c.tc : Thread Cert.StepSmallIdeal.nD Cert.StepSmallIdeal.τ).loc Cert.StepSmallIdeal.main_v141)) (v26 : (c : Dev Cert.StepSmallIdeal.nD) → Buf (Elt Ideal) ((c.tc : Thread Cert.StepSmallIdeal.nD Cert.StepSmallIdeal.τ).loc Cert.StepSmallIdeal.main_v143)) (v27 : (c : Dev Cert.StepSmallIdeal.nD) → Buf (Elt Ideal) ((c.tc : Thread Cert.StepSmallIdeal.nD Cert.StepSmallIdeal.τ).loc Cert.StepSmallIdeal.main_v145)) (v28 : (c : Dev Cert.StepSmallIdeal.nD) → Buf (Elt Ideal) ((c.tc : Thread Cert.StepSmallIdeal.nD Cert.StepSmallIdeal.τ).loc Cert.StepSmallIdeal.main_v147)) (v29 : (c : Dev Cert.StepSmallIdeal.nD) → Buf (Elt Ideal) ((c.tc : Thread Cert.StepSmallIdeal.nD Cert.StepSmallIdeal.τ).loc Cert.StepSmallIdeal.main_v148)) (v30 : (c : Dev Cert.StepSmallIdeal.nD) → Buf (Elt Ideal) ((c.tc : Thread Cert.StepSmallIdeal.nD Cert.StepSmallIdeal.τ).loc Cert.StepSmallIdeal.main_v151)) (v31 : (c : Dev Cert.StepSmallIdeal.nD) → Buf (Elt Ideal) ((c.tc : Thread Cert.StepSmallIdeal.nD Cert.StepSmallIdeal.τ).loc Cert.StepSmallIdeal.main_v153)) (v32 : (c : Dev Cert.StepSmallIdeal.nD) → Buf (Elt Ideal) ((c.tc : Thread Cert.StepSmallIdeal.nD Cert.StepSmallIdeal.τ).loc Cert.StepSmallIdeal.main_v155)) (v33 : (c : Dev Cert.StepSmallIdeal.nD) → Buf (Elt Ideal) ((c.tc : Thread Cert.StepSmallIdeal.nD Cert.StepSmallIdeal.τ).loc Cert.StepSmallIdeal.main_v157)) (v34 : (c : Dev Cert.StepSmallIdeal.nD) → Buf (Elt Ideal) ((c.tc : Thread Cert.StepSmallIdeal.nD Cert.StepSmallIdeal.τ).loc Cert.StepSmallIdeal.main_v159)) (v35 : (c : Dev Cert.StepSmallIdeal.nD) → Buf (Elt Ideal) ((c.tc : Thread Cert.StepSmallIdeal.nD Cert.StepSmallIdeal.τ).loc Cert.StepSmallIdeal.main_v161)) (v36 : (c : Dev Cert.StepSmallIdeal.nD) → Buf (Elt Ideal) ((c.tc : Thread Cert.StepSmallIdeal.nD Cert.StepSmallIdeal.τ).loc Cert.StepSmallIdeal.main_v163)) (v37 : (c : Dev Cert.StepSmallIdeal.nD) → Buf (Elt Ideal) ((c.tc : Thread Cert.StepSmallIdeal.nD Cert.StepSmallIdeal.τ).loc Cert.StepSmallIdeal.main_v165)) (v38 : (c : Dev Cert.StepSmallIdeal.nD) → Buf (Elt Ideal) ((c.tc : Thread Cert.StepSmallIdeal.nD Cert.StepSmallIdeal.τ).loc Cert.StepSmallIdeal.main_v167)) (v39 : (c : Dev Cert.StepSmallIdeal.nD) → Buf (Elt Ideal) ((c.tc : Thread Cert.StepSmallIdeal.nD Cert.StepSmallIdeal.τ).loc Cert.StepSmallIdeal.main_v168)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v91) = v0 c
          ∧ r.2.mem ((c.tc : Thread Cert.StepSmallIdeal.nD Cert.StepSmallIdeal.τ).loc Cert.StepSmallIdeal.main_v93) = v1 c
          ∧ r.2.mem ((c.tc : Thread Cert.StepSmallIdeal.nD Cert.StepSmallIdeal.τ).loc Cert.StepSmallIdeal.main_v95) = v2 c
          ∧ r.2.mem ((c.tc : Thread Cert.StepSmallIdeal.nD Cert.StepSmallIdeal.τ).loc Cert.StepSmallIdeal.main_v97) = v3 c
          ∧ r.2.mem ((c.tc : Thread Cert.StepSmallIdeal.nD Cert.StepSmallIdeal.τ).loc Cert.StepSmallIdeal.main_v99) = v4 c
          ∧ r.2.mem ((c.tc : Thread Cert.StepSmallIdeal.nD Cert.StepSmallIdeal.τ).loc Cert.StepSmallIdeal.main_v101) = v5 c
          ∧ r.2.mem ((c.tc : Thread Cert.StepSmallIdeal.nD Cert.StepSmallIdeal.τ).loc Cert.StepSmallIdeal.main_v103) = v6 c
          ∧ r.2.mem ((c.tc : Thread Cert.StepSmallIdeal.nD Cert.StepSmallIdeal.τ).loc Cert.StepSmallIdeal.main_v105) = v7 c
          ∧ r.2.mem ((c.tc : Thread Cert.StepSmallIdeal.nD Cert.StepSmallIdeal.τ).loc Cert.StepSmallIdeal.main_v107) = v8 c
          ∧ r.2.mem ((c.tc : Thread Cert.StepSmallIdeal.nD Cert.StepSmallIdeal.τ).loc Cert.StepSmallIdeal.main_v108) = v9 c
          ∧ r.2.mem ((c.tc : Thread Cert.StepSmallIdeal.nD Cert.StepSmallIdeal.τ).loc Cert.StepSmallIdeal.main_v111) = v10 c
          ∧ r.2.mem ((c.tc : Thread Cert.StepSmallIdeal.nD Cert.StepSmallIdeal.τ).loc Cert.StepSmallIdeal.main_v113) = v11 c
          ∧ r.2.mem ((c.tc : Thread Cert.StepSmallIdeal.nD Cert.StepSmallIdeal.τ).loc Cert.StepSmallIdeal.main_v115) = v12 c
          ∧ r.2.mem ((c.tc : Thread Cert.StepSmallIdeal.nD Cert.StepSmallIdeal.τ).loc Cert.StepSmallIdeal.main_v117) = v13 c
          ∧ r.2.mem ((c.tc : Thread Cert.StepSmallIdeal.nD Cert.StepSmallIdeal.τ).loc Cert.StepSmallIdeal.main_v119) = v14 c
          ∧ r.2.mem ((c.tc : Thread Cert.StepSmallIdeal.nD Cert.StepSmallIdeal.τ).loc Cert.StepSmallIdeal.main_v121) = v15 c
          ∧ r.2.mem ((c.tc : Thread Cert.StepSmallIdeal.nD Cert.StepSmallIdeal.τ).loc Cert.StepSmallIdeal.main_v123) = v16 c
          ∧ r.2.mem ((c.tc : Thread Cert.StepSmallIdeal.nD Cert.StepSmallIdeal.τ).loc Cert.StepSmallIdeal.main_v125) = v17 c
          ∧ r.2.mem ((c.tc : Thread Cert.StepSmallIdeal.nD Cert.StepSmallIdeal.τ).loc Cert.StepSmallIdeal.main_v127) = v18 c
          ∧ r.2.mem ((c.tc : Thread Cert.StepSmallIdeal.nD Cert.StepSmallIdeal.τ).loc Cert.StepSmallIdeal.main_v128) = v19 c
          ∧ r.2.mem ((c.tc : Thread Cert.StepSmallIdeal.nD Cert.StepSmallIdeal.τ).loc Cert.StepSmallIdeal.main_v131) = v20 c
          ∧ r.2.mem ((c.tc : Thread Cert.StepSmallIdeal.nD Cert.StepSmallIdeal.τ).loc Cert.StepSmallIdeal.main_v133) = v21 c
          ∧ r.2.mem ((c.tc : Thread Cert.StepSmallIdeal.nD Cert.StepSmallIdeal.τ).loc Cert.StepSmallIdeal.main_v135) = v22 c
          ∧ r.2.mem ((c.tc : Thread Cert.StepSmallIdeal.nD Cert.StepSmallIdeal.τ).loc Cert.StepSmallIdeal.main_v137) = v23 c
          ∧ r.2.mem ((c.tc : Thread Cert.StepSmallIdeal.nD Cert.StepSmallIdeal.τ).loc Cert.StepSmallIdeal.main_v139) = v24 c
          ∧ r.2.mem ((c.tc : Thread Cert.StepSmallIdeal.nD Cert.StepSmallIdeal.τ).loc Cert.StepSmallIdeal.main_v141) = v25 c
          ∧ r.2.mem ((c.tc : Thread Cert.StepSmallIdeal.nD Cert.StepSmallIdeal.τ).loc Cert.StepSmallIdeal.main_v143) = v26 c
          ∧ r.2.mem ((c.tc : Thread Cert.StepSmallIdeal.nD Cert.StepSmallIdeal.τ).loc Cert.StepSmallIdeal.main_v145) = v27 c
          ∧ r.2.mem ((c.tc : Thread Cert.StepSmallIdeal.nD Cert.StepSmallIdeal.τ).loc Cert.StepSmallIdeal.main_v147) = v28 c
          ∧ r.2.mem ((c.tc : Thread Cert.StepSmallIdeal.nD Cert.StepSmallIdeal.τ).loc Cert.StepSmallIdeal.main_v148) = v29 c
          ∧ r.2.mem ((c.tc : Thread Cert.StepSmallIdeal.nD Cert.StepSmallIdeal.τ).loc Cert.StepSmallIdeal.main_v151) = v30 c
          ∧ r.2.mem ((c.tc : Thread Cert.StepSmallIdeal.nD Cert.StepSmallIdeal.τ).loc Cert.StepSmallIdeal.main_v153) = v31 c
          ∧ r.2.mem ((c.tc : Thread Cert.StepSmallIdeal.nD Cert.StepSmallIdeal.τ).loc Cert.StepSmallIdeal.main_v155) = v32 c
          ∧ r.2.mem ((c.tc : Thread Cert.StepSmallIdeal.nD Cert.StepSmallIdeal.τ).loc Cert.StepSmallIdeal.main_v157) = v33 c
          ∧ r.2.mem ((c.tc : Thread Cert.StepSmallIdeal.nD Cert.StepSmallIdeal.τ).loc Cert.StepSmallIdeal.main_v159) = v34 c
          ∧ r.2.mem ((c.tc : Thread Cert.StepSmallIdeal.nD Cert.StepSmallIdeal.τ).loc Cert.StepSmallIdeal.main_v161) = v35 c
          ∧ r.2.mem ((c.tc : Thread Cert.StepSmallIdeal.nD Cert.StepSmallIdeal.τ).loc Cert.StepSmallIdeal.main_v163) = v36 c
          ∧ r.2.mem ((c.tc : Thread Cert.StepSmallIdeal.nD Cert.StepSmallIdeal.τ).loc Cert.StepSmallIdeal.main_v165) = v37 c
          ∧ r.2.mem ((c.tc : Thread Cert.StepSmallIdeal.nD Cert.StepSmallIdeal.τ).loc Cert.StepSmallIdeal.main_v167) = v38 c
          ∧ r.2.mem ((c.tc : Thread Cert.StepSmallIdeal.nD Cert.StepSmallIdeal.τ).loc Cert.StepSmallIdeal.main_v168) = v39 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
          ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
          ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
          ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
          ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
          ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
          ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
          ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
          ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
          ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
          ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
          ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
          ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
          ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
          ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
          ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
          ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
          ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
          ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
          ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
          ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
          ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
          ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
          ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
          ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
          ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
          ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
          ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
          ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39))
      ∧ θ_run (Cert.StepSmallPlainIdeal.defs (F := Ideal)) (onTc (τ := Cert.StepSmallPlainIdeal.τ) (Cert.StepSmallPlainIdeal.main (F := Ideal))) ⟨m', fun _ => 0, g'⟩ (fun r => ∀ c : Dev Cert.StepSmallPlainIdeal.nD,
          r.2.mem ((c.tc : Thread Cert.StepSmallPlainIdeal.nD Cert.StepSmallPlainIdeal.τ).loc Cert.StepSmallPlainIdeal.main_arg30) = v0 c
          ∧ r.2.mem ((c.tc : Thread Cert.StepSmallPlainIdeal.nD Cert.StepSmallPlainIdeal.τ).loc Cert.StepSmallPlainIdeal.main_arg31) = v1 c
          ∧ r.2.mem ((c.tc : Thread Cert.StepSmallPlainIdeal.nD Cert.StepSmallPlainIdeal.τ).loc Cert.StepSmallPlainIdeal.main_arg32) = v2 c
          ∧ r.2.mem ((c.tc : Thread Cert.StepSmallPlainIdeal.nD Cert.StepSmallPlainIdeal.τ).loc Cert.StepSmallPlainIdeal.main_arg33) = v3 c
          ∧ r.2.mem ((c.tc : Thread Cert.StepSmallPlainIdeal.nD Cert.StepSmallPlainIdeal.τ).loc Cert.StepSmallPlainIdeal.main_arg34) = v4 c
          ∧ r.2.mem ((c.tc : Thread Cert.StepSmallPlainIdeal.nD Cert.StepSmallPlainIdeal.τ).loc Cert.StepSmallPlainIdeal.main_arg35) = v5 c
          ∧ r.2.mem ((c.tc : Thread Cert.StepSmallPlainIdeal.nD Cert.StepSmallPlainIdeal.τ).loc Cert.StepSmallPlainIdeal.main_arg36) = v6 c
          ∧ r.2.mem ((c.tc : Thread Cert.StepSmallPlainIdeal.nD Cert.StepSmallPlainIdeal.τ).loc Cert.StepSmallPlainIdeal.main_arg37) = v7 c
          ∧ r.2.mem ((c.tc : Thread Cert.StepSmallPlainIdeal.nD Cert.StepSmallPlainIdeal.τ).loc Cert.StepSmallPlainIdeal.main_arg38) = v8 c
          ∧ r.2.mem ((c.tc : Thread Cert.StepSmallPlainIdeal.nD Cert.StepSmallPlainIdeal.τ).loc Cert.StepSmallPlainIdeal.main_arg39) = v9 c
          ∧ r.2.mem ((c.tc : Thread Cert.StepSmallPlainIdeal.nD Cert.StepSmallPlainIdeal.τ).loc Cert.StepSmallPlainIdeal.main_v23) = v10 c
          ∧ r.2.mem ((c.tc : Thread Cert.StepSmallPlainIdeal.nD Cert.StepSmallPlainIdeal.τ).loc Cert.StepSmallPlainIdeal.main_v47) = v11 c
          ∧ r.2.mem ((c.tc : Thread Cert.StepSmallPlainIdeal.nD Cert.StepSmallPlainIdeal.τ).loc Cert.StepSmallPlainIdeal.main_v71) = v12 c
          ∧ r.2.mem ((c.tc : Thread Cert.StepSmallPlainIdeal.nD Cert.StepSmallPlainIdeal.τ).loc Cert.StepSmallPlainIdeal.main_v95) = v13 c
          ∧ r.2.mem ((c.tc : Thread Cert.StepSmallPlainIdeal.nD Cert.StepSmallPlainIdeal.τ).loc Cert.StepSmallPlainIdeal.main_v119) = v14 c
          ∧ r.2.mem ((c.tc : Thread Cert.StepSmallPlainIdeal.nD Cert.StepSmallPlainIdeal.τ).loc Cert.StepSmallPlainIdeal.main_v143) = v15 c
          ∧ r.2.mem ((c.tc : Thread Cert.StepSmallPlainIdeal.nD Cert.StepSmallPlainIdeal.τ).loc Cert.StepSmallPlainIdeal.main_v167) = v16 c
          ∧ r.2.mem ((c.tc : Thread Cert.StepSmallPlainIdeal.nD Cert.StepSmallPlainIdeal.τ).loc Cert.StepSmallPlainIdeal.main_v191) = v17 c
          ∧ r.2.mem ((c.tc : Thread Cert.StepSmallPlainIdeal.nD Cert.StepSmallPlainIdeal.τ).loc Cert.StepSmallPlainIdeal.main_v215) = v18 c
          ∧ r.2.mem ((c.tc : Thread Cert.StepSmallPlainIdeal.nD Cert.StepSmallPlainIdeal.τ).loc Cert.StepSmallPlainIdeal.main_v239) = v19 c
          ∧ r.2.mem ((c.tc : Thread Cert.StepSmallPlainIdeal.nD Cert.StepSmallPlainIdeal.τ).loc Cert.StepSmallPlainIdeal.main_v4) = v20 c
          ∧ r.2.mem ((c.tc : Thread Cert.StepSmallPlainIdeal.nD Cert.StepSmallPlainIdeal.τ).loc Cert.StepSmallPlainIdeal.main_v28) = v21 c
          ∧ r.2.mem ((c.tc : Thread Cert.StepSmallPlainIdeal.nD Cert.StepSmallPlainIdeal.τ).loc Cert.StepSmallPlainIdeal.main_v52) = v22 c
          ∧ r.2.mem ((c.tc : Thread Cert.StepSmallPlainIdeal.nD Cert.StepSmallPlainIdeal.τ).loc Cert.StepSmallPlainIdeal.main_v76) = v23 c
          ∧ r.2.mem ((c.tc : Thread Cert.StepSmallPlainIdeal.nD Cert.StepSmallPlainIdeal.τ).loc Cert.StepSmallPlainIdeal.main_v100) = v24 c
          ∧ r.2.mem ((c.tc : Thread Cert.StepSmallPlainIdeal.nD Cert.StepSmallPlainIdeal.τ).loc Cert.StepSmallPlainIdeal.main_v124) = v25 c
          ∧ r.2.mem ((c.tc : Thread Cert.StepSmallPlainIdeal.nD Cert.StepSmallPlainIdeal.τ).loc Cert.StepSmallPlainIdeal.main_v148) = v26 c
          ∧ r.2.mem ((c.tc : Thread Cert.StepSmallPlainIdeal.nD Cert.StepSmallPlainIdeal.τ).loc Cert.StepSmallPlainIdeal.main_v172) = v27 c
          ∧ r.2.mem ((c.tc : Thread Cert.StepSmallPlainIdeal.nD Cert.StepSmallPlainIdeal.τ).loc Cert.StepSmallPlainIdeal.main_v196) = v28 c
          ∧ r.2.mem ((c.tc : Thread Cert.StepSmallPlainIdeal.nD Cert.StepSmallPlainIdeal.τ).loc Cert.StepSmallPlainIdeal.main_v220) = v29 c
          ∧ r.2.mem ((c.tc : Thread Cert.StepSmallPlainIdeal.nD Cert.StepSmallPlainIdeal.τ).loc Cert.StepSmallPlainIdeal.main_v10) = v30 c
          ∧ r.2.mem ((c.tc : Thread Cert.StepSmallPlainIdeal.nD Cert.StepSmallPlainIdeal.τ).loc Cert.StepSmallPlainIdeal.main_v34) = v31 c
          ∧ r.2.mem ((c.tc : Thread Cert.StepSmallPlainIdeal.nD Cert.StepSmallPlainIdeal.τ).loc Cert.StepSmallPlainIdeal.main_v58) = v32 c
          ∧ r.2.mem ((c.tc : Thread Cert.StepSmallPlainIdeal.nD Cert.StepSmallPlainIdeal.τ).loc Cert.StepSmallPlainIdeal.main_v82) = v33 c
          ∧ r.2.mem ((c.tc : Thread Cert.StepSmallPlainIdeal.nD Cert.StepSmallPlainIdeal.τ).loc Cert.StepSmallPlainIdeal.main_v106) = v34 c
          ∧ r.2.mem ((c.tc : Thread Cert.StepSmallPlainIdeal.nD Cert.StepSmallPlainIdeal.τ).loc Cert.StepSmallPlainIdeal.main_v130) = v35 c
          ∧ r.2.mem ((c.tc : Thread Cert.StepSmallPlainIdeal.nD Cert.StepSmallPlainIdeal.τ).loc Cert.StepSmallPlainIdeal.main_v154) = v36 c
          ∧ r.2.mem ((c.tc : Thread Cert.StepSmallPlainIdeal.nD Cert.StepSmallPlainIdeal.τ).loc Cert.StepSmallPlainIdeal.main_v178) = v37 c
          ∧ r.2.mem ((c.tc : Thread Cert.StepSmallPlainIdeal.nD Cert.StepSmallPlainIdeal.τ).loc Cert.StepSmallPlainIdeal.main_v202) = v38 c
          ∧ r.2.mem ((c.tc : Thread Cert.StepSmallPlainIdeal.nD Cert.StepSmallPlainIdeal.τ).loc Cert.StepSmallPlainIdeal.main_v226) = v39 c
          ∧ r.2.mem ((c.tc : Thread Cert.StepSmallPlainIdeal.nD Cert.StepSmallPlainIdeal.τ).loc Cert.StepSmallPlainIdeal.main_arg0) = m' ((c.tc : Thread Cert.StepSmallPlainIdeal.nD Cert.StepSmallPlainIdeal.τ).loc Cert.StepSmallPlainIdeal.main_arg0)
          ∧ r.2.mem ((c.tc : Thread Cert.StepSmallPlainIdeal.nD Cert.StepSmallPlainIdeal.τ).loc Cert.StepSmallPlainIdeal.main_arg1) = m' ((c.tc : Thread Cert.StepSmallPlainIdeal.nD Cert.StepSmallPlainIdeal.τ).loc Cert.StepSmallPlainIdeal.main_arg1)
          ∧ r.2.mem ((c.tc : Thread Cert.StepSmallPlainIdeal.nD Cert.StepSmallPlainIdeal.τ).loc Cert.StepSmallPlainIdeal.main_arg2) = m' ((c.tc : Thread Cert.StepSmallPlainIdeal.nD Cert.StepSmallPlainIdeal.τ).loc Cert.StepSmallPlainIdeal.main_arg2)
          ∧ r.2.mem ((c.tc : Thread Cert.StepSmallPlainIdeal.nD Cert.StepSmallPlainIdeal.τ).loc Cert.StepSmallPlainIdeal.main_arg3) = m' ((c.tc : Thread Cert.StepSmallPlainIdeal.nD Cert.StepSmallPlainIdeal.τ).loc Cert.StepSmallPlainIdeal.main_arg3)
          ∧ r.2.mem ((c.tc : Thread Cert.StepSmallPlainIdeal.nD Cert.StepSmallPlainIdeal.τ).loc Cert.StepSmallPlainIdeal.main_arg4) = m' ((c.tc : Thread Cert.StepSmallPlainIdeal.nD Cert.StepSmallPlainIdeal.τ).loc Cert.StepSmallPlainIdeal.main_arg4)
          ∧ r.2.mem ((c.tc : Thread Cert.StepSmallPlainIdeal.nD Cert.StepSmallPlainIdeal.τ).loc Cert.StepSmallPlainIdeal.main_arg5) = m' ((c.tc : Thread Cert.StepSmallPlainIdeal.nD Cert.StepSmallPlainIdeal.τ).loc Cert.StepSmallPlainIdeal.main_arg5)
          ∧ r.2.mem ((c.tc : Thread Cert.StepSmallPlainIdeal.nD Cert.StepSmallPlainIdeal.τ).loc Cert.StepSmallPlainIdeal.main_arg6) = m' ((c.tc : Thread Cert.StepSmallPlainIdeal.nD Cert.StepSmallPlainIdeal.τ).loc Cert.StepSmallPlainIdeal.main_arg6)
          ∧ r.2.mem ((c.tc : Thread Cert.StepSmallPlainIdeal.nD Cert.StepSmallPlainIdeal.τ).loc Cert.StepSmallPlainIdeal.main_arg7) = m' ((c.tc : Thread Cert.StepSmallPlainIdeal.nD Cert.StepSmallPlainIdeal.τ).loc Cert.StepSmallPlainIdeal.main_arg7)
          ∧ r.2.mem ((c.tc : Thread Cert.StepSmallPlainIdeal.nD Cert.StepSmallPlainIdeal.τ).loc Cert.StepSmallPlainIdeal.main_arg8) = m' ((c.tc : Thread Cert.StepSmallPlainIdeal.nD Cert.StepSmallPlainIdeal.τ).loc Cert.StepSmallPlainIdeal.main_arg8)
          ∧ r.2.mem ((c.tc : Thread Cert.StepSmallPlainIdeal.nD Cert.StepSmallPlainIdeal.τ).loc Cert.StepSmallPlainIdeal.main_arg9) = m' ((c.tc : Thread Cert.StepSmallPlainIdeal.nD Cert.StepSmallPlainIdeal.τ).loc Cert.StepSmallPlainIdeal.main_arg9)
          ∧ r.2.mem ((c.tc : Thread Cert.StepSmallPlainIdeal.nD Cert.StepSmallPlainIdeal.τ).loc Cert.StepSmallPlainIdeal.main_arg10) = m' ((c.tc : Thread Cert.StepSmallPlainIdeal.nD Cert.StepSmallPlainIdeal.τ).loc Cert.StepSmallPlainIdeal.main_arg10)
          ∧ r.2.mem ((c.tc : Thread Cert.StepSmallPlainIdeal.nD Cert.StepSmallPlainIdeal.τ).loc Cert.StepSmallPlainIdeal.main_arg11) = m' ((c.tc : Thread Cert.StepSmallPlainIdeal.nD Cert.StepSmallPlainIdeal.τ).loc Cert.StepSmallPlainIdeal.main_arg11)
          ∧ r.2.mem ((c.tc : Thread Cert.StepSmallPlainIdeal.nD Cert.StepSmallPlainIdeal.τ).loc Cert.StepSmallPlainIdeal.main_arg12) = m' ((c.tc : Thread Cert.StepSmallPlainIdeal.nD Cert.StepSmallPlainIdeal.τ).loc Cert.StepSmallPlainIdeal.main_arg12)
          ∧ r.2.mem ((c.tc : Thread Cert.StepSmallPlainIdeal.nD Cert.StepSmallPlainIdeal.τ).loc Cert.StepSmallPlainIdeal.main_arg13) = m' ((c.tc : Thread Cert.StepSmallPlainIdeal.nD Cert.StepSmallPlainIdeal.τ).loc Cert.StepSmallPlainIdeal.main_arg13)
          ∧ r.2.mem ((c.tc : Thread Cert.StepSmallPlainIdeal.nD Cert.StepSmallPlainIdeal.τ).loc Cert.StepSmallPlainIdeal.main_arg14) = m' ((c.tc : Thread Cert.StepSmallPlainIdeal.nD Cert.StepSmallPlainIdeal.τ).loc Cert.StepSmallPlainIdeal.main_arg14)
          ∧ r.2.mem ((c.tc : Thread Cert.StepSmallPlainIdeal.nD Cert.StepSmallPlainIdeal.τ).loc Cert.StepSmallPlainIdeal.main_arg15) = m' ((c.tc : Thread Cert.StepSmallPlainIdeal.nD Cert.StepSmallPlainIdeal.τ).loc Cert.StepSmallPlainIdeal.main_arg15)
          ∧ r.2.mem ((c.tc : Thread Cert.StepSmallPlainIdeal.nD Cert.StepSmallPlainIdeal.τ).loc Cert.StepSmallPlainIdeal.main_arg16) = m' ((c.tc : Thread Cert.StepSmallPlainIdeal.nD Cert.StepSmallPlainIdeal.τ).loc Cert.StepSmallPlainIdeal.main_arg16)
          ∧ r.2.mem ((c.tc : Thread Cert.StepSmallPlainIdeal.nD Cert.StepSmallPlainIdeal.τ).loc Cert.StepSmallPlainIdeal.main_arg17) = m' ((c.tc : Thread Cert.StepSmallPlainIdeal.nD Cert.StepSmallPlainIdeal.τ).loc Cert.StepSmallPlainIdeal.main_arg17)
          ∧ r.2.mem ((c.tc : Thread Cert.StepSmallPlainIdeal.nD Cert.StepSmallPlainIdeal.τ).loc Cert.StepSmallPlainIdeal.main_arg18) = m' ((c.tc : Thread Cert.StepSmallPlainIdeal.nD Cert.StepSmallPlainIdeal.τ).loc Cert.StepSmallPlainIdeal.main_arg18)
          ∧ r.2.mem ((c.tc : Thread Cert.StepSmallPlainIdeal.nD Cert.StepSmallPlainIdeal.τ).loc Cert.StepSmallPlainIdeal.main_arg19) = m' ((c.tc : Thread Cert.StepSmallPlainIdeal.nD Cert.StepSmallPlainIdeal.τ).loc Cert.StepSmallPlainIdeal.main_arg19)
          ∧ r.2.mem ((c.tc : Thread Cert.StepSmallPlainIdeal.nD Cert.StepSmallPlainIdeal.τ).loc Cert.StepSmallPlainIdeal.main_arg20) = m' ((c.tc : Thread Cert.StepSmallPlainIdeal.nD Cert.StepSmallPlainIdeal.τ).loc Cert.StepSmallPlainIdeal.main_arg20)
          ∧ r.2.mem ((c.tc : Thread Cert.StepSmallPlainIdeal.nD Cert.StepSmallPlainIdeal.τ).loc Cert.StepSmallPlainIdeal.main_arg21) = m' ((c.tc : Thread Cert.StepSmallPlainIdeal.nD Cert.StepSmallPlainIdeal.τ).loc Cert.StepSmallPlainIdeal.main_arg21)
          ∧ r.2.mem ((c.tc : Thread Cert.StepSmallPlainIdeal.nD Cert.StepSmallPlainIdeal.τ).loc Cert.StepSmallPlainIdeal.main_arg22) = m' ((c.tc : Thread Cert.StepSmallPlainIdeal.nD Cert.StepSmallPlainIdeal.τ).loc Cert.StepSmallPlainIdeal.main_arg22)
          ∧ r.2.mem ((c.tc : Thread Cert.StepSmallPlainIdeal.nD Cert.StepSmallPlainIdeal.τ).loc Cert.StepSmallPlainIdeal.main_arg23) = m' ((c.tc : Thread Cert.StepSmallPlainIdeal.nD Cert.StepSmallPlainIdeal.τ).loc Cert.StepSmallPlainIdeal.main_arg23)
          ∧ r.2.mem ((c.tc : Thread Cert.StepSmallPlainIdeal.nD Cert.StepSmallPlainIdeal.τ).loc Cert.StepSmallPlainIdeal.main_arg24) = m' ((c.tc : Thread Cert.StepSmallPlainIdeal.nD Cert.StepSmallPlainIdeal.τ).loc Cert.StepSmallPlainIdeal.main_arg24)
          ∧ r.2.mem ((c.tc : Thread Cert.StepSmallPlainIdeal.nD Cert.StepSmallPlainIdeal.τ).loc Cert.StepSmallPlainIdeal.main_arg25) = m' ((c.tc : Thread Cert.StepSmallPlainIdeal.nD Cert.StepSmallPlainIdeal.τ).loc Cert.StepSmallPlainIdeal.main_arg25)
          ∧ r.2.mem ((c.tc : Thread Cert.StepSmallPlainIdeal.nD Cert.StepSmallPlainIdeal.τ).loc Cert.StepSmallPlainIdeal.main_arg26) = m' ((c.tc : Thread Cert.StepSmallPlainIdeal.nD Cert.StepSmallPlainIdeal.τ).loc Cert.StepSmallPlainIdeal.main_arg26)
          ∧ r.2.mem ((c.tc : Thread Cert.StepSmallPlainIdeal.nD Cert.StepSmallPlainIdeal.τ).loc Cert.StepSmallPlainIdeal.main_arg27) = m' ((c.tc : Thread Cert.StepSmallPlainIdeal.nD Cert.StepSmallPlainIdeal.τ).loc Cert.StepSmallPlainIdeal.main_arg27)
          ∧ r.2.mem ((c.tc : Thread Cert.StepSmallPlainIdeal.nD Cert.StepSmallPlainIdeal.τ).loc Cert.StepSmallPlainIdeal.main_arg28) = m' ((c.tc : Thread Cert.StepSmallPlainIdeal.nD Cert.StepSmallPlainIdeal.τ).loc Cert.StepSmallPlainIdeal.main_arg28)
          ∧ r.2.mem ((c.tc : Thread Cert.StepSmallPlainIdeal.nD Cert.StepSmallPlainIdeal.τ).loc Cert.StepSmallPlainIdeal.main_arg29) = m' ((c.tc : Thread Cert.StepSmallPlainIdeal.nD Cert.StepSmallPlainIdeal.τ).loc Cert.StepSmallPlainIdeal.main_arg29)
          ∧ r.2.mem ((c.tc : Thread Cert.StepSmallPlainIdeal.nD Cert.StepSmallPlainIdeal.τ).loc Cert.StepSmallPlainIdeal.main_arg30) = m' ((c.tc : Thread Cert.StepSmallPlainIdeal.nD Cert.StepSmallPlainIdeal.τ).loc Cert.StepSmallPlainIdeal.main_arg30)
          ∧ r.2.mem ((c.tc : Thread Cert.StepSmallPlainIdeal.nD Cert.StepSmallPlainIdeal.τ).loc Cert.StepSmallPlainIdeal.main_arg31) = m' ((c.tc : Thread Cert.StepSmallPlainIdeal.nD Cert.StepSmallPlainIdeal.τ).loc Cert.StepSmallPlainIdeal.main_arg31)
          ∧ r.2.mem ((c.tc : Thread Cert.StepSmallPlainIdeal.nD Cert.StepSmallPlainIdeal.τ).loc Cert.StepSmallPlainIdeal.main_arg32) = m' ((c.tc : Thread Cert.StepSmallPlainIdeal.nD Cert.StepSmallPlainIdeal.τ).loc Cert.StepSmallPlainIdeal.main_arg32)
          ∧ r.2.mem ((c.tc : Thread Cert.StepSmallPlainIdeal.nD Cert.StepSmallPlainIdeal.τ).loc Cert.StepSmallPlainIdeal.main_arg33) = m' ((c.tc : Thread Cert.StepSmallPlainIdeal.nD Cert.StepSmallPlainIdeal.τ).loc Cert.StepSmallPlainIdeal.main_arg33)
          ∧ r.2.mem ((c.tc : Thread Cert.StepSmallPlainIdeal.nD Cert.StepSmallPlainIdeal.τ).loc Cert.StepSmallPlainIdeal.main_arg34) = m' ((c.tc : Thread Cert.StepSmallPlainIdeal.nD Cert.StepSmallPlainIdeal.τ).loc Cert.StepSmallPlainIdeal.main_arg34)
          ∧ r.2.mem ((c.tc : Thread Cert.StepSmallPlainIdeal.nD Cert.StepSmallPlainIdeal.τ).loc Cert.StepSmallPlainIdeal.main_arg35) = m' ((c.tc : Thread Cert.StepSmallPlainIdeal.nD Cert.StepSmallPlainIdeal.τ).loc Cert.StepSmallPlainIdeal.main_arg35)
          ∧ r.2.mem ((c.tc : Thread Cert.StepSmallPlainIdeal.nD Cert.StepSmallPlainIdeal.τ).loc Cert.StepSmallPlainIdeal.main_arg36) = m' ((c.tc : Thread Cert.StepSmallPlainIdeal.nD Cert.StepSmallPlainIdeal.τ).loc Cert.StepSmallPlainIdeal.main_arg36)
          ∧ r.2.mem ((c.tc : Thread Cert.StepSmallPlainIdeal.nD Cert.StepSmallPlainIdeal.τ).loc Cert.StepSmallPlainIdeal.main_arg37) = m' ((c.tc : Thread Cert.StepSmallPlainIdeal.nD Cert.StepSmallPlainIdeal.τ).loc Cert.StepSmallPlainIdeal.main_arg37)
          ∧ r.2.mem ((c.tc : Thread Cert.StepSmallPlainIdeal.nD Cert.StepSmallPlainIdeal.τ).loc Cert.StepSmallPlainIdeal.main_arg38) = m' ((c.tc : Thread Cert.StepSmallPlainIdeal.nD Cert.StepSmallPlainIdeal.τ).loc Cert.StepSmallPlainIdeal.main_arg38)
          ∧ r.2.mem ((c.tc : Thread Cert.StepSmallPlainIdeal.nD Cert.StepSmallPlainIdeal.τ).loc Cert.StepSmallPlainIdeal.main_arg39) = m' ((c.tc : Thread Cert.StepSmallPlainIdeal.nD Cert.StepSmallPlainIdeal.τ).loc Cert.StepSmallPlainIdeal.main_arg39))

def preserves_ShortFwd_ShortFwdIdeal : Prop :=
  True

def algebraic_ShortFwdIdeal_ShortFwdPlainIdeal [hShortFwdIdeal : Cert.ShortFwdIdeal.Facts] [hShortFwdPlainIdeal : Cert.ShortFwdPlainIdeal.Facts] : Prop :=
  ∀ (m : (ℓ : Loc Cert.ShortFwdIdeal.nD Cert.ShortFwdIdeal.τ Cert.ShortFwdIdeal.sig) → Buf (Elt Ideal) ℓ) (g : Dev Cert.ShortFwdIdeal.nD → PrngReg)
    (m' : (ℓ : Loc Cert.ShortFwdPlainIdeal.nD Cert.ShortFwdPlainIdeal.τ Cert.ShortFwdPlainIdeal.sig) → Buf (Elt Ideal) ℓ) (g' : Dev Cert.ShortFwdPlainIdeal.nD → PrngReg), Pre_ShortFwdIdeal m →
    (∀ c : Dev Cert.ShortFwdIdeal.nD,
      m' ((c.tc : Thread Cert.ShortFwdPlainIdeal.nD Cert.ShortFwdPlainIdeal.τ).loc Cert.ShortFwdPlainIdeal.main_arg0) = m ((c.tc : Thread Cert.ShortFwdIdeal.nD Cert.ShortFwdIdeal.τ).loc Cert.ShortFwdIdeal.main_arg0)
      ∧ m' ((c.tc : Thread Cert.ShortFwdPlainIdeal.nD Cert.ShortFwdPlainIdeal.τ).loc Cert.ShortFwdPlainIdeal.main_arg1) = m ((c.tc : Thread Cert.ShortFwdIdeal.nD Cert.ShortFwdIdeal.τ).loc Cert.ShortFwdIdeal.main_arg1)) →
    ∃ (v0 : (c : Dev Cert.ShortFwdIdeal.nD) → Buf (Elt Ideal) ((c.tc : Thread Cert.ShortFwdIdeal.nD Cert.ShortFwdIdeal.τ).loc Cert.ShortFwdIdeal.main_v0)),
      θ_run (Cert.ShortFwdIdeal.defs (F := Ideal)) (onTc (τ := Cert.ShortFwdIdeal.τ) (Cert.ShortFwdIdeal.main (F := Ideal))) ⟨m, fun _ => 0, g⟩ (fun r => ∀ c : Dev Cert.ShortFwdIdeal.nD,
          r.2.mem ((c.tc : Thread Cert.ShortFwdIdeal.nD Cert.ShortFwdIdeal.τ).loc Cert.ShortFwdIdeal.main_v0) = v0 c
          ∧ r.2.mem ((c.tc : Thread Cert.ShortFwdIdeal.nD Cert.ShortFwdIdeal.τ).loc Cert.ShortFwdIdeal.main_arg0) = m ((c.tc : Thread Cert.ShortFwdIdeal.nD Cert.ShortFwdIdeal.τ).loc Cert.ShortFwdIdeal.main_arg0)
          ∧ r.2.mem ((c.tc : Thread Cert.ShortFwdIdeal.nD Cert.ShortFwdIdeal.τ).loc Cert.ShortFwdIdeal.main_arg1) = m ((c.tc : Thread Cert.ShortFwdIdeal.nD Cert.ShortFwdIdeal.τ).loc Cert.ShortFwdIdeal.main_arg1))
      ∧ θ_run (Cert.ShortFwdPlainIdeal.defs (F := Ideal)) (onTc (τ := Cert.ShortFwdPlainIdeal.τ) (Cert.ShortFwdPlainIdeal.main (F := Ideal))) ⟨m', fun _ => 0, g'⟩ (fun r => ∀ c : Dev Cert.ShortFwdPlainIdeal.nD,
          r.2.mem ((c.tc : Thread Cert.ShortFwdPlainIdeal.nD Cert.ShortFwdPlainIdeal.τ).loc Cert.ShortFwdPlainIdeal.main_v30) = v0 c
          ∧ r.2.mem ((c.tc : Thread Cert.ShortFwdPlainIdeal.nD Cert.ShortFwdPlainIdeal.τ).loc Cert.ShortFwdPlainIdeal.main_arg0) = m' ((c.tc : Thread Cert.ShortFwdPlainIdeal.nD Cert.ShortFwdPlainIdeal.τ).loc Cert.ShortFwdPlainIdeal.main_arg0)
          ∧ r.2.mem ((c.tc : Thread Cert.ShortFwdPlainIdeal.nD Cert.ShortFwdPlainIdeal.τ).loc Cert.ShortFwdPlainIdeal.main_arg1) = m' ((c.tc : Thread Cert.ShortFwdPlainIdeal.nD Cert.ShortFwdPlainIdeal.τ).loc Cert.ShortFwdPlainIdeal.main_arg1))

def preserves_LossHead_LossHeadIdeal : Prop :=
  True

def algebraic_LossHeadIdeal_LossHeadPlainIdeal [hLossHeadIdeal : Cert.LossHeadIdeal.Facts] [hLossHeadPlainIdeal : Cert.LossHeadPlainIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadPlainIdeal.nD Cert.LossHeadPlainIdeal.τ Cert.LossHeadPlainIdeal.sig) → Buf (Elt Ideal) ℓ) (g' : Dev Cert.LossHeadPlainIdeal.nD → PrngReg), Pre_LossHeadIdeal m →
    (∀ c : Dev Cert.LossHeadIdeal.nD,
      m' ((c.tc : Thread Cert.LossHeadPlainIdeal.nD Cert.LossHeadPlainIdeal.τ).loc Cert.LossHeadPlainIdeal.main_arg0) = m ((c.tc : Thread Cert.LossHeadIdeal.nD Cert.LossHeadIdeal.τ).loc Cert.LossHeadIdeal.main_arg0)
      ∧ m' ((c.tc : Thread Cert.LossHeadPlainIdeal.nD Cert.LossHeadPlainIdeal.τ).loc Cert.LossHeadPlainIdeal.main_arg1) = m ((c.tc : Thread Cert.LossHeadIdeal.nD Cert.LossHeadIdeal.τ).loc Cert.LossHeadIdeal.main_arg1)
      ∧ m' ((c.tc : Thread Cert.LossHeadPlainIdeal.nD Cert.LossHeadPlainIdeal.τ).loc Cert.LossHeadPlainIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadPlainIdeal.defs (F := Ideal)) (onTc (τ := Cert.LossHeadPlainIdeal.τ) (Cert.LossHeadPlainIdeal.main (F := Ideal))) ⟨m', fun _ => 0, g'⟩ (fun r => ∀ c : Dev Cert.LossHeadPlainIdeal.nD,
          r.2.mem ((c.tc : Thread Cert.LossHeadPlainIdeal.nD Cert.LossHeadPlainIdeal.τ).loc Cert.LossHeadPlainIdeal.main_v48) = v0 c
          ∧ r.2.mem ((c.tc : Thread Cert.LossHeadPlainIdeal.nD Cert.LossHeadPlainIdeal.τ).loc Cert.LossHeadPlainIdeal.main_v49) = v1 c
          ∧ r.2.mem ((c.tc : Thread Cert.LossHeadPlainIdeal.nD Cert.LossHeadPlainIdeal.τ).loc Cert.LossHeadPlainIdeal.main_v32) = v2 c
          ∧ r.2.mem ((c.tc : Thread Cert.LossHeadPlainIdeal.nD Cert.LossHeadPlainIdeal.τ).loc Cert.LossHeadPlainIdeal.main_v50) = v3 c
          ∧ r.2.mem ((c.tc : Thread Cert.LossHeadPlainIdeal.nD Cert.LossHeadPlainIdeal.τ).loc Cert.LossHeadPlainIdeal.main_arg0) = m' ((c.tc : Thread Cert.LossHeadPlainIdeal.nD Cert.LossHeadPlainIdeal.τ).loc Cert.LossHeadPlainIdeal.main_arg0)
          ∧ r.2.mem ((c.tc : Thread Cert.LossHeadPlainIdeal.nD Cert.LossHeadPlainIdeal.τ).loc Cert.LossHeadPlainIdeal.main_arg1) = m' ((c.tc : Thread Cert.LossHeadPlainIdeal.nD Cert.LossHeadPlainIdeal.τ).loc Cert.LossHeadPlainIdeal.main_arg1)
          ∧ r.2.mem ((c.tc : Thread Cert.LossHeadPlainIdeal.nD Cert.LossHeadPlainIdeal.τ).loc Cert.LossHeadPlainIdeal.main_arg2) = m' ((c.tc : Thread Cert.LossHeadPlainIdeal.nD Cert.LossHeadPlainIdeal.τ).loc Cert.LossHeadPlainIdeal.main_arg2))

def preserves_SumTop_SumTopIdeal : Prop :=
  True

def algebraic_SumTopIdeal_SumTopPlainIdeal [hSumTopIdeal : Cert.SumTopIdeal.Facts] [hSumTopPlainIdeal : Cert.SumTopPlainIdeal.Facts] : Prop :=
  ∀ (m : (ℓ : Loc Cert.SumTopIdeal.nD Cert.SumTopIdeal.τ Cert.SumTopIdeal.sig) → Buf (Elt Ideal) ℓ) (g : Dev Cert.SumTopIdeal.nD → PrngReg)
    (m' : (ℓ : Loc Cert.SumTopPlainIdeal.nD Cert.SumTopPlainIdeal.τ Cert.SumTopPlainIdeal.sig) → Buf (Elt Ideal) ℓ) (g' : Dev Cert.SumTopPlainIdeal.nD → PrngReg), Pre_SumTopIdeal m →
    (∀ c : Dev Cert.SumTopIdeal.nD,
      m' ((c.tc : Thread Cert.SumTopPlainIdeal.nD Cert.SumTopPlainIdeal.τ).loc Cert.SumTopPlainIdeal.main_arg0) = m ((c.tc : Thread Cert.SumTopIdeal.nD Cert.SumTopIdeal.τ).loc Cert.SumTopIdeal.main_arg0)) →
    ∃ (v0 : (c : Dev Cert.SumTopIdeal.nD) → Buf (Elt Ideal) ((c.tc : Thread Cert.SumTopIdeal.nD Cert.SumTopIdeal.τ).loc Cert.SumTopIdeal.main_v0)),
      θ_run (Cert.SumTopIdeal.defs (F := Ideal)) (onTc (τ := Cert.SumTopIdeal.τ) (Cert.SumTopIdeal.main (F := Ideal))) ⟨m, fun _ => 0, g⟩ (fun r => ∀ c : Dev Cert.SumTopIdeal.nD,
          r.2.mem ((c.tc : Thread Cert.SumTopIdeal.nD Cert.SumTopIdeal.τ).loc Cert.SumTopIdeal.main_v0) = v0 c
          ∧ r.2.mem ((c.tc : Thread Cert.SumTopIdeal.nD Cert.SumTopIdeal.τ).loc Cert.SumTopIdeal.main_arg0) = m ((c.tc : Thread Cert.SumTopIdeal.nD Cert.SumTopIdeal.τ).loc Cert.SumTopIdeal.main_arg0))
      ∧ θ_run (Cert.SumTopPlainIdeal.defs (F := Ideal)) (onTc (τ := Cert.SumTopPlainIdeal.τ) (Cert.SumTopPlainIdeal.main (F := Ideal))) ⟨m', fun _ => 0, g'⟩ (fun r => ∀ c : Dev Cert.SumTopPlainIdeal.nD,
          r.2.mem ((c.tc : Thread Cert.SumTopPlainIdeal.nD Cert.SumTopPlainIdeal.τ).loc Cert.SumTopPlainIdeal.main_v1) = v0 c
          ∧ r.2.mem ((c.tc : Thread Cert.SumTopPlainIdeal.nD Cert.SumTopPlainIdeal.τ).loc Cert.SumTopPlainIdeal.main_arg0) = m' ((c.tc : Thread Cert.SumTopPlainIdeal.nD Cert.SumTopPlainIdeal.τ).loc Cert.SumTopPlainIdeal.main_arg0))

def preserves_SumBottom_SumBottomIdeal : Prop :=
  True

def algebraic_SumBottomIdeal_SumBottomPlainIdeal [hSumBottomIdeal : Cert.SumBottomIdeal.Facts] [hSumBottomPlainIdeal : Cert.SumBottomPlainIdeal.Facts] : Prop :=
  ∀ (m : (ℓ : Loc Cert.SumBottomIdeal.nD Cert.SumBottomIdeal.τ Cert.SumBottomIdeal.sig) → Buf (Elt Ideal) ℓ) (g : Dev Cert.SumBottomIdeal.nD → PrngReg)
    (m' : (ℓ : Loc Cert.SumBottomPlainIdeal.nD Cert.SumBottomPlainIdeal.τ Cert.SumBottomPlainIdeal.sig) → Buf (Elt Ideal) ℓ) (g' : Dev Cert.SumBottomPlainIdeal.nD → PrngReg), Pre_SumBottomIdeal m →
    (∀ c : Dev Cert.SumBottomIdeal.nD,
      m' ((c.tc : Thread Cert.SumBottomPlainIdeal.nD Cert.SumBottomPlainIdeal.τ).loc Cert.SumBottomPlainIdeal.main_arg0) = m ((c.tc : Thread Cert.SumBottomIdeal.nD Cert.SumBottomIdeal.τ).loc Cert.SumBottomIdeal.main_arg0)) →
    ∃ (v0 : (c : Dev Cert.SumBottomIdeal.nD) → Buf (Elt Ideal) ((c.tc : Thread Cert.SumBottomIdeal.nD Cert.SumBottomIdeal.τ).loc Cert.SumBottomIdeal.main_v0)),
      θ_run (Cert.SumBottomIdeal.defs (F := Ideal)) (onTc (τ := Cert.SumBottomIdeal.τ) (Cert.SumBottomIdeal.main (F := Ideal))) ⟨m, fun _ => 0, g⟩ (fun r => ∀ c : Dev Cert.SumBottomIdeal.nD,
          r.2.mem ((c.tc : Thread Cert.SumBottomIdeal.nD Cert.SumBottomIdeal.τ).loc Cert.SumBottomIdeal.main_v0) = v0 c
          ∧ r.2.mem ((c.tc : Thread Cert.SumBottomIdeal.nD Cert.SumBottomIdeal.τ).loc Cert.SumBottomIdeal.main_arg0) = m ((c.tc : Thread Cert.SumBottomIdeal.nD Cert.SumBottomIdeal.τ).loc Cert.SumBottomIdeal.main_arg0))
      ∧ θ_run (Cert.SumBottomPlainIdeal.defs (F := Ideal)) (onTc (τ := Cert.SumBottomPlainIdeal.τ) (Cert.SumBottomPlainIdeal.main (F := Ideal))) ⟨m', fun _ => 0, g'⟩ (fun r => ∀ c : Dev Cert.SumBottomPlainIdeal.nD,
          r.2.mem ((c.tc : Thread Cert.SumBottomPlainIdeal.nD Cert.SumBottomPlainIdeal.τ).loc Cert.SumBottomPlainIdeal.main_v1) = v0 c
          ∧ r.2.mem ((c.tc : Thread Cert.SumBottomPlainIdeal.nD Cert.SumBottomPlainIdeal.τ).loc Cert.SumBottomPlainIdeal.main_arg0) = m' ((c.tc : Thread Cert.SumBottomPlainIdeal.nD Cert.SumBottomPlainIdeal.τ).loc Cert.SumBottomPlainIdeal.main_arg0))

def preserves_SumRows_SumRowsIdeal : Prop :=
  True

def algebraic_SumRowsIdeal_SumRowsPlainIdeal [hSumRowsIdeal : Cert.SumRowsIdeal.Facts] [hSumRowsPlainIdeal : Cert.SumRowsPlainIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg)
    (m' : (ℓ : Loc Cert.SumRowsPlainIdeal.nD Cert.SumRowsPlainIdeal.τ Cert.SumRowsPlainIdeal.sig) → Buf (Elt Ideal) ℓ) (g' : Dev Cert.SumRowsPlainIdeal.nD → PrngReg), Pre_SumRowsIdeal m →
    (∀ c : Dev Cert.SumRowsIdeal.nD,
      m' ((c.tc : Thread Cert.SumRowsPlainIdeal.nD Cert.SumRowsPlainIdeal.τ).loc Cert.SumRowsPlainIdeal.main_arg0) = m ((c.tc : Thread Cert.SumRowsIdeal.nD Cert.SumRowsIdeal.τ).loc Cert.SumRowsIdeal.main_arg0)) →
    ∃ (v0 : (c : Dev Cert.SumRowsIdeal.nD) → Buf (Elt Ideal) ((c.tc : Thread Cert.SumRowsIdeal.nD Cert.SumRowsIdeal.τ).loc Cert.SumRowsIdeal.main_v0)),
      θ_run (Cert.SumRowsIdeal.defs (F := Ideal)) (onTc (τ := Cert.SumRowsIdeal.τ) (Cert.SumRowsIdeal.main (F := Ideal))) ⟨m, fun _ => 0, g⟩ (fun r => ∀ c : Dev Cert.SumRowsIdeal.nD,
          r.2.mem ((c.tc : Thread Cert.SumRowsIdeal.nD Cert.SumRowsIdeal.τ).loc Cert.SumRowsIdeal.main_v0) = v0 c
          ∧ r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0))
      ∧ θ_run (Cert.SumRowsPlainIdeal.defs (F := Ideal)) (onTc (τ := Cert.SumRowsPlainIdeal.τ) (Cert.SumRowsPlainIdeal.main (F := Ideal))) ⟨m', fun _ => 0, g'⟩ (fun r => ∀ c : Dev Cert.SumRowsPlainIdeal.nD,
          r.2.mem ((c.tc : Thread Cert.SumRowsPlainIdeal.nD Cert.SumRowsPlainIdeal.τ).loc Cert.SumRowsPlainIdeal.main_v1) = v0 c
          ∧ r.2.mem ((c.tc : Thread Cert.SumRowsPlainIdeal.nD Cert.SumRowsPlainIdeal.τ).loc Cert.SumRowsPlainIdeal.main_arg0) = m' ((c.tc : Thread Cert.SumRowsPlainIdeal.nD Cert.SumRowsPlainIdeal.τ).loc Cert.SumRowsPlainIdeal.main_arg0))

def preserves_SumCols_SumColsIdeal : Prop :=
  True

def algebraic_SumColsIdeal_SumColsPlainIdeal [hSumColsIdeal : Cert.SumColsIdeal.Facts] [hSumColsPlainIdeal : Cert.SumColsPlainIdeal.Facts] : Prop :=
  ∀ (m : (ℓ : Loc Cert.SumColsIdeal.nD Cert.SumColsIdeal.τ Cert.SumColsIdeal.sig) → Buf (Elt Ideal) ℓ) (g : Dev Cert.SumColsIdeal.nD → PrngReg)
    (m' : (ℓ : Loc Cert.SumColsPlainIdeal.nD Cert.SumColsPlainIdeal.τ Cert.SumColsPlainIdeal.sig) → Buf (Elt Ideal) ℓ) (g' : Dev Cert.SumColsPlainIdeal.nD → PrngReg), Pre_SumColsIdeal m →
    (∀ c : Dev Cert.SumColsIdeal.nD,
      m' ((c.tc : Thread Cert.SumColsPlainIdeal.nD Cert.SumColsPlainIdeal.τ).loc Cert.SumColsPlainIdeal.main_arg0) = m ((c.tc : Thread Cert.SumColsIdeal.nD Cert.SumColsIdeal.τ).loc Cert.SumColsIdeal.main_arg0)) →
    ∃ (v0 : (c : Dev Cert.SumColsIdeal.nD) → Buf (Elt Ideal) ((c.tc : Thread Cert.SumColsIdeal.nD Cert.SumColsIdeal.τ).loc Cert.SumColsIdeal.main_v0)),
      θ_run (Cert.SumColsIdeal.defs (F := Ideal)) (onTc (τ := Cert.SumColsIdeal.τ) (Cert.SumColsIdeal.main (F := Ideal))) ⟨m, fun _ => 0, g⟩ (fun r => ∀ c : Dev Cert.SumColsIdeal.nD,
          r.2.mem ((c.tc : Thread Cert.SumColsIdeal.nD Cert.SumColsIdeal.τ).loc Cert.SumColsIdeal.main_v0) = v0 c
          ∧ r.2.mem ((c.tc : Thread Cert.SumColsIdeal.nD Cert.SumColsIdeal.τ).loc Cert.SumColsIdeal.main_arg0) = m ((c.tc : Thread Cert.SumColsIdeal.nD Cert.SumColsIdeal.τ).loc Cert.SumColsIdeal.main_arg0))
      ∧ θ_run (Cert.SumColsPlainIdeal.defs (F := Ideal)) (onTc (τ := Cert.SumColsPlainIdeal.τ) (Cert.SumColsPlainIdeal.main (F := Ideal))) ⟨m', fun _ => 0, g'⟩ (fun r => ∀ c : Dev Cert.SumColsPlainIdeal.nD,
          r.2.mem ((c.tc : Thread Cert.SumColsPlainIdeal.nD Cert.SumColsPlainIdeal.τ).loc Cert.SumColsPlainIdeal.main_v1) = v0 c
          ∧ r.2.mem ((c.tc : Thread Cert.SumColsPlainIdeal.nD Cert.SumColsPlainIdeal.τ).loc Cert.SumColsPlainIdeal.main_arg0) = m' ((c.tc : Thread Cert.SumColsPlainIdeal.nD Cert.SumColsPlainIdeal.τ).loc Cert.SumColsPlainIdeal.main_arg0))

def preserves_SumSquare_SumSquareIdeal : Prop :=
  True

def algebraic_SumSquareIdeal_SumSquarePlainIdeal [hSumSquareIdeal : Cert.SumSquareIdeal.Facts] [hSumSquarePlainIdeal : Cert.SumSquarePlainIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg)
    (m' : (ℓ : Loc Cert.SumSquarePlainIdeal.nD Cert.SumSquarePlainIdeal.τ Cert.SumSquarePlainIdeal.sig) → Buf (Elt Ideal) ℓ) (g' : Dev Cert.SumSquarePlainIdeal.nD → PrngReg), Pre_SumSquareIdeal m →
    (∀ c : Dev Cert.SumSquareIdeal.nD,
      m' ((c.tc : Thread Cert.SumSquarePlainIdeal.nD Cert.SumSquarePlainIdeal.τ).loc Cert.SumSquarePlainIdeal.main_arg0) = m ((c.tc : Thread Cert.SumSquareIdeal.nD Cert.SumSquareIdeal.τ).loc Cert.SumSquareIdeal.main_arg0)) →
    ∃ (v0 : (c : Dev Cert.SumSquareIdeal.nD) → Buf (Elt Ideal) ((c.tc : Thread Cert.SumSquareIdeal.nD Cert.SumSquareIdeal.τ).loc Cert.SumSquareIdeal.main_v0)),
      θ_run (Cert.SumSquareIdeal.defs (F := Ideal)) (onTc (τ := Cert.SumSquareIdeal.τ) (Cert.SumSquareIdeal.main (F := Ideal))) ⟨m, fun _ => 0, g⟩ (fun r => ∀ c : Dev Cert.SumSquareIdeal.nD,
          r.2.mem ((c.tc : Thread Cert.SumSquareIdeal.nD Cert.SumSquareIdeal.τ).loc Cert.SumSquareIdeal.main_v0) = v0 c
          ∧ r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0))
      ∧ θ_run (Cert.SumSquarePlainIdeal.defs (F := Ideal)) (onTc (τ := Cert.SumSquarePlainIdeal.τ) (Cert.SumSquarePlainIdeal.main (F := Ideal))) ⟨m', fun _ => 0, g'⟩ (fun r => ∀ c : Dev Cert.SumSquarePlainIdeal.nD,
          r.2.mem ((c.tc : Thread Cert.SumSquarePlainIdeal.nD Cert.SumSquarePlainIdeal.τ).loc Cert.SumSquarePlainIdeal.main_v1) = v0 c
          ∧ r.2.mem ((c.tc : Thread Cert.SumSquarePlainIdeal.nD Cert.SumSquarePlainIdeal.τ).loc Cert.SumSquarePlainIdeal.main_arg0) = m' ((c.tc : Thread Cert.SumSquarePlainIdeal.nD Cert.SumSquarePlainIdeal.τ).loc Cert.SumSquarePlainIdeal.main_arg0))

def preserves_BiasReduce_BiasReduceIdeal : Prop :=
  True

def algebraic_BiasReduceIdeal_BiasReducePlainIdeal [hBiasReduceIdeal : Cert.BiasReduceIdeal.Facts] [hBiasReducePlainIdeal : Cert.BiasReducePlainIdeal.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg)
    (m' : (ℓ : Loc Cert.BiasReducePlainIdeal.nD Cert.BiasReducePlainIdeal.τ Cert.BiasReducePlainIdeal.sig) → Buf (Elt Ideal) ℓ) (g' : Dev Cert.BiasReducePlainIdeal.nD → PrngReg), Pre_BiasReduceIdeal m →
    (∀ c : Dev Cert.BiasReduceIdeal.nD,
      m' ((c.tc : Thread Cert.BiasReducePlainIdeal.nD Cert.BiasReducePlainIdeal.τ).loc Cert.BiasReducePlainIdeal.main_arg0) = m ((c.tc : Thread Cert.BiasReduceIdeal.nD Cert.BiasReduceIdeal.τ).loc Cert.BiasReduceIdeal.main_arg0)
      ∧ m' ((c.tc : Thread Cert.BiasReducePlainIdeal.nD Cert.BiasReducePlainIdeal.τ).loc Cert.BiasReducePlainIdeal.main_arg1) = m ((c.tc : Thread Cert.BiasReduceIdeal.nD Cert.BiasReduceIdeal.τ).loc Cert.BiasReduceIdeal.main_arg1)) →
    ∃ (v0 : (c : Dev Cert.BiasReduceIdeal.nD) → Buf (Elt Ideal) ((c.tc : Thread Cert.BiasReduceIdeal.nD Cert.BiasReduceIdeal.τ).loc Cert.BiasReduceIdeal.main_v0)),
      θ_run (Cert.BiasReduceIdeal.defs (F := Ideal)) (onTc (τ := Cert.BiasReduceIdeal.τ) (Cert.BiasReduceIdeal.main (F := Ideal))) ⟨m, fun _ => 0, g⟩ (fun r => ∀ c : Dev Cert.BiasReduceIdeal.nD,
          r.2.mem ((c.tc : Thread Cert.BiasReduceIdeal.nD Cert.BiasReduceIdeal.τ).loc Cert.BiasReduceIdeal.main_v0) = v0 c
          ∧ r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
          ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ θ_run (Cert.BiasReducePlainIdeal.defs (F := Ideal)) (onTc (τ := Cert.BiasReducePlainIdeal.τ) (Cert.BiasReducePlainIdeal.main (F := Ideal))) ⟨m', fun _ => 0, g'⟩ (fun r => ∀ c : Dev Cert.BiasReducePlainIdeal.nD,
          r.2.mem ((c.tc : Thread Cert.BiasReducePlainIdeal.nD Cert.BiasReducePlainIdeal.τ).loc Cert.BiasReducePlainIdeal.main_v20) = v0 c
          ∧ r.2.mem ((c.tc : Thread Cert.BiasReducePlainIdeal.nD Cert.BiasReducePlainIdeal.τ).loc Cert.BiasReducePlainIdeal.main_arg0) = m' ((c.tc : Thread Cert.BiasReducePlainIdeal.nD Cert.BiasReducePlainIdeal.τ).loc Cert.BiasReducePlainIdeal.main_arg0)
          ∧ r.2.mem ((c.tc : Thread Cert.BiasReducePlainIdeal.nD Cert.BiasReducePlainIdeal.τ).loc Cert.BiasReducePlainIdeal.main_arg1) = m' ((c.tc : Thread Cert.BiasReducePlainIdeal.nD Cert.BiasReducePlainIdeal.τ).loc Cert.BiasReducePlainIdeal.main_arg1))

def preserves_BiasExpand_BiasExpandIdeal : Prop :=
  True

def algebraic_BiasExpandIdeal_BiasExpandPlainIdeal [hBiasExpandIdeal : Cert.BiasExpandIdeal.Facts] [hBiasExpandPlainIdeal : Cert.BiasExpandPlainIdeal.Facts] : Prop :=
  ∀ (m : (ℓ : Loc Cert.BiasExpandIdeal.nD Cert.BiasExpandIdeal.τ Cert.BiasExpandIdeal.sig) → Buf (Elt Ideal) ℓ) (g : Dev Cert.BiasExpandIdeal.nD → PrngReg)
    (m' : (ℓ : Loc Cert.BiasExpandPlainIdeal.nD Cert.BiasExpandPlainIdeal.τ Cert.BiasExpandPlainIdeal.sig) → Buf (Elt Ideal) ℓ) (g' : Dev Cert.BiasExpandPlainIdeal.nD → PrngReg), Pre_BiasExpandIdeal m →
    (∀ c : Dev Cert.BiasExpandIdeal.nD,
      m' ((c.tc : Thread Cert.BiasExpandPlainIdeal.nD Cert.BiasExpandPlainIdeal.τ).loc Cert.BiasExpandPlainIdeal.main_arg0) = m ((c.tc : Thread Cert.BiasExpandIdeal.nD Cert.BiasExpandIdeal.τ).loc Cert.BiasExpandIdeal.main_arg0)
      ∧ m' ((c.tc : Thread Cert.BiasExpandPlainIdeal.nD Cert.BiasExpandPlainIdeal.τ).loc Cert.BiasExpandPlainIdeal.main_arg1) = m ((c.tc : Thread Cert.BiasExpandIdeal.nD Cert.BiasExpandIdeal.τ).loc Cert.BiasExpandIdeal.main_arg1)) →
    ∃ (v0 : (c : Dev Cert.BiasExpandIdeal.nD) → Buf (Elt Ideal) ((c.tc : Thread Cert.BiasExpandIdeal.nD Cert.BiasExpandIdeal.τ).loc Cert.BiasExpandIdeal.main_v0)),
      θ_run (Cert.BiasExpandIdeal.defs (F := Ideal)) (onTc (τ := Cert.BiasExpandIdeal.τ) (Cert.BiasExpandIdeal.main (F := Ideal))) ⟨m, fun _ => 0, g⟩ (fun r => ∀ c : Dev Cert.BiasExpandIdeal.nD,
          r.2.mem ((c.tc : Thread Cert.BiasExpandIdeal.nD Cert.BiasExpandIdeal.τ).loc Cert.BiasExpandIdeal.main_v0) = v0 c
          ∧ r.2.mem ((c.tc : Thread Cert.BiasExpandIdeal.nD Cert.BiasExpandIdeal.τ).loc Cert.BiasExpandIdeal.main_arg0) = m ((c.tc : Thread Cert.BiasExpandIdeal.nD Cert.BiasExpandIdeal.τ).loc Cert.BiasExpandIdeal.main_arg0)
          ∧ r.2.mem ((c.tc : Thread Cert.BiasExpandIdeal.nD Cert.BiasExpandIdeal.τ).loc Cert.BiasExpandIdeal.main_arg1) = m ((c.tc : Thread Cert.BiasExpandIdeal.nD Cert.BiasExpandIdeal.τ).loc Cert.BiasExpandIdeal.main_arg1))
      ∧ θ_run (Cert.BiasExpandPlainIdeal.defs (F := Ideal)) (onTc (τ := Cert.BiasExpandPlainIdeal.τ) (Cert.BiasExpandPlainIdeal.main (F := Ideal))) ⟨m', fun _ => 0, g'⟩ (fun r => ∀ c : Dev Cert.BiasExpandPlainIdeal.nD,
          r.2.mem ((c.tc : Thread Cert.BiasExpandPlainIdeal.nD Cert.BiasExpandPlainIdeal.τ).loc Cert.BiasExpandPlainIdeal.main_v27) = v0 c
          ∧ r.2.mem ((c.tc : Thread Cert.BiasExpandPlainIdeal.nD Cert.BiasExpandPlainIdeal.τ).loc Cert.BiasExpandPlainIdeal.main_arg0) = m' ((c.tc : Thread Cert.BiasExpandPlainIdeal.nD Cert.BiasExpandPlainIdeal.τ).loc Cert.BiasExpandPlainIdeal.main_arg0)
          ∧ r.2.mem ((c.tc : Thread Cert.BiasExpandPlainIdeal.nD Cert.BiasExpandPlainIdeal.τ).loc Cert.BiasExpandPlainIdeal.main_arg1) = m' ((c.tc : Thread Cert.BiasExpandPlainIdeal.nD Cert.BiasExpandPlainIdeal.τ).loc Cert.BiasExpandPlainIdeal.main_arg1))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxPlainIdeal : Cert.DownDxPlainIdeal.Facts) (hDownDw : Cert.DownDw.Facts) (hDownDwIdeal : Cert.DownDwIdeal.Facts) (hDownDwPlainIdeal : Cert.DownDwPlainIdeal.Facts) (hUpDx : Cert.UpDx.Facts) (hUpDxIdeal : Cert.UpDxIdeal.Facts) (hUpDxPlainIdeal : Cert.UpDxPlainIdeal.Facts) (hUpDw : Cert.UpDw.Facts) (hUpDwIdeal : Cert.UpDwIdeal.Facts) (hUpDwPlainIdeal : Cert.UpDwPlainIdeal.Facts) (hOutDx : Cert.OutDx.Facts) (hOutDxIdeal : Cert.OutDxIdeal.Facts) (hOutDxPlainIdeal : Cert.OutDxPlainIdeal.Facts) (hOutDw : Cert.OutDw.Facts) (hOutDwIdeal : Cert.OutDwIdeal.Facts) (hOutDwPlainIdeal : Cert.OutDwPlainIdeal.Facts) (hScDx : Cert.ScDx.Facts) (hScDxIdeal : Cert.ScDxIdeal.Facts) (hScDxPlainIdeal : Cert.ScDxPlainIdeal.Facts) (hProjConv : Cert.ProjConv.Facts) (hProjConvIdeal : Cert.ProjConvIdeal.Facts) (hProjConvPlainIdeal : Cert.ProjConvPlainIdeal.Facts) (hProjK : Cert.ProjK.Facts) (hProjKIdeal : Cert.ProjKIdeal.Facts) (hProjKPlainIdeal : Cert.ProjKPlainIdeal.Facts) (hProjV : Cert.ProjV.Facts) (hProjVIdeal : Cert.ProjVIdeal.Facts) (hProjVPlainIdeal : Cert.ProjVPlainIdeal.Facts) (hOutNorm : Cert.OutNorm.Facts) (hOutNormIdeal : Cert.OutNormIdeal.Facts) (hOutNormPlainIdeal : Cert.OutNormPlainIdeal.Facts) (hUp : Cert.Up.Facts) (hUpIdeal : Cert.UpIdeal.Facts) (hUpPlainIdeal : Cert.UpPlainIdeal.Facts) (hDownNorm : Cert.DownNorm.Facts) (hDownNormIdeal : Cert.DownNormIdeal.Facts) (hDownNormPlainIdeal : Cert.DownNormPlainIdeal.Facts) (hDown : Cert.Down.Facts) (hDownIdeal : Cert.DownIdeal.Facts) (hDownPlainIdeal : Cert.DownPlainIdeal.Facts) (hProjSc : Cert.ProjSc.Facts) (hProjScIdeal : Cert.ProjScIdeal.Facts) (hProjScPlainIdeal : Cert.ProjScPlainIdeal.Facts) (hRmsBwd : Cert.RmsBwd.Facts) (hRmsBwdIdeal : Cert.RmsBwdIdeal.Facts) (hRmsBwdPlainIdeal : Cert.RmsBwdPlainIdeal.Facts) (hStep0 : Cert.Step0.Facts) (hStep0Ideal : Cert.Step0Ideal.Facts) (hStep0PlainIdeal : Cert.Step0PlainIdeal.Facts) (hStep1 : Cert.Step1.Facts) (hStep1Ideal : Cert.Step1Ideal.Facts) (hStep1PlainIdeal : Cert.Step1PlainIdeal.Facts) (hStep2 : Cert.Step2.Facts) (hStep2Ideal : Cert.Step2Ideal.Facts) (hStep2PlainIdeal : Cert.Step2PlainIdeal.Facts) (hStep3 : Cert.Step3.Facts) (hStep3Ideal : Cert.Step3Ideal.Facts) (hStep3PlainIdeal : Cert.Step3PlainIdeal.Facts) (hStepUp : Cert.StepUp.Facts) (hStepUpIdeal : Cert.StepUpIdeal.Facts) (hStepUpPlainIdeal : Cert.StepUpPlainIdeal.Facts) (hStepDown : Cert.StepDown.Facts) (hStepDownIdeal : Cert.StepDownIdeal.Facts) (hStepDownPlainIdeal : Cert.StepDownPlainIdeal.Facts) (hStepSmall : Cert.StepSmall.Facts) (hStepSmallIdeal : Cert.StepSmallIdeal.Facts) (hStepSmallPlainIdeal : Cert.StepSmallPlainIdeal.Facts) (hShortFwd : Cert.ShortFwd.Facts) (hShortFwdIdeal : Cert.ShortFwdIdeal.Facts) (hShortFwdPlainIdeal : Cert.ShortFwdPlainIdeal.Facts) (hLossHead : Cert.LossHead.Facts) (hLossHeadIdeal : Cert.LossHeadIdeal.Facts) (hLossHeadPlainIdeal : Cert.LossHeadPlainIdeal.Facts) (hSumTop : Cert.SumTop.Facts) (hSumTopIdeal : Cert.SumTopIdeal.Facts) (hSumTopPlainIdeal : Cert.SumTopPlainIdeal.Facts) (hSumBottom : Cert.SumBottom.Facts) (hSumBottomIdeal : Cert.SumBottomIdeal.Facts) (hSumBottomPlainIdeal : Cert.SumBottomPlainIdeal.Facts) (hSumRows : Cert.SumRows.Facts) (hSumRowsIdeal : Cert.SumRowsIdeal.Facts) (hSumRowsPlainIdeal : Cert.SumRowsPlainIdeal.Facts) (hSumCols : Cert.SumCols.Facts) (hSumColsIdeal : Cert.SumColsIdeal.Facts) (hSumColsPlainIdeal : Cert.SumColsPlainIdeal.Facts) (hSumSquare : Cert.SumSquare.Facts) (hSumSquareIdeal : Cert.SumSquareIdeal.Facts) (hSumSquarePlainIdeal : Cert.SumSquarePlainIdeal.Facts) (hBiasReduce : Cert.BiasReduce.Facts) (hBiasReduceIdeal : Cert.BiasReduceIdeal.Facts) (hBiasReducePlainIdeal : Cert.BiasReducePlainIdeal.Facts) (hBiasExpand : Cert.BiasExpand.Facts) (hBiasExpandIdeal : Cert.BiasExpandIdeal.Facts) (hBiasExpandPlainIdeal : Cert.BiasExpandPlainIdeal.Facts),
    quiescent_Kernel (hKernel := hKernel)
    ∧ quiescent_KernelIdeal (hKernelIdeal := hKernelIdeal)
    ∧ quiescent_ReferenceIdeal (hReferenceIdeal := hReferenceIdeal)
    ∧ quiescent_DownDx (hDownDx := hDownDx)
    ∧ quiescent_DownDxIdeal (hDownDxIdeal := hDownDxIdeal)
    ∧ quiescent_DownDxPlainIdeal (hDownDxPlainIdeal := hDownDxPlainIdeal)
    ∧ quiescent_DownDw (hDownDw := hDownDw)
    ∧ quiescent_DownDwIdeal (hDownDwIdeal := hDownDwIdeal)
    ∧ quiescent_DownDwPlainIdeal (hDownDwPlainIdeal := hDownDwPlainIdeal)
    ∧ quiescent_UpDx (hUpDx := hUpDx)
    ∧ quiescent_UpDxIdeal (hUpDxIdeal := hUpDxIdeal)
    ∧ quiescent_UpDxPlainIdeal (hUpDxPlainIdeal := hUpDxPlainIdeal)
    ∧ quiescent_UpDw (hUpDw := hUpDw)
    ∧ quiescent_UpDwIdeal (hUpDwIdeal := hUpDwIdeal)
    ∧ quiescent_UpDwPlainIdeal (hUpDwPlainIdeal := hUpDwPlainIdeal)
    ∧ quiescent_OutDx (hOutDx := hOutDx)
    ∧ quiescent_OutDxIdeal (hOutDxIdeal := hOutDxIdeal)
    ∧ quiescent_OutDxPlainIdeal (hOutDxPlainIdeal := hOutDxPlainIdeal)
    ∧ quiescent_OutDw (hOutDw := hOutDw)
    ∧ quiescent_OutDwIdeal (hOutDwIdeal := hOutDwIdeal)
    ∧ quiescent_OutDwPlainIdeal (hOutDwPlainIdeal := hOutDwPlainIdeal)
    ∧ quiescent_ScDx (hScDx := hScDx)
    ∧ quiescent_ScDxIdeal (hScDxIdeal := hScDxIdeal)
    ∧ quiescent_ScDxPlainIdeal (hScDxPlainIdeal := hScDxPlainIdeal)
    ∧ quiescent_ProjConv (hProjConv := hProjConv)
    ∧ quiescent_ProjConvIdeal (hProjConvIdeal := hProjConvIdeal)
    ∧ quiescent_ProjConvPlainIdeal (hProjConvPlainIdeal := hProjConvPlainIdeal)
    ∧ quiescent_ProjK (hProjK := hProjK)
    ∧ quiescent_ProjKIdeal (hProjKIdeal := hProjKIdeal)
    ∧ quiescent_ProjKPlainIdeal (hProjKPlainIdeal := hProjKPlainIdeal)
    ∧ quiescent_ProjV (hProjV := hProjV)
    ∧ quiescent_ProjVIdeal (hProjVIdeal := hProjVIdeal)
    ∧ quiescent_ProjVPlainIdeal (hProjVPlainIdeal := hProjVPlainIdeal)
    ∧ quiescent_OutNorm (hOutNorm := hOutNorm)
    ∧ quiescent_OutNormIdeal (hOutNormIdeal := hOutNormIdeal)
    ∧ quiescent_OutNormPlainIdeal (hOutNormPlainIdeal := hOutNormPlainIdeal)
    ∧ quiescent_Up (hUp := hUp)
    ∧ quiescent_UpIdeal (hUpIdeal := hUpIdeal)
    ∧ quiescent_UpPlainIdeal (hUpPlainIdeal := hUpPlainIdeal)
    ∧ quiescent_DownNorm (hDownNorm := hDownNorm)
    ∧ quiescent_DownNormIdeal (hDownNormIdeal := hDownNormIdeal)
    ∧ quiescent_DownNormPlainIdeal (hDownNormPlainIdeal := hDownNormPlainIdeal)
    ∧ quiescent_Down (hDown := hDown)
    ∧ quiescent_DownIdeal (hDownIdeal := hDownIdeal)
    ∧ quiescent_DownPlainIdeal (hDownPlainIdeal := hDownPlainIdeal)
    ∧ quiescent_ProjSc (hProjSc := hProjSc)
    ∧ quiescent_ProjScIdeal (hProjScIdeal := hProjScIdeal)
    ∧ quiescent_ProjScPlainIdeal (hProjScPlainIdeal := hProjScPlainIdeal)
    ∧ quiescent_RmsBwd (hRmsBwd := hRmsBwd)
    ∧ quiescent_RmsBwdIdeal (hRmsBwdIdeal := hRmsBwdIdeal)
    ∧ quiescent_RmsBwdPlainIdeal (hRmsBwdPlainIdeal := hRmsBwdPlainIdeal)
    ∧ quiescent_Step0 (hStep0 := hStep0)
    ∧ quiescent_Step0Ideal (hStep0Ideal := hStep0Ideal)
    ∧ quiescent_Step0PlainIdeal (hStep0PlainIdeal := hStep0PlainIdeal)
    ∧ quiescent_Step1 (hStep1 := hStep1)
    ∧ quiescent_Step1Ideal (hStep1Ideal := hStep1Ideal)
    ∧ quiescent_Step1PlainIdeal (hStep1PlainIdeal := hStep1PlainIdeal)
    ∧ quiescent_Step2 (hStep2 := hStep2)
    ∧ quiescent_Step2Ideal (hStep2Ideal := hStep2Ideal)
    ∧ quiescent_Step2PlainIdeal (hStep2PlainIdeal := hStep2PlainIdeal)
    ∧ quiescent_Step3 (hStep3 := hStep3)
    ∧ quiescent_Step3Ideal (hStep3Ideal := hStep3Ideal)
    ∧ quiescent_Step3PlainIdeal (hStep3PlainIdeal := hStep3PlainIdeal)
    ∧ quiescent_StepUp (hStepUp := hStepUp)
    ∧ quiescent_StepUpIdeal (hStepUpIdeal := hStepUpIdeal)
    ∧ quiescent_StepUpPlainIdeal (hStepUpPlainIdeal := hStepUpPlainIdeal)
    ∧ quiescent_StepDown (hStepDown := hStepDown)
    ∧ quiescent_StepDownIdeal (hStepDownIdeal := hStepDownIdeal)
    ∧ quiescent_StepDownPlainIdeal (hStepDownPlainIdeal := hStepDownPlainIdeal)
    ∧ quiescent_StepSmall (hStepSmall := hStepSmall)
    ∧ quiescent_StepSmallIdeal (hStepSmallIdeal := hStepSmallIdeal)
    ∧ quiescent_StepSmallPlainIdeal (hStepSmallPlainIdeal := hStepSmallPlainIdeal)
    ∧ quiescent_ShortFwd (hShortFwd := hShortFwd)
    ∧ quiescent_ShortFwdIdeal (hShortFwdIdeal := hShortFwdIdeal)
    ∧ quiescent_ShortFwdPlainIdeal (hShortFwdPlainIdeal := hShortFwdPlainIdeal)
    ∧ quiescent_LossHead (hLossHead := hLossHead)
    ∧ quiescent_LossHeadIdeal (hLossHeadIdeal := hLossHeadIdeal)
    ∧ quiescent_LossHeadPlainIdeal (hLossHeadPlainIdeal := hLossHeadPlainIdeal)
    ∧ quiescent_SumTop (hSumTop := hSumTop)
    ∧ quiescent_SumTopIdeal (hSumTopIdeal := hSumTopIdeal)
    ∧ quiescent_SumTopPlainIdeal (hSumTopPlainIdeal := hSumTopPlainIdeal)
    ∧ quiescent_SumBottom (hSumBottom := hSumBottom)
    ∧ quiescent_SumBottomIdeal (hSumBottomIdeal := hSumBottomIdeal)
    ∧ quiescent_SumBottomPlainIdeal (hSumBottomPlainIdeal := hSumBottomPlainIdeal)
    ∧ quiescent_SumRows (hSumRows := hSumRows)
    ∧ quiescent_SumRowsIdeal (hSumRowsIdeal := hSumRowsIdeal)
    ∧ quiescent_SumRowsPlainIdeal (hSumRowsPlainIdeal := hSumRowsPlainIdeal)
    ∧ quiescent_SumCols (hSumCols := hSumCols)
    ∧ quiescent_SumColsIdeal (hSumColsIdeal := hSumColsIdeal)
    ∧ quiescent_SumColsPlainIdeal (hSumColsPlainIdeal := hSumColsPlainIdeal)
    ∧ quiescent_SumSquare (hSumSquare := hSumSquare)
    ∧ quiescent_SumSquareIdeal (hSumSquareIdeal := hSumSquareIdeal)
    ∧ quiescent_SumSquarePlainIdeal (hSumSquarePlainIdeal := hSumSquarePlainIdeal)
    ∧ quiescent_BiasReduce (hBiasReduce := hBiasReduce)
    ∧ quiescent_BiasReduceIdeal (hBiasReduceIdeal := hBiasReduceIdeal)
    ∧ quiescent_BiasReducePlainIdeal (hBiasReducePlainIdeal := hBiasReducePlainIdeal)
    ∧ quiescent_BiasExpand (hBiasExpand := hBiasExpand)
    ∧ quiescent_BiasExpandIdeal (hBiasExpandIdeal := hBiasExpandIdeal)
    ∧ quiescent_BiasExpandPlainIdeal (hBiasExpandPlainIdeal := hBiasExpandPlainIdeal)
    ∧ preserves_Kernel_KernelIdeal
    ∧ algebraic_KernelIdeal_ReferenceIdeal (hKernelIdeal := hKernelIdeal) (hReferenceIdeal := hReferenceIdeal)
    ∧ preserves_DownDx_DownDxIdeal
    ∧ algebraic_DownDxIdeal_DownDxPlainIdeal (hDownDxIdeal := hDownDxIdeal) (hDownDxPlainIdeal := hDownDxPlainIdeal)
    ∧ preserves_DownDw_DownDwIdeal
    ∧ algebraic_DownDwIdeal_DownDwPlainIdeal (hDownDwIdeal := hDownDwIdeal) (hDownDwPlainIdeal := hDownDwPlainIdeal)
    ∧ preserves_UpDx_UpDxIdeal
    ∧ algebraic_UpDxIdeal_UpDxPlainIdeal (hUpDxIdeal := hUpDxIdeal) (hUpDxPlainIdeal := hUpDxPlainIdeal)
    ∧ preserves_UpDw_UpDwIdeal
    ∧ algebraic_UpDwIdeal_UpDwPlainIdeal (hUpDwIdeal := hUpDwIdeal) (hUpDwPlainIdeal := hUpDwPlainIdeal)
    ∧ preserves_OutDx_OutDxIdeal
    ∧ algebraic_OutDxIdeal_OutDxPlainIdeal (hOutDxIdeal := hOutDxIdeal) (hOutDxPlainIdeal := hOutDxPlainIdeal)
    ∧ preserves_OutDw_OutDwIdeal
    ∧ algebraic_OutDwIdeal_OutDwPlainIdeal (hOutDwIdeal := hOutDwIdeal) (hOutDwPlainIdeal := hOutDwPlainIdeal)
    ∧ preserves_ScDx_ScDxIdeal
    ∧ algebraic_ScDxIdeal_ScDxPlainIdeal (hScDxIdeal := hScDxIdeal) (hScDxPlainIdeal := hScDxPlainIdeal)
    ∧ preserves_ProjConv_ProjConvIdeal
    ∧ algebraic_ProjConvIdeal_ProjConvPlainIdeal (hProjConvIdeal := hProjConvIdeal) (hProjConvPlainIdeal := hProjConvPlainIdeal)
    ∧ preserves_ProjK_ProjKIdeal
    ∧ algebraic_ProjKIdeal_ProjKPlainIdeal (hProjKIdeal := hProjKIdeal) (hProjKPlainIdeal := hProjKPlainIdeal)
    ∧ preserves_ProjV_ProjVIdeal
    ∧ algebraic_ProjVIdeal_ProjVPlainIdeal (hProjVIdeal := hProjVIdeal) (hProjVPlainIdeal := hProjVPlainIdeal)
    ∧ preserves_OutNorm_OutNormIdeal
    ∧ algebraic_OutNormIdeal_OutNormPlainIdeal (hOutNormIdeal := hOutNormIdeal) (hOutNormPlainIdeal := hOutNormPlainIdeal)
    ∧ preserves_Up_UpIdeal
    ∧ algebraic_UpIdeal_UpPlainIdeal (hUpIdeal := hUpIdeal) (hUpPlainIdeal := hUpPlainIdeal)
    ∧ preserves_DownNorm_DownNormIdeal
    ∧ algebraic_DownNormIdeal_DownNormPlainIdeal (hDownNormIdeal := hDownNormIdeal) (hDownNormPlainIdeal := hDownNormPlainIdeal)
    ∧ preserves_Down_DownIdeal
    ∧ algebraic_DownIdeal_DownPlainIdeal (hDownIdeal := hDownIdeal) (hDownPlainIdeal := hDownPlainIdeal)
    ∧ preserves_ProjSc_ProjScIdeal
    ∧ algebraic_ProjScIdeal_ProjScPlainIdeal (hProjScIdeal := hProjScIdeal) (hProjScPlainIdeal := hProjScPlainIdeal)
    ∧ preserves_RmsBwd_RmsBwdIdeal
    ∧ algebraic_RmsBwdIdeal_RmsBwdPlainIdeal (hRmsBwdIdeal := hRmsBwdIdeal) (hRmsBwdPlainIdeal := hRmsBwdPlainIdeal)
    ∧ preserves_Step0_Step0Ideal
    ∧ algebraic_Step0Ideal_Step0PlainIdeal (hStep0Ideal := hStep0Ideal) (hStep0PlainIdeal := hStep0PlainIdeal)
    ∧ preserves_Step1_Step1Ideal
    ∧ algebraic_Step1Ideal_Step1PlainIdeal (hStep1Ideal := hStep1Ideal) (hStep1PlainIdeal := hStep1PlainIdeal)
    ∧ preserves_Step2_Step2Ideal
    ∧ algebraic_Step2Ideal_Step2PlainIdeal (hStep2Ideal := hStep2Ideal) (hStep2PlainIdeal := hStep2PlainIdeal)
    ∧ preserves_Step3_Step3Ideal
    ∧ algebraic_Step3Ideal_Step3PlainIdeal (hStep3Ideal := hStep3Ideal) (hStep3PlainIdeal := hStep3PlainIdeal)
    ∧ preserves_StepUp_StepUpIdeal
    ∧ algebraic_StepUpIdeal_StepUpPlainIdeal (hStepUpIdeal := hStepUpIdeal) (hStepUpPlainIdeal := hStepUpPlainIdeal)
    ∧ preserves_StepDown_StepDownIdeal
    ∧ algebraic_StepDownIdeal_StepDownPlainIdeal (hStepDownIdeal := hStepDownIdeal) (hStepDownPlainIdeal := hStepDownPlainIdeal)
    ∧ preserves_StepSmall_StepSmallIdeal
    ∧ algebraic_StepSmallIdeal_StepSmallPlainIdeal (hStepSmallIdeal := hStepSmallIdeal) (hStepSmallPlainIdeal := hStepSmallPlainIdeal)
    ∧ preserves_ShortFwd_ShortFwdIdeal
    ∧ algebraic_ShortFwdIdeal_ShortFwdPlainIdeal (hShortFwdIdeal := hShortFwdIdeal) (hShortFwdPlainIdeal := hShortFwdPlainIdeal)
    ∧ preserves_LossHead_LossHeadIdeal
    ∧ algebraic_LossHeadIdeal_LossHeadPlainIdeal (hLossHeadIdeal := hLossHeadIdeal) (hLossHeadPlainIdeal := hLossHeadPlainIdeal)
    ∧ preserves_SumTop_SumTopIdeal
    ∧ algebraic_SumTopIdeal_SumTopPlainIdeal (hSumTopIdeal := hSumTopIdeal) (hSumTopPlainIdeal := hSumTopPlainIdeal)
    ∧ preserves_SumBottom_SumBottomIdeal
    ∧ algebraic_SumBottomIdeal_SumBottomPlainIdeal (hSumBottomIdeal := hSumBottomIdeal) (hSumBottomPlainIdeal := hSumBottomPlainIdeal)
    ∧ preserves_SumRows_SumRowsIdeal
    ∧ algebraic_SumRowsIdeal_SumRowsPlainIdeal (hSumRowsIdeal := hSumRowsIdeal) (hSumRowsPlainIdeal := hSumRowsPlainIdeal)
    ∧ preserves_SumCols_SumColsIdeal
    ∧ algebraic_SumColsIdeal_SumColsPlainIdeal (hSumColsIdeal := hSumColsIdeal) (hSumColsPlainIdeal := hSumColsPlainIdeal)
    ∧ preserves_SumSquare_SumSquareIdeal
    ∧ algebraic_SumSquareIdeal_SumSquarePlainIdeal (hSumSquareIdeal := hSumSquareIdeal) (hSumSquarePlainIdeal := hSumSquarePlainIdeal)
    ∧ preserves_BiasReduce_BiasReduceIdeal
    ∧ algebraic_BiasReduceIdeal_BiasReducePlainIdeal (hBiasReduceIdeal := hBiasReduceIdeal) (hBiasReducePlainIdeal := hBiasReducePlainIdeal)
    ∧ preserves_BiasExpand_BiasExpandIdeal
    ∧ algebraic_BiasExpandIdeal_BiasExpandPlainIdeal (hBiasExpandIdeal := hBiasExpandIdeal) (hBiasExpandPlainIdeal := hBiasExpandPlainIdeal)
-- ==== Kernel.lean ====
abbrev S8192x3072 : Shape := ⟨2, ![8192, 3072]⟩
abbrev S8192x1024 : Shape := ⟨2, ![8192, 1024]⟩
abbrev S3x1024 : Shape := ⟨2, ![3, 1024]⟩
abbrev S8x1024 : Shape := ⟨2, ![8, 1024]⟩
abbrev S256x1024 : Shape := ⟨2, ![256, 1024]⟩
abbrev S16x1024 : Shape := ⟨2, ![16, 1024]⟩
abbrev S256x3072 : Shape := ⟨2, ![256, 3072]⟩
abbrev S272x1024 : Shape := ⟨2, ![272, 1024]⟩
abbrev S32x512 : Shape := ⟨2, ![32, 512]⟩
abbrev S8x512 : Shape := ⟨2, ![8, 512]⟩
abbrev S1x512 : Shape := ⟨2, ![1, 512]⟩
abbrev S512 : Shape := ⟨1, ![512]⟩

abbrev nBuf : Space → Nat
  | .hbm => 5
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3x1024, .f32⟩
  | .hbm, ⟨3, _⟩ => ⟨S8192x3072, .bf16⟩
  | .hbm, ⟨4, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .f32⟩
  | .local _ .vmem, ⟨13, _⟩ => ⟨S256x1024, .f32⟩
  | .local _ .vmem, ⟨14, _⟩ => ⟨S16x1024, .f32⟩
  | .local _ .vmem, ⟨15, _⟩ => ⟨S16x1024, .f32⟩
  | .local _ .vmem, ⟨16, _⟩ => ⟨S3x1024, .f32⟩
  | .local _ .vmem, ⟨17, _⟩ => ⟨S256x3072, .bf16⟩
  | .local _ .vmem, ⟨18, _⟩ => ⟨S256x3072, .bf16⟩
  | .local _ .vmem, ⟨19, _⟩ => ⟨S8x1024, .f32⟩
  | .local _ .vmem, ⟨20, _⟩ => ⟨S272x1024, .f32⟩
  | .local _ .vmem, ⟨21, _⟩ => ⟨S272x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x3072 : Shape := ⟨2, ![8192, 3072]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3x1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S8192x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S_, .f32⟩
  | .hbm, ⟨51, _⟩ => ⟨S8194x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S_, .f32⟩
  | .hbm, ⟨65, _⟩ => ⟨S8194x1024, .f32⟩
  | .hbm, ⟨66, _⟩ => ⟨S8194x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S_, .f32⟩
  | .hbm, ⟨80, _⟩ => ⟨S8194x1024, .f32⟩
  | .hbm, ⟨81, _⟩ => ⟨S8194x1024, .f32⟩
  | .hbm, ⟨82, _⟩ => ⟨S2x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x3072, .f32⟩
  | .hbm, ⟨87, _⟩ => ⟨S8192x3072, .bf16⟩
  | .hbm, ⟨88, _⟩ => ⟨S_, .f32⟩
  | .hbm, ⟨89, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== DownDx.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .hbm, ⟨9, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxPlainIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownDw.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwPlainIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== UpDx.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x4096, .bf16⟩
  | .hbm, ⟨6, _⟩ => ⟨S1024x4096, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32_16 : BitVec 32 := 0#32
  let v37 : BitVec 1 := Scalar.cmpi .sgt arg0 c0_i32_16
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== UpDxPlainIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== UpDw.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .bf16⟩
  | .hbm, ⟨21, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwPlainIdeal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S4096x1024, .f32⟩
  | .hbm, ⟨21, _⟩ => ⟨S1024x4096, .f32⟩
  | .hbm, ⟨22, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxPlainIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwPlainIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScDx.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S8192x3072, .bf16⟩
  | .hbm, ⟨6, _⟩ => ⟨S1024x3072, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_15 : BitVec 32 := 0#32
  let v36 : BitVec 1 := Scalar.cmpi .ne v35 c0_i32_15
  v36

def k0_cond2 (i : grid0.Coords) : BitVec 1 :=
  let arg0 : BitVec 32 := BitVec.ofNat 32 (i 0).val
  let c0_i32_16 : BitVec 32 := 0#32
  let v37 : BitVec 1 := Scalar.cmpi .sgt arg0 c0_i32_16
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== ScDxPlainIdeal.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ProjConv.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1024x1024 : Shape := ⟨2, ![1024, 1024]⟩

abbrev nBuf : Space → Nat
  | .hbm => 21
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x5632, .bf16⟩
  | .hbm, ⟨20, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjConvPlainIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjK.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S12x8192x128 : Shape := ⟨3, ![12, 8192, 128]⟩
abbrev S2048x1024 : Shape := ⟨2, ![2048, 1024]⟩
abbrev S1024x512 : Shape := ⟨2, ![1024, 512]⟩
abbrev S4x2048x128 : Shape := ⟨3, ![4, 2048, 128]⟩
abbrev S2048x512 : Shape := ⟨2, ![2048, 512]⟩
abbrev S2048x128 : Shape := ⟨2, ![2048, 128]⟩
abbrev S1x2048x128 : Shape := ⟨3, ![1, 2048, 128]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x5632, .bf16⟩
  | .hbm, ⟨20, _⟩ => ⟨S12x8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S4x2048x128, .f32⟩
  | .local _ .vmem, ⟨5, _⟩ => ⟨S4x2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c5_i32 : BitVec 32 := 5#32
  let v1 : BitVec 32 := Scalar.addi arg1 c5_i32
  let c0_i32_0 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjKPlainIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x4608 : Shape := ⟨2, ![8192, 4608]⟩
abbrev S8192x3x12x128 : Shape := ⟨4, ![8192, 3, 12, 128]⟩
abbrev S3x12x8192x128 : Shape := ⟨4, ![3, 12, 8192, 128]⟩
abbrev S1x12x8192x128 : Shape := ⟨4, ![1, 12, 8192, 128]⟩
abbrev S12x8192x128 : Shape := ⟨3, ![12, 8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x4608, .f32⟩
  | .hbm, ⟨20, _⟩ => ⟨S8192x3x12x128, .f32⟩
  | .hbm, ⟨21, _⟩ => ⟨S3x12x8192x128, .f32⟩
  | .hbm, ⟨22, _⟩ => ⟨S1x12x8192x128, .f32⟩
  | .hbm, ⟨23, _⟩ => ⟨S12x8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== ProjV.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S12x8192x128 : Shape := ⟨3, ![12, 8192, 128]⟩
abbrev S2048x1024 : Shape := ⟨2, ![2048, 1024]⟩
abbrev S1024x512 : Shape := ⟨2, ![1024, 512]⟩
abbrev S4x2048x128 : Shape := ⟨3, ![4, 2048, 128]⟩
abbrev S2048x512 : Shape := ⟨2, ![2048, 512]⟩
abbrev S2048x128 : Shape := ⟨2, ![2048, 128]⟩
abbrev S1x2048x128 : Shape := ⟨3, ![1, 2048, 128]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x5632, .bf16⟩
  | .hbm, ⟨20, _⟩ => ⟨S12x8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S4x2048x128, .f32⟩
  | .local _ .vmem, ⟨5, _⟩ => ⟨S4x2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.addi arg1 c8_i32
  let c0_i32_0 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjVPlainIdeal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x4608 : Shape := ⟨2, ![8192, 4608]⟩
abbrev S8192x3x12x128 : Shape := ⟨4, ![8192, 3, 12, 128]⟩
abbrev S3x12x8192x128 : Shape := ⟨4, ![3, 12, 8192, 128]⟩
abbrev S1x12x8192x128 : Shape := ⟨4, ![1, 12, 8192, 128]⟩
abbrev S12x8192x128 : Shape := ⟨3, ![12, 8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x5632, .f32⟩
  | .hbm, ⟨19, _⟩ => ⟨S8192x4608, .f32⟩
  | .hbm, ⟨20, _⟩ => ⟨S8192x3x12x128, .f32⟩
  | .hbm, ⟨21, _⟩ => ⟨S3x12x8192x128, .f32⟩
  | .hbm, ⟨22, _⟩ => ⟨S1x12x8192x128, .f32⟩
  | .hbm, ⟨23, _⟩ => ⟨S12x8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutNorm.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutNormPlainIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 21
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x4096, .bf16⟩
  | .hbm, ⟨20, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpPlainIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== DownNorm.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S4096x1024, .bf16⟩
  | .hbm, ⟨9, _⟩ => ⟨S8192x1024, .f32⟩
  | .hbm, ⟨10, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownNormPlainIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x4096 : Shape := ⟨2, ![512, 4096]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownPlainIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== ProjSc.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 21
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x3072, .bf16⟩
  | .hbm, ⟨20, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjScPlainIdeal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3072, .f32⟩
  | .hbm, ⟨19, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RmsBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdPlainIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Step0.lean ====
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Step0PlainIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S_, .f32⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S_, .f32⟩
  | .hbm, ⟨28, _⟩ => ⟨S1024x1408, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S_, .f32⟩
  | .hbm, ⟨40, _⟩ => ⟨S1024x1408, .f32⟩
  | .hbm, ⟨41, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Step1.lean ====
abbrev S1x256x1024 : Shape := ⟨3, ![1, 256, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Step1PlainIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Step2.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Step2PlainIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S1024x768, .f32⟩
  | .hbm, ⟨16, _⟩ => ⟨S_, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Step3.lean ====
abbrev S1x256x1024 : Shape := ⟨3, ![1, 256, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Step3PlainIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== StepUp.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepUpPlainIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S2x1024x1024, .f32⟩
  | .hbm, ⟨12, _⟩ => ⟨S_, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S_, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S_, .f32⟩
  | .hbm, ⟨43, _⟩ => ⟨S2x1024x1024, .f32⟩
  | .hbm, ⟨44, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== StepDown.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepDownPlainIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S2x1024x1024, .f32⟩
  | .hbm, ⟨12, _⟩ => ⟨S_, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S_, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S_, .f32⟩
  | .hbm, ⟨43, _⟩ => ⟨S2x1024x1024, .f32⟩
  | .hbm, ⟨44, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== StepSmall.lean ====
abbrev S32x24 : Shape := ⟨2, ![32, 24]⟩
abbrev S1x1024 : Shape := ⟨2, ![1, 1024]⟩
abbrev S31x128 : Shape := ⟨2, ![31, 128]⟩
abbrev S1x512 : Shape := ⟨2, ![1, 512]⟩
abbrev S1x256 : Shape := ⟨2, ![1, 256]⟩
abbrev S3x256 : Shape := ⟨2, ![3, 256]⟩
abbrev S2x1024 : Shape := ⟨2, ![2, 1024]⟩
abbrev S1024 : Shape := ⟨1, ![1024]⟩
abbrev S768 : Shape := ⟨1, ![768]⟩
abbrev S_ : Shape := ⟨0, ![]⟩
abbrev S3968 : Shape := ⟨1, ![3968]⟩
abbrev S4096 : Shape := ⟨1, ![4096]⟩
abbrev S512 : Shape := ⟨1, ![512]⟩
abbrev S256 : Shape := ⟨1, ![256]⟩
abbrev S2048 : Shape := ⟨1, ![2048]⟩
abbrev S14336 : Shape := ⟨1, ![14336]⟩
abbrev S16384 : Shape := ⟨1, ![16384]⟩
abbrev S16x1024 : Shape := ⟨2, ![16, 1024]⟩

abbrev nBuf : Space → Nat
  | .hbm => 300
  | .vmem => 8
  | .smem => 0
  | _ => 0

abbrev hbmTy0_0 (i : Nat) : BufTy := match i % 128 with
  | 0 => ⟨S32x24, .f32⟩
  | 1 => ⟨S1x1024, .f32⟩
  | 2 => ⟨S31x128, .f32⟩
  | 3 => ⟨S1x512, .f32⟩
  | 4 => ⟨S1x512, .f32⟩
  | 5 => ⟨S1x512, .f32⟩
  | 6 => ⟨S1x256, .f32⟩
  | 7 => ⟨S3x256, .f32⟩
  | 8 => ⟨S2x1024, .f32⟩
  | 9 => ⟨S1024, .f32⟩
  | 10 => ⟨S32x24, .f32⟩
  | 11 => ⟨S1x1024, .f32⟩
  | 12 => ⟨S31x128, .f32⟩
  | 13 => ⟨S1x512, .f32⟩
  | 14 => ⟨S1x512, .f32⟩
  | 15 => ⟨S1x512, .f32⟩
  | 16 => ⟨S1x256, .f32⟩
  | 17 => ⟨S3x256, .f32⟩
  | 18 => ⟨S2x1024, .f32⟩
  | 19 => ⟨S1024, .f32⟩
  | 20 => ⟨S32x24, .f32⟩
  | 21 => ⟨S1x1024, .f32⟩
  | 22 => ⟨S31x128, .f32⟩
  | 23 => ⟨S1x512, .f32⟩
  | 24 => ⟨S1x512, .f32⟩
  | 25 => ⟨S1x512, .f32⟩
  | 26 => ⟨S1x256, .f32⟩
  | 27 => ⟨S3x256, .f32⟩
  | 28 => ⟨S2x1024, .f32⟩
  | 29 => ⟨S1024, .f32⟩
  | 30 => ⟨S32x24, .f32⟩
  | 31 => ⟨S1x1024, .f32⟩
  | 32 => ⟨S31x128, .f32⟩
  | 33 => ⟨S1x512, .f32⟩
  | 34 => ⟨S1x512, .f32⟩
  | 35 => ⟨S1x512, .f32⟩
  | 36 => ⟨S1x256, .f32⟩
  | 37 => ⟨S3x256, .f32⟩
  | 38 => ⟨S2x1024, .f32⟩
  | 39 => ⟨S1024, .f32⟩
  | 40 => ⟨S768, .f32⟩
  | 41 => ⟨S_, .i32⟩
  | 42 => ⟨S_, .f32⟩
  | 43 => ⟨S1024, .f32⟩
  | 44 => ⟨S1024, .f32⟩
  | 45 => ⟨S_, .i32⟩
  | 46 => ⟨S_, .f32⟩
  | 47 => ⟨S1024, .f32⟩
  | 48 => ⟨S3968, .f32⟩
  | 49 => ⟨S_, .i32⟩
  | 50 => ⟨S_, .f32⟩
  | 51 => ⟨S4096, .f32⟩
  | 52 => ⟨S512, .f32⟩
  | 53 => ⟨S_, .i32⟩
  | 54 => ⟨S_, .f32⟩
  | 55 => ⟨S1024, .f32⟩
  | 56 => ⟨S512, .f32⟩
  | 57 => ⟨S_, .i32⟩
  | 58 => ⟨S_, .f32⟩
  | 59 => ⟨S1024, .f32⟩
  | 60 => ⟨S512, .f32⟩
  | 61 => ⟨S_, .i32⟩
  | 62 => ⟨S_, .f32⟩
  | 63 => ⟨S1024, .f32⟩
  | 64 => ⟨S256, .f32⟩
  | 65 => ⟨S_, .i32⟩
  | 66 => ⟨S_, .f32⟩
  | 67 => ⟨S1024, .f32⟩
  | 68 => ⟨S768, .f32⟩
  | 69 => ⟨S_, .i32⟩
  | 70 => ⟨S_, .f32⟩
  | 71 => ⟨S1024, .f32⟩
  | 72 => ⟨S2048, .f32⟩
  | 73 => ⟨S_, .i32⟩
  | 74 => ⟨S_, .f32⟩
  | 75 => ⟨S2048, .f32⟩
  | 76 => ⟨S_, .i32⟩
  | 77 => ⟨S_, .f32⟩
  | 78 => ⟨S1024, .f32⟩
  | 79 => ⟨S14336, .f32⟩
  | 80 => ⟨S_, .i32⟩
  | 81 => ⟨S_, .f32⟩
  | 82 => ⟨S16384, .f32⟩
  | 83 => ⟨S16x1024, .f32⟩
  | 84 => ⟨S768, .f32⟩
  | 85 => ⟨S_, .i32⟩
  | 86 => ⟨S_, .f32⟩
  | 87 => ⟨S1024, .f32⟩
  | 88 => ⟨S1024, .f32⟩
  | 89 => ⟨S_, .i32⟩
  | 90 => ⟨S_, .f32⟩
  | 91 => ⟨S1024, .f32⟩
  | 92 => ⟨S3968, .f32⟩
  | 93 => ⟨S_, .i32⟩
  | 94 => ⟨S_, .f32⟩
  | 95 => ⟨S4096, .f32⟩
  | 96 => ⟨S512, .f32⟩
  | 97 => ⟨S_, .i32⟩
  | 98 => ⟨S_, .f32⟩
  | 99 => ⟨S1024, .f32⟩
  | 100 => ⟨S512, .f32⟩
  | 101 => ⟨S_, .i32⟩
  | 102 => ⟨S_, .f32⟩
  | 103 => ⟨S1024, .f32⟩
  | 104 => ⟨S512, .f32⟩
  | 105 => ⟨S_, .i32⟩
  | 106 => ⟨S_, .f32⟩
  | 107 => ⟨S1024, .f32⟩
  | 108 => ⟨S256, .f32⟩
  | 109 => ⟨S_, .i32⟩
  | 110 => ⟨S_, .f32⟩
  | 111 => ⟨S1024, .f32⟩
  | 112 => ⟨S768, .f32⟩
  | 113 => ⟨S_, .i32⟩
  | 114 => ⟨S_, .f32⟩
  | 115 => ⟨S1024, .f32⟩
  | 116 => ⟨S2048, .f32⟩
  | 117 => ⟨S_, .i32⟩
  | 118 => ⟨S_, .f32⟩
  | 119 => ⟨S2048, .f32⟩
  | 120 => ⟨S_, .i32⟩
  | 121 => ⟨S_, .f32⟩
  | 122 => ⟨S1024, .f32⟩
  | 123 => ⟨S14336, .f32⟩
  | 124 => ⟨S_, .i32⟩
  | 125 => ⟨S_, .f32⟩
  | 126 => ⟨S16384, .f32⟩
  | 127 => ⟨S16x1024, .f32⟩
  | _ => ⟨S32x24, .f32⟩

abbrev hbmTy0_1 (i : Nat) : BufTy := match i % 128 with
  | 0 => ⟨S768, .f32⟩
  | 1 => ⟨S_, .i32⟩
  | 2 => ⟨S_, .f32⟩
  | 3 => ⟨S1024, .f32⟩
  | 4 => ⟨S1024, .f32⟩
  | 5 => ⟨S_, .i32⟩
  | 6 => ⟨S_, .f32⟩
  | 7 => ⟨S1024, .f32⟩
  | 8 => ⟨S3968, .f32⟩
  | 9 => ⟨S_, .i32⟩
  | 10 => ⟨S_, .f32⟩
  | 11 => ⟨S4096, .f32⟩
  | 12 => ⟨S512, .f32⟩
  | 13 => ⟨S_, .i32⟩
  | 14 => ⟨S_, .f32⟩
  | 15 => ⟨S1024, .f32⟩
  | 16 => ⟨S512, .f32⟩
  | 17 => ⟨S_, .i32⟩
  | 18 => ⟨S_, .f32⟩
  | 19 => ⟨S1024, .f32⟩
  | 20 => ⟨S512, .f32⟩
  | 21 => ⟨S_, .i32⟩
  | 22 => ⟨S_, .f32⟩
  | 23 => ⟨S1024, .f32⟩
  | 24 => ⟨S256, .f32⟩
  | 25 => ⟨S_, .i32⟩
  | 26 => ⟨S_, .f32⟩
  | 27 => ⟨S1024, .f32⟩
  | 28 => ⟨S768, .f32⟩
  | 29 => ⟨S_, .i32⟩
  | 30 => ⟨S_, .f32⟩
  | 31 => ⟨S1024, .f32⟩
  | 32 => ⟨S2048, .f32⟩
  | 33 => ⟨S_, .i32⟩
  | 34 => ⟨S_, .f32⟩
  | 35 => ⟨S2048, .f32⟩
  | 36 => ⟨S_, .i32⟩
  | 37 => ⟨S_, .f32⟩
  | 38 => ⟨S1024, .f32⟩
  | 39 => ⟨S14336, .f32⟩
  | 40 => ⟨S_, .i32⟩
  | 41 => ⟨S_, .f32⟩
  | 42 => ⟨S16384, .f32⟩
  | 43 => ⟨S16x1024, .f32⟩
  | 44 => ⟨S768, .f32⟩
  | 45 => ⟨S_, .i32⟩
  | 46 => ⟨S_, .f32⟩
  | 47 => ⟨S1024, .f32⟩
  | 48 => ⟨S1024, .f32⟩
  | 49 => ⟨S_, .i32⟩
  | 50 => ⟨S_, .f32⟩
  | 51 => ⟨S1024, .f32⟩
  | 52 => ⟨S3968, .f32⟩
  | 53 => ⟨S_, .i32⟩
  | 54 => ⟨S_, .f32⟩
  | 55 => ⟨S4096, .f32⟩
  | 56 => ⟨S512, .f32⟩
  | 57 => ⟨S_, .i32⟩
  | 58 => ⟨S_, .f32⟩
  | 59 => ⟨S1024, .f32⟩
  | 60 => ⟨S512, .f32⟩
  | 61 => ⟨S_, .i32⟩
  | 62 => ⟨S_, .f32⟩
  | 63 => ⟨S1024, .f32⟩
  | 64 => ⟨S512, .f32⟩
  | 65 => ⟨S_, .i32⟩
  | 66 => ⟨S_, .f32⟩
  | 67 => ⟨S1024, .f32⟩
  | 68 => ⟨S256, .f32⟩
  | 69 => ⟨S_, .i32⟩
  | 70 => ⟨S_, .f32⟩
  | 71 => ⟨S1024, .f32⟩
  | 72 => ⟨S768, .f32⟩
  | 73 => ⟨S_, .i32⟩
  | 74 => ⟨S_, .f32⟩
  | 75 => ⟨S1024, .f32⟩
  | 76 => ⟨S2048, .f32⟩
  | 77 => ⟨S_, .i32⟩
  | 78 => ⟨S_, .f32⟩
  | 79 => ⟨S2048, .f32⟩
  | 80 => ⟨S_, .i32⟩
  | 81 => ⟨S_, .f32⟩
  | 82 => ⟨S1024, .f32⟩
  | 83 => ⟨S14336, .f32⟩
  | 84 => ⟨S_, .i32⟩
  | 85 => ⟨S_, .f32⟩
  | 86 => ⟨S16384, .f32⟩
  | 87 => ⟨S16x1024, .f32⟩
  | 88 => ⟨S16x1024, .f32⟩
  | 89 => ⟨S16x1024, .f32⟩
  | 90 => ⟨S16x1024, .f32⟩
  | 91 => ⟨S16x1024, .f32⟩
  | 92 => ⟨S16384, .f32⟩
  | 93 => ⟨S768, .f32⟩
  | 94 => ⟨S32x24, .f32⟩
  | 95 => ⟨S1024, .f32⟩
  | 96 => ⟨S1x1024, .f32⟩
  | 97 => ⟨S3968, .f32⟩
  | 98 => ⟨S31x128, .f32⟩
  | 99 => ⟨S512, .f32⟩
  | 100 => ⟨S1x512, .f32⟩
  | 101 => ⟨S512, .f32⟩
  | 102 => ⟨S1x512, .f32⟩
  | 103 => ⟨S512, .f32⟩
  | 104 => ⟨S1x512, .f32⟩
  | 105 => ⟨S256, .f32⟩
  | 106 => ⟨S1x256, .f32⟩
  | 107 => ⟨S768, .f32⟩
  | 108 => ⟨S3x256, .f32⟩
  | 109 => ⟨S2048, .f32⟩
  | 110 => ⟨S2x1024, .f32⟩
  | 111 => ⟨S1024, .f32⟩
  | 112 => ⟨S16384, .f32⟩
  | 113 => ⟨S768, .f32⟩
  | 114 => ⟨S32x24, .f32⟩
  | 115 => ⟨S1024, .f32⟩
  | 116 => ⟨S1x1024, .f32⟩
  | 117 => ⟨S3968, .f32⟩
  | 118 => ⟨S31x128, .f32⟩
  | 119 => ⟨S512, .f32⟩
  | 120 => ⟨S1x512, .f32⟩
  | 121 => ⟨S512, .f32⟩
  | 122 => ⟨S1x512, .f32⟩
  | 123 => ⟨S512, .f32⟩
  | 124 => ⟨S1x512, .f32⟩
  | 125 => ⟨S256, .f32⟩
  | 126 => ⟨S1x256, .f32⟩
  | 127 => ⟨S768, .f32⟩
  | _ => ⟨S32x24, .f32⟩

abbrev hbmTy0_2 (i : Nat) : BufTy := match i % 128 with
  | 0 => ⟨S3x256, .f32⟩
  | 1 => ⟨S2048, .f32⟩
  | 2 => ⟨S2x1024, .f32⟩
  | 3 => ⟨S1024, .f32⟩
  | 4 => ⟨S16384, .f32⟩
  | 5 => ⟨S768, .f32⟩
  | 6 => ⟨S32x24, .f32⟩
  | 7 => ⟨S1024, .f32⟩
  | 8 => ⟨S1x1024, .f32⟩
  | 9 => ⟨S3968, .f32⟩
  | 10 => ⟨S31x128, .f32⟩
  | 11 => ⟨S512, .f32⟩
  | 12 => ⟨S1x512, .f32⟩
  | 13 => ⟨S512, .f32⟩
  | 14 => ⟨S1x512, .f32⟩
  | 15 => ⟨S512, .f32⟩
  | 16 => ⟨S1x512, .f32⟩
  | 17 => ⟨S256, .f32⟩
  | 18 => ⟨S1x256, .f32⟩
  | 19 => ⟨S768, .f32⟩
  | 20 => ⟨S3x256, .f32⟩
  | 21 => ⟨S2048, .f32⟩
  | 22 => ⟨S2x1024, .f32⟩
  | 23 => ⟨S1024, .f32⟩
  | 24 => ⟨S16384, .f32⟩
  | 25 => ⟨S768, .f32⟩
  | 26 => ⟨S32x24, .f32⟩
  | 27 => ⟨S1024, .f32⟩
  | 28 => ⟨S1x1024, .f32⟩
  | 29 => ⟨S3968, .f32⟩
  | 30 => ⟨S31x128, .f32⟩
  | 31 => ⟨S512, .f32⟩
  | 32 => ⟨S1x512, .f32⟩
  | 33 => ⟨S512, .f32⟩
  | 34 => ⟨S1x512, .f32⟩
  | 35 => ⟨S512, .f32⟩
  | 36 => ⟨S1x512, .f32⟩
  | 37 => ⟨S256, .f32⟩
  | 38 => ⟨S1x256, .f32⟩
  | 39 => ⟨S768, .f32⟩
  | 40 => ⟨S3x256, .f32⟩
  | 41 => ⟨S2048, .f32⟩
  | 42 => ⟨S2x1024, .f32⟩
  | 43 => ⟨S1024, .f32⟩
  | _ => ⟨S32x24, .f32⟩

abbrev hbmTy (i : Nat) : BufTy := match i / 128 with
  | 0 => hbmTy0_0 i
  | 1 => hbmTy0_1 i
  | 2 => hbmTy0_2 i
  | _ => ⟨S32x24, .f32⟩

abbrev bufTy : (tb : Table) → Fin (tcTables nBuf tb) → BufTy
  | .hbm, ⟨i, _⟩ => hbmTy i
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_call0_v0 : Ref sig .tc := ⟨.hbm, 42, rfl⟩
abbrev main_v1 : Ref sig .tc := ⟨.hbm, 43, rfl⟩
abbrev main_v2 : Ref sig .tc := ⟨.hbm, 44, rfl⟩
abbrev main_c_0 : Ref sig .tc := ⟨.hbm, 45, rfl⟩
abbrev main_call1_v0 : Ref sig .tc := ⟨.hbm, 46, rfl⟩
abbrev main_v3 : Ref sig .tc := ⟨.hbm, 47, rfl⟩
abbrev main_v4 : Ref sig .tc := ⟨.hbm, 48, rfl⟩
abbrev main_c_1 : Ref sig .tc := ⟨.hbm, 49, rfl⟩
abbrev main_call2_v0 : Ref sig .tc := ⟨.hbm, 50, rfl⟩
abbrev main_v5 : Ref sig .tc := ⟨.hbm, 51, rfl⟩
abbrev main_v6 : Ref sig .tc := ⟨.hbm, 52, rfl⟩
abbrev main_c_2 : Ref sig .tc := ⟨.hbm, 53, rfl⟩
abbrev main_call3_v0 : Ref sig .tc := ⟨.hbm, 54, rfl⟩
abbrev main_v7 : Ref sig .tc := ⟨.hbm, 55, rfl⟩
abbrev main_v8 : Ref sig .tc := ⟨.hbm, 56, rfl⟩
abbrev main_c_3 : Ref sig .tc := ⟨.hbm, 57, rfl⟩
abbrev main_call4_v0 : Ref sig .tc := ⟨.hbm, 58, rfl⟩
abbrev main_v9 : Ref sig .tc := ⟨.hbm, 59, rfl⟩
abbrev main_v10 : Ref sig .tc := ⟨.hbm, 60, rfl⟩
abbrev main_c_4 : Ref sig .tc := ⟨.hbm, 61, rfl⟩
abbrev main_call5_v0 : Ref sig .tc := ⟨.hbm, 62, rfl⟩
abbrev main_v11 : Ref sig .tc := ⟨.hbm, 63, rfl⟩
abbrev main_v12 : Ref sig .tc := ⟨.hbm, 64, rfl⟩
abbrev main_c_5 : Ref sig .tc := ⟨.hbm, 65, rfl⟩
abbrev main_call6_v0 : Ref sig .tc := ⟨.hbm, 66, rfl⟩
abbrev main_v13 : Ref sig .tc := ⟨.hbm, 67, rfl⟩
abbrev main_v14 : Ref sig .tc := ⟨.hbm, 68, rfl⟩
abbrev main_c_6 : Ref sig .tc := ⟨.hbm, 69, rfl⟩
abbrev main_call7_v0 : Ref sig .tc := ⟨.hbm, 70, rfl⟩
abbrev main_v15 : Ref sig .tc := ⟨.hbm, 71, rfl⟩
abbrev main_v16 : Ref sig .tc := ⟨.hbm, 72, rfl⟩
abbrev main_c_7 : Ref sig .tc := ⟨.hbm, 73, rfl⟩
abbrev main_call8_v0 : Ref sig .tc := ⟨.hbm, 74, rfl⟩
abbrev main_v17 : Ref sig .tc := ⟨.hbm, 75, rfl⟩
abbrev main_c_8 : Ref sig .tc := ⟨.hbm, 76, rfl⟩
abbrev main_call9_v0 : Ref sig .tc := ⟨.hbm, 77, rfl⟩
abbrev main_v18 : Ref sig .tc := ⟨.hbm, 78, rfl⟩
abbrev main_v19 : Ref sig .tc := ⟨.hbm, 79, rfl⟩
abbrev main_c_9 : Ref sig .tc := ⟨.hbm, 80, rfl⟩
abbrev main_call10_v0 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_10 : Ref sig .tc := ⟨.hbm, 85, rfl⟩
abbrev main_call11_v0 : Ref sig .tc := ⟨.hbm, 86, rfl⟩
abbrev main_v23 : Ref sig .tc := ⟨.hbm, 87, rfl⟩
abbrev main_v24 : Ref sig .tc := ⟨.hbm, 88, rfl⟩
abbrev main_c_11 : Ref sig .tc := ⟨.hbm, 89, rfl⟩
abbrev main_call12_v0 : Ref sig .tc := ⟨.hbm, 90, rfl⟩
abbrev main_v25 : Ref sig .tc := ⟨.hbm, 91, rfl⟩
abbrev main_v26 : Ref sig .tc := ⟨.hbm, 92, rfl⟩
abbrev main_c_12 : Ref sig .tc := ⟨.hbm, 93, rfl⟩
abbrev main_call13_v0 : Ref sig .tc := ⟨.hbm, 94, rfl⟩
abbrev main_v27 : Ref sig .tc := ⟨.hbm, 95, rfl⟩
abbrev main_v28 : Ref sig .tc := ⟨.hbm, 96, rfl⟩
abbrev main_c_13 : Ref sig .tc := ⟨.hbm, 97, rfl⟩
abbrev main_call14_v0 : Ref sig .tc := ⟨.hbm, 98, rfl⟩
abbrev main_v29 : Ref sig .tc := ⟨.hbm, 99, rfl⟩
abbrev main_v30 : Ref sig .tc := ⟨.hbm, 100, rfl⟩
abbrev main_c_14 : Ref sig .tc := ⟨.hbm, 101, rfl⟩
abbrev main_call15_v0 : Ref sig .tc := ⟨.hbm, 102, rfl⟩
abbrev main_v31 : Ref sig .tc := ⟨.hbm, 103, rfl⟩
abbrev main_v32 : Ref sig .tc := ⟨.hbm, 104, rfl⟩
abbrev main_c_15 : Ref sig .tc := ⟨.hbm, 105, rfl⟩
abbrev main_call16_v0 : Ref sig .tc := ⟨.hbm, 106, rfl⟩
abbrev main_v33 : Ref sig .tc := ⟨.hbm, 107, rfl⟩
abbrev main_v34 : Ref sig .tc := ⟨.hbm, 108, rfl⟩
abbrev main_c_16 : Ref sig .tc := ⟨.hbm, 109, rfl⟩
abbrev main_call17_v0 : Ref sig .tc := ⟨.hbm, 110, rfl⟩
abbrev main_v35 : Ref sig .tc := ⟨.hbm, 111, rfl⟩
abbrev main_v36 : Ref sig .tc := ⟨.hbm, 112, rfl⟩
abbrev main_c_17 : Ref sig .tc := ⟨.hbm, 113, rfl⟩
abbrev main_call18_v0 : Ref sig .tc := ⟨.hbm, 114, rfl⟩
abbrev main_v37 : Ref sig .tc := ⟨.hbm, 115, rfl⟩
abbrev main_v38 : Ref sig .tc := ⟨.hbm, 116, rfl⟩
abbrev main_c_18 : Ref sig .tc := ⟨.hbm, 117, rfl⟩
abbrev main_call19_v0 : Ref sig .tc := ⟨.hbm, 118, rfl⟩
abbrev main_v39 : Ref sig .tc := ⟨.hbm, 119, rfl⟩
abbrev main_c_19 : Ref sig .tc := ⟨.hbm, 120, rfl⟩
abbrev main_call20_v0 : Ref sig .tc := ⟨.hbm, 121, rfl⟩
abbrev main_v40 : Ref sig .tc := ⟨.hbm, 122, rfl⟩
abbrev main_v41 : Ref sig .tc := ⟨.hbm, 123, rfl⟩
abbrev main_c_20 : Ref sig .tc := ⟨.hbm, 124, rfl⟩
abbrev main_call21_v0 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_c_21 : Ref sig .tc := ⟨.hbm, 129, rfl⟩
abbrev main_call22_v0 : Ref sig .tc := ⟨.hbm, 130, rfl⟩
abbrev main_v45 : Ref sig .tc := ⟨.hbm, 131, rfl⟩
abbrev main_v46 : Ref sig .tc := ⟨.hbm, 132, rfl⟩
abbrev main_c_22 : Ref sig .tc := ⟨.hbm, 133, rfl⟩
abbrev main_call23_v0 : Ref sig .tc := ⟨.hbm, 134, rfl⟩
abbrev main_v47 : Ref sig .tc := ⟨.hbm, 135, rfl⟩
abbrev main_v48 : Ref sig .tc := ⟨.hbm, 136, rfl⟩
abbrev main_c_23 : Ref sig .tc := ⟨.hbm, 137, rfl⟩
abbrev main_call24_v0 : Ref sig .tc := ⟨.hbm, 138, rfl⟩
abbrev main_v49 : Ref sig .tc := ⟨.hbm, 139, rfl⟩
abbrev main_v50 : Ref sig .tc := ⟨.hbm, 140, rfl⟩
abbrev main_c_24 : Ref sig .tc := ⟨.hbm, 141, rfl⟩
abbrev main_call25_v0 : Ref sig .tc := ⟨.hbm, 142, rfl⟩
abbrev main_v51 : Ref sig .tc := ⟨.hbm, 143, rfl⟩
abbrev main_v52 : Ref sig .tc := ⟨.hbm, 144, rfl⟩
abbrev main_c_25 : Ref sig .tc := ⟨.hbm, 145, rfl⟩
abbrev main_call26_v0 : Ref sig .tc := ⟨.hbm, 146, rfl⟩
abbrev main_v53 : Ref sig .tc := ⟨.hbm, 147, rfl⟩
abbrev main_v54 : Ref sig .tc := ⟨.hbm, 148, rfl⟩
abbrev main_c_26 : Ref sig .tc := ⟨.hbm, 149, rfl⟩
abbrev main_call27_v0 : Ref sig .tc := ⟨.hbm, 150, rfl⟩
abbrev main_v55 : Ref sig .tc := ⟨.hbm, 151, rfl⟩
abbrev main_v56 : Ref sig .tc := ⟨.hbm, 152, rfl⟩
abbrev main_c_27 : Ref sig .tc := ⟨.hbm, 153, rfl⟩
abbrev main_call28_v0 : Ref sig .tc := ⟨.hbm, 154, rfl⟩
abbrev main_v57 : Ref sig .tc := ⟨.hbm, 155, rfl⟩
abbrev main_v58 : Ref sig .tc := ⟨.hbm, 156, rfl⟩
abbrev main_c_28 : Ref sig .tc := ⟨.hbm, 157, rfl⟩
abbrev main_call29_v0 : Ref sig .tc := ⟨.hbm, 158, rfl⟩
abbrev main_v59 : Ref sig .tc := ⟨.hbm, 159, rfl⟩
abbrev main_v60 : Ref sig .tc := ⟨.hbm, 160, rfl⟩
abbrev main_c_29 : Ref sig .tc := ⟨.hbm, 161, rfl⟩
abbrev main_call30_v0 : Ref sig .tc := ⟨.hbm, 162, rfl⟩
abbrev main_v61 : Ref sig .tc := ⟨.hbm, 163, rfl⟩
abbrev main_c_30 : Ref sig .tc := ⟨.hbm, 164, rfl⟩
abbrev main_call31_v0 : Ref sig .tc := ⟨.hbm, 165, rfl⟩
abbrev main_v62 : Ref sig .tc := ⟨.hbm, 166, rfl⟩
abbrev main_v63 : Ref sig .tc := ⟨.hbm, 167, rfl⟩
abbrev main_c_31 : Ref sig .tc := ⟨.hbm, 168, rfl⟩
abbrev main_call32_v0 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_c_32 : Ref sig .tc := ⟨.hbm, 173, rfl⟩
abbrev main_call33_v0 : Ref sig .tc := ⟨.hbm, 174, rfl⟩
abbrev main_v67 : Ref sig .tc := ⟨.hbm, 175, rfl⟩
abbrev main_v68 : Ref sig .tc := ⟨.hbm, 176, rfl⟩
abbrev main_c_33 : Ref sig .tc := ⟨.hbm, 177, rfl⟩
abbrev main_call34_v0 : Ref sig .tc := ⟨.hbm, 178, rfl⟩
abbrev main_v69 : Ref sig .tc := ⟨.hbm, 179, rfl⟩
abbrev main_v70 : Ref sig .tc := ⟨.hbm, 180, rfl⟩
abbrev main_c_34 : Ref sig .tc := ⟨.hbm, 181, rfl⟩
abbrev main_call35_v0 : Ref sig .tc := ⟨.hbm, 182, rfl⟩
abbrev main_v71 : Ref sig .tc := ⟨.hbm, 183, rfl⟩
abbrev main_v72 : Ref sig .tc := ⟨.hbm, 184, rfl⟩
abbrev main_c_35 : Ref sig .tc := ⟨.hbm, 185, rfl⟩
abbrev main_call36_v0 : Ref sig .tc := ⟨.hbm, 186, rfl⟩
abbrev main_v73 : Ref sig .tc := ⟨.hbm, 187, rfl⟩
abbrev main_v74 : Ref sig .tc := ⟨.hbm, 188, rfl⟩
abbrev main_c_36 : Ref sig .tc := ⟨.hbm, 189, rfl⟩
abbrev main_call37_v0 : Ref sig .tc := ⟨.hbm, 190, rfl⟩
abbrev main_v75 : Ref sig .tc := ⟨.hbm, 191, rfl⟩
abbrev main_v76 : Ref sig .tc := ⟨.hbm, 192, rfl⟩
abbrev main_c_37 : Ref sig .tc := ⟨.hbm, 193, rfl⟩
abbrev main_call38_v0 : Ref sig .tc := ⟨.hbm, 194, rfl⟩
abbrev main_v77 : Ref sig .tc := ⟨.hbm, 195, rfl⟩
abbrev main_v78 : Ref sig .tc := ⟨.hbm, 196, rfl⟩
abbrev main_c_38 : Ref sig .tc := ⟨.hbm, 197, rfl⟩
abbrev main_call39_v0 : Ref sig .tc := ⟨.hbm, 198, rfl⟩
abbrev main_v79 : Ref sig .tc := ⟨.hbm, 199, rfl⟩
abbrev main_v80 : Ref sig .tc := ⟨.hbm, 200, rfl⟩
abbrev main_c_39 : Ref sig .tc := ⟨.hbm, 201, rfl⟩
abbrev main_call40_v0 : Ref sig .tc := ⟨.hbm, 202, rfl⟩
abbrev main_v81 : Ref sig .tc := ⟨.hbm, 203, rfl⟩
abbrev main_v82 : Ref sig .tc := ⟨.hbm, 204, rfl⟩
abbrev main_c_40 : Ref sig .tc := ⟨.hbm, 205, rfl⟩
abbrev main_call41_v0 : Ref sig .tc := ⟨.hbm, 206, rfl⟩
abbrev main_v83 : Ref sig .tc := ⟨.hbm, 207, rfl⟩
abbrev main_c_41 : Ref sig .tc := ⟨.hbm, 208, rfl⟩
abbrev main_call42_v0 : Ref sig .tc := ⟨.hbm, 209, rfl⟩
abbrev main_v84 : Ref sig .tc := ⟨.hbm, 210, rfl⟩
abbrev main_v85 : Ref sig .tc := ⟨.hbm, 211, rfl⟩
abbrev main_c_42 : Ref sig .tc := ⟨.hbm, 212, rfl⟩
abbrev main_call43_v0 : Ref sig .tc := ⟨.hbm, 213, rfl⟩
abbrev main_v86 : Ref sig .tc := ⟨.hbm, 214, rfl⟩
abbrev main_v87 : Ref sig .tc := ⟨.hbm, 215, rfl⟩
abbrev main_v88_0 : Ref sig .tc := ⟨.hbm, 216, rfl⟩
abbrev main_v88_1 : Ref sig .tc := ⟨.hbm, 217, rfl⟩
abbrev main_v88_2 : Ref sig .tc := ⟨.hbm, 218, rfl⟩
abbrev main_v88_3 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_v167 : Ref sig .tc := ⟨.hbm, 298, rfl⟩
abbrev main_v168 : Ref sig .tc := ⟨.hbm, 299, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSmallPlainIdeal.lean ====
abbrev S32x24 : Shape := ⟨2, ![32, 24]⟩
abbrev S1x1024 : Shape := ⟨2, ![1, 1024]⟩
abbrev S31x128 : Shape := ⟨2, ![31, 128]⟩
abbrev S1x512 : Shape := ⟨2, ![1, 512]⟩
abbrev S1x256 : Shape := ⟨2, ![1, 256]⟩
abbrev S3x256 : Shape := ⟨2, ![3, 256]⟩
abbrev S2x1024 : Shape := ⟨2, ![2, 1024]⟩
abbrev S1024 : Shape := ⟨1, ![1024]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S32x24, .f32⟩
  | 1 => ⟨S1x1024, .f32⟩
  | 2 => ⟨S31x128, .f32⟩
  | 3 => ⟨S1x512, .f32⟩
  | 4 => ⟨S1x512, .f32⟩
  | 5 => ⟨S1x512, .f32⟩
  | 6 => ⟨S1x256, .f32⟩
  | 7 => ⟨S3x256, .f32⟩
  | 8 => ⟨S2x1024, .f32⟩
  | 9 => ⟨S1024, .f32⟩
  | 10 => ⟨S32x24, .f32⟩
  | 11 => ⟨S1x1024, .f32⟩
  | 12 => ⟨S31x128, .f32⟩
  | 13 => ⟨S1x512, .f32⟩
  | 14 => ⟨S1x512, .f32⟩
  | 15 => ⟨S1x512, .f32⟩
  | 16 => ⟨S1x256, .f32⟩
  | 17 => ⟨S3x256, .f32⟩
  | 18 => ⟨S2x1024, .f32⟩
  | 19 => ⟨S1024, .f32⟩
  | 20 => ⟨S32x24, .f32⟩
  | 21 => ⟨S1x1024, .f32⟩
  | 22 => ⟨S31x128, .f32⟩
  | 23 => ⟨S1x512, .f32⟩
  | 24 => ⟨S1x512, .f32⟩
  | 25 => ⟨S1x512, .f32⟩
  | 26 => ⟨S1x256, .f32⟩
  | 27 => ⟨S3x256, .f32⟩
  | 28 => ⟨S2x1024, .f32⟩
  | 29 => ⟨S1024, .f32⟩
  | 30 => ⟨S32x24, .f32⟩
  | 31 => ⟨S1x1024, .f32⟩
  | 32 => ⟨S31x128, .f32⟩
  | 33 => ⟨S1x512, .f32⟩
  | 34 => ⟨S1x512, .f32⟩
  | 35 => ⟨S1x512, .f32⟩
  | 36 => ⟨S1x256, .f32⟩
  | 37 => ⟨S3x256, .f32⟩
  | 38 => ⟨S2x1024, .f32⟩
  | 39 => ⟨S1024, .f32⟩
  | 40 => ⟨S_, .f32⟩
  | 41 => ⟨S32x24, .f32⟩
  | 42 => ⟨S32x24, .f32⟩
  | 43 => ⟨S_, .f32⟩
  | 44 => ⟨S32x24, .f32⟩
  | 45 => ⟨S32x24, .f32⟩
  | 46 => ⟨S32x24, .f32⟩
  | 47 => ⟨S_, .f32⟩
  | 48 => ⟨S32x24, .f32⟩
  | 49 => ⟨S32x24, .f32⟩
  | 50 => ⟨S32x24, .f32⟩
  | 51 => ⟨S_, .f32⟩
  | 52 => ⟨S32x24, .f32⟩
  | 53 => ⟨S32x24, .f32⟩
  | 54 => ⟨S32x24, .f32⟩
  | 55 => ⟨S_, .f32⟩
  | 56 => ⟨S32x24, .f32⟩
  | 57 => ⟨S32x24, .f32⟩
  | 58 => ⟨S_, .f32⟩
  | 59 => ⟨S32x24, .f32⟩
  | 60 => ⟨S32x24, .f32⟩
  | 61 => ⟨S32x24, .f32⟩
  | 62 => ⟨S_, .f32⟩
  | 63 => ⟨S32x24, .f32⟩
  | 64 => ⟨S32x24, .f32⟩
  | 65 => ⟨S32x24, .f32⟩
  | 66 => ⟨S_, .f32⟩
  | 67 => ⟨S32x24, .f32⟩
  | 68 => ⟨S32x24, .f32⟩
  | 69 => ⟨S32x24, .f32⟩
  | 70 => ⟨S_, .f32⟩
  | 71 => ⟨S32x24, .f32⟩
  | 72 => ⟨S32x24, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S31x128, .f32⟩
  | 108 => ⟨S31x128, .f32⟩
  | 109 => ⟨S_, .f32⟩
  | 110 => ⟨S31x128, .f32⟩
  | 111 => ⟨S31x128, .f32⟩
  | 112 => ⟨S31x128, .f32⟩
  | 113 => ⟨S_, .f32⟩
  | 114 => ⟨S31x128, .f32⟩
  | 115 => ⟨S31x128, .f32⟩
  | 116 => ⟨S31x128, .f32⟩
  | 117 => ⟨S_, .f32⟩
  | 118 => ⟨S31x128, .f32⟩
  | 119 => ⟨S31x128, .f32⟩
  | 120 => ⟨S31x128, .f32⟩
  | 121 => ⟨S_, .f32⟩
  | 122 => ⟨S31x128, .f32⟩
  | 123 => ⟨S31x128, .f32⟩
  | 124 => ⟨S_, .f32⟩
  | 125 => ⟨S31x128, .f32⟩
  | 126 => ⟨S31x128, .f32⟩
  | 127 => ⟨S31x128, .f32⟩
  | _ => ⟨S32x24, .f32⟩

abbrev hbmTy0_1 (i : Nat) : BufTy := match i % 128 with
  | 0 => ⟨S_, .f32⟩
  | 1 => ⟨S31x128, .f32⟩
  | 2 => ⟨S31x128, .f32⟩
  | 3 => ⟨S31x128, .f32⟩
  | 4 => ⟨S_, .f32⟩
  | 5 => ⟨S31x128, .f32⟩
  | 6 => ⟨S31x128, .f32⟩
  | 7 => ⟨S31x128, .f32⟩
  | 8 => ⟨S_, .f32⟩
  | 9 => ⟨S31x128, .f32⟩
  | 10 => ⟨S31x128, .f32⟩
  | 11 => ⟨S_, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S_, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S_, .f32⟩
  | 111 => ⟨S1x256, .f32⟩
  | 112 => ⟨S1x256, .f32⟩
  | 113 => ⟨S_, .f32⟩
  | 114 => ⟨S1x256, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S32x24, .f32⟩

abbrev hbmTy0_2 (i : Nat) : BufTy := match i % 128 with
  | 0 => ⟨S_, .f32⟩
  | 1 => ⟨S1x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S_, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S_, .f32⟩
  | 16 => ⟨S3x256, .f32⟩
  | 17 => ⟨S3x256, .f32⟩
  | 18 => ⟨S_, .f32⟩
  | 19 => ⟨S3x256, .f32⟩
  | 20 => ⟨S3x256, .f32⟩
  | 21 => ⟨S3x256, .f32⟩
  | 22 => ⟨S_, .f32⟩
  | 23 => ⟨S3x256, .f32⟩
  | 24 => ⟨S3x256, .f32⟩
  | 25 => ⟨S3x256, .f32⟩
  | 26 => ⟨S_, .f32⟩
  | 27 => ⟨S3x256, .f32⟩
  | 28 => ⟨S3x256, .f32⟩
  | 29 => ⟨S3x256, .f32⟩
  | 30 => ⟨S_, .f32⟩
  | 31 => ⟨S3x256, .f32⟩
  | 32 => ⟨S3x256, .f32⟩
  | 33 => ⟨S_, .f32⟩
  | 34 => ⟨S3x256, .f32⟩
  | 35 => ⟨S3x256, .f32⟩
  | 36 => ⟨S3x256, .f32⟩
  | 37 => ⟨S_, .f32⟩
  | 38 => ⟨S3x256, .f32⟩
  | 39 => ⟨S3x256, .f32⟩
  | 40 => ⟨S3x256, .f32⟩
  | 41 => ⟨S_, .f32⟩
  | 42 => ⟨S3x256, .f32⟩
  | 43 => ⟨S3x256, .f32⟩
  | 44 => ⟨S3x256, .f32⟩
  | 45 => ⟨S_, .f32⟩
  | 46 => ⟨S3x256, .f32⟩
  | 47 => ⟨S3x256, .f32⟩
  | 48 => ⟨S_, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | _ => ⟨S32x24, .f32⟩

abbrev hbmTy (i : Nat) : BufTy := match i / 128 with
  | 0 => hbmTy0_0 i
  | 1 => hbmTy0_1 i
  | 2 => hbmTy0_2 i
  | _ => ⟨S32x24, .f32⟩

abbrev bufTy : (tb : Table) → Fin (tcTables nBuf tb) → BufTy
  | .hbm, ⟨i, _⟩ => hbmTy i
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== ShortFwd.lean ====
abbrev S8192x3072 : Shape := ⟨2, ![8192, 3072]⟩
abbrev S3x1024 : Shape := ⟨2, ![3, 1024]⟩
abbrev S8192x1024 : Shape := ⟨2, ![8192, 1024]⟩
abbrev S256x1024 : Shape := ⟨2, ![256, 1024]⟩
abbrev S16x1024 : Shape := ⟨2, ![16, 1024]⟩
abbrev S272x1024 : Shape := ⟨2, ![272, 1024]⟩
abbrev S32x512 : Shape := ⟨2, ![32, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x1024, .bf16⟩
  | .local _ .vmem, ⟨12, _⟩ => ⟨S256x1024, .bf16⟩
  | .local _ .vmem, ⟨13, _⟩ => ⟨S272x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortFwdPlainIdeal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadPlainIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== SumTop.lean ====
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1408, .bf16⟩
  | .hbm, ⟨1, _⟩ => ⟨S256x1408, .f32⟩
  | .local _ .vmem, ⟨0, _⟩ => ⟨S4x256x1408, .bf16⟩
  | .local _ .vmem, ⟨1, _⟩ => ⟨S256x1408, .f32⟩
  | _, _ => ⟨S4x256x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumTopIdeal.lean ====
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1408, .bf16⟩
  | .hbm, ⟨1, _⟩ => ⟨S256x1408, .f32⟩
  | .local _ .vmem, ⟨0, _⟩ => ⟨S4x256x1408, .bf16⟩
  | .local _ .vmem, ⟨1, _⟩ => ⟨S256x1408, .f32⟩
  | _, _ => ⟨S4x256x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumTopPlainIdeal.lean ====
abbrev S4x256x1408 : Shape := ⟨3, ![4, 256, 1408]⟩
abbrev S_ : Shape := ⟨0, ![]⟩
abbrev S256x1408 : Shape := ⟨2, ![256, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1408, .bf16⟩
  | .hbm, ⟨1, _⟩ => ⟨S4x256x1408, .f32⟩
  | .hbm, ⟨2, _⟩ => ⟨S_, .f32⟩
  | .hbm, ⟨3, _⟩ => ⟨S256x1408, .f32⟩
  | _, _ => ⟨S4x256x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumBottom.lean ====
abbrev S4x768x1408 : Shape := ⟨3, ![4, 768, 1408]⟩
abbrev S768x1408 : Shape := ⟨2, ![768, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x768x1408, .bf16⟩
  | .hbm, ⟨1, _⟩ => ⟨S768x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x768x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumBottomIdeal.lean ====
abbrev S4x768x1408 : Shape := ⟨3, ![4, 768, 1408]⟩
abbrev S768x1408 : Shape := ⟨2, ![768, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x768x1408, .bf16⟩
  | .hbm, ⟨1, _⟩ => ⟨S768x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x768x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumBottomPlainIdeal.lean ====
abbrev S4x768x1408 : Shape := ⟨3, ![4, 768, 1408]⟩
abbrev S_ : Shape := ⟨0, ![]⟩
abbrev S768x1408 : Shape := ⟨2, ![768, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x768x1408, .bf16⟩
  | .hbm, ⟨1, _⟩ => ⟨S4x768x1408, .f32⟩
  | .hbm, ⟨2, _⟩ => ⟨S_, .f32⟩
  | .hbm, ⟨3, _⟩ => ⟨S768x1408, .f32⟩
  | _, _ => ⟨S4x768x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumRows.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRowsIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRowsPlainIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCols.lean ====
abbrev S4x1024x768 : Shape := ⟨3, ![4, 1024, 768]⟩
abbrev S1024x768 : Shape := ⟨2, ![1024, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumColsIdeal.lean ====
abbrev S4x1024x768 : Shape := ⟨3, ![4, 1024, 768]⟩
abbrev S1024x768 : Shape := ⟨2, ![1024, 768]⟩
abbrev S4x256x768 : Shape := ⟨3, ![4, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumColsPlainIdeal.lean ====
abbrev S4x1024x768 : Shape := ⟨3, ![4, 1024, 768]⟩
abbrev S_ : Shape := ⟨0, ![]⟩
abbrev S1024x768 : Shape := ⟨2, ![1024, 768]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .f32⟩
  | .hbm, ⟨2, _⟩ => ⟨S_, .f32⟩
  | .hbm, ⟨3, _⟩ => ⟨S1024x768, .f32⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSquare.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSquarePlainIdeal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .f32⟩
  | .hbm, ⟨2, _⟩ => ⟨S_, .f32⟩
  | .hbm, ⟨3, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BiasReduce.lean ====
abbrev S24x128x256 : Shape := ⟨3, ![24, 128, 256]⟩
abbrev S3x128x256 : Shape := ⟨3, ![3, 128, 256]⟩
abbrev S24x32x128 : Shape := ⟨3, ![24, 32, 128]⟩
abbrev S1x128x256 : Shape := ⟨3, ![1, 128, 256]⟩
abbrev S1x32x128 : Shape := ⟨3, ![1, 32, 128]⟩
abbrev S128x256 : Shape := ⟨2, ![128, 256]⟩
abbrev S32x128 : Shape := ⟨2, ![32, 128]⟩
abbrev S1 : Shape := ⟨1, ![1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S24x128x256, .f32⟩
  | .hbm, ⟨1, _⟩ => ⟨S3x128x256, .i32⟩
  | .hbm, ⟨2, _⟩ => ⟨S24x32x128, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .i32⟩
  | .local _ .vmem, ⟨3, _⟩ => ⟨S1x128x256, .i32⟩
  | .local _ .vmem, ⟨4, _⟩ => ⟨S1x32x128, .f32⟩
  | .local _ .vmem, ⟨5, _⟩ => ⟨S1x32x128, .f32⟩
  | _, _ => ⟨S24x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasReducePlainIdeal.lean ====
abbrev S24x128x256 : Shape := ⟨3, ![24, 128, 256]⟩
abbrev S3x128x256 : Shape := ⟨3, ![3, 128, 256]⟩
abbrev S_ : Shape := ⟨0, ![]⟩
abbrev S32x24 : Shape := ⟨2, ![32, 24]⟩
abbrev S3x8x128x256 : Shape := ⟨4, ![3, 8, 128, 256]⟩
abbrev S24x1x128x256 : Shape := ⟨4, ![24, 1, 128, 256]⟩
abbrev S32 : Shape := ⟨1, ![32]⟩
abbrev S32x1x1 : Shape := ⟨3, ![32, 1, 1]⟩
abbrev S1x32x1x1 : Shape := ⟨4, ![1, 32, 1, 1]⟩
abbrev S24x32x128x256 : Shape := ⟨4, ![24, 32, 128, 256]⟩
abbrev S24x32 : Shape := ⟨2, ![24, 32]⟩
abbrev S24x32x1x1 : Shape := ⟨4, ![24, 32, 1, 1]⟩
abbrev S24x32x1 : Shape := ⟨3, ![24, 32, 1]⟩
abbrev S24x32x128 : Shape := ⟨3, ![24, 32, 128]⟩

abbrev nBuf : Space → Nat
  | .hbm => 37
  | .vmem => 0
  | .smem => 0
  | _ => 0

abbrev bufTy : (tb : Table) → Fin (tcTables nBuf tb) → BufTy
  | .hbm, ⟨0, _⟩ => ⟨S24x128x256, .f32⟩
  | .hbm, ⟨1, _⟩ => ⟨S3x128x256, .i32⟩
  | .hbm, ⟨2, _⟩ => ⟨S_, .f32⟩
  | .hbm, ⟨3, _⟩ => ⟨S32x24, .f32⟩
  | .hbm, ⟨4, _⟩ => ⟨S3x8x128x256, .i32⟩
  | .hbm, ⟨5, _⟩ => ⟨S24x128x256, .i32⟩
  | .hbm, ⟨6, _⟩ => ⟨S24x1x128x256, .i32⟩
  | .hbm, ⟨7, _⟩ => ⟨S32, .i32⟩
  | .hbm, ⟨8, _⟩ => ⟨S32x1x1, .i32⟩
  | .hbm, ⟨9, _⟩ => ⟨S1x32x1x1, .i32⟩
  | .hbm, ⟨10, _⟩ => ⟨S24x32x128x256, .i32⟩
  | .hbm, ⟨11, _⟩ => ⟨S24x32x128x256, .i32⟩
  | .hbm, ⟨12, _⟩ => ⟨S24x32x128x256, .i1⟩
  | .hbm, ⟨13, _⟩ => ⟨S24x32, .f32⟩
  | .hbm, ⟨14, _⟩ => ⟨S24x32x1x1, .f32⟩
  | .hbm, ⟨15, _⟩ => ⟨S_, .f32⟩
  | .hbm, ⟨16, _⟩ => ⟨S_, .f32⟩
  | .hbm, ⟨17, _⟩ => ⟨S24x32x128x256, .f32⟩
  | .hbm, ⟨18, _⟩ => ⟨S24x32x128x256, .f32⟩
  | .hbm, ⟨19, _⟩ => ⟨S24x32x128x256, .f32⟩
  | .hbm, ⟨20, _⟩ => ⟨S_, .f32⟩
  | .hbm, ⟨21, _⟩ => ⟨S24x32x128x256, .f32⟩
  | .hbm, ⟨22, _⟩ => ⟨S_, .f32⟩
  | .hbm, ⟨23, _⟩ => ⟨S24x128x256, .f32⟩
  | .hbm, ⟨24, _⟩ => ⟨S24x32x128x256, .f32⟩
  | .hbm, ⟨25, _⟩ => ⟨S_, .f32⟩
  | .hbm, ⟨26, _⟩ => ⟨S24x32x128x256, .f32⟩
  | .hbm, ⟨27, _⟩ => ⟨S24x32x128x256, .f32⟩
  | .hbm, ⟨28, _⟩ => ⟨S_, .f32⟩
  | .hbm, ⟨29, _⟩ => ⟨S24x32, .f32⟩
  | .hbm, ⟨30, _⟩ => ⟨S24x32x1x1, .f32⟩
  | .hbm, ⟨31, _⟩ => ⟨S_, .f32⟩
  | .hbm, ⟨32, _⟩ => ⟨S24x32, .f32⟩
  | .hbm, ⟨33, _⟩ => ⟨S32x24, .f32⟩
  | .hbm, ⟨34, _⟩ => ⟨S24x32, .f32⟩
  | .hbm, ⟨35, _⟩ => ⟨S24x32x1, .f32⟩
  | .hbm, ⟨36, _⟩ => ⟨S24x32x128, .f32⟩
  | _, _ => ⟨S24x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12_0 : Ref sig .tc := ⟨.hbm, 19, rfl⟩
abbrev main_call0_cst : Ref sig .tc := ⟨.hbm, 20, rfl⟩
abbrev main_v12_1 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== BiasExpand.lean ====
abbrev S32x24 : Shape := ⟨2, ![32, 24]⟩
abbrev S3x128x256 : Shape := ⟨3, ![3, 128, 256]⟩
abbrev S24x128x256 : Shape := ⟨3, ![24, 128, 256]⟩
abbrev S1x128x256 : Shape := ⟨3, ![1, 128, 256]⟩
abbrev S128x256 : Shape := ⟨2, ![128, 256]⟩
abbrev S1x1 : Shape := ⟨2, ![1, 1]⟩

abbrev nBuf : Space → Nat
  | .hbm => 3
  | .vmem => 4
  | .smem => 1
  | _ => 0

abbrev bufTy : (tb : Table) → Fin (tcTables nBuf tb) → BufTy
  | .hbm, ⟨0, _⟩ => ⟨S32x24, .f32⟩
  | .hbm, ⟨1, _⟩ => ⟨S3x128x256, .i32⟩
  | .hbm, ⟨2, _⟩ => ⟨S24x128x256, .f32⟩
  | .local _ .vmem, ⟨0, _⟩ => ⟨S1x128x256, .i32⟩
  | .local _ .vmem, ⟨1, _⟩ => ⟨S1x128x256, .i32⟩
  | .local _ .vmem, ⟨2, _⟩ => ⟨S1x128x256, .f32⟩
  | .local _ .vmem, ⟨3, _⟩ => ⟨S1x128x256, .f32⟩
  | .local _ .smem, ⟨0, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def k0_off1 (i : grid0.Coords) : Fin 2 → Nat :=
  let c0_2 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasExpandPlainIdeal.lean ====
abbrev S32x24 : Shape := ⟨2, ![32, 24]⟩
abbrev S3x128x256 : Shape := ⟨3, ![3, 128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S3x8x128x256 : Shape := ⟨4, ![3, 8, 128, 256]⟩
abbrev S24x128x256 : Shape := ⟨3, ![24, 128, 256]⟩
abbrev S24x1x128x256 : Shape := ⟨4, ![24, 1, 128, 256]⟩
abbrev S32 : Shape := ⟨1, ![32]⟩
abbrev S32x1x1 : Shape := ⟨3, ![32, 1, 1]⟩
abbrev S1x32x1x1 : Shape := ⟨4, ![1, 32, 1, 1]⟩
abbrev S24x32x128x256 : Shape := ⟨4, ![24, 32, 128, 256]⟩
abbrev S24x32 : Shape := ⟨2, ![24, 32]⟩
abbrev S24x32x1x1 : Shape := ⟨4, ![24, 32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S3x128x256, .i32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S3x8x128x256, .i32⟩
  | .hbm, ⟨20, _⟩ => ⟨S24x128x256, .i32⟩
  | .hbm, ⟨21, _⟩ => ⟨S24x1x128x256, .i32⟩
  | .hbm, ⟨22, _⟩ => ⟨S32, .i32⟩
  | .hbm, ⟨23, _⟩ => ⟨S32x1x1, .i32⟩
  | .hbm, ⟨24, _⟩ => ⟨S1x32x1x1, .i32⟩
  | .hbm, ⟨25, _⟩ => ⟨S24x32x128x256, .i32⟩
  | .hbm, ⟨26, _⟩ => ⟨S24x32x128x256, .i32⟩
  | .hbm, ⟨27, _⟩ => ⟨S24x32x128x256, .i1⟩
  | .hbm, ⟨28, _⟩ => ⟨S24x32, .f32⟩
  | .hbm, ⟨29, _⟩ => ⟨S24x32x1x1, .f32⟩
  | .hbm, ⟨30, _⟩ => ⟨S_, .f32⟩
  | .hbm, ⟨31, _⟩ => ⟨S_, .f32⟩
  | .hbm, ⟨32, _⟩ => ⟨S24x32x128x256, .f32⟩
  | .hbm, ⟨33, _⟩ => ⟨S24x32x128x256, .f32⟩
  | .hbm, ⟨34, _⟩ => ⟨S24x32x128x256, .f32⟩
  | .hbm, ⟨35, _⟩ => ⟨S_, .f32⟩
  | .hbm, ⟨36, _⟩ => ⟨S24x128x256, .f32⟩
  | .hbm, ⟨37, _⟩ => ⟨S_, .f32⟩
  | .hbm, ⟨38, _⟩ => ⟨S_, .f32⟩
  | .hbm, ⟨39, _⟩ => ⟨S24x128x256, .i1⟩
  | .hbm, ⟨40, _⟩ => ⟨S24x128x256, .f32⟩
  | .hbm, ⟨41, _⟩ => ⟨S24x128x256, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Scratch.lean ====
module

public import proofs.«01_k».proof.Proof.Gen.KernelIdeal.Value
public import Idealize.ShloMosaic.Lib.Pipeline.ValueKit
public import Idealize.ShloMosaic.Lib.Pointwise

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The scratch of gated values at a point: the halo rows first, then the block's own products `c * v`. -/
def CS (i : grid0.Coords) (cb vb : Vec Ideal S256x1024 .bf16) (hc hv : Vec Ideal S16x1024 .bf16) : S272x1024.Idx → EReal := fun y =>
  if h : (y 0 : ℕ) < 16 then k0_pay4 (F := Ideal) i hc hv (ix2 ⟨(y 0 : ℕ), h⟩ (y 1))
  else cb (ix2 ⟨(y 0 : ℕ) - 16, by have := (y 0).isLt; change (y 0 : ℕ) < 272 at this; omega⟩ (y 1))
     * vb (ix2 ⟨(y 0 : ℕ) - 16, by have := (y 0).isLt; change (y 0 : ℕ) < 272 at this; omega⟩ (y 1))

/-- The scratch of gated cotangents at a point: the block's own products `d * b`, then the next block's first rows. -/
def DS (i : grid0.Coords) (db : Vec Ideal S256x1024 .f32) (bb : Vec Ideal S256x1024 .bf16) (nd : Vec Ideal S16x1024 .f32) (nb : Vec Ideal S16x1024 .bf16) :
    S272x1024.Idx → EReal := fun y =>
  if h : (y 0 : ℕ) < 256 then db (ix2 ⟨(y 0 : ℕ), h⟩ (y 1)) * bb (ix2 ⟨(y 0 : ℕ), h⟩ (y 1))
  else k0_pay5 (F := Ideal) i nd nb (ix2 ⟨(y 0 : ℕ) - 256, by have := (y 0).isLt; change (y 0 : ℕ) < 272 at this; omega⟩ (y 1))

/-- A load of part of a buffer the body itself stored into is the same part of what its stores left there. -/
theorem readCov_part {Val : EltTy → Type} [∀ e, Nonempty (Val e)] {sig' : RefSig} {κ : Kind} {sp : Space} {s : Shape} {e : EltTy} (v : View sig' κ sp s e)
    (L : List (View.Piece Val s e)) (r : Rect s) : v.readCov L r.toLoadRect = View.ld (View.canon L) r :=
  View.readCov_eq_canon' v L r.toLoadRect

/-- The run of the body at the first point. -/
abbrev runA (c : Dev nD) (t : Fin cfg0.N) (h0 : t.val % 32 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

/-- What the first scratch holds once the body has filled it, at the first point. -/
theorem scratch0A (c : Dev nD) (t : Fin cfg0.N) (h0 : t.val % 32 = 0) :
    View.canon (runA m c t h0).2.2.1 = CS (grid0.coords t) (iblk m c 1 t) (iblk m c 2 t) (iblk m c 3 t) (iblk m c 4 t) := by
  funext y
  unfold runA
  frame_out
  canon_tiles x h using (View.cover_of_tiledBy _ ![16, 512] (by sl_kernel_rfl) y)
  case piece16 =>
    have e : (y 0 : ℕ) < 16 := by omega
    rw [CS, dif_pos e]
    exact congrArg _ (by idx_ext <;> omega)
  all_goals
    have e : ¬ (y 0 : ℕ) < 16 := by omega
    rw [CS, dif_neg e]
    open_payloads
    pointwise
    refine congrArg₂ (· * ·) ?_ ?_ <;> blk_ext

/-- What the second scratch holds once the body has filled it, at the first point. -/
theorem scratch1A (c : Dev nD) (t : Fin cfg0.N) (h0 : t.val % 32 = 0) :
    View.canon (runA m c t h0).2.2.2.1 = DS (grid0.coords t) (iblk m c 6 t) (iblk m c 0 t) (iblk m c 7 t) (iblk m c 5 t) := by
  funext y
  unfold runA
  frame_out
  canon_tiles x h using (View.cover_of_tiledBy _ ![16, 512] (by sl_kernel_rfl) y)
  case piece16 =>
    have e : ¬ (y 0 : ℕ) < 256 := by omega
    rw [DS, dif_neg e]
    exact congrArg _ (by idx_ext <;> omega)
  all_goals
    have e : (y 0 : ℕ) < 256 := by omega
    rw [DS, dif_pos e]
    open_payloads
    pointwise
    refine congrArg₂ (· * ·) ?_ ?_ <;> blk_ext

/-- The run of the body at a later point. -/
abbrev runB (c : Dev nD) (t : Fin cfg0.N) (h0 : ¬t.val % 32 = 0) (xo : Vec Ideal S8x1024 .f32) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) xo

/-- What the first scratch holds once the body has filled it, at a later point. -/
theorem scratch0B (c : Dev nD) (t : Fin cfg0.N) (h0 : ¬t.val % 32 = 0) (xo : Vec Ideal S8x1024 .f32) :
    View.canon (runB m c t h0 xo).2.2.1 = CS (grid0.coords t) (iblk m c 1 t) (iblk m c 2 t) (iblk m c 3 t) (iblk m c 4 t) := by
  funext y
  unfold runB
  frame_out
  canon_tiles x h using (View.cover_of_tiledBy _ ![16, 512] (by sl_kernel_rfl) y)
  case piece16 =>
    have e : (y 0 : ℕ) < 16 := by omega
    rw [CS, dif_pos e]
    exact congrArg _ (by idx_ext <;> omega)
  all_goals
    have e : ¬ (y 0 : ℕ) < 16 := by omega
    rw [CS, dif_neg e]
    open_payloads
    pointwise
    refine congrArg₂ (· * ·) ?_ ?_ <;> blk_ext

/-- What the second scratch holds once the body has filled it, at a later point. -/
theorem scratch1B (c : Dev nD) (t : Fin cfg0.N) (h0 : ¬t.val % 32 = 0) (xo : Vec Ideal S8x1024 .f32) :
    View.canon (runB m c t h0 xo).2.2.2.1 = DS (grid0.coords t) (iblk m c 6 t) (iblk m c 0 t) (iblk m c 7 t) (iblk m c 5 t) := by
  funext y
  unfold runB
  frame_out
  canon_tiles x h using (View.cover_of_tiledBy _ ![16, 512] (by sl_kernel_rfl) y)
  case piece16 =>
    have e : ¬ (y 0 : ℕ) < 256 := by omega
    rw [DS, dif_neg e]
    exact congrArg _ (by idx_ext <;> omega)
  all_goals
    have e : (y 0 : ℕ) < 256 := by omega
    rw [DS, dif_pos e]
    open_payloads
    pointwise
    refine congrArg₂ (· * ·) ?_ ?_ <;> blk_ext

end Cert.KernelIdeal.ShortConv
-- ==== Proof.Rows.lean ====
module

public import proofs.«01_k».proof.Proof.Gen.KernelIdeal.Value
public import Idealize.ShloMosaic.Lib.Pipeline.ValueKit
public import Idealize.ShloMosaic.Lib.Pointwise
public import proofs.«01_k».proof.Proof.Scratch

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A sum over the 256 rows of a block, taken eight rows at a time: eight chunks of four groups. -/
theorem sum_rows (f : Fin 256 → EReal) : ∑ r, f r = ∑ a : Fin 8, (f ⟨a.val, by omega⟩ + f ⟨8 + a.val, by omega⟩ + f ⟨16 + a.val, by omega⟩ + f ⟨24 + a.val, by omega⟩ + (f ⟨32 + a.val, by omega⟩ + f ⟨32 + (8 + a.val), by omega⟩ + f ⟨32 + (16 + a.val), by omega⟩ + f ⟨32 + (24 + a.val), by omega⟩) + (f ⟨64 + a.val, by omega⟩ + f ⟨64 + (8 + a.val), by omega⟩ + f ⟨64 + (16 + a.val), by omega⟩ + f ⟨64 + (24 + a.val), by omega⟩) + (f ⟨96 + a.val, by omega⟩ + f ⟨96 + (8 + a.val), by omega⟩ + f ⟨96 + (16 + a.val), by omega⟩ + f ⟨96 + (24 + a.val), by omega⟩) + (f ⟨128 + a.val, by omega⟩ + f ⟨128 + (8 + a.val), by omega⟩ + f ⟨128 + (16 + a.val), by omega⟩ + f ⟨128 + (24 + a.val), by omega⟩) + (f ⟨160 + a.val, by omega⟩ + f ⟨160 + (8 + a.val), by omega⟩ + f ⟨160 + (16 + a.val), by omega⟩ + f ⟨160 + (24 + a.val), by omega⟩) + (f ⟨192 + a.val, by omega⟩ + f ⟨192 + (8 + a.val), by omega⟩ + f ⟨192 + (16 + a.val), by omega⟩ + f ⟨192 + (24 + a.val), by omega⟩) + (f ⟨224 + a.val, by omega⟩ + f ⟨224 + (8 + a.val), by omega⟩ + f ⟨224 + (16 + a.val), by omega⟩ + f ⟨224 + (24 + a.val), by omega⟩)) := by
  have e1 : ∑ r, f r = ∑ a : Fin 8, ∑ j : Fin 32, f ⟨8 * j.val + a.val, by omega⟩ := by
    rw [Finset.sum_comm, ← Fintype.sum_prod_type']
    refine (Fintype.sum_equiv (finProdFinEquiv (m := 32) (n := 8)) _ _ fun p => ?_).symm
    exact congrArg f (Fin.ext (by simp [finProdFinEquiv]; omega))
  rw [e1]
  refine Finset.sum_congr rfl fun a _ => ?_
  simp only [Fin.sum_univ_succ, Fin.sum_univ_zero, Fin.val_succ, Fin.val_zero, add_zero, Nat.mul_zero, Nat.zero_add, Nat.reduceAdd, Nat.reduceMul, ← Nat.add_assoc,
    add_assoc]

/-- What a block adds to one row of the filter gradient: its 256 rows' products with the rows of the scratch that the tap meets. -/
def tap (cs ds : S272x1024.Idx → EReal) (k : ℕ) (l : Fin 1024) : EReal :=
  if h : k < 3 then ∑ r : Fin 256, ds (ix2 ⟨r.val, by omega⟩ l) * cs (ix2 ⟨14 + k + r.val, by omega⟩ l) else 0

end Cert.KernelIdeal.ShortConv
-- ==== Proof.Rim.lean ====
module

public import proofs.«01_k».proof.Proof.Gen.KernelIdeal.Value
public import Idealize.ShloMosaic.Lib.Pipeline.ValueKit
public import Idealize.ShloMosaic.Lib.Pointwise
public import proofs.«01_k».proof.Proof.Rows

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block sits at a point. -/
theorem idx : ∀ t : Fin cfg0.N, win0_0.index t = ![t.val, 0] ∧ win0_1.index t = ![t.val, 1] ∧ win0_2.index t = ![t.val, 2]
    ∧ win0_3.index t = ![16 * t.val - 1, 1] ∧ win0_4.index t = ![16 * t.val - 1, 2] ∧ win0_5.index t = ![min (16 * t.val + 16) 511, 0]
    ∧ win0_6.index t = ![t.val, 0] ∧ win0_7.index t = ![min (16 * t.val + 16) 511, 0] ∧ win0_8.index t = ![0, 0]
    ∧ win0_9.index t = ![t.val, 0] ∧ win0_10.index t = ![0, 0] :=
  (by decide +kernel : ∀ t : Fin grid0.N, _)

/-- The first block has no rows before it. -/
theorem first_iff : ∀ t : Fin cfg0.N, Scalar.cmpi .sgt (BitVec.ofNat 32 (grid0.coords t 0).val) 0#32 = if t.val = 0 then 0#1 else 1#1 :=
  (by decide +kernel : ∀ t : Fin grid0.N, _)

/-- The last block has no rows after it. -/
theorem last_iff : ∀ t : Fin cfg0.N, Scalar.cmpi .slt (BitVec.ofNat 32 (grid0.coords t 0).val) 31#32 = if t.val = 31 then 0#1 else 1#1 :=
  (by decide +kernel : ∀ t : Fin grid0.N, _)

/-- The gated values with two zero rows before them: row `r` is row `r - 2` of the products `c * v`. -/
def gated (u : Vec Ideal S8192x3072 .bf16) (r : ℕ) (h : r < 8194) (l : Fin 1024) : EReal :=
  if r < 2 then 0 else u (ix2 ⟨r - 2, by omega⟩ ⟨1024 + l.val, by omega⟩) * u (ix2 ⟨r - 2, by omega⟩ ⟨2048 + l.val, by omega⟩)

/-- The gated cotangents `g * b` with zero rows after them. -/
def cogated (u : Vec Ideal S8192x3072 .bf16) (g : Vec Ideal S8192x1024 .f32) (r : ℕ) (l : Fin 1024) : EReal :=
  if h : r < 8192 then g (ix2 ⟨r, h⟩ l) * u (ix2 ⟨r, h⟩ ⟨l.val, by omega⟩) else 0

/-- The first scratch holds the gated values from two rows before the block on. -/
theorem CS_at (c : Dev nD) (t : Fin cfg0.N) (j : ℕ) (hj : j < 258) (l : Fin 1024) :
    CS (grid0.coords t) (iblk m c 1 t) (iblk m c 2 t) (iblk m c 3 t) (iblk m c 4 t) (ix2 ⟨14 + j, by omega⟩ l)
      = gated (m ((c : Thread nD τ).loc main_arg0)) (256 * t.val + j) (by have := t.isLt; change t.val < 32 at this; omega) l := by
  have ht : t.val < 32 := t.isLt
  obtain ⟨i0, i1, i2, i3, i4, i5, i6, i7, i8, i9, i10⟩ := idx t
  by_cases h : 14 + j < 16
  · refine (dif_pos (show 14 + j < 16 from h)).trans ?_
    change k0_pay4 (F := Ideal) (grid0.coords t) (iblk m c 3 t) (iblk m c 4 t) (ix2 ⟨14 + j, h⟩ l) = _
    unfold k0_pay4
    dsimp only
    rw [first_iff t]
    by_cases h0 : t.val = 0
    · rw [if_pos h0, gated, if_pos (by omega)]
      pointwise
    · rw [if_neg h0, gated, if_neg (by omega)]
      pointwise
      blk_point [iblk, V, i3, i4]
  · refine (dif_neg (show ¬ 14 + j < 16 from h)).trans ?_
    rw [gated, if_neg (by omega)]
    blk_point [iblk, V, i1, i2]

/-- The second scratch holds the gated cotangents from the block's first row on. -/
theorem DS_at (c : Dev nD) (t : Fin cfg0.N) (j : ℕ) (hj : j < 258) (l : Fin 1024) :
    DS (grid0.coords t) (iblk m c 6 t) (iblk m c 0 t) (iblk m c 7 t) (iblk m c 5 t) (ix2 ⟨j, by omega⟩ l)
      = cogated (m ((c : Thread nD τ).loc main_arg0)) (m ((c : Thread nD τ).loc main_arg1)) (256 * t.val + j) l := by
  have ht : t.val < 32 := t.isLt
  obtain ⟨i0, i1, i2, i3, i4, i5, i6, i7, i8, i9, i10⟩ := idx t
  by_cases h : j < 256
  · refine (dif_pos (show j < 256 from h)).trans ?_
    rw [cogated, dif_pos (by omega)]
    blk_point [iblk, V, i6, i0]
  · refine (dif_neg (show ¬ j < 256 from h)).trans ?_
    change k0_pay5 (F := Ideal) (grid0.coords t) (iblk m c 7 t) (iblk m c 5 t) (ix2 ⟨j - 256, by omega⟩ l) = _
    unfold k0_pay5
    dsimp only
    rw [last_iff t]
    by_cases h0 : t.val = 31
    · rw [if_pos h0, cogated, dif_neg (by omega)]
      pointwise
    · rw [if_neg h0, cogated, dif_pos (by omega)]
      pointwise
      blk_point [iblk, V, i7, i5]

end Cert.KernelIdeal.ShortConv
-- ==== Proof.Block.lean ====
module

public import proofs.«01_k».proof.Proof.Gen.KernelIdeal.Value
public import Idealize.ShloMosaic.Lib.Pipeline.ValueKit
public import Idealize.ShloMosaic.Lib.Pointwise
public import proofs.«01_k».proof.Proof.Scratch

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Row `r`, lane `l` of the convolution of the gated values, read off the scratch. -/
def convAt (cs : S272x1024.Idx → EReal) (w : Vec Ideal S3x1024 .f32) (r : Fin 256) (l : Fin 1024) : EReal :=
  w (ix2 0 l) * cs (ix2 ⟨14 + r, by omega⟩ l) + w (ix2 1 l) * cs (ix2 ⟨15 + r, by omega⟩ l) + w (ix2 2 l) * cs (ix2 ⟨16 + r, by omega⟩ l)

/-- Row `r`, lane `l` of the transposed convolution of the gated cotangents, read off the scratch. -/
def dcvAt (ds : S272x1024.Idx → EReal) (w : Vec Ideal S3x1024 .f32) (r : Fin 256) (l : Fin 1024) : EReal :=
  w (ix2 2 l) * ds (ix2 ⟨r, by omega⟩ l) + w (ix2 1 l) * ds (ix2 ⟨1 + r, by omega⟩ l) + w (ix2 0 l) * ds (ix2 ⟨2 + r, by omega⟩ l)

/-- The gradient block a point leaves: the gate's, the inner gate's and the value's gradients side by side. -/
def DU (cs ds : S272x1024.Idx → EReal) (db : Vec Ideal S256x1024 .f32) (cb vb : Vec Ideal S256x1024 .bf16) (w : Vec Ideal S3x1024 .f32) :
    S256x3072.Idx → EReal := fun y =>
  if h : (y 1 : ℕ) < 1024 then db (ix2 (y 0) ⟨(y 1 : ℕ), h⟩) * convAt cs w (y 0) ⟨(y 1 : ℕ), h⟩
  else if h' : (y 1 : ℕ) < 2048 then dcvAt ds w (y 0) ⟨(y 1 : ℕ) - 1024, by omega⟩ * vb (ix2 (y 0) ⟨(y 1 : ℕ) - 1024, by omega⟩)
  else dcvAt ds w (y 0) ⟨(y 1 : ℕ) - 2048, by have := (y 1).isLt; change (y 1 : ℕ) < 3072 at this; omega⟩
    * cb (ix2 (y 0) ⟨(y 1 : ℕ) - 2048, by have := (y 1).isLt; change (y 1 : ℕ) < 3072 at this; omega⟩)

set_option maxHeartbeats 4000000 in
/-- The gradient block left at the first point. -/
theorem blockA (c : Dev nD) (t : Fin cfg0.N) (h0 : t.val % 32 = 0) (y : S256x3072.Idx) :
    (outsAt0 m c t.val t.isLt).1 y = DU (CS (grid0.coords t) (iblk m c 1 t) (iblk m c 2 t) (iblk m c 3 t) (iblk m c 4 t))
      (DS (grid0.coords t) (iblk m c 6 t) (iblk m c 0 t) (iblk m c 7 t) (iblk m c 5 t)) (iblk m c 6 t) (iblk m c 1 t) (iblk m c 2 t) (iblk m c 8 t) y := by
  have e0 := scratch0A m c t h0
  have e1 := scratch1A m c t h0
  unfold runA at e0 e1
  frame_out at e0
  frame_out at e1
  rw [outsAt0_A m c t h0]
  frame_out
  simp only [readCov_part, e0, e1]
  clear e0 e1
  generalize CS (grid0.coords t) (iblk m c 1 t) (iblk m c 2 t) (iblk m c 3 t) (iblk m c 4 t) = cs
  generalize DS (grid0.coords t) (iblk m c 6 t) (iblk m c 0 t) (iblk m c 7 t) (iblk m c 5 t) = ds
  canon_tiles x h
  all_goals
    open_payloads
    pointwise
    first
    | have e : (y 1 : ℕ) < 1024 := by omega
      rw [DU, dif_pos e]
      refine congrArg₂ (· * ·) ?_ (congrArg₂ (· + ·) (congrArg₂ (· + ·) (congrArg₂ (· * ·) ?_ ?_) (congrArg₂ (· * ·) ?_ ?_)) (congrArg₂ (· * ·) ?_ ?_))
      all_goals exact congrArg _ (by idx_ext <;> omega)
    | have e : ¬ (y 1 : ℕ) < 1024 := by omega
      have e' : (y 1 : ℕ) < 2048 := by omega
      rw [DU, dif_neg e, dif_pos e']
      refine congrArg₂ (· * ·) (congrArg₂ (· + ·) (congrArg₂ (· + ·) (congrArg₂ (· * ·) ?_ ?_) (congrArg₂ (· * ·) ?_ ?_)) (congrArg₂ (· * ·) ?_ ?_)) ?_
      all_goals exact congrArg _ (by idx_ext <;> omega)
    | have e : ¬ (y 1 : ℕ) < 1024 := by omega
      have e' : ¬ (y 1 : ℕ) < 2048 := by omega
      rw [DU, dif_neg e, dif_neg e']
      refine congrArg₂ (· * ·) (congrArg₂ (· + ·) (congrArg₂ (· + ·) (congrArg₂ (· * ·) ?_ ?_) (congrArg₂ (· * ·) ?_ ?_)) (congrArg₂ (· * ·) ?_ ?_)) ?_
      all_goals exact congrArg _ (by idx_ext <;> omega)

set_option maxHeartbeats 4000000 in
/-- The gradient block left at a later point. -/
theorem blockB (c : Dev nD) (t : Fin cfg0.N) (h0 : ¬t.val % 32 = 0) (y : S256x3072.Idx) :
    (outsAt0 m c t.val t.isLt).1 y = DU (CS (grid0.coords t) (iblk m c 1 t) (iblk m c 2 t) (iblk m c 3 t) (iblk m c 4 t))
      (DS (grid0.coords t) (iblk m c 6 t) (iblk m c 0 t) (iblk m c 7 t) (iblk m c 5 t)) (iblk m c 6 t) (iblk m c 1 t) (iblk m c 2 t) (iblk m c 8 t) y := by
  have e0 := scratch0B m c t h0 (outsAt0 m c (t.val - 1) (Nat.lt_of_le_of_lt (Nat.sub_le _ _) t.isLt)).2
  have e1 := scratch1B m c t h0 (outsAt0 m c (t.val - 1) (Nat.lt_of_le_of_lt (Nat.sub_le _ _) t.isLt)).2
  unfold runB at e0 e1
  frame_out at e0
  frame_out at e1
  rw [outsAt0_B m c t h0]
  frame_out
  simp only [readCov_part, e0, e1]
  clear e0 e1
  generalize CS (grid0.coords t) (iblk m c 1 t) (iblk m c 2 t) (iblk m c 3 t) (iblk m c 4 t) = cs
  generalize DS (grid0.coords t) (iblk m c 6 t) (iblk m c 0 t) (iblk m c 7 t) (iblk m c 5 t) = ds
  canon_tiles x h
  all_goals
    open_payloads
    pointwise
    first
    | have e : (y 1 : ℕ) < 1024 := by omega
      rw [DU, dif_pos e]
      refine congrArg₂ (· * ·) ?_ (congrArg₂ (· + ·) (congrArg₂ (· + ·) (congrArg₂ (· * ·) ?_ ?_) (congrArg₂ (· * ·) ?_ ?_)) (congrArg₂ (· * ·) ?_ ?_))
      all_goals exact congrArg _ (by idx_ext <;> omega)
    | have e : ¬ (y 1 : ℕ) < 1024 := by omega
      have e' : (y 1 : ℕ) < 2048 := by omega
      rw [DU, dif_neg e, dif_pos e']
      refine congrArg₂ (· * ·) (congrArg₂ (· + ·) (congrArg₂ (· + ·) (congrArg₂ (· * ·) ?_ ?_) (congrArg₂ (· * ·) ?_ ?_)) (congrArg₂ (· * ·) ?_ ?_)) ?_
      all_goals exact congrArg _ (by idx_ext <;> omega)
    | have e : ¬ (y 1 : ℕ) < 1024 := by omega
      have e' : ¬ (y 1 : ℕ) < 2048 := by omega
      rw [DU, dif_neg e, dif_neg e']
      refine congrArg₂ (· * ·) (congrArg₂ (· + ·) (congrArg₂ (· + ·) (congrArg₂ (· * ·) ?_ ?_) (congrArg₂ (· * ·) ?_ ?_)) (congrArg₂ (· * ·) ?_ ?_)) ?_
      all_goals exact congrArg _ (by idx_ext <;> omega)
end Cert.KernelIdeal.ShortConv
-- ==== Proof.TapsFirst.lean ====
module

public import proofs.«01_k».proof.Proof.Gen.KernelIdeal.Value
public import Idealize.ShloMosaic.Lib.Pipeline.ValueKit
public import Idealize.ShloMosaic.Lib.Pointwise
public import proofs.«01_k».proof.Proof.Rows
public import Idealize.ShloMosaic.Lib.Pipeline.ReadBack
public import Idealize.ShloMosaic.Lib.WritesUnit

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The filter gradient left at the first point. -/
theorem tapsA (c : Dev nD) (t : Fin cfg0.N) (h0 : t.val % 32 = 0) (y : S8x1024.Idx) :
    (outsAt0 m c t.val t.isLt).2 y = 0 + tap (CS (grid0.coords t) (iblk m c 1 t) (iblk m c 2 t) (iblk m c 3 t) (iblk m c 4 t)) (DS (grid0.coords t) (iblk m c 6 t) (iblk m c 0 t) (iblk m c 7 t) (iblk m c 5 t)) (y 0).val (y 1) := by
  have e0 := scratch0A m c t h0
  have e1 := scratch1A m c t h0
  unfold runA at e0 e1
  frame_out at e0
  frame_out at e1
  rw [outsAt0_A m c t h0]
  frame_out
  have r0 := fun r => readCov_part (Val := Elt Ideal) (View.whole cc0_scratch0) _ r |>.trans (congrArg (fun z => View.ld z r) e0)
  have r1 := fun r => readCov_part (Val := Elt Ideal) (View.whole cc0_scratch1) _ r |>.trans (congrArg (fun z => View.ld z r) e1)
  simp only [r0, r1]
  clear r0 r1 e0 e1
  generalize CS (grid0.coords t) (iblk m c 1 t) (iblk m c 2 t) (iblk m c 3 t) (iblk m c 4 t) = cs
  generalize DS (grid0.coords t) (iblk m c 6 t) (iblk m c 0 t) (iblk m c 7 t) (iblk m c 5 t) = ds
  simp (disch := decide) only [↓ View.readCov_skip, ↓ View.readCov_cons_toLoadRect, ↓ View.readCov_fill]
  idx_vars y
  change _ = _ + tap cs ds y0.val y1
  rw [← View.read_writes_junk_eq_canon (ms0_10 t).view]
  by_cases hk : 3 ≤ y0.val
  · rw [View.read_writes_cons_unit_of_not_mem _ _ _ _ _ _ rfl (0 : Fin 2) (Or.inr (show 2 + 1 ≤ y0.val by omega))]
    rw [View.read_writes_cons_unit_of_not_mem _ _ _ _ _ _ rfl (0 : Fin 2) (Or.inr (show 1 + 1 ≤ y0.val by omega))]
    rw [View.read_writes_cons_unit_of_not_mem _ _ _ _ _ _ rfl (0 : Fin 2) (Or.inr (show 0 + 1 ≤ y0.val by omega))]
    rw [View.read_writes_cons_unit_of_not_mem _ _ _ _ _ _ rfl (0 : Fin 2) (Or.inr (show 2 + 1 ≤ y0.val by omega))]
    rw [View.read_writes_cons_unit_of_not_mem _ _ _ _ _ _ rfl (0 : Fin 2) (Or.inr (show 1 + 1 ≤ y0.val by omega))]
    rw [View.read_writes_cons_unit_of_not_mem _ _ _ _ _ _ rfl (0 : Fin 2) (Or.inr (show 0 + 1 ≤ y0.val by omega))]
    rw [tap, dif_neg (by omega)]
    rw [View.read_writes_cons_unit_of_mem _ _ _ _ _ _ (ix2 y0 y1) rfl (Fin.forall_fin_two.mpr ⟨show y0.val = 0 + y0.val by omega, show y1.val = 0 + y1.val by omega⟩)]
    open_payloads
    pointwise
  by_cases hl : y1.val < 512
  · have hkk : y0.val = 0 ∨ y0.val = 1 ∨ y0.val = 2 := by omega
    rcases hkk with hk0 | hk0 | hk0
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (0 : Fin 2) (Or.inl (show y0.val < 2 by omega))]
      rw [View.read_writes_cons_unit_of_not_mem _ _ _ _ _ _ rfl (0 : Fin 2) (Or.inl (show y0.val < 1 by omega))]
      rw [View.read_writes_cons_unit_of_mem _ _ _ _ _ _ (ix2 (0 : Fin 1) (⟨y1.val - 0, by omega⟩ : Fin 512)) rfl (Fin.forall_fin_two.mpr ⟨show y0.val = 0 + 0 by omega, show y1.val = 0 + (y1.val - 0) by omega⟩)]
      obtain rfl : y0 = (0 : Fin 8) := Fin.ext hk0
      rw [tap, dif_pos (by decide), sum_rows]
      open_payloads
      pointwise
      refine Finset.sum_congr rfl fun x _ => ?_
      simp only [← Nat.add_assoc, Nat.reduceAdd, Nat.zero_add]
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (0 : Fin 2) (Or.inl (show y0.val < 2 by omega))]
      rw [View.read_writes_cons_unit_of_mem _ _ _ _ _ _ (ix2 (0 : Fin 1) (⟨y1.val - 0, by omega⟩ : Fin 512)) rfl (Fin.forall_fin_two.mpr ⟨show y0.val = 1 + 0 by omega, show y1.val = 0 + (y1.val - 0) by omega⟩)]
      obtain rfl : y0 = (1 : Fin 8) := Fin.ext hk0
      rw [tap, dif_pos (by decide), sum_rows]
      open_payloads
      pointwise
      refine Finset.sum_congr rfl fun x _ => ?_
      simp only [← Nat.add_assoc, Nat.reduceAdd, Nat.zero_add]
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_mem _ _ _ _ _ _ (ix2 (0 : Fin 1) (⟨y1.val - 0, by omega⟩ : Fin 512)) rfl (Fin.forall_fin_two.mpr ⟨show y0.val = 2 + 0 by omega, show y1.val = 0 + (y1.val - 0) by omega⟩)]
      obtain rfl : y0 = (2 : Fin 8) := Fin.ext hk0
      rw [tap, dif_pos (by decide), sum_rows]
      open_payloads
      pointwise
      refine Finset.sum_congr rfl fun x _ => ?_
      simp only [← Nat.add_assoc, Nat.reduceAdd, Nat.zero_add]
  · have hkk : y0.val = 0 ∨ y0.val = 1 ∨ y0.val = 2 := by omega
    rcases hkk with hk0 | hk0 | hk0
    · rw [View.read_writes_cons_unit_of_not_mem _ _ _ _ _ _ rfl (0 : Fin 2) (Or.inl (show y0.val < 2 by omega))]
      rw [View.read_writes_cons_unit_of_not_mem _ _ _ _ _ _ rfl (0 : Fin 2) (Or.inl (show y0.val < 1 by omega))]
      rw [View.read_writes_cons_unit_of_mem _ _ _ _ _ _ (ix2 (0 : Fin 1) (⟨y1.val - 512, by omega⟩ : Fin 512)) rfl (Fin.forall_fin_two.mpr ⟨show y0.val = 0 + 0 by omega, show y1.val = 512 + (y1.val - 512) by omega⟩)]
      obtain rfl : y0 = (0 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine Finset.sum_congr rfl fun x _ => ?_
      simp only [← Nat.add_assoc, Nat.reduceAdd, Nat.zero_add]
    · rw [View.read_writes_cons_unit_of_not_mem _ _ _ _ _ _ rfl (0 : Fin 2) (Or.inl (show y0.val < 2 by omega))]
      rw [View.read_writes_cons_unit_of_mem _ _ _ _ _ _ (ix2 (0 : Fin 1) (⟨y1.val - 512, by omega⟩ : Fin 512)) rfl (Fin.forall_fin_two.mpr ⟨show y0.val = 1 + 0 by omega, show y1.val = 512 + (y1.val - 512) by omega⟩)]
      obtain rfl : y0 = (1 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine Finset.sum_congr rfl fun x _ => ?_
      simp only [← Nat.add_assoc, Nat.reduceAdd, Nat.zero_add]
    · rw [View.read_writes_cons_unit_of_mem _ _ _ _ _ _ (ix2 (0 : Fin 1) (⟨y1.val - 512, by omega⟩ : Fin 512)) rfl (Fin.forall_fin_two.mpr ⟨show y0.val = 2 + 0 by omega, show y1.val = 512 + (y1.val - 512) by omega⟩)]
      obtain rfl : y0 = (2 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine Finset.sum_congr rfl fun x _ => ?_
      simp only [← Nat.add_assoc, Nat.reduceAdd, Nat.zero_add]
end Cert.KernelIdeal.ShortConv
-- ==== Proof.TapsNext.lean ====
module

public import proofs.«01_k».proof.Proof.Gen.KernelIdeal.Value
public import Idealize.ShloMosaic.Lib.Pipeline.ValueKit
public import Idealize.ShloMosaic.Lib.Pointwise
public import proofs.«01_k».proof.Proof.Rows
public import Idealize.ShloMosaic.Lib.Pipeline.ReadBack
public import Idealize.ShloMosaic.Lib.WritesUnit

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The filter gradient left at a later point: what was there, plus the block's taps. -/
theorem tapsB (c : Dev nD) (t : Fin cfg0.N) (h0 : ¬t.val % 32 = 0) (y : S8x1024.Idx) :
    (outsAt0 m c t.val t.isLt).2 y =  (outsAt0 m c (t.val - 1) (Nat.lt_of_le_of_lt (Nat.sub_le _ _) t.isLt)).2 y + tap (CS (grid0.coords t) (iblk m c 1 t) (iblk m c 2 t) (iblk m c 3 t) (iblk m c 4 t)) (DS (grid0.coords t) (iblk m c 6 t) (iblk m c 0 t) (iblk m c 7 t) (iblk m c 5 t)) (y 0).val (y 1) := by
  have e0 := scratch0B m c t h0 (outsAt0 m c (t.val - 1) (Nat.lt_of_le_of_lt (Nat.sub_le _ _) t.isLt)).2
  have e1 := scratch1B m c t h0 (outsAt0 m c (t.val - 1) (Nat.lt_of_le_of_lt (Nat.sub_le _ _) t.isLt)).2
  unfold runB at e0 e1
  frame_out at e0
  frame_out at e1
  rw [outsAt0_B m c t h0]
  frame_out
  have r0 := fun r => readCov_part (Val := Elt Ideal) (View.whole cc0_scratch0) _ r |>.trans (congrArg (fun z => View.ld z r) e0)
  have r1 := fun r => readCov_part (Val := Elt Ideal) (View.whole cc0_scratch1) _ r |>.trans (congrArg (fun z => View.ld z r) e1)
  simp only [r0, r1]
  clear r0 r1 e0 e1
  generalize CS (grid0.coords t) (iblk m c 1 t) (iblk m c 2 t) (iblk m c 3 t) (iblk m c 4 t) = cs
  generalize DS (grid0.coords t) (iblk m c 6 t) (iblk m c 0 t) (iblk m c 7 t) (iblk m c 5 t) = ds
  generalize (outsAt0 m c (t.val - 1) (Nat.lt_of_le_of_lt (Nat.sub_le _ _) t.isLt)).2 = old
  idx_vars y
  change _ = _ + tap cs ds y0.val y1
  by_cases hk : 3 ≤ y0.val
  · rw [View.read_writes_cons_unit_of_not_mem _ _ _ _ _ _ rfl (0 : Fin 2) (Or.inr (show 2 + 1 ≤ y0.val by omega))]
    rw [View.read_writes_cons_unit_of_not_mem _ _ _ _ _ _ rfl (0 : Fin 2) (Or.inr (show 1 + 1 ≤ y0.val by omega))]
    rw [View.read_writes_cons_unit_of_not_mem _ _ _ _ _ _ rfl (0 : Fin 2) (Or.inr (show 0 + 1 ≤ y0.val by omega))]
    rw [View.read_writes_cons_unit_of_not_mem _ _ _ _ _ _ rfl (0 : Fin 2) (Or.inr (show 2 + 1 ≤ y0.val by omega))]
    rw [View.read_writes_cons_unit_of_not_mem _ _ _ _ _ _ rfl (0 : Fin 2) (Or.inr (show 1 + 1 ≤ y0.val by omega))]
    rw [View.read_writes_cons_unit_of_not_mem _ _ _ _ _ _ rfl (0 : Fin 2) (Or.inr (show 0 + 1 ≤ y0.val by omega))]
    rw [tap, dif_neg (by omega)]
    rw [View.writes_nil, Memref.IsWhole.read_unread, add_zero]
  by_cases hl : y1.val < 512
  · have hkk : y0.val = 0 ∨ y0.val = 1 ∨ y0.val = 2 := by omega
    rcases hkk with hk0 | hk0 | hk0
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (0 : Fin 2) (Or.inl (show y0.val < 2 by omega))]
      rw [View.read_writes_cons_unit_of_not_mem _ _ _ _ _ _ rfl (0 : Fin 2) (Or.inl (show y0.val < 1 by omega))]
      rw [View.read_writes_cons_unit_of_mem _ _ _ _ _ _ (ix2 (0 : Fin 1) (⟨y1.val - 0, by omega⟩ : Fin 512)) rfl (Fin.forall_fin_two.mpr ⟨show y0.val = 0 + 0 by omega, show y1.val = 0 + (y1.val - 0) by omega⟩)]
      obtain rfl : y0 = (0 : Fin 8) := Fin.ext hk0
      rw [tap, dif_pos (by decide), sum_rows]
      open_payloads
      pointwise
      refine congrArg (old _ + ·) (Finset.sum_congr rfl fun x _ => ?_)
      simp only [← Nat.add_assoc, Nat.reduceAdd, Nat.zero_add]
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (0 : Fin 2) (Or.inl (show y0.val < 2 by omega))]
      rw [View.read_writes_cons_unit_of_mem _ _ _ _ _ _ (ix2 (0 : Fin 1) (⟨y1.val - 0, by omega⟩ : Fin 512)) rfl (Fin.forall_fin_two.mpr ⟨show y0.val = 1 + 0 by omega, show y1.val = 0 + (y1.val - 0) by omega⟩)]
      obtain rfl : y0 = (1 : Fin 8) := Fin.ext hk0
      rw [tap, dif_pos (by decide), sum_rows]
      open_payloads
      pointwise
      refine congrArg (old _ + ·) (Finset.sum_congr rfl fun x _ => ?_)
      simp only [← Nat.add_assoc, Nat.reduceAdd, Nat.zero_add]
    · rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_not_mem _ _ _ _ _ _ rfl (1 : Fin 2) (Or.inl (show y1.val < 512 by omega))]
      rw [View.read_writes_cons_unit_of_mem _ _ _ _ _ _ (ix2 (0 : Fin 1) (⟨y1.val - 0, by omega⟩ : Fin 512)) rfl (Fin.forall_fin_two.mpr ⟨show y0.val = 2 + 0 by omega, show y1.val = 0 + (y1.val - 0) by omega⟩)]
      obtain rfl : y0 = (2 : Fin 8) := Fin.ext hk0
      rw [tap, dif_pos (by decide), sum_rows]
      open_payloads
      pointwise
      refine congrArg (old _ + ·) (Finset.sum_congr rfl fun x _ => ?_)
      simp only [← Nat.add_assoc, Nat.reduceAdd, Nat.zero_add]
  · have hkk : y0.val = 0 ∨ y0.val = 1 ∨ y0.val = 2 := by omega
    rcases hkk with hk0 | hk0 | hk0
    · rw [View.read_writes_cons_unit_of_not_mem _ _ _ _ _ _ rfl (0 : Fin 2) (Or.inl (show y0.val < 2 by omega))]
      rw [View.read_writes_cons_unit_of_not_mem _ _ _ _ _ _ rfl (0 : Fin 2) (Or.inl (show y0.val < 1 by omega))]
      rw [View.read_writes_cons_unit_of_mem _ _ _ _ _ _ (ix2 (0 : Fin 1) (⟨y1.val - 512, by omega⟩ : Fin 512)) rfl (Fin.forall_fin_two.mpr ⟨show y0.val = 0 + 0 by omega, show y1.val = 512 + (y1.val - 512) by omega⟩)]
      obtain rfl : y0 = (0 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine congrArg (old _ + ·) (Finset.sum_congr rfl fun x _ => ?_)
      simp only [← Nat.add_assoc, Nat.reduceAdd, Nat.zero_add]
    · rw [View.read_writes_cons_unit_of_not_mem _ _ _ _ _ _ rfl (0 : Fin 2) (Or.inl (show y0.val < 2 by omega))]
      rw [View.read_writes_cons_unit_of_mem _ _ _ _ _ _ (ix2 (0 : Fin 1) (⟨y1.val - 512, by omega⟩ : Fin 512)) rfl (Fin.forall_fin_two.mpr ⟨show y0.val = 1 + 0 by omega, show y1.val = 512 + (y1.val - 512) by omega⟩)]
      obtain rfl : y0 = (1 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine congrArg (old _ + ·) (Finset.sum_congr rfl fun x _ => ?_)
      simp only [← Nat.add_assoc, Nat.reduceAdd, Nat.zero_add]
    · rw [View.read_writes_cons_unit_of_mem _ _ _ _ _ _ (ix2 (0 : Fin 1) (⟨y1.val - 512, by omega⟩ : Fin 512)) rfl (Fin.forall_fin_two.mpr ⟨show y0.val = 2 + 0 by omega, show y1.val = 512 + (y1.val - 512) by omega⟩)]
      obtain rfl : y0 = (2 : Fin 8) := Fin.ext hk0
      rw [tap, dif_pos (by decide), sum_rows]
      open_payloads
      pointwise
      simp only [show (⟨512 + (y1.val - 512), by omega⟩ : Fin 1024) = y1 from Fin.ext (show 512 + (y1.val - 512) = y1.val by omega)]
      refine congrArg (old _ + ·) (Finset.sum_congr rfl fun x _ => ?_)
      simp only [← Nat.add_assoc, Nat.reduceAdd, Nat.zero_add]
end Cert.KernelIdeal.ShortConv
-- ==== Proof.Arrays.lean ====
module

public import proofs.«01_k».proof.Proof.Gen.KernelIdeal.Value
public import Idealize.ShloMosaic.Lib.Pipeline.ValueKit
public import Idealize.ShloMosaic.Lib.Pointwise
public import proofs.«01_k».proof.Proof.Rim
public import proofs.«01_k».proof.Proof.Block
public import proofs.«01_k».proof.Proof.TapsFirst
public import proofs.«01_k».proof.Proof.TapsNext

@[expose] public section
set_option maxRecDepth 16384
noncomputable section
namespace Cert.KernelIdeal.ShortConv
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The causal convolution of the gated values at row `r`. -/
def conv (u : Vec Ideal S8192x3072 .bf16) (w : Vec Ideal S3x1024 .f32) (r : Fin 8192) (l : Fin 1024) : EReal :=
  w (ix2 0 l) * gated u r.val (by omega) l + w (ix2 1 l) * gated u (r.val + 1) (by omega) l + w (ix2 2 l) * gated u (r.val + 2) (by omega) l

/-- The transposed convolution of the gated cotangents at row `r`. -/
def dconv (u : Vec Ideal S8192x3072 .bf16) (g : Vec Ideal S8192x1024 .f32) (w : Vec Ideal S3x1024 .f32) (r : Fin 8192) (l : Fin 1024) : EReal :=
  w (ix2 2 l) * cogated u g r.val l + w (ix2 1 l) * cogated u g (r.val + 1) l + w (ix2 0 l) * cogated u g (r.val + 2) l

/-- The gradient of the projected rows: the outer gate's, the inner gate's and the value's gradients side by side. -/
def gradU (u : Vec Ideal S8192x3072 .bf16) (g : Vec Ideal S8192x1024 .f32) (w : Vec Ideal S3x1024 .f32) (r : Fin 8192) (l : Fin 3072) : EReal :=
  if h : l.val < 1024 then g (ix2 r ⟨l.val, h⟩) * conv u w r ⟨l.val, h⟩
  else if h' : l.val < 2048 then dconv u g w r ⟨l.val - 1024, by omega⟩ * u (ix2 r ⟨l.val + 1024, by omega⟩)
  else dconv u g w r ⟨l.val - 2048, by omega⟩ * u (ix2 r ⟨l.val - 1024, by omega⟩)

/-- The gradient of the filter: each tap meets the gated values at its own offset; rows past the three taps are zero. -/
def gradW (u : Vec Ideal S8192x3072 .bf16) (g : Vec Ideal S8192x1024 .f32) (k : Fin 8) (l : Fin 1024) : EReal :=
  if h : k.val < 3 then ∑ r : Fin 8192, cogated u g r.val l * gated u (r.val + k.val) (by omega) l else 0

/-- A row of the first scratch named by the row of the whole array it holds. -/
theorem CS_row (c : Dev nD) (t : Fin cfg0.N) (i : Fin 272) (l : Fin 1024) (R : ℕ) (hR : R < 8194) (h1 : R + 14 = 256 * t.val + i.val) (h2 : 14 ≤ i.val) :
    CS (grid0.coords t) (iblk m c 1 t) (iblk m c 2 t) (iblk m c 3 t) (iblk m c 4 t) (ix2 i l)
      = gated (m ((c : Thread nD τ).loc main_arg0)) R hR l := by
  obtain ⟨i, hi⟩ := i
  dsimp only at h1 h2
  obtain ⟨j, rfl⟩ := Nat.exists_eq_add_of_le h2
  obtain rfl : R = 256 * t.val + j := by omega
  exact CS_at m c t j (by omega) l

/-- A row of the second scratch named by the row of the whole array it holds. -/
theorem DS_row (c : Dev nD) (t : Fin cfg0.N) (i : Fin 272) (l : Fin 1024) (R : ℕ) (h1 : R = 256 * t.val + i.val) (h2 : i.val < 258) :
    DS (grid0.coords t) (iblk m c 6 t) (iblk m c 0 t) (iblk m c 7 t) (iblk m c 5 t) (ix2 i l)
      = cogated (m ((c : Thread nD τ).loc main_arg0)) (m ((c : Thread nD τ).loc main_arg1)) R l := by
  subst h1
  exact DS_at m c t i.val h2 l

/-- The gradient block a point leaves, whichever point it is. -/
theorem block (c : Dev nD) (t : Fin cfg0.N) (y : S256x3072.Idx) :
    (outsAt0 m c t.val t.isLt).1 y = DU (CS (grid0.coords t) (iblk m c 1 t) (iblk m c 2 t) (iblk m c 3 t) (iblk m c 4 t))
      (DS (grid0.coords t) (iblk m c 6 t) (iblk m c 0 t) (iblk m c 7 t) (iblk m c 5 t)) (iblk m c 6 t) (iblk m c 1 t) (iblk m c 2 t) (iblk m c 8 t) y := by
  by_cases h0 : t.val % 32 = 0
  · exact blockA m c t h0 y
  · exact blockB m c t h0 y

/-- The convolution read off the scratch is the convolution of the whole array at the block's row. -/
theorem convAt_eq (c : Dev nD) (t : Fin cfg0.N) (r : Fin 256) (l : Fin 1024) (R : Fin 8192) (hR : R.val = 256 * t.val + r.val) :
    convAt (CS (grid0.coords t) (iblk m c 1 t) (iblk m c 2 t) (iblk m c 3 t) (iblk m c 4 t)) (iblk m c 8 t) r l
      = conv (m ((c : Thread nD τ).loc main_arg0)) (m ((c : Thread nD τ).loc main_arg2)) R l := by
  obtain ⟨i0, i1, i2, i3, i4, i5, i6, i7, i8, i9, i10⟩ := idx t
  rw [convAt, conv, CS_row m c t _ l R.val (by omega) (by dsimp only; omega) (by dsimp only; omega), CS_row m c t _ l (R.val + 1) (by omega) (by dsimp only; omega) (by dsimp only; omega),
    CS_row m c t _ l (R.val + 2) (by omega) (by dsimp only; omega) (by dsimp only; omega)]
  blk_point [iblk, V, i8]

/-- The transposed convolution read off the scratch is that of the whole array at the block's row. -/
theorem dcvAt_eq (c : Dev nD) (t : Fin cfg0.N) (r : Fin 256) (l : Fin 1024) (R : Fin 8192) (hR : R.val = 256 * t.val + r.val) :
    dcvAt (DS (grid0.coords t) (iblk m c 6 t) (iblk m c 0 t) (iblk m c 7 t) (iblk m c 5 t)) (iblk m c 8 t) r l
      = dconv (m ((c : Thread nD τ).loc main_arg0)) (m ((c : Thread nD τ).loc main_arg1)) (m ((c : Thread nD τ).loc main_arg2)) R l := by
  obtain ⟨i0, i1, i2, i3, i4, i5, i6, i7, i8, i9, i10⟩ := idx t
  rw [dcvAt, dconv, DS_row m c t _ l R.val (by dsimp only; omega) (by dsimp only; omega), DS_row m c t _ l (R.val + 1) (by dsimp only; omega) (by dsimp only; omega),
    DS_row m c t _ l (R.val + 2) (by dsimp only; omega) (by dsimp only; omega)]
  blk_point [iblk, V, i8]

/-- The gradient block at a row of the block is the whole gradient at that row of the array. -/
theorem block_at (c : Dev nD) (t : Fin cfg0.N) (r : Fin 256) (l : Fin 3072) (R : Fin 8192) (hR : R.val = 256 * t.val + r.val) :
    DU (CS (grid0.coords t) (iblk m c 1 t) (iblk m c 2 t) (iblk m c 3 t) (iblk m c 4 t))
      (DS (grid0.coords t) (iblk m c 6 t) (iblk m c 0 t) (iblk m c 7 t) (iblk m c 5 t)) (iblk m c 6 t) (iblk m c 1 t) (iblk m c 2 t) (iblk m c 8 t) (ix2 r l)
      = gradU (m ((c : Thread nD τ).loc main_arg0)) (m ((c : Thread nD τ).loc main_arg1)) (m ((c : Thread nD τ).loc main_arg2)) R l := by
  obtain ⟨i0, i1, i2, i3, i4, i5, i6, i7, i8, i9, i10⟩ := idx t
  by_cases h : l.val < 1024
  · refine (dif_pos (show l.val < 1024 from h)).trans ?_
    rw [gradU, dif_pos h, ← convAt_eq m c t r _ R hR]
    refine congrArg₂ (fun a b : EReal => a * b) ?_ rfl
    blk_ext [iblk, V, i6]
  · refine (dif_neg (show ¬ l.val < 1024 from h)).trans ?_
    by_cases h' : l.val < 2048
    · refine (dif_pos (show l.val < 2048 from h')).trans ?_
      rw [gradU, dif_neg h, dif_pos h', ← dcvAt_eq m c t r _ R hR]
      refine congrArg₂ (fun a b : EReal => a * b) rfl ?_
      blk_ext [iblk, V, i2]
    · refine (dif_neg (show ¬ l.val < 2048 from h')).trans ?_
      rw [gradU, dif_neg h, dif_neg h', ← dcvAt_eq m c t r _ R hR]
      refine congrArg₂ (fun a b : EReal => a * b) rfl ?_
      blk_ext [iblk, V, i1]

/-- After the run the first result holds the gradient of the projected rows. -/
theorem final_rows (c : Dev nD) : (dats m 0 c).arrAt 9 cfg0.N
    = fun i : S8192x3072.Idx => gradU (m ((c : Thread nD τ).loc main_arg0)) (m ((c : Thread nD τ).loc main_arg1)) (m ((c : Thread nD τ).loc main_arg2)) (i 0) (i 1) := by
  refine (dats m 0 c).arrAt_eq_of_covers 9 _ (by decide +kernel) fun t _ y => ?_
  obtain ⟨i0, i1, i2, i3, i4, i5, i6, i7, i8, i9, i10⟩ := idx t
  have ht : t.val < 32 := t.isLt
  blk_simp
  rw [after0_9, block]
  idx_vars y
  rw [block_at m c t y0 y1 ⟨256 * t.val + y0.val, by omega⟩ rfl]
  refine congrArg₂ (gradU _ _ _) (Fin.ext ?_) (Fin.ext ?_)
  · change 256 * t.val + y0.val = _
    blk_simp [i9]
    omega
  · blk_simp [i9]

/-- What a point adds to the filter gradient, over the whole arrays. -/
theorem tap_at (c : Dev nD) (t : Fin cfg0.N) (k : Fin 8) (l : Fin 1024) :
    tap (CS (grid0.coords t) (iblk m c 1 t) (iblk m c 2 t) (iblk m c 3 t) (iblk m c 4 t))
      (DS (grid0.coords t) (iblk m c 6 t) (iblk m c 0 t) (iblk m c 7 t) (iblk m c 5 t)) k.val l
      = if h : k.val < 3 then ∑ r : Fin 256, cogated (m ((c : Thread nD τ).loc main_arg0)) (m ((c : Thread nD τ).loc main_arg1)) (256 * t.val + r.val) l
          * gated (m ((c : Thread nD τ).loc main_arg0)) (256 * t.val + r.val + k.val) (by have := t.isLt; change t.val < 32 at this; omega) l else 0 := by
  have ht : t.val < 32 := t.isLt
  rw [tap]
  by_cases h : k.val < 3
  · rw [dif_pos h, dif_pos h]
    refine Finset.sum_congr rfl fun r _ => ?_
    rw [DS_row m c t _ l (256 * t.val + r.val) rfl (by dsimp only; omega), CS_row m c t _ l (256 * t.val + r.val + k.val) (by omega) (by dsimp only; omega) (by dsimp only; omega)]
  · rw [dif_neg h, dif_neg h]

/-- After the run the second result holds the gradient of the filter. -/
theorem final_taps (c : Dev nD) : (dats m 0 c).arrAt 10 cfg0.N
    = fun i : S8x1024.Idx => gradW (m ((c : Thread nD τ).loc main_arg0)) (m ((c : Thread nD τ).loc main_arg1)) (i 0) (i 1) := by
  refine (dats m 0 c).arrAt_eq_of_covers 10 _ (by decide +kernel) fun t hf y => ?_
  obtain ⟨i0, i1, i2, i3, i4, i5, i6, i7, i8, i9, i10⟩ := idx t
  have ht : t.val < 32 := t.isLt
  have hl := (flush0_10 t).mp hf
  blk_simp
  rw [after0_10]
  refine (Pipeline.eq_sum_fin_of_reset_step_apply_of_flush (fun n h => (outsAt0 m c n h).2) 32 (fun _ => (0 : EReal)) _
    (fun t h j => tapsA m c t h j) (fun t h j => tapsB m c t h j) t hl _).trans ?_
  rw [zero_add]
  idx_vars y
  simp only [tap_at]
  have e : ∀ i j, i = y0 → j = y1 → gradW (m ((c : Thread nD τ).loc main_arg0)) (m ((c : Thread nD τ).loc main_arg1)) y0 y1
      = gradW (m ((c : Thread nD τ).loc main_arg0)) (m ((c : Thread nD τ).loc main_arg1)) i j := fun i j hi hj => by rw [hi, hj]
  refine Eq.trans ?_ (e _ _ (Fin.ext (by blk_simp [i10])) (Fin.ext (by blk_simp [i10])))
  rw [gradW]
  by_cases h : y0.val < 3
  · simp only [dif_pos h]
    refine Fin.sum_mul_add_congr fun s k hl => ?_
    have e1 : 256 * (32 * (t.val / 32) + s.val) + k.val = s.val * 256 + k.val := by omega
    simp only [e1]
  · simp only [dif_neg h]
    exact Finset.sum_const_zero

end Cert.KernelIdeal.ShortConv
-- ==== Proof.Plain.lean ====
module

public import proofs.«01_k».proof.Proof.Arrays
public import proofs.«01_k».proof.Proof.Gen.ReferenceIdeal.Run
public import proofs.«01_k».proof.Proof.Gen.ReferenceIdeal.Read
public import Idealize.ShloMosaic.Lib.Pointwise

@[expose] public section
set_option maxRecDepth 16384
noncomputable section
namespace Cert.ReferenceIdeal.ShortConv
open Idealize.ShloMosaic Idealize.ShloMosaic.TcCoe Idealize.SL.Sem
open Cert.ReferenceIdeal Cert.ReferenceIdeal.Gen Cert.ReferenceIdeal.Read
open Cert.KernelIdeal.ShortConv (gated cogated conv dconv gradU gradW)

variable (u : Vec Ideal S8192x3072 .bf16) (g : Vec Ideal S8192x1024 .f32) (w : Vec Ideal S3x1024 .f32)

/-- The padded gated values. -/
theorem gated_at (r : Fin 8194) (l : Fin 1024) : val_main_v6 (F := Ideal) u (ix2 r l) = gated u r.val r.isLt l := by
  unfold val_main_v6 val_main_v5 val_main_cst val_main_v4 val_main_v3 val_main_v2 val_main_v0
  rw [gated]
  pointwise
  split_ifs <;> rfl

/-- The convolution. -/
theorem conv_at (r : Fin 8192) (l : Fin 1024) : val_main_v29 (F := Ideal) u w (ix2 r l) = conv u w r l := by
  unfold val_main_v29 val_main_v28 val_main_v27 val_main_v26 val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_cst_1
  pointwise
  simp only [gated_at]
  rw [conv]
  simp only [Nat.add_comm 1 r.val, Nat.add_comm 2 r.val, mul_comm]

/-- The gated cotangent. -/
theorem cogated_at (r : Fin 8192) (l : Fin 1024) : val_main_v31 (F := Ideal) u g (ix2 r l) = cogated u g r.val l := by
  unfold val_main_v31 val_main_v1 val_main_v0
  rw [cogated, dif_pos r.isLt]
  pointwise
  exact mul_comm _ _

/-- The transposed convolution. -/
theorem dconv_at (r : Fin 8192) (l : Fin 1024) : val_main_v65 (F := Ideal) u g w (ix2 r l) = dconv u g w r l := by
  unfold val_main_v65 val_main_v63 val_main_v62 val_main_v57 val_main_v56 val_main_v52 val_main_v51 val_main_v46 val_main_v45 val_main_v41 val_main_v37 val_main_v36
    val_main_v26 val_main_v25 val_main_v24  val_main_v19 val_main_v18 val_main_v17 val_main_v11 val_main_v10 val_main_v9 val_main_cst_5 val_main_cst_9 val_main_cst_13
  pointwise
  rw [dconv]
  refine congrArg₂ (· + ·) (congrArg₂ (· + ·) ?_ ?_) ?_
  · rw [cogated_at, mul_comm]
  · by_cases h : r.val + 1 < 8192
    · rw [dif_pos (by omega), cogated_at, mul_comm]
      simp only [show 2 + r.val - 1 = r.val + 1 by omega]
    · rw [dif_neg (by omega), cogated, dif_neg h, mul_zero]
  · by_cases h : r.val + 2 < 8192
    · rw [dif_pos (by omega), cogated_at, mul_comm]
      simp only [Nat.add_comm 2 r.val]
    · rw [dif_neg (by omega), cogated, dif_neg h, mul_zero]

/-- The first result. -/
theorem rows_at (r : Fin 8192) (l : Fin 3072) : val_main_v69 (F := Ideal) u g w (ix2 r l) = gradU u g w r l := by
  unfold val_main_v69 val_main_v68 val_main_v67 val_main_v66 val_main_v32 val_main_v3 val_main_v2 val_main_v0
  pointwise
  simp only [conv_at, dconv_at]
  rw [gradU]
  by_cases h : l.val < 1024
  · rw [dif_pos h, dif_pos h]
  · rw [dif_neg h, dif_neg h]
    by_cases h' : l.val < 2048
    · rw [dif_pos (by omega), dif_pos h']
      simp only [show 2048 + (l.val - 1024) = l.val + 1024 by omega]
    · rw [dif_neg (by omega), dif_neg h', mul_comm]
      simp only [show l.val - 1024 - 1024 = l.val - 2048 by omega, show 1024 + (l.val - 2048) = l.val - 1024 by omega]

/-- The second result. -/
theorem taps_at (k : Fin 8) (l : Fin 1024) : val_main_v70 (F := Ideal) u g (ix2 k l) = gradW u g k l := by
  unfold val_main_v70 val_main_cst_14 val_main_v61 val_main_v60 val_main_cst_12 val_main_v59 val_main_v58 val_main_cst_11 val_main_v55 val_main_v54 val_main_cst_10 val_main_v53
    val_main_v50 val_main_v49 val_main_v48 val_main_cst_8 val_main_v47 val_main_cst_7 val_main_v44 val_main_v43 val_main_cst_6 val_main_v42 val_main_v40 val_main_cst_4 val_main_v39
    val_main_v38 val_main_cst_3 val_main_v35 val_main_v34 val_main_cst_2 val_main_v33 val_main_v23 val_main_v16 val_main_v8
  pointwise
  simp only [gated_at, cogated_at]
  rw [gradW]
  by_cases h : k.val < 3
  · rw [dif_pos h, dif_pos h]
    have hk : k.val = 0 ∨ k.val = 1 ∨ k.val = 2 := by omega
    rcases hk with hk | hk | hk
    · rw [dif_neg (by omega), dif_neg (by omega), dif_pos (by omega), zero_add, zero_add, Fin.sum_univ_one]
      refine Finset.sum_congr rfl fun x _ => ?_
      rw [mul_comm]
      simp only [hk, Nat.add_zero]
    · rw [dif_neg (by omega), dif_pos (by omega), dif_neg (by omega), zero_add, add_zero, Fin.sum_univ_one]
      refine Finset.sum_congr rfl fun x _ => ?_
      rw [mul_comm]
      simp only [hk, Nat.add_comm 1 x.val]
    · rw [dif_pos (by omega), dif_neg (by omega), dif_neg (by omega), add_zero, add_zero, Fin.sum_univ_one]
      refine Finset.sum_congr rfl fun x _ => ?_
      rw [mul_comm]
      simp only [hk, Nat.add_comm 2 x.val]
  · rw [dif_neg h, dif_neg h]

end Cert.ReferenceIdeal.ShortConv
-- ==== Proof.Pairs.DownDx.lean ====
module

public import proofs.«01_k».proof.Defs
public import proofs.«01_k».proof.Proof.Gen.DownDx
public import proofs.«01_k».proof.Proof.Gen.DownDx.Frame
public import proofs.«01_k».proof.Proof.Gen.DownDxIdeal.Value
public import proofs.«01_k».proof.Proof.Gen.DownDxPlainIdeal.Run
public import proofs.«01_k».proof.Proof.Gen.DownDxPlainIdeal.Read
public import Idealize.ShloMosaic.Lib.Pipeline.ValueKit
public import Idealize.ShloMosaic.Lib.Claim

@[expose] public section
set_option maxRecDepth 16384
noncomputable section
namespace Cert.DownDxIdeal.Value
open Idealize.ShloMosaic Idealize.ShloMosaic.TcCoe Idealize.SL.Sem
open Idealize.ShloMosaic.Pipeline (Dat)
open Cert.DownDxIdeal Cert.DownDxIdeal.Gen Cert.DownDxPlainIdeal.Read

variable (m : (ℓ : Loc nD τ sig) → Buf (Elt Ideal) ℓ)

/-- Where the activation is negative the factor is zero, so masking the product changes nothing. -/
theorem gate (a c z : EReal) : (if 0 < z then a * (c * max z 0) else 0) = a * (c * max z 0) := by
  split_ifs with h
  · rfl
  · rw [max_eq_right (not_lt.mp h), mul_zero, mul_zero]

/-- Where each window's block sits at a point of the grid. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the host hands the call as the activation: the positive part of its argument. -/
theorem act (c : Dev nD) : V m c main_v1 = fun i => max (show EReal from m ((c : Thread nD τ).loc main_arg0) i) (0 : EReal) := by
  funext i
  simp only [V, hostOps0, hostOps0_1, List.flatten_cons, List.flatten_nil, List.append_nil, List.cons_append, List.nil_append]
  entry_read
  change maximumf (F := Ideal) (s := S8192x4096) (φ := .f32) (m ((c : Thread nD τ).loc main_arg0)) (broadcastInDim S8192x4096 ![] bcast_S_S8192x4096 (constant S_ .f32 0x00000000#32)) i = _
  pointwise

/-- The call's result is the reference's. -/
theorem final (c : Dev nD) : (dats m 0 c).arrAt 3 (cfgs 0).N
    = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v12, val_main_v11, val_main_v10, val_main_v9, val_main_v8, val_main_v6, val_main_v5, val_main_v3, val_main_v2, val_main_call0_cst, val_main_call0_v0, val_main_v1, val_main_v0, val_main_cst, val_main_cst_0, val_main_cst_1, val_main_cst_2]
  rw [gate]
  blk_point [iblk, idx t]
  refine congrArg _ ?_
  rw [act]
  exact congrArg (fun z : EReal => max z 0) (by blk_ext [idx t])

end Cert.DownDxIdeal.Value

namespace Cert.DownDxPlainIdeal
open Idealize.ShloMosaic Idealize.ShloMosaic.TcCoe Idealize.SL.Sem

/-- The reference stops, its arguments untouched. -/
theorem runs : Cert.quiescent_DownDxPlainIdeal (hDownDxPlainIdeal := Cert.DownDxPlainIdeal.Gen.facts) := by
  intro m g _
  hlo_run
  · exact fun _ => ⟨trivial, trivial, trivial⟩
  · exact sem_eq_zero_of_no_sems (sig := Cert.DownDxPlainIdeal.sig) (by decide) _

/-- Kernel and reference leave the same values. -/
theorem same_values : Cert.algebraic_DownDxIdeal_DownDxPlainIdeal (hDownDxIdeal := Cert.DownDxIdeal.Gen.facts) (hDownDxPlainIdeal := Cert.DownDxPlainIdeal.Gen.facts) := by
  pair_intro
  · run_from Cert.DownDxIdeal.Gen.run_main m g
    · exact Cert.DownDxIdeal.Gen.V_main_arg0 m _
    · exact Cert.DownDxIdeal.Gen.V_main_arg1 m _
    · exact Cert.DownDxIdeal.Gen.V_main_arg2 m _
  · run_from Cert.DownDxPlainIdeal.Value.run m' g'
    rw [Cert.DownDxIdeal.Value.final]
    refine (Cert.DownDxPlainIdeal.Read.val_main_v12_eq (F := Ideal) _ _ _).trans ?_
    first | rw [(hagree _).1, (hagree _).2.1, (hagree _).2.2] | rfl

end Cert.DownDxPlainIdeal
-- ==== Proof.Pairs.DownDw.lean ====
module

public import proofs.«01_k».proof.Defs
public import proofs.«01_k».proof.Proof.Gen.DownDw
public import proofs.«01_k».proof.Proof.Gen.DownDw.Frame
public import proofs.«01_k».proof.Proof.Gen.DownDwIdeal.Value
public import proofs.«01_k».proof.Proof.Gen.DownDwPlainIdeal.Run
public import proofs.«01_k».proof.Proof.Gen.DownDwPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.DownDwIdeal.Value
open Idealize.ShloMosaic Idealize.ShloMosaic.TcCoe Idealize.SL.Sem
open Idealize.ShloMosaic.Pipeline (Dat)
open Cert.DownDwIdeal Cert.DownDwIdeal.Gen Cert.DownDwPlainIdeal.Read

variable (m : (ℓ : Loc nD τ sig) → Buf (Elt Ideal) ℓ)

/-- What the host hands the call: the activation, the positive part of its argument. -/
theorem act (c : Dev nD) : V m c main_v1 = fun i => val_main_v0 (F := Ideal) (m ((c : Thread nD τ).loc main_arg0)) i := by
  funext i
  simp only [V, hostOps0, hostOps0_1, List.flatten_cons, List.flatten_nil, List.append_nil, List.cons_append, List.nil_append]
  entry_read
  rfl

/-- Where each window's block sits at a point of the grid. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- A sum over the rows is the sum over the first half and over the second. -/
theorem halves (f g : Fin 8192 → EReal) : ∑ l, g l * f l
    = (∑ k : Fin 4096, f ⟨k.val, by omega⟩ * g ⟨k.val, by omega⟩) + ∑ k : Fin 4096, f ⟨4096 + k.val, by omega⟩ * g ⟨4096 + k.val, by omega⟩ := by
  refine (Fin.sum_univ_add (a := 4096) (b := 4096) (fun l => g l * f l)).trans ?_
  exact congrArg₂ (· + ·) (Finset.sum_congr rfl fun k _ => mul_comm _ _) (Finset.sum_congr rfl fun k _ => mul_comm _ _)

/-- What the first half's point leaves in the accumulator. -/
theorem first (c : Dev nD) (t : Fin cfg0.N) (h : t.val % 2 = 0) (j : S1024x1024.Idx) :
    (outsAt0 m c t.val t.isLt).2 j = ∑ k : Fin 4096, ((show FVec Ideal S4096x1024 .bf16 from iblk m c 0 t) (ix2 k (j 0)) * (show FVec Ideal S4096x1024 .bf16 from iblk m c 0 t) (ix2 k (j 0))) * (show FVec Ideal S4096x1024 .bf16 from iblk m c 1 t) (ix2 k (j 1)) := by
  rw [outsAt0_A m c t h (by omega) (by omega)]
  frame_out
  pointwise [k0_pay1, k0_pay2]

/-- The call's result is the reference's: each block is the sum of its two halves' products. -/
theorem final (c : Dev nD) : (dats m 0 c).arrAt 2 (cfgs 0).N
    = val_main_v5 (F := Ideal) (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hN : t.val < 8 := lt_of_lt_of_eq t.isLt (show cfg0.N = 8 from N_0)
  have hp : t.val - 1 < cfg0.N := lt_of_le_of_lt (Nat.sub_le _ _) t.isLt
  have e0 := idx ⟨t.val - 1, hp⟩
  rw [show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega] at e0
  have e1 := idx t
  rw [h1] at e1
  blk_simp
  rw [after0_2, outsAt0_B m c t (by omega) h1 h1]
  have hA : ∀ j, (outsAt0 m c (t.val - 1) (Nat.lt_of_le_of_lt (Nat.sub_le _ _) t.isLt)).2 j = _ :=
    first m c ⟨t.val - 1, hp⟩ (by show (t.val - 1) % 2 = 0; omega)
  generalize (outsAt0 m c (t.val - 1) (Nat.lt_of_le_of_lt (Nat.sub_le _ _) t.isLt)).2 = S at hA ⊢
  frame_out
  pointwise [k0_pay1, k0_pay2, k0_pay3, k0_pay4, val_main_call0_cst, val_main_call0_v0, val_main_v1, val_main_v2, val_main_v3, val_main_v4, val_main_v5]
  try rw [read_unread_whole]
  rw [hA]
  refine Eq.trans ?_ (halves _ _).symm
  blk_simp [iblk]
  rw [act]
  blk_point [iblk, e0, e1]

end Cert.DownDwIdeal.Value

namespace Cert.DownDwPlainIdeal
open Idealize.ShloMosaic Idealize.ShloMosaic.TcCoe Idealize.SL.Sem

/-- The reference stops, its arguments untouched. -/
theorem runs : Cert.quiescent_DownDwPlainIdeal (hDownDwPlainIdeal := Cert.DownDwPlainIdeal.Gen.facts) := by
  intro m g _
  hlo_run
  · exact fun _ => ⟨trivial, trivial, trivial⟩
  · exact sem_eq_zero_of_no_sems (sig := Cert.DownDwPlainIdeal.sig) (by decide) _

/-- Kernel and reference leave the same values. -/
theorem same_values : Cert.algebraic_DownDwIdeal_DownDwPlainIdeal (hDownDwIdeal := Cert.DownDwIdeal.Gen.facts) (hDownDwPlainIdeal := Cert.DownDwPlainIdeal.Gen.facts) := by
  pair_intro
  · run_from Cert.DownDwIdeal.Gen.run_main m g
    · exact Cert.DownDwIdeal.Gen.V_main_arg0 m _
    · exact Cert.DownDwIdeal.Gen.V_main_arg1 m _
    · exact Cert.DownDwIdeal.Gen.V_main_arg2 m _
  · run_from Cert.DownDwPlainIdeal.Value.run m' g'
    rw [Cert.DownDwIdeal.Value.final]
    refine (Cert.DownDwPlainIdeal.Read.val_main_v5_eq (F := Ideal) _ _).trans ?_
    first | rw [(hagree _).1, (hagree _).2.2] | rfl

end Cert.DownDwPlainIdeal
-- ==== Proof.Pairs.RmsGrad.lean ====
module

public import Idealize.ShloMosaic.PureOps.Ideal
public import Idealize.ShloMosaic.PureOps.Ideal.Laws
public import Idealize.ShloMosaic.Lib.IdealHost

@[expose] public section
noncomputable section
namespace Cert.RmsGrad
open Idealize.ShloMosaic

/-- The length of a row. -/
theorem width : Ideal.ofBits .f32 0x44800000#32 = ((1024 : ℝ) : EReal) := by
  simp [Ideal.ofBits, Ideal.ieee, -EReal.coe_mul]; norm_num

/-- The factor of the derivative of the inverse root. -/
theorem minus_half : Ideal.ofBits .f32 0xBF000000#32 = ((-(1 / 2) : ℝ) : EReal) := by
  simp [Ideal.ofBits, Ideal.ieee, -EReal.coe_mul, -EReal.coe_neg]; norm_num

/-- The small constant under the root is a positive real. -/
theorem small : ∃ e : ℝ, 0 < e ∧ Ideal.ofBits .f32 0x358637BD#32 = (e : EReal) := by
  refine ⟨_, ?_, by simp [Ideal.ofBits, Ideal.ieee, -EReal.coe_mul]; rfl⟩
  positivity

theorem sq_nonneg (x : EReal) : 0 ≤ x * x := by
  rcases le_total 0 x with h | h
  · exact mul_nonneg h h
  · rw [← neg_mul_neg]
    exact mul_nonneg (by simpa using h) (by simpa using h)

/-- A real factor that is not negative goes through a finite sum of extended reals. -/
theorem sum_mul_pos {n : ℕ} (f : Fin n → EReal) (r : ℝ) (hr : 0 ≤ r) :
    ∑ k, f k * (r : EReal) = (∑ k, f k) * (r : EReal) := by
  induction n with
  | zero => simp
  | succ n ih =>
    rw [Fin.sum_univ_castSucc, Fin.sum_univ_castSucc, ih,
      EReal.right_distrib_of_nonneg_of_ne_top (by exact_mod_cast hr) (EReal.coe_ne_top r)]

theorem twice (w : EReal) (c : ℝ) (hc : c < 0) : w * (c : EReal) + w * (c : EReal) = w * ((2 * c : ℝ) : EReal) := by
  induction w with
  | bot => rw [EReal.bot_mul_coe_of_neg hc, EReal.bot_mul_coe_of_neg (by linarith)]; rfl
  | top => rw [EReal.top_mul_coe_of_neg hc, EReal.top_mul_coe_of_neg (by linarith)]; rfl
  | coe w => norm_cast; ring

/-- What a row's mean square plus a positive constant can be. -/
theorem mean_cases {n : ℕ} (x : Fin n → EReal) (e : ℝ) (he : 0 < e) :
    Ideal.div (∑ k, x k * x k) ((1024 : ℝ) : EReal) + (e : EReal) = ⊤
    ∨ ∃ a : ℝ, 0 < a ∧ Ideal.div (∑ k, x k * x k) ((1024 : ℝ) : EReal) + (e : EReal) = (a : EReal) := by
  have h0 : 0 ≤ Ideal.div (∑ k, x k * x k) ((1024 : ℝ) : EReal) := by
    rw [Ideal.div_coe (by norm_num)]
    exact mul_nonneg (Finset.sum_nonneg fun k _ => sq_nonneg _) (by exact_mod_cast (by norm_num : (0 : ℝ) ≤ 1 / 1024))
  generalize Ideal.div (∑ k, x k * x k) ((1024 : ℝ) : EReal) = d at h0 ⊢
  induction d with
  | bot => exact absurd h0 (by simp)
  | top => exact .inl rfl
  | coe d => exact .inr ⟨d + e, by have : (0 : ℝ) ≤ d := by exact_mod_cast h0
                                   linarith, by norm_cast⟩

/-- The gradient of the root mean square norm: the closed form of the kernel is what the
    derivative of the plain formula says, on every extended real. -/
theorem grad {n : ℕ} (x t : Fin n → EReal) (y s h : EReal) (N E H : EReal)
    (hN : N = ((1024 : ℝ) : EReal)) (hE : ∃ e : ℝ, 0 < e ∧ E = (e : EReal)) (hH : H = ((-(1 / 2) : ℝ) : EReal)) :
    h + Ideal.rsqrt (Ideal.div (∑ k, x k * x k) N + E)
        * (s - y * Ideal.rsqrt (Ideal.div (∑ k, x k * x k) N + E)
          * Ideal.div (∑ k, t k * (x k * Ideal.rsqrt (Ideal.div (∑ k, x k * x k) N + E))) N)
    = h + s * Ideal.rsqrt (Ideal.div (∑ k, x k * x k) N + E)
      + y * Ideal.div ((∑ k, x k * t k) * (H * Ideal.div (Ideal.rsqrt (Ideal.div (∑ k, x k * x k) N + E)) (Ideal.div (∑ k, x k * x k) N + E))) N
      + Ideal.div ((∑ k, x k * t k) * (H * Ideal.div (Ideal.rsqrt (Ideal.div (∑ k, x k * x k) N + E)) (Ideal.div (∑ k, x k * x k) N + E))) N * y := by
  obtain ⟨e, he, rfl⟩ := hE
  subst hN hH
  rcases mean_cases x e he with hv | ⟨a, ha, hv⟩
  · rw [hv, Ideal.rsqrt_top]
    have hd : Ideal.div 0 (⊤ : EReal) = 0 := by rw [Ideal.div, if_neg (by simp), zero_mul]
    have hz : Ideal.div 0 ((1024 : ℝ) : EReal) = 0 := by rw [Ideal.div_coe (by norm_num), zero_mul]
    simp only [hd, mul_zero, hz, zero_mul, add_zero]
  · have hr : Ideal.rsqrt (a : EReal) = (((Real.sqrt a)⁻¹ : ℝ) : EReal) := by
      rw [Ideal.rsqrt_coe, if_neg (not_lt.mpr ha.le), if_neg ha.ne']
    have hp : 0 < (Real.sqrt a)⁻¹ := inv_pos.mpr (Real.sqrt_pos.mpr ha)
    have hq : (Real.sqrt a)⁻¹ * (Real.sqrt a)⁻¹ = 1 / a := by
      rw [← mul_inv, Real.mul_self_sqrt ha.le, one_div]
    rw [hv, hr]
    generalize (Real.sqrt a)⁻¹ = r at hp hq
    have hs : ∑ k, t k * (x k * (r : EReal)) = (∑ k, x k * t k) * (r : EReal) := by
      rw [← sum_mul_pos _ _ hp.le]
      exact Finset.sum_congr rfl fun k _ => by rw [← mul_assoc, mul_comm (t k)]
    rw [hs]
    generalize ∑ k, x k * t k = A
    rw [Ideal.div_coe (by norm_num), Ideal.div_coe (by norm_num), Ideal.div_coe ha.ne', sub_eq_add_neg,
      EReal.left_distrib_of_nonneg_of_ne_top (by exact_mod_cast hp.le) (EReal.coe_ne_top r), add_assoc (h + s * _), ← add_assoc h]
    have hc : -(1 / 2) * (r * (1 / a)) * (1 / 1024) < 0 := by
      have : 0 < r * (1 / a) := by positivity
      nlinarith
    have e1 : y * (A * (((-(1 / 2) : ℝ) : EReal) * ((r : EReal) * ((1 / a : ℝ) : EReal))) * ((1 / 1024 : ℝ) : EReal))
        = (y * A) * ((-(1 / 2) * (r * (1 / a)) * (1 / 1024) : ℝ) : EReal) := by
      push_cast; ac_rfl
    rw [mul_comm (A * _ * _) y, e1, twice _ _ hc, mul_comm (r : EReal) s]
    congr 1
    have e2 : 2 * (-(1 / 2) * (r * (1 / a)) * (1 / 1024)) = -(r * (r * r) * (1 / 1024)) := by rw [hq]; ring
    rw [e2, EReal.coe_neg, mul_neg, mul_neg]
    congr 1
    push_cast; ac_rfl

end Cert.RmsGrad
-- ==== Proof.Pairs.UpDx.lean ====
module

public import proofs.«01_k».proof.Defs
public import proofs.«01_k».proof.Proof.Gen.UpDx
public import proofs.«01_k».proof.Proof.Gen.UpDx.Frame
public import proofs.«01_k».proof.Proof.Gen.UpDxIdeal.Value
public import proofs.«01_k».proof.Proof.Gen.UpDxPlainIdeal.Run
public import proofs.«01_k».proof.Proof.Gen.UpDxPlainIdeal.Read
public import Idealize.ShloMosaic.Lib.Pipeline.ValueKit
public import Idealize.ShloMosaic.Lib.Pipeline.ReadBack
public import Idealize.ShloMosaic.Lib.Claim
public import proofs.«01_k».proof.Proof.Pairs.RmsGrad

@[expose] public section
set_option maxRecDepth 16384
noncomputable section
namespace Cert.UpDxIdeal.Value
open Idealize.ShloMosaic Idealize.ShloMosaic.TcCoe Idealize.SL.Sem
open Idealize.ShloMosaic.Pipeline (Dat)
open Cert.UpDxIdeal Cert.UpDxIdeal.Gen Cert.UpDxPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- The gradient of the rows. -/
theorem final (c : Dev nD) : (dats m 0 c).arrAt 5 (cfgs 0).N
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 16 := t.isLt
  blk_simp
  rw [after0_5]
  by_cases h : t.val = 0
  · rw [outsAt0_A m c t (by omega) (by omega)]
    frame_out
    pointwise [k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 4096, (show FVec Ideal S512x4096 .bf16 from iblk m c 0 t) (ix2 (y 0) l) * (show FVec Ideal S1024x4096 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]
  · rw [outsAt0_B m c t (by omega) (by omega)]
    frame_out
    pointwise [k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 4096, (show FVec Ideal S512x4096 .bf16 from iblk m c 0 t) (ix2 (y 0) l) * (show FVec Ideal S1024x4096 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]

/-- The second result, the same gradient for the product that follows. -/
theorem final_copy (c : Dev nD) : (dats m 0 c).arrAt 6 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 16 := t.isLt
  blk_simp
  rw [after0_6]
  by_cases h : t.val = 0
  · rw [outsAt0_A m c t (by omega) (by omega)]
    frame_out
    pointwise [k0_pay2, k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 4096, (show FVec Ideal S512x4096 .bf16 from iblk m c 0 t) (ix2 (y 0) l) * (show FVec Ideal S1024x4096 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]
  · rw [outsAt0_B m c t (by omega) (by omega)]
    frame_out
    pointwise [k0_pay2, k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 4096, (show FVec Ideal S512x4096 .bf16 from iblk m c 0 t) (ix2 (y 0) l) * (show FVec Ideal S1024x4096 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]

/-- What one point adds to the gradient of the gain. -/
def part (c : Dev nD) (t : Fin cfg0.N) (j : S1x1024.Idx) : EReal :=
  ∑ k : Fin 512, (∑ l : Fin 4096, (show FVec Ideal S512x4096 .bf16 from iblk m c 0 t) (ix2 k l) * (show FVec Ideal S1024x4096 .bf16 from iblk m c 1 t) (ix2 (j 1) l)) * ((show FVec Ideal S512x1024 .f32 from iblk m c 2 t) (ix2 k (j 1)) * Ideal.rsqrt (Ideal.div (∑ l : Fin 1024, (show FVec Ideal S512x1024 .f32 from iblk m c 2 t) (ix2 k l) * (show FVec Ideal S512x1024 .f32 from iblk m c 2 t) (ix2 k l)) (Ideal.ofBits .f32 0x44800000#32) + Ideal.ofBits .f32 0x358637BD#32))

theorem gain_first (c : Dev nD) (t : Fin cfg0.N) (h : t.val % 16 = 0) (j : S1x1024.Idx) :
    (outsAt0 m c t.val t.isLt).2.2 j = 0 + part m c t j := by
  have hN : t.val < 16 := t.isLt
  rw [outsAt0_A m c t h (by omega), zero_add, part]
  frame_out
  pointwise [k0_pay6, k0_pay3, k0_pay4, k0_pay5]

theorem gain_next (c : Dev nD) (t : Fin cfg0.N) (h : ¬ t.val % 16 = 0) (j : S1x1024.Idx) :
    (outsAt0 m c t.val t.isLt).2.2 j = (outsAt0 m c (t.val - 1) (Nat.lt_of_le_of_lt (Nat.sub_le _ _) t.isLt)).2.2 j + part m c t j := by
  have hN : t.val < 16 := t.isLt
  rw [outsAt0_B m c t h (by omega), part]
  frame_out
  pointwise [k0_pay1, k0_pay6, k0_pay3, k0_pay4, k0_pay5]

/-- The gradient of the gain. -/
theorem final_gain (c : Dev nD) : (dats m 0 c).arrAt 7 (cfgs 0).N
    = val_main_v19 (F := Ideal) (m ((c : Thread nD τ).loc main_arg0)) (m ((c : Thread nD τ).loc main_arg2)) (m ((c : Thread nD τ).loc main_arg4)) := by
  refine (dats m 0 c).arrAt_eq_of_covers 7 _ (by decide +kernel) fun t hf y => ?_
  have hN : t.val < 16 := t.isLt
  have h15 : t.val = 15 := by have := (flush0_7 t).mp hf; omega
  blk_simp
  rw [after0_7]
  refine (Pipeline.eq_sum_fin_of_reset_step_apply_of_flush (fun n h => (outsAt0 m c n h).2.2) 16 (fun _ => (0 : EReal)) _
    (fun t h j => gain_first m c t h j) (fun t h j => gain_next m c t h j) t ((flush0_7 t).mp hf) _).trans ?_
  rw [zero_add]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
  simp only [part]
  refine Fin.sum_mul_add_congr fun s k hl => ?_
  blk_point [iblk, idx ⟨_, Pipeline.run_point_lt_of_flush t ((flush0_7 t).mp hf) s⟩, idx t]

end Cert.UpDxIdeal.Value

namespace Cert.UpDxPlainIdeal
open Idealize.ShloMosaic Idealize.ShloMosaic.TcCoe Idealize.SL.Sem

/-- The reference stops, its arguments untouched. -/
theorem runs : Cert.quiescent_UpDxPlainIdeal (hUpDxPlainIdeal := Cert.UpDxPlainIdeal.Gen.facts) := by
  intro m g _
  hlo_run
  · exact fun _ => ⟨trivial, trivial, trivial, trivial, trivial⟩
  · exact sem_eq_zero_of_no_sems (sig := Cert.UpDxPlainIdeal.sig) (by decide) _

/-- Kernel and reference leave the same values. -/
theorem same_values : Cert.algebraic_UpDxIdeal_UpDxPlainIdeal (hUpDxIdeal := Cert.UpDxIdeal.Gen.facts) (hUpDxPlainIdeal := Cert.UpDxPlainIdeal.Gen.facts) := by
  pair_intro
  · run_from Cert.UpDxIdeal.Gen.run_main m g
  · refine Idealize.ShloMosaic.θ_run_mono (Cert.UpDxPlainIdeal.Value.run m' g') ?_
    intro r hr c
    obtain ⟨h0, h1, h2, ha⟩ := hr c
    obtain ⟨a0, a1, a2, a3, a4⟩ := hagree c
    have e0 := (Cert.UpDxPlainIdeal.Read.val_main_v36_eq m' c)
    rw [a0, a1, a2, a3, a4] at e0
    have e1 := (Cert.UpDxPlainIdeal.Read.val_main_v37_eq m' c)
    rw [a0, a1, a2, a3, a4] at e1
    have e2 := h2.trans (Cert.UpDxPlainIdeal.Read.val_main_v19_eq (F := Ideal) _ _ _)
    rw [a0, a2, a4] at e2
    exact ⟨h0.trans (e0.trans (Cert.UpDxIdeal.Value.final m c).symm), h1.trans (e1.trans (Cert.UpDxIdeal.Value.final_copy m c).symm), e2.trans ((Cert.UpDxIdeal.Value.final_gain m c).symm), ha⟩

end Cert.UpDxPlainIdeal
-- ==== Proof.Pairs.UpDw.lean ====
module

public import proofs.«01_k».proof.Defs
public import proofs.«01_k».proof.Proof.Gen.UpDw
public import proofs.«01_k».proof.Proof.Gen.UpDw.Frame
public import proofs.«01_k».proof.Proof.Gen.UpDwIdeal.Value
public import proofs.«01_k».proof.Proof.Gen.UpDwPlainIdeal.Run
public import proofs.«01_k».proof.Proof.Gen.UpDwPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.UpDwIdeal.Value
open Idealize.ShloMosaic Idealize.ShloMosaic.TcCoe Idealize.SL.Sem
open Idealize.ShloMosaic.Pipeline (Dat)
open Cert.UpDwIdeal Cert.UpDwIdeal.Gen Cert.UpDwPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- A sum over the rows is the sum over the first half and over the second. -/
theorem halves (f g : Fin 8192 → EReal) : ∑ l, g l * f l
    = (∑ k : Fin 4096, f ⟨k.val, by omega⟩ * g ⟨k.val, by omega⟩) + ∑ k : Fin 4096, f ⟨4096 + k.val, by omega⟩ * g ⟨4096 + k.val, by omega⟩ := by
  refine (Fin.sum_univ_add (a := 4096) (b := 4096) (fun l => g l * f l)).trans ?_
  exact congrArg₂ (· + ·) (Finset.sum_congr rfl fun k _ => mul_comm _ _) (Finset.sum_congr rfl fun k _ => mul_comm _ _)

/-- What the first half's point leaves in the accumulator. -/
theorem first (c : Dev nD) (t : Fin cfg0.N) (h : t.val % 2 = 0) (j : S1024x1024.Idx) :
    (outsAt0 m c t.val t.isLt).2 j = ∑ k : Fin 4096, (show FVec Ideal S4096x1024 .bf16 from iblk m c 0 t) (ix2 k (j 0)) * (show FVec Ideal S4096x1024 .bf16 from iblk m c 1 t) (ix2 k (j 1)) := by
  rw [outsAt0_A m c t h (by omega) (by omega)]
  frame_out
  pointwise [k0_pay1, k0_pay2]

/-- The call's result is the reference's: each block is the sum of its two halves' products. -/
theorem final (c : Dev nD) : (dats m 0 c).arrAt 2 (cfgs 0).N
    = val_main_v15 (F := Ideal) (m ((c : Thread nD τ).loc main_arg0)) (m ((c : Thread nD τ).loc main_arg1)) (m ((c : Thread nD τ).loc main_arg3)) := by
  refine (dats m 0 c).arrAt_eq_of_covers 2 _ (by decide +kernel) fun t hf y => ?_
  have h1 : t.val % 2 = 1 := (flush0_2 t).mp hf
  have hN : t.val < 8 := lt_of_lt_of_eq t.isLt (show cfg0.N = 8 from N_0)
  have hp : t.val - 1 < cfg0.N := lt_of_le_of_lt (Nat.sub_le _ _) t.isLt
  have e0 := idx ⟨t.val - 1, hp⟩
  rw [show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega] at e0
  have e1 := idx t
  rw [h1] at e1
  blk_simp
  rw [after0_2, outsAt0_B m c t (by omega) h1 h1]
  have hA : ∀ j, (outsAt0 m c (t.val - 1) (Nat.lt_of_le_of_lt (Nat.sub_le _ _) t.isLt)).2 j = _ :=
    first m c ⟨t.val - 1, hp⟩ (by show (t.val - 1) % 2 = 0; omega)
  generalize (outsAt0 m c (t.val - 1) (Nat.lt_of_le_of_lt (Nat.sub_le _ _) t.isLt)).2 = S at hA ⊢
  frame_out
  pointwise [k0_pay1, k0_pay2, k0_pay3, k0_pay4, val_main_cst, val_main_cst_0, val_main_cst_1, val_main_v13, val_main_v14, val_main_v15]
  try rw [read_unread_whole]
  rw [hA]
  refine Eq.trans ?_ (halves _ _).symm
  blk_simp [iblk]
  rw [normed]
  blk_point [iblk, e0, e1]

end Cert.UpDwIdeal.Value

namespace Cert.UpDwPlainIdeal
open Idealize.ShloMosaic Idealize.ShloMosaic.TcCoe Idealize.SL.Sem

/-- The reference stops, its arguments untouched. -/
theorem runs : Cert.quiescent_UpDwPlainIdeal (hUpDwPlainIdeal := Cert.UpDwPlainIdeal.Gen.facts) := by
  intro m g _
  hlo_run
  · exact fun _ => ⟨trivial, trivial, trivial, trivial⟩
  · exact sem_eq_zero_of_no_sems (sig := Cert.UpDwPlainIdeal.sig) (by decide) _

/-- Kernel and reference leave the same values. -/
theorem same_values : Cert.algebraic_UpDwIdeal_UpDwPlainIdeal (hUpDwIdeal := Cert.UpDwIdeal.Gen.facts) (hUpDwPlainIdeal := Cert.UpDwPlainIdeal.Gen.facts) := by
  pair_intro
  · run_from Cert.UpDwIdeal.Gen.run_main m g
  · run_from Cert.UpDwPlainIdeal.Value.run m' g'
    rw [Cert.UpDwIdeal.Value.final]
    refine (Cert.UpDwPlainIdeal.Read.val_main_v15_eq (F := Ideal) _ _ _).trans ?_
    first | rw [(hagree _).1, (hagree _).2.1, (hagree _).2.2.2] | rfl

end Cert.UpDwPlainIdeal
-- ==== Proof.Pairs.OutDx.lean ====
module

public import proofs.«01_k».proof.Defs
public import proofs.«01_k».proof.Proof.Gen.OutDx
public import proofs.«01_k».proof.Proof.Gen.OutDx.Frame
public import proofs.«01_k».proof.Proof.Gen.OutDxIdeal.Value
public import proofs.«01_k».proof.Proof.Gen.OutDxPlainIdeal.Run
public import proofs.«01_k».proof.Proof.Gen.OutDxPlainIdeal.Read
public import Idealize.ShloMosaic.Lib.Pipeline.ValueKit
public import Idealize.ShloMosaic.Lib.Claim

@[expose] public section
set_option maxRecDepth 16384
noncomputable section
namespace Cert.OutDxIdeal.Value
open Idealize.ShloMosaic Idealize.ShloMosaic.TcCoe Idealize.SL.Sem
open Idealize.ShloMosaic.Pipeline (Dat)
open Cert.OutDxIdeal Cert.OutDxIdeal.Gen Cert.OutDxPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![0, 0] ∧ win0_2.index t = ![t.val, 0] :=
  (by decide +kernel : ∀ t : Fin grid0.N, _)

/-- The call's result is the reference's. -/
theorem final (c : Dev nD) : (dats m 0 c).arrAt 2 (cfgs 0).N
    = val_main_v1 (F := Ideal) (m ((c : Thread nD τ).loc main_arg1)) (m ((c : Thread nD τ).loc main_arg2)) := by
  refine (dats m 0 c).arrAt_eq_of_covers 2 _ (by decide +kernel) fun t hf y => ?_
  blk_simp
  rw [after0_2]
  frame_out
  pointwise [k0_pay1, val_main_v0, val_main_v1]
  blk_point [iblk, idx t]

end Cert.OutDxIdeal.Value

namespace Cert.OutDxPlainIdeal
open Idealize.ShloMosaic Idealize.ShloMosaic.TcCoe Idealize.SL.Sem

/-- The reference stops, its arguments untouched. -/
theorem runs : Cert.quiescent_OutDxPlainIdeal (hOutDxPlainIdeal := Cert.OutDxPlainIdeal.Gen.facts) := by
  intro m g _
  hlo_run
  · exact fun _ => ⟨trivial, trivial, trivial⟩
  · exact sem_eq_zero_of_no_sems (sig := Cert.OutDxPlainIdeal.sig) (by decide) _

/-- Kernel and reference leave the same values. -/
theorem same_values : Cert.algebraic_OutDxIdeal_OutDxPlainIdeal (hOutDxIdeal := Cert.OutDxIdeal.Gen.facts) (hOutDxPlainIdeal := Cert.OutDxPlainIdeal.Gen.facts) := by
  pair_intro
  · run_from Cert.OutDxIdeal.Gen.run_main m g
  · run_from Cert.OutDxPlainIdeal.Value.run m' g'
    rw [Cert.OutDxIdeal.Value.final]
    refine (Cert.OutDxPlainIdeal.Read.val_main_v1_eq (F := Ideal) _ _).trans ?_
    first | rw [(hagree _).2.1, (hagree _).2.2] | rfl

end Cert.OutDxPlainIdeal
-- ==== Proof.Pairs.OutDw.lean ====
module

public import proofs.«01_k».proof.Defs
public import proofs.«01_k».proof.Proof.Gen.OutDw
public import proofs.«01_k».proof.Proof.Gen.OutDw.Frame
public import proofs.«01_k».proof.Proof.Gen.OutDwIdeal.Value
public import proofs.«01_k».proof.Proof.Gen.OutDwPlainIdeal.Run
public import proofs.«01_k».proof.Proof.Gen.OutDwPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.OutDwIdeal.Value
open Idealize.ShloMosaic Idealize.ShloMosaic.TcCoe Idealize.SL.Sem
open Idealize.ShloMosaic.Pipeline (Dat)
open Cert.OutDwIdeal Cert.OutDwIdeal.Gen Cert.OutDwPlainIdeal.Read

variable (m : (ℓ : Loc nD τ sig) → Buf (Elt Ideal) ℓ)

/-- Where each window's block sits at a point of the grid. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- A sum over the rows is the sum over the first half and over the second. -/
theorem halves (f g : Fin 8192 → EReal) : ∑ l, g l * f l
    = (∑ k : Fin 4096, f ⟨k.val, by omega⟩ * g ⟨k.val, by omega⟩) + ∑ k : Fin 4096, f ⟨4096 + k.val, by omega⟩ * g ⟨4096 + k.val, by omega⟩ := by
  refine (Fin.sum_univ_add (a := 4096) (b := 4096) (fun l => g l * f l)).trans ?_
  exact congrArg₂ (· + ·) (Finset.sum_congr rfl fun k _ => mul_comm _ _) (Finset.sum_congr rfl fun k _ => mul_comm _ _)

/-- What the first half's point leaves in the accumulator. -/
theorem first (c : Dev nD) (t : Fin cfg0.N) (h : t.val % 2 = 0) (j : S1024x1024.Idx) :
    (outsAt0 m c t.val t.isLt).2 j = ∑ k : Fin 4096, (show FVec Ideal S4096x1024 .bf16 from iblk m c 0 t) (ix2 k (j 0)) * (show FVec Ideal S4096x1024 .bf16 from iblk m c 1 t) (ix2 k (j 1)) := by
  rw [outsAt0_A m c t h (by omega) (by omega)]
  frame_out
  pointwise [k0_pay1, k0_pay2]

/-- The call's result is the reference's: each block is the sum of its two halves' products. -/
theorem final (c : Dev nD) : (dats m 0 c).arrAt 2 (cfgs 0).N
    = val_main_v3 (F := Ideal) (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hN : t.val < 2 := lt_of_lt_of_eq t.isLt (show cfg0.N = 2 from N_0)
  have hp : t.val - 1 < cfg0.N := lt_of_le_of_lt (Nat.sub_le _ _) t.isLt
  have e0 := idx ⟨t.val - 1, hp⟩
  rw [show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega] at e0
  have e1 := idx t
  rw [h1] at e1
  blk_simp
  rw [after0_2, outsAt0_B m c t (by omega) h1 h1]
  have hA : ∀ j, (outsAt0 m c (t.val - 1) (Nat.lt_of_le_of_lt (Nat.sub_le _ _) t.isLt)).2 j = _ :=
    first m c ⟨t.val - 1, hp⟩ (by show (t.val - 1) % 2 = 0; omega)
  generalize (outsAt0 m c (t.val - 1) (Nat.lt_of_le_of_lt (Nat.sub_le _ _) t.isLt)).2 = S at hA ⊢
  frame_out
  pointwise [k0_pay1, k0_pay2, k0_pay3, k0_pay4, val_main_v0, val_main_v1, val_main_v2, val_main_v3]
  try rw [read_unread_whole]
  rw [hA]
  refine Eq.trans ?_ (halves _ _).symm
  blk_point [iblk, e0, e1]

end Cert.OutDwIdeal.Value

namespace Cert.OutDwPlainIdeal
open Idealize.ShloMosaic Idealize.ShloMosaic.TcCoe Idealize.SL.Sem

/-- The reference stops, its arguments untouched. -/
theorem runs : Cert.quiescent_OutDwPlainIdeal (hOutDwPlainIdeal := Cert.OutDwPlainIdeal.Gen.facts) := by
  intro m g _
  hlo_run
  · exact fun _ => ⟨trivial, trivial, trivial⟩
  · exact sem_eq_zero_of_no_sems (sig := Cert.OutDwPlainIdeal.sig) (by decide) _

/-- Kernel and reference leave the same values. -/
theorem same_values : Cert.algebraic_OutDwIdeal_OutDwPlainIdeal (hOutDwIdeal := Cert.OutDwIdeal.Gen.facts) (hOutDwPlainIdeal := Cert.OutDwPlainIdeal.Gen.facts) := by
  pair_intro
  · run_from Cert.OutDwIdeal.Gen.run_main m g
  · run_from Cert.OutDwPlainIdeal.Value.run m' g'
    rw [Cert.OutDwIdeal.Value.final]
    refine (Cert.OutDwPlainIdeal.Read.val_main_v3_eq (F := Ideal) _ _).trans ?_
    first | rw [(hagree _).1, (hagree _).2.2] | rfl

end Cert.OutDwPlainIdeal
-- ==== Proof.Pairs.ScDx.lean ====
module

public import proofs.«01_k».proof.Defs
public import proofs.«01_k».proof.Proof.Gen.ScDx
public import proofs.«01_k».proof.Proof.Gen.ScDx.Frame
public import proofs.«01_k».proof.Proof.Gen.ScDxIdeal.Value
public import proofs.«01_k».proof.Proof.Gen.ScDxPlainIdeal.Run
public import proofs.«01_k».proof.Proof.Gen.ScDxPlainIdeal.Read
public import Idealize.ShloMosaic.Lib.Pipeline.ValueKit
public import Idealize.ShloMosaic.Lib.Pipeline.ReadBack
public import Idealize.ShloMosaic.Lib.Claim
public import proofs.«01_k».proof.Proof.Pairs.RmsGrad

@[expose] public section
set_option maxRecDepth 16384
noncomputable section
namespace Cert.ScDxIdeal.Value
open Idealize.ShloMosaic Idealize.ShloMosaic.TcCoe Idealize.SL.Sem
open Idealize.ShloMosaic.Pipeline (Dat)
open Cert.ScDxIdeal Cert.ScDxIdeal.Gen Cert.ScDxPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- The gradient of the rows. -/
theorem final (c : Dev nD) : (dats m 0 c).arrAt 5 (cfgs 0).N
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 16 := t.isLt
  blk_simp
  rw [after0_5]
  by_cases h : t.val = 0
  · rw [outsAt0_A m c t (by omega) (by omega)]
    frame_out
    pointwise [k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 3072, (show FVec Ideal S512x3072 .bf16 from iblk m c 0 t) (ix2 (y 0) l) * (show FVec Ideal S1024x3072 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]
  · rw [outsAt0_B m c t (by omega) (by omega)]
    frame_out
    pointwise [k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 3072, (show FVec Ideal S512x3072 .bf16 from iblk m c 0 t) (ix2 (y 0) l) * (show FVec Ideal S1024x3072 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]

/-- The second result, the same gradient for the product that follows. -/
theorem final_copy (c : Dev nD) : (dats m 0 c).arrAt 6 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 16 := t.isLt
  blk_simp
  rw [after0_6]
  by_cases h : t.val = 0
  · rw [outsAt0_A m c t (by omega) (by omega)]
    frame_out
    pointwise [k0_pay2, k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 3072, (show FVec Ideal S512x3072 .bf16 from iblk m c 0 t) (ix2 (y 0) l) * (show FVec Ideal S1024x3072 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]
  · rw [outsAt0_B m c t (by omega) (by omega)]
    frame_out
    pointwise [k0_pay2, k0_pay7, k0_pay3, k0_pay4, k0_pay5, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
    refine (Cert.RmsGrad.grad (n := 1024) (fun k => (show FVec Ideal S512x1024 .f32 from iblk m c 2 t) (ix2 (y 0) k))
      (fun k => (∑ l : Fin 3072, (show FVec Ideal S512x3072 .bf16 from iblk m c 0 t) (ix2 (y 0) l) * (show FVec Ideal S1024x3072 .bf16 from iblk m c 1 t) (ix2 k l)) * (show FVec Ideal S1x1024 .f32 from iblk m c 4 t) (ix2 0 k)) _ _ _ _ _ _ Cert.RmsGrad.width Cert.RmsGrad.small Cert.RmsGrad.minus_half).trans ?_
    simp only [Finset.univ_unique, Finset.sum_singleton]
    blk_point [iblk, idx t]

/-- What one point adds to the gradient of the gain. -/
def part (c : Dev nD) (t : Fin cfg0.N) (j : S1x1024.Idx) : EReal :=
  ∑ k : Fin 512, (∑ l : Fin 3072, (show FVec Ideal S512x3072 .bf16 from iblk m c 0 t) (ix2 k l) * (show FVec Ideal S1024x3072 .bf16 from iblk m c 1 t) (ix2 (j 1) l)) * ((show FVec Ideal S512x1024 .f32 from iblk m c 2 t) (ix2 k (j 1)) * Ideal.rsqrt (Ideal.div (∑ l : Fin 1024, (show FVec Ideal S512x1024 .f32 from iblk m c 2 t) (ix2 k l) * (show FVec Ideal S512x1024 .f32 from iblk m c 2 t) (ix2 k l)) (Ideal.ofBits .f32 0x44800000#32) + Ideal.ofBits .f32 0x358637BD#32))

theorem gain_first (c : Dev nD) (t : Fin cfg0.N) (h : t.val % 16 = 0) (j : S1x1024.Idx) :
    (outsAt0 m c t.val t.isLt).2.2 j = 0 + part m c t j := by
  have hN : t.val < 16 := t.isLt
  rw [outsAt0_A m c t h (by omega), zero_add, part]
  frame_out
  pointwise [k0_pay6, k0_pay3, k0_pay4, k0_pay5]

theorem gain_next (c : Dev nD) (t : Fin cfg0.N) (h : ¬ t.val % 16 = 0) (j : S1x1024.Idx) :
    (outsAt0 m c t.val t.isLt).2.2 j = (outsAt0 m c (t.val - 1) (Nat.lt_of_le_of_lt (Nat.sub_le _ _) t.isLt)).2.2 j + part m c t j := by
  have hN : t.val < 16 := t.isLt
  rw [outsAt0_B m c t h (by omega), part]
  frame_out
  pointwise [k0_pay1, k0_pay6, k0_pay3, k0_pay4, k0_pay5]

/-- The gradient of the gain. -/
theorem final_gain (c : Dev nD) : (dats m 0 c).arrAt 7 (cfgs 0).N
    = val_main_v19 (F := Ideal) (m ((c : Thread nD τ).loc main_arg0)) (m ((c : Thread nD τ).loc main_arg2)) (m ((c : Thread nD τ).loc main_arg4)) := by
  refine (dats m 0 c).arrAt_eq_of_covers 7 _ (by decide +kernel) fun t hf y => ?_
  have hN : t.val < 16 := t.isLt
  have h15 : t.val = 15 := by have := (flush0_7 t).mp hf; omega
  blk_simp
  rw [after0_7]
  refine (Pipeline.eq_sum_fin_of_reset_step_apply_of_flush (fun n h => (outsAt0 m c n h).2.2) 16 (fun _ => (0 : EReal)) _
    (fun t h j => gain_first m c t h j) (fun t h j => gain_next m c t h j) t ((flush0_7 t).mp hf) _).trans ?_
  rw [zero_add]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36, val_main_v37]
  simp only [part]
  refine Fin.sum_mul_add_congr fun s k hl => ?_
  blk_point [iblk, idx ⟨_, Pipeline.run_point_lt_of_flush t ((flush0_7 t).mp hf) s⟩, idx t]

end Cert.ScDxIdeal.Value

namespace Cert.ScDxPlainIdeal
open Idealize.ShloMosaic Idealize.ShloMosaic.TcCoe Idealize.SL.Sem

/-- The reference stops, its arguments untouched. -/
theorem runs : Cert.quiescent_ScDxPlainIdeal (hScDxPlainIdeal := Cert.ScDxPlainIdeal.Gen.facts) := by
  intro m g _
  hlo_run
  · exact fun _ => ⟨trivial, trivial, trivial, trivial, trivial⟩
  · exact sem_eq_zero_of_no_sems (sig := Cert.ScDxPlainIdeal.sig) (by decide) _

/-- Kernel and reference leave the same values. -/
theorem same_values : Cert.algebraic_ScDxIdeal_ScDxPlainIdeal (hScDxIdeal := Cert.ScDxIdeal.Gen.facts) (hScDxPlainIdeal := Cert.ScDxPlainIdeal.Gen.facts) := by
  pair_intro
  · run_from Cert.ScDxIdeal.Gen.run_main m g
  · refine Idealize.ShloMosaic.θ_run_mono (Cert.ScDxPlainIdeal.Value.run m' g') ?_
    intro r hr c
    obtain ⟨h0, h1, h2, ha⟩ := hr c
    obtain ⟨a0, a1, a2, a3, a4⟩ := hagree c
    have e0 := (Cert.ScDxPlainIdeal.Read.val_main_v36_eq m' c)
    rw [a0, a1, a2, a3, a4] at e0
    have e1 := (Cert.ScDxPlainIdeal.Read.val_main_v37_eq m' c)
    rw [a0, a1, a2, a3, a4] at e1
    have e2 := h2.trans (Cert.ScDxPlainIdeal.Read.val_main_v19_eq (F := Ideal) _ _ _)
    rw [a0, a2, a4] at e2
    exact ⟨h0.trans (e0.trans (Cert.ScDxIdeal.Value.final m c).symm), h1.trans (e1.trans (Cert.ScDxIdeal.Value.final_copy m c).symm), e2.trans ((Cert.ScDxIdeal.Value.final_gain m c).symm), ha⟩

end Cert.ScDxPlainIdeal
-- ==== Proof.Pairs.ProjConv.lean ====
module

public import proofs.«01_k».proof.Defs
public import proofs.«01_k».proof.Proof.Gen.ProjConv
public import proofs.«01_k».proof.Proof.Gen.ProjConv.Frame
public import proofs.«01_k».proof.Proof.Gen.ProjConvIdeal.Value
public import proofs.«01_k».proof.Proof.Gen.ProjConvPlainIdeal.Run
public import proofs.«01_k».proof.Proof.Gen.ProjConvPlainIdeal.Read
public import Idealize.ShloMosaic.Lib.Pipeline.ValueKit
public import Idealize.ShloMosaic.Lib.Claim

@[expose] public section
set_option maxRecDepth 16384
noncomputable section
namespace Cert.ProjConvIdeal.Value
open Idealize.ShloMosaic Idealize.ShloMosaic.TcCoe Idealize.SL.Sem
open Idealize.ShloMosaic.Pipeline (Dat)
open Cert.ProjConvIdeal Cert.ProjConvIdeal.Gen Cert.ProjConvPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val, 0] ∧ win0_1.index t = ![0, 0] ∧ win0_2.index t = ![t.val, 0] :=
  (by decide +kernel : ∀ t : Fin grid0.N, _)

/-- The weight's block the call reads is whole: its first columns. -/
theorem columns (c : Dev nD) (t : Fin cfg0.N) (j : S1024x1024.Idx) :
    X0_1 m c t j = V m c main_v13 (ix2 (n0 := 1024) (n1 := 5632) (j 0) ⟨(j 1).val, lt_trans (j 1).isLt (by decide)⟩) := by
  unfold X0_1 Pipeline.Window.fill
  rw [dif_pos (moved0_1 t j)]
  blk_ext [iblk, idx t]

/-- The call's result is the reference's. -/
theorem final (c : Dev nD) : (dats m 0 c).arrAt 2 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  pointwise [k0_pay1, val_main_cst, val_main_cst_0, val_main_cst_1, val_main_v12, val_main_v13, val_main_v14]
  simp only [columns]
  blk_simp [iblk]
  rw [normed]
  blk_point [iblk, idx t]

end Cert.ProjConvIdeal.Value

namespace Cert.ProjConvPlainIdeal
open Idealize.ShloMosaic Idealize.ShloMosaic.TcCoe Idealize.SL.Sem

/-- The reference stops, its arguments untouched. -/
theorem runs : Cert.quiescent_ProjConvPlainIdeal (hProjConvPlainIdeal := Cert.ProjConvPlainIdeal.Gen.facts) := by
  intro m g _
  hlo_run
  · exact fun _ => ⟨trivial, trivial, trivial⟩
  · exact sem_eq_zero_of_no_sems (sig := Cert.ProjConvPlainIdeal.sig) (by decide) _

/-- Kernel and reference leave the same values. -/
theorem same_values : Cert.algebraic_ProjConvIdeal_ProjConvPlainIdeal (hProjConvIdeal := Cert.ProjConvIdeal.Gen.facts) (hProjConvPlainIdeal := Cert.ProjConvPlainIdeal.Gen.facts) := by
  pair_intro
  · run_from Cert.ProjConvIdeal.Gen.run_main m g
  · run_from Cert.ProjConvPlainIdeal.Value.run m' g'
    rw [Cert.ProjConvIdeal.Value.final]
    refine (Cert.ProjConvPlainIdeal.Read.val_main_v14_eq (F := Ideal) _ _ _).trans ?_
    first | rw [(hagree _).1, (hagree _).2.1, (hagree _).2.2] | rfl

end Cert.ProjConvPlainIdeal
-- ==== Proof.Pairs.ProjK.lean ====
module

public import proofs.«01_k».proof.Defs
public import proofs.«01_k».proof.Proof.Gen.ProjK
public import proofs.«01_k».proof.Proof.Gen.ProjK.Frame
public import proofs.«01_k».proof.Proof.Gen.ProjKIdeal.Value
public import proofs.«01_k».proof.Proof.Gen.ProjKPlainIdeal.Run
public import proofs.«01_k».proof.Proof.Gen.ProjKPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.ProjKIdeal.Value
open Idealize.ShloMosaic Idealize.ShloMosaic.TcCoe Idealize.SL.Sem
open Idealize.ShloMosaic.Pipeline (Dat)
open Cert.ProjKIdeal Cert.ProjKIdeal.Gen Cert.ProjKPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val / 3, 0] ∧ win0_1.index t = ![0, t.val % 3 + 5] ∧ win0_2.index t = ![t.val % 3, t.val / 3, 0] :=
  (by decide +kernel : ∀ t : Fin grid0.N, _)

/-- The product, read where one tile of a head lies: the reference's entry of that head. -/
theorem core (c : Dev nD) (t : Fin cfg0.N) (y : S4x2048x128.Idx) (i : S2048x512.Idx) (j : S12x8192x128.Idx)
    (hi0 : (i 0 : ℕ) = y 1) (hi1 : (i 1 : ℕ) = (y 0 : ℕ) * 128 + y 2)
    (hj0 : (j 0 : ℕ) = t.val % 3 * 4 + y 0) (hj1 : (j 1 : ℕ) = t.val / 3 * 2048 + y 1) (hj2 : (j 2 : ℕ) = y 2) :
    k0_pay1 (F := Ideal) (iblk m c 0 t) (iblk m c 1 t) i = val_main_v17 (F := Ideal) (m ((c : Thread nD τ).loc main_arg0)) (m ((c : Thread nD τ).loc main_arg1)) (m ((c : Thread nD τ).loc main_arg2)) j := by
  pointwise [k0_pay1, val_main_cst, val_main_cst_0, val_main_cst_1, val_main_v12, val_main_v13, val_main_v14, val_main_v15, val_main_v16, val_main_v17]
  blk_simp [iblk]
  rw [normed]
  blk_point [iblk, idx t]

theorem point (c : Dev nD) (t : Fin cfg0.N) (y : S4x2048x128.Idx) :
    out0_2 (F := Ideal) (iblk m c 0 t) (iblk m c 1 t) y = val_main_v17 (F := Ideal) (m ((c : Thread nD τ).loc main_arg0)) (m ((c : Thread nD τ).loc main_arg1)) (m ((c : Thread nD τ).loc main_arg2)) (((cfg0.win 2).blk t).view.emb y) := by
  obtain_idx i : S2048x512 := [(y 1 : ℕ), (y 0 : ℕ) * 128 + (y 2 : ℕ)] with hi
  refine Eq.trans (b := k0_pay1 (F := Ideal) (iblk m c 0 t) (iblk m c 1 t) i) ?_ (core m c t y i _ hi0 hi1 ?_ ?_ ?_)
  · canon_tiles x h
    all_goals (open_payloads; pointwise; blk_ext)
  all_goals (blk_simp [idx t] <;> try omega)

/-- The call's result is the reference's, head by head. -/
theorem final (c : Dev nD) : (dats m 0 c).arrAt 2 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact point m c t y

end Cert.ProjKIdeal.Value

namespace Cert.ProjKPlainIdeal
open Idealize.ShloMosaic Idealize.ShloMosaic.TcCoe Idealize.SL.Sem

/-- The reference stops, its arguments untouched. -/
theorem runs : Cert.quiescent_ProjKPlainIdeal (hProjKPlainIdeal := Cert.ProjKPlainIdeal.Gen.facts) := by
  intro m g _
  hlo_run
  · exact fun _ => ⟨trivial, trivial, trivial⟩
  · exact sem_eq_zero_of_no_sems (sig := Cert.ProjKPlainIdeal.sig) (by decide) _

/-- Kernel and reference leave the same values. -/
theorem same_values : Cert.algebraic_ProjKIdeal_ProjKPlainIdeal (hProjKIdeal := Cert.ProjKIdeal.Gen.facts) (hProjKPlainIdeal := Cert.ProjKPlainIdeal.Gen.facts) := by
  pair_intro
  · run_from Cert.ProjKIdeal.Gen.run_main m g
  · run_from Cert.ProjKPlainIdeal.Value.run m' g'
    rw [Cert.ProjKIdeal.Value.final]
    refine (Cert.ProjKPlainIdeal.Read.val_main_v17_eq (F := Ideal) _ _ _).trans ?_
    first | rw [(hagree _).1, (hagree _).2.1, (hagree _).2.2] | rfl

end Cert.ProjKPlainIdeal
-- ==== Proof.Pairs.ProjV.lean ====
module

public import proofs.«01_k».proof.Defs
public import proofs.«01_k».proof.Proof.Gen.ProjV
public import proofs.«01_k».proof.Proof.Gen.ProjV.Frame
public import proofs.«01_k».proof.Proof.Gen.ProjVIdeal.Value
public import proofs.«01_k».proof.Proof.Gen.ProjVPlainIdeal.Run
public import proofs.«01_k».proof.Proof.Gen.ProjVPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.ProjVIdeal.Value
open Idealize.ShloMosaic Idealize.ShloMosaic.TcCoe Idealize.SL.Sem
open Idealize.ShloMosaic.Pipeline (Dat)
open Cert.ProjVIdeal Cert.ProjVIdeal.Gen Cert.ProjVPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val / 3, 0] ∧ win0_1.index t = ![0, t.val % 3 + 8] ∧ win0_2.index t = ![t.val % 3, t.val / 3, 0] :=
  (by decide +kernel : ∀ t : Fin grid0.N, _)

/-- The product, read where one tile of a head lies: the reference's entry of that head. -/
theorem core (c : Dev nD) (t : Fin cfg0.N) (y : S4x2048x128.Idx) (i : S2048x512.Idx) (j : S12x8192x128.Idx)
    (hi0 : (i 0 : ℕ) = y 1) (hi1 : (i 1 : ℕ) = (y 0 : ℕ) * 128 + y 2)
    (hj0 : (j 0 : ℕ) = t.val % 3 * 4 + y 0) (hj1 : (j 1 : ℕ) = t.val / 3 * 2048 + y 1) (hj2 : (j 2 : ℕ) = y 2) :
    k0_pay1 (F := Ideal) (iblk m c 0 t) (iblk m c 1 t) i = val_main_v17 (F := Ideal) (m ((c : Thread nD τ).loc main_arg0)) (m ((c : Thread nD τ).loc main_arg1)) (m ((c : Thread nD τ).loc main_arg2)) j := by
  pointwise [k0_pay1, val_main_cst, val_main_cst_0, val_main_cst_1, val_main_v12, val_main_v13, val_main_v14, val_main_v15, val_main_v16, val_main_v17]
  blk_simp [iblk]
  rw [normed]
  blk_point [iblk, idx t]

theorem point (c : Dev nD) (t : Fin cfg0.N) (y : S4x2048x128.Idx) :
    out0_2 (F := Ideal) (iblk m c 0 t) (iblk m c 1 t) y = val_main_v17 (F := Ideal) (m ((c : Thread nD τ).loc main_arg0)) (m ((c : Thread nD τ).loc main_arg1)) (m ((c : Thread nD τ).loc main_arg2)) (((cfg0.win 2).blk t).view.emb y) := by
  obtain_idx i : S2048x512 := [(y 1 : ℕ), (y 0 : ℕ) * 128 + (y 2 : ℕ)] with hi
  refine Eq.trans (b := k0_pay1 (F := Ideal) (iblk m c 0 t) (iblk m c 1 t) i) ?_ (core m c t y i _ hi0 hi1 ?_ ?_ ?_)
  · canon_tiles x h
    all_goals (open_payloads; pointwise; blk_ext)
  all_goals (blk_simp [idx t] <;> try omega)

/-- The call's result is the reference's, head by head. -/
theorem final (c : Dev nD) : (dats m 0 c).arrAt 2 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact point m c t y

end Cert.ProjVIdeal.Value

namespace Cert.ProjVPlainIdeal
open Idealize.ShloMosaic Idealize.ShloMosaic.TcCoe Idealize.SL.Sem

/-- The reference stops, its arguments untouched. -/
theorem runs : Cert.quiescent_ProjVPlainIdeal (hProjVPlainIdeal := Cert.ProjVPlainIdeal.Gen.facts) := by
  intro m g _
  hlo_run
  · exact fun _ => ⟨trivial, trivial, trivial⟩
  · exact sem_eq_zero_of_no_sems (sig := Cert.ProjVPlainIdeal.sig) (by decide) _

/-- Kernel and reference leave the same values. -/
theorem same_values : Cert.algebraic_ProjVIdeal_ProjVPlainIdeal (hProjVIdeal := Cert.ProjVIdeal.Gen.facts) (hProjVPlainIdeal := Cert.ProjVPlainIdeal.Gen.facts) := by
  pair_intro
  · run_from Cert.ProjVIdeal.Gen.run_main m g
  · run_from Cert.ProjVPlainIdeal.Value.run m' g'
    rw [Cert.ProjVIdeal.Value.final]
    refine (Cert.ProjVPlainIdeal.Read.val_main_v17_eq (F := Ideal) _ _ _).trans ?_
    first | rw [(hagree _).1, (hagree _).2.1, (hagree _).2.2] | rfl

end Cert.ProjVPlainIdeal
-- ==== Proof.Pairs.OutNorm.lean ====
module

public import proofs.«01_k».proof.Defs
public import proofs.«01_k».proof.Proof.Gen.OutNorm
public import proofs.«01_k».proof.Proof.Gen.OutNorm.Frame
public import proofs.«01_k».proof.Proof.Gen.OutNormIdeal.Value
public import proofs.«01_k».proof.Proof.Gen.OutNormPlainIdeal.Run
public import proofs.«01_k».proof.Proof.Gen.OutNormPlainIdeal.Read
public import Idealize.ShloMosaic.Lib.Pipeline.ValueKit
public import Idealize.ShloMosaic.Lib.Claim

@[expose] public section
set_option maxRecDepth 16384
noncomputable section
namespace Cert.OutNormIdeal.Value
open Idealize.ShloMosaic Idealize.ShloMosaic.TcCoe Idealize.SL.Sem
open Idealize.ShloMosaic.Pipeline (Dat)
open Cert.OutNormIdeal Cert.OutNormIdeal.Gen Cert.OutNormPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The call's result is the reference's. -/
theorem final (c : Dev nD) : (dats m 0 c).arrAt 4 (cfgs 0).N
    = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, idx t]

/-- The second result, the normalised rows. -/
theorem final_norm (c : Dev nD) : (dats m 0 c).arrAt 5 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  blk_point [iblk, idx t]

end Cert.OutNormIdeal.Value

namespace Cert.OutNormPlainIdeal
open Idealize.ShloMosaic Idealize.ShloMosaic.TcCoe Idealize.SL.Sem

/-- The reference stops, its arguments untouched. -/
theorem runs : Cert.quiescent_OutNormPlainIdeal (hOutNormPlainIdeal := Cert.OutNormPlainIdeal.Gen.facts) := by
  intro m g _
  hlo_run
  · exact fun _ => ⟨trivial, trivial, trivial, trivial⟩
  · exact sem_eq_zero_of_no_sems (sig := Cert.OutNormPlainIdeal.sig) (by decide) _

/-- Kernel and reference leave the same values. -/
theorem same_values : Cert.algebraic_OutNormIdeal_OutNormPlainIdeal (hOutNormIdeal := Cert.OutNormIdeal.Gen.facts) (hOutNormPlainIdeal := Cert.OutNormPlainIdeal.Gen.facts) := by
  pair_intro
  · run_from Cert.OutNormIdeal.Gen.run_main m g
  · run_from Cert.OutNormPlainIdeal.Value.run m' g'
    · rw [Cert.OutNormIdeal.Value.final]
      refine (Cert.OutNormPlainIdeal.Read.val_main_v1_eq (F := Ideal) _ _ _).trans ?_
      first | rw [(hagree _).1, (hagree _).2.1, (hagree _).2.2.1] | rfl
    · rw [Cert.OutNormIdeal.Value.final_norm]
      refine (Cert.OutNormPlainIdeal.Read.val_main_v14_eq (F := Ideal) _ _ _ _).trans ?_
      first | rw [(hagree _).1, (hagree _).2.1, (hagree _).2.2.1, (hagree _).2.2.2] | rfl

end Cert.OutNormPlainIdeal
-- ==== Proof.Pairs.Up.lean ====
module

public import proofs.«01_k».proof.Defs
public import proofs.«01_k».proof.Proof.Gen.Up
public import proofs.«01_k».proof.Proof.Gen.Up.Frame
public import proofs.«01_k».proof.Proof.Gen.UpIdeal.Value
public import proofs.«01_k».proof.Proof.Gen.UpPlainIdeal.Run
public import proofs.«01_k».proof.Proof.Gen.UpPlainIdeal.Read
public import Idealize.ShloMosaic.Lib.Pipeline.ValueKit
public import Idealize.ShloMosaic.Lib.Claim

@[expose] public section
set_option maxRecDepth 16384
noncomputable section
namespace Cert.UpIdeal.Value
open Idealize.ShloMosaic Idealize.ShloMosaic.TcCoe Idealize.SL.Sem
open Idealize.ShloMosaic.Pipeline (Dat)
open Cert.UpIdeal Cert.UpIdeal.Gen Cert.UpPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val, 0] ∧ win0_1.index t = ![0, 0] ∧ win0_2.index t = ![t.val, 0] :=
  (by decide +kernel : ∀ t : Fin grid0.N, _)

/-- The call's result is the reference's. -/
theorem final (c : Dev nD) : (dats m 0 c).arrAt 2 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  pointwise [k0_pay1, val_main_cst, val_main_cst_0, val_main_cst_1, val_main_v12, val_main_call0_cst, val_main_call0_v0, val_main_v13, val_main_v14]
  blk_simp [iblk]
  rw [normed]
  blk_point [iblk, idx t]

end Cert.UpIdeal.Value

namespace Cert.UpPlainIdeal
open Idealize.ShloMosaic Idealize.ShloMosaic.TcCoe Idealize.SL.Sem

/-- The reference stops, its arguments untouched. -/
theorem runs : Cert.quiescent_UpPlainIdeal (hUpPlainIdeal := Cert.UpPlainIdeal.Gen.facts) := by
  intro m g _
  hlo_run
  · exact fun _ => ⟨trivial, trivial, trivial⟩
  · exact sem_eq_zero_of_no_sems (sig := Cert.UpPlainIdeal.sig) (by decide) _

/-- Kernel and reference leave the same values. -/
theorem same_values : Cert.algebraic_UpIdeal_UpPlainIdeal (hUpIdeal := Cert.UpIdeal.Gen.facts) (hUpPlainIdeal := Cert.UpPlainIdeal.Gen.facts) := by
  pair_intro
  · run_from Cert.UpIdeal.Gen.run_main m g
  · run_from Cert.UpPlainIdeal.Value.run m' g'
    rw [Cert.UpIdeal.Value.final]
    refine (Cert.UpPlainIdeal.Read.val_main_v14_eq (F := Ideal) _ _ _).trans ?_
    first | rw [(hagree _).1, (hagree _).2.1, (hagree _).2.2] | rfl

end Cert.UpPlainIdeal
-- ==== Proof.Pairs.DownNorm.lean ====
module

public import proofs.«01_k».proof.Defs
public import proofs.«01_k».proof.Proof.Gen.DownNorm
public import proofs.«01_k».proof.Proof.Gen.DownNorm.Frame
public import proofs.«01_k».proof.Proof.Gen.DownNormIdeal.Value
public import proofs.«01_k».proof.Proof.Gen.DownNormPlainIdeal.Run
public import proofs.«01_k».proof.Proof.Gen.DownNormPlainIdeal.Read
public import Idealize.ShloMosaic.Lib.Pipeline.ValueKit
public import Idealize.ShloMosaic.Lib.Claim

@[expose] public section
set_option maxRecDepth 16384
noncomputable section
namespace Cert.DownNormIdeal.Value
open Idealize.ShloMosaic Idealize.ShloMosaic.TcCoe Idealize.SL.Sem
open Idealize.ShloMosaic.Pipeline (Dat)
open Cert.DownNormIdeal Cert.DownNormIdeal.Gen Cert.DownNormPlainIdeal.Read

variable (m : (ℓ : Loc nD τ sig) → Buf (Elt Ideal) ℓ)

/-- What the host hands the call: the activation, the positive part of its argument. -/
theorem act (c : Dev nD) : V m c main_v1 = fun i => val_main_v0 (F := Ideal) (m ((c : Thread nD τ).loc main_arg0)) i := by
  funext i
  simp only [V, hostOps0, hostOps0_1, List.flatten_cons, List.flatten_nil, List.append_nil, List.cons_append, List.nil_append]
  entry_read
  rfl

/-- Where each window's block sits at a point of the grid. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The call's result is the reference's. -/
theorem final (c : Dev nD) : (dats m 0 c).arrAt 4 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, val_main_call0_cst, val_main_call0_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16]
  blk_simp [iblk]
  rw [act]
  blk_point [iblk, idx t]

/-- The second result, the normalised rows. -/
theorem final_norm (c : Dev nD) : (dats m 0 c).arrAt 5 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, val_main_call0_cst, val_main_call0_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16]
  blk_simp [iblk]
  rw [act]
  blk_point [iblk, idx t]

end Cert.DownNormIdeal.Value

namespace Cert.DownNormPlainIdeal
open Idealize.ShloMosaic Idealize.ShloMosaic.TcCoe Idealize.SL.Sem

/-- The reference stops, its arguments untouched. -/
theorem runs : Cert.quiescent_DownNormPlainIdeal (hDownNormPlainIdeal := Cert.DownNormPlainIdeal.Gen.facts) := by
  intro m g _
  hlo_run
  · exact fun _ => ⟨trivial, trivial, trivial, trivial⟩
  · exact sem_eq_zero_of_no_sems (sig := Cert.DownNormPlainIdeal.sig) (by decide) _

/-- Kernel and reference leave the same values. -/
theorem same_values : Cert.algebraic_DownNormIdeal_DownNormPlainIdeal (hDownNormIdeal := Cert.DownNormIdeal.Gen.facts) (hDownNormPlainIdeal := Cert.DownNormPlainIdeal.Gen.facts) := by
  pair_intro
  · run_from Cert.DownNormIdeal.Gen.run_main m g
    · exact Cert.DownNormIdeal.Gen.V_main_arg0 m _
    · exact Cert.DownNormIdeal.Gen.V_main_arg1 m _
  · run_from Cert.DownNormPlainIdeal.Value.run m' g'
    · rw [Cert.DownNormIdeal.Value.final]
      refine (Cert.DownNormPlainIdeal.Read.val_main_v3_eq (F := Ideal) _ _ _).trans ?_
      first | rw [(hagree _).1, (hagree _).2.1, (hagree _).2.2.1] | rfl
    · rw [Cert.DownNormIdeal.Value.final_norm]
      refine (Cert.DownNormPlainIdeal.Read.val_main_v16_eq (F := Ideal) _ _ _ _).trans ?_
      first | rw [(hagree _).1, (hagree _).2.1, (hagree _).2.2.1, (hagree _).2.2.2] | rfl

end Cert.DownNormPlainIdeal
-- ==== Proof.Pairs.Down.lean ====
module

public import proofs.«01_k».proof.Defs
public import proofs.«01_k».proof.Proof.Gen.Down
public import proofs.«01_k».proof.Proof.Gen.Down.Frame
public import proofs.«01_k».proof.Proof.Gen.DownIdeal.Value
public import proofs.«01_k».proof.Proof.Gen.DownPlainIdeal.Run
public import proofs.«01_k».proof.Proof.Gen.DownPlainIdeal.Read
public import Idealize.ShloMosaic.Lib.Pipeline.ValueKit
public import Idealize.ShloMosaic.Lib.Claim

@[expose] public section
set_option maxRecDepth 16384
noncomputable section
namespace Cert.DownIdeal.Value
open Idealize.ShloMosaic Idealize.ShloMosaic.TcCoe Idealize.SL.Sem
open Idealize.ShloMosaic.Pipeline (Dat)
open Cert.DownIdeal Cert.DownIdeal.Gen Cert.DownPlainIdeal.Read

variable (m : (ℓ : Loc nD τ sig) → Buf (Elt Ideal) ℓ)

/-- What the host hands the call: the activation, the positive part of its argument. -/
theorem act (c : Dev nD) : V m c main_v1 = fun i => val_main_v0 (F := Ideal) (m ((c : Thread nD τ).loc main_arg0)) i := by
  funext i
  simp only [V, hostOps0, hostOps0_1, List.flatten_cons, List.flatten_nil, List.append_nil, List.cons_append, List.nil_append]
  entry_read
  rfl

/-- Where each window's block sits at a point of the grid. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The call's result is the reference's. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_call0_cst, val_main_call0_v0, val_main_v1, val_main_v2, val_main_v3]
  blk_simp [iblk]
  rw [act]
  blk_point [iblk, idx t]

end Cert.DownIdeal.Value

namespace Cert.DownPlainIdeal
open Idealize.ShloMosaic Idealize.ShloMosaic.TcCoe Idealize.SL.Sem

/-- The reference stops, its arguments untouched. -/
theorem runs : Cert.quiescent_DownPlainIdeal (hDownPlainIdeal := Cert.DownPlainIdeal.Gen.facts) := by
  intro m g _
  hlo_run
  · exact fun _ => ⟨trivial, trivial, trivial⟩
  · exact sem_eq_zero_of_no_sems (sig := Cert.DownPlainIdeal.sig) (by decide) _

/-- Kernel and reference leave the same values. -/
theorem same_values : Cert.algebraic_DownIdeal_DownPlainIdeal (hDownIdeal := Cert.DownIdeal.Gen.facts) (hDownPlainIdeal := Cert.DownPlainIdeal.Gen.facts) := by
  pair_intro
  · run_from Cert.DownIdeal.Gen.run_main m g
    · exact Cert.DownIdeal.Gen.V_main_arg0 m _
    · exact Cert.DownIdeal.Gen.V_main_arg1 m _
  · run_from Cert.DownPlainIdeal.Value.run m' g'
    rw [Cert.DownIdeal.Value.final]
    refine (Cert.DownPlainIdeal.Read.val_main_v3_eq (F := Ideal) _ _ _).trans ?_
    first | rw [(hagree _).1, (hagree _).2.1, (hagree _).2.2] | rfl

end Cert.DownPlainIdeal
-- ==== Proof.Pairs.ProjSc.lean ====
module

public import proofs.«01_k».proof.Defs
public import proofs.«01_k».proof.Proof.Gen.ProjSc
public import proofs.«01_k».proof.Proof.Gen.ProjSc.Frame
public import proofs.«01_k».proof.Proof.Gen.ProjScIdeal.Value
public import proofs.«01_k».proof.Proof.Gen.ProjScPlainIdeal.Run
public import proofs.«01_k».proof.Proof.Gen.ProjScPlainIdeal.Read
public import Idealize.ShloMosaic.Lib.Pipeline.ValueKit
public import Idealize.ShloMosaic.Lib.Claim

@[expose] public section
set_option maxRecDepth 16384
noncomputable section
namespace Cert.ProjScIdeal.Value
open Idealize.ShloMosaic Idealize.ShloMosaic.TcCoe Idealize.SL.Sem
open Idealize.ShloMosaic.Pipeline (Dat)
open Cert.ProjScIdeal Cert.ProjScIdeal.Gen Cert.ProjScPlainIdeal.Read

variable (m : (ℓ : Loc nD τ sig) → Buf (Elt Ideal) ℓ)

/-- What the host hands the call: the normalised rows, as the reference writes them. -/
theorem normed (c : Dev nD) : V m c main_v12 = fun i => val_main_v11 (F := Ideal) (m ((c : Thread nD τ).loc main_arg0)) (m ((c : Thread nD τ).loc main_arg1)) i := by
  funext i
  entry_read
  rfl

/-- Where each window's block sits at a point of the grid. -/
theorem idx : ∀ t : Fin cfg0.N, win0_0.index t = ![t.val, 0] ∧ win0_1.index t = ![0, 0] ∧ win0_2.index t = ![t.val, 0] :=
  (by decide +kernel : ∀ t : Fin grid0.N, _)

/-- The call's result is the reference's. -/
theorem final (c : Dev nD) : (dats m 0 c).arrAt 2 (cfgs 0).N
    = val_main_v13 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  pointwise [k0_pay1, val_main_cst, val_main_cst_0, val_main_cst_1, val_main_v12, val_main_v13]
  blk_simp [iblk]
  rw [normed]
  blk_point [iblk, idx t]

end Cert.ProjScIdeal.Value

namespace Cert.ProjScPlainIdeal
open Idealize.ShloMosaic Idealize.ShloMosaic.TcCoe Idealize.SL.Sem

/-- The reference stops, its arguments untouched. -/
theorem runs : Cert.quiescent_ProjScPlainIdeal (hProjScPlainIdeal := Cert.ProjScPlainIdeal.Gen.facts) := by
  intro m g _
  hlo_run
  · exact fun _ => ⟨trivial, trivial, trivial⟩
  · exact sem_eq_zero_of_no_sems (sig := Cert.ProjScPlainIdeal.sig) (by decide) _

/-- Kernel and reference leave the same values. -/
theorem same_values : Cert.algebraic_ProjScIdeal_ProjScPlainIdeal (hProjScIdeal := Cert.ProjScIdeal.Gen.facts) (hProjScPlainIdeal := Cert.ProjScPlainIdeal.Gen.facts) := by
  pair_intro
  · run_from Cert.ProjScIdeal.Gen.run_main m g
  · run_from Cert.ProjScPlainIdeal.Value.run m' g'
    rw [Cert.ProjScIdeal.Value.final]
    refine (Cert.ProjScPlainIdeal.Read.val_main_v13_eq _ _ _).trans ?_
    first | rw [(hagree _).1, (hagree _).2.1, (hagree _).2.2] | rfl

end Cert.ProjScPlainIdeal
-- ==== Proof.Pairs.RmsBwd.lean ====
module

public import proofs.«01_k».proof.Defs
public import proofs.«01_k».proof.Proof.Gen.RmsBwd
public import proofs.«01_k».proof.Proof.Gen.RmsBwd.Frame
public import proofs.«01_k».proof.Proof.Gen.RmsBwdIdeal.Value
public import proofs.«01_k».proof.Proof.Gen.RmsBwdPlainIdeal.Run
public import proofs.«01_k».proof.Proof.Gen.RmsBwdPlainIdeal.Read
public import Idealize.ShloMosaic.Lib.Pipeline.ValueKit
public import Idealize.ShloMosaic.Lib.Pipeline.ReadBack
public import Idealize.ShloMosaic.Lib.Claim
public import proofs.«01_k».proof.Proof.Pairs.RmsGrad

@[expose] public section
set_option maxRecDepth 16384
noncomputable section
namespace Cert.RmsBwdIdeal.Value
open Idealize.ShloMosaic Idealize.ShloMosaic.TcCoe Idealize.SL.Sem
open Idealize.ShloMosaic.Pipeline (Dat)
open Cert.RmsBwdIdeal Cert.RmsBwdIdeal.Gen Cert.RmsBwdPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

/-- The gradient of the rows. -/
theorem final (c : Dev nD) : (dats m 0 c).arrAt 4 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 16 := t.isLt
  blk_simp
  rw [after0_4]
  by_cases h : t.val = 0
  · rw [outsAt0_A m c t (by omega)]
    frame_out
    pointwise [k0_pay3, k0_pay2, k0_pay1, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_v26, val_main_cst_5, val_main_v27, val_main_v28, val_main_cst_6, val_main_v29, val_main_v30, val_main_v31, val_main_v32, val_main_v33, val_main_v34]
    refine (Cert.RmsGrad.grad (n := 1024) (fun k => (show FVec Ideal S512x1024 .f32 from iblk m c 1 t) (ix2 (y 0) k))
      (fun k => (show FVec Ideal S512x1024 .f32 from iblk m c 0 t) (ix2 (y 0) k) * (show FVec Ideal S1x1024 .f32 from iblk m c 2 t) (ix2 0 k)) _ _ _ _ _ _ Cert.RmsGrad.width Cert.RmsGrad.small Cert.RmsGrad.minus_half).trans ?_
    simp only [Finset.univ_unique, Finset.sum_singleton]
    blk_point [iblk, idx t]
  · rw [outsAt0_B m c t (by omega)]
    frame_out
    pointwise [k0_pay3, k0_pay2, k0_pay1, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_v26, val_main_cst_5, val_main_v27, val_main_v28, val_main_cst_6, val_main_v29, val_main_v30, val_main_v31, val_main_v32, val_main_v33, val_main_v34]
    refine (Cert.RmsGrad.grad (n := 1024) (fun k => (show FVec Ideal S512x1024 .f32 from iblk m c 1 t) (ix2 (y 0) k))
      (fun k => (show FVec Ideal S512x1024 .f32 from iblk m c 0 t) (ix2 (y 0) k) * (show FVec Ideal S1x1024 .f32 from iblk m c 2 t) (ix2 0 k)) _ _ _ _ _ _ Cert.RmsGrad.width Cert.RmsGrad.small Cert.RmsGrad.minus_half).trans ?_
    simp only [Finset.univ_unique, Finset.sum_singleton]
    blk_point [iblk, idx t]

/-- What one point adds to the gradient of the gain. -/
def part (c : Dev nD) (t : Fin cfg0.N) (j : S1x1024.Idx) : EReal :=
  ∑ k : Fin 512, (show FVec Ideal S512x1024 .f32 from iblk m c 0 t) (ix2 k (j 1)) * ((show FVec Ideal S512x1024 .f32 from iblk m c 1 t) (ix2 k (j 1)) * Ideal.rsqrt (Ideal.div (∑ l : Fin 1024, (show FVec Ideal S512x1024 .f32 from iblk m c 1 t) (ix2 k l) * (show FVec Ideal S512x1024 .f32 from iblk m c 1 t) (ix2 k l)) (Ideal.ofBits .f32 0x44800000#32) + Ideal.ofBits .f32 0x358637BD#32))

theorem gain_first (c : Dev nD) (t : Fin cfg0.N) (h : t.val % 16 = 0) (j : S1x1024.Idx) :
    (outsAt0 m c t.val t.isLt).2 j = 0 + part m c t j := by
  have hN : t.val < 16 := t.isLt
  rw [outsAt0_A m c t h, zero_add, part]
  frame_out
  pointwise [k0_pay5, k0_pay4, k0_pay2, k0_pay1]

theorem gain_next (c : Dev nD) (t : Fin cfg0.N) (h : ¬ t.val % 16 = 0) (j : S1x1024.Idx) :
    (outsAt0 m c t.val t.isLt).2 j = (outsAt0 m c (t.val - 1) (Nat.lt_of_le_of_lt (Nat.sub_le _ _) t.isLt)).2 j + part m c t j := by
  have hN : t.val < 16 := t.isLt
  rw [outsAt0_B m c t h, part]
  frame_out
  pointwise [k0_pay5, k0_pay2, k0_pay1]

/-- The gradient of the gain. -/
theorem final_gain (c : Dev nD) : (dats m 0 c).arrAt 5 (cfgs 0).N
    = val_main_v17 (F := Ideal) (m ((c : Thread nD τ).loc main_arg0)) (m ((c : Thread nD τ).loc main_arg2)) := by
  refine (dats m 0 c).arrAt_eq_of_covers 5 _ (by decide +kernel) fun t hf y => ?_
  have hN : t.val < 16 := t.isLt
  have h15 : t.val = 15 := by have := (flush0_5 t).mp hf; omega
  blk_simp
  rw [after0_5]
  refine (Pipeline.eq_sum_fin_of_reset_step_apply_of_flush (fun n h => (outsAt0 m c n h).2) 16 (fun _ => (0 : EReal)) _
    (fun t h j => gain_first m c t h j) (fun t h j => gain_next m c t h j) t ((flush0_5 t).mp hf) _).trans ?_
  rw [zero_add]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_v26, val_main_cst_5, val_main_v27, val_main_v28, val_main_cst_6, val_main_v29, val_main_v30, val_main_v31, val_main_v32, val_main_v33, val_main_v34]
  simp only [part]
  refine Fin.sum_mul_add_congr fun s k hl => ?_
  blk_point [iblk, idx ⟨_, Pipeline.run_point_lt_of_flush t ((flush0_5 t).mp hf) s⟩, idx t]

end Cert.RmsBwdIdeal.Value

namespace Cert.RmsBwdPlainIdeal
open Idealize.ShloMosaic Idealize.ShloMosaic.TcCoe Idealize.SL.Sem

/-- The reference stops, its arguments untouched. -/
theorem runs : Cert.quiescent_RmsBwdPlainIdeal (hRmsBwdPlainIdeal := Cert.RmsBwdPlainIdeal.Gen.facts) := by
  intro m g _
  hlo_run
  · exact fun _ => ⟨trivial, trivial, trivial, trivial⟩
  · exact sem_eq_zero_of_no_sems (sig := Cert.RmsBwdPlainIdeal.sig) (by decide) _

/-- Kernel and reference leave the same values. -/
theorem same_values : Cert.algebraic_RmsBwdIdeal_RmsBwdPlainIdeal (hRmsBwdIdeal := Cert.RmsBwdIdeal.Gen.facts) (hRmsBwdPlainIdeal := Cert.RmsBwdPlainIdeal.Gen.facts) := by
  pair_intro
  · run_from Cert.RmsBwdIdeal.Gen.run_main m g
  · refine Idealize.ShloMosaic.θ_run_mono (Cert.RmsBwdPlainIdeal.Value.run m' g') ?_
    intro r hr c
    obtain ⟨h0, h1, ha⟩ := hr c
    obtain ⟨a0, a1, a2, a3⟩ := hagree c
    have e0 := h0.trans (Cert.RmsBwdPlainIdeal.Read.val_main_v34_eq (F := Ideal) _ _ _ _)
    rw [a0, a1, a2, a3] at e0
    have e1 := h1.trans (Cert.RmsBwdPlainIdeal.Read.val_main_v17_eq (F := Ideal) _ _)
    rw [a0, a2] at e1
    exact ⟨e0.trans ((Cert.RmsBwdIdeal.Value.final m c).symm), e1.trans ((Cert.RmsBwdIdeal.Value.final_gain m c).symm), ha⟩

end Cert.RmsBwdPlainIdeal
-- ==== Proof.Pairs.Step0.lean ====
module

public import proofs.«01_k».proof.Defs
public import proofs.«01_k».proof.Proof.Gen.Step0
public import proofs.«01_k».proof.Proof.Gen.Step0.Frame
public import proofs.«01_k».proof.Proof.Gen.Step0Ideal.Value
public import proofs.«01_k».proof.Proof.Gen.Step0PlainIdeal.Run
public import proofs.«01_k».proof.Proof.Gen.Step0PlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.Step0Ideal.Value
open Idealize.ShloMosaic Idealize.ShloMosaic.TcCoe Idealize.SL.Sem
open Idealize.ShloMosaic.Pipeline (Dat)
open Cert.Step0Ideal Cert.Step0Ideal.Gen Cert.Step0PlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient. -/
theorem final_grad (c : Dev nD) : (dats m 0 c).arrAt 5 (cfgs 0).N
    = val_main_v0 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The change of the weight. -/
theorem final_delta (c : Dev nD) : (dats m 0 c).arrAt 6 (cfgs 0).N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new first moment. -/
theorem final_m (c : Dev nD) : (dats m 0 c).arrAt 7 (cfgs 0).N
    = val_main_v8 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new second moment. -/
theorem final_v (c : Dev nD) : (dats m 0 c).arrAt 8 (cfgs 0).N
    = val_main_v14 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

end Cert.Step0Ideal.Value

namespace Cert.Step0PlainIdeal
open Idealize.ShloMosaic Idealize.ShloMosaic.TcCoe Idealize.SL.Sem

/-- The reference stops, its arguments untouched. -/
theorem runs : Cert.quiescent_Step0PlainIdeal (hStep0PlainIdeal := Cert.Step0PlainIdeal.Gen.facts) := by
  intro m g _
  hlo_run
  · exact fun _ => ⟨trivial, trivial, trivial, trivial, trivial⟩
  · exact sem_eq_zero_of_no_sems (sig := Cert.Step0PlainIdeal.sig) (by decide) _

/-- Kernel and reference leave the same values. -/
theorem same_values : Cert.algebraic_Step0Ideal_Step0PlainIdeal (hStep0Ideal := Cert.Step0Ideal.Gen.facts) (hStep0PlainIdeal := Cert.Step0PlainIdeal.Gen.facts) := by
  pair_intro
  · run_from Cert.Step0Ideal.Gen.run_main m g
  · refine Idealize.ShloMosaic.θ_run_mono (Cert.Step0PlainIdeal.Value.run m' g') ?_
    intro r hr c
    obtain ⟨h0, h1, h2, h3, ha⟩ := hr c
    obtain ⟨a0, a1, a2, a3, a4⟩ := hagree c
    have e0 := h0.trans (Cert.Step0PlainIdeal.Read.val_main_v0_eq (F := Ideal) _ _)
    rw [a3, a4] at e0
    have e1 := h1.trans (Cert.Step0PlainIdeal.Read.val_main_v27_eq (F := Ideal) _ _ _ _ _)
    rw [a0, a1, a2, a3, a4] at e1
    have e2 := h2.trans (Cert.Step0PlainIdeal.Read.val_main_v8_eq (F := Ideal) _ _ _)
    rw [a1, a3, a4] at e2
    have e3 := h3.trans (Cert.Step0PlainIdeal.Read.val_main_v14_eq (F := Ideal) _ _ _)
    rw [a2, a3, a4] at e3
    exact ⟨e0.trans ((Cert.Step0Ideal.Value.final_grad m c).symm), e1.trans ((Cert.Step0Ideal.Value.final_delta m c).symm), e2.trans ((Cert.Step0Ideal.Value.final_m m c).symm), e3.trans ((Cert.Step0Ideal.Value.final_v m c).symm), ha⟩

end Cert.Step0PlainIdeal
-- ==== Proof.Pairs.Step1.lean ====
module

public import proofs.«01_k».proof.Defs
public import proofs.«01_k».proof.Proof.Gen.Step1
public import proofs.«01_k».proof.Proof.Gen.Step1.Frame
public import proofs.«01_k».proof.Proof.Gen.Step1Ideal.Value
public import proofs.«01_k».proof.Proof.Gen.Step1PlainIdeal.Run
public import proofs.«01_k».proof.Proof.Gen.Step1PlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.Step1Ideal.Value
open Idealize.ShloMosaic Idealize.ShloMosaic.TcCoe Idealize.SL.Sem
open Idealize.ShloMosaic.Pipeline (Dat)
open Cert.Step1Ideal Cert.Step1Ideal.Gen Cert.Step1PlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient. -/
theorem final_grad (c : Dev nD) : (dats m 0 c).arrAt 5 (cfgs 0).N
    = val_main_v0 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The change of the weight. -/
theorem final_delta (c : Dev nD) : (dats m 0 c).arrAt 6 (cfgs 0).N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new first moment. -/
theorem final_m (c : Dev nD) : (dats m 0 c).arrAt 7 (cfgs 0).N
    = val_main_v8 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new second moment. -/
theorem final_v (c : Dev nD) : (dats m 0 c).arrAt 8 (cfgs 0).N
    = val_main_v14 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

end Cert.Step1Ideal.Value

namespace Cert.Step1PlainIdeal
open Idealize.ShloMosaic Idealize.ShloMosaic.TcCoe Idealize.SL.Sem

/-- The reference stops, its arguments untouched. -/
theorem runs : Cert.quiescent_Step1PlainIdeal (hStep1PlainIdeal := Cert.Step1PlainIdeal.Gen.facts) := by
  intro m g _
  hlo_run
  · exact fun _ => ⟨trivial, trivial, trivial, trivial, trivial⟩
  · exact sem_eq_zero_of_no_sems (sig := Cert.Step1PlainIdeal.sig) (by decide) _

/-- Kernel and reference leave the same values. -/
theorem same_values : Cert.algebraic_Step1Ideal_Step1PlainIdeal (hStep1Ideal := Cert.Step1Ideal.Gen.facts) (hStep1PlainIdeal := Cert.Step1PlainIdeal.Gen.facts) := by
  pair_intro
  · run_from Cert.Step1Ideal.Gen.run_main m g
  · refine Idealize.ShloMosaic.θ_run_mono (Cert.Step1PlainIdeal.Value.run m' g') ?_
    intro r hr c
    obtain ⟨h0, h1, h2, h3, ha⟩ := hr c
    obtain ⟨a0, a1, a2, a3, a4⟩ := hagree c
    have e0 := h0.trans (Cert.Step1PlainIdeal.Read.val_main_v0_eq (F := Ideal) _ _)
    rw [a3, a4] at e0
    have e1 := h1.trans (Cert.Step1PlainIdeal.Read.val_main_v27_eq (F := Ideal) _ _ _ _ _)
    rw [a0, a1, a2, a3, a4] at e1
    have e2 := h2.trans (Cert.Step1PlainIdeal.Read.val_main_v8_eq (F := Ideal) _ _ _)
    rw [a1, a3, a4] at e2
    have e3 := h3.trans (Cert.Step1PlainIdeal.Read.val_main_v14_eq (F := Ideal) _ _ _)
    rw [a2, a3, a4] at e3
    exact ⟨e0.trans ((Cert.Step1Ideal.Value.final_grad m c).symm), e1.trans ((Cert.Step1Ideal.Value.final_delta m c).symm), e2.trans ((Cert.Step1Ideal.Value.final_m m c).symm), e3.trans ((Cert.Step1Ideal.Value.final_v m c).symm), ha⟩

end Cert.Step1PlainIdeal
-- ==== Proof.Pairs.Step2.lean ====
module

public import proofs.«01_k».proof.Defs
public import proofs.«01_k».proof.Proof.Gen.Step2
public import proofs.«01_k».proof.Proof.Gen.Step2.Frame
public import proofs.«01_k».proof.Proof.Gen.Step2Ideal.Value
public import proofs.«01_k».proof.Proof.Gen.Step2PlainIdeal.Run
public import proofs.«01_k».proof.Proof.Gen.Step2PlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.Step2Ideal.Value
open Idealize.ShloMosaic Idealize.ShloMosaic.TcCoe Idealize.SL.Sem
open Idealize.ShloMosaic.Pipeline (Dat)
open Cert.Step2Ideal Cert.Step2Ideal.Gen Cert.Step2PlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient. -/
theorem final_grad (c : Dev nD) : (dats m 0 c).arrAt 5 (cfgs 0).N
    = val_main_v0 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The change of the weight. -/
theorem final_delta (c : Dev nD) : (dats m 0 c).arrAt 6 (cfgs 0).N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new first moment. -/
theorem final_m (c : Dev nD) : (dats m 0 c).arrAt 7 (cfgs 0).N
    = val_main_v8 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new second moment. -/
theorem final_v (c : Dev nD) : (dats m 0 c).arrAt 8 (cfgs 0).N
    = val_main_v14 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

end Cert.Step2Ideal.Value

namespace Cert.Step2PlainIdeal
open Idealize.ShloMosaic Idealize.ShloMosaic.TcCoe Idealize.SL.Sem

/-- The reference stops, its arguments untouched. -/
theorem runs : Cert.quiescent_Step2PlainIdeal (hStep2PlainIdeal := Cert.Step2PlainIdeal.Gen.facts) := by
  intro m g _
  hlo_run
  · exact fun _ => ⟨trivial, trivial, trivial, trivial, trivial⟩
  · exact sem_eq_zero_of_no_sems (sig := Cert.Step2PlainIdeal.sig) (by decide) _

/-- Kernel and reference leave the same values. -/
theorem same_values : Cert.algebraic_Step2Ideal_Step2PlainIdeal (hStep2Ideal := Cert.Step2Ideal.Gen.facts) (hStep2PlainIdeal := Cert.Step2PlainIdeal.Gen.facts) := by
  pair_intro
  · run_from Cert.Step2Ideal.Gen.run_main m g
  · refine Idealize.ShloMosaic.θ_run_mono (Cert.Step2PlainIdeal.Value.run m' g') ?_
    intro r hr c
    obtain ⟨h0, h1, h2, h3, ha⟩ := hr c
    obtain ⟨a0, a1, a2, a3, a4⟩ := hagree c
    have e0 := h0.trans (Cert.Step2PlainIdeal.Read.val_main_v0_eq (F := Ideal) _ _)
    rw [a3, a4] at e0
    have e1 := h1.trans (Cert.Step2PlainIdeal.Read.val_main_v27_eq (F := Ideal) _ _ _ _ _)
    rw [a0, a1, a2, a3, a4] at e1
    have e2 := h2.trans (Cert.Step2PlainIdeal.Read.val_main_v8_eq (F := Ideal) _ _ _)
    rw [a1, a3, a4] at e2
    have e3 := h3.trans (Cert.Step2PlainIdeal.Read.val_main_v14_eq (F := Ideal) _ _ _)
    rw [a2, a3, a4] at e3
    exact ⟨e0.trans ((Cert.Step2Ideal.Value.final_grad m c).symm), e1.trans ((Cert.Step2Ideal.Value.final_delta m c).symm), e2.trans ((Cert.Step2Ideal.Value.final_m m c).symm), e3.trans ((Cert.Step2Ideal.Value.final_v m c).symm), ha⟩

end Cert.Step2PlainIdeal
-- ==== Proof.Pairs.Step3.lean ====
module

public import proofs.«01_k».proof.Defs
public import proofs.«01_k».proof.Proof.Gen.Step3
public import proofs.«01_k».proof.Proof.Gen.Step3.Frame
public import proofs.«01_k».proof.Proof.Gen.Step3Ideal.Value
public import proofs.«01_k».proof.Proof.Gen.Step3PlainIdeal.Run
public import proofs.«01_k».proof.Proof.Gen.Step3PlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.Step3Ideal.Value
open Idealize.ShloMosaic Idealize.ShloMosaic.TcCoe Idealize.SL.Sem
open Idealize.ShloMosaic.Pipeline (Dat)
open Cert.Step3Ideal Cert.Step3Ideal.Gen Cert.Step3PlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The gradient. -/
theorem final_grad (c : Dev nD) : (dats m 0 c).arrAt 5 (cfgs 0).N
    = val_main_v0 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The change of the weight. -/
theorem final_delta (c : Dev nD) : (dats m 0 c).arrAt 6 (cfgs 0).N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new first moment. -/
theorem final_m (c : Dev nD) : (dats m 0 c).arrAt 7 (cfgs 0).N
    = val_main_v8 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

/-- The new second moment. -/
theorem final_v (c : Dev nD) : (dats m 0 c).arrAt 8 (cfgs 0).N
    = val_main_v14 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay1, k0_pay2, k0_pay3, k0_pay4, val_main_v0, val_main_v1, val_main_v2, val_main_v3, val_main_cst, val_main_v4, val_main_v5, val_main_cst_0, val_main_v6, val_main_v7, val_main_v8, val_main_cst_1, val_main_v9, val_main_v10, val_main_v11, val_main_cst_2, val_main_v12, val_main_v13, val_main_v14, val_main_cst_3, val_main_v15, val_main_v16, val_main_cst_4, val_main_v17, val_main_v18, val_main_v19, val_main_cst_5, val_main_v20, val_main_v21, val_main_v22, val_main_cst_6, val_main_v23, val_main_v24, val_main_v25, val_main_cst_7, val_main_v26, val_main_v27]
  blk_point [iblk, idx t]

end Cert.Step3Ideal.Value

namespace Cert.Step3PlainIdeal
open Idealize.ShloMosaic Idealize.ShloMosaic.TcCoe Idealize.SL.Sem

/-- The reference stops, its arguments untouched. -/
theorem runs : Cert.quiescent_Step3PlainIdeal (hStep3PlainIdeal := Cert.Step3PlainIdeal.Gen.facts) := by
  intro m g _
  hlo_run
  · exact fun _ => ⟨trivial, trivial, trivial, trivial, trivial⟩
  · exact sem_eq_zero_of_no_sems (sig := Cert.Step3PlainIdeal.sig) (by decide) _

/-- Kernel and reference leave the same values. -/
theorem same_values : Cert.algebraic_Step3Ideal_Step3PlainIdeal (hStep3Ideal := Cert.Step3Ideal.Gen.facts) (hStep3PlainIdeal := Cert.Step3PlainIdeal.Gen.facts) := by
  pair_intro
  · run_from Cert.Step3Ideal.Gen.run_main m g
  · refine Idealize.ShloMosaic.θ_run_mono (Cert.Step3PlainIdeal.Value.run m' g') ?_
    intro r hr c
    obtain ⟨h0, h1, h2, h3, ha⟩ := hr c
    obtain ⟨a0, a1, a2, a3, a4⟩ := hagree c
    have e0 := h0.trans (Cert.Step3PlainIdeal.Read.val_main_v0_eq (F := Ideal) _ _)
    rw [a3, a4] at e0
    have e1 := h1.trans (Cert.Step3PlainIdeal.Read.val_main_v27_eq (F := Ideal) _ _ _ _ _)
    rw [a0, a1, a2, a3, a4] at e1
    have e2 := h2.trans (Cert.Step3PlainIdeal.Read.val_main_v8_eq (F := Ideal) _ _ _)
    rw [a1, a3, a4] at e2
    have e3 := h3.trans (Cert.Step3PlainIdeal.Read.val_main_v14_eq (F := Ideal) _ _ _)
    rw [a2, a3, a4] at e3
    exact ⟨e0.trans ((Cert.Step3Ideal.Value.final_grad m c).symm), e1.trans ((Cert.Step3Ideal.Value.final_delta m c).symm), e2.trans ((Cert.Step3Ideal.Value.final_m m c).symm), e3.trans ((Cert.Step3Ideal.Value.final_v m c).symm), ha⟩

end Cert.Step3PlainIdeal
-- ==== Proof.Pairs.StepUp.lean ====
module

public import proofs.«01_k».proof.Defs
public import proofs.«01_k».proof.Proof.Gen.StepUp
public import proofs.«01_k».proof.Proof.Gen.StepUp.Frame
public import proofs.«01_k».proof.Proof.Gen.StepUpIdeal.Value
public import proofs.«01_k».proof.Proof.Gen.StepUpPlainIdeal.Run
public import proofs.«01_k».proof.Proof.Gen.StepUpPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.StepUpIdeal.Value
open Idealize.ShloMosaic Idealize.ShloMosaic.TcCoe Idealize.SL.Sem
open Idealize.ShloMosaic.Pipeline (Dat)
open Cert.StepUpIdeal Cert.StepUpIdeal.Gen Cert.StepUpPlainIdeal.Read

variable (m : (ℓ : Loc nD τ sig) → Buf (Elt Ideal) ℓ)

/-- Where the windows of both layers' blocks sit at a point of the grid. -/
theorem idx : ∀ t : Fin cfg0.N, win0_0.index t = ![t.val / 4, t.val % 4, 0] ∧ win0_1.index t = ![t.val / 4, t.val % 4, 0] ∧ win0_2.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

/-- Where the first layer's partial sums sit at one of its points. -/
theorem idx_lo : ∀ t : Fin cfg0.N, t.val / 4 < 1 → win0_3.index t = ![t.val % 4, 0] ∧ win0_4.index t = ![t.val % 4, 0] :=
  (by decide +kernel : ∀ t : Fin grid0.N, _)

/-- Where the second layer's partial sums sit at one of its points. -/
theorem idx_hi : ∀ t : Fin cfg0.N, ¬ t.val / 4 < 1 → win0_5.index t = ![t.val % 4, 0] ∧ win0_6.index t = ![t.val % 4, 0] :=
  (by decide +kernel : ∀ t : Fin grid0.N, _)

theorem layer : ∀ t : Fin cfg0.N, Scalar.cmpi .eq (BitVec.ofNat 32 (grid0.coords t 0).val) 0#32 = if t.val / 4 < 1 then 1#1 else 0#1 :=
  (by decide +kernel : ∀ t : Fin grid0.N, _)

/-- The call takes the first layer's sum at its points and the second's at the others. -/
theorem pick_lo (t : Fin cfg0.N) (h : t.val / 4 < 1) (a b : EReal) :
    Scalar.select (Scalar.cmpi .eq (BitVec.ofNat 32 (grid0.coords t 0).val) 0#32) a b = a := by
  rw [layer, if_pos h]; rfl

theorem pick_hi (t : Fin cfg0.N) (h : ¬ t.val / 4 < 1) (a b : EReal) :
    Scalar.select (Scalar.cmpi .eq (BitVec.ofNat 32 (grid0.coords t 0).val) 0#32) a b = b := by
  rw [layer, if_neg h]; rfl

/-- The gradient. -/
theorem final_grad (c : Dev nD) : (dats m 0 c).arrAt 7 (cfgs 0).N
    = val_main_v4 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The change of the weights. -/
theorem final_delta (c : Dev nD) : (dats m 0 c).arrAt 8 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The new first moments. -/
theorem final_m (c : Dev nD) : (dats m 0 c).arrAt 9 (cfgs 0).N
    = val_main_v9 (F := Ideal) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The new second moments. -/
theorem final_v (c : Dev nD) : (dats m 0 c).arrAt 10 (cfgs 0).N
    = val_main_v15 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

end Cert.StepUpIdeal.Value

namespace Cert.StepUpPlainIdeal
open Idealize.ShloMosaic Idealize.ShloMosaic.TcCoe Idealize.SL.Sem

/-- The reference stops, its arguments untouched. -/
theorem runs : Cert.quiescent_StepUpPlainIdeal (hStepUpPlainIdeal := Cert.StepUpPlainIdeal.Gen.facts) := by
  intro m g _
  hlo_run
  · exact fun _ => ⟨trivial, trivial, trivial, trivial, trivial, trivial, trivial⟩
  · exact sem_eq_zero_of_no_sems (sig := Cert.StepUpPlainIdeal.sig) (by decide) _

set_option maxHeartbeats 2000000 in
/-- Kernel and reference leave the same values. -/
theorem same_values : Cert.algebraic_StepUpIdeal_StepUpPlainIdeal (hStepUpIdeal := Cert.StepUpIdeal.Gen.facts) (hStepUpPlainIdeal := Cert.StepUpPlainIdeal.Gen.facts) := by
  pair_intro
  · run_from Cert.StepUpIdeal.Gen.run_main m g
  · refine Idealize.ShloMosaic.θ_run_mono (Cert.StepUpPlainIdeal.Value.run m' g') ?_
    intro r hr c
    obtain ⟨h0, h1, h2, h3, ha⟩ := hr c
    obtain ⟨a0, a1, a2, a3, a4, a5, a6⟩ := hagree c
    have e0 := h0.trans (Cert.StepUpPlainIdeal.Read.val_main_v4_eq (F := Ideal) _ _ _ _)
    rw [a3, a4, a5, a6] at e0
    have e1 := h1.trans (Cert.StepUpPlainIdeal.Read.val_main_v28_eq (F := Ideal) _ _ _ _ _ _ _)
    rw [a0, a1, a2, a3, a4, a5, a6] at e1
    have e2 := h2.trans (Cert.StepUpPlainIdeal.Read.val_main_v9_eq (F := Ideal) _ _ _ _ _)
    rw [a1, a3, a4, a5, a6] at e2
    have e3 := h3.trans (Cert.StepUpPlainIdeal.Read.val_main_v15_eq (F := Ideal) _ _ _ _ _)
    rw [a2, a3, a4, a5, a6] at e3
    exact ⟨e0.trans ((Cert.StepUpIdeal.Value.final_grad m c).symm), e1.trans ((Cert.StepUpIdeal.Value.final_delta m c).symm), e2.trans ((Cert.StepUpIdeal.Value.final_m m c).symm), e3.trans ((Cert.StepUpIdeal.Value.final_v m c).symm), ha⟩

end Cert.StepUpPlainIdeal
-- ==== Proof.Pairs.StepDown.lean ====
module

public import proofs.«01_k».proof.Defs
public import proofs.«01_k».proof.Proof.Gen.StepDown
public import proofs.«01_k».proof.Proof.Gen.StepDown.Frame
public import proofs.«01_k».proof.Proof.Gen.StepDownIdeal.Value
public import proofs.«01_k».proof.Proof.Gen.StepDownPlainIdeal.Run
public import proofs.«01_k».proof.Proof.Gen.StepDownPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.StepDownIdeal.Value
open Idealize.ShloMosaic Idealize.ShloMosaic.TcCoe Idealize.SL.Sem
open Idealize.ShloMosaic.Pipeline (Dat)
open Cert.StepDownIdeal Cert.StepDownIdeal.Gen Cert.StepDownPlainIdeal.Read

variable (m : (ℓ : Loc nD τ sig) → Buf (Elt Ideal) ℓ)

/-- Where the windows of both layers' blocks sit at a point of the grid. -/
theorem idx : ∀ t : Fin cfg0.N, win0_0.index t = ![t.val / 4, t.val % 4, 0] ∧ win0_1.index t = ![t.val / 4, t.val % 4, 0] ∧ win0_2.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

/-- Where the first layer's partial sums sit at one of its points. -/
theorem idx_lo : ∀ t : Fin cfg0.N, t.val / 4 < 1 → win0_3.index t = ![t.val % 4, 0] ∧ win0_4.index t = ![t.val % 4, 0] :=
  (by decide +kernel : ∀ t : Fin grid0.N, _)

/-- Where the second layer's partial sums sit at one of its points. -/
theorem idx_hi : ∀ t : Fin cfg0.N, ¬ t.val / 4 < 1 → win0_5.index t = ![t.val % 4, 0] ∧ win0_6.index t = ![t.val % 4, 0] :=
  (by decide +kernel : ∀ t : Fin grid0.N, _)

theorem layer : ∀ t : Fin cfg0.N, Scalar.cmpi .eq (BitVec.ofNat 32 (grid0.coords t 0).val) 0#32 = if t.val / 4 < 1 then 1#1 else 0#1 :=
  (by decide +kernel : ∀ t : Fin grid0.N, _)

/-- The call takes the first layer's sum at its points and the second's at the others. -/
theorem pick_lo (t : Fin cfg0.N) (h : t.val / 4 < 1) (a b : EReal) :
    Scalar.select (Scalar.cmpi .eq (BitVec.ofNat 32 (grid0.coords t 0).val) 0#32) a b = a := by
  rw [layer, if_pos h]; rfl

theorem pick_hi (t : Fin cfg0.N) (h : ¬ t.val / 4 < 1) (a b : EReal) :
    Scalar.select (Scalar.cmpi .eq (BitVec.ofNat 32 (grid0.coords t 0).val) 0#32) a b = b := by
  rw [layer, if_neg h]; rfl

/-- The gradient. -/
theorem final_grad (c : Dev nD) : (dats m 0 c).arrAt 7 (cfgs 0).N
    = val_main_v4 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The change of the weights. -/
theorem final_delta (c : Dev nD) : (dats m 0 c).arrAt 8 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The new first moments. -/
theorem final_m (c : Dev nD) : (dats m 0 c).arrAt 9 (cfgs 0).N
    = val_main_v9 (F := Ideal) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

/-- The new second moments. -/
theorem final_v (c : Dev nD) : (dats m 0 c).arrAt 10 (cfgs 0).N
    = val_main_v15 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, k0_pay8, k0_pay9, val_main_v0, val_main_v1, val_main_v2, val_main_v3, val_main_v4, val_main_cst, val_main_v5, val_main_v6, val_main_cst_0, val_main_v7, val_main_v8, val_main_v9, val_main_cst_1, val_main_v10, val_main_v11, val_main_v12, val_main_cst_2, val_main_v13, val_main_v14, val_main_v15, val_main_cst_3, val_main_v16, val_main_v17, val_main_cst_4, val_main_v18, val_main_v19, val_main_v20, val_main_cst_5, val_main_v21, val_main_v22, val_main_v23, val_main_cst_6, val_main_v24, val_main_v25, val_main_v26, val_main_cst_7, val_main_v27, val_main_v28]
  blk_simp [iblk, idx t]
  by_cases h : t.val / 4 < 1
  · simp only [pick_lo t h, h, ↓reduceDIte]
    blk_point [idx t, idx_lo t h]
  · simp only [pick_hi t h, h, ↓reduceDIte]
    blk_point [idx t, idx_hi t h]

end Cert.StepDownIdeal.Value

namespace Cert.StepDownPlainIdeal
open Idealize.ShloMosaic Idealize.ShloMosaic.TcCoe Idealize.SL.Sem

/-- The reference stops, its arguments untouched. -/
theorem runs : Cert.quiescent_StepDownPlainIdeal (hStepDownPlainIdeal := Cert.StepDownPlainIdeal.Gen.facts) := by
  intro m g _
  hlo_run
  · exact fun _ => ⟨trivial, trivial, trivial, trivial, trivial, trivial, trivial⟩
  · exact sem_eq_zero_of_no_sems (sig := Cert.StepDownPlainIdeal.sig) (by decide) _

set_option maxHeartbeats 2000000 in
/-- Kernel and reference leave the same values. -/
theorem same_values : Cert.algebraic_StepDownIdeal_StepDownPlainIdeal (hStepDownIdeal := Cert.StepDownIdeal.Gen.facts) (hStepDownPlainIdeal := Cert.StepDownPlainIdeal.Gen.facts) := by
  pair_intro
  · run_from Cert.StepDownIdeal.Gen.run_main m g
  · refine Idealize.ShloMosaic.θ_run_mono (Cert.StepDownPlainIdeal.Value.run m' g') ?_
    intro r hr c
    obtain ⟨h0, h1, h2, h3, ha⟩ := hr c
    obtain ⟨a0, a1, a2, a3, a4, a5, a6⟩ := hagree c
    have e0 := h0.trans (Cert.StepDownPlainIdeal.Read.val_main_v4_eq (F := Ideal) _ _ _ _)
    rw [a3, a4, a5, a6] at e0
    have e1 := h1.trans (Cert.StepDownPlainIdeal.Read.val_main_v28_eq (F := Ideal) _ _ _ _ _ _ _)
    rw [a0, a1, a2, a3, a4, a5, a6] at e1
    have e2 := h2.trans (Cert.StepDownPlainIdeal.Read.val_main_v9_eq (F := Ideal) _ _ _ _ _)
    rw [a1, a3, a4, a5, a6] at e2
    have e3 := h3.trans (Cert.StepDownPlainIdeal.Read.val_main_v15_eq (F := Ideal) _ _ _ _ _)
    rw [a2, a3, a4, a5, a6] at e3
    exact ⟨e0.trans ((Cert.StepDownIdeal.Value.final_grad m c).symm), e1.trans ((Cert.StepDownIdeal.Value.final_delta m c).symm), e2.trans ((Cert.StepDownIdeal.Value.final_m m c).symm), e3.trans ((Cert.StepDownIdeal.Value.final_v m c).symm), ha⟩

end Cert.StepDownPlainIdeal
-- ==== Proof.Pairs.SmallPack.lean ====
/- The packed buffer of the small arrays: one after the other from whole rows of 1024 on, and read back by slices. -/
module

public import proofs.«01_k».proof.Proof.Gen.StepSmallIdeal
public import Idealize.ShloMosaic.Lib.Pipeline.ValueKit
public import Idealize.ShloMosaic.Lib.Pointwise
public import Idealize.ShloMosaic.Lib.KernelVsHost

@[expose] public section
set_option maxRecDepth 16384
noncomputable section
namespace Cert.StepSmallIdeal.Pack
open Idealize.ShloMosaic Idealize.ShloMosaic.TcCoe Idealize.SL.Sem
open Cert.StepSmallIdeal Cert.StepSmallIdeal.Gen
open Idealize.ShloMosaic.Pipeline

/-- The index of a line. -/
def one {n : ℕ} (k : ℕ) (h : k < n) : (⟨1, ![n]⟩ : Shape).Idx := fun a => ⟨k, by fin_cases a; exact h⟩

/-- The ten arrays in one line, each filled up to whole rows. -/
def line (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : S16384.Idx → EReal :=
  pad S16384 ![0] ![2048] ![0] (concatenate S14336 0 [⟨S1024, pad S1024 ![0] ![256] ![0] (shapeCast S768 a0 shapeCasts_S32x24_S768) z pads_S768_S1024_02560 h_S_⟩, ⟨S1024, pad S1024 ![0] ![0] ![0] (shapeCast S1024 a1 shapeCasts_S1x1024_S1024) z pads_S1024_S1024_000 h_S_⟩, ⟨S4096, pad S4096 ![0] ![128] ![0] (shapeCast S3968 a2 shapeCasts_S31x128_S3968) z pads_S3968_S4096_01280 h_S_⟩, ⟨S1024, pad S1024 ![0] ![512] ![0] (shapeCast S512 a3 shapeCasts_S1x512_S512) z pads_S512_S1024_05120 h_S_⟩, ⟨S1024, pad S1024 ![0] ![512] ![0] (shapeCast S512 a4 shapeCasts_S1x512_S512) z pads_S512_S1024_05120 h_S_⟩, ⟨S1024, pad S1024 ![0] ![512] ![0] (shapeCast S512 a5 shapeCasts_S1x512_S512) z pads_S512_S1024_05120 h_S_⟩, ⟨S1024, pad S1024 ![0] ![768] ![0] (shapeCast S256 a6 shapeCasts_S1x256_S256) z pads_S256_S1024_07680 h_S_⟩, ⟨S1024, pad S1024 ![0] ![256] ![0] (shapeCast S768 a7 shapeCasts_S3x256_S768) z pads_S768_S1024_02560 h_S_⟩, ⟨S2048, pad S2048 ![0] ![0] ![0] (shapeCast S2048 a8 shapeCasts_S2x1024_S2048) z pads_S2048_S2048_000 h_S_⟩, ⟨S1024, pad S1024 ![0] ![0] ![0] a9 z pads_S1024_S1024_000 h_S_⟩] concatenates_S1024_S1024_S4096_S1024_S1024_S1024_S1024_S1024_S2048_S1024_S14336_d0) z pads_S14336_S16384_020480 h_S_

/-- The extents of the pieces before piece `k`. -/
def ahead (k : ℕ) : ℕ := ((([S1024, S1024, S4096, S1024, S1024, S1024, S1024, S1024, S2048, S1024] : List Shape).take k).map fun s => if h : s.rank = S14336.rank then s.size ((0 : Fin S14336.rank).cast h.symm) else 0).sum

theorem before (k p : ℕ) (h : ahead k = p) {z : S_.Idx → EReal} {a0 : S32x24.Idx → EReal} {a1 : S1x1024.Idx → EReal} {a2 : S31x128.Idx → EReal} {a3 : S1x512.Idx → EReal} {a4 : S1x512.Idx → EReal} {a5 : S1x512.Idx → EReal} {a6 : S1x256.Idx → EReal} {a7 : S3x256.Idx → EReal} {a8 : S2x1024.Idx → EReal} {a9 : S1024.Idx → EReal} :
    (((([⟨S1024, pad S1024 ![0] ![256] ![0] (shapeCast S768 a0 shapeCasts_S32x24_S768) z pads_S768_S1024_02560 h_S_⟩, ⟨S1024, pad S1024 ![0] ![0] ![0] (shapeCast S1024 a1 shapeCasts_S1x1024_S1024) z pads_S1024_S1024_000 h_S_⟩, ⟨S4096, pad S4096 ![0] ![128] ![0] (shapeCast S3968 a2 shapeCasts_S31x128_S3968) z pads_S3968_S4096_01280 h_S_⟩, ⟨S1024, pad S1024 ![0] ![512] ![0] (shapeCast S512 a3 shapeCasts_S1x512_S512) z pads_S512_S1024_05120 h_S_⟩, ⟨S1024, pad S1024 ![0] ![512] ![0] (shapeCast S512 a4 shapeCasts_S1x512_S512) z pads_S512_S1024_05120 h_S_⟩, ⟨S1024, pad S1024 ![0] ![512] ![0] (shapeCast S512 a5 shapeCasts_S1x512_S512) z pads_S512_S1024_05120 h_S_⟩, ⟨S1024, pad S1024 ![0] ![768] ![0] (shapeCast S256 a6 shapeCasts_S1x256_S256) z pads_S256_S1024_07680 h_S_⟩, ⟨S1024, pad S1024 ![0] ![256] ![0] (shapeCast S768 a7 shapeCasts_S3x256_S768) z pads_S768_S1024_02560 h_S_⟩, ⟨S2048, pad S2048 ![0] ![0] ![0] (shapeCast S2048 a8 shapeCasts_S2x1024_S2048) z pads_S2048_S2048_000 h_S_⟩, ⟨S1024, pad S1024 ![0] ![0] ![0] a9 z pads_S1024_S1024_000 h_S_⟩] : List ((s : Shape) × (s.Idx → EReal))).take k).map (·.1)).map fun s => if h : s.rank = S14336.rank then s.size ((0 : Fin S14336.rank).cast h.symm) else 0).sum = p := by
  rw [← h, List.map_take]
  rfl

/-- The packed buffer. -/
def pack (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : S16x1024.Idx → EReal :=
  shapeCast S16x1024 (line z a0 a1 a2 a3 a4 a5 a6 a7 a8 a9) shapeCasts_S16384_S16x1024

/-- Array 1 of the packed buffer. -/
def get0 (u : S16x1024.Idx → EReal) : S32x24.Idx → EReal :=
  shapeCast S32x24 (extractStridedSlice S768 ![0] (shapeCast S16384 u shapeCasts_S16x1024_S16384) slices_S16384_S768_0) shapeCasts_S768_S32x24

theorem line_0 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S768 ![0] (line z a0 a1 a2 a3 a4 a5 a6 a7 a8 a9) slices_S16384_S768_0 = (shapeCast S768 a0 shapeCasts_S32x24_S768) := by
  funext i
  have hi : (i 0).val < 768 := (i 0).isLt
  refine (extractStridedSlice_apply _ _ _ i (one (n := 16384) (0 + (i 0).val) (by omega)) (fun a => by fin_cases a; rfl)).trans ?_
  unfold line
  refine (pad_apply_of_inside _ _ _ _ _ _ _ _ (one (n := 14336) (0 + (i 0).val) (by omega)) (fun a => by fin_cases a; show 0 + (i 0).val = 0 + (0 + (i 0).val) * (0 + 1); omega)).trans ?_
  refine Eq.trans (concatenate_apply_piece (t := S14336) 0 _ _ _ 0 (Nat.lt_of_lt_of_eq (by decide : 0 < 10) rfl) S1024 _ rfl rfl 0 (before 0 0 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 2 of the packed buffer. -/
def get1 (u : S16x1024.Idx → EReal) : S1x1024.Idx → EReal :=
  shapeCast S1x1024 (extractStridedSlice S1024 ![1024] (shapeCast S16384 u shapeCasts_S16x1024_S16384) slices_S16384_S1024_1024) shapeCasts_S1024_S1x1024

theorem line_1 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S1024 ![1024] (line z a0 a1 a2 a3 a4 a5 a6 a7 a8 a9) slices_S16384_S1024_1024 = (shapeCast S1024 a1 shapeCasts_S1x1024_S1024) := by
  funext i
  have hi : (i 0).val < 1024 := (i 0).isLt
  refine (extractStridedSlice_apply _ _ _ i (one (n := 16384) (1024 + (i 0).val) (by omega)) (fun a => by fin_cases a; rfl)).trans ?_
  unfold line
  refine (pad_apply_of_inside _ _ _ _ _ _ _ _ (one (n := 14336) (1024 + (i 0).val) (by omega)) (fun a => by fin_cases a; show 1024 + (i 0).val = 0 + (1024 + (i 0).val) * (0 + 1); omega)).trans ?_
  refine Eq.trans (concatenate_apply_piece (t := S14336) 0 _ _ _ 1 (Nat.lt_of_lt_of_eq (by decide : 1 < 10) rfl) S1024 _ rfl rfl 1024 (before 1 1024 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 3 of the packed buffer. -/
def get2 (u : S16x1024.Idx → EReal) : S31x128.Idx → EReal :=
  shapeCast S31x128 (extractStridedSlice S3968 ![2048] (shapeCast S16384 u shapeCasts_S16x1024_S16384) slices_S16384_S3968_2048) shapeCasts_S3968_S31x128

theorem line_2 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S3968 ![2048] (line z a0 a1 a2 a3 a4 a5 a6 a7 a8 a9) slices_S16384_S3968_2048 = (shapeCast S3968 a2 shapeCasts_S31x128_S3968) := by
  funext i
  have hi : (i 0).val < 3968 := (i 0).isLt
  refine (extractStridedSlice_apply _ _ _ i (one (n := 16384) (2048 + (i 0).val) (by omega)) (fun a => by fin_cases a; rfl)).trans ?_
  unfold line
  refine (pad_apply_of_inside _ _ _ _ _ _ _ _ (one (n := 14336) (2048 + (i 0).val) (by omega)) (fun a => by fin_cases a; show 2048 + (i 0).val = 0 + (2048 + (i 0).val) * (0 + 1); omega)).trans ?_
  refine Eq.trans (concatenate_apply_piece (t := S14336) 0 _ _ _ 2 (Nat.lt_of_lt_of_eq (by decide : 2 < 10) rfl) S4096 _ rfl rfl 2048 (before 2 2048 (by decide +kernel)) (one (n := 4096) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 4 of the packed buffer. -/
def get3 (u : S16x1024.Idx → EReal) : S1x512.Idx → EReal :=
  shapeCast S1x512 (extractStridedSlice S512 ![6144] (shapeCast S16384 u shapeCasts_S16x1024_S16384) slices_S16384_S512_6144) shapeCasts_S512_S1x512

theorem line_3 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S512 ![6144] (line z a0 a1 a2 a3 a4 a5 a6 a7 a8 a9) slices_S16384_S512_6144 = (shapeCast S512 a3 shapeCasts_S1x512_S512) := by
  funext i
  have hi : (i 0).val < 512 := (i 0).isLt
  refine (extractStridedSlice_apply _ _ _ i (one (n := 16384) (6144 + (i 0).val) (by omega)) (fun a => by fin_cases a; rfl)).trans ?_
  unfold line
  refine (pad_apply_of_inside _ _ _ _ _ _ _ _ (one (n := 14336) (6144 + (i 0).val) (by omega)) (fun a => by fin_cases a; show 6144 + (i 0).val = 0 + (6144 + (i 0).val) * (0 + 1); omega)).trans ?_
  refine Eq.trans (concatenate_apply_piece (t := S14336) 0 _ _ _ 3 (Nat.lt_of_lt_of_eq (by decide : 3 < 10) rfl) S1024 _ rfl rfl 6144 (before 3 6144 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 5 of the packed buffer. -/
def get4 (u : S16x1024.Idx → EReal) : S1x512.Idx → EReal :=
  shapeCast S1x512 (extractStridedSlice S512 ![7168] (shapeCast S16384 u shapeCasts_S16x1024_S16384) slices_S16384_S512_7168) shapeCasts_S512_S1x512

theorem line_4 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S512 ![7168] (line z a0 a1 a2 a3 a4 a5 a6 a7 a8 a9) slices_S16384_S512_7168 = (shapeCast S512 a4 shapeCasts_S1x512_S512) := by
  funext i
  have hi : (i 0).val < 512 := (i 0).isLt
  refine (extractStridedSlice_apply _ _ _ i (one (n := 16384) (7168 + (i 0).val) (by omega)) (fun a => by fin_cases a; rfl)).trans ?_
  unfold line
  refine (pad_apply_of_inside _ _ _ _ _ _ _ _ (one (n := 14336) (7168 + (i 0).val) (by omega)) (fun a => by fin_cases a; show 7168 + (i 0).val = 0 + (7168 + (i 0).val) * (0 + 1); omega)).trans ?_
  refine Eq.trans (concatenate_apply_piece (t := S14336) 0 _ _ _ 4 (Nat.lt_of_lt_of_eq (by decide : 4 < 10) rfl) S1024 _ rfl rfl 7168 (before 4 7168 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 6 of the packed buffer. -/
def get5 (u : S16x1024.Idx → EReal) : S1x512.Idx → EReal :=
  shapeCast S1x512 (extractStridedSlice S512 ![8192] (shapeCast S16384 u shapeCasts_S16x1024_S16384) slices_S16384_S512_8192) shapeCasts_S512_S1x512

theorem line_5 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S512 ![8192] (line z a0 a1 a2 a3 a4 a5 a6 a7 a8 a9) slices_S16384_S512_8192 = (shapeCast S512 a5 shapeCasts_S1x512_S512) := by
  funext i
  have hi : (i 0).val < 512 := (i 0).isLt
  refine (extractStridedSlice_apply _ _ _ i (one (n := 16384) (8192 + (i 0).val) (by omega)) (fun a => by fin_cases a; rfl)).trans ?_
  unfold line
  refine (pad_apply_of_inside _ _ _ _ _ _ _ _ (one (n := 14336) (8192 + (i 0).val) (by omega)) (fun a => by fin_cases a; show 8192 + (i 0).val = 0 + (8192 + (i 0).val) * (0 + 1); omega)).trans ?_
  refine Eq.trans (concatenate_apply_piece (t := S14336) 0 _ _ _ 5 (Nat.lt_of_lt_of_eq (by decide : 5 < 10) rfl) S1024 _ rfl rfl 8192 (before 5 8192 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 7 of the packed buffer. -/
def get6 (u : S16x1024.Idx → EReal) : S1x256.Idx → EReal :=
  shapeCast S1x256 (extractStridedSlice S256 ![9216] (shapeCast S16384 u shapeCasts_S16x1024_S16384) slices_S16384_S256_9216) shapeCasts_S256_S1x256

theorem line_6 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S256 ![9216] (line z a0 a1 a2 a3 a4 a5 a6 a7 a8 a9) slices_S16384_S256_9216 = (shapeCast S256 a6 shapeCasts_S1x256_S256) := by
  funext i
  have hi : (i 0).val < 256 := (i 0).isLt
  refine (extractStridedSlice_apply _ _ _ i (one (n := 16384) (9216 + (i 0).val) (by omega)) (fun a => by fin_cases a; rfl)).trans ?_
  unfold line
  refine (pad_apply_of_inside _ _ _ _ _ _ _ _ (one (n := 14336) (9216 + (i 0).val) (by omega)) (fun a => by fin_cases a; show 9216 + (i 0).val = 0 + (9216 + (i 0).val) * (0 + 1); omega)).trans ?_
  refine Eq.trans (concatenate_apply_piece (t := S14336) 0 _ _ _ 6 (Nat.lt_of_lt_of_eq (by decide : 6 < 10) rfl) S1024 _ rfl rfl 9216 (before 6 9216 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 8 of the packed buffer. -/
def get7 (u : S16x1024.Idx → EReal) : S3x256.Idx → EReal :=
  shapeCast S3x256 (extractStridedSlice S768 ![10240] (shapeCast S16384 u shapeCasts_S16x1024_S16384) slices_S16384_S768_10240) shapeCasts_S768_S3x256

theorem line_7 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S768 ![10240] (line z a0 a1 a2 a3 a4 a5 a6 a7 a8 a9) slices_S16384_S768_10240 = (shapeCast S768 a7 shapeCasts_S3x256_S768) := by
  funext i
  have hi : (i 0).val < 768 := (i 0).isLt
  refine (extractStridedSlice_apply _ _ _ i (one (n := 16384) (10240 + (i 0).val) (by omega)) (fun a => by fin_cases a; rfl)).trans ?_
  unfold line
  refine (pad_apply_of_inside _ _ _ _ _ _ _ _ (one (n := 14336) (10240 + (i 0).val) (by omega)) (fun a => by fin_cases a; show 10240 + (i 0).val = 0 + (10240 + (i 0).val) * (0 + 1); omega)).trans ?_
  refine Eq.trans (concatenate_apply_piece (t := S14336) 0 _ _ _ 7 (Nat.lt_of_lt_of_eq (by decide : 7 < 10) rfl) S1024 _ rfl rfl 10240 (before 7 10240 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 9 of the packed buffer. -/
def get8 (u : S16x1024.Idx → EReal) : S2x1024.Idx → EReal :=
  shapeCast S2x1024 (extractStridedSlice S2048 ![11264] (shapeCast S16384 u shapeCasts_S16x1024_S16384) slices_S16384_S2048_11264) shapeCasts_S2048_S2x1024

theorem line_8 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S2048 ![11264] (line z a0 a1 a2 a3 a4 a5 a6 a7 a8 a9) slices_S16384_S2048_11264 = (shapeCast S2048 a8 shapeCasts_S2x1024_S2048) := by
  funext i
  have hi : (i 0).val < 2048 := (i 0).isLt
  refine (extractStridedSlice_apply _ _ _ i (one (n := 16384) (11264 + (i 0).val) (by omega)) (fun a => by fin_cases a; rfl)).trans ?_
  unfold line
  refine (pad_apply_of_inside _ _ _ _ _ _ _ _ (one (n := 14336) (11264 + (i 0).val) (by omega)) (fun a => by fin_cases a; show 11264 + (i 0).val = 0 + (11264 + (i 0).val) * (0 + 1); omega)).trans ?_
  refine Eq.trans (concatenate_apply_piece (t := S14336) 0 _ _ _ 8 (Nat.lt_of_lt_of_eq (by decide : 8 < 10) rfl) S2048 _ rfl rfl 11264 (before 8 11264 (by decide +kernel)) (one (n := 2048) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 10 of the packed buffer. -/
def get9 (u : S16x1024.Idx → EReal) : S1024.Idx → EReal :=
  extractStridedSlice S1024 ![13312] (shapeCast S16384 u shapeCasts_S16x1024_S16384) slices_S16384_S1024_13312

theorem line_9 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) :
    extractStridedSlice S1024 ![13312] (line z a0 a1 a2 a3 a4 a5 a6 a7 a8 a9) slices_S16384_S1024_13312 = a9 := by
  funext i
  have hi : (i 0).val < 1024 := (i 0).isLt
  refine (extractStridedSlice_apply _ _ _ i (one (n := 16384) (13312 + (i 0).val) (by omega)) (fun a => by fin_cases a; rfl)).trans ?_
  unfold line
  refine (pad_apply_of_inside _ _ _ _ _ _ _ _ (one (n := 14336) (13312 + (i 0).val) (by omega)) (fun a => by fin_cases a; show 13312 + (i 0).val = 0 + (13312 + (i 0).val) * (0 + 1); omega)).trans ?_
  refine Eq.trans (concatenate_apply_piece (t := S14336) 0 _ _ _ 9 (Nat.lt_of_lt_of_eq (by decide : 9 < 10) rfl) S1024 _ rfl rfl 13312 (before 9 13312 (by decide +kernel)) (one (n := 1024) (i 0).val (by omega)) (fun b hb => absurd (by fin_cases b; rfl) hb) rfl) ?_
  exact pad_apply_of_inside _ _ _ _ _ _ _ _ i (fun a => by fin_cases a; show (i 0).val = 0 + (i 0).val * (0 + 1); omega)

/-- Array 1 of the packed arrays is array 1. -/
theorem get_pack_0 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get0 (pack z a0 a1 a2 a3 a4 a5 a6 a7 a8 a9) = a0 := by
  unfold get0 pack
  rw [shapeCast_shapeCast, line_0, shapeCast_shapeCast]

theorem get_two_0 (f : EReal → EReal → EReal) (u v : S16x1024.Idx → EReal) :
    get0 (fun j => f (u j) (v j)) = fun i => f (get0 u i) (get0 v i) := rfl

theorem get_four_0 (f : EReal → EReal → EReal → EReal → EReal) (u v x y : S16x1024.Idx → EReal) :
    get0 (fun j => f (u j) (v j) (x j) (y j)) = fun i => f (get0 u i) (get0 v i) (get0 x i) (get0 y i) := rfl

/-- Array 2 of the packed arrays is array 2. -/
theorem get_pack_1 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get1 (pack z a0 a1 a2 a3 a4 a5 a6 a7 a8 a9) = a1 := by
  unfold get1 pack
  rw [shapeCast_shapeCast, line_1, shapeCast_shapeCast]

theorem get_two_1 (f : EReal → EReal → EReal) (u v : S16x1024.Idx → EReal) :
    get1 (fun j => f (u j) (v j)) = fun i => f (get1 u i) (get1 v i) := rfl

theorem get_four_1 (f : EReal → EReal → EReal → EReal → EReal) (u v x y : S16x1024.Idx → EReal) :
    get1 (fun j => f (u j) (v j) (x j) (y j)) = fun i => f (get1 u i) (get1 v i) (get1 x i) (get1 y i) := rfl

/-- Array 3 of the packed arrays is array 3. -/
theorem get_pack_2 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get2 (pack z a0 a1 a2 a3 a4 a5 a6 a7 a8 a9) = a2 := by
  unfold get2 pack
  rw [shapeCast_shapeCast, line_2, shapeCast_shapeCast]

theorem get_two_2 (f : EReal → EReal → EReal) (u v : S16x1024.Idx → EReal) :
    get2 (fun j => f (u j) (v j)) = fun i => f (get2 u i) (get2 v i) := rfl

theorem get_four_2 (f : EReal → EReal → EReal → EReal → EReal) (u v x y : S16x1024.Idx → EReal) :
    get2 (fun j => f (u j) (v j) (x j) (y j)) = fun i => f (get2 u i) (get2 v i) (get2 x i) (get2 y i) := rfl

/-- Array 4 of the packed arrays is array 4. -/
theorem get_pack_3 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get3 (pack z a0 a1 a2 a3 a4 a5 a6 a7 a8 a9) = a3 := by
  unfold get3 pack
  rw [shapeCast_shapeCast, line_3, shapeCast_shapeCast]

theorem get_two_3 (f : EReal → EReal → EReal) (u v : S16x1024.Idx → EReal) :
    get3 (fun j => f (u j) (v j)) = fun i => f (get3 u i) (get3 v i) := rfl

theorem get_four_3 (f : EReal → EReal → EReal → EReal → EReal) (u v x y : S16x1024.Idx → EReal) :
    get3 (fun j => f (u j) (v j) (x j) (y j)) = fun i => f (get3 u i) (get3 v i) (get3 x i) (get3 y i) := rfl

/-- Array 5 of the packed arrays is array 5. -/
theorem get_pack_4 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get4 (pack z a0 a1 a2 a3 a4 a5 a6 a7 a8 a9) = a4 := by
  unfold get4 pack
  rw [shapeCast_shapeCast, line_4, shapeCast_shapeCast]

theorem get_two_4 (f : EReal → EReal → EReal) (u v : S16x1024.Idx → EReal) :
    get4 (fun j => f (u j) (v j)) = fun i => f (get4 u i) (get4 v i) := rfl

theorem get_four_4 (f : EReal → EReal → EReal → EReal → EReal) (u v x y : S16x1024.Idx → EReal) :
    get4 (fun j => f (u j) (v j) (x j) (y j)) = fun i => f (get4 u i) (get4 v i) (get4 x i) (get4 y i) := rfl

/-- Array 6 of the packed arrays is array 6. -/
theorem get_pack_5 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get5 (pack z a0 a1 a2 a3 a4 a5 a6 a7 a8 a9) = a5 := by
  unfold get5 pack
  rw [shapeCast_shapeCast, line_5, shapeCast_shapeCast]

theorem get_two_5 (f : EReal → EReal → EReal) (u v : S16x1024.Idx → EReal) :
    get5 (fun j => f (u j) (v j)) = fun i => f (get5 u i) (get5 v i) := rfl

theorem get_four_5 (f : EReal → EReal → EReal → EReal → EReal) (u v x y : S16x1024.Idx → EReal) :
    get5 (fun j => f (u j) (v j) (x j) (y j)) = fun i => f (get5 u i) (get5 v i) (get5 x i) (get5 y i) := rfl

/-- Array 7 of the packed arrays is array 7. -/
theorem get_pack_6 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get6 (pack z a0 a1 a2 a3 a4 a5 a6 a7 a8 a9) = a6 := by
  unfold get6 pack
  rw [shapeCast_shapeCast, line_6, shapeCast_shapeCast]

theorem get_two_6 (f : EReal → EReal → EReal) (u v : S16x1024.Idx → EReal) :
    get6 (fun j => f (u j) (v j)) = fun i => f (get6 u i) (get6 v i) := rfl

theorem get_four_6 (f : EReal → EReal → EReal → EReal → EReal) (u v x y : S16x1024.Idx → EReal) :
    get6 (fun j => f (u j) (v j) (x j) (y j)) = fun i => f (get6 u i) (get6 v i) (get6 x i) (get6 y i) := rfl

/-- Array 8 of the packed arrays is array 8. -/
theorem get_pack_7 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get7 (pack z a0 a1 a2 a3 a4 a5 a6 a7 a8 a9) = a7 := by
  unfold get7 pack
  rw [shapeCast_shapeCast, line_7, shapeCast_shapeCast]

theorem get_two_7 (f : EReal → EReal → EReal) (u v : S16x1024.Idx → EReal) :
    get7 (fun j => f (u j) (v j)) = fun i => f (get7 u i) (get7 v i) := rfl

theorem get_four_7 (f : EReal → EReal → EReal → EReal → EReal) (u v x y : S16x1024.Idx → EReal) :
    get7 (fun j => f (u j) (v j) (x j) (y j)) = fun i => f (get7 u i) (get7 v i) (get7 x i) (get7 y i) := rfl

/-- Array 9 of the packed arrays is array 9. -/
theorem get_pack_8 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get8 (pack z a0 a1 a2 a3 a4 a5 a6 a7 a8 a9) = a8 := by
  unfold get8 pack
  rw [shapeCast_shapeCast, line_8, shapeCast_shapeCast]

theorem get_two_8 (f : EReal → EReal → EReal) (u v : S16x1024.Idx → EReal) :
    get8 (fun j => f (u j) (v j)) = fun i => f (get8 u i) (get8 v i) := rfl

theorem get_four_8 (f : EReal → EReal → EReal → EReal → EReal) (u v x y : S16x1024.Idx → EReal) :
    get8 (fun j => f (u j) (v j) (x j) (y j)) = fun i => f (get8 u i) (get8 v i) (get8 x i) (get8 y i) := rfl

/-- Array 10 of the packed arrays is array 10. -/
theorem get_pack_9 (z : S_.Idx → EReal) (a0 : S32x24.Idx → EReal) (a1 : S1x1024.Idx → EReal) (a2 : S31x128.Idx → EReal) (a3 : S1x512.Idx → EReal) (a4 : S1x512.Idx → EReal) (a5 : S1x512.Idx → EReal) (a6 : S1x256.Idx → EReal) (a7 : S3x256.Idx → EReal) (a8 : S2x1024.Idx → EReal) (a9 : S1024.Idx → EReal) : get9 (pack z a0 a1 a2 a3 a4 a5 a6 a7 a8 a9) = a9 := by
  unfold get9 pack
  rw [shapeCast_shapeCast, line_9]

theorem get_two_9 (f : EReal → EReal → EReal) (u v : S16x1024.Idx → EReal) :
    get9 (fun j => f (u j) (v j)) = fun i => f (get9 u i) (get9 v i) := rfl

theorem get_four_9 (f : EReal → EReal → EReal → EReal → EReal) (u v x y : S16x1024.Idx → EReal) :
    get9 (fun j => f (u j) (v j) (x j) (y j)) = fun i => f (get9 u i) (get9 v i) (get9 x i) (get9 y i) := rfl

end Cert.StepSmallIdeal.Pack
-- ==== Proof.Pairs.SmallEntry.lean ====
/- What the call finds in its four packed buffers. -/
module

public import proofs.«01_k».proof.Proof.Gen.StepSmallIdeal.Frame
public import proofs.«01_k».proof.Proof.Pairs.SmallPack
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallIdeal.Value
open Idealize.ShloMosaic Idealize.ShloMosaic.TcCoe Idealize.SL.Sem
open Idealize.ShloMosaic.Pipeline (Dat)
open Cert.StepSmallIdeal Cert.StepSmallIdeal.Gen

variable (m : (ℓ : Loc nD τ sig) → Buf (Elt Ideal) ℓ)

/-- What fills the packed buffers up: zero. -/
def filler : S_.Idx → EReal := (sitofp (F := Ideal) .f32 (constantI S_ 32 0#32) : FVec Ideal S_ .f32)

set_option maxHeartbeats 4000000 in
theorem entry_0 (c : Dev nD) : V m c main_v21 = Pack.pack filler (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  entry_read
  rfl

set_option maxHeartbeats 4000000 in
theorem entry_1 (c : Dev nD) : V m c main_v43 = Pack.pack filler (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  entry_read
  rfl

set_option maxHeartbeats 4000000 in
theorem entry_2 (c : Dev nD) : V m c main_v65 = Pack.pack filler (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  entry_read
  rfl

set_option maxHeartbeats 4000000 in
theorem entry_3 (c : Dev nD) : V m c main_v87 = Pack.pack filler (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) := by
  entry_read
  rfl

end Cert.StepSmallIdeal.Value
-- ==== Proof.Pairs.SmallFinal.lean ====
/- What the call leaves in its four packed buffers. -/
module

public import proofs.«01_k».proof.Proof.Gen.StepSmallIdeal.Frame
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallIdeal.Value
open Idealize.ShloMosaic Idealize.ShloMosaic.TcCoe Idealize.SL.Sem
open Idealize.ShloMosaic.Pipeline (Dat)
open Cert.StepSmallIdeal Cert.StepSmallIdeal.Gen

variable (m : (ℓ : Loc nD τ sig) → Buf (Elt Ideal) ℓ)

/-- The new first moment of one element, from the old one and the gradient. -/
def moment (a g : EReal) : EReal := Ideal.ofBits .f32 0x3F666666#32 * a + Ideal.ofBits .f32 0x3DCCCCCD#32 * g

/-- The new second moment of one element. -/
def square (v g : EReal) : EReal := Ideal.ofBits .f32 0x3F7FBE77#32 * v + Ideal.ofBits .f32 0x3A83126F#32 * (g * g)

/-- The change of one element of a weight. -/
def change (w a v g : EReal) : EReal :=
  Ideal.ofBits .f32 0xBA83126F#32 * (Ideal.div (Ideal.div (moment a g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

/-- Where each window's block sits at a point of the grid. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem final_grad (c : Dev nD) : (dats m 0 c).arrAt 4 (cfgs 0).N = fun j : S16x1024.Idx => (V m c main_v87 j : EReal) := by
  refine (dats m 0 c).arrAt_eq_of_covers 4 _ (by decide +kernel) fun t hf y => ?_
  blk_simp
  rw [after0_4]
  frame_out
  pointwise [k0_pay1, k0_pay2, k0_pay3, k0_pay4, moment, square, change]
  blk_point [iblk, idx t]

theorem final_delta (c : Dev nD) : (dats m 0 c).arrAt 5 (cfgs 0).N = fun j : S16x1024.Idx => (change (V m c main_v21 j) (V m c main_v43 j) (V m c main_v65 j) (V m c main_v87 j) : EReal) := by
  refine (dats m 0 c).arrAt_eq_of_covers 5 _ (by decide +kernel) fun t hf y => ?_
  blk_simp
  rw [after0_5]
  frame_out
  pointwise [k0_pay1, k0_pay2, k0_pay3, k0_pay4, moment, square, change]
  blk_point [iblk, idx t]

theorem final_m (c : Dev nD) : (dats m 0 c).arrAt 6 (cfgs 0).N = fun j : S16x1024.Idx => (moment (V m c main_v43 j) (V m c main_v87 j) : EReal) := by
  refine (dats m 0 c).arrAt_eq_of_covers 6 _ (by decide +kernel) fun t hf y => ?_
  blk_simp
  rw [after0_6]
  frame_out
  pointwise [k0_pay1, k0_pay2, k0_pay3, k0_pay4, moment, square, change]
  blk_point [iblk, idx t]

theorem final_v (c : Dev nD) : (dats m 0 c).arrAt 7 (cfgs 0).N = fun j : S16x1024.Idx => (square (V m c main_v65 j) (V m c main_v87 j) : EReal) := by
  refine (dats m 0 c).arrAt_eq_of_covers 7 _ (by decide +kernel) fun t hf y => ?_
  blk_simp
  rw [after0_7]
  frame_out
  pointwise [k0_pay1, k0_pay2, k0_pay3, k0_pay4, moment, square, change]
  blk_point [iblk, idx t]

end Cert.StepSmallIdeal.Value
-- ==== Proof.Pairs.SmallTail.lean ====
/- What the host reads out of the packed buffers after the call. -/
module

public import proofs.«01_k».proof.Proof.Gen.StepSmallIdeal.Frame
public import proofs.«01_k».proof.Proof.Pairs.SmallPack
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallIdeal.Value
open Idealize.ShloMosaic Idealize.ShloMosaic.TcCoe Idealize.SL.Sem
open Cert.StepSmallIdeal Cert.StepSmallIdeal.Gen

variable (σ : Valuation τ sig (Elt Ideal))

set_option maxHeartbeats 4000000 in
theorem read_0_0 : StableHlo.after (hostOps1 (F := Ideal)) σ (Proc.devRef .tc main_v91) = Pack.get0 (σ (Proc.devRef .tc main_v88_0)) := by
  after_results_simp
  rfl

set_option maxHeartbeats 4000000 in
theorem read_0_1 : StableHlo.after (hostOps1 (F := Ideal)) σ (Proc.devRef .tc main_v93) = Pack.get1 (σ (Proc.devRef .tc main_v88_0)) := by
  after_results_simp
  rfl

set_option maxHeartbeats 4000000 in
theorem read_0_2 : StableHlo.after (hostOps1 (F := Ideal)) σ (Proc.devRef .tc main_v95) = Pack.get2 (σ (Proc.devRef .tc main_v88_0)) := by
  after_results_simp
  rfl

set_option maxHeartbeats 4000000 in
theorem read_0_3 : StableHlo.after (hostOps1 (F := Ideal)) σ (Proc.devRef .tc main_v97) = Pack.get3 (σ (Proc.devRef .tc main_v88_0)) := by
  after_results_simp
  rfl

set_option maxHeartbeats 4000000 in
theorem read_0_4 : StableHlo.after (hostOps1 (F := Ideal)) σ (Proc.devRef .tc main_v99) = Pack.get4 (σ (Proc.devRef .tc main_v88_0)) := by
  after_results_simp
  rfl

set_option maxHeartbeats 4000000 in
theorem read_0_5 : StableHlo.after (hostOps1 (F := Ideal)) σ (Proc.devRef .tc main_v101) = Pack.get5 (σ (Proc.devRef .tc main_v88_0)) := by
  after_results_simp
  rfl

set_option maxHeartbeats 4000000 in
theorem read_0_6 : StableHlo.after (hostOps1 (F := Ideal)) σ (Proc.devRef .tc main_v103) = Pack.get6 (σ (Proc.devRef .tc main_v88_0)) := by
  after_results_simp
  rfl

set_option maxHeartbeats 4000000 in
theorem read_0_7 : StableHlo.after (hostOps1 (F := Ideal)) σ (Proc.devRef .tc main_v105) = Pack.get7 (σ (Proc.devRef .tc main_v88_0)) := by
  after_results_simp
  rfl

set_option maxHeartbeats 4000000 in
theorem read_0_8 : StableHlo.after (hostOps1 (F := Ideal)) σ (Proc.devRef .tc main_v107) = Pack.get8 (σ (Proc.devRef .tc main_v88_0)) := by
  after_results_simp
  rfl

set_option maxHeartbeats 4000000 in
theorem read_0_9 : StableHlo.after (hostOps1 (F := Ideal)) σ (Proc.devRef .tc main_v108) = Pack.get9 (σ (Proc.devRef .tc main_v88_0)) := by
  after_results_simp
  rfl

set_option maxHeartbeats 4000000 in
theorem read_1_0 : StableHlo.after (hostOps1 (F := Ideal)) σ (Proc.devRef .tc main_v111) = Pack.get0 (σ (Proc.devRef .tc main_v88_1)) := by
  after_results_simp
  rfl

set_option maxHeartbeats 4000000 in
theorem read_1_1 : StableHlo.after (hostOps1 (F := Ideal)) σ (Proc.devRef .tc main_v113) = Pack.get1 (σ (Proc.devRef .tc main_v88_1)) := by
  after_results_simp
  rfl

set_option maxHeartbeats 4000000 in
theorem read_1_2 : StableHlo.after (hostOps1 (F := Ideal)) σ (Proc.devRef .tc main_v115) = Pack.get2 (σ (Proc.devRef .tc main_v88_1)) := by
  after_results_simp
  rfl

set_option maxHeartbeats 4000000 in
theorem read_1_3 : StableHlo.after (hostOps1 (F := Ideal)) σ (Proc.devRef .tc main_v117) = Pack.get3 (σ (Proc.devRef .tc main_v88_1)) := by
  after_results_simp
  rfl

set_option maxHeartbeats 4000000 in
theorem read_1_4 : StableHlo.after (hostOps1 (F := Ideal)) σ (Proc.devRef .tc main_v119) = Pack.get4 (σ (Proc.devRef .tc main_v88_1)) := by
  after_results_simp
  rfl

set_option maxHeartbeats 4000000 in
theorem read_1_5 : StableHlo.after (hostOps1 (F := Ideal)) σ (Proc.devRef .tc main_v121) = Pack.get5 (σ (Proc.devRef .tc main_v88_1)) := by
  after_results_simp
  rfl

set_option maxHeartbeats 4000000 in
theorem read_1_6 : StableHlo.after (hostOps1 (F := Ideal)) σ (Proc.devRef .tc main_v123) = Pack.get6 (σ (Proc.devRef .tc main_v88_1)) := by
  after_results_simp
  rfl

set_option maxHeartbeats 4000000 in
theorem read_1_7 : StableHlo.after (hostOps1 (F := Ideal)) σ (Proc.devRef .tc main_v125) = Pack.get7 (σ (Proc.devRef .tc main_v88_1)) := by
  after_results_simp
  rfl

set_option maxHeartbeats 4000000 in
theorem read_1_8 : StableHlo.after (hostOps1 (F := Ideal)) σ (Proc.devRef .tc main_v127) = Pack.get8 (σ (Proc.devRef .tc main_v88_1)) := by
  after_results_simp
  rfl

set_option maxHeartbeats 4000000 in
theorem read_1_9 : StableHlo.after (hostOps1 (F := Ideal)) σ (Proc.devRef .tc main_v128) = Pack.get9 (σ (Proc.devRef .tc main_v88_1)) := by
  after_results_simp
  rfl

set_option maxHeartbeats 4000000 in
theorem read_2_0 : StableHlo.after (hostOps1 (F := Ideal)) σ (Proc.devRef .tc main_v131) = Pack.get0 (σ (Proc.devRef .tc main_v88_2)) := by
  after_results_simp
  rfl

set_option maxHeartbeats 4000000 in
theorem read_2_1 : StableHlo.after (hostOps1 (F := Ideal)) σ (Proc.devRef .tc main_v133) = Pack.get1 (σ (Proc.devRef .tc main_v88_2)) := by
  after_results_simp
  rfl

set_option maxHeartbeats 4000000 in
theorem read_2_2 : StableHlo.after (hostOps1 (F := Ideal)) σ (Proc.devRef .tc main_v135) = Pack.get2 (σ (Proc.devRef .tc main_v88_2)) := by
  after_results_simp
  rfl

set_option maxHeartbeats 4000000 in
theorem read_2_3 : StableHlo.after (hostOps1 (F := Ideal)) σ (Proc.devRef .tc main_v137) = Pack.get3 (σ (Proc.devRef .tc main_v88_2)) := by
  after_results_simp
  rfl

set_option maxHeartbeats 4000000 in
theorem read_2_4 : StableHlo.after (hostOps1 (F := Ideal)) σ (Proc.devRef .tc main_v139) = Pack.get4 (σ (Proc.devRef .tc main_v88_2)) := by
  after_results_simp
  rfl

set_option maxHeartbeats 4000000 in
theorem read_2_5 : StableHlo.after (hostOps1 (F := Ideal)) σ (Proc.devRef .tc main_v141) = Pack.get5 (σ (Proc.devRef .tc main_v88_2)) := by
  after_results_simp
  rfl

set_option maxHeartbeats 4000000 in
theorem read_2_6 : StableHlo.after (hostOps1 (F := Ideal)) σ (Proc.devRef .tc main_v143) = Pack.get6 (σ (Proc.devRef .tc main_v88_2)) := by
  after_results_simp
  rfl

set_option maxHeartbeats 4000000 in
theorem read_2_7 : StableHlo.after (hostOps1 (F := Ideal)) σ (Proc.devRef .tc main_v145) = Pack.get7 (σ (Proc.devRef .tc main_v88_2)) := by
  after_results_simp
  rfl

set_option maxHeartbeats 4000000 in
theorem read_2_8 : StableHlo.after (hostOps1 (F := Ideal)) σ (Proc.devRef .tc main_v147) = Pack.get8 (σ (Proc.devRef .tc main_v88_2)) := by
  after_results_simp
  rfl

set_option maxHeartbeats 4000000 in
theorem read_2_9 : StableHlo.after (hostOps1 (F := Ideal)) σ (Proc.devRef .tc main_v148) = Pack.get9 (σ (Proc.devRef .tc main_v88_2)) := by
  after_results_simp
  rfl

set_option maxHeartbeats 4000000 in
theorem read_3_0 : StableHlo.after (hostOps1 (F := Ideal)) σ (Proc.devRef .tc main_v151) = Pack.get0 (σ (Proc.devRef .tc main_v88_3)) := by
  after_results_simp
  rfl

set_option maxHeartbeats 4000000 in
theorem read_3_1 : StableHlo.after (hostOps1 (F := Ideal)) σ (Proc.devRef .tc main_v153) = Pack.get1 (σ (Proc.devRef .tc main_v88_3)) := by
  after_results_simp
  rfl

set_option maxHeartbeats 4000000 in
theorem read_3_2 : StableHlo.after (hostOps1 (F := Ideal)) σ (Proc.devRef .tc main_v155) = Pack.get2 (σ (Proc.devRef .tc main_v88_3)) := by
  after_results_simp
  rfl

set_option maxHeartbeats 4000000 in
theorem read_3_3 : StableHlo.after (hostOps1 (F := Ideal)) σ (Proc.devRef .tc main_v157) = Pack.get3 (σ (Proc.devRef .tc main_v88_3)) := by
  after_results_simp
  rfl

set_option maxHeartbeats 4000000 in
theorem read_3_4 : StableHlo.after (hostOps1 (F := Ideal)) σ (Proc.devRef .tc main_v159) = Pack.get4 (σ (Proc.devRef .tc main_v88_3)) := by
  after_results_simp
  rfl

set_option maxHeartbeats 4000000 in
theorem read_3_5 : StableHlo.after (hostOps1 (F := Ideal)) σ (Proc.devRef .tc main_v161) = Pack.get5 (σ (Proc.devRef .tc main_v88_3)) := by
  after_results_simp
  rfl

set_option maxHeartbeats 4000000 in
theorem read_3_6 : StableHlo.after (hostOps1 (F := Ideal)) σ (Proc.devRef .tc main_v163) = Pack.get6 (σ (Proc.devRef .tc main_v88_3)) := by
  after_results_simp
  rfl

set_option maxHeartbeats 4000000 in
theorem read_3_7 : StableHlo.after (hostOps1 (F := Ideal)) σ (Proc.devRef .tc main_v165) = Pack.get7 (σ (Proc.devRef .tc main_v88_3)) := by
  after_results_simp
  rfl

set_option maxHeartbeats 4000000 in
theorem read_3_8 : StableHlo.after (hostOps1 (F := Ideal)) σ (Proc.devRef .tc main_v167) = Pack.get8 (σ (Proc.devRef .tc main_v88_3)) := by
  after_results_simp
  rfl

set_option maxHeartbeats 4000000 in
theorem read_3_9 : StableHlo.after (hostOps1 (F := Ideal)) σ (Proc.devRef .tc main_v168) = Pack.get9 (σ (Proc.devRef .tc main_v88_3)) := by
  after_results_simp
  rfl

end Cert.StepSmallIdeal.Value
-- ==== Proof.Pairs.SmallResult.lean ====
/- What each result of the small arrays' step holds. -/
module

public import proofs.«01_k».proof.Defs
public import proofs.«01_k».proof.Proof.Gen.StepSmallIdeal.Frame
public import proofs.«01_k».proof.Proof.Gen.StepSmallPlainIdeal.Run
public import proofs.«01_k».proof.Proof.Gen.StepSmallPlainIdeal.Read
public import proofs.«01_k».proof.Proof.Pairs.SmallPack
public import proofs.«01_k».proof.Proof.Pairs.SmallEntry
public import proofs.«01_k».proof.Proof.Pairs.SmallFinal
public import proofs.«01_k».proof.Proof.Pairs.SmallTail
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallIdeal.Value
open Idealize.ShloMosaic Idealize.ShloMosaic.TcCoe Idealize.SL.Sem
open Cert.StepSmallIdeal Cert.StepSmallIdeal.Gen

variable (m : (ℓ : Loc nD τ sig) → Buf (Elt Ideal) ℓ)

/-- Result 1 of the call, read after it. -/
theorem arr_0 (c : Dev nD) : Pipeline.withArrays (cfgs 0).spec c (V0 m c) (fun w => (dats m 0 c).arrAt w (cfgs 0).N) (Proc.devRef .tc main_v88_0)
    = (fun y : S16x1024.Idx => (Pack.pack filler (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) y) := by
  refine (Pipeline.withArrays_arr spec0 launch0.win.arr_inj c _ _ 4).trans ?_
  rw [final_grad, entry_3]

/-- Result 2 of the call, read after it. -/
theorem arr_1 (c : Dev nD) : Pipeline.withArrays (cfgs 0).spec c (V0 m c) (fun w => (dats m 0 c).arrAt w (cfgs 0).N) (Proc.devRef .tc main_v88_1)
    = (fun y : S16x1024.Idx => change ((Pack.pack filler (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) y) ((Pack.pack filler (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) y) ((Pack.pack filler (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))) y) ((Pack.pack filler (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) y)) := by
  refine (Pipeline.withArrays_arr spec0 launch0.win.arr_inj c _ _ 5).trans ?_
  rw [final_delta, entry_0, entry_1, entry_2, entry_3]

/-- Result 3 of the call, read after it. -/
theorem arr_2 (c : Dev nD) : Pipeline.withArrays (cfgs 0).spec c (V0 m c) (fun w => (dats m 0 c).arrAt w (cfgs 0).N) (Proc.devRef .tc main_v88_2)
    = (fun y : S16x1024.Idx => moment ((Pack.pack filler (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) y) ((Pack.pack filler (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) y)) := by
  refine (Pipeline.withArrays_arr spec0 launch0.win.arr_inj c _ _ 6).trans ?_
  rw [final_m, entry_1, entry_3]

/-- Result 4 of the call, read after it. -/
theorem arr_3 (c : Dev nD) : Pipeline.withArrays (cfgs 0).spec c (V0 m c) (fun w => (dats m 0 c).arrAt w (cfgs 0).N) (Proc.devRef .tc main_v88_3)
    = (fun y : S16x1024.Idx => square ((Pack.pack filler (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))) y) ((Pack.pack filler (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39))) y)) := by
  refine (Pipeline.withArrays_arr spec0 launch0.win.arr_inj c _ _ 7).trans ?_
  rw [final_v, entry_2, entry_3]

theorem result_0_0 (c : Dev nD) : Pipeline.afterTail₀ cfgs (dats m) 0 (V0 m) [hostOps1] c main_v91 = (m ((c : Thread nD τ).loc main_arg30) : S32x24.Idx → EReal) := by
  unfold Pipeline.afterTail₀
  rw [List.flatten_cons, List.flatten_nil, List.append_nil, read_0_0, arr_0]
  exact (Pack.get_pack_0 _ _ _ _ _ _ _ _ _ _ _)

theorem result_0_1 (c : Dev nD) : Pipeline.afterTail₀ cfgs (dats m) 0 (V0 m) [hostOps1] c main_v93 = (m ((c : Thread nD τ).loc main_arg31) : S1x1024.Idx → EReal) := by
  unfold Pipeline.afterTail₀
  rw [List.flatten_cons, List.flatten_nil, List.append_nil, read_0_1, arr_0]
  exact (Pack.get_pack_1 _ _ _ _ _ _ _ _ _ _ _)

theorem result_0_2 (c : Dev nD) : Pipeline.afterTail₀ cfgs (dats m) 0 (V0 m) [hostOps1] c main_v95 = (m ((c : Thread nD τ).loc main_arg32) : S31x128.Idx → EReal) := by
  unfold Pipeline.afterTail₀
  rw [List.flatten_cons, List.flatten_nil, List.append_nil, read_0_2, arr_0]
  exact (Pack.get_pack_2 _ _ _ _ _ _ _ _ _ _ _)

theorem result_0_3 (c : Dev nD) : Pipeline.afterTail₀ cfgs (dats m) 0 (V0 m) [hostOps1] c main_v97 = (m ((c : Thread nD τ).loc main_arg33) : S1x512.Idx → EReal) := by
  unfold Pipeline.afterTail₀
  rw [List.flatten_cons, List.flatten_nil, List.append_nil, read_0_3, arr_0]
  exact (Pack.get_pack_3 _ _ _ _ _ _ _ _ _ _ _)

theorem result_0_4 (c : Dev nD) : Pipeline.afterTail₀ cfgs (dats m) 0 (V0 m) [hostOps1] c main_v99 = (m ((c : Thread nD τ).loc main_arg34) : S1x512.Idx → EReal) := by
  unfold Pipeline.afterTail₀
  rw [List.flatten_cons, List.flatten_nil, List.append_nil, read_0_4, arr_0]
  exact (Pack.get_pack_4 _ _ _ _ _ _ _ _ _ _ _)

theorem result_0_5 (c : Dev nD) : Pipeline.afterTail₀ cfgs (dats m) 0 (V0 m) [hostOps1] c main_v101 = (m ((c : Thread nD τ).loc main_arg35) : S1x512.Idx → EReal) := by
  unfold Pipeline.afterTail₀
  rw [List.flatten_cons, List.flatten_nil, List.append_nil, read_0_5, arr_0]
  exact (Pack.get_pack_5 _ _ _ _ _ _ _ _ _ _ _)

theorem result_0_6 (c : Dev nD) : Pipeline.afterTail₀ cfgs (dats m) 0 (V0 m) [hostOps1] c main_v103 = (m ((c : Thread nD τ).loc main_arg36) : S1x256.Idx → EReal) := by
  unfold Pipeline.afterTail₀
  rw [List.flatten_cons, List.flatten_nil, List.append_nil, read_0_6, arr_0]
  exact (Pack.get_pack_6 _ _ _ _ _ _ _ _ _ _ _)

theorem result_0_7 (c : Dev nD) : Pipeline.afterTail₀ cfgs (dats m) 0 (V0 m) [hostOps1] c main_v105 = (m ((c : Thread nD τ).loc main_arg37) : S3x256.Idx → EReal) := by
  unfold Pipeline.afterTail₀
  rw [List.flatten_cons, List.flatten_nil, List.append_nil, read_0_7, arr_0]
  exact (Pack.get_pack_7 _ _ _ _ _ _ _ _ _ _ _)

theorem result_0_8 (c : Dev nD) : Pipeline.afterTail₀ cfgs (dats m) 0 (V0 m) [hostOps1] c main_v107 = (m ((c : Thread nD τ).loc main_arg38) : S2x1024.Idx → EReal) := by
  unfold Pipeline.afterTail₀
  rw [List.flatten_cons, List.flatten_nil, List.append_nil, read_0_8, arr_0]
  exact (Pack.get_pack_8 _ _ _ _ _ _ _ _ _ _ _)

theorem result_0_9 (c : Dev nD) : Pipeline.afterTail₀ cfgs (dats m) 0 (V0 m) [hostOps1] c main_v108 = (m ((c : Thread nD τ).loc main_arg39) : S1024.Idx → EReal) := by
  unfold Pipeline.afterTail₀
  rw [List.flatten_cons, List.flatten_nil, List.append_nil, read_0_9, arr_0]
  exact (Pack.get_pack_9 _ _ _ _ _ _ _ _ _ _ _)

theorem result_1_0 (c : Dev nD) : Pipeline.afterTail₀ cfgs (dats m) 0 (V0 m) [hostOps1] c main_v111 = (fun i : S32x24.Idx => change ((m ((c : Thread nD τ).loc main_arg0) : S32x24.Idx → EReal) i) ((m ((c : Thread nD τ).loc main_arg10) : S32x24.Idx → EReal) i) ((m ((c : Thread nD τ).loc main_arg20) : S32x24.Idx → EReal) i) ((m ((c : Thread nD τ).loc main_arg30) : S32x24.Idx → EReal) i)) := by
  unfold Pipeline.afterTail₀
  rw [List.flatten_cons, List.flatten_nil, List.append_nil, read_1_0, arr_1]
  exact (Pack.get_four_0 change _ _ _ _).trans (by rw [Pack.get_pack_0, Pack.get_pack_0, Pack.get_pack_0, Pack.get_pack_0])

theorem result_1_1 (c : Dev nD) : Pipeline.afterTail₀ cfgs (dats m) 0 (V0 m) [hostOps1] c main_v113 = (fun i : S1x1024.Idx => change ((m ((c : Thread nD τ).loc main_arg1) : S1x1024.Idx → EReal) i) ((m ((c : Thread nD τ).loc main_arg11) : S1x1024.Idx → EReal) i) ((m ((c : Thread nD τ).loc main_arg21) : S1x1024.Idx → EReal) i) ((m ((c : Thread nD τ).loc main_arg31) : S1x1024.Idx → EReal) i)) := by
  unfold Pipeline.afterTail₀
  rw [List.flatten_cons, List.flatten_nil, List.append_nil, read_1_1, arr_1]
  exact (Pack.get_four_1 change _ _ _ _).trans (by rw [Pack.get_pack_1, Pack.get_pack_1, Pack.get_pack_1, Pack.get_pack_1])

theorem result_1_2 (c : Dev nD) : Pipeline.afterTail₀ cfgs (dats m) 0 (V0 m) [hostOps1] c main_v115 = (fun i : S31x128.Idx => change ((m ((c : Thread nD τ).loc main_arg2) : S31x128.Idx → EReal) i) ((m ((c : Thread nD τ).loc main_arg12) : S31x128.Idx → EReal) i) ((m ((c : Thread nD τ).loc main_arg22) : S31x128.Idx → EReal) i) ((m ((c : Thread nD τ).loc main_arg32) : S31x128.Idx → EReal) i)) := by
  unfold Pipeline.afterTail₀
  rw [List.flatten_cons, List.flatten_nil, List.append_nil, read_1_2, arr_1]
  exact (Pack.get_four_2 change _ _ _ _).trans (by rw [Pack.get_pack_2, Pack.get_pack_2, Pack.get_pack_2, Pack.get_pack_2])

theorem result_1_3 (c : Dev nD) : Pipeline.afterTail₀ cfgs (dats m) 0 (V0 m) [hostOps1] c main_v117 = (fun i : S1x512.Idx => change ((m ((c : Thread nD τ).loc main_arg3) : S1x512.Idx → EReal) i) ((m ((c : Thread nD τ).loc main_arg13) : S1x512.Idx → EReal) i) ((m ((c : Thread nD τ).loc main_arg23) : S1x512.Idx → EReal) i) ((m ((c : Thread nD τ).loc main_arg33) : S1x512.Idx → EReal) i)) := by
  unfold Pipeline.afterTail₀
  rw [List.flatten_cons, List.flatten_nil, List.append_nil, read_1_3, arr_1]
  exact (Pack.get_four_3 change _ _ _ _).trans (by rw [Pack.get_pack_3, Pack.get_pack_3, Pack.get_pack_3, Pack.get_pack_3])

theorem result_1_4 (c : Dev nD) : Pipeline.afterTail₀ cfgs (dats m) 0 (V0 m) [hostOps1] c main_v119 = (fun i : S1x512.Idx => change ((m ((c : Thread nD τ).loc main_arg4) : S1x512.Idx → EReal) i) ((m ((c : Thread nD τ).loc main_arg14) : S1x512.Idx → EReal) i) ((m ((c : Thread nD τ).loc main_arg24) : S1x512.Idx → EReal) i) ((m ((c : Thread nD τ).loc main_arg34) : S1x512.Idx → EReal) i)) := by
  unfold Pipeline.afterTail₀
  rw [List.flatten_cons, List.flatten_nil, List.append_nil, read_1_4, arr_1]
  exact (Pack.get_four_4 change _ _ _ _).trans (by rw [Pack.get_pack_4, Pack.get_pack_4, Pack.get_pack_4, Pack.get_pack_4])

theorem result_1_5 (c : Dev nD) : Pipeline.afterTail₀ cfgs (dats m) 0 (V0 m) [hostOps1] c main_v121 = (fun i : S1x512.Idx => change ((m ((c : Thread nD τ).loc main_arg5) : S1x512.Idx → EReal) i) ((m ((c : Thread nD τ).loc main_arg15) : S1x512.Idx → EReal) i) ((m ((c : Thread nD τ).loc main_arg25) : S1x512.Idx → EReal) i) ((m ((c : Thread nD τ).loc main_arg35) : S1x512.Idx → EReal) i)) := by
  unfold Pipeline.afterTail₀
  rw [List.flatten_cons, List.flatten_nil, List.append_nil, read_1_5, arr_1]
  exact (Pack.get_four_5 change _ _ _ _).trans (by rw [Pack.get_pack_5, Pack.get_pack_5, Pack.get_pack_5, Pack.get_pack_5])

theorem result_1_6 (c : Dev nD) : Pipeline.afterTail₀ cfgs (dats m) 0 (V0 m) [hostOps1] c main_v123 = (fun i : S1x256.Idx => change ((m ((c : Thread nD τ).loc main_arg6) : S1x256.Idx → EReal) i) ((m ((c : Thread nD τ).loc main_arg16) : S1x256.Idx → EReal) i) ((m ((c : Thread nD τ).loc main_arg26) : S1x256.Idx → EReal) i) ((m ((c : Thread nD τ).loc main_arg36) : S1x256.Idx → EReal) i)) := by
  unfold Pipeline.afterTail₀
  rw [List.flatten_cons, List.flatten_nil, List.append_nil, read_1_6, arr_1]
  exact (Pack.get_four_6 change _ _ _ _).trans (by rw [Pack.get_pack_6, Pack.get_pack_6, Pack.get_pack_6, Pack.get_pack_6])

theorem result_1_7 (c : Dev nD) : Pipeline.afterTail₀ cfgs (dats m) 0 (V0 m) [hostOps1] c main_v125 = (fun i : S3x256.Idx => change ((m ((c : Thread nD τ).loc main_arg7) : S3x256.Idx → EReal) i) ((m ((c : Thread nD τ).loc main_arg17) : S3x256.Idx → EReal) i) ((m ((c : Thread nD τ).loc main_arg27) : S3x256.Idx → EReal) i) ((m ((c : Thread nD τ).loc main_arg37) : S3x256.Idx → EReal) i)) := by
  unfold Pipeline.afterTail₀
  rw [List.flatten_cons, List.flatten_nil, List.append_nil, read_1_7, arr_1]
  exact (Pack.get_four_7 change _ _ _ _).trans (by rw [Pack.get_pack_7, Pack.get_pack_7, Pack.get_pack_7, Pack.get_pack_7])

theorem result_1_8 (c : Dev nD) : Pipeline.afterTail₀ cfgs (dats m) 0 (V0 m) [hostOps1] c main_v127 = (fun i : S2x1024.Idx => change ((m ((c : Thread nD τ).loc main_arg8) : S2x1024.Idx → EReal) i) ((m ((c : Thread nD τ).loc main_arg18) : S2x1024.Idx → EReal) i) ((m ((c : Thread nD τ).loc main_arg28) : S2x1024.Idx → EReal) i) ((m ((c : Thread nD τ).loc main_arg38) : S2x1024.Idx → EReal) i)) := by
  unfold Pipeline.afterTail₀
  rw [List.flatten_cons, List.flatten_nil, List.append_nil, read_1_8, arr_1]
  exact (Pack.get_four_8 change _ _ _ _).trans (by rw [Pack.get_pack_8, Pack.get_pack_8, Pack.get_pack_8, Pack.get_pack_8])

theorem result_1_9 (c : Dev nD) : Pipeline.afterTail₀ cfgs (dats m) 0 (V0 m) [hostOps1] c main_v128 = (fun i : S1024.Idx => change ((m ((c : Thread nD τ).loc main_arg9) : S1024.Idx → EReal) i) ((m ((c : Thread nD τ).loc main_arg19) : S1024.Idx → EReal) i) ((m ((c : Thread nD τ).loc main_arg29) : S1024.Idx → EReal) i) ((m ((c : Thread nD τ).loc main_arg39) : S1024.Idx → EReal) i)) := by
  unfold Pipeline.afterTail₀
  rw [List.flatten_cons, List.flatten_nil, List.append_nil, read_1_9, arr_1]
  exact (Pack.get_four_9 change _ _ _ _).trans (by rw [Pack.get_pack_9, Pack.get_pack_9, Pack.get_pack_9, Pack.get_pack_9])

theorem result_2_0 (c : Dev nD) : Pipeline.afterTail₀ cfgs (dats m) 0 (V0 m) [hostOps1] c main_v131 = (fun i : S32x24.Idx => moment ((m ((c : Thread nD τ).loc main_arg10) : S32x24.Idx → EReal) i) ((m ((c : Thread nD τ).loc main_arg30) : S32x24.Idx → EReal) i)) := by
  unfold Pipeline.afterTail₀
  rw [List.flatten_cons, List.flatten_nil, List.append_nil, read_2_0, arr_2]
  exact (Pack.get_two_0 moment _ _).trans (by rw [Pack.get_pack_0, Pack.get_pack_0])

theorem result_2_1 (c : Dev nD) : Pipeline.afterTail₀ cfgs (dats m) 0 (V0 m) [hostOps1] c main_v133 = (fun i : S1x1024.Idx => moment ((m ((c : Thread nD τ).loc main_arg11) : S1x1024.Idx → EReal) i) ((m ((c : Thread nD τ).loc main_arg31) : S1x1024.Idx → EReal) i)) := by
  unfold Pipeline.afterTail₀
  rw [List.flatten_cons, List.flatten_nil, List.append_nil, read_2_1, arr_2]
  exact (Pack.get_two_1 moment _ _).trans (by rw [Pack.get_pack_1, Pack.get_pack_1])

theorem result_2_2 (c : Dev nD) : Pipeline.afterTail₀ cfgs (dats m) 0 (V0 m) [hostOps1] c main_v135 = (fun i : S31x128.Idx => moment ((m ((c : Thread nD τ).loc main_arg12) : S31x128.Idx → EReal) i) ((m ((c : Thread nD τ).loc main_arg32) : S31x128.Idx → EReal) i)) := by
  unfold Pipeline.afterTail₀
  rw [List.flatten_cons, List.flatten_nil, List.append_nil, read_2_2, arr_2]
  exact (Pack.get_two_2 moment _ _).trans (by rw [Pack.get_pack_2, Pack.get_pack_2])

theorem result_2_3 (c : Dev nD) : Pipeline.afterTail₀ cfgs (dats m) 0 (V0 m) [hostOps1] c main_v137 = (fun i : S1x512.Idx => moment ((m ((c : Thread nD τ).loc main_arg13) : S1x512.Idx → EReal) i) ((m ((c : Thread nD τ).loc main_arg33) : S1x512.Idx → EReal) i)) := by
  unfold Pipeline.afterTail₀
  rw [List.flatten_cons, List.flatten_nil, List.append_nil, read_2_3, arr_2]
  exact (Pack.get_two_3 moment _ _).trans (by rw [Pack.get_pack_3, Pack.get_pack_3])

theorem result_2_4 (c : Dev nD) : Pipeline.afterTail₀ cfgs (dats m) 0 (V0 m) [hostOps1] c main_v139 = (fun i : S1x512.Idx => moment ((m ((c : Thread nD τ).loc main_arg14) : S1x512.Idx → EReal) i) ((m ((c : Thread nD τ).loc main_arg34) : S1x512.Idx → EReal) i)) := by
  unfold Pipeline.afterTail₀
  rw [List.flatten_cons, List.flatten_nil, List.append_nil, read_2_4, arr_2]
  exact (Pack.get_two_4 moment _ _).trans (by rw [Pack.get_pack_4, Pack.get_pack_4])

theorem result_2_5 (c : Dev nD) : Pipeline.afterTail₀ cfgs (dats m) 0 (V0 m) [hostOps1] c main_v141 = (fun i : S1x512.Idx => moment ((m ((c : Thread nD τ).loc main_arg15) : S1x512.Idx → EReal) i) ((m ((c : Thread nD τ).loc main_arg35) : S1x512.Idx → EReal) i)) := by
  unfold Pipeline.afterTail₀
  rw [List.flatten_cons, List.flatten_nil, List.append_nil, read_2_5, arr_2]
  exact (Pack.get_two_5 moment _ _).trans (by rw [Pack.get_pack_5, Pack.get_pack_5])

theorem result_2_6 (c : Dev nD) : Pipeline.afterTail₀ cfgs (dats m) 0 (V0 m) [hostOps1] c main_v143 = (fun i : S1x256.Idx => moment ((m ((c : Thread nD τ).loc main_arg16) : S1x256.Idx → EReal) i) ((m ((c : Thread nD τ).loc main_arg36) : S1x256.Idx → EReal) i)) := by
  unfold Pipeline.afterTail₀
  rw [List.flatten_cons, List.flatten_nil, List.append_nil, read_2_6, arr_2]
  exact (Pack.get_two_6 moment _ _).trans (by rw [Pack.get_pack_6, Pack.get_pack_6])

theorem result_2_7 (c : Dev nD) : Pipeline.afterTail₀ cfgs (dats m) 0 (V0 m) [hostOps1] c main_v145 = (fun i : S3x256.Idx => moment ((m ((c : Thread nD τ).loc main_arg17) : S3x256.Idx → EReal) i) ((m ((c : Thread nD τ).loc main_arg37) : S3x256.Idx → EReal) i)) := by
  unfold Pipeline.afterTail₀
  rw [List.flatten_cons, List.flatten_nil, List.append_nil, read_2_7, arr_2]
  exact (Pack.get_two_7 moment _ _).trans (by rw [Pack.get_pack_7, Pack.get_pack_7])

theorem result_2_8 (c : Dev nD) : Pipeline.afterTail₀ cfgs (dats m) 0 (V0 m) [hostOps1] c main_v147 = (fun i : S2x1024.Idx => moment ((m ((c : Thread nD τ).loc main_arg18) : S2x1024.Idx → EReal) i) ((m ((c : Thread nD τ).loc main_arg38) : S2x1024.Idx → EReal) i)) := by
  unfold Pipeline.afterTail₀
  rw [List.flatten_cons, List.flatten_nil, List.append_nil, read_2_8, arr_2]
  exact (Pack.get_two_8 moment _ _).trans (by rw [Pack.get_pack_8, Pack.get_pack_8])

theorem result_2_9 (c : Dev nD) : Pipeline.afterTail₀ cfgs (dats m) 0 (V0 m) [hostOps1] c main_v148 = (fun i : S1024.Idx => moment ((m ((c : Thread nD τ).loc main_arg19) : S1024.Idx → EReal) i) ((m ((c : Thread nD τ).loc main_arg39) : S1024.Idx → EReal) i)) := by
  unfold Pipeline.afterTail₀
  rw [List.flatten_cons, List.flatten_nil, List.append_nil, read_2_9, arr_2]
  exact (Pack.get_two_9 moment _ _).trans (by rw [Pack.get_pack_9, Pack.get_pack_9])

theorem result_3_0 (c : Dev nD) : Pipeline.afterTail₀ cfgs (dats m) 0 (V0 m) [hostOps1] c main_v151 = (fun i : S32x24.Idx => square ((m ((c : Thread nD τ).loc main_arg20) : S32x24.Idx → EReal) i) ((m ((c : Thread nD τ).loc main_arg30) : S32x24.Idx → EReal) i)) := by
  unfold Pipeline.afterTail₀
  rw [List.flatten_cons, List.flatten_nil, List.append_nil, read_3_0, arr_3]
  exact (Pack.get_two_0 square _ _).trans (by rw [Pack.get_pack_0, Pack.get_pack_0])

theorem result_3_1 (c : Dev nD) : Pipeline.afterTail₀ cfgs (dats m) 0 (V0 m) [hostOps1] c main_v153 = (fun i : S1x1024.Idx => square ((m ((c : Thread nD τ).loc main_arg21) : S1x1024.Idx → EReal) i) ((m ((c : Thread nD τ).loc main_arg31) : S1x1024.Idx → EReal) i)) := by
  unfold Pipeline.afterTail₀
  rw [List.flatten_cons, List.flatten_nil, List.append_nil, read_3_1, arr_3]
  exact (Pack.get_two_1 square _ _).trans (by rw [Pack.get_pack_1, Pack.get_pack_1])

theorem result_3_2 (c : Dev nD) : Pipeline.afterTail₀ cfgs (dats m) 0 (V0 m) [hostOps1] c main_v155 = (fun i : S31x128.Idx => square ((m ((c : Thread nD τ).loc main_arg22) : S31x128.Idx → EReal) i) ((m ((c : Thread nD τ).loc main_arg32) : S31x128.Idx → EReal) i)) := by
  unfold Pipeline.afterTail₀
  rw [List.flatten_cons, List.flatten_nil, List.append_nil, read_3_2, arr_3]
  exact (Pack.get_two_2 square _ _).trans (by rw [Pack.get_pack_2, Pack.get_pack_2])

theorem result_3_3 (c : Dev nD) : Pipeline.afterTail₀ cfgs (dats m) 0 (V0 m) [hostOps1] c main_v157 = (fun i : S1x512.Idx => square ((m ((c : Thread nD τ).loc main_arg23) : S1x512.Idx → EReal) i) ((m ((c : Thread nD τ).loc main_arg33) : S1x512.Idx → EReal) i)) := by
  unfold Pipeline.afterTail₀
  rw [List.flatten_cons, List.flatten_nil, List.append_nil, read_3_3, arr_3]
  exact (Pack.get_two_3 square _ _).trans (by rw [Pack.get_pack_3, Pack.get_pack_3])

theorem result_3_4 (c : Dev nD) : Pipeline.afterTail₀ cfgs (dats m) 0 (V0 m) [hostOps1] c main_v159 = (fun i : S1x512.Idx => square ((m ((c : Thread nD τ).loc main_arg24) : S1x512.Idx → EReal) i) ((m ((c : Thread nD τ).loc main_arg34) : S1x512.Idx → EReal) i)) := by
  unfold Pipeline.afterTail₀
  rw [List.flatten_cons, List.flatten_nil, List.append_nil, read_3_4, arr_3]
  exact (Pack.get_two_4 square _ _).trans (by rw [Pack.get_pack_4, Pack.get_pack_4])

theorem result_3_5 (c : Dev nD) : Pipeline.afterTail₀ cfgs (dats m) 0 (V0 m) [hostOps1] c main_v161 = (fun i : S1x512.Idx => square ((m ((c : Thread nD τ).loc main_arg25) : S1x512.Idx → EReal) i) ((m ((c : Thread nD τ).loc main_arg35) : S1x512.Idx → EReal) i)) := by
  unfold Pipeline.afterTail₀
  rw [List.flatten_cons, List.flatten_nil, List.append_nil, read_3_5, arr_3]
  exact (Pack.get_two_5 square _ _).trans (by rw [Pack.get_pack_5, Pack.get_pack_5])

theorem result_3_6 (c : Dev nD) : Pipeline.afterTail₀ cfgs (dats m) 0 (V0 m) [hostOps1] c main_v163 = (fun i : S1x256.Idx => square ((m ((c : Thread nD τ).loc main_arg26) : S1x256.Idx → EReal) i) ((m ((c : Thread nD τ).loc main_arg36) : S1x256.Idx → EReal) i)) := by
  unfold Pipeline.afterTail₀
  rw [List.flatten_cons, List.flatten_nil, List.append_nil, read_3_6, arr_3]
  exact (Pack.get_two_6 square _ _).trans (by rw [Pack.get_pack_6, Pack.get_pack_6])

theorem result_3_7 (c : Dev nD) : Pipeline.afterTail₀ cfgs (dats m) 0 (V0 m) [hostOps1] c main_v165 = (fun i : S3x256.Idx => square ((m ((c : Thread nD τ).loc main_arg27) : S3x256.Idx → EReal) i) ((m ((c : Thread nD τ).loc main_arg37) : S3x256.Idx → EReal) i)) := by
  unfold Pipeline.afterTail₀
  rw [List.flatten_cons, List.flatten_nil, List.append_nil, read_3_7, arr_3]
  exact (Pack.get_two_7 square _ _).trans (by rw [Pack.get_pack_7, Pack.get_pack_7])

theorem result_3_8 (c : Dev nD) : Pipeline.afterTail₀ cfgs (dats m) 0 (V0 m) [hostOps1] c main_v167 = (fun i : S2x1024.Idx => square ((m ((c : Thread nD τ).loc main_arg28) : S2x1024.Idx → EReal) i) ((m ((c : Thread nD τ).loc main_arg38) : S2x1024.Idx → EReal) i)) := by
  unfold Pipeline.afterTail₀
  rw [List.flatten_cons, List.flatten_nil, List.append_nil, read_3_8, arr_3]
  exact (Pack.get_two_8 square _ _).trans (by rw [Pack.get_pack_8, Pack.get_pack_8])

theorem result_3_9 (c : Dev nD) : Pipeline.afterTail₀ cfgs (dats m) 0 (V0 m) [hostOps1] c main_v168 = (fun i : S1024.Idx => square ((m ((c : Thread nD τ).loc main_arg29) : S1024.Idx → EReal) i) ((m ((c : Thread nD τ).loc main_arg39) : S1024.Idx → EReal) i)) := by
  unfold Pipeline.afterTail₀
  rw [List.flatten_cons, List.flatten_nil, List.append_nil, read_3_9, arr_3]
  exact (Pack.get_two_9 square _ _).trans (by rw [Pack.get_pack_9, Pack.get_pack_9])

end Cert.StepSmallIdeal.Value
-- ==== Proof.Pairs.SmallPlain.lean ====
/- The reference's results, element by element. -/
module

public import proofs.«01_k».proof.Defs
public import proofs.«01_k».proof.Proof.Gen.StepSmallIdeal.Frame
public import proofs.«01_k».proof.Proof.Gen.StepSmallPlainIdeal.Run
public import proofs.«01_k».proof.Proof.Gen.StepSmallPlainIdeal.Read
public import proofs.«01_k».proof.Proof.Pairs.SmallFinal
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallIdeal.Value
open Idealize.ShloMosaic Idealize.ShloMosaic.TcCoe Idealize.SL.Sem
open Cert.StepSmallIdeal Cert.StepSmallIdeal.Gen

open Cert.StepSmallPlainIdeal.Read

theorem plain_1_0 (x0 : S32x24.Idx → EReal) (x1 : S32x24.Idx → EReal) (x2 : S32x24.Idx → EReal) (x3 : S32x24.Idx → EReal) : val_main_v23 (F := Ideal) x0 x1 x2 x3 = fun i => change (x0 i) (x1 i) (x2 i) (x3 i) := by
  funext i
  rfl

theorem plain_1_1 (x0 : S1x1024.Idx → EReal) (x1 : S1x1024.Idx → EReal) (x2 : S1x1024.Idx → EReal) (x3 : S1x1024.Idx → EReal) : val_main_v47 (F := Ideal) x0 x1 x2 x3 = fun i => change (x0 i) (x1 i) (x2 i) (x3 i) := by
  funext i
  rfl

theorem plain_1_2 (x0 : S31x128.Idx → EReal) (x1 : S31x128.Idx → EReal) (x2 : S31x128.Idx → EReal) (x3 : S31x128.Idx → EReal) : val_main_v71 (F := Ideal) x0 x1 x2 x3 = fun i => change (x0 i) (x1 i) (x2 i) (x3 i) := by
  funext i
  rfl

theorem plain_1_3 (x0 : S1x512.Idx → EReal) (x1 : S1x512.Idx → EReal) (x2 : S1x512.Idx → EReal) (x3 : S1x512.Idx → EReal) : val_main_v95 (F := Ideal) x0 x1 x2 x3 = fun i => change (x0 i) (x1 i) (x2 i) (x3 i) := by
  funext i
  rfl

theorem plain_1_4 (x0 : S1x512.Idx → EReal) (x1 : S1x512.Idx → EReal) (x2 : S1x512.Idx → EReal) (x3 : S1x512.Idx → EReal) : val_main_v119 (F := Ideal) x0 x1 x2 x3 = fun i => change (x0 i) (x1 i) (x2 i) (x3 i) := by
  funext i
  rfl

theorem plain_1_5 (x0 : S1x512.Idx → EReal) (x1 : S1x512.Idx → EReal) (x2 : S1x512.Idx → EReal) (x3 : S1x512.Idx → EReal) : val_main_v143 (F := Ideal) x0 x1 x2 x3 = fun i => change (x0 i) (x1 i) (x2 i) (x3 i) := by
  funext i
  rfl

theorem plain_1_6 (x0 : S1x256.Idx → EReal) (x1 : S1x256.Idx → EReal) (x2 : S1x256.Idx → EReal) (x3 : S1x256.Idx → EReal) : val_main_v167 (F := Ideal) x0 x1 x2 x3 = fun i => change (x0 i) (x1 i) (x2 i) (x3 i) := by
  funext i
  rfl

theorem plain_1_7 (x0 : S3x256.Idx → EReal) (x1 : S3x256.Idx → EReal) (x2 : S3x256.Idx → EReal) (x3 : S3x256.Idx → EReal) : val_main_v191 (F := Ideal) x0 x1 x2 x3 = fun i => change (x0 i) (x1 i) (x2 i) (x3 i) := by
  funext i
  rfl

theorem plain_1_8 (x0 : S2x1024.Idx → EReal) (x1 : S2x1024.Idx → EReal) (x2 : S2x1024.Idx → EReal) (x3 : S2x1024.Idx → EReal) : val_main_v215 (F := Ideal) x0 x1 x2 x3 = fun i => change (x0 i) (x1 i) (x2 i) (x3 i) := by
  funext i
  rfl

theorem plain_1_9 (x0 : S1024.Idx → EReal) (x1 : S1024.Idx → EReal) (x2 : S1024.Idx → EReal) (x3 : S1024.Idx → EReal) : val_main_v239 (F := Ideal) x0 x1 x2 x3 = fun i => change (x0 i) (x1 i) (x2 i) (x3 i) := by
  funext i
  rfl

theorem plain_2_0 (x1 : S32x24.Idx → EReal) (x3 : S32x24.Idx → EReal) : val_main_v4 (F := Ideal) x1 x3 = fun i => moment (x1 i) (x3 i) := by
  funext i
  rfl

theorem plain_2_1 (x1 : S1x1024.Idx → EReal) (x3 : S1x1024.Idx → EReal) : val_main_v28 (F := Ideal) x1 x3 = fun i => moment (x1 i) (x3 i) := by
  funext i
  rfl

theorem plain_2_2 (x1 : S31x128.Idx → EReal) (x3 : S31x128.Idx → EReal) : val_main_v52 (F := Ideal) x1 x3 = fun i => moment (x1 i) (x3 i) := by
  funext i
  rfl

theorem plain_2_3 (x1 : S1x512.Idx → EReal) (x3 : S1x512.Idx → EReal) : val_main_v76 (F := Ideal) x1 x3 = fun i => moment (x1 i) (x3 i) := by
  funext i
  rfl

theorem plain_2_4 (x1 : S1x512.Idx → EReal) (x3 : S1x512.Idx → EReal) : val_main_v100 (F := Ideal) x1 x3 = fun i => moment (x1 i) (x3 i) := by
  funext i
  rfl

theorem plain_2_5 (x1 : S1x512.Idx → EReal) (x3 : S1x512.Idx → EReal) : val_main_v124 (F := Ideal) x1 x3 = fun i => moment (x1 i) (x3 i) := by
  funext i
  rfl

theorem plain_2_6 (x1 : S1x256.Idx → EReal) (x3 : S1x256.Idx → EReal) : val_main_v148 (F := Ideal) x1 x3 = fun i => moment (x1 i) (x3 i) := by
  funext i
  rfl

theorem plain_2_7 (x1 : S3x256.Idx → EReal) (x3 : S3x256.Idx → EReal) : val_main_v172 (F := Ideal) x1 x3 = fun i => moment (x1 i) (x3 i) := by
  funext i
  rfl

theorem plain_2_8 (x1 : S2x1024.Idx → EReal) (x3 : S2x1024.Idx → EReal) : val_main_v196 (F := Ideal) x1 x3 = fun i => moment (x1 i) (x3 i) := by
  funext i
  rfl

theorem plain_2_9 (x1 : S1024.Idx → EReal) (x3 : S1024.Idx → EReal) : val_main_v220 (F := Ideal) x1 x3 = fun i => moment (x1 i) (x3 i) := by
  funext i
  rfl

theorem plain_3_0 (x2 : S32x24.Idx → EReal) (x3 : S32x24.Idx → EReal) : val_main_v10 (F := Ideal) x2 x3 = fun i => square (x2 i) (x3 i) := by
  funext i
  rfl

theorem plain_3_1 (x2 : S1x1024.Idx → EReal) (x3 : S1x1024.Idx → EReal) : val_main_v34 (F := Ideal) x2 x3 = fun i => square (x2 i) (x3 i) := by
  funext i
  rfl

theorem plain_3_2 (x2 : S31x128.Idx → EReal) (x3 : S31x128.Idx → EReal) : val_main_v58 (F := Ideal) x2 x3 = fun i => square (x2 i) (x3 i) := by
  funext i
  rfl

theorem plain_3_3 (x2 : S1x512.Idx → EReal) (x3 : S1x512.Idx → EReal) : val_main_v82 (F := Ideal) x2 x3 = fun i => square (x2 i) (x3 i) := by
  funext i
  rfl

theorem plain_3_4 (x2 : S1x512.Idx → EReal) (x3 : S1x512.Idx → EReal) : val_main_v106 (F := Ideal) x2 x3 = fun i => square (x2 i) (x3 i) := by
  funext i
  rfl

theorem plain_3_5 (x2 : S1x512.Idx → EReal) (x3 : S1x512.Idx → EReal) : val_main_v130 (F := Ideal) x2 x3 = fun i => square (x2 i) (x3 i) := by
  funext i
  rfl

theorem plain_3_6 (x2 : S1x256.Idx → EReal) (x3 : S1x256.Idx → EReal) : val_main_v154 (F := Ideal) x2 x3 = fun i => square (x2 i) (x3 i) := by
  funext i
  rfl

theorem plain_3_7 (x2 : S3x256.Idx → EReal) (x3 : S3x256.Idx → EReal) : val_main_v178 (F := Ideal) x2 x3 = fun i => square (x2 i) (x3 i) := by
  funext i
  rfl

theorem plain_3_8 (x2 : S2x1024.Idx → EReal) (x3 : S2x1024.Idx → EReal) : val_main_v202 (F := Ideal) x2 x3 = fun i => square (x2 i) (x3 i) := by
  funext i
  rfl

theorem plain_3_9 (x2 : S1024.Idx → EReal) (x3 : S1024.Idx → EReal) : val_main_v226 (F := Ideal) x2 x3 = fun i => square (x2 i) (x3 i) := by
  funext i
  rfl

end Cert.StepSmallIdeal.Value
-- ==== Proof.Pairs.StepSmall.lean ====
/- The packed step of the ten small arrays and its reference leave the same values. -/
module

public import proofs.«01_k».proof.Defs
public import proofs.«01_k».proof.Proof.Gen.StepSmallIdeal.Frame
public import proofs.«01_k».proof.Proof.Gen.StepSmallPlainIdeal.Run
public import proofs.«01_k».proof.Proof.Gen.StepSmallPlainIdeal.Read
public import proofs.«01_k».proof.Proof.Pairs.SmallResult
public import proofs.«01_k».proof.Proof.Pairs.SmallPlain
public import proofs.«01_k».proof.Proof.Pairs.SmallEntry
public import proofs.«01_k».proof.Proof.Pairs.SmallFinal
public import proofs.«01_k».proof.Proof.Pairs.SmallTail
public import Idealize.ShloMosaic.Lib.Pipeline.ValueKit
public import Idealize.ShloMosaic.Lib.Pipeline.ReadBack
public import Idealize.ShloMosaic.Lib.Claim

@[expose] public section
set_option maxRecDepth 16384
noncomputable section
namespace Cert.StepSmallPlainIdeal
open Idealize.ShloMosaic Idealize.ShloMosaic.TcCoe Idealize.SL.Sem

/-- The reference stops, its arguments untouched. -/
theorem runs : Cert.quiescent_StepSmallPlainIdeal (hStepSmallPlainIdeal := Cert.StepSmallPlainIdeal.Gen.facts) := by
  intro m g _
  refine Idealize.ShloMosaic.θ_run_mono (Cert.StepSmallPlainIdeal.Value.run m g) ?_
  intro r hr
  refine ⟨fun c => ?_, sem_eq_zero_of_no_sems (sig := Cert.StepSmallPlainIdeal.sig) (by decide) _⟩
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, ha⟩ := hr c
  exact ha

set_option maxHeartbeats 4000000 in
/-- Kernel and reference leave the same values. -/
theorem same_values : Cert.algebraic_StepSmallIdeal_StepSmallPlainIdeal (hStepSmallIdeal := Cert.StepSmallIdeal.Gen.facts) (hStepSmallPlainIdeal := Cert.StepSmallPlainIdeal.Gen.facts) := by
  intro m g m' g' hpre hagree
  refine ⟨fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v91,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v93,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v95,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v97,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v99,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v101,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v103,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v105,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v107,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v108,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v111,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v113,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v115,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v117,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v119,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v121,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v123,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v125,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v127,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v128,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v131,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v133,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v135,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v137,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v139,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v141,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v143,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v145,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v147,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v148,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v151,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v153,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v155,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v157,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v159,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v161,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v163,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v165,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v167,
    fun c => Pipeline.afterTail₀ Cert.StepSmallIdeal.cfgs (Cert.StepSmallIdeal.Gen.dats m) 0 (Cert.StepSmallIdeal.Gen.V0 m) [Cert.StepSmallIdeal.Gen.hostOps1] c Cert.StepSmallIdeal.main_v168, ?_, ?_⟩
  · refine Idealize.ShloMosaic.θ_run_mono (Cert.StepSmallIdeal.Gen.run_main m g) ?_
    intro r hr c
    have hb := (hr c).2
    exact ⟨hb Cert.StepSmallIdeal.main_v91 (Pipeline.mem_restRefs_of Cert.StepSmallIdeal.main_v91 (by decide) (by decide)),
      hb Cert.StepSmallIdeal.main_v93 (Pipeline.mem_restRefs_of Cert.StepSmallIdeal.main_v93 (by decide) (by decide)),
      hb Cert.StepSmallIdeal.main_v95 (Pipeline.mem_restRefs_of Cert.StepSmallIdeal.main_v95 (by decide) (by decide)),
      hb Cert.StepSmallIdeal.main_v97 (Pipeline.mem_restRefs_of Cert.StepSmallIdeal.main_v97 (by decide) (by decide)),
      hb Cert.StepSmallIdeal.main_v99 (Pipeline.mem_restRefs_of Cert.StepSmallIdeal.main_v99 (by decide) (by decide)),
      hb Cert.StepSmallIdeal.main_v101 (Pipeline.mem_restRefs_of Cert.StepSmallIdeal.main_v101 (by decide) (by decide)),
      hb Cert.StepSmallIdeal.main_v103 (Pipeline.mem_restRefs_of Cert.StepSmallIdeal.main_v103 (by decide) (by decide)),
      hb Cert.StepSmallIdeal.main_v105 (Pipeline.mem_restRefs_of Cert.StepSmallIdeal.main_v105 (by decide) (by decide)),
      hb Cert.StepSmallIdeal.main_v107 (Pipeline.mem_restRefs_of Cert.StepSmallIdeal.main_v107 (by decide) (by decide)),
      hb Cert.StepSmallIdeal.main_v108 (Pipeline.mem_restRefs_of Cert.StepSmallIdeal.main_v108 (by decide) (by decide)),
      hb Cert.StepSmallIdeal.main_v111 (Pipeline.mem_restRefs_of Cert.StepSmallIdeal.main_v111 (by decide) (by decide)),
      hb Cert.StepSmallIdeal.main_v113 (Pipeline.mem_restRefs_of Cert.StepSmallIdeal.main_v113 (by decide) (by decide)),
      hb Cert.StepSmallIdeal.main_v115 (Pipeline.mem_restRefs_of Cert.StepSmallIdeal.main_v115 (by decide) (by decide)),
      hb Cert.StepSmallIdeal.main_v117 (Pipeline.mem_restRefs_of Cert.StepSmallIdeal.main_v117 (by decide) (by decide)),
      hb Cert.StepSmallIdeal.main_v119 (Pipeline.mem_restRefs_of Cert.StepSmallIdeal.main_v119 (by decide) (by decide)),
      hb Cert.StepSmallIdeal.main_v121 (Pipeline.mem_restRefs_of Cert.StepSmallIdeal.main_v121 (by decide) (by decide)),
      hb Cert.StepSmallIdeal.main_v123 (Pipeline.mem_restRefs_of Cert.StepSmallIdeal.main_v123 (by decide) (by decide)),
      hb Cert.StepSmallIdeal.main_v125 (Pipeline.mem_restRefs_of Cert.StepSmallIdeal.main_v125 (by decide) (by decide)),
      hb Cert.StepSmallIdeal.main_v127 (Pipeline.mem_restRefs_of Cert.StepSmallIdeal.main_v127 (by decide) (by decide)),
      hb Cert.StepSmallIdeal.main_v128 (Pipeline.mem_restRefs_of Cert.StepSmallIdeal.main_v128 (by decide) (by decide)),
      hb Cert.StepSmallIdeal.main_v131 (Pipeline.mem_restRefs_of Cert.StepSmallIdeal.main_v131 (by decide) (by decide)),
      hb Cert.StepSmallIdeal.main_v133 (Pipeline.mem_restRefs_of Cert.StepSmallIdeal.main_v133 (by decide) (by decide)),
      hb Cert.StepSmallIdeal.main_v135 (Pipeline.mem_restRefs_of Cert.StepSmallIdeal.main_v135 (by decide) (by decide)),
      hb Cert.StepSmallIdeal.main_v137 (Pipeline.mem_restRefs_of Cert.StepSmallIdeal.main_v137 (by decide) (by decide)),
      hb Cert.StepSmallIdeal.main_v139 (Pipeline.mem_restRefs_of Cert.StepSmallIdeal.main_v139 (by decide) (by decide)),
      hb Cert.StepSmallIdeal.main_v141 (Pipeline.mem_restRefs_of Cert.StepSmallIdeal.main_v141 (by decide) (by decide)),
      hb Cert.StepSmallIdeal.main_v143 (Pipeline.mem_restRefs_of Cert.StepSmallIdeal.main_v143 (by decide) (by decide)),
      hb Cert.StepSmallIdeal.main_v145 (Pipeline.mem_restRefs_of Cert.StepSmallIdeal.main_v145 (by decide) (by decide)),
      hb Cert.StepSmallIdeal.main_v147 (Pipeline.mem_restRefs_of Cert.StepSmallIdeal.main_v147 (by decide) (by decide)),
      hb Cert.StepSmallIdeal.main_v148 (Pipeline.mem_restRefs_of Cert.StepSmallIdeal.main_v148 (by decide) (by decide)),
      hb Cert.StepSmallIdeal.main_v151 (Pipeline.mem_restRefs_of Cert.StepSmallIdeal.main_v151 (by decide) (by decide)),
      hb Cert.StepSmallIdeal.main_v153 (Pipeline.mem_restRefs_of Cert.StepSmallIdeal.main_v153 (by decide) (by decide)),
      hb Cert.StepSmallIdeal.main_v155 (Pipeline.mem_restRefs_of Cert.StepSmallIdeal.main_v155 (by decide) (by decide)),
      hb Cert.StepSmallIdeal.main_v157 (Pipeline.mem_restRefs_of Cert.StepSmallIdeal.main_v157 (by decide) (by decide)),
      hb Cert.StepSmallIdeal.main_v159 (Pipeline.mem_restRefs_of Cert.StepSmallIdeal.main_v159 (by decide) (by decide)),
      hb Cert.StepSmallIdeal.main_v161 (Pipeline.mem_restRefs_of Cert.StepSmallIdeal.main_v161 (by decide) (by decide)),
      hb Cert.StepSmallIdeal.main_v163 (Pipeline.mem_restRefs_of Cert.StepSmallIdeal.main_v163 (by decide) (by decide)),
      hb Cert.StepSmallIdeal.main_v165 (Pipeline.mem_restRefs_of Cert.StepSmallIdeal.main_v165 (by decide) (by decide)),
      hb Cert.StepSmallIdeal.main_v167 (Pipeline.mem_restRefs_of Cert.StepSmallIdeal.main_v167 (by decide) (by decide)),
      hb Cert.StepSmallIdeal.main_v168 (Pipeline.mem_restRefs_of Cert.StepSmallIdeal.main_v168 (by decide) (by decide)),
      (hb Cert.StepSmallIdeal.main_arg0 (Pipeline.mem_restRefs_of Cert.StepSmallIdeal.main_arg0 (by decide) (by decide))).trans (Cert.StepSmallIdeal.Gen.W_main_arg0 m _ c),
      (hb Cert.StepSmallIdeal.main_arg1 (Pipeline.mem_restRefs_of Cert.StepSmallIdeal.main_arg1 (by decide) (by decide))).trans (Cert.StepSmallIdeal.Gen.W_main_arg1 m _ c),
      (hb Cert.StepSmallIdeal.main_arg2 (Pipeline.mem_restRefs_of Cert.StepSmallIdeal.main_arg2 (by decide) (by decide))).trans (Cert.StepSmallIdeal.Gen.W_main_arg2 m _ c),
      (hb Cert.StepSmallIdeal.main_arg3 (Pipeline.mem_restRefs_of Cert.StepSmallIdeal.main_arg3 (by decide) (by decide))).trans (Cert.StepSmallIdeal.Gen.W_main_arg3 m _ c),
      (hb Cert.StepSmallIdeal.main_arg4 (Pipeline.mem_restRefs_of Cert.StepSmallIdeal.main_arg4 (by decide) (by decide))).trans (Cert.StepSmallIdeal.Gen.W_main_arg4 m _ c),
      (hb Cert.StepSmallIdeal.main_arg5 (Pipeline.mem_restRefs_of Cert.StepSmallIdeal.main_arg5 (by decide) (by decide))).trans (Cert.StepSmallIdeal.Gen.W_main_arg5 m _ c),
      (hb Cert.StepSmallIdeal.main_arg6 (Pipeline.mem_restRefs_of Cert.StepSmallIdeal.main_arg6 (by decide) (by decide))).trans (Cert.StepSmallIdeal.Gen.W_main_arg6 m _ c),
      (hb Cert.StepSmallIdeal.main_arg7 (Pipeline.mem_restRefs_of Cert.StepSmallIdeal.main_arg7 (by decide) (by decide))).trans (Cert.StepSmallIdeal.Gen.W_main_arg7 m _ c),
      (hb Cert.StepSmallIdeal.main_arg8 (Pipeline.mem_restRefs_of Cert.StepSmallIdeal.main_arg8 (by decide) (by decide))).trans (Cert.StepSmallIdeal.Gen.W_main_arg8 m _ c),
      (hb Cert.StepSmallIdeal.main_arg9 (Pipeline.mem_restRefs_of Cert.StepSmallIdeal.main_arg9 (by decide) (by decide))).trans (Cert.StepSmallIdeal.Gen.W_main_arg9 m _ c),
      (hb Cert.StepSmallIdeal.main_arg10 (Pipeline.mem_restRefs_of Cert.StepSmallIdeal.main_arg10 (by decide) (by decide))).trans (Cert.StepSmallIdeal.Gen.W_main_arg10 m _ c),
      (hb Cert.StepSmallIdeal.main_arg11 (Pipeline.mem_restRefs_of Cert.StepSmallIdeal.main_arg11 (by decide) (by decide))).trans (Cert.StepSmallIdeal.Gen.W_main_arg11 m _ c),
      (hb Cert.StepSmallIdeal.main_arg12 (Pipeline.mem_restRefs_of Cert.StepSmallIdeal.main_arg12 (by decide) (by decide))).trans (Cert.StepSmallIdeal.Gen.W_main_arg12 m _ c),
      (hb Cert.StepSmallIdeal.main_arg13 (Pipeline.mem_restRefs_of Cert.StepSmallIdeal.main_arg13 (by decide) (by decide))).trans (Cert.StepSmallIdeal.Gen.W_main_arg13 m _ c),
      (hb Cert.StepSmallIdeal.main_arg14 (Pipeline.mem_restRefs_of Cert.StepSmallIdeal.main_arg14 (by decide) (by decide))).trans (Cert.StepSmallIdeal.Gen.W_main_arg14 m _ c),
      (hb Cert.StepSmallIdeal.main_arg15 (Pipeline.mem_restRefs_of Cert.StepSmallIdeal.main_arg15 (by decide) (by decide))).trans (Cert.StepSmallIdeal.Gen.W_main_arg15 m _ c),
      (hb Cert.StepSmallIdeal.main_arg16 (Pipeline.mem_restRefs_of Cert.StepSmallIdeal.main_arg16 (by decide) (by decide))).trans (Cert.StepSmallIdeal.Gen.W_main_arg16 m _ c),
      (hb Cert.StepSmallIdeal.main_arg17 (Pipeline.mem_restRefs_of Cert.StepSmallIdeal.main_arg17 (by decide) (by decide))).trans (Cert.StepSmallIdeal.Gen.W_main_arg17 m _ c),
      (hb Cert.StepSmallIdeal.main_arg18 (Pipeline.mem_restRefs_of Cert.StepSmallIdeal.main_arg18 (by decide) (by decide))).trans (Cert.StepSmallIdeal.Gen.W_main_arg18 m _ c),
      (hb Cert.StepSmallIdeal.main_arg19 (Pipeline.mem_restRefs_of Cert.StepSmallIdeal.main_arg19 (by decide) (by decide))).trans (Cert.StepSmallIdeal.Gen.W_main_arg19 m _ c),
      (hb Cert.StepSmallIdeal.main_arg20 (Pipeline.mem_restRefs_of Cert.StepSmallIdeal.main_arg20 (by decide) (by decide))).trans (Cert.StepSmallIdeal.Gen.W_main_arg20 m _ c),
      (hb Cert.StepSmallIdeal.main_arg21 (Pipeline.mem_restRefs_of Cert.StepSmallIdeal.main_arg21 (by decide) (by decide))).trans (Cert.StepSmallIdeal.Gen.W_main_arg21 m _ c),
      (hb Cert.StepSmallIdeal.main_arg22 (Pipeline.mem_restRefs_of Cert.StepSmallIdeal.main_arg22 (by decide) (by decide))).trans (Cert.StepSmallIdeal.Gen.W_main_arg22 m _ c),
      (hb Cert.StepSmallIdeal.main_arg23 (Pipeline.mem_restRefs_of Cert.StepSmallIdeal.main_arg23 (by decide) (by decide))).trans (Cert.StepSmallIdeal.Gen.W_main_arg23 m _ c),
      (hb Cert.StepSmallIdeal.main_arg24 (Pipeline.mem_restRefs_of Cert.StepSmallIdeal.main_arg24 (by decide) (by decide))).trans (Cert.StepSmallIdeal.Gen.W_main_arg24 m _ c),
      (hb Cert.StepSmallIdeal.main_arg25 (Pipeline.mem_restRefs_of Cert.StepSmallIdeal.main_arg25 (by decide) (by decide))).trans (Cert.StepSmallIdeal.Gen.W_main_arg25 m _ c),
      (hb Cert.StepSmallIdeal.main_arg26 (Pipeline.mem_restRefs_of Cert.StepSmallIdeal.main_arg26 (by decide) (by decide))).trans (Cert.StepSmallIdeal.Gen.W_main_arg26 m _ c),
      (hb Cert.StepSmallIdeal.main_arg27 (Pipeline.mem_restRefs_of Cert.StepSmallIdeal.main_arg27 (by decide) (by decide))).trans (Cert.StepSmallIdeal.Gen.W_main_arg27 m _ c),
      (hb Cert.StepSmallIdeal.main_arg28 (Pipeline.mem_restRefs_of Cert.StepSmallIdeal.main_arg28 (by decide) (by decide))).trans (Cert.StepSmallIdeal.Gen.W_main_arg28 m _ c),
      (hb Cert.StepSmallIdeal.main_arg29 (Pipeline.mem_restRefs_of Cert.StepSmallIdeal.main_arg29 (by decide) (by decide))).trans (Cert.StepSmallIdeal.Gen.W_main_arg29 m _ c),
      (hb Cert.StepSmallIdeal.main_arg30 (Pipeline.mem_restRefs_of Cert.StepSmallIdeal.main_arg30 (by decide) (by decide))).trans (Cert.StepSmallIdeal.Gen.W_main_arg30 m _ c),
      (hb Cert.StepSmallIdeal.main_arg31 (Pipeline.mem_restRefs_of Cert.StepSmallIdeal.main_arg31 (by decide) (by decide))).trans (Cert.StepSmallIdeal.Gen.W_main_arg31 m _ c),
      (hb Cert.StepSmallIdeal.main_arg32 (Pipeline.mem_restRefs_of Cert.StepSmallIdeal.main_arg32 (by decide) (by decide))).trans (Cert.StepSmallIdeal.Gen.W_main_arg32 m _ c),
      (hb Cert.StepSmallIdeal.main_arg33 (Pipeline.mem_restRefs_of Cert.StepSmallIdeal.main_arg33 (by decide) (by decide))).trans (Cert.StepSmallIdeal.Gen.W_main_arg33 m _ c),
      (hb Cert.StepSmallIdeal.main_arg34 (Pipeline.mem_restRefs_of Cert.StepSmallIdeal.main_arg34 (by decide) (by decide))).trans (Cert.StepSmallIdeal.Gen.W_main_arg34 m _ c),
      (hb Cert.StepSmallIdeal.main_arg35 (Pipeline.mem_restRefs_of Cert.StepSmallIdeal.main_arg35 (by decide) (by decide))).trans (Cert.StepSmallIdeal.Gen.W_main_arg35 m _ c),
      (hb Cert.StepSmallIdeal.main_arg36 (Pipeline.mem_restRefs_of Cert.StepSmallIdeal.main_arg36 (by decide) (by decide))).trans (Cert.StepSmallIdeal.Gen.W_main_arg36 m _ c),
      (hb Cert.StepSmallIdeal.main_arg37 (Pipeline.mem_restRefs_of Cert.StepSmallIdeal.main_arg37 (by decide) (by decide))).trans (Cert.StepSmallIdeal.Gen.W_main_arg37 m _ c),
      (hb Cert.StepSmallIdeal.main_arg38 (Pipeline.mem_restRefs_of Cert.StepSmallIdeal.main_arg38 (by decide) (by decide))).trans (Cert.StepSmallIdeal.Gen.W_main_arg38 m _ c),
      (hb Cert.StepSmallIdeal.main_arg39 (Pipeline.mem_restRefs_of Cert.StepSmallIdeal.main_arg39 (by decide) (by decide))).trans (Cert.StepSmallIdeal.Gen.W_main_arg39 m _ c)⟩
  · refine Idealize.ShloMosaic.θ_run_mono (Cert.StepSmallPlainIdeal.Value.run m' g') ?_
    intro r hr c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, ha⟩ := hr c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hagree c
    have e10 := (Cert.StepSmallPlainIdeal.Read.val_main_v23_eq (F := Ideal) (StableHlo.launchContents m' c)).trans (Cert.StepSmallIdeal.Value.plain_1_0 (m' ((c : Thread Cert.StepSmallPlainIdeal.nD Cert.StepSmallPlainIdeal.τ).loc Cert.StepSmallPlainIdeal.main_arg0)) (m' ((c : Thread Cert.StepSmallPlainIdeal.nD Cert.StepSmallPlainIdeal.τ).loc Cert.StepSmallPlainIdeal.main_arg10)) (m' ((c : Thread Cert.StepSmallPlainIdeal.nD Cert.StepSmallPlainIdeal.τ).loc Cert.StepSmallPlainIdeal.main_arg20)) (m' ((c : Thread Cert.StepSmallPlainIdeal.nD Cert.StepSmallPlainIdeal.τ).loc Cert.StepSmallPlainIdeal.main_arg30)))
    rw [a0, a10, a20, a30] at e10
    have e11 := (Cert.StepSmallPlainIdeal.Read.val_main_v47_eq (F := Ideal) (StableHlo.launchContents m' c)).trans (Cert.StepSmallIdeal.Value.plain_1_1 (m' ((c : Thread Cert.StepSmallPlainIdeal.nD Cert.StepSmallPlainIdeal.τ).loc Cert.StepSmallPlainIdeal.main_arg1)) (m' ((c : Thread Cert.StepSmallPlainIdeal.nD Cert.StepSmallPlainIdeal.τ).loc Cert.StepSmallPlainIdeal.main_arg11)) (m' ((c : Thread Cert.StepSmallPlainIdeal.nD Cert.StepSmallPlainIdeal.τ).loc Cert.StepSmallPlainIdeal.main_arg21)) (m' ((c : Thread Cert.StepSmallPlainIdeal.nD Cert.StepSmallPlainIdeal.τ).loc Cert.StepSmallPlainIdeal.main_arg31)))
    rw [a1, a11, a21, a31] at e11
    have e12 := (Cert.StepSmallPlainIdeal.Read.val_main_v71_eq (F := Ideal) (StableHlo.launchContents m' c)).trans (Cert.StepSmallIdeal.Value.plain_1_2 (m' ((c : Thread Cert.StepSmallPlainIdeal.nD Cert.StepSmallPlainIdeal.τ).loc Cert.StepSmallPlainIdeal.main_arg2)) (m' ((c : Thread Cert.StepSmallPlainIdeal.nD Cert.StepSmallPlainIdeal.τ).loc Cert.StepSmallPlainIdeal.main_arg12)) (m' ((c : Thread Cert.StepSmallPlainIdeal.nD Cert.StepSmallPlainIdeal.τ).loc Cert.StepSmallPlainIdeal.main_arg22)) (m' ((c : Thread Cert.StepSmallPlainIdeal.nD Cert.StepSmallPlainIdeal.τ).loc Cert.StepSmallPlainIdeal.main_arg32)))
    rw [a2, a12, a22, a32] at e12
    have e13 := (Cert.StepSmallPlainIdeal.Read.val_main_v95_eq (F := Ideal) (StableHlo.launchContents m' c)).trans (Cert.StepSmallIdeal.Value.plain_1_3 (m' ((c : Thread Cert.StepSmallPlainIdeal.nD Cert.StepSmallPlainIdeal.τ).loc Cert.StepSmallPlainIdeal.main_arg3)) (m' ((c : Thread Cert.StepSmallPlainIdeal.nD Cert.StepSmallPlainIdeal.τ).loc Cert.StepSmallPlainIdeal.main_arg13)) (m' ((c : Thread Cert.StepSmallPlainIdeal.nD Cert.StepSmallPlainIdeal.τ).loc Cert.StepSmallPlainIdeal.main_arg23)) (m' ((c : Thread Cert.StepSmallPlainIdeal.nD Cert.StepSmallPlainIdeal.τ).loc Cert.StepSmallPlainIdeal.main_arg33)))
    rw [a3, a13, a23, a33] at e13
    have e14 := (Cert.StepSmallPlainIdeal.Read.val_main_v119_eq (F := Ideal) (StableHlo.launchContents m' c)).trans (Cert.StepSmallIdeal.Value.plain_1_4 (m' ((c : Thread Cert.StepSmallPlainIdeal.nD Cert.StepSmallPlainIdeal.τ).loc Cert.StepSmallPlainIdeal.main_arg4)) (m' ((c : Thread Cert.StepSmallPlainIdeal.nD Cert.StepSmallPlainIdeal.τ).loc Cert.StepSmallPlainIdeal.main_arg14)) (m' ((c : Thread Cert.StepSmallPlainIdeal.nD Cert.StepSmallPlainIdeal.τ).loc Cert.StepSmallPlainIdeal.main_arg24)) (m' ((c : Thread Cert.StepSmallPlainIdeal.nD Cert.StepSmallPlainIdeal.τ).loc Cert.StepSmallPlainIdeal.main_arg34)))
    rw [a4, a14, a24, a34] at e14
    have e15 := (Cert.StepSmallPlainIdeal.Read.val_main_v143_eq (F := Ideal) (StableHlo.launchContents m' c)).trans (Cert.StepSmallIdeal.Value.plain_1_5 (m' ((c : Thread Cert.StepSmallPlainIdeal.nD Cert.StepSmallPlainIdeal.τ).loc Cert.StepSmallPlainIdeal.main_arg5)) (m' ((c : Thread Cert.StepSmallPlainIdeal.nD Cert.StepSmallPlainIdeal.τ).loc Cert.StepSmallPlainIdeal.main_arg15)) (m' ((c : Thread Cert.StepSmallPlainIdeal.nD Cert.StepSmallPlainIdeal.τ).loc Cert.StepSmallPlainIdeal.main_arg25)) (m' ((c : Thread Cert.StepSmallPlainIdeal.nD Cert.StepSmallPlainIdeal.τ).loc Cert.StepSmallPlainIdeal.main_arg35)))
    rw [a5, a15, a25, a35] at e15
    have e16 := (Cert.StepSmallPlainIdeal.Read.val_main_v167_eq (F := Ideal) (StableHlo.launchContents m' c)).trans (Cert.StepSmallIdeal.Value.plain_1_6 (m' ((c : Thread Cert.StepSmallPlainIdeal.nD Cert.StepSmallPlainIdeal.τ).loc Cert.StepSmallPlainIdeal.main_arg6)) (m' ((c : Thread Cert.StepSmallPlainIdeal.nD Cert.StepSmallPlainIdeal.τ).loc Cert.StepSmallPlainIdeal.main_arg16)) (m' ((c : Thread Cert.StepSmallPlainIdeal.nD Cert.StepSmallPlainIdeal.τ).loc Cert.StepSmallPlainIdeal.main_arg26)) (m' ((c : Thread Cert.StepSmallPlainIdeal.nD Cert.StepSmallPlainIdeal.τ).loc Cert.StepSmallPlainIdeal.main_arg36)))
    rw [a6, a16, a26, a36] at e16
    have e17 := (Cert.StepSmallPlainIdeal.Read.val_main_v191_eq (F := Ideal) (StableHlo.launchContents m' c)).trans (Cert.StepSmallIdeal.Value.plain_1_7 (m' ((c : Thread Cert.StepSmallPlainIdeal.nD Cert.StepSmallPlainIdeal.τ).loc Cert.StepSmallPlainIdeal.main_arg7)) (m' ((c : Thread Cert.StepSmallPlainIdeal.nD Cert.StepSmallPlainIdeal.τ).loc Cert.StepSmallPlainIdeal.main_arg17)) (m' ((c : Thread Cert.StepSmallPlainIdeal.nD Cert.StepSmallPlainIdeal.τ).loc Cert.StepSmallPlainIdeal.main_arg27)) (m' ((c : Thread Cert.StepSmallPlainIdeal.nD Cert.StepSmallPlainIdeal.τ).loc Cert.StepSmallPlainIdeal.main_arg37)))
    rw [a7, a17, a27, a37] at e17
    have e18 := (Cert.StepSmallPlainIdeal.Read.val_main_v215_eq (F := Ideal) (StableHlo.launchContents m' c)).trans (Cert.StepSmallIdeal.Value.plain_1_8 (m' ((c : Thread Cert.StepSmallPlainIdeal.nD Cert.StepSmallPlainIdeal.τ).loc Cert.StepSmallPlainIdeal.main_arg8)) (m' ((c : Thread Cert.StepSmallPlainIdeal.nD Cert.StepSmallPlainIdeal.τ).loc Cert.StepSmallPlainIdeal.main_arg18)) (m' ((c : Thread Cert.StepSmallPlainIdeal.nD Cert.StepSmallPlainIdeal.τ).loc Cert.StepSmallPlainIdeal.main_arg28)) (m' ((c : Thread Cert.StepSmallPlainIdeal.nD Cert.StepSmallPlainIdeal.τ).loc Cert.StepSmallPlainIdeal.main_arg38)))
    rw [a8, a18, a28, a38] at e18
    have e19 := (Cert.StepSmallPlainIdeal.Read.val_main_v239_eq (F := Ideal) (StableHlo.launchContents m' c)).trans (Cert.StepSmallIdeal.Value.plain_1_9 (m' ((c : Thread Cert.StepSmallPlainIdeal.nD Cert.StepSmallPlainIdeal.τ).loc Cert.StepSmallPlainIdeal.main_arg9)) (m' ((c : Thread Cert.StepSmallPlainIdeal.nD Cert.StepSmallPlainIdeal.τ).loc Cert.StepSmallPlainIdeal.main_arg19)) (m' ((c : Thread Cert.StepSmallPlainIdeal.nD Cert.StepSmallPlainIdeal.τ).loc Cert.StepSmallPlainIdeal.main_arg29)) (m' ((c : Thread Cert.StepSmallPlainIdeal.nD Cert.StepSmallPlainIdeal.τ).loc Cert.StepSmallPlainIdeal.main_arg39)))
    rw [a9, a19, a29, a39] at e19
    have e20 := (Cert.StepSmallPlainIdeal.Read.val_main_v4_eq (F := Ideal) (StableHlo.launchContents m' c)).trans (Cert.StepSmallIdeal.Value.plain_2_0 (m' ((c : Thread Cert.StepSmallPlainIdeal.nD Cert.StepSmallPlainIdeal.τ).loc Cert.StepSmallPlainIdeal.main_arg10)) (m' ((c : Thread Cert.StepSmallPlainIdeal.nD Cert.StepSmallPlainIdeal.τ).loc Cert.StepSmallPlainIdeal.main_arg30)))
    rw [a10, a30] at e20
    have e21 := (Cert.StepSmallPlainIdeal.Read.val_main_v28_eq (F := Ideal) (StableHlo.launchContents m' c)).trans (Cert.StepSmallIdeal.Value.plain_2_1 (m' ((c : Thread Cert.StepSmallPlainIdeal.nD Cert.StepSmallPlainIdeal.τ).loc Cert.StepSmallPlainIdeal.main_arg11)) (m' ((c : Thread Cert.StepSmallPlainIdeal.nD Cert.StepSmallPlainIdeal.τ).loc Cert.StepSmallPlainIdeal.main_arg31)))
    rw [a11, a31] at e21
    have e22 := (Cert.StepSmallPlainIdeal.Read.val_main_v52_eq (F := Ideal) (StableHlo.launchContents m' c)).trans (Cert.StepSmallIdeal.Value.plain_2_2 (m' ((c : Thread Cert.StepSmallPlainIdeal.nD Cert.StepSmallPlainIdeal.τ).loc Cert.StepSmallPlainIdeal.main_arg12)) (m' ((c : Thread Cert.StepSmallPlainIdeal.nD Cert.StepSmallPlainIdeal.τ).loc Cert.StepSmallPlainIdeal.main_arg32)))
    rw [a12, a32] at e22
    have e23 := (Cert.StepSmallPlainIdeal.Read.val_main_v76_eq (F := Ideal) (StableHlo.launchContents m' c)).trans (Cert.StepSmallIdeal.Value.plain_2_3 (m' ((c : Thread Cert.StepSmallPlainIdeal.nD Cert.StepSmallPlainIdeal.τ).loc Cert.StepSmallPlainIdeal.main_arg13)) (m' ((c : Thread Cert.StepSmallPlainIdeal.nD Cert.StepSmallPlainIdeal.τ).loc Cert.StepSmallPlainIdeal.main_arg33)))
    rw [a13, a33] at e23
    have e24 := (Cert.StepSmallPlainIdeal.Read.val_main_v100_eq (F := Ideal) (StableHlo.launchContents m' c)).trans (Cert.StepSmallIdeal.Value.plain_2_4 (m' ((c : Thread Cert.StepSmallPlainIdeal.nD Cert.StepSmallPlainIdeal.τ).loc Cert.StepSmallPlainIdeal.main_arg14)) (m' ((c : Thread Cert.StepSmallPlainIdeal.nD Cert.StepSmallPlainIdeal.τ).loc Cert.StepSmallPlainIdeal.main_arg34)))
    rw [a14, a34] at e24
    have e25 := (Cert.StepSmallPlainIdeal.Read.val_main_v124_eq (F := Ideal) (StableHlo.launchContents m' c)).trans (Cert.StepSmallIdeal.Value.plain_2_5 (m' ((c : Thread Cert.StepSmallPlainIdeal.nD Cert.StepSmallPlainIdeal.τ).loc Cert.StepSmallPlainIdeal.main_arg15)) (m' ((c : Thread Cert.StepSmallPlainIdeal.nD Cert.StepSmallPlainIdeal.τ).loc Cert.StepSmallPlainIdeal.main_arg35)))
    rw [a15, a35] at e25
    have e26 := (Cert.StepSmallPlainIdeal.Read.val_main_v148_eq (F := Ideal) (StableHlo.launchContents m' c)).trans (Cert.StepSmallIdeal.Value.plain_2_6 (m' ((c : Thread Cert.StepSmallPlainIdeal.nD Cert.StepSmallPlainIdeal.τ).loc Cert.StepSmallPlainIdeal.main_arg16)) (m' ((c : Thread Cert.StepSmallPlainIdeal.nD Cert.StepSmallPlainIdeal.τ).loc Cert.StepSmallPlainIdeal.main_arg36)))
    rw [a16, a36] at e26
    have e27 := (Cert.StepSmallPlainIdeal.Read.val_main_v172_eq (F := Ideal) (StableHlo.launchContents m' c)).trans (Cert.StepSmallIdeal.Value.plain_2_7 (m' ((c : Thread Cert.StepSmallPlainIdeal.nD Cert.StepSmallPlainIdeal.τ).loc Cert.StepSmallPlainIdeal.main_arg17)) (m' ((c : Thread Cert.StepSmallPlainIdeal.nD Cert.StepSmallPlainIdeal.τ).loc Cert.StepSmallPlainIdeal.main_arg37)))
    rw [a17, a37] at e27
    have e28 := (Cert.StepSmallPlainIdeal.Read.val_main_v196_eq (F := Ideal) (StableHlo.launchContents m' c)).trans (Cert.StepSmallIdeal.Value.plain_2_8 (m' ((c : Thread Cert.StepSmallPlainIdeal.nD Cert.StepSmallPlainIdeal.τ).loc Cert.StepSmallPlainIdeal.main_arg18)) (m' ((c : Thread Cert.StepSmallPlainIdeal.nD Cert.StepSmallPlainIdeal.τ).loc Cert.StepSmallPlainIdeal.main_arg38)))
    rw [a18, a38] at e28
    have e29 := (Cert.StepSmallPlainIdeal.Read.val_main_v220_eq (F := Ideal) (StableHlo.launchContents m' c)).trans (Cert.StepSmallIdeal.Value.plain_2_9 (m' ((c : Thread Cert.StepSmallPlainIdeal.nD Cert.StepSmallPlainIdeal.τ).loc Cert.StepSmallPlainIdeal.main_arg19)) (m' ((c : Thread Cert.StepSmallPlainIdeal.nD Cert.StepSmallPlainIdeal.τ).loc Cert.StepSmallPlainIdeal.main_arg39)))
    rw [a19, a39] at e29
    have e30 := (Cert.StepSmallPlainIdeal.Read.val_main_v10_eq (F := Ideal) (StableHlo.launchContents m' c)).trans (Cert.StepSmallIdeal.Value.plain_3_0 (m' ((c : Thread Cert.StepSmallPlainIdeal.nD Cert.StepSmallPlainIdeal.τ).loc Cert.StepSmallPlainIdeal.main_arg20)) (m' ((c : Thread Cert.StepSmallPlainIdeal.nD Cert.StepSmallPlainIdeal.τ).loc Cert.StepSmallPlainIdeal.main_arg30)))
    rw [a20, a30] at e30
    have e31 := (Cert.StepSmallPlainIdeal.Read.val_main_v34_eq (F := Ideal) (StableHlo.launchContents m' c)).trans (Cert.StepSmallIdeal.Value.plain_3_1 (m' ((c : Thread Cert.StepSmallPlainIdeal.nD Cert.StepSmallPlainIdeal.τ).loc Cert.StepSmallPlainIdeal.main_arg21)) (m' ((c : Thread Cert.StepSmallPlainIdeal.nD Cert.StepSmallPlainIdeal.τ).loc Cert.StepSmallPlainIdeal.main_arg31)))
    rw [a21, a31] at e31
    have e32 := (Cert.StepSmallPlainIdeal.Read.val_main_v58_eq (F := Ideal) (StableHlo.launchContents m' c)).trans (Cert.StepSmallIdeal.Value.plain_3_2 (m' ((c : Thread Cert.StepSmallPlainIdeal.nD Cert.StepSmallPlainIdeal.τ).loc Cert.StepSmallPlainIdeal.main_arg22)) (m' ((c : Thread Cert.StepSmallPlainIdeal.nD Cert.StepSmallPlainIdeal.τ).loc Cert.StepSmallPlainIdeal.main_arg32)))
    rw [a22, a32] at e32
    have e33 := (Cert.StepSmallPlainIdeal.Read.val_main_v82_eq (F := Ideal) (StableHlo.launchContents m' c)).trans (Cert.StepSmallIdeal.Value.plain_3_3 (m' ((c : Thread Cert.StepSmallPlainIdeal.nD Cert.StepSmallPlainIdeal.τ).loc Cert.StepSmallPlainIdeal.main_arg23)) (m' ((c : Thread Cert.StepSmallPlainIdeal.nD Cert.StepSmallPlainIdeal.τ).loc Cert.StepSmallPlainIdeal.main_arg33)))
    rw [a23, a33] at e33
    have e34 := (Cert.StepSmallPlainIdeal.Read.val_main_v106_eq (F := Ideal) (StableHlo.launchContents m' c)).trans (Cert.StepSmallIdeal.Value.plain_3_4 (m' ((c : Thread Cert.StepSmallPlainIdeal.nD Cert.StepSmallPlainIdeal.τ).loc Cert.StepSmallPlainIdeal.main_arg24)) (m' ((c : Thread Cert.StepSmallPlainIdeal.nD Cert.StepSmallPlainIdeal.τ).loc Cert.StepSmallPlainIdeal.main_arg34)))
    rw [a24, a34] at e34
    have e35 := (Cert.StepSmallPlainIdeal.Read.val_main_v130_eq (F := Ideal) (StableHlo.launchContents m' c)).trans (Cert.StepSmallIdeal.Value.plain_3_5 (m' ((c : Thread Cert.StepSmallPlainIdeal.nD Cert.StepSmallPlainIdeal.τ).loc Cert.StepSmallPlainIdeal.main_arg25)) (m' ((c : Thread Cert.StepSmallPlainIdeal.nD Cert.StepSmallPlainIdeal.τ).loc Cert.StepSmallPlainIdeal.main_arg35)))
    rw [a25, a35] at e35
    have e36 := (Cert.StepSmallPlainIdeal.Read.val_main_v154_eq (F := Ideal) (StableHlo.launchContents m' c)).trans (Cert.StepSmallIdeal.Value.plain_3_6 (m' ((c : Thread Cert.StepSmallPlainIdeal.nD Cert.StepSmallPlainIdeal.τ).loc Cert.StepSmallPlainIdeal.main_arg26)) (m' ((c : Thread Cert.StepSmallPlainIdeal.nD Cert.StepSmallPlainIdeal.τ).loc Cert.StepSmallPlainIdeal.main_arg36)))
    rw [a26, a36] at e36
    have e37 := (Cert.StepSmallPlainIdeal.Read.val_main_v178_eq (F := Ideal) (StableHlo.launchContents m' c)).trans (Cert.StepSmallIdeal.Value.plain_3_7 (m' ((c : Thread Cert.StepSmallPlainIdeal.nD Cert.StepSmallPlainIdeal.τ).loc Cert.StepSmallPlainIdeal.main_arg27)) (m' ((c : Thread Cert.StepSmallPlainIdeal.nD Cert.StepSmallPlainIdeal.τ).loc Cert.StepSmallPlainIdeal.main_arg37)))
    rw [a27, a37] at e37
    have e38 := (Cert.StepSmallPlainIdeal.Read.val_main_v202_eq (F := Ideal) (StableHlo.launchContents m' c)).trans (Cert.StepSmallIdeal.Value.plain_3_8 (m' ((c : Thread Cert.StepSmallPlainIdeal.nD Cert.StepSmallPlainIdeal.τ).loc Cert.StepSmallPlainIdeal.main_arg28)) (m' ((c : Thread Cert.StepSmallPlainIdeal.nD Cert.StepSmallPlainIdeal.τ).loc Cert.StepSmallPlainIdeal.main_arg38)))
    rw [a28, a38] at e38
    have e39 := (Cert.StepSmallPlainIdeal.Read.val_main_v226_eq (F := Ideal) (StableHlo.launchContents m' c)).trans (Cert.StepSmallIdeal.Value.plain_3_9 (m' ((c : Thread Cert.StepSmallPlainIdeal.nD Cert.StepSmallPlainIdeal.τ).loc Cert.StepSmallPlainIdeal.main_arg29)) (m' ((c : Thread Cert.StepSmallPlainIdeal.nD Cert.StepSmallPlainIdeal.τ).loc Cert.StepSmallPlainIdeal.main_arg39)))
    rw [a29, a39] at e39
    exact ⟨h0.trans (a30.trans (Cert.StepSmallIdeal.Value.result_0_0 m c).symm),
      h1.trans (a31.trans (Cert.StepSmallIdeal.Value.result_0_1 m c).symm),
      h2.trans (a32.trans (Cert.StepSmallIdeal.Value.result_0_2 m c).symm),
      h3.trans (a33.trans (Cert.StepSmallIdeal.Value.result_0_3 m c).symm),
      h4.trans (a34.trans (Cert.StepSmallIdeal.Value.result_0_4 m c).symm),
      h5.trans (a35.trans (Cert.StepSmallIdeal.Value.result_0_5 m c).symm),
      h6.trans (a36.trans (Cert.StepSmallIdeal.Value.result_0_6 m c).symm),
      h7.trans (a37.trans (Cert.StepSmallIdeal.Value.result_0_7 m c).symm),
      h8.trans (a38.trans (Cert.StepSmallIdeal.Value.result_0_8 m c).symm),
      h9.trans (a39.trans (Cert.StepSmallIdeal.Value.result_0_9 m c).symm),
      h10.trans (e10.trans (Cert.StepSmallIdeal.Value.result_1_0 m c).symm),
      h11.trans (e11.trans (Cert.StepSmallIdeal.Value.result_1_1 m c).symm),
      h12.trans (e12.trans (Cert.StepSmallIdeal.Value.result_1_2 m c).symm),
      h13.trans (e13.trans (Cert.StepSmallIdeal.Value.result_1_3 m c).symm),
      h14.trans (e14.trans (Cert.StepSmallIdeal.Value.result_1_4 m c).symm),
      h15.trans (e15.trans (Cert.StepSmallIdeal.Value.result_1_5 m c).symm),
      h16.trans (e16.trans (Cert.StepSmallIdeal.Value.result_1_6 m c).symm),
      h17.trans (e17.trans (Cert.StepSmallIdeal.Value.result_1_7 m c).symm),
      h18.trans (e18.trans (Cert.StepSmallIdeal.Value.result_1_8 m c).symm),
      h19.trans (e19.trans (Cert.StepSmallIdeal.Value.result_1_9 m c).symm),
      h20.trans (e20.trans (Cert.StepSmallIdeal.Value.result_2_0 m c).symm),
      h21.trans (e21.trans (Cert.StepSmallIdeal.Value.result_2_1 m c).symm),
      h22.trans (e22.trans (Cert.StepSmallIdeal.Value.result_2_2 m c).symm),
      h23.trans (e23.trans (Cert.StepSmallIdeal.Value.result_2_3 m c).symm),
      h24.trans (e24.trans (Cert.StepSmallIdeal.Value.result_2_4 m c).symm),
      h25.trans (e25.trans (Cert.StepSmallIdeal.Value.result_2_5 m c).symm),
      h26.trans (e26.trans (Cert.StepSmallIdeal.Value.result_2_6 m c).symm),
      h27.trans (e27.trans (Cert.StepSmallIdeal.Value.result_2_7 m c).symm),
      h28.trans (e28.trans (Cert.StepSmallIdeal.Value.result_2_8 m c).symm),
      h29.trans (e29.trans (Cert.StepSmallIdeal.Value.result_2_9 m c).symm),
      h30.trans (e30.trans (Cert.StepSmallIdeal.Value.result_3_0 m c).symm),
      h31.trans (e31.trans (Cert.StepSmallIdeal.Value.result_3_1 m c).symm),
      h32.trans (e32.trans (Cert.StepSmallIdeal.Value.result_3_2 m c).symm),
      h33.trans (e33.trans (Cert.StepSmallIdeal.Value.result_3_3 m c).symm),
      h34.trans (e34.trans (Cert.StepSmallIdeal.Value.result_3_4 m c).symm),
      h35.trans (e35.trans (Cert.StepSmallIdeal.Value.result_3_5 m c).symm),
      h36.trans (e36.trans (Cert.StepSmallIdeal.Value.result_3_6 m c).symm),
      h37.trans (e37.trans (Cert.StepSmallIdeal.Value.result_3_7 m c).symm),
      h38.trans (e38.trans (Cert.StepSmallIdeal.Value.result_3_8 m c).symm),
      h39.trans (e39.trans (Cert.StepSmallIdeal.Value.result_3_9 m c).symm), ha⟩

end Cert.StepSmallPlainIdeal
-- ==== Proof.Pairs.ShortFwd.lean ====
module

public import proofs.«01_k».proof.Defs
public import proofs.«01_k».proof.Proof.Gen.ShortFwd
public import proofs.«01_k».proof.Proof.Gen.ShortFwd.Frame
public import proofs.«01_k».proof.Proof.Gen.ShortFwdIdeal.Value
public import proofs.«01_k».proof.Proof.Gen.ShortFwdPlainIdeal.Run
public import proofs.«01_k».proof.Proof.Gen.ShortFwdPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.ShortFwdIdeal.Value
open Idealize.ShloMosaic Idealize.ShloMosaic.TcCoe Idealize.SL.Sem
open Idealize.ShloMosaic.Pipeline (Dat)
open Cert.ShortFwdIdeal Cert.ShortFwdIdeal.Gen Cert.ShortFwdPlainIdeal.Read

variable (m : (ℓ : Loc nD τ sig) → Buf (Elt Ideal) ℓ)

/-- Where each window's block sits at a point. -/
theorem idx : ∀ t : Fin cfg0.N, win0_0.index t = ![t.val, 0] ∧ win0_1.index t = ![t.val, 1] ∧ win0_2.index t = ![t.val, 2]
    ∧ win0_3.index t = ![16 * t.val - 1, 1] ∧ win0_4.index t = ![16 * t.val - 1, 2] ∧ win0_5.index t = ![0, 0] ∧ win0_6.index t = ![t.val, 0] :=
  (by decide +kernel : ∀ t : Fin grid0.N, _)

/-- The first block has no rows before it. -/
theorem first_iff : ∀ t : Fin cfg0.N, Scalar.cmpi .sgt (BitVec.ofNat 32 (grid0.coords t 0).val) 0#32 = if t.val = 0 then 0#1 else 1#1 :=
  (by decide +kernel : ∀ t : Fin grid0.N, _)

/-- The scratch at a point: the rows before the block first, then the block's own products of inner gate and value. -/
def CS (i : grid0.Coords) (cb vb : Vec Ideal S256x1024 .bf16) (hc hv : Vec Ideal S16x1024 .bf16) : S272x1024.Idx → EReal := fun y =>
  if h : (y 0 : ℕ) < 16 then k0_pay2 (F := Ideal) i hc hv (ix2 ⟨(y 0 : ℕ), h⟩ (y 1))
  else cb (ix2 ⟨(y 0 : ℕ) - 16, by have := (y 0).isLt; change (y 0 : ℕ) < 272 at this; omega⟩ (y 1))
     * vb (ix2 ⟨(y 0 : ℕ) - 16, by have := (y 0).isLt; change (y 0 : ℕ) < 272 at this; omega⟩ (y 1))

/-- A load of part of a buffer the body itself stored into is the same part of what its stores left there. -/
theorem readCov_part {Val : EltTy → Type} [∀ e, Nonempty (Val e)] {sig' : RefSig} {κ : Kind} {sp : Space} {s : Shape} {e : EltTy} (v : View sig' κ sp s e)
    (L : List (View.Piece Val s e)) (r : Rect s) : v.readCov L r.toLoadRect = View.ld (View.canon L) r :=
  View.readCov_eq_canon' v L r.toLoadRect

/-- The run of the body. -/
abbrev runA (c : Dev nD) (t : Fin cfg0.N) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)

/-- What the scratch holds once the body has filled it. -/
theorem scratch (c : Dev nD) (t : Fin cfg0.N) :
    View.canon (runA m c t).2.1 = CS (grid0.coords t) (iblk m c 1 t) (iblk m c 2 t) (iblk m c 3 t) (iblk m c 4 t) := by
  funext y
  unfold runA
  frame_out
  canon_tiles x h using (View.cover_of_tiledBy _ ![16, 512] (by sl_kernel_rfl) y)
  case piece16 =>
    have e : (y 0 : ℕ) < 16 := by omega
    rw [CS, dif_pos e]
    exact congrArg _ (by idx_ext <;> omega)
  all_goals
    have e : ¬ (y 0 : ℕ) < 16 := by omega
    rw [CS, dif_neg e]
    open_payloads
    pointwise
    refine congrArg₂ (· * ·) ?_ ?_ <;> blk_ext

/-- Row `r`, lane `l` of the convolution of the gated values, read off the scratch. -/
def convAt (cs : S272x1024.Idx → EReal) (w : Vec Ideal S3x1024 .f32) (r : Fin 256) (l : Fin 1024) : EReal :=
  w (ix2 0 l) * cs (ix2 ⟨14 + r, by omega⟩ l) + w (ix2 1 l) * cs (ix2 ⟨15 + r, by omega⟩ l) + w (ix2 2 l) * cs (ix2 ⟨16 + r, by omega⟩ l)

set_option maxHeartbeats 4000000 in
/-- The block a point leaves. -/
theorem block (c : Dev nD) (t : Fin cfg0.N) (y : S256x1024.Idx) :
    outsAt0 m c t y = (show FVec Ideal S256x1024 .bf16 from iblk m c 0 t) (ix2 (y 0) (y 1))
      * convAt (CS (grid0.coords t) (iblk m c 1 t) (iblk m c 2 t) (iblk m c 3 t) (iblk m c 4 t)) (iblk m c 5 t) (y 0) (y 1) := by
  have e0 := scratch m c t
  unfold runA at e0
  frame_out at e0
  unfold outsAt0
  frame_out
  simp only [readCov_part, e0]
  clear e0
  generalize CS (grid0.coords t) (iblk m c 1 t) (iblk m c 2 t) (iblk m c 3 t) (iblk m c 4 t) = cs
  canon_tiles x h
  all_goals
    open_payloads
    pointwise
    refine congrArg₂ (· * ·) ?_ (congrArg₂ (· + ·) (congrArg₂ (· + ·) (congrArg₂ (· * ·) ?_ ?_) (congrArg₂ (· * ·) ?_ ?_)) (congrArg₂ (· * ·) ?_ ?_))
    all_goals exact congrArg _ (by idx_ext <;> omega)

/-- The gated values with two zero rows before them: row `r` is row `r - 2` of the products. -/
def gated (u : Vec Ideal S8192x3072 .bf16) (r : ℕ) (h : r < 8194) (l : Fin 1024) : EReal :=
  if r < 2 then 0 else u (ix2 ⟨r - 2, by omega⟩ ⟨1024 + l.val, by omega⟩) * u (ix2 ⟨r - 2, by omega⟩ ⟨2048 + l.val, by omega⟩)

/-- The causal convolution of the gated values at row `r`. -/
def conv (u : Vec Ideal S8192x3072 .bf16) (w : Vec Ideal S3x1024 .f32) (r : Fin 8192) (l : Fin 1024) : EReal :=
  w (ix2 0 l) * gated u r.val (by omega) l + w (ix2 1 l) * gated u (r.val + 1) (by omega) l + w (ix2 2 l) * gated u (r.val + 2) (by omega) l

/-- The scratch holds the gated values from two rows before the block on. -/
theorem CS_at (c : Dev nD) (t : Fin cfg0.N) (j : ℕ) (hj : j < 258) (l : Fin 1024) :
    CS (grid0.coords t) (iblk m c 1 t) (iblk m c 2 t) (iblk m c 3 t) (iblk m c 4 t) (ix2 ⟨14 + j, by omega⟩ l)
      = gated (m ((c : Thread nD τ).loc main_arg0)) (256 * t.val + j) (by have := t.isLt; change t.val < 32 at this; omega) l := by
  have ht : t.val < 32 := t.isLt
  obtain ⟨i0, i1, i2, i3, i4, i5, i6⟩ := idx t
  by_cases h : 14 + j < 16
  · refine (dif_pos (show 14 + j < 16 from h)).trans ?_
    change k0_pay2 (F := Ideal) (grid0.coords t) (iblk m c 3 t) (iblk m c 4 t) (ix2 ⟨14 + j, h⟩ l) = _
    unfold k0_pay2
    dsimp only
    rw [first_iff t]
    by_cases h0 : t.val = 0
    · rw [if_pos h0, gated, if_pos (by omega)]
      pointwise
    · rw [if_neg h0, gated, if_neg (by omega)]
      pointwise
      blk_point [iblk, V, i3, i4]
  · refine (dif_neg (show ¬ 14 + j < 16 from h)).trans ?_
    rw [gated, if_neg (by omega)]
    blk_point [iblk, V, i1, i2]

/-- A row of the scratch named by the row of the whole array it holds. -/
theorem CS_row (c : Dev nD) (t : Fin cfg0.N) (i : Fin 272) (l : Fin 1024) (R : ℕ) (hR : R < 8194) (h1 : R + 14 = 256 * t.val + i.val) (h2 : 14 ≤ i.val) :
    CS (grid0.coords t) (iblk m c 1 t) (iblk m c 2 t) (iblk m c 3 t) (iblk m c 4 t) (ix2 i l)
      = gated (m ((c : Thread nD τ).loc main_arg0)) R hR l := by
  obtain ⟨i, hi⟩ := i
  dsimp only at h1 h2
  obtain ⟨j, rfl⟩ := Nat.exists_eq_add_of_le h2
  obtain rfl : R = 256 * t.val + j := by omega
  exact CS_at m c t j (by omega) l

/-- The convolution read off the scratch is the convolution of the whole array at the block's row. -/
theorem convAt_eq (c : Dev nD) (t : Fin cfg0.N) (r : Fin 256) (l : Fin 1024) (R : Fin 8192) (hR : R.val = 256 * t.val + r.val) :
    convAt (CS (grid0.coords t) (iblk m c 1 t) (iblk m c 2 t) (iblk m c 3 t) (iblk m c 4 t)) (iblk m c 5 t) r l
      = conv (m ((c : Thread nD τ).loc main_arg0)) (m ((c : Thread nD τ).loc main_arg1)) R l := by
  obtain ⟨i0, i1, i2, i3, i4, i5, i6⟩ := idx t
  rw [convAt, conv, CS_row m c t _ l R.val (by omega) (by dsimp only; omega) (by dsimp only; omega), CS_row m c t _ l (R.val + 1) (by omega) (by dsimp only; omega) (by dsimp only; omega),
    CS_row m c t _ l (R.val + 2) (by omega) (by dsimp only; omega) (by dsimp only; omega)]
  blk_point [iblk, V, i5]

/-- The outer gate times the convolution. -/
def gatedConv (u : Vec Ideal S8192x3072 .bf16) (w : Vec Ideal S3x1024 .f32) (r : Fin 8192) (l : Fin 1024) : EReal :=
  u (ix2 r ⟨l.val, by omega⟩) * conv u w r l

/-- After the run the result holds the gated convolution. -/
theorem final_rows (c : Dev nD) : (dats m 0 c).arrAt 6 cfg0.N
    = fun i : S8192x1024.Idx => gatedConv (m ((c : Thread nD τ).loc main_arg0)) (m ((c : Thread nD τ).loc main_arg1)) (i 0) (i 1) := by
  refine (dats m 0 c).arrAt_eq_of_covers 6 _ (by decide +kernel) fun t _ y => ?_
  obtain ⟨i0, i1, i2, i3, i4, i5, i6⟩ := idx t
  have ht : t.val < 32 := t.isLt
  blk_simp
  rw [after0_6, block]
  idx_vars y
  have e : ∀ i j, i = (⟨256 * t.val + y0.val, by omega⟩ : Fin 8192) → j = y1 →
      gatedConv (m ((c : Thread nD τ).loc main_arg0)) (m ((c : Thread nD τ).loc main_arg1)) ⟨256 * t.val + y0.val, by omega⟩ y1
      = gatedConv (m ((c : Thread nD τ).loc main_arg0)) (m ((c : Thread nD τ).loc main_arg1)) i j := fun i j hi hj => by rw [hi, hj]
  refine Eq.trans ?_ (e _ _ (Fin.ext (by change _ = 256 * t.val + y0.val; blk_simp [i6]; omega)) (Fin.ext (by blk_simp [i6])))
  rw [gatedConv, ← convAt_eq m c t y0 y1 ⟨256 * t.val + y0.val, by omega⟩ rfl]
  refine congrArg₂ (fun a b : EReal => a * b) ?_ rfl
  blk_ext [iblk, V, i0]

/-- The padded gated values of the reference. -/
theorem gated_at (u : Vec Ideal S8192x3072 .bf16) (r : Fin 8194) (l : Fin 1024) : val_main_v6 (F := Ideal) u (ix2 r l) = gated u r.val r.isLt l := by
  unfold val_main_v6 val_main_v5 val_main_cst val_main_v4 val_main_v3 val_main_v2 val_main_v0
  rw [gated]
  pointwise
  split_ifs <;> rfl

/-- The reference's convolution. -/
theorem conv_at (u : Vec Ideal S8192x3072 .bf16) (w : Vec Ideal S3x1024 .f32) (r : Fin 8192) (l : Fin 1024) :
    val_main_v28 (F := Ideal) u w (ix2 r l) = conv u w r l := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_cst_0
  pointwise
  simp only [gated_at]
  rw [conv]
  simp only [Nat.add_comm 1 r.val, Nat.add_comm 2 r.val, mul_comm]

/-- The reference's result. -/
theorem plain_at (u : Vec Ideal S8192x3072 .bf16) (w : Vec Ideal S3x1024 .f32) (r : Fin 8192) (l : Fin 1024) :
    val_main_v30 (F := Ideal) u w (ix2 r l) = gatedConv u w r l := by
  unfold val_main_v30 val_main_v29 val_main_v1 val_main_v0
  pointwise
  rw [conv_at]
  rfl

/-- Kernel and reference hold the same array. -/
theorem final (c : Dev nD) : (dats m 0 c).arrAt 6 (cfgs 0).N
    = val_main_v30 (F := Ideal) (m ((c : Thread nD τ).loc main_arg0)) (m ((c : Thread nD τ).loc main_arg1)) := by
  refine (final_rows m c).trans ?_
  funext i
  exact ((congrArg _ (eq_ix2 i)).trans (plain_at _ _ (i 0) (i 1))).symm

end Cert.ShortFwdIdeal.Value

namespace Cert.ShortFwdPlainIdeal
open Idealize.ShloMosaic Idealize.ShloMosaic.TcCoe Idealize.SL.Sem

/-- The reference stops, its arguments untouched. -/
theorem runs : Cert.quiescent_ShortFwdPlainIdeal (hShortFwdPlainIdeal := Cert.ShortFwdPlainIdeal.Gen.facts) := by
  intro m g _
  hlo_run
  · exact fun _ => ⟨trivial, trivial⟩
  · exact sem_eq_zero_of_no_sems (sig := Cert.ShortFwdPlainIdeal.sig) (by decide) _

/-- Kernel and reference leave the same values. -/
theorem same_values : Cert.algebraic_ShortFwdIdeal_ShortFwdPlainIdeal (hShortFwdIdeal := Cert.ShortFwdIdeal.Gen.facts) (hShortFwdPlainIdeal := Cert.ShortFwdPlainIdeal.Gen.facts) := by
  pair_intro
  · run_from Cert.ShortFwdIdeal.Gen.run_main m g
  · refine Idealize.ShloMosaic.θ_run_mono (Cert.ShortFwdPlainIdeal.Value.run m' g') ?_
    intro r hr c
    obtain ⟨h0, ha⟩ := hr c
    obtain ⟨a0, a1⟩ := hagree c
    have e0 := h0.trans (Cert.ShortFwdPlainIdeal.Read.val_main_v30_eq (F := Ideal) _ _)
    rw [a0, a1] at e0
    exact ⟨e0.trans ((Cert.ShortFwdIdeal.Value.final m c).symm), ha⟩

end Cert.ShortFwdPlainIdeal
-- ==== Proof.Pairs.LossHead.lean ====
module

public import proofs.«01_k».proof.Defs
public import proofs.«01_k».proof.Proof.Gen.LossHead
public import proofs.«01_k».proof.Proof.Gen.LossHead.Frame
public import proofs.«01_k».proof.Proof.Gen.LossHeadIdeal.Value
public import proofs.«01_k».proof.Proof.Gen.LossHeadPlainIdeal.Run
public import proofs.«01_k».proof.Proof.Gen.LossHeadPlainIdeal.Read
public import Idealize.ShloMosaic.Lib.Pipeline.ValueKit
public import Idealize.ShloMosaic.Lib.Pipeline.ReadBack
public import Idealize.ShloMosaic.Lib.Claim
public import proofs.«01_k».proof.Proof.Pairs.RmsGrad

@[expose] public section
set_option maxRecDepth 16384
noncomputable section
namespace Cert.LossHeadIdeal.Value
open Idealize.ShloMosaic Idealize.ShloMosaic.TcCoe Idealize.SL.Sem
open Idealize.ShloMosaic.Pipeline (Dat)
open Cert.LossHeadIdeal Cert.LossHeadIdeal.Gen Cert.LossHeadPlainIdeal.Read

variable (m : (ℓ : Loc nD τ sig) → Buf (Elt Ideal) ℓ)

/-- Where each window's block sits at a point of the grid. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

/-- The inverse root of a row's mean square plus the small constant. -/
def inv (x : Fin 1024 → EReal) : EReal :=
  Ideal.rsqrt (Ideal.div (∑ k, x k * x k) (Ideal.ofBits .f32 0x44800000#32) + Ideal.ofBits .f32 0x358637BD#32)

/-- How far the normalised row is from its target. -/
def er (x t g : Fin 1024 → EReal) (l : Fin 1024) : EReal := x l * inv x * g l - t l

/-- The loss's derivative in the normalised row. -/
def dn (x t g : Fin 1024 → EReal) (l : Fin 1024) : EReal := er x t g l * Ideal.ofBits .f32 0x3A800000#32

/-- The loss's derivative in the row itself. -/
def dx (x t g : Fin 1024 → EReal) (l : Fin 1024) : EReal :=
  inv x * (dn x t g l * g l - x l * inv x * Ideal.div (∑ k, dn x t g k * g k * (x k * inv x)) (Ideal.ofBits .f32 0x44800000#32))

/-- A row's mean squared distance from its target. -/
def ms (x t g : Fin 1024 → EReal) : EReal := Ideal.div (∑ k, er x t g k * er x t g k) (Ideal.ofBits .f32 0x44800000#32)

/-- One half. -/
theorem half : Ideal.ofBits .f32 0x3F000000#32 = ((1 / 2 : ℝ) : EReal) := by
  simp [Ideal.ofBits, Ideal.ieee, -EReal.coe_mul]; norm_num

/-- One over the width. -/
theorem inv_width : Ideal.ofBits .f32 0x3A800000#32 = ((1 / 1024 : ℝ) : EReal) := by
  simp [Ideal.ofBits, Ideal.ieee, -EReal.coe_mul]; norm_num

/-- Two. -/
theorem two : Ideal.ofBits .f32 0x40000000#32 = ((2 : ℝ) : EReal) := by
  simp [Ideal.ofBits, Ideal.ieee, -EReal.coe_mul]; norm_num

/-- One. -/
theorem one : Ideal.ofBits .f32 0x3F800000#32 = ((1 : ℝ) : EReal) := by
  simp [Ideal.ofBits, Ideal.ieee, -EReal.coe_mul]; norm_num

/-- The derivative of half the mean square, as the reference writes it, is the distance over the width. -/
theorem scale (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [half, one, two, inv_width, Cert.RmsGrad.width, Ideal.div_coe (by norm_num), ← mul_assoc, mul_comm e]
  congr 1
  norm_cast
  norm_num

/-- The kernel's distances. -/
theorem err_at (h : Vec Ideal S512x1024 .f32) (g : Vec Ideal S1x1024 .f32) (tg : Vec Ideal S512x1024 .f32) (r : Fin 512) (l : Fin 1024) :
    k0_pay7 (F := Ideal) h g tg (ix2 r l) = er (fun k => h (ix2 r k)) (fun k => tg (ix2 r k)) (fun k => g (ix2 0 k)) l := by
  unfold er inv
  pointwise [k0_pay7]

/-- The kernel's derivative in the rows. -/
theorem kernel_at (h : Vec Ideal S512x1024 .f32) (g : Vec Ideal S1x1024 .f32) (tg : Vec Ideal S512x1024 .f32) (r : Fin 512) (l : Fin 1024) :
    k0_pay1 (F := Ideal) g (k0_pay9 h g tg) (k0_pay10 h) (k0_pay11 h) (ix2 r l) = dx (fun k => h (ix2 r k)) (fun k => tg (ix2 r k)) (fun k => g (ix2 0 k)) l := by
  unfold dx dn
  pointwise [k0_pay1, k0_pay9, k0_pay11, k0_pay10]
  simp only [err_at]
  rfl

/-- What one block of rows adds to the gradient of the gain. -/
theorem gain_at (h : Vec Ideal S512x1024 .f32) (g : Vec Ideal S1x1024 .f32) (tg : Vec Ideal S512x1024 .f32) (i : Fin 1) (l : Fin 1024) :
    k0_pay12 (F := Ideal) h g tg (ix2 i l) = ∑ r : Fin 512, dn (fun k => h (ix2 r k)) (fun k => tg (ix2 r k)) (fun k => g (ix2 0 k)) l * (h (ix2 r l) * inv (fun k => h (ix2 r k))) := by
  unfold dn
  pointwise [k0_pay12, k0_pay9, k0_pay11, k0_pay10]
  simp only [err_at]
  rfl

/-- The reference's distances. -/
theorem plain_err (h : Vec Ideal S8192x1024 .f32) (g : Vec Ideal S1x1024 .f32) (tg : Vec Ideal S8192x1024 .f32) (r : Fin 8192) (l : Fin 1024) :
    val_main_v15 (F := Ideal) h g tg (ix2 r l) = er (fun k => h (ix2 r k)) (fun k => tg (ix2 r k)) (fun k => g (ix2 0 k)) l := by
  unfold er inv
  pointwise [val_main_v0, val_main_cst, val_main_v1, val_main_v2, val_main_cst_0, val_main_v3, val_main_v4, val_main_cst_1, val_main_v5, val_main_v6, val_main_v7, val_main_cst_2, val_main_cst_3, val_main_cst_4, val_main_cst_5, val_main_cst_6, val_main_cst_7, val_main_cst_8, val_main_cst_9, val_main_cst_10, val_main_cst_11, val_main_cst_12, val_main_cst_13, val_main_cst_14, val_main_v11, val_main_v12, val_main_v13, val_main_v14, val_main_v15]

/-- The reference's derivative in the normalised rows. -/
theorem plain_dn (h : Vec Ideal S8192x1024 .f32) (g : Vec Ideal S1x1024 .f32) (tg : Vec Ideal S8192x1024 .f32) (r : Fin 8192) (l : Fin 1024) :
    val_main_v29 (F := Ideal) h g tg (ix2 r l) = dn (fun k => h (ix2 r k)) (fun k => tg (ix2 r k)) (fun k => g (ix2 0 k)) l := by
  rw [dn, ← plain_err, ← scale]
  pointwise [val_main_v29, val_main_v28, val_main_v27, val_main_v26, val_main_v25, val_main_v24, val_main_v18, val_main_v17, val_main_cst_3, val_main_cst_8, val_main_cst_9, val_main_cst_10]

/-- The reference's derivative in the rows. -/
theorem plain_at (h : Vec Ideal S8192x1024 .f32) (g : Vec Ideal S1x1024 .f32) (tg : Vec Ideal S8192x1024 .f32) (r : Fin 8192) (l : Fin 1024) :
    val_main_v48 (F := Ideal) h g tg (ix2 r l) = dx (fun k => h (ix2 r k)) (fun k => tg (ix2 r k)) (fun k => g (ix2 0 k)) l := by
  unfold dx inv
  refine Eq.trans ?_ (((zero_add _).symm.trans (Cert.RmsGrad.grad (n := 1024) (fun k => h (ix2 r k)) (fun k => dn (fun k => h (ix2 r k)) (fun k => tg (ix2 r k)) (fun k => g (ix2 0 k)) k * g (ix2 0 k)) _ _ 0 _ _ _
    Cert.RmsGrad.width Cert.RmsGrad.small Cert.RmsGrad.minus_half)).symm)
  rw [zero_add]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_cst_3, val_main_cst_4, val_main_cst_5, val_main_cst_6, val_main_cst_7, val_main_cst_8, val_main_cst_9, val_main_cst_10, val_main_cst_11, val_main_cst_12, val_main_cst_13, val_main_cst_14, val_main_v33, val_main_v34, val_main_v35, val_main_v36, val_main_v37, val_main_v38, val_main_v39, val_main_v40, val_main_v41, val_main_v42, val_main_v43, val_main_v44, val_main_v45, val_main_v46, val_main_v47, val_main_v48]
  simp only [plain_dn, Finset.univ_unique, Finset.sum_singleton]

/-- A row of the block of hidden states is a row of the whole array. -/
theorem row0 (c : Dev nD) (t : Fin cfg0.N) (r : Fin 512) :
    (fun k => (show FVec Ideal S512x1024 .f32 from iblk m c 0 t) (ix2 r k)) = fun k => (m ((c : Thread nD τ).loc main_arg0)) (ix2 ⟨512 * t.val + r.val, by have := t.isLt; change t.val < 16 at this; omega⟩ k) := by
  funext k
  blk_point [iblk, V, idx t]

/-- A row of the block of targets is a row of the whole array. -/
theorem row1 (c : Dev nD) (t : Fin cfg0.N) (r : Fin 512) :
    (fun k => (show FVec Ideal S512x1024 .f32 from iblk m c 1 t) (ix2 r k)) = fun k => (m ((c : Thread nD τ).loc main_arg2)) (ix2 ⟨512 * t.val + r.val, by have := t.isLt; change t.val < 16 at this; omega⟩ k) := by
  funext k
  blk_point [iblk, V, idx t]

/-- Every point reads the whole gain. -/
theorem row2 (c : Dev nD) (t : Fin cfg0.N) :
    (fun k => (show FVec Ideal S1x1024 .f32 from iblk m c 2 t) (ix2 0 k)) = fun k => (m ((c : Thread nD τ).loc main_arg1)) (ix2 0 k) := by
  funext k
  blk_point [iblk, V, idx t]

/-- The derivative in the rows. -/
theorem final (c : Dev nD) : (dats m 0 c).arrAt 3 (cfgs 0).N
    = val_main_v48 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := t.isLt
  blk_simp
  rw [after0_3]
  idx_vars y
  have e : (outsAt0 m c t.val t.isLt).1 (ix2 y0 y1) = val_main_v48 (F := Ideal) (m ((c : Thread nD τ).loc main_arg0)) (m ((c : Thread nD τ).loc main_arg1)) (m ((c : Thread nD τ).loc main_arg2)) (ix2 ⟨512 * t.val + y0.val, by omega⟩ y1) := by
    skip
    rw [plain_at, ← row0 m c t y0, ← row1 m c t y0, ← row2 m c t]
    by_cases h : t.val = 0
    · rw [outsAt0_A m c t (by omega)]
      frame_out
      exact kernel_at _ _ _ y0 y1
    · rw [outsAt0_B m c t (by omega)]
      frame_out
      exact kernel_at _ _ _ y0 y1
  refine e.trans ?_
  blk_ext [idx t]

/-- The same derivative in the narrow format. -/
theorem final_half (c : Dev nD) : (dats m 0 c).arrAt 4 (cfgs 0).N
    = val_main_v49 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 16 := t.isLt
  blk_simp
  rw [after0_4]
  idx_vars y
  have e : (outsAt0 m c t.val t.isLt).2.1 (ix2 y0 y1) = val_main_v49 (F := Ideal) (m ((c : Thread nD τ).loc main_arg0)) (m ((c : Thread nD τ).loc main_arg1)) (m ((c : Thread nD τ).loc main_arg2)) (ix2 ⟨512 * t.val + y0.val, by omega⟩ y1) := by
    change _ = val_main_v48 (F := Ideal) _ _ _ _
    rw [plain_at, ← row0 m c t y0, ← row1 m c t y0, ← row2 m c t]
    by_cases h : t.val = 0
    · rw [outsAt0_A m c t (by omega)]
      frame_out
      exact kernel_at _ _ _ y0 y1
    · rw [outsAt0_B m c t (by omega)]
      frame_out
      exact kernel_at _ _ _ y0 y1
  refine e.trans ?_
  blk_ext [idx t]

/-- What one point adds to the gradient of the gain. -/
def part (c : Dev nD) (t : Fin cfg0.N) (j : S1x1024.Idx) : EReal :=
  ∑ r : Fin 512, dn (fun k => (show FVec Ideal S512x1024 .f32 from iblk m c 0 t) (ix2 r k)) (fun k => (show FVec Ideal S512x1024 .f32 from iblk m c 1 t) (ix2 r k)) (fun k => (show FVec Ideal S1x1024 .f32 from iblk m c 2 t) (ix2 0 k)) (j 1) * ((show FVec Ideal S512x1024 .f32 from iblk m c 0 t) (ix2 r (j 1)) * inv (fun k => (show FVec Ideal S512x1024 .f32 from iblk m c 0 t) (ix2 r k)))

theorem gain_first (c : Dev nD) (t : Fin cfg0.N) (h : t.val % 16 = 0) (j : S1x1024.Idx) :
    (outsAt0 m c t.val t.isLt).2.2.1 j = 0 + part m c t j := by
  rw [outsAt0_A m c t h, zero_add, part]
  frame_out
  pointwise [k0_pay5, k0_pay3]
  idx_vars j
  exact gain_at _ _ _ _ _

theorem gain_next (c : Dev nD) (t : Fin cfg0.N) (h : ¬ t.val % 16 = 0) (j : S1x1024.Idx) :
    (outsAt0 m c t.val t.isLt).2.2.1 j = (outsAt0 m c (t.val - 1) (Nat.lt_of_le_of_lt (Nat.sub_le _ _) t.isLt)).2.2.1 j + part m c t j := by
  rw [outsAt0_B m c t h, part]
  frame_out
  pointwise [k0_pay5]
  idx_vars j
  exact congrArg _ (gain_at _ _ _ _ _)

/-- The gradient of the gain in the reference. -/
theorem plain_gain (h : Vec Ideal S8192x1024 .f32) (g : Vec Ideal S1x1024 .f32) (tg : Vec Ideal S8192x1024 .f32) (i : Fin 1) (l : Fin 1024) :
    val_main_v32 (F := Ideal) h g tg (ix2 i l) = ∑ r : Fin 8192, dn (fun k => h (ix2 r k)) (fun k => tg (ix2 r k)) (fun k => g (ix2 0 k)) l * (h (ix2 r l) * inv (fun k => h (ix2 r k))) := by
  pointwise [val_main_v32, val_main_v31, val_main_v30, val_main_cst_11, val_main_v0, val_main_cst, val_main_v1, val_main_v2, val_main_cst_0, val_main_v3, val_main_v4, val_main_cst_1, val_main_v5, val_main_v6, val_main_v7, val_main_cst_2, val_main_cst_3, val_main_cst_4, val_main_cst_5, val_main_cst_6, val_main_cst_7, val_main_cst_8, val_main_cst_9, val_main_cst_10, val_main_cst_11, val_main_cst_12, val_main_cst_13, val_main_cst_14, val_main_v11, val_main_v12]
  simp only [plain_dn]
  exact Finset.sum_congr rfl fun r _ => mul_comm _ _

/-- The gradient of the gain. -/
theorem final_gain (c : Dev nD) : (dats m 0 c).arrAt 5 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have hN : t.val < 16 := t.isLt
  have hl := (flush0_5 t).mp hf
  blk_simp
  rw [after0_5]
  refine (Pipeline.eq_sum_fin_of_reset_step_apply_of_flush (fun n h => (outsAt0 m c n h).2.2.1) 16 (fun _ => (0 : EReal)) _
    (fun t h j => gain_first m c t h j) (fun t h j => gain_next m c t h j) t hl _).trans ?_
  rw [zero_add]
  idx_vars y
  refine Eq.trans ?_ ((plain_gain (m ((c : Thread nD τ).loc main_arg0)) (m ((c : Thread nD τ).loc main_arg1)) (m ((c : Thread nD τ).loc main_arg2)) y0 y1).symm.trans (by blk_ext [idx t]))
  simp only [part, row0, row1, row2]
  refine Fin.sum_mul_add_congr fun s k hl => ?_
  have e1 : 512 * (16 * (t.val / 16) + s.val) + k.val = s.val * 512 + k.val := by omega
  blk_point [iblk, V, e1, idx ⟨_, Pipeline.run_point_lt_of_flush t ((flush0_5 t).mp hf) s⟩]

/-- What one block of rows adds to the loss. -/
theorem loss_at (h : Vec Ideal S512x1024 .f32) (g : Vec Ideal S1x1024 .f32) (tg : Vec Ideal S512x1024 .f32) : k0_pay8 (F := Ideal) h g tg = Ideal.ofBits .f32 0x3F000000#32 * ∑ r : Fin 512, ms (fun k => h (ix2 r k)) (fun k => tg (ix2 r k)) (fun k => g (ix2 0 k)) := by
  unfold k0_pay8 ms
  pointwise
  simp only [err_at, Finset.univ_unique, Finset.sum_singleton]

/-- What one point adds to the loss. -/
def piece (c : Dev nD) (t : Fin cfg0.N) (j : S1x128.Idx) : EReal :=
  Ideal.ofBits .f32 0x3F000000#32 * ∑ r : Fin 512, ms (fun k => (show FVec Ideal S512x1024 .f32 from iblk m c 0 t) (ix2 r k)) (fun k => (show FVec Ideal S512x1024 .f32 from iblk m c 1 t) (ix2 r k)) (fun k => (show FVec Ideal S1x1024 .f32 from iblk m c 2 t) (ix2 0 k))

theorem loss_first (c : Dev nD) (t : Fin cfg0.N) (h : t.val % 16 = 0) (j : S1x128.Idx) :
    (outsAt0 m c t.val t.isLt).2.2.2 j = 0 + piece m c t j := by
  rw [outsAt0_A m c t h, zero_add, piece]
  frame_out
  pointwise [k0_pay6, k0_pay4]
  exact loss_at _ _ _

theorem loss_next (c : Dev nD) (t : Fin cfg0.N) (h : ¬ t.val % 16 = 0) (j : S1x128.Idx) :
    (outsAt0 m c t.val t.isLt).2.2.2 j = (outsAt0 m c (t.val - 1) (Nat.lt_of_le_of_lt (Nat.sub_le _ _) t.isLt)).2.2.2 j + piece m c t j := by
  rw [outsAt0_B m c t h, piece]
  frame_out
  pointwise [k0_pay6]
  exact congrArg _ (loss_at _ _ _)

/-- A row's mean squared distance in the reference. -/
theorem plain_ms (h : Vec Ideal S8192x1024 .f32) (g : Vec Ideal S1x1024 .f32) (tg : Vec Ideal S8192x1024 .f32) (r : Fin 8192) :
    val_main_v21 (F := Ideal) h g tg (ix1 r) = ms (fun k => h (ix2 r k)) (fun k => tg (ix2 r k)) (fun k => g (ix2 0 k)) := by
  unfold ms
  pointwise [val_main_v21, val_main_v20, val_main_v19, val_main_v16, val_main_cst_4, val_main_cst_5]
  simp only [plain_err]

/-- The loss of the reference. -/
theorem plain_loss (h : Vec Ideal S8192x1024 .f32) (g : Vec Ideal S1x1024 .f32) (tg : Vec Ideal S8192x1024 .f32) (i : S1x128.Idx) :
    val_main_v50 (F := Ideal) h g tg i = Ideal.ofBits .f32 0x3F000000#32 * ∑ r : Fin 8192, ms (fun k => h (ix2 r k)) (fun k => tg (ix2 r k)) (fun k => g (ix2 0 k)) := by
  rw [val_main_v50_apply, val_main_v23_apply, val_main_v22_apply]
  refine congrArg₂ (fun a b : EReal => a * b) rfl ?_
  refine (congrArg₂ (fun a b : EReal => a + b) (Ideal.ofBits_zero .f32) rfl).trans ((zero_add _).trans ?_)
  refine Fintype.sum_equiv ⟨fun j : Cert.LossHeadPlainIdeal.S8192.Idx => (j 0 : Fin 8192), fun r => ix1 r, fun j => (eq_ix1 j).symm, fun r => rfl⟩ _ _ fun j => ?_
  exact (congrArg _ (eq_ix1 j)).trans (plain_ms h g tg (j 0))

/-- The loss. -/
theorem final_loss (c : Dev nD) : (dats m 0 c).arrAt 6 (cfgs 0).N
    = val_main_v50 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : t.val < 16 := t.isLt
  have hl := (flush0_6 t).mp hf
  blk_simp
  rw [after0_6]
  refine (Pipeline.eq_sum_fin_of_reset_step_apply_of_flush (fun n h => (outsAt0 m c n h).2.2.2) 16 (fun _ => (0 : EReal)) _
    (fun t h j => loss_first m c t h j) (fun t h j => loss_next m c t h j) t hl _).trans ?_
  rw [zero_add, plain_loss, half]
  simp only [piece, half, row0, row1, row2, mul_comm ((1 / 2 : ℝ) : EReal)]
  rw [Cert.RmsGrad.sum_mul_pos _ _ (by norm_num)]
  refine congrArg (fun a : EReal => a * ((1 / 2 : ℝ) : EReal)) ?_
  refine Fin.sum_mul_add_congr fun s k hl => ?_
  have e1 : 512 * (16 * (t.val / 16) + s.val) + k.val = s.val * 512 + k.val := by omega
  blk_point [iblk, V, e1, idx ⟨_, Pipeline.run_point_lt_of_flush t ((flush0_6 t).mp hf) s⟩]

end Cert.LossHeadIdeal.Value

namespace Cert.LossHeadPlainIdeal
open Idealize.ShloMosaic Idealize.ShloMosaic.TcCoe Idealize.SL.Sem

/-- The reference stops, its arguments untouched. -/
theorem runs : Cert.quiescent_LossHeadPlainIdeal (hLossHeadPlainIdeal := Cert.LossHeadPlainIdeal.Gen.facts) := by
  intro m g _
  hlo_run
  · exact fun _ => ⟨trivial, trivial, trivial⟩
  · exact sem_eq_zero_of_no_sems (sig := Cert.LossHeadPlainIdeal.sig) (by decide) _

/-- Kernel and reference leave the same values. -/
theorem same_values : Cert.algebraic_LossHeadIdeal_LossHeadPlainIdeal (hLossHeadIdeal := Cert.LossHeadIdeal.Gen.facts) (hLossHeadPlainIdeal := Cert.LossHeadPlainIdeal.Gen.facts) := by
  pair_intro
  · run_from Cert.LossHeadIdeal.Gen.run_main m g
  · refine Idealize.ShloMosaic.θ_run_mono (Cert.LossHeadPlainIdeal.Value.run m' g') ?_
    intro r hr c
    obtain ⟨h0, h1, h2, h3, ha⟩ := hr c
    obtain ⟨a0, a1, a2⟩ := hagree c
    have e0 := (Cert.LossHeadPlainIdeal.Read.val_main_v48_eq m' c)
    rw [a0, a1, a2] at e0
    have e1 := (Cert.LossHeadPlainIdeal.Read.val_main_v49_eq m' c)
    rw [a0, a1, a2] at e1
    have e2 := h2.trans (Cert.LossHeadPlainIdeal.Read.val_main_v32_eq (F := Ideal) _ _ _)
    rw [a0, a1, a2] at e2
    have e3 := h3.trans (Cert.LossHeadPlainIdeal.Read.val_main_v50_eq (F := Ideal) _ _ _)
    rw [a0, a1, a2] at e3
    exact ⟨h0.trans (e0.trans (Cert.LossHeadIdeal.Value.final m c).symm), h1.trans (e1.trans (Cert.LossHeadIdeal.Value.final_half m c).symm), e2.trans ((Cert.LossHeadIdeal.Value.final_gain m c).symm), e3.trans ((Cert.LossHeadIdeal.Value.final_loss m c).symm), ha⟩

end Cert.LossHeadPlainIdeal
-- ==== Proof.Pairs.SumTop.lean ====
module

public import proofs.«01_k».proof.Defs
public import proofs.«01_k».proof.Proof.Gen.SumTop
public import proofs.«01_k».proof.Proof.Gen.SumTop.Frame
public import proofs.«01_k».proof.Proof.Gen.SumTopIdeal.Value
public import proofs.«01_k».proof.Proof.Gen.SumTopPlainIdeal.Run
public import proofs.«01_k».proof.Proof.Gen.SumTopPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.SumTopIdeal.Value
open Idealize.ShloMosaic Idealize.ShloMosaic.TcCoe Idealize.SL.Sem
open Idealize.ShloMosaic.Pipeline (Dat)
open Cert.SumTopIdeal Cert.SumTopIdeal.Gen Cert.SumTopPlainIdeal.Read

variable (m : (ℓ : Loc nD τ sig) → Buf (Elt Ideal) ℓ)

/-- Where each window's block sits at a point of the grid. -/
theorem idx : ∀ t : Fin cfg0.N, win0_0.index t = ![0, t.val, 0] ∧ win0_1.index t = ![t.val, 0] :=
  (by decide +kernel : ∀ t : Fin grid0.N, _)

/-- The sum of the four parts. -/
theorem final (c : Dev nD) : (dats m 0 c).arrAt 1 (cfgs 0).N
    = val_main_v1 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst, val_main_v1]
  rw [Fin.sum_univ_four]
  refine ((by intros; ac_rfl : ∀ a b d e : EReal, e + a + b + d = a + b + d + e) _ _ _ _).trans ?_
  blk_point [iblk, idx t]

end Cert.SumTopIdeal.Value

namespace Cert.SumTopPlainIdeal
open Idealize.ShloMosaic Idealize.ShloMosaic.TcCoe Idealize.SL.Sem

/-- The reference stops, its arguments untouched. -/
theorem runs : Cert.quiescent_SumTopPlainIdeal (hSumTopPlainIdeal := Cert.SumTopPlainIdeal.Gen.facts) := by
  intro m g _
  hlo_run
  · exact fun _ => trivial
  · exact sem_eq_zero_of_no_sems (sig := Cert.SumTopPlainIdeal.sig) (by decide) _

/-- Kernel and reference leave the same values. -/
theorem same_values : Cert.algebraic_SumTopIdeal_SumTopPlainIdeal (hSumTopIdeal := Cert.SumTopIdeal.Gen.facts) (hSumTopPlainIdeal := Cert.SumTopPlainIdeal.Gen.facts) := by
  pair_intro
  · run_from Cert.SumTopIdeal.Gen.run_main m g
  · refine Idealize.ShloMosaic.θ_run_mono (Cert.SumTopPlainIdeal.Value.run m' g') ?_
    intro r hr c
    obtain ⟨h0, ha⟩ := hr c
    have e0 := h0.trans (Cert.SumTopPlainIdeal.Read.val_main_v1_eq (F := Ideal) _)
    rw [hagree c] at e0
    exact ⟨e0.trans (Cert.SumTopIdeal.Value.final m c).symm, ha⟩

end Cert.SumTopPlainIdeal
-- ==== Proof.Pairs.SumBottom.lean ====
module

public import proofs.«01_k».proof.Defs
public import proofs.«01_k».proof.Proof.Gen.SumBottom
public import proofs.«01_k».proof.Proof.Gen.SumBottom.Frame
public import proofs.«01_k».proof.Proof.Gen.SumBottomIdeal.Value
public import proofs.«01_k».proof.Proof.Gen.SumBottomPlainIdeal.Run
public import proofs.«01_k».proof.Proof.Gen.SumBottomPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.SumBottomIdeal.Value
open Idealize.ShloMosaic Idealize.ShloMosaic.TcCoe Idealize.SL.Sem
open Idealize.ShloMosaic.Pipeline (Dat)
open Cert.SumBottomIdeal Cert.SumBottomIdeal.Gen Cert.SumBottomPlainIdeal.Read

variable (m : (ℓ : Loc nD τ sig) → Buf (Elt Ideal) ℓ)

/-- Where each window's block sits at a point of the grid. -/
theorem idx : ∀ t : Fin cfg0.N, win0_0.index t = ![0, t.val, 0] ∧ win0_1.index t = ![t.val, 0] :=
  (by decide +kernel : ∀ t : Fin grid0.N, _)

/-- The sum of the four parts. -/
theorem final (c : Dev nD) : (dats m 0 c).arrAt 1 (cfgs 0).N
    = val_main_v1 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst, val_main_v1]
  rw [Fin.sum_univ_four]
  refine ((by intros; ac_rfl : ∀ a b d e : EReal, e + a + b + d = a + b + d + e) _ _ _ _).trans ?_
  blk_point [iblk, idx t]

end Cert.SumBottomIdeal.Value

namespace Cert.SumBottomPlainIdeal
open Idealize.ShloMosaic Idealize.ShloMosaic.TcCoe Idealize.SL.Sem

/-- The reference stops, its arguments untouched. -/
theorem runs : Cert.quiescent_SumBottomPlainIdeal (hSumBottomPlainIdeal := Cert.SumBottomPlainIdeal.Gen.facts) := by
  intro m g _
  hlo_run
  · exact fun _ => trivial
  · exact sem_eq_zero_of_no_sems (sig := Cert.SumBottomPlainIdeal.sig) (by decide) _

/-- Kernel and reference leave the same values. -/
theorem same_values : Cert.algebraic_SumBottomIdeal_SumBottomPlainIdeal (hSumBottomIdeal := Cert.SumBottomIdeal.Gen.facts) (hSumBottomPlainIdeal := Cert.SumBottomPlainIdeal.Gen.facts) := by
  pair_intro
  · run_from Cert.SumBottomIdeal.Gen.run_main m g
  · refine Idealize.ShloMosaic.θ_run_mono (Cert.SumBottomPlainIdeal.Value.run m' g') ?_
    intro r hr c
    obtain ⟨h0, ha⟩ := hr c
    have e0 := h0.trans (Cert.SumBottomPlainIdeal.Read.val_main_v1_eq (F := Ideal) _)
    rw [hagree c] at e0
    exact ⟨e0.trans (Cert.SumBottomIdeal.Value.final m c).symm, ha⟩

end Cert.SumBottomPlainIdeal
-- ==== Proof.Pairs.SumRows.lean ====
module

public import proofs.«01_k».proof.Defs
public import proofs.«01_k».proof.Proof.Gen.SumRows
public import proofs.«01_k».proof.Proof.Gen.SumRows.Frame
public import proofs.«01_k».proof.Proof.Gen.SumRowsIdeal.Value
public import proofs.«01_k».proof.Proof.Gen.SumRowsPlainIdeal.Run
public import proofs.«01_k».proof.Proof.Gen.SumRowsPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.SumRowsIdeal.Value
open Idealize.ShloMosaic Idealize.ShloMosaic.TcCoe Idealize.SL.Sem
open Idealize.ShloMosaic.Pipeline (Dat)
open Cert.SumRowsIdeal Cert.SumRowsIdeal.Gen Cert.SumRowsPlainIdeal.Read

variable (m : (ℓ : Loc nD τ sig) → Buf (Elt Ideal) ℓ)

/-- Where each window's block sits at a point of the grid. -/
theorem idx : ∀ t : Fin cfg0.N, win0_0.index t = ![0, t.val, 0] ∧ win0_1.index t = ![t.val, 0] :=
  (by decide +kernel : ∀ t : Fin grid0.N, _)

/-- The sum of the four parts. -/
theorem final (c : Dev nD) : (dats m 0 c).arrAt 1 (cfgs 0).N
    = val_main_v1 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst, val_main_v1]
  rw [Fin.sum_univ_four]
  refine ((by intros; ac_rfl : ∀ a b d e : EReal, e + a + b + d = a + b + d + e) _ _ _ _).trans ?_
  blk_point [iblk, idx t]

end Cert.SumRowsIdeal.Value

namespace Cert.SumRowsPlainIdeal
open Idealize.ShloMosaic Idealize.ShloMosaic.TcCoe Idealize.SL.Sem

/-- The reference stops, its arguments untouched. -/
theorem runs : Cert.quiescent_SumRowsPlainIdeal (hSumRowsPlainIdeal := Cert.SumRowsPlainIdeal.Gen.facts) := by
  intro m g _
  hlo_run
  · exact fun _ => trivial
  · exact sem_eq_zero_of_no_sems (sig := Cert.SumRowsPlainIdeal.sig) (by decide) _

/-- Kernel and reference leave the same values. -/
theorem same_values : Cert.algebraic_SumRowsIdeal_SumRowsPlainIdeal (hSumRowsIdeal := Cert.SumRowsIdeal.Gen.facts) (hSumRowsPlainIdeal := Cert.SumRowsPlainIdeal.Gen.facts) := by
  pair_intro
  · run_from Cert.SumRowsIdeal.Gen.run_main m g
  · refine Idealize.ShloMosaic.θ_run_mono (Cert.SumRowsPlainIdeal.Value.run m' g') ?_
    intro r hr c
    obtain ⟨h0, ha⟩ := hr c
    have e0 := h0.trans (Cert.SumRowsPlainIdeal.Read.val_main_v1_eq (F := Ideal) _)
    rw [hagree c] at e0
    exact ⟨e0.trans (Cert.SumRowsIdeal.Value.final m c).symm, ha⟩

end Cert.SumRowsPlainIdeal
-- ==== Proof.Pairs.SumCols.lean ====
module

public import proofs.«01_k».proof.Defs
public import proofs.«01_k».proof.Proof.Gen.SumCols
public import proofs.«01_k».proof.Proof.Gen.SumCols.Frame
public import proofs.«01_k».proof.Proof.Gen.SumColsIdeal.Value
public import proofs.«01_k».proof.Proof.Gen.SumColsPlainIdeal.Run
public import proofs.«01_k».proof.Proof.Gen.SumColsPlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.SumColsIdeal.Value
open Idealize.ShloMosaic Idealize.ShloMosaic.TcCoe Idealize.SL.Sem
open Idealize.ShloMosaic.Pipeline (Dat)
open Cert.SumColsIdeal Cert.SumColsIdeal.Gen Cert.SumColsPlainIdeal.Read

variable (m : (ℓ : Loc nD τ sig) → Buf (Elt Ideal) ℓ)

/-- Where each window's block sits at a point of the grid. -/
theorem idx : ∀ t : Fin cfg0.N, win0_0.index t = ![0, t.val, 0] ∧ win0_1.index t = ![t.val, 0] :=
  (by decide +kernel : ∀ t : Fin grid0.N, _)

/-- The sum of the four parts. -/
theorem final (c : Dev nD) : (dats m 0 c).arrAt 1 (cfgs 0).N
    = val_main_v1 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst, val_main_v1]
  rw [Fin.sum_univ_four]
  refine ((by intros; ac_rfl : ∀ a b d e : EReal, e + a + b + d = a + b + d + e) _ _ _ _).trans ?_
  blk_point [iblk, idx t]

end Cert.SumColsIdeal.Value

namespace Cert.SumColsPlainIdeal
open Idealize.ShloMosaic Idealize.ShloMosaic.TcCoe Idealize.SL.Sem

/-- The reference stops, its arguments untouched. -/
theorem runs : Cert.quiescent_SumColsPlainIdeal (hSumColsPlainIdeal := Cert.SumColsPlainIdeal.Gen.facts) := by
  intro m g _
  hlo_run
  · exact fun _ => trivial
  · exact sem_eq_zero_of_no_sems (sig := Cert.SumColsPlainIdeal.sig) (by decide) _

/-- Kernel and reference leave the same values. -/
theorem same_values : Cert.algebraic_SumColsIdeal_SumColsPlainIdeal (hSumColsIdeal := Cert.SumColsIdeal.Gen.facts) (hSumColsPlainIdeal := Cert.SumColsPlainIdeal.Gen.facts) := by
  pair_intro
  · run_from Cert.SumColsIdeal.Gen.run_main m g
  · refine Idealize.ShloMosaic.θ_run_mono (Cert.SumColsPlainIdeal.Value.run m' g') ?_
    intro r hr c
    obtain ⟨h0, ha⟩ := hr c
    have e0 := h0.trans (Cert.SumColsPlainIdeal.Read.val_main_v1_eq (F := Ideal) _)
    rw [hagree c] at e0
    exact ⟨e0.trans (Cert.SumColsIdeal.Value.final m c).symm, ha⟩

end Cert.SumColsPlainIdeal
-- ==== Proof.Pairs.SumSquare.lean ====
module

public import proofs.«01_k».proof.Defs
public import proofs.«01_k».proof.Proof.Gen.SumSquare
public import proofs.«01_k».proof.Proof.Gen.SumSquare.Frame
public import proofs.«01_k».proof.Proof.Gen.SumSquareIdeal.Value
public import proofs.«01_k».proof.Proof.Gen.SumSquarePlainIdeal.Run
public import proofs.«01_k».proof.Proof.Gen.SumSquarePlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.SumSquareIdeal.Value
open Idealize.ShloMosaic Idealize.ShloMosaic.TcCoe Idealize.SL.Sem
open Idealize.ShloMosaic.Pipeline (Dat)
open Cert.SumSquareIdeal Cert.SumSquareIdeal.Gen Cert.SumSquarePlainIdeal.Read

variable (m : (ℓ : Loc nD τ sig) → Buf (Elt Ideal) ℓ)

/-- Where each window's block sits at a point of the grid. -/
theorem idx : ∀ t : Fin cfg0.N, win0_0.index t = ![0, t.val, 0] ∧ win0_1.index t = ![t.val, 0] :=
  (by decide +kernel : ∀ t : Fin grid0.N, _)

/-- The sum of the four parts. -/
theorem final (c : Dev nD) : (dats m 0 c).arrAt 1 (cfgs 0).N
    = val_main_v1 (F := Ideal) (m ((c : Thread nD τ).loc main_arg0)) := by
  refine (dats m 0 c).arrAt_eq_of_covers 1 _ (by decide +kernel) fun t hf y => ?_
  blk_simp
  rw [after0_1]
  frame_out
  pointwise [k0_pay1, val_main_v0, val_main_cst, val_main_v1]
  rw [Fin.sum_univ_four]
  refine ((by intros; ac_rfl : ∀ a b d e : EReal, e + a + b + d = a + b + d + e) _ _ _ _).trans ?_
  blk_point [iblk, idx t]

end Cert.SumSquareIdeal.Value

namespace Cert.SumSquarePlainIdeal
open Idealize.ShloMosaic Idealize.ShloMosaic.TcCoe Idealize.SL.Sem

/-- The reference stops, its arguments untouched. -/
theorem runs : Cert.quiescent_SumSquarePlainIdeal (hSumSquarePlainIdeal := Cert.SumSquarePlainIdeal.Gen.facts) := by
  intro m g _
  hlo_run
  · exact fun _ => trivial
  · exact sem_eq_zero_of_no_sems (sig := Cert.SumSquarePlainIdeal.sig) (by decide) _

/-- Kernel and reference leave the same values. -/
theorem same_values : Cert.algebraic_SumSquareIdeal_SumSquarePlainIdeal (hSumSquareIdeal := Cert.SumSquareIdeal.Gen.facts) (hSumSquarePlainIdeal := Cert.SumSquarePlainIdeal.Gen.facts) := by
  pair_intro
  · run_from Cert.SumSquareIdeal.Gen.run_main m g
  · refine Idealize.ShloMosaic.θ_run_mono (Cert.SumSquarePlainIdeal.Value.run m' g') ?_
    intro r hr c
    obtain ⟨h0, ha⟩ := hr c
    have e0 := h0.trans (Cert.SumSquarePlainIdeal.Read.val_main_v1_eq (F := Ideal) _)
    rw [hagree c] at e0
    exact ⟨e0.trans (Cert.SumSquareIdeal.Value.final m c).symm, ha⟩

end Cert.SumSquarePlainIdeal
-- ==== Proof.Pairs.BiasReduce.lean ====
module

public import proofs.«01_k».proof.Defs
public import proofs.«01_k».proof.Proof.Gen.BiasReduce
public import proofs.«01_k».proof.Proof.Gen.BiasReduce.Frame
public import proofs.«01_k».proof.Proof.Gen.BiasReduceIdeal.Value
public import proofs.«01_k».proof.Proof.Gen.BiasReducePlainIdeal.Run
public import proofs.«01_k».proof.Proof.Gen.BiasReducePlainIdeal.Read
public import Idealize.ShloMosaic.Lib.Pipeline.ValueKit
public import Idealize.ShloMosaic.Lib.Pipeline.ReadBack
public import Idealize.ShloMosaic.Lib.Claim

@[expose] public section
set_option maxRecDepth 16384
noncomputable section
namespace Cert.Chain
open Idealize.ShloMosaic Idealize.ShloMosaic.TcCoe

/-- Of the values numbered below `n`, the one that the word names, and zero if it names none: one choice after another. -/
def chain (v : BitVec 32) (f : Nat → EReal) : Nat → EReal
  | 0 => 0
  | n + 1 => Scalar.select (IntOp.cmpi CmpIPredicate.eq v (BitVec.ofNat 32 n)) (f n) (chain v f n)

/-- Choosing by equality with a small number. -/
theorem select_eq (v : BitVec 32) (n : Nat) (h : n < 2 ^ 32) (a b : EReal) :
    Scalar.select (IntOp.cmpi CmpIPredicate.eq v (BitVec.ofNat 32 n)) a b = if v.toNat = n then a else b := by
  rw [Idealize.ShloMosaic.WordCmp.cmpi_eq_eq_toNat, Idealize.ShloMosaic.WordCmp.select_ofBool, BitVec.toNat_ofNat, Nat.mod_eq_of_lt h]
  simp only [decide_eq_true_eq]

/-- The choices, one after another, come to the value that the word names. -/
theorem chain_eq (v : BitVec 32) (f : Nat → EReal) (n : Nat) (h : n ≤ 2 ^ 32) :
    chain v f n = if v.toNat < n then f v.toNat else 0 := by
  induction n with
  | zero => simp [chain]
  | succ k ih =>
    rw [chain, select_eq _ _ (by omega), ih (by omega)]
    by_cases e : v.toNat = k
    · rw [if_pos e, if_pos (by omega), e]
    · rw [if_neg e]
      by_cases l : v.toNat < k
      · rw [if_pos l, if_pos (by omega)]
      · rw [if_neg l, if_neg (by omega)]

/-- The choices, one after another, come to a sum of one choice for each number. -/
theorem chain_sum (v : BitVec 32) (f : Nat → EReal) (n : Nat) (h : n ≤ 2 ^ 32) :
    chain v f n = ∑ k : Fin n, Scalar.select (IntOp.cmpi CmpIPredicate.eq v (BitVec.ofNat 32 k.val)) (f k.val) 0 := by
  rw [chain_eq v f n h]
  simp only [fun k : Fin n => select_eq v k.val (by omega) (f k.val) 0]
  by_cases l : v.toNat < n
  · rw [if_pos l, Finset.sum_eq_single (⟨v.toNat, l⟩ : Fin n)]
    · rw [if_pos rfl]
    · exact fun k _ hk => if_neg fun e => hk (Fin.ext e.symm)
    · exact fun e => absurd (Finset.mem_univ _) e
  · rw [if_neg l, Finset.sum_eq_zero fun k _ => if_neg (by omega)]

end Cert.Chain

namespace Cert.BiasReduceIdeal.Value
open Idealize.ShloMosaic Idealize.ShloMosaic.TcCoe Idealize.SL.Sem
open Idealize.ShloMosaic.Pipeline (Dat)
open Cert.BiasReduceIdeal Cert.BiasReduceIdeal.Gen Cert.BiasReducePlainIdeal.Read

variable (m : (ℓ : Loc nD τ sig) → Buf (Elt Ideal) ℓ)

/-- Where each window's block sits at a point of the grid. -/
theorem idx : ∀ t : Fin cfg0.N, win0_0.index t = ![t.val, 0, 0] ∧ win0_1.index t = ![t.val / 8, 0, 0] ∧ win0_2.index t = ![t.val, 0, 0] :=
  (by decide +kernel : ∀ t : Fin grid0.N, _)

/-- The sum of the scores' gradients whose bucket is the one given. -/
def part (x : Fin 128 → Fin 256 → EReal) (b : Fin 128 → Fin 256 → BitVec 32) (k : Nat) : EReal :=
  ∑ p, ∑ q, Scalar.select (IntOp.cmpi CmpIPredicate.eq (b p q) (BitVec.ofNat 32 k)) (x p q) 0

/-- The kernel's row for a bucket is that bucket's sum. -/
theorem kernel_at (x : Vec Ideal S1x128x256 .f32) (b : Vec Ideal S1x128x256 .i32) (i : Fin 1) (r : Fin 32) (l : Fin 128) :
    out0_2 (F := Ideal) x b (ix3 i r l) = part (fun p q => x (ix3 0 p q)) (fun p q => b (ix3 0 p q)) r.val := by
  have e : Cert.Chain.chain (BitVec.ofNat 32 r.val) (part (fun p q => x (ix3 0 p q)) (fun p q => b (ix3 0 p q))) 32
      = part (fun p q => x (ix3 0 p q)) (fun p q => b (ix3 0 p q)) r.val := by
    have h : (BitVec.ofNat 32 r.val).toNat = r.val := by rw [BitVec.toNat_ofNat]; omega
    rw [Cert.Chain.chain_eq _ _ _ (by norm_num), h, if_pos r.isLt]
  rw [← e]
  unfold_out out0_2
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  rfl

/-- The reference's row for a bucket is that bucket's sum. -/
theorem plain_at (x : Vec Ideal S24x128x256 .f32) (b : Vec Ideal S3x128x256 .i32) (h : Fin 24) (r : Fin 32) (l : Fin 128) :
    val_main_v20 (F := Ideal) x b (ix3 h r l) = part (fun p q => x (ix3 h p q)) (fun p q => b (ix3 ⟨h.val / 8, by omega⟩ p q)) r.val := by
  unfold part
  pointwise [val_main_cst, val_main_v0, val_main_v1, val_main_v2, val_main_v3, val_main_v4, val_main_v5, val_main_v6, val_main_v7, val_main_v8, val_main_v9, val_main_v10, val_main_v11, val_main_cst_0, val_main_call0_v0, val_main_call0_v1, val_main_call0_v2, val_main_v12_0, val_main_call0_cst, val_main_v12_1, val_main_cst_1, val_main_v13, val_main_v14, val_main_call1_cst, val_main_call1_v0, val_main_call1_v1, val_main_call1_cst_0, val_main_call1_v2, val_main_v15, val_main_cst_2, val_main_v16, val_main_v17, val_main_v18, val_main_v19, val_main_v20]
  simp only [Finset.univ_unique, Finset.sum_singleton]

/-- A point's block of the scores' gradient is one head of it. -/
theorem row0 (c : Dev nD) (t : Fin cfg0.N) :
    (fun p q => (show FVec Ideal S1x128x256 .f32 from iblk m c 0 t) (ix3 0 p q)) = fun p q => (m ((c : Thread nD τ).loc main_arg0)) (ix3 ⟨t.val, t.isLt⟩ p q) := by
  funext p q
  blk_point [iblk, V, idx t]

/-- A point's block of buckets is the map of its group of heads. -/
theorem row1 (c : Dev nD) (t : Fin cfg0.N) :
    (fun p q => (show IVec S1x128x256 32 from iblk m c 1 t) (ix3 0 p q)) = fun p q => (m ((c : Thread nD τ).loc main_arg1)) (ix3 ⟨t.val / 8, by have := t.isLt; change t.val < 24 at this; omega⟩ p q) := by
  funext p q
  blk_point [iblk, V, idx t]

/-- The gradient of the table of relative biases. -/
theorem final (c : Dev nD) : (dats m 0 c).arrAt 2 (cfgs 0).N
    = val_main_v20 (F := Ideal) (m ((c : Thread nD τ).loc main_arg0)) (m ((c : Thread nD τ).loc main_arg1)) := by
  refine (dats m 0 c).arrAt_eq_of_covers 2 _ (by decide +kernel) fun t hf y => ?_
  have hN : t.val < 24 := t.isLt
  blk_simp
  rw [after0_2]
  idx_vars y
  have e : out0_2 (F := Ideal) (show FVec Ideal S1x128x256 .f32 from iblk m c 0 t) (show IVec S1x128x256 32 from iblk m c 1 t) (ix3 y0 y1 y2) = val_main_v20 (F := Ideal) (m ((c : Thread nD τ).loc main_arg0)) (m ((c : Thread nD τ).loc main_arg1)) (ix3 ⟨t.val, t.isLt⟩ y1 y2) := by
    rw [plain_at, kernel_at, row0 m c t, row1 m c t]
  refine e.trans ?_
  blk_ext [idx t]

end Cert.BiasReduceIdeal.Value

namespace Cert.BiasReducePlainIdeal
open Idealize.ShloMosaic Idealize.ShloMosaic.TcCoe Idealize.SL.Sem

/-- The reference stops, its arguments untouched. -/
theorem runs : Cert.quiescent_BiasReducePlainIdeal (hBiasReducePlainIdeal := Cert.BiasReducePlainIdeal.Gen.facts) := by
  intro m g _
  hlo_run
  · exact fun _ => ⟨trivial, trivial⟩
  · exact sem_eq_zero_of_no_sems (sig := Cert.BiasReducePlainIdeal.sig) (by decide) _

/-- Kernel and reference leave the same values. -/
theorem same_values : Cert.algebraic_BiasReduceIdeal_BiasReducePlainIdeal (hBiasReduceIdeal := Cert.BiasReduceIdeal.Gen.facts) (hBiasReducePlainIdeal := Cert.BiasReducePlainIdeal.Gen.facts) := by
  pair_intro
  · run_from Cert.BiasReduceIdeal.Gen.run_main m g
  · refine Idealize.ShloMosaic.θ_run_mono (Cert.BiasReducePlainIdeal.Value.run m' g') ?_
    intro r hr c
    obtain ⟨h0, ha⟩ := hr c
    obtain ⟨a0, a1⟩ := hagree c
    have e0 := h0.trans (Cert.BiasReducePlainIdeal.Read.val_main_v20_eq (F := Ideal) _ _)
    rw [a0, a1] at e0
    exact ⟨e0.trans ((Cert.BiasReduceIdeal.Value.final m c).symm), ha⟩

end Cert.BiasReducePlainIdeal
-- ==== Proof.Pairs.BiasExpand.lean ====
module

public import proofs.«01_k».proof.Defs
public import proofs.«01_k».proof.Proof.Gen.BiasExpand
public import proofs.«01_k».proof.Proof.Gen.BiasExpand.Frame
public import proofs.«01_k».proof.Proof.Gen.BiasExpandIdeal.Value
public import proofs.«01_k».proof.Proof.Gen.BiasExpandPlainIdeal.Run
public import proofs.«01_k».proof.Proof.Gen.BiasExpandPlainIdeal.Read
public import Idealize.ShloMosaic.Lib.Pipeline.ValueKit
public import Idealize.ShloMosaic.Lib.Pipeline.ReadBack
public import Idealize.ShloMosaic.Lib.Claim
public import proofs.«01_k».proof.Proof.Pairs.BiasReduce

@[expose] public section
set_option maxRecDepth 16384
noncomputable section
namespace Cert.BiasExpandIdeal.Value
open Idealize.ShloMosaic Idealize.ShloMosaic.TcCoe Idealize.SL.Sem
open Idealize.ShloMosaic.Pipeline (Dat)
open Cert.BiasExpandIdeal Cert.BiasExpandIdeal.Gen Cert.BiasExpandPlainIdeal.Read

variable (m : (ℓ : Loc nD τ sig) → Buf (Elt Ideal) ℓ)

/-- Where each window's block sits at a point of the grid. -/
theorem idx : ∀ t : Fin cfg0.N, win0_0.index t = ![0, 0] ∧ win0_1.index t = ![t.val / 8, 0, 0] ∧ win0_2.index t = ![t.val, 0, 0] :=
  (by decide +kernel : ∀ t : Fin grid0.N, _)

/-- Where each point reads the table: the bucket's row, the head's column. -/
theorem offs : ∀ t : Fin cfg0.N, k0_off1 (grid0.coords t) 0 = 0 ∧ k0_off1 (grid0.coords t) 1 = t.val ∧ k0_off2 (grid0.coords t) 0 = 1 ∧ k0_off2 (grid0.coords t) 1 = t.val ∧ k0_off3 (grid0.coords t) 0 = 2 ∧ k0_off3 (grid0.coords t) 1 = t.val ∧ k0_off4 (grid0.coords t) 0 = 3 ∧ k0_off4 (grid0.coords t) 1 = t.val ∧ k0_off5 (grid0.coords t) 0 = 4 ∧ k0_off5 (grid0.coords t) 1 = t.val ∧ k0_off6 (grid0.coords t) 0 = 5 ∧ k0_off6 (grid0.coords t) 1 = t.val ∧ k0_off7 (grid0.coords t) 0 = 6 ∧ k0_off7 (grid0.coords t) 1 = t.val ∧ k0_off8 (grid0.coords t) 0 = 7 ∧ k0_off8 (grid0.coords t) 1 = t.val ∧ k0_off9 (grid0.coords t) 0 = 8 ∧ k0_off9 (grid0.coords t) 1 = t.val ∧ k0_off10 (grid0.coords t) 0 = 9 ∧ k0_off10 (grid0.coords t) 1 = t.val ∧ k0_off11 (grid0.coords t) 0 = 10 ∧ k0_off11 (grid0.coords t) 1 = t.val ∧ k0_off12 (grid0.coords t) 0 = 11 ∧ k0_off12 (grid0.coords t) 1 = t.val ∧ k0_off13 (grid0.coords t) 0 = 12 ∧ k0_off13 (grid0.coords t) 1 = t.val ∧ k0_off14 (grid0.coords t) 0 = 13 ∧ k0_off14 (grid0.coords t) 1 = t.val ∧ k0_off15 (grid0.coords t) 0 = 14 ∧ k0_off15 (grid0.coords t) 1 = t.val ∧ k0_off16 (grid0.coords t) 0 = 15 ∧ k0_off16 (grid0.coords t) 1 = t.val ∧ k0_off17 (grid0.coords t) 0 = 16 ∧ k0_off17 (grid0.coords t) 1 = t.val ∧ k0_off18 (grid0.coords t) 0 = 17 ∧ k0_off18 (grid0.coords t) 1 = t.val ∧ k0_off19 (grid0.coords t) 0 = 18 ∧ k0_off19 (grid0.coords t) 1 = t.val ∧ k0_off20 (grid0.coords t) 0 = 19 ∧ k0_off20 (grid0.coords t) 1 = t.val ∧ k0_off21 (grid0.coords t) 0 = 20 ∧ k0_off21 (grid0.coords t) 1 = t.val ∧ k0_off22 (grid0.coords t) 0 = 21 ∧ k0_off22 (grid0.coords t) 1 = t.val ∧ k0_off23 (grid0.coords t) 0 = 22 ∧ k0_off23 (grid0.coords t) 1 = t.val ∧ k0_off24 (grid0.coords t) 0 = 23 ∧ k0_off24 (grid0.coords t) 1 = t.val ∧ k0_off25 (grid0.coords t) 0 = 24 ∧ k0_off25 (grid0.coords t) 1 = t.val ∧ k0_off26 (grid0.coords t) 0 = 25 ∧ k0_off26 (grid0.coords t) 1 = t.val ∧ k0_off27 (grid0.coords t) 0 = 26 ∧ k0_off27 (grid0.coords t) 1 = t.val ∧ k0_off28 (grid0.coords t) 0 = 27 ∧ k0_off28 (grid0.coords t) 1 = t.val ∧ k0_off29 (grid0.coords t) 0 = 28 ∧ k0_off29 (grid0.coords t) 1 = t.val ∧ k0_off30 (grid0.coords t) 0 = 29 ∧ k0_off30 (grid0.coords t) 1 = t.val ∧ k0_off31 (grid0.coords t) 0 = 30 ∧ k0_off31 (grid0.coords t) 1 = t.val ∧ k0_off32 (grid0.coords t) 0 = 31 ∧ k0_off32 (grid0.coords t) 1 = t.val :=
  (by decide +kernel : ∀ t : Fin grid0.N, _)

/-- Whether a query of a block sees a key of the band. -/
def keep (p : Fin 128) (q : Fin 256) : BitVec 1 :=
  IntOp.andi (IntOp.cmpi CmpIPredicate.sge (IntOp.subi (IntOp.addi (BitVec.ofNat 32 p.val) 128#32) (BitVec.ofNat 32 q.val)) 0#32)
    (IntOp.cmpi CmpIPredicate.sle (IntOp.subi (IntOp.addi (BitVec.ofNat 32 p.val) 128#32) (BitVec.ofNat 32 q.val)) 128#32)

/-- The kernel's block: for each pair the entry its bucket names, where the query sees the key. -/
theorem kernel_at (c : Dev nD) (t : Fin cfg0.N) (i : Fin 1) (p : Fin 128) (q : Fin 256) :
    (outsAt0 m c t) (ix3 i p q) = Scalar.select (keep p q)
      (Cert.Chain.chain ((show IVec S1x128x256 32 from iblk m c 1 t) (ix3 0 p q)) (fun k => (show FVec Ideal S32x24 .f32 from iblk m c 0 t) (ix2 (Fin.ofNat 32 k) ⟨t.val, t.isLt⟩)) 32) (Ideal.ofBits .f32 0xF149F2CA#32) := by
  unfold outsAt0
  frame_out
  pointwise [k0_pay1, k0_pay2, k0_pay3, k0_pay4, k0_pay5, k0_pay6, k0_pay7, k0_pay8]
  simp only [offs t]
  rfl

/-- The reference's value for each pair. -/
theorem plain_at (x : Vec Ideal S32x24 .f32) (b : Vec Ideal S3x128x256 .i32) (h : Fin 24) (p : Fin 128) (q : Fin 256) :
    val_main_v27 (F := Ideal) x b (ix3 h p q) = Scalar.select (keep p q)
      (∑ k : Fin 32, Scalar.select (IntOp.cmpi CmpIPredicate.eq (b (ix3 ⟨h.val / 8, by omega⟩ p q)) (BitVec.ofNat 32 k.val)) (x (ix2 k h)) 0) (Ideal.ofBits .f32 0xF149F2CA#32) := by
  pointwise [val_main_v0, val_main_v1, val_main_c, val_main_v2, val_main_v3, val_main_v4, val_main_v5, val_main_v6, val_main_v7, val_main_v8, val_main_c_0, val_main_v9, val_main_v10, val_main_c_1, val_main_v11, val_main_v12, val_main_v13, val_main_v14, val_main_v15, val_main_v16, val_main_v17, val_main_v18, val_main_v19, val_main_v20, val_main_v21, val_main_v22, val_main_v23, val_main_v24, val_main_cst, val_main_call0_v0, val_main_call0_v1, val_main_call0_v2, val_main_v25, val_main_cst_2, val_main_v26, val_main_cst_3, val_main_call1_v0, val_main_call1_v1, val_main_call1_v2, val_main_v27]
  have z : id (constant (F := Ideal) Cert.BiasExpandPlainIdeal.S_ FTy.f32 0#32) ix0 = 0 := Ideal.ofBits_zero .f32
  rw [z]
  rfl

/-- Every point reads the whole table. -/
theorem row0 (c : Dev nD) (t : Fin cfg0.N) (k : Fin 32) (h : Fin 24) : (show FVec Ideal S32x24 .f32 from iblk m c 0 t) (ix2 k h) = (m ((c : Thread nD τ).loc main_arg0)) (ix2 k h) := by
  blk_point [iblk, V, idx t]

/-- A point's block of buckets is the map of its group of heads. -/
theorem row1 (c : Dev nD) (t : Fin cfg0.N) (p : Fin 128) (q : Fin 256) :
    (show IVec S1x128x256 32 from iblk m c 1 t) (ix3 0 p q) = (m ((c : Thread nD τ).loc main_arg1)) (ix3 ⟨t.val / 8, by have := t.isLt; change t.val < 24 at this; omega⟩ p q) := by
  blk_point [iblk, V, idx t]

/-- The relative biases of the pairs of a block. -/
theorem final (c : Dev nD) : (dats m 0 c).arrAt 2 (cfgs 0).N
    = val_main_v27 (F := Ideal) (m ((c : Thread nD τ).loc main_arg0)) (m ((c : Thread nD τ).loc main_arg1)) := by
  refine (dats m 0 c).arrAt_eq_of_covers 2 _ (by decide +kernel) fun t hf y => ?_
  have hN : t.val < 24 := t.isLt
  blk_simp
  rw [after0_2]
  idx_vars y
  have e : (outsAt0 m c t) (ix3 y0 y1 y2) = val_main_v27 (F := Ideal) (m ((c : Thread nD τ).loc main_arg0)) (m ((c : Thread nD τ).loc main_arg1)) (ix3 ⟨t.val, t.isLt⟩ y1 y2) := by
    rw [plain_at, kernel_at, Cert.Chain.chain_sum _ _ _ (by norm_num), row1 m c t]
    refine congrArg (fun a : EReal => Scalar.select (keep y1 y2) a _) (Finset.sum_congr rfl fun k _ => ?_)
    have ek : Fin.ofNat 32 k.val = k := Fin.ext (Nat.mod_eq_of_lt k.isLt)
    rw [row0 m c t, ek]
  refine e.trans ?_
  blk_ext [idx t]

end Cert.BiasExpandIdeal.Value

namespace Cert.BiasExpandPlainIdeal
open Idealize.ShloMosaic Idealize.ShloMosaic.TcCoe Idealize.SL.Sem

/-- The reference stops, its arguments untouched. -/
theorem runs : Cert.quiescent_BiasExpandPlainIdeal (hBiasExpandPlainIdeal := Cert.BiasExpandPlainIdeal.Gen.facts) := by
  intro m g _
  hlo_run
  · exact fun _ => ⟨trivial, trivial⟩
  · exact sem_eq_zero_of_no_sems (sig := Cert.BiasExpandPlainIdeal.sig) (by decide) _

/-- Kernel and reference leave the same values. -/
theorem same_values : Cert.algebraic_BiasExpandIdeal_BiasExpandPlainIdeal (hBiasExpandIdeal := Cert.BiasExpandIdeal.Gen.facts) (hBiasExpandPlainIdeal := Cert.BiasExpandPlainIdeal.Gen.facts) := by
  pair_intro
  · run_from Cert.BiasExpandIdeal.Gen.run_main m g
  · refine Idealize.ShloMosaic.θ_run_mono (Cert.BiasExpandPlainIdeal.Value.run m' g') ?_
    intro r hr c
    obtain ⟨h0, ha⟩ := hr c
    obtain ⟨a0, a1⟩ := hagree c
    have e0 := h0.trans (Cert.BiasExpandPlainIdeal.Read.val_main_v27_eq (F := Ideal) _ _)
    rw [a0, a1] at e0
    exact ⟨e0.trans ((Cert.BiasExpandIdeal.Value.final m c).symm), ha⟩

end Cert.BiasExpandPlainIdeal
-- ==== Proof.lean ====
/- The proof of the claims: each call leaves the values of its plain reference, and every program stops. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.DownDx
public import proofs.«01_k».proof.Proof.Gen.DownDxIdeal
public import proofs.«01_k».proof.Proof.Gen.DownDxPlainIdeal
public import proofs.«01_k».proof.Proof.Gen.DownDw
public import proofs.«01_k».proof.Proof.Gen.DownDwIdeal
public import proofs.«01_k».proof.Proof.Gen.DownDwPlainIdeal
public import proofs.«01_k».proof.Proof.Gen.UpDx
public import proofs.«01_k».proof.Proof.Gen.UpDxIdeal
public import proofs.«01_k».proof.Proof.Gen.UpDxPlainIdeal
public import proofs.«01_k».proof.Proof.Gen.UpDw
public import proofs.«01_k».proof.Proof.Gen.UpDwIdeal
public import proofs.«01_k».proof.Proof.Gen.UpDwPlainIdeal
public import proofs.«01_k».proof.Proof.Gen.OutDx
public import proofs.«01_k».proof.Proof.Gen.OutDxIdeal
public import proofs.«01_k».proof.Proof.Gen.OutDxPlainIdeal
public import proofs.«01_k».proof.Proof.Gen.OutDw
public import proofs.«01_k».proof.Proof.Gen.OutDwIdeal
public import proofs.«01_k».proof.Proof.Gen.OutDwPlainIdeal
public import proofs.«01_k».proof.Proof.Gen.ScDx
public import proofs.«01_k».proof.Proof.Gen.ScDxIdeal
public import proofs.«01_k».proof.Proof.Gen.ScDxPlainIdeal
public import proofs.«01_k».proof.Proof.Gen.ProjConv
public import proofs.«01_k».proof.Proof.Gen.ProjConvIdeal
public import proofs.«01_k».proof.Proof.Gen.ProjConvPlainIdeal
public import proofs.«01_k».proof.Proof.Gen.ProjK
public import proofs.«01_k».proof.Proof.Gen.ProjKIdeal
public import proofs.«01_k».proof.Proof.Gen.ProjKPlainIdeal
public import proofs.«01_k».proof.Proof.Gen.ProjV
public import proofs.«01_k».proof.Proof.Gen.ProjVIdeal
public import proofs.«01_k».proof.Proof.Gen.ProjVPlainIdeal
public import proofs.«01_k».proof.Proof.Gen.OutNorm
public import proofs.«01_k».proof.Proof.Gen.OutNormIdeal
public import proofs.«01_k».proof.Proof.Gen.OutNormPlainIdeal
public import proofs.«01_k».proof.Proof.Gen.Up
public import proofs.«01_k».proof.Proof.Gen.UpIdeal
public import proofs.«01_k».proof.Proof.Gen.UpPlainIdeal
public import proofs.«01_k».proof.Proof.Gen.DownNorm
public import proofs.«01_k».proof.Proof.Gen.DownNormIdeal
public import proofs.«01_k».proof.Proof.Gen.DownNormPlainIdeal
public import proofs.«01_k».proof.Proof.Gen.Down
public import proofs.«01_k».proof.Proof.Gen.DownIdeal
public import proofs.«01_k».proof.Proof.Gen.DownPlainIdeal
public import proofs.«01_k».proof.Proof.Gen.ProjSc
public import proofs.«01_k».proof.Proof.Gen.ProjScIdeal
public import proofs.«01_k».proof.Proof.Gen.ProjScPlainIdeal
public import proofs.«01_k».proof.Proof.Gen.RmsBwd
public import proofs.«01_k».proof.Proof.Gen.RmsBwdIdeal
public import proofs.«01_k».proof.Proof.Gen.RmsBwdPlainIdeal
public import proofs.«01_k».proof.Proof.Gen.Step0
public import proofs.«01_k».proof.Proof.Gen.Step0Ideal
public import proofs.«01_k».proof.Proof.Gen.Step0PlainIdeal
public import proofs.«01_k».proof.Proof.Gen.Step1
public import proofs.«01_k».proof.Proof.Gen.Step1Ideal
public import proofs.«01_k».proof.Proof.Gen.Step1PlainIdeal
public import proofs.«01_k».proof.Proof.Gen.Step2
public import proofs.«01_k».proof.Proof.Gen.Step2Ideal
public import proofs.«01_k».proof.Proof.Gen.Step2PlainIdeal
public import proofs.«01_k».proof.Proof.Gen.Step3
public import proofs.«01_k».proof.Proof.Gen.Step3Ideal
public import proofs.«01_k».proof.Proof.Gen.Step3PlainIdeal
public import proofs.«01_k».proof.Proof.Gen.StepUp
public import proofs.«01_k».proof.Proof.Gen.StepUpIdeal
public import proofs.«01_k».proof.Proof.Gen.StepUpPlainIdeal
public import proofs.«01_k».proof.Proof.Gen.StepDown
public import proofs.«01_k».proof.Proof.Gen.StepDownIdeal
public import proofs.«01_k».proof.Proof.Gen.StepDownPlainIdeal
public import proofs.«01_k».proof.Proof.Gen.StepSmall
public import proofs.«01_k».proof.Proof.Gen.StepSmallIdeal
public import proofs.«01_k».proof.Proof.Gen.StepSmallPlainIdeal
public import proofs.«01_k».proof.Proof.Gen.ShortFwd
public import proofs.«01_k».proof.Proof.Gen.ShortFwdIdeal
public import proofs.«01_k».proof.Proof.Gen.ShortFwdPlainIdeal
public import proofs.«01_k».proof.Proof.Gen.LossHead
public import proofs.«01_k».proof.Proof.Gen.LossHeadIdeal
public import proofs.«01_k».proof.Proof.Gen.LossHeadPlainIdeal
public import proofs.«01_k».proof.Proof.Gen.SumTop
public import proofs.«01_k».proof.Proof.Gen.SumTopIdeal
public import proofs.«01_k».proof.Proof.Gen.SumTopPlainIdeal
public import proofs.«01_k».proof.Proof.Gen.SumBottom
public import proofs.«01_k».proof.Proof.Gen.SumBottomIdeal
public import proofs.«01_k».proof.Proof.Gen.SumBottomPlainIdeal
public import proofs.«01_k».proof.Proof.Gen.SumRows
public import proofs.«01_k».proof.Proof.Gen.SumRowsIdeal
public import proofs.«01_k».proof.Proof.Gen.SumRowsPlainIdeal
public import proofs.«01_k».proof.Proof.Gen.SumCols
public import proofs.«01_k».proof.Proof.Gen.SumColsIdeal
public import proofs.«01_k».proof.Proof.Gen.SumColsPlainIdeal
public import proofs.«01_k».proof.Proof.Gen.SumSquare
public import proofs.«01_k».proof.Proof.Gen.SumSquareIdeal
public import proofs.«01_k».proof.Proof.Gen.SumSquarePlainIdeal
public import proofs.«01_k».proof.Proof.Gen.BiasReduce
public import proofs.«01_k».proof.Proof.Gen.BiasReduceIdeal
public import proofs.«01_k».proof.Proof.Gen.BiasReducePlainIdeal
public import proofs.«01_k».proof.Proof.Gen.BiasExpand
public import proofs.«01_k».proof.Proof.Gen.BiasExpandIdeal
public import proofs.«01_k».proof.Proof.Gen.BiasExpandPlainIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Plain
public import proofs.«01_k».proof.Proof.Gen.DownDx.Frame
public import proofs.«01_k».proof.Proof.Gen.DownDxIdeal.Frame
public import proofs.«01_k».proof.Proof.Gen.DownDw.Frame
public import proofs.«01_k».proof.Proof.Gen.DownDwIdeal.Frame
public import proofs.«01_k».proof.Proof.Gen.UpDx.Frame
public import proofs.«01_k».proof.Proof.Gen.UpDxIdeal.Frame
public import proofs.«01_k».proof.Proof.Gen.UpDw.Frame
public import proofs.«01_k».proof.Proof.Gen.UpDwIdeal.Frame
public import proofs.«01_k».proof.Proof.Gen.OutDx.Frame
public import proofs.«01_k».proof.Proof.Gen.OutDxIdeal.Frame
public import proofs.«01_k».proof.Proof.Gen.OutDw.Frame
public import proofs.«01_k».proof.Proof.Gen.OutDwIdeal.Frame
public import proofs.«01_k».proof.Proof.Gen.ScDx.Frame
public import proofs.«01_k».proof.Proof.Gen.ScDxIdeal.Frame
public import proofs.«01_k».proof.Proof.Gen.ProjConv.Frame
public import proofs.«01_k».proof.Proof.Gen.ProjConvIdeal.Frame
public import proofs.«01_k».proof.Proof.Gen.ProjK.Frame
public import proofs.«01_k».proof.Proof.Gen.ProjKIdeal.Frame
public import proofs.«01_k».proof.Proof.Gen.ProjV.Frame
public import proofs.«01_k».proof.Proof.Gen.ProjVIdeal.Frame
public import proofs.«01_k».proof.Proof.Gen.OutNorm.Frame
public import proofs.«01_k».proof.Proof.Gen.OutNormIdeal.Frame
public import proofs.«01_k».proof.Proof.Gen.Up.Frame
public import proofs.«01_k».proof.Proof.Gen.UpIdeal.Frame
public import proofs.«01_k».proof.Proof.Gen.DownNorm.Frame
public import proofs.«01_k».proof.Proof.Gen.DownNormIdeal.Frame
public import proofs.«01_k».proof.Proof.Gen.Down.Frame
public import proofs.«01_k».proof.Proof.Gen.DownIdeal.Frame
public import proofs.«01_k».proof.Proof.Gen.ProjSc.Frame
public import proofs.«01_k».proof.Proof.Gen.ProjScIdeal.Frame
public import proofs.«01_k».proof.Proof.Gen.RmsBwd.Frame
public import proofs.«01_k».proof.Proof.Gen.RmsBwdIdeal.Frame
public import proofs.«01_k».proof.Proof.Gen.Step0.Frame
public import proofs.«01_k».proof.Proof.Gen.Step0Ideal.Frame
public import proofs.«01_k».proof.Proof.Gen.Step1.Frame
public import proofs.«01_k».proof.Proof.Gen.Step1Ideal.Frame
public import proofs.«01_k».proof.Proof.Gen.Step2.Frame
public import proofs.«01_k».proof.Proof.Gen.Step2Ideal.Frame
public import proofs.«01_k».proof.Proof.Gen.Step3.Frame
public import proofs.«01_k».proof.Proof.Gen.Step3Ideal.Frame
public import proofs.«01_k».proof.Proof.Gen.StepUp.Frame
public import proofs.«01_k».proof.Proof.Gen.StepUpIdeal.Frame
public import proofs.«01_k».proof.Proof.Gen.StepDown.Frame
public import proofs.«01_k».proof.Proof.Gen.StepDownIdeal.Frame
public import proofs.«01_k».proof.Proof.Gen.StepSmall.Frame
public import proofs.«01_k».proof.Proof.Gen.StepSmallIdeal.Frame
public import proofs.«01_k».proof.Proof.Gen.ShortFwd.Frame
public import proofs.«01_k».proof.Proof.Gen.ShortFwdIdeal.Frame
public import proofs.«01_k».proof.Proof.Gen.LossHead.Frame
public import proofs.«01_k».proof.Proof.Gen.LossHeadIdeal.Frame
public import proofs.«01_k».proof.Proof.Gen.SumTop.Frame
public import proofs.«01_k».proof.Proof.Gen.SumTopIdeal.Frame
public import proofs.«01_k».proof.Proof.Gen.SumBottom.Frame
public import proofs.«01_k».proof.Proof.Gen.SumBottomIdeal.Frame
public import proofs.«01_k».proof.Proof.Gen.SumRows.Frame
public import proofs.«01_k».proof.Proof.Gen.SumRowsIdeal.Frame
public import proofs.«01_k».proof.Proof.Gen.SumCols.Frame
public import proofs.«01_k».proof.Proof.Gen.SumColsIdeal.Frame
public import proofs.«01_k».proof.Proof.Gen.SumSquare.Frame
public import proofs.«01_k».proof.Proof.Gen.SumSquareIdeal.Frame
public import proofs.«01_k».proof.Proof.Gen.BiasReduce.Frame
public import proofs.«01_k».proof.Proof.Gen.BiasReduceIdeal.Frame
public import proofs.«01_k».proof.Proof.Gen.BiasExpand.Frame
public import proofs.«01_k».proof.Proof.Gen.BiasExpandIdeal.Frame
public import proofs.«01_k».proof.Proof.Gen.DownDxIdeal.Value
public import proofs.«01_k».proof.Proof.Gen.DownDwIdeal.Value
public import proofs.«01_k».proof.Proof.Gen.UpDxIdeal.Value
public import proofs.«01_k».proof.Proof.Gen.UpDwIdeal.Value
public import proofs.«01_k».proof.Proof.Gen.OutDxIdeal.Value
public import proofs.«01_k».proof.Proof.Gen.OutDwIdeal.Value
public import proofs.«01_k».proof.Proof.Gen.ScDxIdeal.Value
public import proofs.«01_k».proof.Proof.Gen.ProjConvIdeal.Value
public import proofs.«01_k».proof.Proof.Gen.ProjKIdeal.Value
public import proofs.«01_k».proof.Proof.Gen.ProjVIdeal.Value
public import proofs.«01_k».proof.Proof.Gen.OutNormIdeal.Value
public import proofs.«01_k».proof.Proof.Gen.UpIdeal.Value
public import proofs.«01_k».proof.Proof.Gen.DownNormIdeal.Value
public import proofs.«01_k».proof.Proof.Gen.DownIdeal.Value
public import proofs.«01_k».proof.Proof.Gen.ProjScIdeal.Value
public import proofs.«01_k».proof.Proof.Gen.RmsBwdIdeal.Value
public import proofs.«01_k».proof.Proof.Gen.Step0Ideal.Value
public import proofs.«01_k».proof.Proof.Gen.Step1Ideal.Value
public import proofs.«01_k».proof.Proof.Gen.Step2Ideal.Value
public import proofs.«01_k».proof.Proof.Gen.Step3Ideal.Value
public import proofs.«01_k».proof.Proof.Gen.StepUpIdeal.Value
public import proofs.«01_k».proof.Proof.Gen.StepDownIdeal.Value
public import proofs.«01_k».proof.Proof.Gen.ShortFwdIdeal.Value
public import proofs.«01_k».proof.Proof.Gen.LossHeadIdeal.Value
public import proofs.«01_k».proof.Proof.Gen.SumTopIdeal.Value
public import proofs.«01_k».proof.Proof.Gen.SumBottomIdeal.Value
public import proofs.«01_k».proof.Proof.Gen.SumRowsIdeal.Value
public import proofs.«01_k».proof.Proof.Gen.SumColsIdeal.Value
public import proofs.«01_k».proof.Proof.Gen.SumSquareIdeal.Value
public import proofs.«01_k».proof.Proof.Gen.BiasReduceIdeal.Value
public import proofs.«01_k».proof.Proof.Gen.BiasExpandIdeal.Value
public import proofs.«01_k».proof.Proof.Gen.DownDxPlainIdeal.Run
public import proofs.«01_k».proof.Proof.Gen.DownDxPlainIdeal.Read
public import proofs.«01_k».proof.Proof.Gen.DownDwPlainIdeal.Run
public import proofs.«01_k».proof.Proof.Gen.DownDwPlainIdeal.Read
public import proofs.«01_k».proof.Proof.Gen.UpDxPlainIdeal.Run
public import proofs.«01_k».proof.Proof.Gen.UpDxPlainIdeal.Read
public import proofs.«01_k».proof.Proof.Gen.UpDwPlainIdeal.Run
public import proofs.«01_k».proof.Proof.Gen.UpDwPlainIdeal.Read
public import proofs.«01_k».proof.Proof.Gen.OutDxPlainIdeal.Run
public import proofs.«01_k».proof.Proof.Gen.OutDxPlainIdeal.Read
public import proofs.«01_k».proof.Proof.Gen.OutDwPlainIdeal.Run
public import proofs.«01_k».proof.Proof.Gen.OutDwPlainIdeal.Read
public import proofs.«01_k».proof.Proof.Gen.ScDxPlainIdeal.Run
public import proofs.«01_k».proof.Proof.Gen.ScDxPlainIdeal.Read
public import proofs.«01_k».proof.Proof.Gen.ProjConvPlainIdeal.Run
public import proofs.«01_k».proof.Proof.Gen.ProjConvPlainIdeal.Read
public import proofs.«01_k».proof.Proof.Gen.ProjKPlainIdeal.Run
public import proofs.«01_k».proof.Proof.Gen.ProjKPlainIdeal.Read
public import proofs.«01_k».proof.Proof.Gen.ProjVPlainIdeal.Run
public import proofs.«01_k».proof.Proof.Gen.ProjVPlainIdeal.Read
public import proofs.«01_k».proof.Proof.Gen.OutNormPlainIdeal.Run
public import proofs.«01_k».proof.Proof.Gen.OutNormPlainIdeal.Read
public import proofs.«01_k».proof.Proof.Gen.UpPlainIdeal.Run
public import proofs.«01_k».proof.Proof.Gen.UpPlainIdeal.Read
public import proofs.«01_k».proof.Proof.Gen.DownNormPlainIdeal.Run
public import proofs.«01_k».proof.Proof.Gen.DownNormPlainIdeal.Read
public import proofs.«01_k».proof.Proof.Gen.DownPlainIdeal.Run
public import proofs.«01_k».proof.Proof.Gen.DownPlainIdeal.Read
public import proofs.«01_k».proof.Proof.Gen.ProjScPlainIdeal.Run
public import proofs.«01_k».proof.Proof.Gen.ProjScPlainIdeal.Read
public import proofs.«01_k».proof.Proof.Gen.RmsBwdPlainIdeal.Run
public import proofs.«01_k».proof.Proof.Gen.RmsBwdPlainIdeal.Read
public import proofs.«01_k».proof.Proof.Gen.Step0PlainIdeal.Run
public import proofs.«01_k».proof.Proof.Gen.Step0PlainIdeal.Read
public import proofs.«01_k».proof.Proof.Gen.Step1PlainIdeal.Run
public import proofs.«01_k».proof.Proof.Gen.Step1PlainIdeal.Read
public import proofs.«01_k».proof.Proof.Gen.Step2PlainIdeal.Run
public import proofs.«01_k».proof.Proof.Gen.Step2PlainIdeal.Read
public import proofs.«01_k».proof.Proof.Gen.Step3PlainIdeal.Run
public import proofs.«01_k».proof.Proof.Gen.Step3PlainIdeal.Read
public import proofs.«01_k».proof.Proof.Gen.StepUpPlainIdeal.Run
public import proofs.«01_k».proof.Proof.Gen.StepUpPlainIdeal.Read
public import proofs.«01_k».proof.Proof.Gen.StepDownPlainIdeal.Run
public import proofs.«01_k».proof.Proof.Gen.StepDownPlainIdeal.Read
public import proofs.«01_k».proof.Proof.Gen.StepSmallPlainIdeal.Run
public import proofs.«01_k».proof.Proof.Gen.StepSmallPlainIdeal.Read
public import proofs.«01_k».proof.Proof.Gen.ShortFwdPlainIdeal.Run
public import proofs.«01_k».proof.Proof.Gen.ShortFwdPlainIdeal.Read
public import proofs.«01_k».proof.Proof.Gen.LossHeadPlainIdeal.Run
public import proofs.«01_k».proof.Proof.Gen.LossHeadPlainIdeal.Read
public import proofs.«01_k».proof.Proof.Gen.SumTopPlainIdeal.Run
public import proofs.«01_k».proof.Proof.Gen.SumTopPlainIdeal.Read
public import proofs.«01_k».proof.Proof.Gen.SumBottomPlainIdeal.Run
public import proofs.«01_k».proof.Proof.Gen.SumBottomPlainIdeal.Read
public import proofs.«01_k».proof.Proof.Gen.SumRowsPlainIdeal.Run
public import proofs.«01_k».proof.Proof.Gen.SumRowsPlainIdeal.Read
public import proofs.«01_k».proof.Proof.Gen.SumColsPlainIdeal.Run
public import proofs.«01_k».proof.Proof.Gen.SumColsPlainIdeal.Read
public import proofs.«01_k».proof.Proof.Gen.SumSquarePlainIdeal.Run
public import proofs.«01_k».proof.Proof.Gen.SumSquarePlainIdeal.Read
public import proofs.«01_k».proof.Proof.Gen.BiasReducePlainIdeal.Run
public import proofs.«01_k».proof.Proof.Gen.BiasReducePlainIdeal.Read
public import proofs.«01_k».proof.Proof.Gen.BiasExpandPlainIdeal.Run
public import proofs.«01_k».proof.Proof.Gen.BiasExpandPlainIdeal.Read
public import proofs.«01_k».proof.Proof.Pairs.DownDx
public import proofs.«01_k».proof.Proof.Pairs.DownDw
public import proofs.«01_k».proof.Proof.Pairs.UpDx
public import proofs.«01_k».proof.Proof.Pairs.UpDw
public import proofs.«01_k».proof.Proof.Pairs.OutDx
public import proofs.«01_k».proof.Proof.Pairs.OutDw
public import proofs.«01_k».proof.Proof.Pairs.ScDx
public import proofs.«01_k».proof.Proof.Pairs.ProjConv
public import proofs.«01_k».proof.Proof.Pairs.ProjK
public import proofs.«01_k».proof.Proof.Pairs.ProjV
public import proofs.«01_k».proof.Proof.Pairs.OutNorm
public import proofs.«01_k».proof.Proof.Pairs.Up
public import proofs.«01_k».proof.Proof.Pairs.DownNorm
public import proofs.«01_k».proof.Proof.Pairs.Down
public import proofs.«01_k».proof.Proof.Pairs.ProjSc
public import proofs.«01_k».proof.Proof.Pairs.RmsBwd
public import proofs.«01_k».proof.Proof.Pairs.Step0
public import proofs.«01_k».proof.Proof.Pairs.Step1
public import proofs.«01_k».proof.Proof.Pairs.Step2
public import proofs.«01_k».proof.Proof.Pairs.Step3
public import proofs.«01_k».proof.Proof.Pairs.StepUp
public import proofs.«01_k».proof.Proof.Pairs.StepDown
public import proofs.«01_k».proof.Proof.Pairs.StepSmall
public import proofs.«01_k».proof.Proof.Pairs.ShortFwd
public import proofs.«01_k».proof.Proof.Pairs.LossHead
public import proofs.«01_k».proof.Proof.Pairs.SumTop
public import proofs.«01_k».proof.Proof.Pairs.SumBottom
public import proofs.«01_k».proof.Proof.Pairs.SumRows
public import proofs.«01_k».proof.Proof.Pairs.SumCols
public import proofs.«01_k».proof.Proof.Pairs.SumSquare
public import proofs.«01_k».proof.Proof.Pairs.BiasReduce
public import proofs.«01_k».proof.Proof.Pairs.BiasExpand
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The plain gradient runs, keeps its arguments and leaves every counter at zero: it declares none. -/
theorem plain_runs : Cert.quiescent_ReferenceIdeal (hReferenceIdeal := Cert.ReferenceIdeal.Gen.facts) := by
  intro m g _
  hlo_run
  · exact fun _ => ⟨trivial, trivial, trivial⟩
  · exact sem_eq_zero_of_no_sems (sig := Cert.ReferenceIdeal.sig) (by decide) _

/-- The kernel's two results are the plain gradient's: both are the gradients written out row by row. -/
theorem same_values : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    · rw [Cert.KernelIdeal.ShortConv.final_rows]
      refine (Cert.ReferenceIdeal.Read.val_main_v69_eq m' _).trans ?_
      rw [(hagree _).1, (hagree _).2.1, (hagree _).2.2]
      funext i
      exact (congrArg _ (eq_ix2 i)).trans (Cert.ReferenceIdeal.ShortConv.rows_at _ _ _ (i 0) (i 1))
    · rw [Cert.KernelIdeal.ShortConv.final_taps]
      refine (Cert.ReferenceIdeal.Read.val_main_v70_eq _ _).trans ?_
      funext i
      exact (congrArg _ (eq_ix2 i)).trans (Cert.ReferenceIdeal.ShortConv.taps_at _ _ (i 0) (i 1))

/-- Every claim, pair after pair. -/
theorem claim : Cert.Claim :=
  ⟨Cert.Kernel.Gen.facts, Cert.KernelIdeal.Gen.facts, Cert.ReferenceIdeal.Gen.facts, Cert.DownDx.Gen.facts, Cert.DownDxIdeal.Gen.facts, Cert.DownDxPlainIdeal.Gen.facts, Cert.DownDw.Gen.facts, Cert.DownDwIdeal.Gen.facts, Cert.DownDwPlainIdeal.Gen.facts, Cert.UpDx.Gen.facts, Cert.UpDxIdeal.Gen.facts, Cert.UpDxPlainIdeal.Gen.facts, Cert.UpDw.Gen.facts, Cert.UpDwIdeal.Gen.facts, Cert.UpDwPlainIdeal.Gen.facts, Cert.OutDx.Gen.facts, Cert.OutDxIdeal.Gen.facts, Cert.OutDxPlainIdeal.Gen.facts, Cert.OutDw.Gen.facts, Cert.OutDwIdeal.Gen.facts, Cert.OutDwPlainIdeal.Gen.facts, Cert.ScDx.Gen.facts, Cert.ScDxIdeal.Gen.facts, Cert.ScDxPlainIdeal.Gen.facts, Cert.ProjConv.Gen.facts, Cert.ProjConvIdeal.Gen.facts, Cert.ProjConvPlainIdeal.Gen.facts, Cert.ProjK.Gen.facts, Cert.ProjKIdeal.Gen.facts, Cert.ProjKPlainIdeal.Gen.facts, Cert.ProjV.Gen.facts, Cert.ProjVIdeal.Gen.facts, Cert.ProjVPlainIdeal.Gen.facts, Cert.OutNorm.Gen.facts, Cert.OutNormIdeal.Gen.facts, Cert.OutNormPlainIdeal.Gen.facts, Cert.Up.Gen.facts, Cert.UpIdeal.Gen.facts, Cert.UpPlainIdeal.Gen.facts, Cert.DownNorm.Gen.facts, Cert.DownNormIdeal.Gen.facts, Cert.DownNormPlainIdeal.Gen.facts, Cert.Down.Gen.facts, Cert.DownIdeal.Gen.facts, Cert.DownPlainIdeal.Gen.facts, Cert.ProjSc.Gen.facts, Cert.ProjScIdeal.Gen.facts, Cert.ProjScPlainIdeal.Gen.facts, Cert.RmsBwd.Gen.facts, Cert.RmsBwdIdeal.Gen.facts, Cert.RmsBwdPlainIdeal.Gen.facts, Cert.Step0.Gen.facts, Cert.Step0Ideal.Gen.facts, Cert.Step0PlainIdeal.Gen.facts, Cert.Step1.Gen.facts, Cert.Step1Ideal.Gen.facts, Cert.Step1PlainIdeal.Gen.facts, Cert.Step2.Gen.facts, Cert.Step2Ideal.Gen.facts, Cert.Step2PlainIdeal.Gen.facts, Cert.Step3.Gen.facts, Cert.Step3Ideal.Gen.facts, Cert.Step3PlainIdeal.Gen.facts, Cert.StepUp.Gen.facts, Cert.StepUpIdeal.Gen.facts, Cert.StepUpPlainIdeal.Gen.facts, Cert.StepDown.Gen.facts, Cert.StepDownIdeal.Gen.facts, Cert.StepDownPlainIdeal.Gen.facts, Cert.StepSmall.Gen.facts, Cert.StepSmallIdeal.Gen.facts, Cert.StepSmallPlainIdeal.Gen.facts, Cert.ShortFwd.Gen.facts, Cert.ShortFwdIdeal.Gen.facts, Cert.ShortFwdPlainIdeal.Gen.facts, Cert.LossHead.Gen.facts, Cert.LossHeadIdeal.Gen.facts, Cert.LossHeadPlainIdeal.Gen.facts, Cert.SumTop.Gen.facts, Cert.SumTopIdeal.Gen.facts, Cert.SumTopPlainIdeal.Gen.facts, Cert.SumBottom.Gen.facts, Cert.SumBottomIdeal.Gen.facts, Cert.SumBottomPlainIdeal.Gen.facts, Cert.SumRows.Gen.facts, Cert.SumRowsIdeal.Gen.facts, Cert.SumRowsPlainIdeal.Gen.facts, Cert.SumCols.Gen.facts, Cert.SumColsIdeal.Gen.facts, Cert.SumColsPlainIdeal.Gen.facts, Cert.SumSquare.Gen.facts, Cert.SumSquareIdeal.Gen.facts, Cert.SumSquarePlainIdeal.Gen.facts, Cert.BiasReduce.Gen.facts, Cert.BiasReduceIdeal.Gen.facts, Cert.BiasReducePlainIdeal.Gen.facts, Cert.BiasExpand.Gen.facts, Cert.BiasExpandIdeal.Gen.facts, Cert.BiasExpandPlainIdeal.Gen.facts,
    fun m ρ _ => Cert.Kernel.Gen.frame m ρ,
    fun m ρ _ => Cert.KernelIdeal.Gen.frame m ρ,
    plain_runs,
    fun m ρ _ => Cert.DownDx.Gen.frame m ρ,
    fun m ρ _ => Cert.DownDxIdeal.Gen.frame m ρ,
    Cert.DownDxPlainIdeal.runs,
    fun m ρ _ => Cert.DownDw.Gen.frame m ρ,
    fun m ρ _ => Cert.DownDwIdeal.Gen.frame m ρ,
    Cert.DownDwPlainIdeal.runs,
    fun m ρ _ => Cert.UpDx.Gen.frame m ρ,
    fun m ρ _ => Cert.UpDxIdeal.Gen.frame m ρ,
    Cert.UpDxPlainIdeal.runs,
    fun m ρ _ => Cert.UpDw.Gen.frame m ρ,
    fun m ρ _ => Cert.UpDwIdeal.Gen.frame m ρ,
    Cert.UpDwPlainIdeal.runs,
    fun m ρ _ => Cert.OutDx.Gen.frame m ρ,
    fun m ρ _ => Cert.OutDxIdeal.Gen.frame m ρ,
    Cert.OutDxPlainIdeal.runs,
    fun m ρ _ => Cert.OutDw.Gen.frame m ρ,
    fun m ρ _ => Cert.OutDwIdeal.Gen.frame m ρ,
    Cert.OutDwPlainIdeal.runs,
    fun m ρ _ => Cert.ScDx.Gen.frame m ρ,
    fun m ρ _ => Cert.ScDxIdeal.Gen.frame m ρ,
    Cert.ScDxPlainIdeal.runs,
    fun m ρ _ => Cert.ProjConv.Gen.frame m ρ,
    fun m ρ _ => Cert.ProjConvIdeal.Gen.frame m ρ,
    Cert.ProjConvPlainIdeal.runs,
    fun m ρ _ => Cert.ProjK.Gen.frame m ρ,
    fun m ρ _ => Cert.ProjKIdeal.Gen.frame m ρ,
    Cert.ProjKPlainIdeal.runs,
    fun m ρ _ => Cert.ProjV.Gen.frame m ρ,
    fun m ρ _ => Cert.ProjVIdeal.Gen.frame m ρ,
    Cert.ProjVPlainIdeal.runs,
    fun m ρ _ => Cert.OutNorm.Gen.frame m ρ,
    fun m ρ _ => Cert.OutNormIdeal.Gen.frame m ρ,
    Cert.OutNormPlainIdeal.runs,
    fun m ρ _ => Cert.Up.Gen.frame m ρ,
    fun m ρ _ => Cert.UpIdeal.Gen.frame m ρ,
    Cert.UpPlainIdeal.runs,
    fun m ρ _ => Cert.DownNorm.Gen.frame m ρ,
    fun m ρ _ => Cert.DownNormIdeal.Gen.frame m ρ,
    Cert.DownNormPlainIdeal.runs,
    fun m ρ _ => Cert.Down.Gen.frame m ρ,
    fun m ρ _ => Cert.DownIdeal.Gen.frame m ρ,
    Cert.DownPlainIdeal.runs,
    fun m ρ _ => Cert.ProjSc.Gen.frame m ρ,
    fun m ρ _ => Cert.ProjScIdeal.Gen.frame m ρ,
    Cert.ProjScPlainIdeal.runs,
    fun m ρ _ => Cert.RmsBwd.Gen.frame m ρ,
    fun m ρ _ => Cert.RmsBwdIdeal.Gen.frame m ρ,
    Cert.RmsBwdPlainIdeal.runs,
    fun m ρ _ => Cert.Step0.Gen.frame m ρ,
    fun m ρ _ => Cert.Step0Ideal.Gen.frame m ρ,
    Cert.Step0PlainIdeal.runs,
    fun m ρ _ => Cert.Step1.Gen.frame m ρ,
    fun m ρ _ => Cert.Step1Ideal.Gen.frame m ρ,
    Cert.Step1PlainIdeal.runs,
    fun m ρ _ => Cert.Step2.Gen.frame m ρ,
    fun m ρ _ => Cert.Step2Ideal.Gen.frame m ρ,
    Cert.Step2PlainIdeal.runs,
    fun m ρ _ => Cert.Step3.Gen.frame m ρ,
    fun m ρ _ => Cert.Step3Ideal.Gen.frame m ρ,
    Cert.Step3PlainIdeal.runs,
    fun m ρ _ => Cert.StepUp.Gen.frame m ρ,
    fun m ρ _ => Cert.StepUpIdeal.Gen.frame m ρ,
    Cert.StepUpPlainIdeal.runs,
    fun m ρ _ => Cert.StepDown.Gen.frame m ρ,
    fun m ρ _ => Cert.StepDownIdeal.Gen.frame m ρ,
    Cert.StepDownPlainIdeal.runs,
    fun m ρ _ => Cert.StepSmall.Gen.frame m ρ,
    fun m ρ _ => Cert.StepSmallIdeal.Gen.frame m ρ,
    Cert.StepSmallPlainIdeal.runs,
    fun m ρ _ => Cert.ShortFwd.Gen.frame m ρ,
    fun m ρ _ => Cert.ShortFwdIdeal.Gen.frame m ρ,
    Cert.ShortFwdPlainIdeal.runs,
    fun m ρ _ => Cert.LossHead.Gen.frame m ρ,
    fun m ρ _ => Cert.LossHeadIdeal.Gen.frame m ρ,
    Cert.LossHeadPlainIdeal.runs,
    fun m ρ _ => Cert.SumTop.Gen.frame m ρ,
    fun m ρ _ => Cert.SumTopIdeal.Gen.frame m ρ,
    Cert.SumTopPlainIdeal.runs,
    fun m ρ _ => Cert.SumBottom.Gen.frame m ρ,
    fun m ρ _ => Cert.SumBottomIdeal.Gen.frame m ρ,
    Cert.SumBottomPlainIdeal.runs,
    fun m ρ _ => Cert.SumRows.Gen.frame m ρ,
    fun m ρ _ => Cert.SumRowsIdeal.Gen.frame m ρ,
    Cert.SumRowsPlainIdeal.runs,
    fun m ρ _ => Cert.SumCols.Gen.frame m ρ,
    fun m ρ _ => Cert.SumColsIdeal.Gen.frame m ρ,
    Cert.SumColsPlainIdeal.runs,
    fun m ρ _ => Cert.SumSquare.Gen.frame m ρ,
    fun m ρ _ => Cert.SumSquareIdeal.Gen.frame m ρ,
    Cert.SumSquarePlainIdeal.runs,
    fun m ρ _ => Cert.BiasReduce.Gen.frame m ρ,
    fun m ρ _ => Cert.BiasReduceIdeal.Gen.frame m ρ,
    Cert.BiasReducePlainIdeal.runs,
    fun m ρ _ => Cert.BiasExpand.Gen.frame m ρ,
    fun m ρ _ => Cert.BiasExpandIdeal.Gen.frame m ρ,
    Cert.BiasExpandPlainIdeal.runs,
    trivial,
    same_values,
    trivial,
    Cert.DownDxPlainIdeal.same_values,
    trivial,
    Cert.DownDwPlainIdeal.same_values,
    trivial,
    Cert.UpDxPlainIdeal.same_values,
    trivial,
    Cert.UpDwPlainIdeal.same_values,
    trivial,
    Cert.OutDxPlainIdeal.same_values,
    trivial,
    Cert.OutDwPlainIdeal.same_values,
    trivial,
    Cert.ScDxPlainIdeal.same_values,
    trivial,
    Cert.ProjConvPlainIdeal.same_values,
    trivial,
    Cert.ProjKPlainIdeal.same_values,
    trivial,
    Cert.ProjVPlainIdeal.same_values,
    trivial,
    Cert.OutNormPlainIdeal.same_values,
    trivial,
    Cert.UpPlainIdeal.same_values,
    trivial,
    Cert.DownNormPlainIdeal.same_values,
    trivial,
    Cert.DownPlainIdeal.same_values,
    trivial,
    Cert.ProjScPlainIdeal.same_values,
    trivial,
    Cert.RmsBwdPlainIdeal.same_values,
    trivial,
    Cert.Step0PlainIdeal.same_values,
    trivial,
    Cert.Step1PlainIdeal.same_values,
    trivial,
    Cert.Step2PlainIdeal.same_values,
    trivial,
    Cert.Step3PlainIdeal.same_values,
    trivial,
    Cert.StepUpPlainIdeal.same_values,
    trivial,
    Cert.StepDownPlainIdeal.same_values,
    trivial,
    Cert.StepSmallPlainIdeal.same_values,
    trivial,
    Cert.ShortFwdPlainIdeal.same_values,
    trivial,
    Cert.LossHeadPlainIdeal.same_values,
    trivial,
    Cert.SumTopPlainIdeal.same_values,
    trivial,
    Cert.SumBottomPlainIdeal.same_values,
    trivial,
    Cert.SumRowsPlainIdeal.same_values,
    trivial,
    Cert.SumColsPlainIdeal.same_values,
    trivial,
    Cert.SumSquarePlainIdeal.same_values,
    trivial,
    Cert.BiasReducePlainIdeal.same_values,
    trivial,
    Cert.BiasExpandPlainIdeal.same_values⟩

end Cert.Proof
